-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_but_r1 [hPre_finite_but_r1 : Cert.Pre_finite_but_r1.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_but_r1.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite_but_r1.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite_but_r1.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_finite_but_r1.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_but_r1 [hPre_finite_but_r1 : Cert.Pre_finite_but_r1.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_but_r1.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite_but_r1.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite_but_r1.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_finite_but_r1.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite_but_r2 [hPre_finite_but_r2 : Cert.Pre_finite_but_r2.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite_but_r2.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).1 = (fun _ => 1#1)
    ∧ (Cert.Pre_finite_but_r2.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.1 = (fun _ => 1#1)
    ∧ (Cert.Pre_finite_but_r2.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.2.1 = (fun _ => 1#1)
    ∧ (Cert.Pre_finite_but_r2.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.2.2 = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite_but_r2 [hPre_finite_but_r2 : Cert.Pre_finite_but_r2.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite_but_r2.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).1 = (fun _ => 1#1)
    ∧ (Cert.Pre_finite_but_r2.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.1 = (fun _ => 1#1)
    ∧ (Cert.Pre_finite_but_r2.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.2.1 = (fun _ => 1#1)
    ∧ (Cert.Pre_finite_but_r2.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.2.2 = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite_but_x [hPre_finite_but_x : Cert.Pre_finite_but_x.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite_but_x.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2))).1 = (fun _ => 1#1)
    ∧ (Cert.Pre_finite_but_x.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2))).2 = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite_but_x [hPre_finite_but_x : Cert.Pre_finite_but_x.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite_but_x.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2))).1 = (fun _ => 1#1)
    ∧ (Cert.Pre_finite_but_x.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2))).2 = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_finite_target [hPre_finite_target : Cert.Pre_finite_target.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_finite_target.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5))).1 = (fun _ => 1#1)
    ∧ (Cert.Pre_finite_target.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5))).2.1 = (fun _ => 1#1)
    ∧ (Cert.Pre_finite_target.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5))).2.2 = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_finite_target [hPre_finite_target : Cert.Pre_finite_target.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_finite_target.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5))).1 = (fun _ => 1#1)
    ∧ (Cert.Pre_finite_target.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5))).2.1 = (fun _ => 1#1)
    ∧ (Cert.Pre_finite_target.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5))).2.2 = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite_but_r1 [hKernel4Ideal : Cert.Kernel4Ideal.Facts] [hPre_finite_but_r1 : Cert.Pre_finite_but_r1.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_but_r1 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite_but_r1 [hReference4Ideal : Cert.Reference4Ideal.Facts] [hPre_finite_but_r1 : Cert.Pre_finite_but_r1.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_but_r1 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Kernel14Ideal_pre_finite_but_r2 [hKernel14Ideal : Cert.Kernel14Ideal.Facts] [hPre_finite_but_r2 : Cert.Pre_finite_but_r2.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite_but_r2 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Reference14Ideal_pre_finite_but_r2 [hReference14Ideal : Cert.Reference14Ideal.Facts] [hPre_finite_but_r2 : Cert.Pre_finite_but_r2.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite_but_r2 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Kernel15Ideal_pre_finite_but_x [hKernel15Ideal : Cert.Kernel15Ideal.Facts] [hPre_finite_but_x : Cert.Pre_finite_but_x.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite_but_x m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Reference15Ideal_pre_finite_but_x [hReference15Ideal : Cert.Reference15Ideal.Facts] [hPre_finite_but_x : Cert.Pre_finite_but_x.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite_but_x m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Kernel16Ideal_pre_finite_target [hKernel16Ideal : Cert.Kernel16Ideal.Facts] [hPre_finite_target : Cert.Pre_finite_target.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_finite_target m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Reference16Ideal_pre_finite_target [hReference16Ideal : Cert.Reference16Ideal.Facts] [hPre_finite_target : Cert.Pre_finite_target.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_finite_target m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6)
      ∧ r.2.mem ((c.tc : Thread Cert.Kernel18.nD Cert.Kernel18.τ).loc Cert.Kernel18.main_arg7) = m ((c.tc : Thread Cert.Kernel18.nD Cert.Kernel18.τ).loc Cert.Kernel18.main_arg7))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
      ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6)
      ∧ r.2.mem ((c.tc : Thread Cert.Reference18Ideal.nD Cert.Reference18Ideal.τ).loc Cert.Reference18Ideal.main_arg7) = m ((c.tc : Thread Cert.Reference18Ideal.nD Cert.Reference18Ideal.τ).loc Cert.Reference18Ideal.main_arg7))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6)
      ∧ r.2.mem ((c.tc : Thread Cert.Kernel19.nD Cert.Kernel19.τ).loc Cert.Kernel19.main_arg7) = m ((c.tc : Thread Cert.Kernel19.nD Cert.Kernel19.τ).loc Cert.Kernel19.main_arg7))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6)
      ∧ r.2.mem ((c.tc : Thread Cert.Kernel20.nD Cert.Kernel20.τ).loc Cert.Kernel20.main_arg7) = m ((c.tc : Thread Cert.Kernel20.nD Cert.Kernel20.τ).loc Cert.Kernel20.main_arg7))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
      ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6)
      ∧ r.2.mem ((c.tc : Thread Cert.Reference20Ideal.nD Cert.Reference20Ideal.τ).loc Cert.Reference20Ideal.main_arg7) = m ((c.tc : Thread Cert.Reference20Ideal.nD Cert.Reference20Ideal.τ).loc Cert.Reference20Ideal.main_arg7))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6)
      ∧ r.2.mem ((c.tc : Thread Cert.Kernel21.nD Cert.Kernel21.τ).loc Cert.Kernel21.main_arg7) = m ((c.tc : Thread Cert.Kernel21.nD Cert.Kernel21.τ).loc Cert.Kernel21.main_arg7))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
      ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6)
      ∧ r.2.mem ((c.tc : Thread Cert.Reference21Ideal.nD Cert.Reference21Ideal.τ).loc Cert.Reference21Ideal.main_arg7) = m ((c.tc : Thread Cert.Reference21Ideal.nD Cert.Reference21Ideal.τ).loc Cert.Reference21Ideal.main_arg7))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_finite_but_r1 [hKernel4Ideal : Cert.Kernel4Ideal.Facts] [hReference4Ideal : Cert.Reference4Ideal.Facts] [hPre_finite_but_r1 : Cert.Pre_finite_but_r1.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_but_r1 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)) (v3 : (c : Dev Cert.Kernel4Ideal.nD) → Buf (Elt Ideal) ((c.tc : Thread Cert.Kernel4Ideal.nD Cert.Kernel4Ideal.τ).loc Cert.Kernel4Ideal.main_v3_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_v3_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v72) = v0 c
          ∧ r.2.mem ((c.tc : Thread Cert.Reference4Ideal.nD Cert.Reference4Ideal.τ).loc Cert.Reference4Ideal.main_v76) = v1 c
          ∧ r.2.mem ((c.tc : Thread Cert.Reference4Ideal.nD Cert.Reference4Ideal.τ).loc Cert.Reference4Ideal.main_v77) = v2 c
          ∧ r.2.mem ((c.tc : Thread Cert.Reference4Ideal.nD Cert.Reference4Ideal.τ).loc Cert.Reference4Ideal.main_v78) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v12) = v0 c
          ∧ r.2.mem ((c.tc : Thread Cert.Reference9Ideal.nD Cert.Reference9Ideal.τ).loc Cert.Reference9Ideal.main_v13) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v5_0)) (v1 : (c : Dev Cert.Kernel12Ideal.nD) → Buf (Elt Ideal) ((c.tc : Thread Cert.Kernel12Ideal.nD Cert.Kernel12Ideal.τ).loc Cert.Kernel12Ideal.main_v5_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5_0) = v0 c
          ∧ r.2.mem ((c.tc : Thread Cert.Kernel12Ideal.nD Cert.Kernel12Ideal.τ).loc Cert.Kernel12Ideal.main_v5_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_v30) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v4_0)) (v1 : (c : Dev Cert.Kernel13Ideal.nD) → Buf (Elt Ideal) ((c.tc : Thread Cert.Kernel13Ideal.nD Cert.Kernel13Ideal.τ).loc Cert.Kernel13Ideal.main_v4_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4_0) = v0 c
          ∧ r.2.mem ((c.tc : Thread Cert.Kernel13Ideal.nD Cert.Kernel13Ideal.τ).loc Cert.Kernel13Ideal.main_v4_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_v27) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal_pre_finite_but_r2 [hKernel14Ideal : Cert.Kernel14Ideal.Facts] [hReference14Ideal : Cert.Reference14Ideal.Facts] [hPre_finite_but_r2 : Cert.Pre_finite_but_r2.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite_but_r2 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v2_0)) (v1 : (c : Dev Cert.Kernel14Ideal.nD) → Buf (Elt Ideal) ((c.tc : Thread Cert.Kernel14Ideal.nD Cert.Kernel14Ideal.τ).loc Cert.Kernel14Ideal.main_v2_1)) (v2 : (c : Dev Cert.Kernel14Ideal.nD) → Buf (Elt Ideal) ((c.tc : Thread Cert.Kernel14Ideal.nD Cert.Kernel14Ideal.τ).loc Cert.Kernel14Ideal.main_v2_2)) (v3 : (c : Dev Cert.Kernel14Ideal.nD) → Buf (Elt Ideal) ((c.tc : Thread Cert.Kernel14Ideal.nD Cert.Kernel14Ideal.τ).loc Cert.Kernel14Ideal.main_v2_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2_0) = v0 c
          ∧ r.2.mem ((c.tc : Thread Cert.Kernel14Ideal.nD Cert.Kernel14Ideal.τ).loc Cert.Kernel14Ideal.main_v2_1) = v1 c
          ∧ r.2.mem ((c.tc : Thread Cert.Kernel14Ideal.nD Cert.Kernel14Ideal.τ).loc Cert.Kernel14Ideal.main_v2_2) = v2 c
          ∧ r.2.mem ((c.tc : Thread Cert.Kernel14Ideal.nD Cert.Kernel14Ideal.τ).loc Cert.Kernel14Ideal.main_v2_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v72) = v0 c
          ∧ r.2.mem ((c.tc : Thread Cert.Reference14Ideal.nD Cert.Reference14Ideal.τ).loc Cert.Reference14Ideal.main_v76) = v1 c
          ∧ r.2.mem ((c.tc : Thread Cert.Reference14Ideal.nD Cert.Reference14Ideal.τ).loc Cert.Reference14Ideal.main_v77) = v2 c
          ∧ r.2.mem ((c.tc : Thread Cert.Reference14Ideal.nD Cert.Reference14Ideal.τ).loc Cert.Reference14Ideal.main_v78) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal_pre_finite_but_x [hKernel15Ideal : Cert.Kernel15Ideal.Facts] [hReference15Ideal : Cert.Reference15Ideal.Facts] [hPre_finite_but_x : Cert.Pre_finite_but_x.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite_but_x m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)) (v2 : (c : Dev Cert.Kernel15Ideal.nD) → Buf (Elt Ideal) ((c.tc : Thread Cert.Kernel15Ideal.nD Cert.Kernel15Ideal.τ).loc Cert.Kernel15Ideal.main_v1_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_v1_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v63) = v0 c
          ∧ r.2.mem ((c.tc : Thread Cert.Reference15Ideal.nD Cert.Reference15Ideal.τ).loc Cert.Reference15Ideal.main_v64) = v1 c
          ∧ r.2.mem ((c.tc : Thread Cert.Reference15Ideal.nD Cert.Reference15Ideal.τ).loc Cert.Reference15Ideal.main_v65) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal_pre_finite_target [hKernel16Ideal : Cert.Kernel16Ideal.Facts] [hReference16Ideal : Cert.Reference16Ideal.Facts] [hPre_finite_target : Cert.Pre_finite_target.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_finite_target m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v4_0)) (v1 : (c : Dev Cert.Kernel16Ideal.nD) → Buf (Elt Ideal) ((c.tc : Thread Cert.Kernel16Ideal.nD Cert.Kernel16Ideal.τ).loc Cert.Kernel16Ideal.main_v4_1)) (v2 : (c : Dev Cert.Kernel16Ideal.nD) → Buf (Elt Ideal) ((c.tc : Thread Cert.Kernel16Ideal.nD Cert.Kernel16Ideal.τ).loc Cert.Kernel16Ideal.main_v4_2)) (v3 : (c : Dev Cert.Kernel16Ideal.nD) → Buf (Elt Ideal) ((c.tc : Thread Cert.Kernel16Ideal.nD Cert.Kernel16Ideal.τ).loc Cert.Kernel16Ideal.main_v4_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4_0) = v0 c
          ∧ r.2.mem ((c.tc : Thread Cert.Kernel16Ideal.nD Cert.Kernel16Ideal.τ).loc Cert.Kernel16Ideal.main_v4_1) = v1 c
          ∧ r.2.mem ((c.tc : Thread Cert.Kernel16Ideal.nD Cert.Kernel16Ideal.τ).loc Cert.Kernel16Ideal.main_v4_2) = v2 c
          ∧ r.2.mem ((c.tc : Thread Cert.Kernel16Ideal.nD Cert.Kernel16Ideal.τ).loc Cert.Kernel16Ideal.main_v4_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v80) = v0 c
          ∧ r.2.mem ((c.tc : Thread Cert.Reference16Ideal.nD Cert.Reference16Ideal.τ).loc Cert.Reference16Ideal.main_v81) = v1 c
          ∧ r.2.mem ((c.tc : Thread Cert.Reference16Ideal.nD Cert.Reference16Ideal.τ).loc Cert.Reference16Ideal.main_v82) = v2 c
          ∧ r.2.mem ((c.tc : Thread Cert.Reference16Ideal.nD Cert.Reference16Ideal.τ).loc Cert.Reference16Ideal.main_v83) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)) →
    ∃ (v0 : (c : Dev Cert.Kernel17Ideal.nD) → Buf (Elt Ideal) ((c.tc : Thread Cert.Kernel17Ideal.nD Cert.Kernel17Ideal.τ).loc Cert.Kernel17Ideal.main_v1_0)) (v1 : (c : Dev Cert.Kernel17Ideal.nD) → Buf (Elt Ideal) ((c.tc : Thread Cert.Kernel17Ideal.nD Cert.Kernel17Ideal.τ).loc Cert.Kernel17Ideal.main_v1_1)) (v2 : (c : Dev Cert.Kernel17Ideal.nD) → Buf (Elt Ideal) ((c.tc : Thread Cert.Kernel17Ideal.nD Cert.Kernel17Ideal.τ).loc Cert.Kernel17Ideal.main_v1_2)) (v3 : (c : Dev Cert.Kernel17Ideal.nD) → Buf (Elt Ideal) ((c.tc : Thread Cert.Kernel17Ideal.nD Cert.Kernel17Ideal.τ).loc Cert.Kernel17Ideal.main_v1_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = v0 c
          ∧ r.2.mem ((c.tc : Thread Cert.Kernel17Ideal.nD Cert.Kernel17Ideal.τ).loc Cert.Kernel17Ideal.main_v1_1) = v1 c
          ∧ r.2.mem ((c.tc : Thread Cert.Kernel17Ideal.nD Cert.Kernel17Ideal.τ).loc Cert.Kernel17Ideal.main_v1_2) = v2 c
          ∧ r.2.mem ((c.tc : Thread Cert.Kernel17Ideal.nD Cert.Kernel17Ideal.τ).loc Cert.Kernel17Ideal.main_v1_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v35) = v0 c
          ∧ r.2.mem ((c.tc : Thread Cert.Reference17Ideal.nD Cert.Reference17Ideal.τ).loc Cert.Reference17Ideal.main_v40) = v1 c
          ∧ r.2.mem ((c.tc : Thread Cert.Reference17Ideal.nD Cert.Reference17Ideal.τ).loc Cert.Reference17Ideal.main_v45) = v2 c
          ∧ r.2.mem ((c.tc : Thread Cert.Reference17Ideal.nD Cert.Reference17Ideal.τ).loc Cert.Reference17Ideal.main_v50) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)
      ∧ m' ((c.tc : Thread Cert.Reference18Ideal.nD Cert.Reference18Ideal.τ).loc Cert.Reference18Ideal.main_arg7) = m ((c.tc : Thread Cert.Kernel18Ideal.nD Cert.Kernel18Ideal.τ).loc Cert.Kernel18Ideal.main_arg7)) →
    ∃ (v0 : (c : Dev Cert.Kernel18Ideal.nD) → Buf (Elt Ideal) ((c.tc : Thread Cert.Kernel18Ideal.nD Cert.Kernel18Ideal.τ).loc Cert.Kernel18Ideal.main_v1_0)) (v1 : (c : Dev Cert.Kernel18Ideal.nD) → Buf (Elt Ideal) ((c.tc : Thread Cert.Kernel18Ideal.nD Cert.Kernel18Ideal.τ).loc Cert.Kernel18Ideal.main_v1_1)) (v2 : (c : Dev Cert.Kernel18Ideal.nD) → Buf (Elt Ideal) ((c.tc : Thread Cert.Kernel18Ideal.nD Cert.Kernel18Ideal.τ).loc Cert.Kernel18Ideal.main_v1_2)) (v3 : (c : Dev Cert.Kernel18Ideal.nD) → Buf (Elt Ideal) ((c.tc : Thread Cert.Kernel18Ideal.nD Cert.Kernel18Ideal.τ).loc Cert.Kernel18Ideal.main_v1_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1_0) = v0 c
          ∧ r.2.mem ((c.tc : Thread Cert.Kernel18Ideal.nD Cert.Kernel18Ideal.τ).loc Cert.Kernel18Ideal.main_v1_1) = v1 c
          ∧ r.2.mem ((c.tc : Thread Cert.Kernel18Ideal.nD Cert.Kernel18Ideal.τ).loc Cert.Kernel18Ideal.main_v1_2) = v2 c
          ∧ r.2.mem ((c.tc : Thread Cert.Kernel18Ideal.nD Cert.Kernel18Ideal.τ).loc Cert.Kernel18Ideal.main_v1_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
          ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v35) = v0 c
          ∧ r.2.mem ((c.tc : Thread Cert.Reference18Ideal.nD Cert.Reference18Ideal.τ).loc Cert.Reference18Ideal.main_v40) = v1 c
          ∧ r.2.mem ((c.tc : Thread Cert.Reference18Ideal.nD Cert.Reference18Ideal.τ).loc Cert.Reference18Ideal.main_v45) = v2 c
          ∧ r.2.mem ((c.tc : Thread Cert.Reference18Ideal.nD Cert.Reference18Ideal.τ).loc Cert.Reference18Ideal.main_v50) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6)
          ∧ r.2.mem ((c.tc : Thread Cert.Reference18Ideal.nD Cert.Reference18Ideal.τ).loc Cert.Reference18Ideal.main_arg7) = m' ((c.tc : Thread Cert.Reference18Ideal.nD Cert.Reference18Ideal.τ).loc Cert.Reference18Ideal.main_arg7))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)
      ∧ m' ((c.tc : Thread Cert.Reference19Ideal.nD Cert.Reference19Ideal.τ).loc Cert.Reference19Ideal.main_arg7) = m ((c.tc : Thread Cert.Kernel19Ideal.nD Cert.Kernel19Ideal.τ).loc Cert.Kernel19Ideal.main_arg7)) →
    ∃ (v0 : (c : Dev Cert.Kernel19Ideal.nD) → Buf (Elt Ideal) ((c.tc : Thread Cert.Kernel19Ideal.nD Cert.Kernel19Ideal.τ).loc Cert.Kernel19Ideal.main_v1_0)) (v1 : (c : Dev Cert.Kernel19Ideal.nD) → Buf (Elt Ideal) ((c.tc : Thread Cert.Kernel19Ideal.nD Cert.Kernel19Ideal.τ).loc Cert.Kernel19Ideal.main_v1_1)) (v2 : (c : Dev Cert.Kernel19Ideal.nD) → Buf (Elt Ideal) ((c.tc : Thread Cert.Kernel19Ideal.nD Cert.Kernel19Ideal.τ).loc Cert.Kernel19Ideal.main_v1_2)) (v3 : (c : Dev Cert.Kernel19Ideal.nD) → Buf (Elt Ideal) ((c.tc : Thread Cert.Kernel19Ideal.nD Cert.Kernel19Ideal.τ).loc Cert.Kernel19Ideal.main_v1_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1_0) = v0 c
          ∧ r.2.mem ((c.tc : Thread Cert.Kernel19Ideal.nD Cert.Kernel19Ideal.τ).loc Cert.Kernel19Ideal.main_v1_1) = v1 c
          ∧ r.2.mem ((c.tc : Thread Cert.Kernel19Ideal.nD Cert.Kernel19Ideal.τ).loc Cert.Kernel19Ideal.main_v1_2) = v2 c
          ∧ r.2.mem ((c.tc : Thread Cert.Kernel19Ideal.nD Cert.Kernel19Ideal.τ).loc Cert.Kernel19Ideal.main_v1_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
          ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v35) = v0 c
          ∧ r.2.mem ((c.tc : Thread Cert.Reference19Ideal.nD Cert.Reference19Ideal.τ).loc Cert.Reference19Ideal.main_v40) = v1 c
          ∧ r.2.mem ((c.tc : Thread Cert.Reference19Ideal.nD Cert.Reference19Ideal.τ).loc Cert.Reference19Ideal.main_v45) = v2 c
          ∧ r.2.mem ((c.tc : Thread Cert.Reference19Ideal.nD Cert.Reference19Ideal.τ).loc Cert.Reference19Ideal.main_v50) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6)
          ∧ r.2.mem ((c.tc : Thread Cert.Reference19Ideal.nD Cert.Reference19Ideal.τ).loc Cert.Reference19Ideal.main_arg7) = m' ((c.tc : Thread Cert.Reference19Ideal.nD Cert.Reference19Ideal.τ).loc Cert.Reference19Ideal.main_arg7))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)
      ∧ m' ((c.tc : Thread Cert.Reference20Ideal.nD Cert.Reference20Ideal.τ).loc Cert.Reference20Ideal.main_arg7) = m ((c.tc : Thread Cert.Kernel20Ideal.nD Cert.Kernel20Ideal.τ).loc Cert.Kernel20Ideal.main_arg7)) →
    ∃ (v0 : (c : Dev Cert.Kernel20Ideal.nD) → Buf (Elt Ideal) ((c.tc : Thread Cert.Kernel20Ideal.nD Cert.Kernel20Ideal.τ).loc Cert.Kernel20Ideal.main_v1_0)) (v1 : (c : Dev Cert.Kernel20Ideal.nD) → Buf (Elt Ideal) ((c.tc : Thread Cert.Kernel20Ideal.nD Cert.Kernel20Ideal.τ).loc Cert.Kernel20Ideal.main_v1_1)) (v2 : (c : Dev Cert.Kernel20Ideal.nD) → Buf (Elt Ideal) ((c.tc : Thread Cert.Kernel20Ideal.nD Cert.Kernel20Ideal.τ).loc Cert.Kernel20Ideal.main_v1_2)) (v3 : (c : Dev Cert.Kernel20Ideal.nD) → Buf (Elt Ideal) ((c.tc : Thread Cert.Kernel20Ideal.nD Cert.Kernel20Ideal.τ).loc Cert.Kernel20Ideal.main_v1_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1_0) = v0 c
          ∧ r.2.mem ((c.tc : Thread Cert.Kernel20Ideal.nD Cert.Kernel20Ideal.τ).loc Cert.Kernel20Ideal.main_v1_1) = v1 c
          ∧ r.2.mem ((c.tc : Thread Cert.Kernel20Ideal.nD Cert.Kernel20Ideal.τ).loc Cert.Kernel20Ideal.main_v1_2) = v2 c
          ∧ r.2.mem ((c.tc : Thread Cert.Kernel20Ideal.nD Cert.Kernel20Ideal.τ).loc Cert.Kernel20Ideal.main_v1_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
          ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v35) = v0 c
          ∧ r.2.mem ((c.tc : Thread Cert.Reference20Ideal.nD Cert.Reference20Ideal.τ).loc Cert.Reference20Ideal.main_v40) = v1 c
          ∧ r.2.mem ((c.tc : Thread Cert.Reference20Ideal.nD Cert.Reference20Ideal.τ).loc Cert.Reference20Ideal.main_v45) = v2 c
          ∧ r.2.mem ((c.tc : Thread Cert.Reference20Ideal.nD Cert.Reference20Ideal.τ).loc Cert.Reference20Ideal.main_v50) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6)
          ∧ r.2.mem ((c.tc : Thread Cert.Reference20Ideal.nD Cert.Reference20Ideal.τ).loc Cert.Reference20Ideal.main_arg7) = m' ((c.tc : Thread Cert.Reference20Ideal.nD Cert.Reference20Ideal.τ).loc Cert.Reference20Ideal.main_arg7))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)
      ∧ m' ((c.tc : Thread Cert.Reference21Ideal.nD Cert.Reference21Ideal.τ).loc Cert.Reference21Ideal.main_arg7) = m ((c.tc : Thread Cert.Kernel21Ideal.nD Cert.Kernel21Ideal.τ).loc Cert.Kernel21Ideal.main_arg7)) →
    ∃ (v0 : (c : Dev Cert.Kernel21Ideal.nD) → Buf (Elt Ideal) ((c.tc : Thread Cert.Kernel21Ideal.nD Cert.Kernel21Ideal.τ).loc Cert.Kernel21Ideal.main_v1_0)) (v1 : (c : Dev Cert.Kernel21Ideal.nD) → Buf (Elt Ideal) ((c.tc : Thread Cert.Kernel21Ideal.nD Cert.Kernel21Ideal.τ).loc Cert.Kernel21Ideal.main_v1_1)) (v2 : (c : Dev Cert.Kernel21Ideal.nD) → Buf (Elt Ideal) ((c.tc : Thread Cert.Kernel21Ideal.nD Cert.Kernel21Ideal.τ).loc Cert.Kernel21Ideal.main_v1_2)) (v3 : (c : Dev Cert.Kernel21Ideal.nD) → Buf (Elt Ideal) ((c.tc : Thread Cert.Kernel21Ideal.nD Cert.Kernel21Ideal.τ).loc Cert.Kernel21Ideal.main_v1_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1_0) = v0 c
          ∧ r.2.mem ((c.tc : Thread Cert.Kernel21Ideal.nD Cert.Kernel21Ideal.τ).loc Cert.Kernel21Ideal.main_v1_1) = v1 c
          ∧ r.2.mem ((c.tc : Thread Cert.Kernel21Ideal.nD Cert.Kernel21Ideal.τ).loc Cert.Kernel21Ideal.main_v1_2) = v2 c
          ∧ r.2.mem ((c.tc : Thread Cert.Kernel21Ideal.nD Cert.Kernel21Ideal.τ).loc Cert.Kernel21Ideal.main_v1_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
          ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v35) = v0 c
          ∧ r.2.mem ((c.tc : Thread Cert.Reference21Ideal.nD Cert.Reference21Ideal.τ).loc Cert.Reference21Ideal.main_v40) = v1 c
          ∧ r.2.mem ((c.tc : Thread Cert.Reference21Ideal.nD Cert.Reference21Ideal.τ).loc Cert.Reference21Ideal.main_v45) = v2 c
          ∧ r.2.mem ((c.tc : Thread Cert.Reference21Ideal.nD Cert.Reference21Ideal.τ).loc Cert.Reference21Ideal.main_v50) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6)
          ∧ r.2.mem ((c.tc : Thread Cert.Reference21Ideal.nD Cert.Reference21Ideal.τ).loc Cert.Reference21Ideal.main_arg7) = m' ((c.tc : Thread Cert.Reference21Ideal.nD Cert.Reference21Ideal.τ).loc Cert.Reference21Ideal.main_arg7))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_v24) = v1 c
          ∧ r.2.mem ((c.tc : Thread Cert.Reference22Ideal.nD Cert.Reference22Ideal.τ).loc Cert.Reference22Ideal.main_v5) = v2 c
          ∧ r.2.mem ((c.tc : Thread Cert.Reference22Ideal.nD Cert.Reference22Ideal.τ).loc Cert.Reference22Ideal.main_v11) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_v24) = v1 c
          ∧ r.2.mem ((c.tc : Thread Cert.Reference23Ideal.nD Cert.Reference23Ideal.τ).loc Cert.Reference23Ideal.main_v5) = v2 c
          ∧ r.2.mem ((c.tc : Thread Cert.Reference23Ideal.nD Cert.Reference23Ideal.τ).loc Cert.Reference23Ideal.main_v11) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v0) = v0 c
          ∧ r.2.mem ((c.tc : Thread Cert.Reference24Ideal.nD Cert.Reference24Ideal.τ).loc Cert.Reference24Ideal.main_v24) = v1 c
          ∧ r.2.mem ((c.tc : Thread Cert.Reference24Ideal.nD Cert.Reference24Ideal.τ).loc Cert.Reference24Ideal.main_v5) = v2 c
          ∧ r.2.mem ((c.tc : Thread Cert.Reference24Ideal.nD Cert.Reference24Ideal.τ).loc Cert.Reference24Ideal.main_v11) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hPre_scores_finite : Cert.Pre_scores_finite.Facts) (hPre_finite_but_r1 : Cert.Pre_finite_but_r1.Facts) (hPre_finite_but_r2 : Cert.Pre_finite_but_r2.Facts) (hPre_finite_but_x : Cert.Pre_finite_but_x.Facts) (hPre_finite_target : Cert.Pre_finite_target.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_but_r1 (hKernel4Ideal := hKernel4Ideal) (hPre_finite_but_r1 := hPre_finite_but_r1)
    ∧ quiescent_Reference4Ideal (hReference4Ideal := hReference4Ideal)
    ∧ quiescent_Reference4Ideal_pre_finite_but_r1 (hReference4Ideal := hReference4Ideal) (hPre_finite_but_r1 := hPre_finite_but_r1)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite_but_r2 (hKernel14Ideal := hKernel14Ideal) (hPre_finite_but_r2 := hPre_finite_but_r2)
    ∧ quiescent_Reference14Ideal (hReference14Ideal := hReference14Ideal)
    ∧ quiescent_Reference14Ideal_pre_finite_but_r2 (hReference14Ideal := hReference14Ideal) (hPre_finite_but_r2 := hPre_finite_but_r2)
    ∧ quiescent_Kernel15 (hKernel15 := hKernel15)
    ∧ quiescent_Kernel15Ideal (hKernel15Ideal := hKernel15Ideal)
    ∧ quiescent_Kernel15Ideal_pre_finite_but_x (hKernel15Ideal := hKernel15Ideal) (hPre_finite_but_x := hPre_finite_but_x)
    ∧ quiescent_Reference15Ideal (hReference15Ideal := hReference15Ideal)
    ∧ quiescent_Reference15Ideal_pre_finite_but_x (hReference15Ideal := hReference15Ideal) (hPre_finite_but_x := hPre_finite_but_x)
    ∧ quiescent_Kernel16 (hKernel16 := hKernel16)
    ∧ quiescent_Kernel16Ideal (hKernel16Ideal := hKernel16Ideal)
    ∧ quiescent_Kernel16Ideal_pre_finite_target (hKernel16Ideal := hKernel16Ideal) (hPre_finite_target := hPre_finite_target)
    ∧ quiescent_Reference16Ideal (hReference16Ideal := hReference16Ideal)
    ∧ quiescent_Reference16Ideal_pre_finite_target (hReference16Ideal := hReference16Ideal) (hPre_finite_target := hPre_finite_target)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_but_r1 (hKernel4Ideal := hKernel4Ideal) (hReference4Ideal := hReference4Ideal) (hPre_finite_but_r1 := hPre_finite_but_r1)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite_but_r2 (hKernel14Ideal := hKernel14Ideal) (hReference14Ideal := hReference14Ideal) (hPre_finite_but_r2 := hPre_finite_but_r2)
    ∧ preserves_Kernel15_Kernel15Ideal
    ∧ algebraic_Kernel15Ideal_Reference15Ideal_pre_finite_but_x (hKernel15Ideal := hKernel15Ideal) (hReference15Ideal := hReference15Ideal) (hPre_finite_but_x := hPre_finite_but_x)
    ∧ preserves_Kernel16_Kernel16Ideal
    ∧ algebraic_Kernel16Ideal_Reference16Ideal_pre_finite_target (hKernel16Ideal := hKernel16Ideal) (hReference16Ideal := hReference16Ideal) (hPre_finite_target := hPre_finite_target)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Pre_finite_but_r1.lean ====
abbrev S8192x5632 : Shape := ⟨2, ![8192, 5632]⟩
abbrev S1024x5632 : Shape := ⟨2, ![1024, 5632]⟩
abbrev S8192x1024 : Shape := ⟨2, ![8192, 1024]⟩
abbrev S1024 : Shape := ⟨1, ![1024]⟩
abbrev S_ : Shape := ⟨0, ![]⟩

class Facts : Prop where
  bcast_S_S8192x5632 : S_.BroadcastsInDim S8192x5632 (![] : Fin 0 → Fin S8192x5632.rank)
  bcast_S_S1024x5632 : S_.BroadcastsInDim S1024x5632 (![] : Fin 0 → Fin S1024x5632.rank)
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x5632 .f32) (main_arg1 : FVec F S1024x5632 .f32) (main_arg2 : FVec F S8192x1024 .f32) (main_arg3 : FVec F S8192x1024 .f32) (main_arg4 : FVec F S1024 .f32) : IVec S8192x5632 1 × IVec S1024x5632 1 × IVec S8192x1024 1 × IVec S1024 1 :=
  let main_v0 : FVec F S8192x5632 .f32 := Host.absf main_arg0
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  (main_v2, main_v5, main_v8, main_v11)
-- ==== Pre_finite_but_r2.lean ====
abbrev S8192x1536 : Shape := ⟨2, ![8192, 1536]⟩
abbrev S1024x1536 : Shape := ⟨2, ![1024, 1536]⟩
abbrev S8192x1024 : Shape := ⟨2, ![8192, 1024]⟩
abbrev S1024 : Shape := ⟨1, ![1024]⟩
abbrev S_ : Shape := ⟨0, ![]⟩

class Facts : Prop where
  bcast_S_S8192x1536 : S_.BroadcastsInDim S8192x1536 (![] : Fin 0 → Fin S8192x1536.rank)
  bcast_S_S1024x1536 : S_.BroadcastsInDim S1024x1536 (![] : Fin 0 → Fin S1024x1536.rank)
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x1536 .f32) (main_arg1 : FVec F S1024x1536 .f32) (main_arg2 : FVec F S8192x1024 .f32) (main_arg3 : FVec F S8192x1024 .f32) (main_arg4 : FVec F S1024 .f32) : IVec S8192x1536 1 × IVec S1024x1536 1 × IVec S8192x1024 1 × IVec S1024 1 :=
  let main_v0 : FVec F S8192x1536 .f32 := Host.absf main_arg0
  let main_cst : FVec F S_ .f32 := constant S_ .f32 0x7F800000#32
  let main_v1 : FVec F S8192x1536 .f32 := broadcastInDim S8192x1536 ![] bcast_S_S8192x1536 main_cst
  let main_v2 : IVec S8192x1536 1 := cmpf .olt main_v0 main_v1
  let main_v3 : FVec F S1024x1536 .f32 := Host.absf main_arg1
  let main_cst_0 : FVec F S_ .f32 := constant S_ .f32 0x7F800000#32
  let main_v4 : FVec F S1024x1536 .f32 := broadcastInDim S1024x1536 ![] bcast_S_S1024x1536 main_cst_0
  let main_v5 : IVec S1024x1536 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  (main_v2, main_v5, main_v8, main_v11)
-- ==== Pre_finite_but_x.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x1024 .f32) (main_arg1 : FVec F S8192x1024 .f32) (main_arg2 : FVec F S1024 .f32) : IVec S8192x1024 1 × IVec S1024 1 :=
  let main_v0 : FVec F S8192x1024 .f32 := Host.absf main_arg1
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg2
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  (main_v2, main_v5)
-- ==== Pre_finite_target.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩

class Facts : Prop where
  bcast_S_S1024 : S_.BroadcastsInDim S1024 (![] : Fin 0 → Fin S1024.rank)
  bcast_S_S8192x1024 : S_.BroadcastsInDim S8192x1024 (![] : Fin 0 → Fin S8192x1024.rank)

variable [Facts]

def fn {F : FTy → Type} [FloatOps F] (main_arg0 : FVec F S8192x2816 .f32) (main_arg1 : FVec F S2816x1024 .f32) (main_arg2 : FVec F S8192x1024 .f32) (main_arg3 : FVec F S1024 .f32) (main_arg4 : FVec F S1024 .f32) (main_arg5 : FVec F S8192x1024 .f32) : IVec S1024 1 × IVec S1024 1 × IVec S8192x1024 1 :=
  let main_v0 : FVec F S1024 .f32 := Host.absf main_arg3
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024 .f32 := Host.absf main_arg4
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S8192x1024 .f32 := Host.absf main_arg5
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Pre_scores_finite.lean ====
abbrev S8192x1536 : Shape := ⟨2, ![8192, 1536]⟩
abbrev S8192x1024 : Shape := ⟨2, ![8192, 1024]⟩
abbrev S256x512 : Shape := ⟨2, ![256, 512]⟩
abbrev S8192x256 : Shape := ⟨2, ![8192, 256]⟩
abbrev S_ : Shape := ⟨0, ![]⟩
abbrev S256x256 : Shape := ⟨2, ![256, 256]⟩

class Facts : Prop where
  slices_S8192x1536_S8192x256_0_1280 : S8192x1536.Slices ![0, 1280] S8192x256
  bcast_S_S8192x256 : S_.BroadcastsInDim S8192x256 (![] : Fin 0 → Fin S8192x256.rank)
  slices_S256x512_S256x256_0_0 : S256x512.Slices ![0, 0] S256x256
  bcast_S_S256x256 : S_.BroadcastsInDim S256x256 (![] : Fin 0 → Fin S256x256.rank)

variable [Facts]

def fn {F : FTy → Type} [FloatOps F] (main_arg0 : FVec F S8192x1536 .f32) (main_arg1 : FVec F S8192x1024 .f32) (main_arg2 : FVec F S256x512 .f32) (main_arg3 : FVec F S8192x256 .f32) (main_arg4 : FVec F S8192x1536 .f32) : IVec S8192x256 1 × IVec S256x256 1 :=
  let main_v0 : FVec F S8192x256 .f32 := (extractStridedSlice S8192x256 ![0, 1280] · slices_S8192x1536_S8192x256_0_1280) main_arg0
  let main_v1 : FVec F S8192x256 .f32 := Host.absf main_v0
  let main_cst : FVec F S_ .f32 := constant S_ .f32 0x7F800000#32
  let main_v2 : FVec F S8192x256 .f32 := broadcastInDim S8192x256 ![] bcast_S_S8192x256 main_cst
  let main_v3 : IVec S8192x256 1 := cmpf .olt main_v1 main_v2
  let main_v4 : FVec F S256x256 .f32 := (extractStridedSlice S256x256 ![0, 0] · slices_S256x512_S256x256_0_0) main_arg2
  let main_v5 : FVec F S256x256 .f32 := Host.absf main_v4
  let main_cst_0 : FVec F S_ .f32 := constant S_ .f32 0x7F800000#32
  let main_v6 : FVec F S256x256 .f32 := broadcastInDim S256x256 ![] bcast_S_S256x256 main_cst_0
  let main_v7 : IVec S256x256 1 := cmpf .olt main_v5 main_v6
  (main_v3, main_v7)
-- ==== Kernel.lean ====
abbrev S8192x1536 : Shape := ⟨2, ![8192, 1536]⟩
abbrev S8192x1024 : Shape := ⟨2, ![8192, 1024]⟩
abbrev S256x512 : Shape := ⟨2, ![256, 512]⟩
abbrev S8192x256 : Shape := ⟨2, ![8192, 256]⟩
abbrev S256x256 : Shape := ⟨2, ![256, 256]⟩
abbrev S1x256x1x256 : Shape := ⟨4, ![1, 256, 1, 256]⟩
abbrev S1x256x4x256 : Shape := ⟨4, ![1, 256, 4, 256]⟩
abbrev S256x1024 : Shape := ⟨2, ![256, 1024]⟩
abbrev S256 : Shape := ⟨1, ![256]⟩
abbrev S_ : Shape := ⟨0, ![]⟩
abbrev S1024 : Shape := ⟨1, ![1024]⟩
abbrev S256x1 : Shape := ⟨2, ![256, 1]⟩
abbrev S1x1024 : Shape := ⟨2, ![1, 1024]⟩
abbrev S4x256x1x256 : Shape := ⟨4, ![4, 256, 1, 256]⟩
abbrev S1024x256 : Shape := ⟨2, ![1024, 256]⟩
abbrev S1024x1 : Shape := ⟨2, ![1024, 1]⟩
abbrev S1x256 : Shape := ⟨2, ![1, 256]⟩
abbrev S512x256 : Shape := ⟨2, ![512, 256]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 123
  | .vmem => 12
  | .smem => 0
  | _ => 0

abbrev bufTy : (tb : Table) → Fin (tcTables nBuf tb) → BufTy
  | .hbm, ⟨0, _⟩ => ⟨S8192x1536, .f32⟩
  | .hbm, ⟨1, _⟩ => ⟨S8192x1024, .f32⟩
  | .hbm, ⟨2, _⟩ => ⟨S256x512, .f32⟩
  | .hbm, ⟨3, _⟩ => ⟨S8192x256, .f32⟩
  | .hbm, ⟨4, _⟩ => ⟨S8192x1536, .f32⟩
  | .hbm, ⟨5, _⟩ => ⟨S256x256, .f32⟩
  | .hbm, ⟨6, _⟩ => ⟨S256x256, .f32⟩
  | .hbm, ⟨7, _⟩ => ⟨S1x256x1x256, .f32⟩
  | .hbm, ⟨8, _⟩ => ⟨S1x256x4x256, .f32⟩
  | .hbm, ⟨9, _⟩ => ⟨S256x1024, .f32⟩
  | .hbm, ⟨10, _⟩ => ⟨S256, .i32⟩
  | .hbm, ⟨11, _⟩ => ⟨S_, .i32⟩
  | .hbm, ⟨12, _⟩ => ⟨S_, .i32⟩
  | .hbm, ⟨13, _⟩ => ⟨S256, .i32⟩
  | .hbm, ⟨14, _⟩ => ⟨S256, .i32⟩
  | .hbm, ⟨15, _⟩ => ⟨S256, .i32⟩
  | .hbm, ⟨16, _⟩ => ⟨S_, .i32⟩
  | .hbm, ⟨17, _⟩ => ⟨S256, .i32⟩
  | .hbm, ⟨18, _⟩ => ⟨S256, .i1⟩
  | .hbm, ⟨19, _⟩ => ⟨S256, .i32⟩
  | .hbm, ⟨20, _⟩ => ⟨S256, .i32⟩
  | .hbm, ⟨21, _⟩ => ⟨S_, .i32⟩
  | .hbm, ⟨22, _⟩ => ⟨S256, .i32⟩
  | .hbm, ⟨23, _⟩ => ⟨S256, .i1⟩
  | .hbm, ⟨24, _⟩ => ⟨S256, .i1⟩
  | .hbm, ⟨25, _⟩ => ⟨S_, .i32⟩
  | .hbm, ⟨26, _⟩ => ⟨S256, .i32⟩
  | .hbm, ⟨27, _⟩ => ⟨S256, .i32⟩
  | .hbm, ⟨28, _⟩ => ⟨S256, .i32⟩
  | .hbm, ⟨29, _⟩ => ⟨S1024, .i32⟩
  | .hbm, ⟨30, _⟩ => ⟨S_, .i32⟩
  | .hbm, ⟨31, _⟩ => ⟨S_, .i32⟩
  | .hbm, ⟨32, _⟩ => ⟨S1024, .i32⟩
  | .hbm, ⟨33, _⟩ => ⟨S1024, .i32⟩
  | .hbm, ⟨34, _⟩ => ⟨S1024, .i32⟩
  | .hbm, ⟨35, _⟩ => ⟨S_, .i32⟩
  | .hbm, ⟨36, _⟩ => ⟨S1024, .i32⟩
  | .hbm, ⟨37, _⟩ => ⟨S1024, .i1⟩
  | .hbm, ⟨38, _⟩ => ⟨S1024, .i32⟩
  | .hbm, ⟨39, _⟩ => ⟨S1024, .i32⟩
  | .hbm, ⟨40, _⟩ => ⟨S_, .i32⟩
  | .hbm, ⟨41, _⟩ => ⟨S1024, .i32⟩
  | .hbm, ⟨42, _⟩ => ⟨S1024, .i1⟩
  | .hbm, ⟨43, _⟩ => ⟨S1024, .i1⟩
  | .hbm, ⟨44, _⟩ => ⟨S_, .i32⟩
  | .hbm, ⟨45, _⟩ => ⟨S1024, .i32⟩
  | .hbm, ⟨46, _⟩ => ⟨S1024, .i32⟩
  | .hbm, ⟨47, _⟩ => ⟨S1024, .i32⟩
  | .hbm, ⟨48, _⟩ => ⟨S256x1, .i32⟩
  | .hbm, ⟨49, _⟩ => ⟨S1x1024, .i32⟩
  | .hbm, ⟨50, _⟩ => ⟨S256x1024, .i32⟩
  | .hbm, ⟨51, _⟩ => ⟨S256x1024, .i32⟩
  | .hbm, ⟨52, _⟩ => ⟨S256x1024, .i1⟩
  | .hbm, ⟨53, _⟩ => ⟨S256x1024, .f32⟩
  | .hbm, ⟨54, _⟩ => ⟨S256x1024, .f32⟩
  | .hbm, ⟨55, _⟩ => ⟨S256x256, .f32⟩
  | .hbm, ⟨56, _⟩ => ⟨S1x256x1x256, .f32⟩
  | .hbm, ⟨57, _⟩ => ⟨S4x256x1x256, .f32⟩
  | .hbm, ⟨58, _⟩ => ⟨S1024x256, .f32⟩
  | .hbm, ⟨59, _⟩ => ⟨S1024, .i32⟩
  | .hbm, ⟨60, _⟩ => ⟨S_, .i32⟩
  | .hbm, ⟨61, _⟩ => ⟨S_, .i32⟩
  | .hbm, ⟨62, _⟩ => ⟨S1024, .i32⟩
  | .hbm, ⟨63, _⟩ => ⟨S1024, .i32⟩
  | .hbm, ⟨64, _⟩ => ⟨S1024, .i32⟩
  | .hbm, ⟨65, _⟩ => ⟨S_, .i32⟩
  | .hbm, ⟨66, _⟩ => ⟨S1024, .i32⟩
  | .hbm, ⟨67, _⟩ => ⟨S1024, .i1⟩
  | .hbm, ⟨68, _⟩ => ⟨S1024, .i32⟩
  | .hbm, ⟨69, _⟩ => ⟨S1024, .i32⟩
  | .hbm, ⟨70, _⟩ => ⟨S_, .i32⟩
  | .hbm, ⟨71, _⟩ => ⟨S1024, .i32⟩
  | .hbm, ⟨72, _⟩ => ⟨S1024, .i1⟩
  | .hbm, ⟨73, _⟩ => ⟨S1024, .i1⟩
  | .hbm, ⟨74, _⟩ => ⟨S_, .i32⟩
  | .hbm, ⟨75, _⟩ => ⟨S1024, .i32⟩
  | .hbm, ⟨76, _⟩ => ⟨S1024, .i32⟩
  | .hbm, ⟨77, _⟩ => ⟨S1024, .i32⟩
  | .hbm, ⟨78, _⟩ => ⟨S256, .i32⟩
  | .hbm, ⟨79, _⟩ => ⟨S_, .i32⟩
  | .hbm, ⟨80, _⟩ => ⟨S_, .i32⟩
  | .hbm, ⟨81, _⟩ => ⟨S256, .i32⟩
  | .hbm, ⟨82, _⟩ => ⟨S256, .i32⟩
  | .hbm, ⟨83, _⟩ => ⟨S256, .i32⟩
  | .hbm, ⟨84, _⟩ => ⟨S_, .i32⟩
  | .hbm, ⟨85, _⟩ => ⟨S256, .i32⟩
  | .hbm, ⟨86, _⟩ => ⟨S256, .i1⟩
  | .hbm, ⟨87, _⟩ => ⟨S256, .i32⟩
  | .hbm, ⟨88, _⟩ => ⟨S256, .i32⟩
  | .hbm, ⟨89, _⟩ => ⟨S_, .i32⟩
  | .hbm, ⟨90, _⟩ => ⟨S256, .i32⟩
  | .hbm, ⟨91, _⟩ => ⟨S256, .i1⟩
  | .hbm, ⟨92, _⟩ => ⟨S256, .i1⟩
  | .hbm, ⟨93, _⟩ => ⟨S_, .i32⟩
  | .hbm, ⟨94, _⟩ => ⟨S256, .i32⟩
  | .hbm, ⟨95, _⟩ => ⟨S256, .i32⟩
  | .hbm, ⟨96, _⟩ => ⟨S256, .i32⟩
  | .hbm, ⟨97, _⟩ => ⟨S1024x1, .i32⟩
  | .hbm, ⟨98, _⟩ => ⟨S1x256, .i32⟩
  | .hbm, ⟨99, _⟩ => ⟨S1024x256, .i32⟩
  | .hbm, ⟨100, _⟩ => ⟨S1024x256, .i32⟩
  | .hbm, ⟨101, _⟩ => ⟨S1024x256, .i1⟩
  | .hbm, ⟨102, _⟩ => ⟨S1024x256, .f32⟩
  | .hbm, ⟨103, _⟩ => ⟨S1024x256, .f32⟩
  | .hbm, ⟨104, _⟩ => ⟨S256x1024, .bf16⟩
  | .hbm, ⟨105, _⟩ => ⟨S1024x256, .bf16⟩
  | .hbm, ⟨106, _⟩ => ⟨S8192x1536, .f32⟩
  | .hbm, ⟨107, _⟩ => ⟨S256x1024, .f32⟩
  | .hbm, ⟨108, _⟩ => ⟨S1024x256, .f32⟩
  | .hbm, ⟨109, _⟩ => ⟨S1024x256, .f32⟩
  | .hbm, ⟨110, _⟩ => ⟨S4x256x1x256, .f32⟩
  | .hbm, ⟨111, _⟩ => ⟨S_, .f32⟩
  | .hbm, ⟨112, _⟩ => ⟨S256x256, .f32⟩
  | .hbm, ⟨113, _⟩ => ⟨S_, .f32⟩
  | .hbm, ⟨114, _⟩ => ⟨S256x512, .f32⟩
  | .hbm, ⟨115, _⟩ => ⟨S256x1024, .f32⟩
  | .hbm, ⟨116, _⟩ => ⟨S1x256x4x256, .f32⟩
  | .hbm, ⟨117, _⟩ => ⟨S_, .f32⟩
  | .hbm, ⟨118, _⟩ => ⟨S256x256, .f32⟩
  | .hbm, ⟨119, _⟩ => ⟨S256x256, .f32⟩
  | .hbm, ⟨120, _⟩ => ⟨S_, .f32⟩
  | .hbm, ⟨121, _⟩ => ⟨S256x512, .f32⟩
  | .hbm, ⟨122, _⟩ => ⟨S256x512, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S256x1024, .bf16⟩
  | .local _ .vmem, ⟨5, _⟩ => ⟨S1024x256, .bf16⟩
  | .local _ .vmem, ⟨6, _⟩ => ⟨S512x256, .f32⟩
  | .local _ .vmem, ⟨7, _⟩ => ⟨S512x256, .f32⟩
  | .local _ .vmem, ⟨8, _⟩ => ⟨S512x512, .f32⟩
  | .local _ .vmem, ⟨9, _⟩ => ⟨S512x512, .f32⟩
  | .local _ .vmem, ⟨10, _⟩ => ⟨S256x1024, .f32⟩
  | .local _ .vmem, ⟨11, _⟩ => ⟨S1024x256, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v6 : Ref sig .tc := ⟨.hbm, 28, rfl⟩
abbrev main_v7 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_c_1 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_c : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_0 : Ref sig .tc := ⟨.hbm, 74, rfl⟩
abbrev main_call2_v12 : Ref sig .tc := ⟨.hbm, 75, rfl⟩
abbrev main_call2_v13 : Ref sig .tc := ⟨.hbm, 76, rfl⟩
abbrev main_v21 : Ref sig .tc := ⟨.hbm, 77, rfl⟩
abbrev main_v22 : Ref sig .tc := ⟨.hbm, 78, rfl⟩
abbrev main_c_2 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_v6 : Ref sig .tc := ⟨.hbm, 86, rfl⟩
abbrev main_call3_v7 : Ref sig .tc := ⟨.hbm, 87, rfl⟩
abbrev main_call3_v8 : Ref sig .tc := ⟨.hbm, 88, rfl⟩
abbrev main_call3_c : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_c_0 : Ref sig .tc := ⟨.hbm, 93, rfl⟩
abbrev main_call3_v12 : Ref sig .tc := ⟨.hbm, 94, rfl⟩
abbrev main_call3_v13 : Ref sig .tc := ⟨.hbm, 95, rfl⟩
abbrev main_v23 : Ref sig .tc := ⟨.hbm, 96, rfl⟩
abbrev main_v24 : Ref sig .tc := ⟨.hbm, 97, rfl⟩
abbrev main_v25 : Ref sig .tc := ⟨.hbm, 98, rfl⟩
abbrev main_v26 : Ref sig .tc := ⟨.hbm, 99, rfl⟩
abbrev main_v27 : Ref sig .tc := ⟨.hbm, 100, rfl⟩
abbrev main_v28 : Ref sig .tc := ⟨.hbm, 101, rfl⟩
abbrev main_v29 : Ref sig .tc := ⟨.hbm, 102, rfl⟩
abbrev main_v30 : Ref sig .tc := ⟨.hbm, 103, rfl⟩
abbrev main_v31 : Ref sig .tc := ⟨.hbm, 104, rfl⟩
abbrev main_v32 : Ref sig .tc := ⟨.hbm, 105, rfl⟩
abbrev main_v33_0 : Ref sig .tc := ⟨.hbm, 106, rfl⟩
abbrev main_v33_1 : Ref sig .tc := ⟨.hbm, 107, rfl⟩
abbrev main_v33_2 : Ref sig .tc := ⟨.hbm, 108, rfl⟩
abbrev main_v34 : Ref sig .tc := ⟨.hbm, 109, rfl⟩
abbrev main_v35 : Ref sig .tc := ⟨.hbm, 110, rfl⟩
abbrev main_cst : Ref sig .tc := ⟨.hbm, 111, rfl⟩
abbrev main_v36 : Ref sig .tc := ⟨.hbm, 112, rfl⟩
abbrev main_cst_3 : Ref sig .tc := ⟨.hbm, 113, rfl⟩
abbrev main_v37 : Ref sig .tc := ⟨.hbm, 114, rfl⟩
abbrev main_v38 : Ref sig .tc := ⟨.hbm, 115, rfl⟩
abbrev main_v39 : Ref sig .tc := ⟨.hbm, 116, rfl⟩
abbrev main_cst_4 : Ref sig .tc := ⟨.hbm, 117, rfl⟩
abbrev main_v40 : Ref sig .tc := ⟨.hbm, 118, rfl⟩
abbrev main_v41 : Ref sig .tc := ⟨.hbm, 119, rfl⟩
abbrev main_cst_5 : Ref sig .tc := ⟨.hbm, 120, rfl⟩
abbrev main_v42 : Ref sig .tc := ⟨.hbm, 121, rfl⟩
abbrev main_v43 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S8192x1536 : Shape := ⟨2, ![8192, 1536]⟩
abbrev S8192x1024 : Shape := ⟨2, ![8192, 1024]⟩
abbrev S256x512 : Shape := ⟨2, ![256, 512]⟩
abbrev S8192x256 : Shape := ⟨2, ![8192, 256]⟩
abbrev S8192x4x64 : Shape := ⟨3, ![8192, 4, 64]⟩
abbrev S256x256 : Shape := ⟨2, ![256, 256]⟩
abbrev S256x4x64 : Shape := ⟨3, ![256, 4, 64]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x64x8192 : Shape := ⟨3, ![4, 64, 8192]⟩
abbrev S4x64x256 : Shape := ⟨3, ![4, 64, 256]⟩
abbrev S4x256x64 : Shape := ⟨3, ![4, 256, 64]⟩
abbrev S4x8192x64 : Shape := ⟨3, ![4, 8192, 64]⟩

abbrev nBuf : Space → Nat
  | .hbm => 89
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x1024, .f32⟩
  | .hbm, ⟨2, _⟩ => ⟨S256x512, .f32⟩
  | .hbm, ⟨3, _⟩ => ⟨S8192x256, .f32⟩
  | .hbm, ⟨4, _⟩ => ⟨S8192x1536, .f32⟩
  | .hbm, ⟨5, _⟩ => ⟨S8192x256, .f32⟩
  | .hbm, ⟨6, _⟩ => ⟨S8192x256, .f32⟩
  | .hbm, ⟨7, _⟩ => ⟨S8192x4x64, .f32⟩
  | .hbm, ⟨8, _⟩ => ⟨S256x256, .f32⟩
  | .hbm, ⟨9, _⟩ => ⟨S256x256, .f32⟩
  | .hbm, ⟨10, _⟩ => ⟨S256x4x64, .f32⟩
  | .hbm, ⟨11, _⟩ => ⟨S256x4x64, .f32⟩
  | .hbm, ⟨12, _⟩ => ⟨S4x8192x256, .f32⟩
  | .hbm, ⟨13, _⟩ => ⟨S_, .f32⟩
  | .hbm, ⟨14, _⟩ => ⟨S4x8192x256, .f32⟩
  | .hbm, ⟨15, _⟩ => ⟨S4x8192x256, .f32⟩
  | .hbm, ⟨16, _⟩ => ⟨S_, .f32⟩
  | .hbm, ⟨17, _⟩ => ⟨S4x8192, .f32⟩
  | .hbm, ⟨18, _⟩ => ⟨S4x8192x1, .f32⟩
  | .hbm, ⟨19, _⟩ => ⟨S4x8192x256, .f32⟩
  | .hbm, ⟨20, _⟩ => ⟨S4x8192x256, .i1⟩
  | .hbm, ⟨21, _⟩ => ⟨S4x8192x256, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S4x8192, .f32⟩
  | .hbm, ⟨27, _⟩ => ⟨S_, .f32⟩
  | .hbm, ⟨28, _⟩ => ⟨S4x8192, .f32⟩
  | .hbm, ⟨29, _⟩ => ⟨S4x8192, .i1⟩
  | .hbm, ⟨30, _⟩ => ⟨S_, .f32⟩
  | .hbm, ⟨31, _⟩ => ⟨S4x8192, .f32⟩
  | .hbm, ⟨32, _⟩ => ⟨S4x8192, .i1⟩
  | .hbm, ⟨33, _⟩ => ⟨S_, .f32⟩
  | .hbm, ⟨34, _⟩ => ⟨S4x8192, .f32⟩
  | .hbm, ⟨35, _⟩ => ⟨S_, .f32⟩
  | .hbm, ⟨36, _⟩ => ⟨S4x8192, .f32⟩
  | .hbm, ⟨37, _⟩ => ⟨S_, .f32⟩
  | .hbm, ⟨38, _⟩ => ⟨S4x8192, .f32⟩
  | .hbm, ⟨39, _⟩ => ⟨S4x8192, .f32⟩
  | .hbm, ⟨40, _⟩ => ⟨S4x8192, .f32⟩
  | .hbm, ⟨41, _⟩ => ⟨S4x8192x1, .f32⟩
  | .hbm, ⟨42, _⟩ => ⟨S4x8192x256, .f32⟩
  | .hbm, ⟨43, _⟩ => ⟨S4x8192x256, .f32⟩
  | .hbm, ⟨44, _⟩ => ⟨S4x8192x256, .f32⟩
  | .hbm, ⟨45, _⟩ => ⟨S_, .f32⟩
  | .hbm, ⟨46, _⟩ => ⟨S4x8192, .f32⟩
  | .hbm, ⟨47, _⟩ => ⟨S4x8192x1, .f32⟩
  | .hbm, ⟨48, _⟩ => ⟨S4x8192x256, .f32⟩
  | .hbm, ⟨49, _⟩ => ⟨S4x8192x256, .f32⟩
  | .hbm, ⟨50, _⟩ => ⟨S4x8192x1, .f32⟩
  | .hbm, ⟨51, _⟩ => ⟨S_, .f32⟩
  | .hbm, ⟨52, _⟩ => ⟨S4x8192x1, .f32⟩
  | .hbm, ⟨53, _⟩ => ⟨S4x8192x1, .f32⟩
  | .hbm, ⟨54, _⟩ => ⟨S4x64x8192, .f32⟩
  | .hbm, ⟨55, _⟩ => ⟨S8192x4x64, .f32⟩
  | .hbm, ⟨56, _⟩ => ⟨S8192x256, .f32⟩
  | .hbm, ⟨57, _⟩ => ⟨S8192x4x64, .f32⟩
  | .hbm, ⟨58, _⟩ => ⟨S4x64x8192, .f32⟩
  | .hbm, ⟨59, _⟩ => ⟨S4x8192x256, .f32⟩
  | .hbm, ⟨60, _⟩ => ⟨S4x64x256, .f32⟩
  | .hbm, ⟨61, _⟩ => ⟨S256x4x64, .f32⟩
  | .hbm, ⟨62, _⟩ => ⟨S4x8192x256, .f32⟩
  | .hbm, ⟨63, _⟩ => ⟨S4x8192x256, .f32⟩
  | .hbm, ⟨64, _⟩ => ⟨S4x8192x256, .f32⟩
  | .hbm, ⟨65, _⟩ => ⟨S_, .f32⟩
  | .hbm, ⟨66, _⟩ => ⟨S4x8192, .f32⟩
  | .hbm, ⟨67, _⟩ => ⟨S4x8192x1, .f32⟩
  | .hbm, ⟨68, _⟩ => ⟨S4x8192x1, .f32⟩
  | .hbm, ⟨69, _⟩ => ⟨S4x8192x256, .f32⟩
  | .hbm, ⟨70, _⟩ => ⟨S4x8192x256, .f32⟩
  | .hbm, ⟨71, _⟩ => ⟨S_, .f32⟩
  | .hbm, ⟨72, _⟩ => ⟨S4x8192, .f32⟩
  | .hbm, ⟨73, _⟩ => ⟨S4x8192x256, .f32⟩
  | .hbm, ⟨74, _⟩ => ⟨S4x8192x256, .f32⟩
  | .hbm, ⟨75, _⟩ => ⟨S4x8192x256, .f32⟩
  | .hbm, ⟨76, _⟩ => ⟨S_, .f32⟩
  | .hbm, ⟨77, _⟩ => ⟨S4x8192x256, .f32⟩
  | .hbm, ⟨78, _⟩ => ⟨S4x8192x256, .f32⟩
  | .hbm, ⟨79, _⟩ => ⟨S4x256x64, .f32⟩
  | .hbm, ⟨80, _⟩ => ⟨S256x4x64, .f32⟩
  | .hbm, ⟨81, _⟩ => ⟨S4x8192x64, .f32⟩
  | .hbm, ⟨82, _⟩ => ⟨S8192x4x64, .f32⟩
  | .hbm, ⟨83, _⟩ => ⟨S256x256, .f32⟩
  | .hbm, ⟨84, _⟩ => ⟨S256x256, .f32⟩
  | .hbm, ⟨85, _⟩ => ⟨S256x512, .f32⟩
  | .hbm, ⟨86, _⟩ => ⟨S8192x256, .f32⟩
  | .hbm, ⟨87, _⟩ => ⟨S8192x1024, .f32⟩
  | .hbm, ⟨88, _⟩ => ⟨S8192x1536, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_12 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩

abbrev nD : Nat := 1
abbrev τ : Topo := Topo.v7x

variable {F : FTy → Type} [FloatOps F]
-- ==== Kernel2.lean ====
abbrev S8192x1024 : Shape := ⟨2, ![8192, 1024]⟩
abbrev S8192x5632 : Shape := ⟨2, ![8192, 5632]⟩
abbrev S8x1024x704 : Shape := ⟨3, ![8, 1024, 704]⟩
abbrev S512x1024 : Shape := ⟨2, ![512, 1024]⟩
abbrev S512x1408 : Shape := ⟨2, ![512, 1408]⟩
abbrev S2x1024x704 : Shape := ⟨3, ![2, 1024, 704]⟩
abbrev S1024x1408 : Shape := ⟨2, ![1024, 1408]⟩
abbrev S1024x704 : Shape := ⟨2, ![1024, 704]⟩
abbrev S1x1024x704 : Shape := ⟨3, ![1, 1024, 704]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x5632, .bf16⟩
  | .hbm, ⟨3, _⟩ => ⟨S8x1024x704, .bf16⟩
  | .local _ .vmem, ⟨0, _⟩ => ⟨S512x1024, .f32⟩
  | .local _ .vmem, ⟨1, _⟩ => ⟨S512x1024, .f32⟩
  | .local _ .vmem, ⟨2, _⟩ => ⟨S512x1408, .bf16⟩
  | .local _ .vmem, ⟨3, _⟩ => ⟨S512x1408, .bf16⟩
  | .local _ .vmem, ⟨4, _⟩ => ⟨S2x1024x704, .bf16⟩
  | .local _ .vmem, ⟨5, _⟩ => ⟨S2x1024x704, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x704 : Shape := ⟨2, ![1024, 704]⟩
abbrev S1x1024x704 : Shape := ⟨3, ![1, 1024, 704]⟩
abbrev S8x1024x704 : Shape := ⟨3, ![8, 1024, 704]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S_, .f32⟩
  | .hbm, ⟨3, _⟩ => ⟨S1024x5632, .f32⟩
  | .hbm, ⟨4, _⟩ => ⟨S8192x5632, .f32⟩
  | .hbm, ⟨5, _⟩ => ⟨S5632x1024, .f32⟩
  | .hbm, ⟨6, _⟩ => ⟨S1024x5632, .f32⟩
  | .hbm, ⟨7, _⟩ => ⟨S1024x704, .f32⟩
  | .hbm, ⟨8, _⟩ => ⟨S1024x704, .f32⟩
  | .hbm, ⟨9, _⟩ => ⟨S1024x704, .f32⟩
  | .hbm, ⟨10, _⟩ => ⟨S1024x704, .f32⟩
  | .hbm, ⟨11, _⟩ => ⟨S1024x704, .f32⟩
  | .hbm, ⟨12, _⟩ => ⟨S1024x704, .f32⟩
  | .hbm, ⟨13, _⟩ => ⟨S1024x704, .f32⟩
  | .hbm, ⟨14, _⟩ => ⟨S1024x704, .f32⟩
  | .hbm, ⟨15, _⟩ => ⟨S1x1024x704, .f32⟩
  | .hbm, ⟨16, _⟩ => ⟨S1x1024x704, .f32⟩
  | .hbm, ⟨17, _⟩ => ⟨S1x1024x704, .f32⟩
  | .hbm, ⟨18, _⟩ => ⟨S1x1024x704, .f32⟩
  | .hbm, ⟨19, _⟩ => ⟨S1x1024x704, .f32⟩
  | .hbm, ⟨20, _⟩ => ⟨S1x1024x704, .f32⟩
  | .hbm, ⟨21, _⟩ => ⟨S1x1024x704, .f32⟩
  | .hbm, ⟨22, _⟩ => ⟨S1x1024x704, .f32⟩
  | .hbm, ⟨23, _⟩ => ⟨S8x1024x704, .f32⟩
  | .hbm, ⟨24, _⟩ => ⟨S8x1024x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]
-- ==== Kernel3.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S1024x5632, .bf16⟩
  | .hbm, ⟨3, _⟩ => ⟨S8192x5632, .bf16⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel4.lean ====
abbrev S8192x5632 : Shape := ⟨2, ![8192, 5632]⟩
abbrev S1024x5632 : Shape := ⟨2, ![1024, 5632]⟩
abbrev S8192x1024 : Shape := ⟨2, ![8192, 1024]⟩
abbrev S1024 : Shape := ⟨1, ![1024]⟩
abbrev S1x1024 : Shape := ⟨2, ![1, 1024]⟩
abbrev S1024x1408 : Shape := ⟨2, ![1024, 1408]⟩
abbrev S1024x1024 : Shape := ⟨2, ![1024, 1024]⟩
abbrev S1024x1 : Shape := ⟨2, ![1024, 1]⟩

abbrev nBuf : Space → Nat
  | .hbm => 12
  | .vmem => 15
  | .smem => 0
  | _ => 0

abbrev bufTy : (tb : Table) → Fin (tcTables nBuf tb) → BufTy
  | .hbm, ⟨0, _⟩ => ⟨S8192x5632, .f32⟩
  | .hbm, ⟨1, _⟩ => ⟨S1024x5632, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x5632, .bf16⟩
  | .hbm, ⟨6, _⟩ => ⟨S1024x5632, .bf16⟩
  | .hbm, ⟨7, _⟩ => ⟨S1x1024, .f32⟩
  | .hbm, ⟨8, _⟩ => ⟨S8192x1024, .f32⟩
  | .hbm, ⟨9, _⟩ => ⟨S1x1024, .f32⟩
  | .hbm, ⟨10, _⟩ => ⟨S1x1024, .f32⟩
  | .hbm, ⟨11, _⟩ => ⟨S1x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_11 : BitVec 32 := 0#32
  let v20 : BitVec 1 := Scalar.cmpi .ne v19 c0_i32_11
  v20

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg2 : BitVec 32 := BitVec.ofNat 32 (i 2).val
  let c0_i32_2 : BitVec 32 := 0#32
  let v4 : BitVec 1 := Scalar.cmpi .eq arg2 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]
-- ==== Reference4Ideal.lean ====
abbrev S8192x5632 : Shape := ⟨2, ![8192, 5632]⟩
abbrev S1024x5632 : Shape := ⟨2, ![1024, 5632]⟩
abbrev S8192x1024 : Shape := ⟨2, ![8192, 1024]⟩
abbrev S1024 : Shape := ⟨1, ![1024]⟩
abbrev S_ : Shape := ⟨0, ![]⟩
abbrev S1x1024 : Shape := ⟨2, ![1, 1024]⟩
abbrev S8192 : Shape := ⟨1, ![8192]⟩
abbrev S8192x1 : Shape := ⟨2, ![8192, 1]⟩

abbrev nBuf : Space → Nat
  | .hbm => 107
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S1024x5632, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S8192x5632, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S1024, .f32⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S8192x1024, .f32⟩
  | .hbm, ⟨73, _⟩ => ⟨S8192x1024, .f32⟩
  | .hbm, ⟨74, _⟩ => ⟨S8192x1, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S8192x1024, .f32⟩
  | .hbm, ⟨91, _⟩ => ⟨S8192x1, .f32⟩
  | .hbm, ⟨92, _⟩ => ⟨S_, .f32⟩
  | .hbm, ⟨93, _⟩ => ⟨S8192x1, .f32⟩
  | .hbm, ⟨94, _⟩ => ⟨S8192x1, .f32⟩
  | .hbm, ⟨95, _⟩ => ⟨S_, .f32⟩
  | .hbm, ⟨96, _⟩ => ⟨S8192, .f32⟩
  | .hbm, ⟨97, _⟩ => ⟨S8192x1024, .f32⟩
  | .hbm, ⟨98, _⟩ => ⟨S8192x1024, .f32⟩
  | .hbm, ⟨99, _⟩ => ⟨S_, .f32⟩
  | .hbm, ⟨100, _⟩ => ⟨S1024, .f32⟩
  | .hbm, ⟨101, _⟩ => ⟨S1x1024, .f32⟩
  | .hbm, ⟨102, _⟩ => ⟨S_, .f32⟩
  | .hbm, ⟨103, _⟩ => ⟨S1024, .f32⟩
  | .hbm, ⟨104, _⟩ => ⟨S1x1024, .f32⟩
  | .hbm, ⟨105, _⟩ => ⟨S1x1024, .f32⟩
  | .hbm, ⟨106, _⟩ => ⟨S1x1024, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_12 : Ref sig .tc := ⟨.hbm, 66, rfl⟩
abbrev main_v48 : Ref sig .tc := ⟨.hbm, 67, rfl⟩
abbrev main_v49 : Ref sig .tc := ⟨.hbm, 68, rfl⟩
abbrev main_cst_13 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_14 : Ref sig .tc := ⟨.hbm, 76, rfl⟩
abbrev main_v56 : Ref sig .tc := ⟨.hbm, 77, rfl⟩
abbrev main_v57 : Ref sig .tc := ⟨.hbm, 78, rfl⟩
abbrev main_cst_15 : Ref sig .tc := ⟨.hbm, 79, rfl⟩
abbrev main_v58 : Ref sig .tc := ⟨.hbm, 80, rfl⟩
abbrev main_v59 : Ref sig .tc := ⟨.hbm, 81, rfl⟩
abbrev main_cst_16 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_17 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_18 : Ref sig .tc := ⟨.hbm, 92, rfl⟩
abbrev main_v68 : Ref sig .tc := ⟨.hbm, 93, rfl⟩
abbrev main_v69 : Ref sig .tc := ⟨.hbm, 94, rfl⟩
abbrev main_cst_19 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_20 : Ref sig .tc := ⟨.hbm, 99, rfl⟩
abbrev main_v73 : Ref sig .tc := ⟨.hbm, 100, rfl⟩
abbrev main_v74 : Ref sig .tc := ⟨.hbm, 101, rfl⟩
abbrev main_cst_21 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩

abbrev nD : Nat := 1
abbrev τ : Topo := Topo.v7x

variable {F : FTy → Type} [FloatOps F]
-- ==== Kernel5.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S2816x1024, .bf16⟩
  | .hbm, ⟨3, _⟩ => ⟨S8192x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S_, .f32⟩
  | .hbm, ⟨3, _⟩ => ⟨S8192x2816, .f32⟩
  | .hbm, ⟨4, _⟩ => ⟨S8192x1024, .f32⟩
  | .hbm, ⟨5, _⟩ => ⟨S8192x2816, .f32⟩
  | .hbm, ⟨6, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S8192x2816 : Shape := ⟨2, ![8192, 2816]⟩
abbrev S8192x1024 : Shape := ⟨2, ![8192, 1024]⟩
abbrev S2816x1024 : Shape := ⟨2, ![2816, 1024]⟩
abbrev S512x1408 : Shape := ⟨2, ![512, 1408]⟩
abbrev S512x1024 : Shape := ⟨2, ![512, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S2816x1024, .bf16⟩
  | .local _ .vmem, ⟨0, _⟩ => ⟨S512x1408, .bf16⟩
  | .local _ .vmem, ⟨1, _⟩ => ⟨S512x1408, .bf16⟩
  | .local _ .vmem, ⟨2, _⟩ => ⟨S512x1024, .f32⟩
  | .local _ .vmem, ⟨3, _⟩ => ⟨S512x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .bf16⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S8192x1024 : Shape := ⟨2, ![8192, 1024]⟩
abbrev S8192x1536 : Shape := ⟨2, ![8192, 1536]⟩
abbrev S1024x1536 : Shape := ⟨2, ![1024, 1536]⟩
abbrev S1x1536 : Shape := ⟨2, ![1, 1536]⟩
abbrev S512x1024 : Shape := ⟨2, ![512, 1024]⟩
abbrev S512x768 : Shape := ⟨2, ![512, 768]⟩
abbrev S1024x768 : Shape := ⟨2, ![1024, 768]⟩
abbrev S1x768 : Shape := ⟨2, ![1, 768]⟩
abbrev S768 : Shape := ⟨1, ![768]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1536, .f32⟩
  | .hbm, ⟨2, _⟩ => ⟨S1024x1536, .bf16⟩
  | .hbm, ⟨3, _⟩ => ⟨S1x1536, .f32⟩
  | .local _ .vmem, ⟨0, _⟩ => ⟨S512x1024, .f32⟩
  | .local _ .vmem, ⟨1, _⟩ => ⟨S512x1024, .f32⟩
  | .local _ .vmem, ⟨2, _⟩ => ⟨S512x768, .f32⟩
  | .local _ .vmem, ⟨3, _⟩ => ⟨S512x768, .f32⟩
  | .local _ .vmem, ⟨4, _⟩ => ⟨S1024x768, .bf16⟩
  | .local _ .vmem, ⟨5, _⟩ => ⟨S1024x768, .bf16⟩
  | .local _ .vmem, ⟨6, _⟩ => ⟨S1x768, .f32⟩
  | .local _ .vmem, ⟨7, _⟩ => ⟨S1x768, .f32⟩
  | .local _ .vmem, ⟨8, _⟩ => ⟨S1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 2, 16], ![false, false, false]⟩

def k0_cond2 (i : grid0.Coords) : BitVec 1 :=
  let arg2 : BitVec 32 := BitVec.ofNat 32 (i 2).val
  let c15_i32 : BitVec 32 := 15#32
  let v19 : BitVec 1 := Scalar.cmpi .eq arg2 c15_i32
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]
-- ==== Reference9Ideal.lean ====
abbrev S8192x1024 : Shape := ⟨2, ![8192, 1024]⟩
abbrev S8192x1536 : Shape := ⟨2, ![8192, 1536]⟩
abbrev S_ : Shape := ⟨0, ![]⟩
abbrev S1024x1536 : Shape := ⟨2, ![1024, 1536]⟩
abbrev S1536 : Shape := ⟨1, ![1536]⟩
abbrev S1x1536 : Shape := ⟨2, ![1, 1536]⟩
abbrev S1536x1024 : Shape := ⟨2, ![1536, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1536, .f32⟩
  | .hbm, ⟨2, _⟩ => ⟨S_, .f32⟩
  | .hbm, ⟨3, _⟩ => ⟨S1024x1536, .f32⟩
  | .hbm, ⟨4, _⟩ => ⟨S_, .f32⟩
  | .hbm, ⟨5, _⟩ => ⟨S1536, .f32⟩
  | .hbm, ⟨6, _⟩ => ⟨S8192x1536, .f32⟩
  | .hbm, ⟨7, _⟩ => ⟨S1x1536, .f32⟩
  | .hbm, ⟨8, _⟩ => ⟨S8192x1536, .f32⟩
  | .hbm, ⟨9, _⟩ => ⟨S8192x1536, .f32⟩
  | .hbm, ⟨10, _⟩ => ⟨S8192x1536, .f32⟩
  | .hbm, ⟨11, _⟩ => ⟨S_, .f32⟩
  | .hbm, ⟨12, _⟩ => ⟨S1536, .f32⟩
  | .hbm, ⟨13, _⟩ => ⟨S1x1536, .f32⟩
  | .hbm, ⟨14, _⟩ => ⟨S_, .f32⟩
  | .hbm, ⟨15, _⟩ => ⟨S1536, .f32⟩
  | .hbm, ⟨16, _⟩ => ⟨S1536x1024, .f32⟩
  | .hbm, ⟨17, _⟩ => ⟨S1024x1536, .f32⟩
  | .hbm, ⟨18, _⟩ => ⟨S1024x1536, .bf16⟩
  | .hbm, ⟨19, _⟩ => ⟨S1x1536, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel10.lean ====
abbrev S8192x1024 : Shape := ⟨2, ![8192, 1024]⟩
abbrev S1024x1536 : Shape := ⟨2, ![1024, 1536]⟩
abbrev S1536 : Shape := ⟨1, ![1536]⟩
abbrev S1x1536 : Shape := ⟨2, ![1, 1536]⟩
abbrev S8192x1536 : Shape := ⟨2, ![8192, 1536]⟩
abbrev S1024x1024 : Shape := ⟨2, ![1024, 1024]⟩
abbrev S1024x768 : Shape := ⟨2, ![1024, 768]⟩
abbrev S1x768 : Shape := ⟨2, ![1, 768]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S1536, .f32⟩
  | .hbm, ⟨3, _⟩ => ⟨S1024x1536, .bf16⟩
  | .hbm, ⟨4, _⟩ => ⟨S1x1536, .f32⟩
  | .hbm, ⟨5, _⟩ => ⟨S8192x1536, .f32⟩
  | .local _ .vmem, ⟨0, _⟩ => ⟨S1024x1024, .f32⟩
  | .local _ .vmem, ⟨1, _⟩ => ⟨S1024x1024, .f32⟩
  | .local _ .vmem, ⟨2, _⟩ => ⟨S1024x768, .bf16⟩
  | .local _ .vmem, ⟨3, _⟩ => ⟨S1024x768, .bf16⟩
  | .local _ .vmem, ⟨4, _⟩ => ⟨S1x768, .f32⟩
  | .local _ .vmem, ⟨5, _⟩ => ⟨S1x768, .f32⟩
  | .local _ .vmem, ⟨6, _⟩ => ⟨S1024x768, .f32⟩
  | .local _ .vmem, ⟨7, _⟩ => ⟨S1024x768, .f32⟩
  | .local _ .vmem, ⟨8, _⟩ => ⟨S1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S8192x1024 : Shape := ⟨2, ![8192, 1024]⟩
abbrev S1024x1536 : Shape := ⟨2, ![1024, 1536]⟩
abbrev S1536 : Shape := ⟨1, ![1536]⟩
abbrev S8192x1536 : Shape := ⟨2, ![8192, 1536]⟩
abbrev S1x1536 : Shape := ⟨2, ![1, 1536]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S1536, .f32⟩
  | .hbm, ⟨3, _⟩ => ⟨S8192x1536, .f32⟩
  | .hbm, ⟨4, _⟩ => ⟨S1x1536, .f32⟩
  | .hbm, ⟨5, _⟩ => ⟨S8192x1536, .f32⟩
  | .hbm, ⟨6, _⟩ => ⟨S8192x1536, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S8192x1536 : Shape := ⟨2, ![8192, 1536]⟩
abbrev S1024x1536 : Shape := ⟨2, ![1024, 1536]⟩
abbrev S8192x1024 : Shape := ⟨2, ![8192, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x1536, .f32⟩
  | .hbm, ⟨1, _⟩ => ⟨S1024x1536, .f32⟩
  | .hbm, ⟨2, _⟩ => ⟨S8192x1024, .f32⟩
  | .hbm, ⟨3, _⟩ => ⟨S1024x1536, .bf16⟩
  | .hbm, ⟨4, _⟩ => ⟨S8192x1024, .f32⟩
  | .local _ .vmem, ⟨0, _⟩ => ⟨S1024x1536, .f32⟩
  | .local _ .vmem, ⟨1, _⟩ => ⟨S1024x1536, .f32⟩
  | .local _ .vmem, ⟨2, _⟩ => ⟨S1024x1536, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S8192x1536 : Shape := ⟨2, ![8192, 1536]⟩
abbrev S1024x1536 : Shape := ⟨2, ![1024, 1536]⟩
abbrev S8192x1024 : Shape := ⟨2, ![8192, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S1024x1536, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S8192x1536, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 13
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S8192x1024, .f32⟩
  | .hbm, ⟨4, _⟩ => ⟨S1024, .f32⟩
  | .hbm, ⟨5, _⟩ => ⟨S1024, .f32⟩
  | .hbm, ⟨6, _⟩ => ⟨S8192x1024, .bf16⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S8192x1024, .f32⟩
  | .hbm, ⟨12, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference12Ideal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S8192 : Shape := ⟨1, ![8192]⟩
abbrev S8192x1 : Shape := ⟨2, ![8192, 1]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S8192x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel13.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S1024x1408 : Shape := ⟨2, ![1024, 1408]⟩
abbrev S1408x1024 : Shape := ⟨2, ![1408, 1024]⟩
abbrev S1024x1024 : Shape := ⟨2, ![1024, 1024]⟩
abbrev S1024x1 : Shape := ⟨2, ![1024, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S8192x2816, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference13Ideal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel14.lean ====
abbrev S8192x1536 : Shape := ⟨2, ![8192, 1536]⟩
abbrev S1024x1536 : Shape := ⟨2, ![1024, 1536]⟩
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 11
  | .vmem => 14
  | .smem => 0
  | _ => 0

abbrev bufTy : (tb : Table) → Fin (tcTables nBuf tb) → BufTy
  | .hbm, ⟨0, _⟩ => ⟨S8192x1536, .f32⟩
  | .hbm, ⟨1, _⟩ => ⟨S1024x1536, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1024x1536, .bf16⟩
  | .hbm, ⟨6, _⟩ => ⟨S1x1024, .f32⟩
  | .hbm, ⟨7, _⟩ => ⟨S8192x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S1024x1536, .f32⟩
  | .local _ .vmem, ⟨1, _⟩ => ⟨S1024x1536, .f32⟩
  | .local _ .vmem, ⟨2, _⟩ => ⟨S1024x1536, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_11 : BitVec 32 := 0#32
  let v18 : BitVec 1 := Scalar.cmpi .eq arg2 c0_i32_11
  let v19 : BitVec 32 := Scalar.extui v18
  let c0_i32_12 : BitVec 32 := 0#32
  let v20 : BitVec 1 := Scalar.cmpi .ne v19 c0_i32_12
  v20

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg2 : BitVec 32 := BitVec.ofNat 32 (i 2).val
  let c0_i32_2 : BitVec 32 := 0#32
  let v4 : BitVec 1 := Scalar.cmpi .eq arg2 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]
-- ==== Reference14Ideal.lean ====
abbrev S8192x1536 : Shape := ⟨2, ![8192, 1536]⟩
abbrev S1024x1536 : Shape := ⟨2, ![1024, 1536]⟩
abbrev S8192x1024 : Shape := ⟨2, ![8192, 1024]⟩
abbrev S1024 : Shape := ⟨1, ![1024]⟩
abbrev S_ : Shape := ⟨0, ![]⟩
abbrev S1x1024 : Shape := ⟨2, ![1, 1024]⟩
abbrev S8192 : Shape := ⟨1, ![8192]⟩
abbrev S8192x1 : Shape := ⟨2, ![8192, 1]⟩

abbrev nBuf : Space → Nat
  | .hbm => 107
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S1024x1536, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S8192x1536, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S1024, .f32⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S8192x1024, .f32⟩
  | .hbm, ⟨73, _⟩ => ⟨S8192x1024, .f32⟩
  | .hbm, ⟨74, _⟩ => ⟨S8192x1, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S8192x1024, .f32⟩
  | .hbm, ⟨91, _⟩ => ⟨S8192x1, .f32⟩
  | .hbm, ⟨92, _⟩ => ⟨S_, .f32⟩
  | .hbm, ⟨93, _⟩ => ⟨S8192x1, .f32⟩
  | .hbm, ⟨94, _⟩ => ⟨S8192x1, .f32⟩
  | .hbm, ⟨95, _⟩ => ⟨S_, .f32⟩
  | .hbm, ⟨96, _⟩ => ⟨S8192, .f32⟩
  | .hbm, ⟨97, _⟩ => ⟨S8192x1024, .f32⟩
  | .hbm, ⟨98, _⟩ => ⟨S8192x1024, .f32⟩
  | .hbm, ⟨99, _⟩ => ⟨S_, .f32⟩
  | .hbm, ⟨100, _⟩ => ⟨S1024, .f32⟩
  | .hbm, ⟨101, _⟩ => ⟨S1x1024, .f32⟩
  | .hbm, ⟨102, _⟩ => ⟨S_, .f32⟩
  | .hbm, ⟨103, _⟩ => ⟨S1024, .f32⟩
  | .hbm, ⟨104, _⟩ => ⟨S1x1024, .f32⟩
  | .hbm, ⟨105, _⟩ => ⟨S1x1024, .f32⟩
  | .hbm, ⟨106, _⟩ => ⟨S1x1024, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_12 : Ref sig .tc := ⟨.hbm, 66, rfl⟩
abbrev main_v48 : Ref sig .tc := ⟨.hbm, 67, rfl⟩
abbrev main_v49 : Ref sig .tc := ⟨.hbm, 68, rfl⟩
abbrev main_cst_13 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_14 : Ref sig .tc := ⟨.hbm, 76, rfl⟩
abbrev main_v56 : Ref sig .tc := ⟨.hbm, 77, rfl⟩
abbrev main_v57 : Ref sig .tc := ⟨.hbm, 78, rfl⟩
abbrev main_cst_15 : Ref sig .tc := ⟨.hbm, 79, rfl⟩
abbrev main_v58 : Ref sig .tc := ⟨.hbm, 80, rfl⟩
abbrev main_v59 : Ref sig .tc := ⟨.hbm, 81, rfl⟩
abbrev main_cst_16 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_17 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_18 : Ref sig .tc := ⟨.hbm, 92, rfl⟩
abbrev main_v68 : Ref sig .tc := ⟨.hbm, 93, rfl⟩
abbrev main_v69 : Ref sig .tc := ⟨.hbm, 94, rfl⟩
abbrev main_cst_19 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_20 : Ref sig .tc := ⟨.hbm, 99, rfl⟩
abbrev main_v73 : Ref sig .tc := ⟨.hbm, 100, rfl⟩
abbrev main_v74 : Ref sig .tc := ⟨.hbm, 101, rfl⟩
abbrev main_cst_21 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩

abbrev nD : Nat := 1
abbrev τ : Topo := Topo.v7x

variable {F : FTy → Type} [FloatOps F]
-- ==== Kernel15.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1x1024, .f32⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference15Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 88
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S_, .f32⟩
  | .hbm, ⟨4, _⟩ => ⟨S1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S_, .f32⟩
  | .hbm, ⟨46, _⟩ => ⟨S1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S8192x1024, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192, .f32⟩
  | .hbm, ⟨84, _⟩ => ⟨S8192x1024, .f32⟩
  | .hbm, ⟨85, _⟩ => ⟨S8192x1024, .f32⟩
  | .hbm, ⟨86, _⟩ => ⟨S1x1024, .f32⟩
  | .hbm, ⟨87, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_10 : Ref sig .tc := ⟨.hbm, 53, rfl⟩
abbrev main_v39 : Ref sig .tc := ⟨.hbm, 54, rfl⟩
abbrev main_v40 : Ref sig .tc := ⟨.hbm, 55, rfl⟩
abbrev main_cst_11 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_cst_13 : Ref sig .tc := ⟨.hbm, 66, rfl⟩
abbrev main_v49 : Ref sig .tc := ⟨.hbm, 67, rfl⟩
abbrev main_v50 : Ref sig .tc := ⟨.hbm, 68, rfl⟩
abbrev main_cst_14 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_15 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_16 : Ref sig .tc := ⟨.hbm, 79, rfl⟩
abbrev main_v59 : Ref sig .tc := ⟨.hbm, 80, rfl⟩
abbrev main_v60 : Ref sig .tc := ⟨.hbm, 81, rfl⟩
abbrev main_cst_17 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== Kernel16.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S8x128 : Shape := ⟨2, ![8, 128]⟩
abbrev S1024x1408 : Shape := ⟨2, ![1024, 1408]⟩
abbrev S1408x1024 : Shape := ⟨2, ![1408, 1024]⟩
abbrev S1024x1024 : Shape := ⟨2, ![1024, 1024]⟩
abbrev S1024x1 : Shape := ⟨2, ![1024, 1]⟩
abbrev S1 : Shape := ⟨1, ![1]⟩
abbrev S1x1 : Shape := ⟨2, ![1, 1]⟩

abbrev nBuf : Space → Nat
  | .hbm => 14
  | .vmem => 16
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S8192x1024, .f32⟩
  | .hbm, ⟨6, _⟩ => ⟨S8192x2816, .bf16⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S1x1024, .f32⟩
  | .hbm, ⟨12, _⟩ => ⟨S1x1024, .f32⟩
  | .hbm, ⟨13, _⟩ => ⟨S8x128, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1x1024, .f32⟩
  | .local _ .vmem, ⟨13, _⟩ => ⟨S1x1024, .f32⟩
  | .local _ .vmem, ⟨14, _⟩ => ⟨S8x128, .f32⟩
  | .local _ .vmem, ⟨15, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v18 : BitVec 1 := Scalar.cmpi .eq arg2 c1_i32
  let v19 : BitVec 32 := Scalar.extui v18
  let c0_i32_11 : BitVec 32 := 0#32
  let v20 : BitVec 1 := Scalar.cmpi .ne v19 c0_i32_11
  v20

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg2 : BitVec 32 := BitVec.ofNat 32 (i 2).val
  let c0_i32_2 : BitVec 32 := 0#32
  let v4 : BitVec 1 := Scalar.cmpi .eq arg2 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]
-- ==== Reference16Ideal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128 : Shape := ⟨2, ![8, 128]⟩

abbrev nBuf : Space → Nat
  | .hbm => 117
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S_, .f32⟩
  | .hbm, ⟨74, _⟩ => ⟨S1024, .f32⟩
  | .hbm, ⟨75, _⟩ => ⟨S8192x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S1024, .f32⟩
  | .hbm, ⟨83, _⟩ => ⟨S8192x1024, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S8192x1024, .f32⟩
  | .hbm, ⟨88, _⟩ => ⟨S8192x1024, .f32⟩
  | .hbm, ⟨89, _⟩ => ⟨S8192x1, .f32⟩
  | .hbm, ⟨90, _⟩ => ⟨S8192x1024, .f32⟩
  | .hbm, ⟨91, _⟩ => ⟨S_, .f32⟩
  | .hbm, ⟨92, _⟩ => ⟨S8192, .f32⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S_, .f32⟩
  | .hbm, ⟨98, _⟩ => ⟨S8192, .f32⟩
  | .hbm, ⟨99, _⟩ => ⟨S8192x1024, .f32⟩
  | .hbm, ⟨100, _⟩ => ⟨S8192x1024, .f32⟩
  | .hbm, ⟨101, _⟩ => ⟨S8192x1024, .f32⟩
  | .hbm, ⟨102, _⟩ => ⟨S_, .f32⟩
  | .hbm, ⟨103, _⟩ => ⟨S8192, .f32⟩
  | .hbm, ⟨104, _⟩ => ⟨S8192x1, .f32⟩
  | .hbm, ⟨105, _⟩ => ⟨S8192x1024, .f32⟩
  | .hbm, ⟨106, _⟩ => ⟨S8192x1, .f32⟩
  | .hbm, ⟨107, _⟩ => ⟨S_, .f32⟩
  | .hbm, ⟨108, _⟩ => ⟨S8192x1, .f32⟩
  | .hbm, ⟨109, _⟩ => ⟨S8192x1, .f32⟩
  | .hbm, ⟨110, _⟩ => ⟨S_, .f32⟩
  | .hbm, ⟨111, _⟩ => ⟨S8192, .f32⟩
  | .hbm, ⟨112, _⟩ => ⟨S8192x1024, .f32⟩
  | .hbm, ⟨113, _⟩ => ⟨S8192x1024, .f32⟩
  | .hbm, ⟨114, _⟩ => ⟨S1x1024, .f32⟩
  | .hbm, ⟨115, _⟩ => ⟨S1x1024, .f32⟩
  | .hbm, ⟨116, _⟩ => ⟨S8x128, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_cst_12 : Ref sig .tc := ⟨.hbm, 61, rfl⟩
abbrev main_cst_13 : Ref sig .tc := ⟨.hbm, 62, rfl⟩
abbrev main_v42 : Ref sig .tc := ⟨.hbm, 63, rfl⟩
abbrev main_v43 : Ref sig .tc := ⟨.hbm, 64, rfl⟩
abbrev main_cst_14 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_15 : Ref sig .tc := ⟨.hbm, 70, rfl⟩
abbrev main_v48 : Ref sig .tc := ⟨.hbm, 71, rfl⟩
abbrev main_v49 : Ref sig .tc := ⟨.hbm, 72, rfl⟩
abbrev main_cst_16 : Ref sig .tc := ⟨.hbm, 73, rfl⟩
abbrev main_v50 : Ref sig .tc := ⟨.hbm, 74, rfl⟩
abbrev main_v51 : Ref sig .tc := ⟨.hbm, 75, rfl⟩
abbrev main_cst_17 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_18 : Ref sig .tc := ⟨.hbm, 81, rfl⟩
abbrev main_v56 : Ref sig .tc := ⟨.hbm, 82, rfl⟩
abbrev main_v57 : Ref sig .tc := ⟨.hbm, 83, rfl⟩
abbrev main_cst_19 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_20 : Ref sig .tc := ⟨.hbm, 91, rfl⟩
abbrev main_v64 : Ref sig .tc := ⟨.hbm, 92, rfl⟩
abbrev main_v65 : Ref sig .tc := ⟨.hbm, 93, rfl⟩
abbrev main_cst_21 : Ref sig .tc := ⟨.hbm, 94, rfl⟩
abbrev main_v66 : Ref sig .tc := ⟨.hbm, 95, rfl⟩
abbrev main_v67 : Ref sig .tc := ⟨.hbm, 96, rfl⟩
abbrev main_cst_22 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_23 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_24 : Ref sig .tc := ⟨.hbm, 107, rfl⟩
abbrev main_v76 : Ref sig .tc := ⟨.hbm, 108, rfl⟩
abbrev main_v77 : Ref sig .tc := ⟨.hbm, 109, rfl⟩
abbrev main_cst_25 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩

abbrev nD : Nat := 1
abbrev τ : Topo := Topo.v7x

variable {F : FTy → Type} [FloatOps F]
-- ==== Kernel17.lean ====
abbrev S8x1024x192 : Shape := ⟨3, ![8, 1024, 192]⟩
abbrev S2x1024x192 : Shape := ⟨3, ![2, 1024, 192]⟩
abbrev S8x256x192 : Shape := ⟨3, ![8, 256, 192]⟩
abbrev S1x256x192 : Shape := ⟨3, ![1, 256, 192]⟩
abbrev S256x192 : Shape := ⟨2, ![256, 192]⟩

abbrev nBuf : Space → Nat
  | .hbm => 13
  | .vmem => 16
  | .smem => 0
  | _ => 0

abbrev bufTy : (tb : Table) → Fin (tcTables nBuf tb) → BufTy
  | .hbm, ⟨0, _⟩ => ⟨S8x1024x192, .f32⟩
  | .hbm, ⟨1, _⟩ => ⟨S2x1024x192, .f32⟩
  | .hbm, ⟨2, _⟩ => ⟨S2x1024x192, .f32⟩
  | .hbm, ⟨3, _⟩ => ⟨S2x1024x192, .f32⟩
  | .hbm, ⟨4, _⟩ => ⟨S2x1024x192, .f32⟩
  | .hbm, ⟨5, _⟩ => ⟨S2x1024x192, .f32⟩
  | .hbm, ⟨6, _⟩ => ⟨S2x1024x192, .f32⟩
  | .hbm, ⟨7, _⟩ => ⟨S2x1024x192, .f32⟩
  | .hbm, ⟨8, _⟩ => ⟨S8x1024x192, .bf16⟩
  | .hbm, ⟨9, _⟩ => ⟨S2x1024x192, .f32⟩
  | .hbm, ⟨10, _⟩ => ⟨S2x1024x192, .f32⟩
  | .hbm, ⟨11, _⟩ => ⟨S2x1024x192, .f32⟩
  | .hbm, ⟨12, _⟩ => ⟨S2x1024x192, .f32⟩
  | .local _ .vmem, ⟨0, _⟩ => ⟨S8x256x192, .bf16⟩
  | .local _ .vmem, ⟨1, _⟩ => ⟨S8x256x192, .bf16⟩
  | .local _ .vmem, ⟨2, _⟩ => ⟨S1x256x192, .f32⟩
  | .local _ .vmem, ⟨3, _⟩ => ⟨S1x256x192, .f32⟩
  | .local _ .vmem, ⟨4, _⟩ => ⟨S1x256x192, .f32⟩
  | .local _ .vmem, ⟨5, _⟩ => ⟨S1x256x192, .f32⟩
  | .local _ .vmem, ⟨6, _⟩ => ⟨S1x256x192, .f32⟩
  | .local _ .vmem, ⟨7, _⟩ => ⟨S1x256x192, .f32⟩
  | .local _ .vmem, ⟨8, _⟩ => ⟨S1x256x192, .f32⟩
  | .local _ .vmem, ⟨9, _⟩ => ⟨S1x256x192, .f32⟩
  | .local _ .vmem, ⟨10, _⟩ => ⟨S1x256x192, .f32⟩
  | .local _ .vmem, ⟨11, _⟩ => ⟨S1x256x192, .f32⟩
  | .local _ .vmem, ⟨12, _⟩ => ⟨S1x256x192, .f32⟩
  | .local _ .vmem, ⟨13, _⟩ => ⟨S1x256x192, .f32⟩
  | .local _ .vmem, ⟨14, _⟩ => ⟨S1x256x192, .f32⟩
  | .local _ .vmem, ⟨15, _⟩ => ⟨S1x256x192, .f32⟩
  | _, _ => ⟨S8x1024x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x256x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference17Ideal.lean ====
abbrev S8x1024x192 : Shape := ⟨3, ![8, 1024, 192]⟩
abbrev S2x1024x192 : Shape := ⟨3, ![2, 1024, 192]⟩
abbrev S_ : Shape := ⟨0, ![]⟩
abbrev S1024x192 : Shape := ⟨2, ![1024, 192]⟩
abbrev S1x1024x192 : Shape := ⟨3, ![1, 1024, 192]⟩

abbrev nBuf : Space → Nat
  | .hbm => 69
  | .vmem => 0
  | .smem => 0
  | _ => 0

abbrev bufTy : (tb : Table) → Fin (tcTables nBuf tb) → BufTy
  | .hbm, ⟨0, _⟩ => ⟨S8x1024x192, .f32⟩
  | .hbm, ⟨1, _⟩ => ⟨S2x1024x192, .f32⟩
  | .hbm, ⟨2, _⟩ => ⟨S2x1024x192, .f32⟩
  | .hbm, ⟨3, _⟩ => ⟨S2x1024x192, .f32⟩
  | .hbm, ⟨4, _⟩ => ⟨S2x1024x192, .f32⟩
  | .hbm, ⟨5, _⟩ => ⟨S2x1024x192, .f32⟩
  | .hbm, ⟨6, _⟩ => ⟨S2x1024x192, .f32⟩
  | .hbm, ⟨7, _⟩ => ⟨S2x1024x192, .f32⟩
  | .hbm, ⟨8, _⟩ => ⟨S_, .f32⟩
  | .hbm, ⟨9, _⟩ => ⟨S1024x192, .f32⟩
  | .hbm, ⟨10, _⟩ => ⟨S1x1024x192, .f32⟩
  | .hbm, ⟨11, _⟩ => ⟨S1024x192, .f32⟩
  | .hbm, ⟨12, _⟩ => ⟨S1x1024x192, .f32⟩
  | .hbm, ⟨13, _⟩ => ⟨S1024x192, .f32⟩
  | .hbm, ⟨14, _⟩ => ⟨S1x1024x192, .f32⟩
  | .hbm, ⟨15, _⟩ => ⟨S1024x192, .f32⟩
  | .hbm, ⟨16, _⟩ => ⟨S_, .f32⟩
  | .hbm, ⟨17, _⟩ => ⟨S1024x192, .f32⟩
  | .hbm, ⟨18, _⟩ => ⟨S1024x192, .f32⟩
  | .hbm, ⟨19, _⟩ => ⟨S_, .f32⟩
  | .hbm, ⟨20, _⟩ => ⟨S1024x192, .f32⟩
  | .hbm, ⟨21, _⟩ => ⟨S1024x192, .f32⟩
  | .hbm, ⟨22, _⟩ => ⟨S1024x192, .f32⟩
  | .hbm, ⟨23, _⟩ => ⟨S_, .f32⟩
  | .hbm, ⟨24, _⟩ => ⟨S1024x192, .f32⟩
  | .hbm, ⟨25, _⟩ => ⟨S1024x192, .f32⟩
  | .hbm, ⟨26, _⟩ => ⟨S1024x192, .f32⟩
  | .hbm, ⟨27, _⟩ => ⟨S_, .f32⟩
  | .hbm, ⟨28, _⟩ => ⟨S1024x192, .f32⟩
  | .hbm, ⟨29, _⟩ => ⟨S1024x192, .f32⟩
  | .hbm, ⟨30, _⟩ => ⟨S1024x192, .f32⟩
  | .hbm, ⟨31, _⟩ => ⟨S_, .f32⟩
  | .hbm, ⟨32, _⟩ => ⟨S1024x192, .f32⟩
  | .hbm, ⟨33, _⟩ => ⟨S1024x192, .f32⟩
  | .hbm, ⟨34, _⟩ => ⟨S_, .f32⟩
  | .hbm, ⟨35, _⟩ => ⟨S1024x192, .f32⟩
  | .hbm, ⟨36, _⟩ => ⟨S1024x192, .f32⟩
  | .hbm, ⟨37, _⟩ => ⟨S1024x192, .f32⟩
  | .hbm, ⟨38, _⟩ => ⟨S_, .f32⟩
  | .hbm, ⟨39, _⟩ => ⟨S1024x192, .f32⟩
  | .hbm, ⟨40, _⟩ => ⟨S1024x192, .f32⟩
  | .hbm, ⟨41, _⟩ => ⟨S1024x192, .f32⟩
  | .hbm, ⟨42, _⟩ => ⟨S_, .f32⟩
  | .hbm, ⟨43, _⟩ => ⟨S1024x192, .f32⟩
  | .hbm, ⟨44, _⟩ => ⟨S1024x192, .f32⟩
  | .hbm, ⟨45, _⟩ => ⟨S1024x192, .f32⟩
  | .hbm, ⟨46, _⟩ => ⟨S_, .f32⟩
  | .hbm, ⟨47, _⟩ => ⟨S1024x192, .f32⟩
  | .hbm, ⟨48, _⟩ => ⟨S1024x192, .f32⟩
  | .hbm, ⟨49, _⟩ => ⟨S1x1024x192, .f32⟩
  | .hbm, ⟨50, _⟩ => ⟨S1024x192, .f32⟩
  | .hbm, ⟨51, _⟩ => ⟨S1x1024x192, .f32⟩
  | .hbm, ⟨52, _⟩ => ⟨S1x1024x192, .f32⟩
  | .hbm, ⟨53, _⟩ => ⟨S2x1024x192, .f32⟩
  | .hbm, ⟨54, _⟩ => ⟨S1x1024x192, .f32⟩
  | .hbm, ⟨55, _⟩ => ⟨S1024x192, .f32⟩
  | .hbm, ⟨56, _⟩ => ⟨S1x1024x192, .f32⟩
  | .hbm, ⟨57, _⟩ => ⟨S1x1024x192, .f32⟩
  | .hbm, ⟨58, _⟩ => ⟨S2x1024x192, .f32⟩
  | .hbm, ⟨59, _⟩ => ⟨S1x1024x192, .f32⟩
  | .hbm, ⟨60, _⟩ => ⟨S1024x192, .f32⟩
  | .hbm, ⟨61, _⟩ => ⟨S1x1024x192, .f32⟩
  | .hbm, ⟨62, _⟩ => ⟨S1x1024x192, .f32⟩
  | .hbm, ⟨63, _⟩ => ⟨S2x1024x192, .f32⟩
  | .hbm, ⟨64, _⟩ => ⟨S1x1024x192, .f32⟩
  | .hbm, ⟨65, _⟩ => ⟨S1024x192, .f32⟩
  | .hbm, ⟨66, _⟩ => ⟨S1x1024x192, .f32⟩
  | .hbm, ⟨67, _⟩ => ⟨S1x1024x192, .f32⟩
  | .hbm, ⟨68, _⟩ => ⟨S2x1024x192, .f32⟩
  | _, _ => ⟨S8x1024x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Kernel18.lean ====
abbrev S8x128x512 : Shape := ⟨3, ![8, 128, 512]⟩
abbrev S2x128x512 : Shape := ⟨3, ![2, 128, 512]⟩
abbrev S1x128x512 : Shape := ⟨3, ![1, 128, 512]⟩
abbrev S128x512 : Shape := ⟨2, ![128, 512]⟩

abbrev nBuf : Space → Nat
  | .hbm => 13
  | .vmem => 8
  | .smem => 0
  | _ => 0

abbrev bufTy : (tb : Table) → Fin (tcTables nBuf tb) → BufTy
  | .hbm, ⟨0, _⟩ => ⟨S8x128x512, .f32⟩
  | .hbm, ⟨1, _⟩ => ⟨S2x128x512, .f32⟩
  | .hbm, ⟨2, _⟩ => ⟨S2x128x512, .f32⟩
  | .hbm, ⟨3, _⟩ => ⟨S2x128x512, .f32⟩
  | .hbm, ⟨4, _⟩ => ⟨S2x128x512, .f32⟩
  | .hbm, ⟨5, _⟩ => ⟨S2x128x512, .f32⟩
  | .hbm, ⟨6, _⟩ => ⟨S2x128x512, .f32⟩
  | .hbm, ⟨7, _⟩ => ⟨S2x128x512, .f32⟩
  | .hbm, ⟨8, _⟩ => ⟨S8x128x512, .bf16⟩
  | .hbm, ⟨9, _⟩ => ⟨S2x128x512, .f32⟩
  | .hbm, ⟨10, _⟩ => ⟨S2x128x512, .f32⟩
  | .hbm, ⟨11, _⟩ => ⟨S2x128x512, .f32⟩
  | .hbm, ⟨12, _⟩ => ⟨S2x128x512, .f32⟩
  | .local _ .vmem, ⟨0, _⟩ => ⟨S8x128x512, .bf16⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | _, _ => ⟨S8x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S8x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference18Ideal.lean ====
abbrev S8x128x512 : Shape := ⟨3, ![8, 128, 512]⟩
abbrev S2x128x512 : Shape := ⟨3, ![2, 128, 512]⟩
abbrev S_ : Shape := ⟨0, ![]⟩
abbrev S128x512 : Shape := ⟨2, ![128, 512]⟩
abbrev S1x128x512 : Shape := ⟨3, ![1, 128, 512]⟩

abbrev nBuf : Space → Nat
  | .hbm => 69
  | .vmem => 0
  | .smem => 0
  | _ => 0

abbrev bufTy : (tb : Table) → Fin (tcTables nBuf tb) → BufTy
  | .hbm, ⟨0, _⟩ => ⟨S8x128x512, .f32⟩
  | .hbm, ⟨1, _⟩ => ⟨S2x128x512, .f32⟩
  | .hbm, ⟨2, _⟩ => ⟨S2x128x512, .f32⟩
  | .hbm, ⟨3, _⟩ => ⟨S2x128x512, .f32⟩
  | .hbm, ⟨4, _⟩ => ⟨S2x128x512, .f32⟩
  | .hbm, ⟨5, _⟩ => ⟨S2x128x512, .f32⟩
  | .hbm, ⟨6, _⟩ => ⟨S2x128x512, .f32⟩
  | .hbm, ⟨7, _⟩ => ⟨S2x128x512, .f32⟩
  | .hbm, ⟨8, _⟩ => ⟨S_, .f32⟩
  | .hbm, ⟨9, _⟩ => ⟨S128x512, .f32⟩
  | .hbm, ⟨10, _⟩ => ⟨S1x128x512, .f32⟩
  | .hbm, ⟨11, _⟩ => ⟨S128x512, .f32⟩
  | .hbm, ⟨12, _⟩ => ⟨S1x128x512, .f32⟩
  | .hbm, ⟨13, _⟩ => ⟨S128x512, .f32⟩
  | .hbm, ⟨14, _⟩ => ⟨S1x128x512, .f32⟩
  | .hbm, ⟨15, _⟩ => ⟨S128x512, .f32⟩
  | .hbm, ⟨16, _⟩ => ⟨S_, .f32⟩
  | .hbm, ⟨17, _⟩ => ⟨S128x512, .f32⟩
  | .hbm, ⟨18, _⟩ => ⟨S128x512, .f32⟩
  | .hbm, ⟨19, _⟩ => ⟨S_, .f32⟩
  | .hbm, ⟨20, _⟩ => ⟨S128x512, .f32⟩
  | .hbm, ⟨21, _⟩ => ⟨S128x512, .f32⟩
  | .hbm, ⟨22, _⟩ => ⟨S128x512, .f32⟩
  | .hbm, ⟨23, _⟩ => ⟨S_, .f32⟩
  | .hbm, ⟨24, _⟩ => ⟨S128x512, .f32⟩
  | .hbm, ⟨25, _⟩ => ⟨S128x512, .f32⟩
  | .hbm, ⟨26, _⟩ => ⟨S128x512, .f32⟩
  | .hbm, ⟨27, _⟩ => ⟨S_, .f32⟩
  | .hbm, ⟨28, _⟩ => ⟨S128x512, .f32⟩
  | .hbm, ⟨29, _⟩ => ⟨S128x512, .f32⟩
  | .hbm, ⟨30, _⟩ => ⟨S128x512, .f32⟩
  | .hbm, ⟨31, _⟩ => ⟨S_, .f32⟩
  | .hbm, ⟨32, _⟩ => ⟨S128x512, .f32⟩
  | .hbm, ⟨33, _⟩ => ⟨S128x512, .f32⟩
  | .hbm, ⟨34, _⟩ => ⟨S_, .f32⟩
  | .hbm, ⟨35, _⟩ => ⟨S128x512, .f32⟩
  | .hbm, ⟨36, _⟩ => ⟨S128x512, .f32⟩
  | .hbm, ⟨37, _⟩ => ⟨S128x512, .f32⟩
  | .hbm, ⟨38, _⟩ => ⟨S_, .f32⟩
  | .hbm, ⟨39, _⟩ => ⟨S128x512, .f32⟩
  | .hbm, ⟨40, _⟩ => ⟨S128x512, .f32⟩
  | .hbm, ⟨41, _⟩ => ⟨S128x512, .f32⟩
  | .hbm, ⟨42, _⟩ => ⟨S_, .f32⟩
  | .hbm, ⟨43, _⟩ => ⟨S128x512, .f32⟩
  | .hbm, ⟨44, _⟩ => ⟨S128x512, .f32⟩
  | .hbm, ⟨45, _⟩ => ⟨S128x512, .f32⟩
  | .hbm, ⟨46, _⟩ => ⟨S_, .f32⟩
  | .hbm, ⟨47, _⟩ => ⟨S128x512, .f32⟩
  | .hbm, ⟨48, _⟩ => ⟨S128x512, .f32⟩
  | .hbm, ⟨49, _⟩ => ⟨S1x128x512, .f32⟩
  | .hbm, ⟨50, _⟩ => ⟨S128x512, .f32⟩
  | .hbm, ⟨51, _⟩ => ⟨S1x128x512, .f32⟩
  | .hbm, ⟨52, _⟩ => ⟨S1x128x512, .f32⟩
  | .hbm, ⟨53, _⟩ => ⟨S2x128x512, .f32⟩
  | .hbm, ⟨54, _⟩ => ⟨S1x128x512, .f32⟩
  | .hbm, ⟨55, _⟩ => ⟨S128x512, .f32⟩
  | .hbm, ⟨56, _⟩ => ⟨S1x128x512, .f32⟩
  | .hbm, ⟨57, _⟩ => ⟨S1x128x512, .f32⟩
  | .hbm, ⟨58, _⟩ => ⟨S2x128x512, .f32⟩
  | .hbm, ⟨59, _⟩ => ⟨S1x128x512, .f32⟩
  | .hbm, ⟨60, _⟩ => ⟨S128x512, .f32⟩
  | .hbm, ⟨61, _⟩ => ⟨S1x128x512, .f32⟩
  | .hbm, ⟨62, _⟩ => ⟨S1x128x512, .f32⟩
  | .hbm, ⟨63, _⟩ => ⟨S2x128x512, .f32⟩
  | .hbm, ⟨64, _⟩ => ⟨S1x128x512, .f32⟩
  | .hbm, ⟨65, _⟩ => ⟨S128x512, .f32⟩
  | .hbm, ⟨66, _⟩ => ⟨S1x128x512, .f32⟩
  | .hbm, ⟨67, _⟩ => ⟨S1x128x512, .f32⟩
  | .hbm, ⟨68, _⟩ => ⟨S2x128x512, .f32⟩
  | _, _ => ⟨S8x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Kernel19.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 13
  | .vmem => 8
  | .smem => 0
  | _ => 0

abbrev bufTy : (tb : Table) → Fin (tcTables nBuf tb) → BufTy
  | .hbm, ⟨0, _⟩ => ⟨S8x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S8x128x1024, .bf16⟩
  | .hbm, ⟨9, _⟩ => ⟨S2x128x1024, .f32⟩
  | .hbm, ⟨10, _⟩ => ⟨S2x128x1024, .f32⟩
  | .hbm, ⟨11, _⟩ => ⟨S2x128x1024, .f32⟩
  | .hbm, ⟨12, _⟩ => ⟨S2x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference19Ideal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 69
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S_, .f32⟩
  | .hbm, ⟨9, _⟩ => ⟨S128x1024, .f32⟩
  | .hbm, ⟨10, _⟩ => ⟨S1x128x1024, .f32⟩
  | .hbm, ⟨11, _⟩ => ⟨S128x1024, .f32⟩
  | .hbm, ⟨12, _⟩ => ⟨S1x128x1024, .f32⟩
  | .hbm, ⟨13, _⟩ => ⟨S128x1024, .f32⟩
  | .hbm, ⟨14, _⟩ => ⟨S1x128x1024, .f32⟩
  | .hbm, ⟨15, _⟩ => ⟨S128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S_, .f32⟩
  | .hbm, ⟨43, _⟩ => ⟨S128x1024, .f32⟩
  | .hbm, ⟨44, _⟩ => ⟨S128x1024, .f32⟩
  | .hbm, ⟨45, _⟩ => ⟨S128x1024, .f32⟩
  | .hbm, ⟨46, _⟩ => ⟨S_, .f32⟩
  | .hbm, ⟨47, _⟩ => ⟨S128x1024, .f32⟩
  | .hbm, ⟨48, _⟩ => ⟨S128x1024, .f32⟩
  | .hbm, ⟨49, _⟩ => ⟨S1x128x1024, .f32⟩
  | .hbm, ⟨50, _⟩ => ⟨S128x1024, .f32⟩
  | .hbm, ⟨51, _⟩ => ⟨S1x128x1024, .f32⟩
  | .hbm, ⟨52, _⟩ => ⟨S1x128x1024, .f32⟩
  | .hbm, ⟨53, _⟩ => ⟨S2x128x1024, .f32⟩
  | .hbm, ⟨54, _⟩ => ⟨S1x128x1024, .f32⟩
  | .hbm, ⟨55, _⟩ => ⟨S128x1024, .f32⟩
  | .hbm, ⟨56, _⟩ => ⟨S1x128x1024, .f32⟩
  | .hbm, ⟨57, _⟩ => ⟨S1x128x1024, .f32⟩
  | .hbm, ⟨58, _⟩ => ⟨S2x128x1024, .f32⟩
  | .hbm, ⟨59, _⟩ => ⟨S1x128x1024, .f32⟩
  | .hbm, ⟨60, _⟩ => ⟨S128x1024, .f32⟩
  | .hbm, ⟨61, _⟩ => ⟨S1x128x1024, .f32⟩
  | .hbm, ⟨62, _⟩ => ⟨S1x128x1024, .f32⟩
  | .hbm, ⟨63, _⟩ => ⟨S2x128x1024, .f32⟩
  | .hbm, ⟨64, _⟩ => ⟨S1x128x1024, .f32⟩
  | .hbm, ⟨65, _⟩ => ⟨S128x1024, .f32⟩
  | .hbm, ⟨66, _⟩ => ⟨S1x128x1024, .f32⟩
  | .hbm, ⟨67, _⟩ => ⟨S1x128x1024, .f32⟩
  | .hbm, ⟨68, _⟩ => ⟨S2x128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Kernel20.lean ====
abbrev S8x1024x704 : Shape := ⟨3, ![8, 1024, 704]⟩
abbrev S2x1024x704 : Shape := ⟨3, ![2, 1024, 704]⟩
abbrev S8x256x704 : Shape := ⟨3, ![8, 256, 704]⟩
abbrev S1x256x704 : Shape := ⟨3, ![1, 256, 704]⟩
abbrev S256x704 : Shape := ⟨2, ![256, 704]⟩

abbrev nBuf : Space → Nat
  | .hbm => 13
  | .vmem => 16
  | .smem => 0
  | _ => 0

abbrev bufTy : (tb : Table) → Fin (tcTables nBuf tb) → BufTy
  | .hbm, ⟨0, _⟩ => ⟨S8x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S2x1024x704, .f32⟩
  | .hbm, ⟨6, _⟩ => ⟨S2x1024x704, .f32⟩
  | .hbm, ⟨7, _⟩ => ⟨S2x1024x704, .f32⟩
  | .hbm, ⟨8, _⟩ => ⟨S8x1024x704, .bf16⟩
  | .hbm, ⟨9, _⟩ => ⟨S2x1024x704, .f32⟩
  | .hbm, ⟨10, _⟩ => ⟨S2x1024x704, .f32⟩
  | .hbm, ⟨11, _⟩ => ⟨S2x1024x704, .f32⟩
  | .hbm, ⟨12, _⟩ => ⟨S2x1024x704, .f32⟩
  | .local _ .vmem, ⟨0, _⟩ => ⟨S8x256x704, .bf16⟩
  | .local _ .vmem, ⟨1, _⟩ => ⟨S8x256x704, .bf16⟩
  | .local _ .vmem, ⟨2, _⟩ => ⟨S1x256x704, .f32⟩
  | .local _ .vmem, ⟨3, _⟩ => ⟨S1x256x704, .f32⟩
  | .local _ .vmem, ⟨4, _⟩ => ⟨S1x256x704, .f32⟩
  | .local _ .vmem, ⟨5, _⟩ => ⟨S1x256x704, .f32⟩
  | .local _ .vmem, ⟨6, _⟩ => ⟨S1x256x704, .f32⟩
  | .local _ .vmem, ⟨7, _⟩ => ⟨S1x256x704, .f32⟩
  | .local _ .vmem, ⟨8, _⟩ => ⟨S1x256x704, .f32⟩
  | .local _ .vmem, ⟨9, _⟩ => ⟨S1x256x704, .f32⟩
  | .local _ .vmem, ⟨10, _⟩ => ⟨S1x256x704, .f32⟩
  | .local _ .vmem, ⟨11, _⟩ => ⟨S1x256x704, .f32⟩
  | .local _ .vmem, ⟨12, _⟩ => ⟨S1x256x704, .f32⟩
  | .local _ .vmem, ⟨13, _⟩ => ⟨S1x256x704, .f32⟩
  | .local _ .vmem, ⟨14, _⟩ => ⟨S1x256x704, .f32⟩
  | .local _ .vmem, ⟨15, _⟩ => ⟨S1x256x704, .f32⟩
  | _, _ => ⟨S8x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S8x1024x704 : Shape := ⟨3, ![8, 1024, 704]⟩
abbrev S2x1024x704 : Shape := ⟨3, ![2, 1024, 704]⟩
abbrev S_ : Shape := ⟨0, ![]⟩
abbrev S1024x704 : Shape := ⟨2, ![1024, 704]⟩
abbrev S1x1024x704 : Shape := ⟨3, ![1, 1024, 704]⟩

abbrev nBuf : Space → Nat
  | .hbm => 69
  | .vmem => 0
  | .smem => 0
  | _ => 0

abbrev bufTy : (tb : Table) → Fin (tcTables nBuf tb) → BufTy
  | .hbm, ⟨0, _⟩ => ⟨S8x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S2x1024x704, .f32⟩
  | .hbm, ⟨6, _⟩ => ⟨S2x1024x704, .f32⟩
  | .hbm, ⟨7, _⟩ => ⟨S2x1024x704, .f32⟩
  | .hbm, ⟨8, _⟩ => ⟨S_, .f32⟩
  | .hbm, ⟨9, _⟩ => ⟨S1024x704, .f32⟩
  | .hbm, ⟨10, _⟩ => ⟨S1x1024x704, .f32⟩
  | .hbm, ⟨11, _⟩ => ⟨S1024x704, .f32⟩
  | .hbm, ⟨12, _⟩ => ⟨S1x1024x704, .f32⟩
  | .hbm, ⟨13, _⟩ => ⟨S1024x704, .f32⟩
  | .hbm, ⟨14, _⟩ => ⟨S1x1024x704, .f32⟩
  | .hbm, ⟨15, _⟩ => ⟨S1024x704, .f32⟩
  | .hbm, ⟨16, _⟩ => ⟨S_, .f32⟩
  | .hbm, ⟨17, _⟩ => ⟨S1024x704, .f32⟩
  | .hbm, ⟨18, _⟩ => ⟨S1024x704, .f32⟩
  | .hbm, ⟨19, _⟩ => ⟨S_, .f32⟩
  | .hbm, ⟨20, _⟩ => ⟨S1024x704, .f32⟩
  | .hbm, ⟨21, _⟩ => ⟨S1024x704, .f32⟩
  | .hbm, ⟨22, _⟩ => ⟨S1024x704, .f32⟩
  | .hbm, ⟨23, _⟩ => ⟨S_, .f32⟩
  | .hbm, ⟨24, _⟩ => ⟨S1024x704, .f32⟩
  | .hbm, ⟨25, _⟩ => ⟨S1024x704, .f32⟩
  | .hbm, ⟨26, _⟩ => ⟨S1024x704, .f32⟩
  | .hbm, ⟨27, _⟩ => ⟨S_, .f32⟩
  | .hbm, ⟨28, _⟩ => ⟨S1024x704, .f32⟩
  | .hbm, ⟨29, _⟩ => ⟨S1024x704, .f32⟩
  | .hbm, ⟨30, _⟩ => ⟨S1024x704, .f32⟩
  | .hbm, ⟨31, _⟩ => ⟨S_, .f32⟩
  | .hbm, ⟨32, _⟩ => ⟨S1024x704, .f32⟩
  | .hbm, ⟨33, _⟩ => ⟨S1024x704, .f32⟩
  | .hbm, ⟨34, _⟩ => ⟨S_, .f32⟩
  | .hbm, ⟨35, _⟩ => ⟨S1024x704, .f32⟩
  | .hbm, ⟨36, _⟩ => ⟨S1024x704, .f32⟩
  | .hbm, ⟨37, _⟩ => ⟨S1024x704, .f32⟩
  | .hbm, ⟨38, _⟩ => ⟨S_, .f32⟩
  | .hbm, ⟨39, _⟩ => ⟨S1024x704, .f32⟩
  | .hbm, ⟨40, _⟩ => ⟨S1024x704, .f32⟩
  | .hbm, ⟨41, _⟩ => ⟨S1024x704, .f32⟩
  | .hbm, ⟨42, _⟩ => ⟨S_, .f32⟩
  | .hbm, ⟨43, _⟩ => ⟨S1024x704, .f32⟩
  | .hbm, ⟨44, _⟩ => ⟨S1024x704, .f32⟩
  | .hbm, ⟨45, _⟩ => ⟨S1024x704, .f32⟩
  | .hbm, ⟨46, _⟩ => ⟨S_, .f32⟩
  | .hbm, ⟨47, _⟩ => ⟨S1024x704, .f32⟩
  | .hbm, ⟨48, _⟩ => ⟨S1024x704, .f32⟩
  | .hbm, ⟨49, _⟩ => ⟨S1x1024x704, .f32⟩
  | .hbm, ⟨50, _⟩ => ⟨S1024x704, .f32⟩
  | .hbm, ⟨51, _⟩ => ⟨S1x1024x704, .f32⟩
  | .hbm, ⟨52, _⟩ => ⟨S1x1024x704, .f32⟩
  | .hbm, ⟨53, _⟩ => ⟨S2x1024x704, .f32⟩
  | .hbm, ⟨54, _⟩ => ⟨S1x1024x704, .f32⟩
  | .hbm, ⟨55, _⟩ => ⟨S1024x704, .f32⟩
  | .hbm, ⟨56, _⟩ => ⟨S1x1024x704, .f32⟩
  | .hbm, ⟨57, _⟩ => ⟨S1x1024x704, .f32⟩
  | .hbm, ⟨58, _⟩ => ⟨S2x1024x704, .f32⟩
  | .hbm, ⟨59, _⟩ => ⟨S1x1024x704, .f32⟩
  | .hbm, ⟨60, _⟩ => ⟨S1024x704, .f32⟩
  | .hbm, ⟨61, _⟩ => ⟨S1x1024x704, .f32⟩
  | .hbm, ⟨62, _⟩ => ⟨S1x1024x704, .f32⟩
  | .hbm, ⟨63, _⟩ => ⟨S2x1024x704, .f32⟩
  | .hbm, ⟨64, _⟩ => ⟨S1x1024x704, .f32⟩
  | .hbm, ⟨65, _⟩ => ⟨S1024x704, .f32⟩
  | .hbm, ⟨66, _⟩ => ⟨S1x1024x704, .f32⟩
  | .hbm, ⟨67, _⟩ => ⟨S1x1024x704, .f32⟩
  | .hbm, ⟨68, _⟩ => ⟨S2x1024x704, .f32⟩
  | _, _ => ⟨S8x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Kernel21.lean ====
abbrev S8x352x1024 : Shape := ⟨3, ![8, 352, 1024]⟩
abbrev S2x352x1024 : Shape := ⟨3, ![2, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 13
  | .vmem => 16
  | .smem => 0
  | _ => 0

abbrev bufTy : (tb : Table) → Fin (tcTables nBuf tb) → BufTy
  | .hbm, ⟨0, _⟩ => ⟨S8x352x1024, .f32⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S8x352x1024, .bf16⟩
  | .hbm, ⟨9, _⟩ => ⟨S2x352x1024, .f32⟩
  | .hbm, ⟨10, _⟩ => ⟨S2x352x1024, .f32⟩
  | .hbm, ⟨11, _⟩ => ⟨S2x352x1024, .f32⟩
  | .hbm, ⟨12, _⟩ => ⟨S2x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S8x352x1024 : Shape := ⟨3, ![8, 352, 1024]⟩
abbrev S2x352x1024 : Shape := ⟨3, ![2, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 69
  | .vmem => 0
  | .smem => 0
  | _ => 0

abbrev bufTy : (tb : Table) → Fin (tcTables nBuf tb) → BufTy
  | .hbm, ⟨0, _⟩ => ⟨S8x352x1024, .f32⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S_, .f32⟩
  | .hbm, ⟨9, _⟩ => ⟨S352x1024, .f32⟩
  | .hbm, ⟨10, _⟩ => ⟨S1x352x1024, .f32⟩
  | .hbm, ⟨11, _⟩ => ⟨S352x1024, .f32⟩
  | .hbm, ⟨12, _⟩ => ⟨S1x352x1024, .f32⟩
  | .hbm, ⟨13, _⟩ => ⟨S352x1024, .f32⟩
  | .hbm, ⟨14, _⟩ => ⟨S1x352x1024, .f32⟩
  | .hbm, ⟨15, _⟩ => ⟨S352x1024, .f32⟩
  | .hbm, ⟨16, _⟩ => ⟨S_, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S352x1024, .f32⟩
  | .hbm, ⟨23, _⟩ => ⟨S_, .f32⟩
  | .hbm, ⟨24, _⟩ => ⟨S352x1024, .f32⟩
  | .hbm, ⟨25, _⟩ => ⟨S352x1024, .f32⟩
  | .hbm, ⟨26, _⟩ => ⟨S352x1024, .f32⟩
  | .hbm, ⟨27, _⟩ => ⟨S_, .f32⟩
  | .hbm, ⟨28, _⟩ => ⟨S352x1024, .f32⟩
  | .hbm, ⟨29, _⟩ => ⟨S352x1024, .f32⟩
  | .hbm, ⟨30, _⟩ => ⟨S352x1024, .f32⟩
  | .hbm, ⟨31, _⟩ => ⟨S_, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | .hbm, ⟨37, _⟩ => ⟨S352x1024, .f32⟩
  | .hbm, ⟨38, _⟩ => ⟨S_, .f32⟩
  | .hbm, ⟨39, _⟩ => ⟨S352x1024, .f32⟩
  | .hbm, ⟨40, _⟩ => ⟨S352x1024, .f32⟩
  | .hbm, ⟨41, _⟩ => ⟨S352x1024, .f32⟩
  | .hbm, ⟨42, _⟩ => ⟨S_, .f32⟩
  | .hbm, ⟨43, _⟩ => ⟨S352x1024, .f32⟩
  | .hbm, ⟨44, _⟩ => ⟨S352x1024, .f32⟩
  | .hbm, ⟨45, _⟩ => ⟨S352x1024, .f32⟩
  | .hbm, ⟨46, _⟩ => ⟨S_, .f32⟩
  | .hbm, ⟨47, _⟩ => ⟨S352x1024, .f32⟩
  | .hbm, ⟨48, _⟩ => ⟨S352x1024, .f32⟩
  | .hbm, ⟨49, _⟩ => ⟨S1x352x1024, .f32⟩
  | .hbm, ⟨50, _⟩ => ⟨S352x1024, .f32⟩
  | .hbm, ⟨51, _⟩ => ⟨S1x352x1024, .f32⟩
  | .hbm, ⟨52, _⟩ => ⟨S1x352x1024, .f32⟩
  | .hbm, ⟨53, _⟩ => ⟨S2x352x1024, .f32⟩
  | .hbm, ⟨54, _⟩ => ⟨S1x352x1024, .f32⟩
  | .hbm, ⟨55, _⟩ => ⟨S352x1024, .f32⟩
  | .hbm, ⟨56, _⟩ => ⟨S1x352x1024, .f32⟩
  | .hbm, ⟨57, _⟩ => ⟨S1x352x1024, .f32⟩
  | .hbm, ⟨58, _⟩ => ⟨S2x352x1024, .f32⟩
  | .hbm, ⟨59, _⟩ => ⟨S1x352x1024, .f32⟩
  | .hbm, ⟨60, _⟩ => ⟨S352x1024, .f32⟩
  | .hbm, ⟨61, _⟩ => ⟨S1x352x1024, .f32⟩
  | .hbm, ⟨62, _⟩ => ⟨S1x352x1024, .f32⟩
  | .hbm, ⟨63, _⟩ => ⟨S2x352x1024, .f32⟩
  | .hbm, ⟨64, _⟩ => ⟨S1x352x1024, .f32⟩
  | .hbm, ⟨65, _⟩ => ⟨S352x1024, .f32⟩
  | .hbm, ⟨66, _⟩ => ⟨S1x352x1024, .f32⟩
  | .hbm, ⟨67, _⟩ => ⟨S1x352x1024, .f32⟩
  | .hbm, ⟨68, _⟩ => ⟨S2x352x1024, .f32⟩
  | _, _ => ⟨S8x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Kernel22.lean ====
abbrev S8x48x1024 : Shape := ⟨3, ![8, 48, 1024]⟩
abbrev S48x1024 : Shape := ⟨2, ![48, 1024]⟩
abbrev S1x48x1024 : Shape := ⟨3, ![1, 48, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x48x1024, .f32⟩
  | .hbm, ⟨1, _⟩ => ⟨S48x1024, .f32⟩
  | .hbm, ⟨2, _⟩ => ⟨S48x1024, .f32⟩
  | .hbm, ⟨3, _⟩ => ⟨S48x1024, .f32⟩
  | .hbm, ⟨4, _⟩ => ⟨S48x1024, .f32⟩
  | .hbm, ⟨5, _⟩ => ⟨S48x1024, .f32⟩
  | .hbm, ⟨6, _⟩ => ⟨S48x1024, .f32⟩
  | .hbm, ⟨7, _⟩ => ⟨S48x1024, .f32⟩
  | .local _ .vmem, ⟨0, _⟩ => ⟨S8x48x1024, .f32⟩
  | .local _ .vmem, ⟨1, _⟩ => ⟨S48x1024, .f32⟩
  | .local _ .vmem, ⟨2, _⟩ => ⟨S48x1024, .f32⟩
  | .local _ .vmem, ⟨3, _⟩ => ⟨S48x1024, .f32⟩
  | .local _ .vmem, ⟨4, _⟩ => ⟨S48x1024, .f32⟩
  | .local _ .vmem, ⟨5, _⟩ => ⟨S48x1024, .f32⟩
  | .local _ .vmem, ⟨6, _⟩ => ⟨S48x1024, .f32⟩
  | .local _ .vmem, ⟨7, _⟩ => ⟨S48x1024, .f32⟩
  | _, _ => ⟨S8x48x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S48x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S48x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S48x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S48x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S48x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S48x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S48x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference22Ideal.lean ====
abbrev S8x48x1024 : Shape := ⟨3, ![8, 48, 1024]⟩
abbrev S48x1024 : Shape := ⟨2, ![48, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x48x1024, .f32⟩
  | .hbm, ⟨1, _⟩ => ⟨S48x1024, .f32⟩
  | .hbm, ⟨2, _⟩ => ⟨S48x1024, .f32⟩
  | .hbm, ⟨3, _⟩ => ⟨S48x1024, .f32⟩
  | .hbm, ⟨4, _⟩ => ⟨S_, .f32⟩
  | .hbm, ⟨5, _⟩ => ⟨S48x1024, .f32⟩
  | .hbm, ⟨6, _⟩ => ⟨S_, .f32⟩
  | .hbm, ⟨7, _⟩ => ⟨S48x1024, .f32⟩
  | .hbm, ⟨8, _⟩ => ⟨S48x1024, .f32⟩
  | .hbm, ⟨9, _⟩ => ⟨S_, .f32⟩
  | .hbm, ⟨10, _⟩ => ⟨S48x1024, .f32⟩
  | .hbm, ⟨11, _⟩ => ⟨S48x1024, .f32⟩
  | .hbm, ⟨12, _⟩ => ⟨S48x1024, .f32⟩
  | .hbm, ⟨13, _⟩ => ⟨S_, .f32⟩
  | .hbm, ⟨14, _⟩ => ⟨S48x1024, .f32⟩
  | .hbm, ⟨15, _⟩ => ⟨S48x1024, .f32⟩
  | .hbm, ⟨16, _⟩ => ⟨S48x1024, .f32⟩
  | .hbm, ⟨17, _⟩ => ⟨S_, .f32⟩
  | .hbm, ⟨18, _⟩ => ⟨S48x1024, .f32⟩
  | .hbm, ⟨19, _⟩ => ⟨S48x1024, .f32⟩
  | .hbm, ⟨20, _⟩ => ⟨S48x1024, .f32⟩
  | .hbm, ⟨21, _⟩ => ⟨S_, .f32⟩
  | .hbm, ⟨22, _⟩ => ⟨S48x1024, .f32⟩
  | .hbm, ⟨23, _⟩ => ⟨S48x1024, .f32⟩
  | .hbm, ⟨24, _⟩ => ⟨S_, .f32⟩
  | .hbm, ⟨25, _⟩ => ⟨S48x1024, .f32⟩
  | .hbm, ⟨26, _⟩ => ⟨S48x1024, .f32⟩
  | .hbm, ⟨27, _⟩ => ⟨S48x1024, .f32⟩
  | .hbm, ⟨28, _⟩ => ⟨S_, .f32⟩
  | .hbm, ⟨29, _⟩ => ⟨S48x1024, .f32⟩
  | .hbm, ⟨30, _⟩ => ⟨S48x1024, .f32⟩
  | .hbm, ⟨31, _⟩ => ⟨S48x1024, .f32⟩
  | .hbm, ⟨32, _⟩ => ⟨S_, .f32⟩
  | .hbm, ⟨33, _⟩ => ⟨S48x1024, .f32⟩
  | .hbm, ⟨34, _⟩ => ⟨S48x1024, .f32⟩
  | .hbm, ⟨35, _⟩ => ⟨S48x1024, .f32⟩
  | .hbm, ⟨36, _⟩ => ⟨S_, .f32⟩
  | .hbm, ⟨37, _⟩ => ⟨S48x1024, .f32⟩
  | .hbm, ⟨38, _⟩ => ⟨S48x1024, .f32⟩
  | _, _ => ⟨S8x48x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel23.lean ====
abbrev S8x224x1024 : Shape := ⟨3, ![8, 224, 1024]⟩
abbrev S224x1024 : Shape := ⟨2, ![224, 1024]⟩
abbrev S1x224x1024 : Shape := ⟨3, ![1, 224, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x224x1024, .f32⟩
  | .hbm, ⟨1, _⟩ => ⟨S224x1024, .f32⟩
  | .hbm, ⟨2, _⟩ => ⟨S224x1024, .f32⟩
  | .hbm, ⟨3, _⟩ => ⟨S224x1024, .f32⟩
  | .hbm, ⟨4, _⟩ => ⟨S224x1024, .f32⟩
  | .hbm, ⟨5, _⟩ => ⟨S224x1024, .f32⟩
  | .hbm, ⟨6, _⟩ => ⟨S224x1024, .f32⟩
  | .hbm, ⟨7, _⟩ => ⟨S224x1024, .f32⟩
  | .local _ .vmem, ⟨0, _⟩ => ⟨S8x224x1024, .f32⟩
  | .local _ .vmem, ⟨1, _⟩ => ⟨S224x1024, .f32⟩
  | .local _ .vmem, ⟨2, _⟩ => ⟨S224x1024, .f32⟩
  | .local _ .vmem, ⟨3, _⟩ => ⟨S224x1024, .f32⟩
  | .local _ .vmem, ⟨4, _⟩ => ⟨S224x1024, .f32⟩
  | .local _ .vmem, ⟨5, _⟩ => ⟨S224x1024, .f32⟩
  | .local _ .vmem, ⟨6, _⟩ => ⟨S224x1024, .f32⟩
  | .local _ .vmem, ⟨7, _⟩ => ⟨S224x1024, .f32⟩
  | _, _ => ⟨S8x224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x224x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S224x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S224x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S224x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S224x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S224x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S224x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S224x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference23Ideal.lean ====
abbrev S8x224x1024 : Shape := ⟨3, ![8, 224, 1024]⟩
abbrev S224x1024 : Shape := ⟨2, ![224, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x224x1024, .f32⟩
  | .hbm, ⟨1, _⟩ => ⟨S224x1024, .f32⟩
  | .hbm, ⟨2, _⟩ => ⟨S224x1024, .f32⟩
  | .hbm, ⟨3, _⟩ => ⟨S224x1024, .f32⟩
  | .hbm, ⟨4, _⟩ => ⟨S_, .f32⟩
  | .hbm, ⟨5, _⟩ => ⟨S224x1024, .f32⟩
  | .hbm, ⟨6, _⟩ => ⟨S_, .f32⟩
  | .hbm, ⟨7, _⟩ => ⟨S224x1024, .f32⟩
  | .hbm, ⟨8, _⟩ => ⟨S224x1024, .f32⟩
  | .hbm, ⟨9, _⟩ => ⟨S_, .f32⟩
  | .hbm, ⟨10, _⟩ => ⟨S224x1024, .f32⟩
  | .hbm, ⟨11, _⟩ => ⟨S224x1024, .f32⟩
  | .hbm, ⟨12, _⟩ => ⟨S224x1024, .f32⟩
  | .hbm, ⟨13, _⟩ => ⟨S_, .f32⟩
  | .hbm, ⟨14, _⟩ => ⟨S224x1024, .f32⟩
  | .hbm, ⟨15, _⟩ => ⟨S224x1024, .f32⟩
  | .hbm, ⟨16, _⟩ => ⟨S224x1024, .f32⟩
  | .hbm, ⟨17, _⟩ => ⟨S_, .f32⟩
  | .hbm, ⟨18, _⟩ => ⟨S224x1024, .f32⟩
  | .hbm, ⟨19, _⟩ => ⟨S224x1024, .f32⟩
  | .hbm, ⟨20, _⟩ => ⟨S224x1024, .f32⟩
  | .hbm, ⟨21, _⟩ => ⟨S_, .f32⟩
  | .hbm, ⟨22, _⟩ => ⟨S224x1024, .f32⟩
  | .hbm, ⟨23, _⟩ => ⟨S224x1024, .f32⟩
  | .hbm, ⟨24, _⟩ => ⟨S_, .f32⟩
  | .hbm, ⟨25, _⟩ => ⟨S224x1024, .f32⟩
  | .hbm, ⟨26, _⟩ => ⟨S224x1024, .f32⟩
  | .hbm, ⟨27, _⟩ => ⟨S224x1024, .f32⟩
  | .hbm, ⟨28, _⟩ => ⟨S_, .f32⟩
  | .hbm, ⟨29, _⟩ => ⟨S224x1024, .f32⟩
  | .hbm, ⟨30, _⟩ => ⟨S224x1024, .f32⟩
  | .hbm, ⟨31, _⟩ => ⟨S224x1024, .f32⟩
  | .hbm, ⟨32, _⟩ => ⟨S_, .f32⟩
  | .hbm, ⟨33, _⟩ => ⟨S224x1024, .f32⟩
  | .hbm, ⟨34, _⟩ => ⟨S224x1024, .f32⟩
  | .hbm, ⟨35, _⟩ => ⟨S224x1024, .f32⟩
  | .hbm, ⟨36, _⟩ => ⟨S_, .f32⟩
  | .hbm, ⟨37, _⟩ => ⟨S224x1024, .f32⟩
  | .hbm, ⟨38, _⟩ => ⟨S224x1024, .f32⟩
  | _, _ => ⟨S8x224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel24.lean ====
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .local _ .vmem, ⟨0, _⟩ => ⟨S8x8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference24Ideal.lean ====
abbrev S8x8x1024 : Shape := ⟨3, ![8, 8, 1024]⟩
abbrev S8x1024 : Shape := ⟨2, ![8, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S_, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S_, .f32⟩
  | .hbm, ⟨22, _⟩ => ⟨S8x1024, .f32⟩
  | .hbm, ⟨23, _⟩ => ⟨S8x1024, .f32⟩
  | .hbm, ⟨24, _⟩ => ⟨S_, .f32⟩
  | .hbm, ⟨25, _⟩ => ⟨S8x1024, .f32⟩
  | .hbm, ⟨26, _⟩ => ⟨S8x1024, .f32⟩
  | .hbm, ⟨27, _⟩ => ⟨S8x1024, .f32⟩
  | .hbm, ⟨28, _⟩ => ⟨S_, .f32⟩
  | .hbm, ⟨29, _⟩ => ⟨S8x1024, .f32⟩
  | .hbm, ⟨30, _⟩ => ⟨S8x1024, .f32⟩
  | .hbm, ⟨31, _⟩ => ⟨S8x1024, .f32⟩
  | .hbm, ⟨32, _⟩ => ⟨S_, .f32⟩
  | .hbm, ⟨33, _⟩ => ⟨S8x1024, .f32⟩
  | .hbm, ⟨34, _⟩ => ⟨S8x1024, .f32⟩
  | .hbm, ⟨35, _⟩ => ⟨S8x1024, .f32⟩
  | .hbm, ⟨36, _⟩ => ⟨S_, .f32⟩
  | .hbm, ⟨37, _⟩ => ⟨S8x1024, .f32⟩
  | .hbm, ⟨38, _⟩ => ⟨S8x1024, .f32⟩
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Prod.Tile.lean ====
module

public import Idealize.ShloMosaic.Lib.Pipeline.Value
public import Idealize.ShloMosaic.Lib.Pointwise
public import Idealize.ShloMosaic.Lib.ValueIdx
public import Idealize.ShloMosaic.Lib.VecWindow
public import Idealize.ShloMosaic.PureOps.Ideal.Laws

/-! Matrices read at natural numbers, and sums taken tile by tile: what the products need. -/

@[expose] public section

noncomputable section

open Idealize.ShloMosaic Idealize.ShloMosaic.TcCoe

namespace Cert.Proof.Prod

/-- The element of a matrix at two numbers, zero outside it. -/
def at2 {A B : ℕ} (x : (⟨2, ![A, B]⟩ : Shape).Idx → EReal) (i j : ℕ) : EReal :=
  if h : i < A ∧ j < B then x (ix2 (⟨i, h.1⟩ : Fin A) (⟨j, h.2⟩ : Fin B)) else 0

theorem at2_val {A B : ℕ} (x : (⟨2, ![A, B]⟩ : Shape).Idx → EReal) (i : Fin A) (j : Fin B) :
    at2 x i.val j.val = x (ix2 i j) := dif_pos ⟨i.isLt, j.isLt⟩

theorem at2_mk {A B : ℕ} (x : (⟨2, ![A, B]⟩ : Shape).Idx → EReal) {i j : ℕ} (hi : i < A) (hj : j < B) :
    x (ix2 (⟨i, hi⟩ : Fin A) (⟨j, hj⟩ : Fin B)) = at2 x i j := by unfold at2; rw [dif_pos (And.intro hi hj)]

/-- The element of a vector at a number, zero outside it. -/
def at1 {A : ℕ} (x : (⟨1, ![A]⟩ : Shape).Idx → EReal) (i : ℕ) : EReal :=
  if h : i < A then x (ix1 (⟨i, h⟩ : Fin A)) else 0

theorem at1_val {A : ℕ} (x : (⟨1, ![A]⟩ : Shape).Idx → EReal) (i : Fin A) : at1 x i.val = x (ix1 i) := dif_pos i.isLt

theorem at1_mk {A : ℕ} (x : (⟨1, ![A]⟩ : Shape).Idx → EReal) {i : ℕ} (hi : i < A) : x (ix1 (⟨i, hi⟩ : Fin A)) = at1 x i := by
  unfold at1; rw [dif_pos hi]

/-- The two zero offsets of a whole block, however they are spelt. -/
theorem zero2 : (![0, 0] : Fin 2 → Nat) = fun _ => 0 := funext fun a => by fin_cases a <;> rfl

/-- A sum of tiles is the sum of everything in them. -/
theorem range_tiles (T : ℕ) (f : ℕ → EReal) (J : ℕ) :
    (∑ j ∈ Finset.range J, ∑ t ∈ Finset.range T, f (T * j + t)) = ∑ s ∈ Finset.range (J * T), f s := by
  induction J with
  | zero => simp
  | succ n ih => rw [Finset.sum_range_succ, ih, Nat.succ_mul, Finset.sum_range_add, Nat.mul_comm]

/-- A sum over a bounded index is the sum over its values. -/
theorem sum_fin (N : ℕ) (f : ℕ → EReal) : (∑ s : Fin N, f s.val) = ∑ s ∈ Finset.range N, f s := Fin.sum_univ_eq_sum_range f N

/-- A value that starts afresh at every multiple of `K` and grows by `p n` at every other point is the sum of `p` since
    the last start. -/
theorem since_start {N : ℕ} (K : ℕ) (hK : 0 < K) (s : ∀ n, n < N → EReal) (p : ℕ → EReal)
    (h0 : ∀ n h, n % K = 0 → s n h = p n)
    (h1 : ∀ n h, ¬ (n + 1) % K = 0 → s (n + 1) h = s n (Nat.lt_of_succ_lt h) + p (n + 1)) :
    ∀ n h, s n h = ∑ j ∈ Finset.range (n % K + 1), p (K * (n / K) + j)
  | 0, h => by rw [h0 0 h (Nat.zero_mod K)]; simp
  | n + 1, h => by
    by_cases hz : (n + 1) % K = 0
    · have e : K * ((n + 1) / K) = n + 1 := by have := Nat.div_add_mod (n + 1) K; omega
      rw [h0 _ h hz, hz, e]; simp
    · have hlt := Nat.mod_lt n hK
      have hn := Nat.div_add_mod n K
      have hb : n % K + 1 < K := by
        by_contra hge
        have e : n % K + 1 = K := by omega
        exact hz (by rw [← hn, Nat.add_assoc, e, ← Nat.mul_succ, Nat.mul_mod_right])
      have em : (n + 1) % K = n % K + 1 := by
        conv_lhs => rw [← hn, Nat.add_assoc, Nat.mul_add_mod, Nat.mod_eq_of_lt hb]
      have ed : (n + 1) / K = n / K := by
        conv_lhs => rw [← hn, Nat.add_assoc, Nat.mul_add_div hK, Nat.div_eq_of_lt hb, Nat.add_zero]
      rw [h1 n h hz, since_start K hK s p h0 h1 n, em, ed, Finset.sum_range_succ _ (n % K + 1), ← Nat.add_assoc, hn]

/-- Some columns of a whole buffer read back after a store of all of it. -/
theorem part_at {sig : RefSig} {κ : Kind} {sp : Space} {A B D : ℕ} (v : View sig κ sp ⟨2, ![A, B]⟩ .f32) (o : ℕ)
    (inb : ∀ a, (![0, 0] : Fin 2 → ℕ) a + (![A, B] : Fin 2 → ℕ) a ≤ (⟨2, ![A, B]⟩ : Shape).size a)
    (inb' : ∀ a, (![0, o] : Fin 2 → ℕ) a + (![A, D] : Fin 2 → ℕ) a ≤ (⟨2, ![A, B]⟩ : Shape).size a)
    (w : (⟨2, ![A, B]⟩ : Shape).Idx → EReal) (r : Fin A) (k : Fin D) :
    (v.readCov (Val := Elt Ideal) [(⟨Rect.unit (s := ⟨2, ![A, B]⟩) ![0, 0] ![A, B] inb, w⟩ : View.Piece (Elt Ideal) ⟨2, ![A, B]⟩ .f32)]
      (Rect.unit (s := ⟨2, ![A, B]⟩) ![0, o] ![A, D] inb').toLoadRect (ix2 r k) : EReal) = at2 w r.val (o + k.val) := by
  have hk : o + k.val < B := by have := inb' 1; have hk := k.isLt; change o + D ≤ B at this; omega
  rw [show r.val = (⟨r.val, r.isLt⟩ : Fin A).val from rfl, ← at2_mk w r.isLt hk]
  unfold View.readCov
  rw [View.readAt_unit v _ inb' rfl inb']
  unfold VecWindow.window
  refine (congrFun (View.read_writes_full (Val := Elt Ideal) v _ inb w []) _).trans (congrArg w ?_)
  funext a
  apply Fin.ext
  match a with
  | ⟨0, _⟩ => show 0 + 1 * r.val = r.val; omega
  | ⟨1, _⟩ => show o + 1 * k.val = o + k.val; omega

/-- Two shards stored one behind the other. -/
theorem two_at {A D : ℕ} (inb0 : ∀ a, (![0, 0, 0] : Fin 3 → ℕ) a + (![1, A, D] : Fin 3 → ℕ) a ≤ (⟨3, ![2, A, D]⟩ : Shape).size a)
    (inb1 : ∀ a, (![1, 0, 0] : Fin 3 → ℕ) a + (![1, A, D] : Fin 3 → ℕ) a ≤ (⟨3, ![2, A, D]⟩ : Shape).size a)
    (lo hi : (⟨3, ![1, A, D]⟩ : Shape).Idx → EReal) (f : ℕ → ℕ → EReal)
    (hlo : ∀ (q : Fin 1) (r : Fin A) (k : Fin D), lo (ix3 q r k) = f r.val k.val)
    (hhi : ∀ (q : Fin 1) (r : Fin A) (k : Fin D), hi (ix3 q r k) = f r.val (D + k.val)) (p : Fin 2) (r : Fin A) (k : Fin D) :
    (View.canon (Val := Elt Ideal) [(⟨Rect.unit (s := ⟨3, ![2, A, D]⟩) ![1, 0, 0] ![1, A, D] inb1, hi⟩ : View.Piece (Elt Ideal) ⟨3, ![2, A, D]⟩ .bf16),
      ⟨Rect.unit (s := ⟨3, ![2, A, D]⟩) ![0, 0, 0] ![1, A, D] inb0, lo⟩] (ix3 p r k) : EReal) = f r.val (D * p.val + k.val) := by
  refine View.canon_apply_of_pieces (Val := Elt Ideal) (S := ⟨3, ![2, A, D]⟩) (e := .bf16)
    (fun z => f (z 1).val (D * (z 0).val + (z 2).val)) _ ?_ (ix3 p r k) ?_
  · intro q hq z
    simp only [List.mem_cons, List.not_mem_nil, or_false] at hq
    rcases hq with rfl | rfl
    · have z0 : (z 0).val < 1 := (z 0).isLt
      refine (congrArg hi (eq_ix3 z)).trans ((hhi (z 0) (z 1) (z 2)).trans ?_)
      refine congrArg₂ f ?_ ?_
      · show (z 1).val = 0 + 1 * (z 1).val; omega
      · show D + (z 2).val = D * (1 + 1 * (z 0).val) + (0 + 1 * (z 2).val)
        rw [show (z 0).val = 0 by omega]; omega
    · have z0 : (z 0).val < 1 := (z 0).isLt
      refine (congrArg lo (eq_ix3 z)).trans ((hlo (z 0) (z 1) (z 2)).trans ?_)
      refine congrArg₂ f ?_ ?_
      · show (z 1).val = 0 + 1 * (z 1).val; omega
      · show (z 2).val = D * (0 + 1 * (z 0).val) + (0 + 1 * (z 2).val)
        rw [show (z 0).val = 0 by omega]; omega
  · have hp := p.isLt
    have hr := r.isLt
    have hk := k.isLt
    by_cases h : p.val = 1
    · refine ⟨_, List.mem_cons_self, ?_⟩
      rw [Rect.mem_set_unit]
      intro a
      match a with
      | ⟨0, _⟩ => exact ⟨by show 1 ≤ p.val; omega, by show p.val < 1 + 1; omega⟩
      | ⟨1, _⟩ => exact ⟨Nat.zero_le _, by show r.val < 0 + A; omega⟩
      | ⟨2, _⟩ => exact ⟨Nat.zero_le _, by show k.val < 0 + D; omega⟩
    · refine ⟨_, List.mem_cons_of_mem _ (List.mem_singleton_self _), ?_⟩
      rw [Rect.mem_set_unit]
      intro a
      match a with
      | ⟨0, _⟩ => exact ⟨Nat.zero_le _, by show p.val < 0 + 1; omega⟩
      | ⟨1, _⟩ => exact ⟨Nat.zero_le _, by show r.val < 0 + A; omega⟩
      | ⟨2, _⟩ => exact ⟨Nat.zero_le _, by show k.val < 0 + D; omega⟩

end Cert.Proof.Prod
-- ==== Proof.Prod.DwUp.lean ====
module

public import proofs.«01_k».proof.Proof.Gen.Kernel2Ideal.Value
public import proofs.«01_k».proof.Proof.Gen.Reference2Ideal.Read
public import proofs.«01_k».proof.Proof.Prod.Tile
public import Idealize.ShloMosaic.Lib.StableHlo.RunRead

/-! The gradient of the up projection's weights: the tokens' tiles summed in a scratch, written at the last one as two
column shards. -/

@[expose] public section

noncomputable section

open Idealize.ShloMosaic Idealize.ShloMosaic.TcCoe Idealize.SL.Sem
open Cert.Kernel2Ideal Cert.Kernel2Ideal.Gen Cert.Reference2Ideal.Read

namespace Cert.Proof.Prod.DwUp

theorem zero_at (r : Fin 1024) (k : Fin 1408) : (k0_pay1 (F := Ideal) (ix2 r k) : EReal) = 0 := by
  unfold k0_pay1
  pointwise
  try simp [Ideal.ofBits, Ideal.ieee]

theorem step_at (y : Vec Ideal S512x1408 .bf16) (s : Vec Ideal S1024x1408 .f32) (x : Vec Ideal S512x1024 .f32) (r : Fin 1024) (k : Fin 1408) :
    (k0_pay2 (F := Ideal) y s x (ix2 r k) : EReal) = s (ix2 r k) + ∑ t : Fin 512, x (ix2 t r) * y (ix2 t k) := by
  unfold k0_pay2
  pointwise

theorem lo_at (s : Vec Ideal S1024x704 .f32) (p : Fin 1) (r : Fin 1024) (k : Fin 704) :
    (k0_pay3 (F := Ideal) s (ix3 p r k) : EReal) = s (ix2 r k) := by
  unfold k0_pay3
  pointwise

theorem hi_at (s : Vec Ideal S1024x704 .f32) (p : Fin 1) (r : Fin 1024) (k : Fin 704) :
    (k0_pay4 (F := Ideal) s (ix3 p r k) : EReal) = s (ix2 r k) := by
  unfold k0_pay4
  pointwise

section Cases

variable (c : Dev nD) (i : grid0.Coords) (a3 : Memref sig .tc .vmem S512x1024 .f32) (h3 : a3.IsWhole)
  (a4 : Memref sig .tc .vmem S512x1408 .bf16) (h4 : a4.IsWhole) (a5 : Memref sig .tc .vmem S2x1024x704 .bf16) (h5 : a5.IsWhole)
  (a6 : Memref sig .tc .vmem S1024x1408 .f32) (h6 : a6.IsWhole)
  (x : Vec Ideal S512x1024 .f32) (y : Vec Ideal S512x1408 .bf16)

theorem startS (hc0 : cond0_0 i) (hc1 : ¬cond0_1 i) :
    sout0_A_0 c i a3 h3 a4 h4 a5 h5 a6 h6 hc0 hc1 x y = k0_pay2 y (k0_pay1 (F := Ideal)) x := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1408) zero2]
  simp only [View.readCov_unit_zero (S := S1024x1408) _ zero2, View.readAt_eq_ld, h3.read_unread, h4.read_unread,
    View.ld_unit_zero (S := S512x1024) zero2, View.ld_unit_zero (S := S512x1408) zero2, View.ld_unit_zero (S := S1024x1408) zero2]

theorem nextS (hc0 : ¬cond0_0 i) (hc1 : ¬cond0_1 i) (s : Vec Ideal S1024x1408 .f32) :
    sout0_B_0 c i a3 h3 a4 h4 a5 h5 a6 h6 hc0 hc1 x y s = k0_pay2 y s x := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero (S := S1024x1408) zero2]
  simp only [View.readAt_eq_ld, h3.read_unread, h4.read_unread, h6.read_unread,
    View.ld_unit_zero (S := S512x1024) zero2, View.ld_unit_zero (S := S512x1408) zero2, View.ld_unit_zero (S := S1024x1408) zero2]

theorem lastS (hc0 : ¬cond0_0 i) (hc1 : cond0_1 i) (s : Vec Ideal S1024x1408 .f32) :
    sout0_C_0 c i a3 h3 a4 h4 a5 h5 a6 h6 hc0 hc1 x y s = k0_pay2 y s x := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero (S := S1024x1408) zero2]
  simp only [View.readAt_eq_ld, h3.read_unread, h4.read_unread, h6.read_unread,
    View.ld_unit_zero (S := S512x1024) zero2, View.ld_unit_zero (S := S512x1408) zero2, View.ld_unit_zero (S := S1024x1408) zero2]

theorem lastO (hc0 : ¬cond0_0 i) (hc1 : cond0_1 i) (s : Vec Ideal S1024x1408 .f32) (p : Fin 2) (r : Fin 1024) (k : Fin 704) :
    (out0_C_2 c i a3 h3 a4 h4 a5 h5 a6 h6 hc0 hc1 x y s (ix3 p r k) : EReal)
      = at2 (k0_pay2 (F := Ideal) y s x) r.val (704 * p.val + k.val) := by
  unfold out0_C_2
  rw [View.read_writes_eq_canon _ _ _ (cover0_C_2 c i a3 h3 a4 h4 a5 h5 a6 h6 hc0 hc1 x y s)]
  unfold kernelRun0_C
  dsimp only
  sl_unfold_words
  simp only [View.readAt_eq_ld, h3.read_unread, h4.read_unread, h6.read_unread,
    View.ld_unit_zero (S := S512x1024) zero2, View.ld_unit_zero (S := S512x1408) zero2, View.ld_unit_zero (S := S1024x1408) zero2]
  refine two_at inb_S2x1024x704_S1x1024x704_0_0_0 inb_S2x1024x704_S1x1024x704_1_0_0 _ _ (at2 (k0_pay2 (F := Ideal) y s x)) ?_ ?_ p r k
  · intro q r k
    refine (lo_at _ q r k).trans ((part_at a6.view 0 _ _ (k0_pay2 (F := Ideal) y s x) r k).trans ?_)
    rw [Nat.zero_add]
  · intro q r k
    exact (hi_at _ q r k).trans (part_at a6.view 704 _ _ (k0_pay2 (F := Ideal) y s x) r k)

end Cases

variable (m : (ℓ : Loc nD τ sig) → Buf (Elt Ideal) ℓ) (c : Dev nD)

/-- The two operands as launched. -/
abbrev x0 : FVec Ideal S8192x1024 .f32 := m ((c : Thread nD τ).loc main_arg0)
abbrev y0 : FVec Ideal S8192x5632 .f32 := m ((c : Thread nD τ).loc main_arg1)

theorem V_v0 : (V m c main_v0 : FVec Ideal S8192x5632 .bf16) = truncf .bf16 (y0 m c) bitsLt_bf16_f32 := by
  after_reads_simp

theorem blk0 (t : Fin cfg0.N) (r : Fin 512) (k : Fin 1024) :
    ((iblk m c 0 t : FVec Ideal S512x1024 .f32) (ix2 r k) : EReal) = at2 (x0 m c) (512 * (t.val % 16) + r.val) k.val := by
  have hi : win0_0.index t 0 = t.val % 16 ∧ win0_0.index t 1 = 0 := by revert t; decide +kernel
  have hr := r.isLt
  rw [← at2_mk (x0 m c) (show 512 * (t.val % 16) + r.val < 8192 by omega) k.isLt]
  unfold iblk
  rw [View.read_apply]
  show V m c main_arg0 _ = x0 m c _
  rw [V_main_arg0]
  congr 1
  funext a
  apply Fin.ext
  match a with
  | ⟨0, _⟩ => show win0_0.index t 0 * 512 + 1 * r.val = 512 * (t.val % 16) + r.val; rw [hi.1]; omega
  | ⟨1, _⟩ => show win0_0.index t 1 * 1024 + 1 * k.val = k.val; rw [hi.2]; omega

theorem blk1 (t : Fin cfg0.N) (r : Fin 512) (k : Fin 1408) :
    ((iblk m c 1 t : FVec Ideal S512x1408 .bf16) (ix2 r k) : EReal) = at2 (y0 m c) (512 * (t.val % 16) + r.val) (1408 * (t.val / 16) + k.val) := by
  have hi : win0_1.index t 0 = t.val % 16 ∧ win0_1.index t 1 = t.val / 16 := by revert t; decide +kernel
  have hr := r.isLt
  have ht : t.val < 64 := lt_of_lt_of_eq t.isLt N_0
  rw [← at2_mk (y0 m c) (show 512 * (t.val % 16) + r.val < 8192 by omega) (show 1408 * (t.val / 16) + k.val < 5632 by omega)]
  unfold iblk
  rw [View.read_apply]
  show V m c main_v0 _ = y0 m c _
  rw [V_v0]
  show y0 m c _ = y0 m c _
  congr 1
  funext a
  apply Fin.ext
  match a with
  | ⟨0, _⟩ => show win0_1.index t 0 * 512 + 1 * r.val = 512 * (t.val % 16) + r.val; rw [hi.1]; omega
  | ⟨1, _⟩ => show win0_1.index t 1 * 1408 + 1 * k.val = 1408 * (t.val / 16) + k.val; rw [hi.2]; omega

/-- What one point adds at an element of the scratch. -/
def part (r k n : ℕ) : EReal :=
  ∑ t ∈ Finset.range 512, at2 (x0 m c) (512 * (n % 16) + t) r * at2 (y0 m c) (512 * (n % 16) + t) (1408 * (n / 16) + k)

theorem step_part (t : Fin cfg0.N) (s : Vec Ideal S1024x1408 .f32) (r : Fin 1024) (k : Fin 1408) :
    (k0_pay2 (F := Ideal) (iblk m c 1 t) s (iblk m c 0 t) (ix2 r k) : EReal) = s (ix2 r k) + part m c r.val k.val t.val := by
  rw [step_at]
  unfold part
  rw [← sum_fin 512 (fun u => at2 (x0 m c) (512 * (t.val % 16) + u) r.val * at2 (y0 m c) (512 * (t.val % 16) + u) (1408 * (t.val / 16) + k.val))]
  exact congrArg (s (ix2 r k) + ·) (Finset.sum_congr rfl fun u _ => congrArg₂ (· * ·) (blk0 m c t u r) (blk1 m c t u k))

/-- The scratch after every point. -/
theorem acc (r : Fin 1024) (k : Fin 1408) (n : ℕ) (h : n < cfg0.N) :
    ((outsAt0 m c n h).2 (ix2 r k) : EReal) = ∑ j ∈ Finset.range (n % 16 + 1), part m c r.val k.val (16 * (n / 16) + j) := by
  refine since_start 16 (by decide) (fun n h => ((outsAt0 m c n h).2 (ix2 r k) : EReal)) (part m c r.val k.val) ?_ ?_ n h
  · intro n h hz
    have e := outsAt0_A m c ⟨n, h⟩ hz (by dsimp only; omega)
    dsimp only at e ⊢
    rw [e]
    dsimp only
    rw [startS, step_part, zero_at, zero_add]
  · intro n h hz
    by_cases hl : (n + 1) % 16 = 15
    · have e := outsAt0_C m c ⟨n + 1, h⟩ hz hl
      dsimp only at e ⊢
      rw [e]
      dsimp only
      rw [lastS, step_part]
      rfl
    · have e := outsAt0_B m c ⟨n + 1, h⟩ hz hl
      dsimp only at e ⊢
      rw [e]
      dsimp only
      rw [nextS, step_part]
      rfl

/-- The output block at a point that ends a column tile. -/
theorem out_at (t : Fin cfg0.N) (hl : t.val % 16 = 15) (p : Fin 2) (r : Fin 1024) (k : Fin 704) :
    ((outsAt0 m c t.val t.isLt).1 (ix3 p r k) : EReal)
      = ∑ s ∈ Finset.range 8192, at2 (x0 m c) s r.val * at2 (y0 m c) s (1408 * (t.val / 16) + (704 * p.val + k.val)) := by
  have hk : 704 * p.val + k.val < 1408 := by have := p.isLt; have := k.isLt; omega
  have e := outsAt0_C m c t (by omega) hl
  have ea := acc m c r ⟨_, hk⟩ t.val t.isLt
  rw [e] at ea ⊢
  dsimp only at ea ⊢
  rw [lastS] at ea
  rw [lastO, ← at2_mk _ r.isLt hk]
  refine ea.trans ?_
  rw [hl]
  unfold part
  refine Eq.trans ?_ (range_tiles 512 (fun s => at2 (x0 m c) s r.val * at2 (y0 m c) s (1408 * (t.val / 16) + (704 * p.val + k.val))) 16)
  refine Finset.sum_congr rfl fun j hj => ?_
  have hj' := Finset.mem_range.mp hj
  rw [show (16 * (t.val / 16) + j) % 16 = j by omega, show (16 * (t.val / 16) + j) / 16 = t.val / 16 by omega]

/-- The result array. -/
theorem arr (p : Fin 8) (r : Fin 1024) (k : Fin 704) :
    ((dats m 0 c).arrAt 2 cfg0.N (ix3 p r k) : EReal)
      = ∑ s ∈ Finset.range 8192, at2 (x0 m c) s r.val * at2 (y0 m c) s (704 * p.val + k.val) := by
  have hp := p.isLt
  have hr := r.isLt
  have hk := k.isLt
  have hN : cfg0.N = 64 := N_0
  rw [Cert.Kernel2Ideal.Value.final2]
  have hb : Cert.Kernel2Ideal.Value.pt2Of (ix3 p r k) = 16 * (p.val / 2) + 15 := by
    show 16 * (1 * (p.val / 2 - 0) + 1 * (r.val / 1024 - 0) + 1 * (k.val / 704 - 0)) + 15 = _
    omega
  unfold Cert.Kernel2Ideal.Value.G2
  rw [dif_pos (by rw [hb, hN]; omega), ← Cert.Kernel2Ideal.Value.outsAt0_sweep m c _ (by rw [hb, hN]; omega)]
  have e := out_at m c ⟨16 * (p.val / 2) + 15, by rw [hN]; omega⟩ (by dsimp only; omega) ⟨p.val % 2, by omega⟩ r k
  dsimp only at e
  have hl : Cert.Kernel2Ideal.Value.loc2Of (ix3 p r k) = ix3 ⟨p.val % 2, by omega⟩ r k := by
    funext a
    apply Fin.ext
    match a with
    | ⟨0, _⟩ => rfl
    | ⟨1, _⟩ => show r.val % 1024 = r.val; omega
    | ⟨2, _⟩ => show k.val % 704 = k.val; omega
  have ec : ∀ (a b : ℕ) (ha : a < cfg0.N) (hb : b < cfg0.N), a = b → outsAt0 m c a ha = outsAt0 m c b hb := by
    intro a b ha hb h; subst h; rfl
  rw [hl, ec _ _ _ (by rw [hN]; omega) hb]
  refine e.trans (Finset.sum_congr rfl fun s _ => congrArg (at2 (x0 m c) s r.val * at2 (y0 m c) s ·) ?_)
  omega

/-- The reference's array. -/
theorem ref_at (x : FVec Ideal S8192x1024 .f32) (y : FVec Ideal S8192x5632 .f32) (p : Fin 8) (r : Fin 1024) (k : Fin 704) :
    (val_main_v21 (F := Ideal) x y (ix3 p r k) : EReal)
      = ∑ s ∈ Finset.range 8192, at2 x s r.val * at2 y s (704 * p.val + k.val) := by
  rw [val_main_v21_apply]
  have hw : ∀ (r : Fin 1024) (j : Fin 5632), (val_main_v3 (F := Ideal) x y (ix2 r j) : EReal)
      = ∑ s ∈ Finset.range 8192, at2 x s r.val * at2 y s j.val := by
    intro r j
    rw [val_main_v3_apply, val_main_v2_apply]
    rw [← sum_fin 8192 (fun s => at2 x s r.val * at2 y s j.val)]
    refine Finset.sum_congr rfl fun s _ => ?_
    rw [mul_comm, at2_val, at2_val]
    congr 1
    · exact congrArg x (Shape.idx_ext₂ rfl rfl)
    · exact congrArg y (Shape.idx_ext₂ rfl rfl)
  show (val_main_v20 (F := Ideal) x y (ix3 p r k) : EReal) = _
  unfold val_main_v20
  pointwise
  have hp := p.isLt
  have hk := k.isLt
  have hlt : 704 * p.val + k.val < 5632 := by omega
  have key : ∀ z : (⟨2, ![1024, 5632]⟩ : Shape).Idx, (z 0).val = r.val → (z 1).val = 704 * p.val + k.val →
      (val_main_v3 (F := Ideal) x y z : EReal) = ∑ s ∈ Finset.range 8192, at2 x s r.val * at2 y s (704 * p.val + k.val) := by
    intro z h0 h1
    exact (congrArg _ (Shape.idx_ext₂ h0 h1 : z = ix2 r (⟨_, hlt⟩ : Fin 5632))).trans (hw r ⟨_, hlt⟩)
  obtain h | h | h | h | h | h | h | h : p.val = 0 ∨ p.val = 1 ∨ p.val = 2 ∨ p.val = 3 ∨ p.val = 4 ∨ p.val = 5 ∨ p.val = 6 ∨ p.val = 7 := by omega
  · rw [dif_pos (show p.val < 1 by omega),
      val_main_v12_apply, val_main_v4_apply]
    exact key _ (by simp) (by simp; omega)
  · rw [dif_neg (show ¬ p.val < 1 by omega), dif_pos (show p.val - 1 < 1 by omega),
      val_main_v13_apply, val_main_v5_apply]
    exact key _ (by simp) (by simp; omega)
  · rw [dif_neg (show ¬ p.val < 1 by omega), dif_neg (show ¬ p.val - 1 < 1 by omega), dif_pos (show p.val - 1 - 1 < 1 by omega),
      val_main_v14_apply, val_main_v6_apply]
    exact key _ (by simp) (by simp; omega)
  · rw [dif_neg (show ¬ p.val < 1 by omega), dif_neg (show ¬ p.val - 1 < 1 by omega), dif_neg (show ¬ p.val - 1 - 1 < 1 by omega), dif_pos (show p.val - 1 - 1 - 1 < 1 by omega),
      val_main_v15_apply, val_main_v7_apply]
    exact key _ (by simp) (by simp; omega)
  · rw [dif_neg (show ¬ p.val < 1 by omega), dif_neg (show ¬ p.val - 1 < 1 by omega), dif_neg (show ¬ p.val - 1 - 1 < 1 by omega), dif_neg (show ¬ p.val - 1 - 1 - 1 < 1 by omega), dif_pos (show p.val - 1 - 1 - 1 - 1 < 1 by omega),
      val_main_v16_apply, val_main_v8_apply]
    exact key _ (by simp) (by simp; omega)
  · rw [dif_neg (show ¬ p.val < 1 by omega), dif_neg (show ¬ p.val - 1 < 1 by omega), dif_neg (show ¬ p.val - 1 - 1 < 1 by omega), dif_neg (show ¬ p.val - 1 - 1 - 1 < 1 by omega), dif_neg (show ¬ p.val - 1 - 1 - 1 - 1 < 1 by omega), dif_pos (show p.val - 1 - 1 - 1 - 1 - 1 < 1 by omega),
      val_main_v17_apply, val_main_v9_apply]
    exact key _ (by simp) (by simp; omega)
  · rw [dif_neg (show ¬ p.val < 1 by omega), dif_neg (show ¬ p.val - 1 < 1 by omega), dif_neg (show ¬ p.val - 1 - 1 < 1 by omega), dif_neg (show ¬ p.val - 1 - 1 - 1 < 1 by omega), dif_neg (show ¬ p.val - 1 - 1 - 1 - 1 < 1 by omega), dif_neg (show ¬ p.val - 1 - 1 - 1 - 1 - 1 < 1 by omega), dif_pos (show p.val - 1 - 1 - 1 - 1 - 1 - 1 < 1 by omega),
      val_main_v18_apply, val_main_v10_apply]
    exact key _ (by simp) (by simp; omega)
  · rw [dif_neg (show ¬ p.val < 1 by omega), dif_neg (show ¬ p.val - 1 < 1 by omega), dif_neg (show ¬ p.val - 1 - 1 < 1 by omega), dif_neg (show ¬ p.val - 1 - 1 - 1 < 1 by omega), dif_neg (show ¬ p.val - 1 - 1 - 1 - 1 < 1 by omega), dif_neg (show ¬ p.val - 1 - 1 - 1 - 1 - 1 < 1 by omega), dif_neg (show ¬ p.val - 1 - 1 - 1 - 1 - 1 - 1 < 1 by omega),
      val_main_v19_apply, val_main_v11_apply]
    exact key _ (by simp) (by simp; omega)

theorem equal : ((dats m 0 c).arrAt 2 cfg0.N : FVec Ideal S8x1024x704 .bf16) = val_main_v21 (F := Ideal) (x0 m c) (y0 m c) := by
  funext i
  rw [eq_ix3 i]
  exact (arr m c (i 0) (i 1) (i 2)).trans (ref_at _ _ _ _ _).symm

end Cert.Proof.Prod.DwUp
-- ==== Proof.Prod.FfnUp.lean ====
module

public import proofs.«01_k».proof.Proof.Gen.Kernel3Ideal.Value
public import proofs.«01_k».proof.Proof.Gen.Reference3Ideal.Read
public import proofs.«01_k».proof.Proof.Prod.Tile
public import Idealize.ShloMosaic.Lib.StableHlo.RunRead

/-! The up projection of the forward pass: one point computes one tile of the product. -/

@[expose] public section

noncomputable section

open Idealize.ShloMosaic Idealize.ShloMosaic.TcCoe Idealize.SL.Sem
open Cert.Kernel3Ideal Cert.Kernel3Ideal.Gen

namespace Cert.Proof.Prod.FfnUp

theorem tile_at (x : Vec Ideal S1024x1024 .f32) (y : Vec Ideal S1024x1408 .bf16) (r : Fin 1024) (k : Fin 1408) :
    (k0_pay3 (F := Ideal) (k0_pay2 (F := Ideal) (k0_pay1 (F := Ideal)) x y) (ix2 r k) : EReal) = ∑ t : Fin 1024, x (ix2 r t) * y (ix2 t k) := by
  unfold k0_pay3 k0_pay2 k0_pay1
  pointwise
  try simp [Ideal.ofBits, Ideal.ieee]

section Cases

variable (c : Dev nD) (i : grid0.Coords) (a3 : Memref sig .tc .vmem S1024x1024 .f32) (h3 : a3.IsWhole)
  (a4 : Memref sig .tc .vmem S1024x1408 .bf16) (h4 : a4.IsWhole) (a5 : Memref sig .tc .vmem S1024x1408 .bf16) (h5 : a5.IsWhole)
  (a6 : Memref sig .tc .vmem S1024x1408 .f32) (h6 : a6.IsWhole)
  (x : Vec Ideal S1024x1024 .f32) (y : Vec Ideal S1024x1408 .bf16)

theorem tileO (hc0 : cond0_0 i) (hc1 : cond0_1 i) :
    out0_A_2 c i a3 h3 a4 h4 a5 h5 a6 h6 hc0 hc1 x y = k0_pay3 (F := Ideal) (k0_pay2 (F := Ideal) (k0_pay1 (F := Ideal)) x y) := by
  unfold out0_A_2
  rw [View.read_writes_eq_canon _ _ _ (cover0_A_2 c i a3 h3 a4 h4 a5 h5 a6 h6 hc0 hc1 x y)]
  unfold kernelRun0_A
  dsimp only
  sl_unfold_words
  rw [View.canon_unit_zero (S := S1024x1408) zero2]
  simp only [View.readCov_cons_toLoadRect, View.readCov_unit_zero (S := S1024x1408) _ zero2, View.readAt_eq_ld, h3.read_unread, h4.read_unread,
    View.ld_unit_zero (S := S1024x1024) zero2, View.ld_unit_zero (S := S1024x1408) zero2]

end Cases

variable (m : (ℓ : Loc nD τ sig) → Buf (Elt Ideal) ℓ) (c : Dev nD)

/-- The two operands as launched. -/
abbrev x0 : FVec Ideal S8192x1024 .f32 := m ((c : Thread nD τ).loc main_arg0)
abbrev y0 : FVec Ideal S1024x5632 .f32 := m ((c : Thread nD τ).loc main_arg1)

theorem V_v0 : (V m c main_v0 : FVec Ideal S1024x5632 .bf16) = truncf .bf16 (y0 m c) bitsLt_bf16_f32 := by
  after_reads_simp

theorem blk0 (t : Fin cfg0.N) (r : Fin 1024) (k : Fin 1024) :
    ((iblk m c 0 t : FVec Ideal S1024x1024 .f32) (ix2 r k) : EReal) = at2 (x0 m c) (1024 * (t.val / 4) + r.val) k.val := by
  have hi : win0_0.index t 0 = t.val / 4 ∧ win0_0.index t 1 = 0 := by revert t; decide +kernel
  have hr := r.isLt
  have ht : t.val < 32 := lt_of_lt_of_eq t.isLt N_0
  rw [← at2_mk (x0 m c) (show 1024 * (t.val / 4) + r.val < 8192 by omega) k.isLt]
  unfold iblk
  rw [View.read_apply]
  show V m c main_arg0 _ = x0 m c _
  rw [V_main_arg0]
  congr 1
  funext a
  apply Fin.ext
  match a with
  | ⟨0, _⟩ => show win0_0.index t 0 * 1024 + 1 * r.val = 1024 * (t.val / 4) + r.val; rw [hi.1]; omega
  | ⟨1, _⟩ => show win0_0.index t 1 * 1024 + 1 * k.val = k.val; rw [hi.2]; omega

theorem blk1 (t : Fin cfg0.N) (r : Fin 1024) (k : Fin 1408) :
    ((iblk m c 1 t : FVec Ideal S1024x1408 .bf16) (ix2 r k) : EReal) = at2 (y0 m c) r.val (1408 * (t.val % 4) + k.val) := by
  have hi : win0_1.index t 0 = 0 ∧ win0_1.index t 1 = t.val % 4 := by revert t; decide +kernel
  rw [← at2_mk (y0 m c) r.isLt (show 1408 * (t.val % 4) + k.val < 5632 by omega)]
  unfold iblk
  rw [View.read_apply]
  show V m c main_v0 _ = y0 m c _
  rw [V_v0]
  show y0 m c _ = y0 m c _
  congr 1
  funext a
  apply Fin.ext
  match a with
  | ⟨0, _⟩ => show win0_1.index t 0 * 1024 + 1 * r.val = r.val; rw [hi.1]; omega
  | ⟨1, _⟩ => show win0_1.index t 1 * 1408 + 1 * k.val = 1408 * (t.val % 4) + k.val; rw [hi.2]; omega

theorem out_at (t : Fin cfg0.N) (r : Fin 1024) (k : Fin 1408) :
    ((outsAt0 m c t : FVec Ideal S1024x1408 .bf16) (ix2 r k) : EReal)
      = ∑ s ∈ Finset.range 1024, at2 (x0 m c) (1024 * (t.val / 4) + r.val) s * at2 (y0 m c) s (1408 * (t.val % 4) + k.val) := by
  unfold outsAt0
  rw [tileO, tile_at, ← sum_fin 1024 (fun s => at2 (x0 m c) (1024 * (t.val / 4) + r.val) s * at2 (y0 m c) s (1408 * (t.val % 4) + k.val))]
  exact Finset.sum_congr rfl fun u _ => congrArg₂ (· * ·) (blk0 m c t r u) (blk1 m c t u k)

/-- The reference's array. -/
theorem ref_at (x : FVec Ideal S8192x1024 .f32) (y : FVec Ideal S1024x5632 .f32) (r : Fin 8192) (k : Fin 5632) :
    (Cert.Reference3Ideal.Read.val_main_v1 (F := Ideal) x y (ix2 r k) : EReal)
      = ∑ s ∈ Finset.range 1024, at2 x r.val s * at2 y s k.val := by
  rw [Cert.Reference3Ideal.Read.val_main_v1_apply]
  show (Cert.Reference3Ideal.Read.val_main_v0 (F := Ideal) x y (ix2 r k) : EReal) = _
  rw [Cert.Reference3Ideal.Read.val_main_v0_apply]
  rw [← sum_fin 1024 (fun s => at2 x r.val s * at2 y s k.val)]
  refine Finset.sum_congr rfl fun s _ => ?_
  rw [at2_val, at2_val]
  congr 1
  · exact congrArg x (Shape.idx_ext₂ rfl rfl)
  · exact congrArg y (Shape.idx_ext₂ rfl rfl)

/-- The result array. -/
theorem arr (r : Fin 8192) (k : Fin 5632) :
    ((dats m 0 c).arrAt 2 cfg0.N (ix2 r k) : EReal) = ∑ s ∈ Finset.range 1024, at2 (x0 m c) r.val s * at2 (y0 m c) s k.val := by
  have hr := r.isLt
  have hk := k.isLt
  have hN : cfg0.N = 32 := N_0
  have ht : 4 * (r.val / 1024) + k.val / 1408 < cfg0.N := by rw [hN]; omega
  have hi : ∀ t : Fin cfg0.N, win0_2.index t 0 = t.val / 4 ∧ win0_2.index t 1 = t.val % 4 := by decide +kernel
  have hi' := hi ⟨_, ht⟩
  have e := congrFun (Cert.Kernel3Ideal.Value.blocks2 m c ⟨_, ht⟩ (flush0_2 ⟨_, ht⟩))
    (ix2 (⟨r.val % 1024, by omega⟩ : Fin 1024) (⟨k.val % 1408, by omega⟩ : Fin 1408))
  rw [View.read_apply, Cert.Kernel3Ideal.Value.flushed2] at e
  have eo := out_at m c ⟨_, ht⟩ ⟨r.val % 1024, by omega⟩ ⟨k.val % 1408, by omega⟩
  dsimp only at eo
  rw [show 1024 * ((4 * (r.val / 1024) + k.val / 1408) / 4) + r.val % 1024 = r.val by omega,
    show 1408 * ((4 * (r.val / 1024) + k.val / 1408) % 4) + k.val % 1408 = k.val by omega] at eo
  refine Eq.trans ?_ (e.trans eo)
  refine congrArg ((dats m 0 c).arrAt 2 cfg0.N) ?_
  funext a
  apply Fin.ext
  match a with
  | ⟨0, _⟩ =>
    show r.val = win0_2.index ⟨_, ht⟩ 0 * 1024 + 1 * (r.val % 1024)
    rw [hi'.1]; dsimp only; omega
  | ⟨1, _⟩ =>
    show k.val = win0_2.index ⟨_, ht⟩ 1 * 1408 + 1 * (k.val % 1408)
    rw [hi'.2]; dsimp only; omega

theorem equal : ((dats m 0 c).arrAt 2 cfg0.N : FVec Ideal S8192x5632 .bf16) = Cert.Reference3Ideal.Read.val_main_v1 (F := Ideal) (x0 m c) (y0 m c) := by
  funext i
  rw [eq_ix2 i]
  exact (arr m c (i 0) (i 1)).trans (ref_at _ _ _ _).symm

end Cert.Proof.Prod.FfnUp
-- ==== Proof.Attn.Soft.lean ====
module

public import Idealize.ShloMosaic.Lib.Pointwise

/-! The softmax of one row of scores, and two ways of writing its gradient: the one a backward kernel
computes, `p (dp − Σ dp p)`, and the one that differentiating numerator and denominator gives,
`(dp / S − Σ dp (1/S²) e) e`. They agree on finite scores, whatever the incoming gradient. -/

@[expose] public section

noncomputable section

open Idealize.ShloMosaic

namespace Cert.Proof.Soft

variable {n : Nat}

/-- The row maximum. -/
def mx (s : Fin n → EReal) : EReal := Finset.univ.fold max ⊥ s

/-- The exponentials of the shifted scores. -/
def ex (s : Fin n → EReal) (k : Fin n) : EReal := Ideal.exp (s k - mx s)

/-- The denominator. -/
def tot (s : Fin n → EReal) : EReal := ∑ k : Fin n, ex s k

/-- The probabilities. -/
def pr (s : Fin n → EReal) (k : Fin n) : EReal := Ideal.div (ex s k) (tot s)

/-- The gradient of the scores from the probabilities. -/
def dsK (s dp : Fin n → EReal) (k : Fin n) : EReal := pr s k * (dp k - ∑ j : Fin n, dp j * pr s j)

/-- The gradient of the scores through numerator and denominator. -/
def dsR (s dp : Fin n → EReal) (k : Fin n) : EReal :=
  (Ideal.div (dp k) (tot s) + -(∑ j : Fin n, dp j * Ideal.div 1 (tot s * tot s) * ex s j)) * ex s k

/-- A score that is a real number. -/
def Fin' (x : EReal) : Prop := x ≠ ⊤ ∧ x ≠ ⊥

theorem fold_max_fin {s : Fin n → EReal} (hs : ∀ k, Fin' (s k)) (t : Finset (Fin n)) (ht : t.Nonempty) :
    Fin' (t.fold max ⊥ s) := by
  classical
  induction t using Finset.induction_on with
  | empty => exact absurd ht (by simp)
  | insert a u ha ih =>
    rw [Finset.fold_insert ha]
    rcases u.eq_empty_or_nonempty with h | h
    · subst h; simpa using hs a
    · rcases max_choice (s a) (u.fold max ⊥ s) with h' | h' <;> rw [h']
      · exact hs a
      · exact ih h

theorem ex_real {s : Fin n → EReal} (hs : ∀ k, Fin' (s k)) (k : Fin n) :
    ∃ e : ℝ, 0 < e ∧ ex s k = (e : EReal) := by
  have hm : Fin' (mx s) := fold_max_fin hs Finset.univ ⟨k, Finset.mem_univ k⟩
  refine ⟨Real.exp ((s k).toReal - (mx s).toReal), Real.exp_pos _, ?_⟩
  rw [ex, ← Ideal.exp_coe, EReal.coe_sub, EReal.coe_toReal (hs k).1 (hs k).2, EReal.coe_toReal hm.1 hm.2]

theorem sum_coe (e : Fin n → ℝ) (t : Finset (Fin n)) :
    (∑ k ∈ t, ((e k : ℝ) : EReal)) = ((∑ k ∈ t, e k : ℝ) : EReal) := by
  classical
  induction t using Finset.induction_on with
  | empty => simp
  | insert a u ha ih => rw [Finset.sum_insert ha, Finset.sum_insert ha, ih, EReal.coe_add]

/-- A nonnegative real factor comes out of any sum. -/
theorem sum_mul_real {ι : Type} (x : ι → EReal) (c : ℝ) (hc : 0 ≤ c) (t : Finset ι) :
    (∑ k ∈ t, x k * (c : EReal)) = (∑ k ∈ t, x k) * (c : EReal) := by
  classical
  induction t using Finset.induction_on with
  | empty => simp
  | insert a u ha ih =>
    rw [Finset.sum_insert ha, Finset.sum_insert ha, ih,
      EReal.right_distrib_of_nonneg_of_ne_top (EReal.coe_nonneg.mpr hc) (EReal.coe_ne_top c)]

/-- Both forms of the gradient agree on a row of finite scores. -/
theorem dsK_eq_dsR {s : Fin n → EReal} (hs : ∀ k, Fin' (s k)) (dp : Fin n → EReal) (k : Fin n) :
    dsK s dp k = dsR s dp k := by
  classical
  choose e hpos he using ex_real hs
  have hS : 0 < ∑ j : Fin n, e j := Finset.sum_pos (fun j _ => hpos j) ⟨k, Finset.mem_univ k⟩
  have htot : tot s = ((∑ j : Fin n, e j : ℝ) : EReal) := by
    rw [tot, ← sum_coe]; exact Finset.sum_congr rfl fun j _ => he j
  generalize (∑ j : Fin n, e j) = S at hS htot
  have hS0 : S ≠ 0 := hS.ne'
  have hc : (0 : ℝ) ≤ 1 / S := by positivity
  have hp : ∀ j, pr s j = ((e j * (1 / S) : ℝ) : EReal) := fun j => by
    rw [pr, htot, he, Ideal.div_coe hS0, ← EReal.coe_mul]
  have hB : (∑ j : Fin n, dp j * Ideal.div 1 (tot s * tot s) * ex s j)
      = (∑ j : Fin n, dp j * pr s j) * ((1 / S : ℝ) : EReal) := by
    rw [← sum_mul_real _ _ hc]
    refine Finset.sum_congr rfl fun j _ => ?_
    rw [htot, ← EReal.coe_mul, Ideal.div_coe (mul_ne_zero hS0 hS0), one_mul, he, hp, mul_assoc, mul_assoc,
      ← EReal.coe_mul, ← EReal.coe_mul]
    congr 2
    field_simp
  rw [dsK, dsR, hB, hp, htot, Ideal.div_coe hS0, he, ← EReal.neg_mul,
    ← EReal.right_distrib_of_nonneg_of_ne_top (EReal.coe_nonneg.mpr hc) (EReal.coe_ne_top _), ← sub_eq_add_neg,
    mul_assoc, ← EReal.coe_mul, mul_comm (e k), mul_comm]

end Cert.Proof.Soft
-- ==== Proof.Prod.Norm.lean ====
module

public import proofs.«01_k».proof.Proof.Attn.Soft
public import Idealize.ShloMosaic.Lib.Pointwise

/-! One row of a layer normalisation and of its gradient, over the extended reals: the form the calls compute and the
    form a vector-Jacobian product gives. -/

@[expose] public section

noncomputable section

open Idealize.ShloMosaic

namespace Cert.Proof.Prod

/-- The constants of the two texts: the row's length, the small term under the root, a half with its sign, two. -/
abbrev len : EReal := Ideal.ofBits .f32 0x44800000#32
abbrev eps : EReal := Ideal.ofBits .f32 0x3727C5AC#32
abbrev mhalf : EReal := Ideal.ofBits .f32 0xBF000000#32
abbrev two : EReal := Ideal.ofBits .f32 0x40000000#32

theorem len_eq : len = ((1024 : ℝ) : EReal) := by
  simp [len, Ideal.ofBits, Ideal.ieee]
  rw [← EReal.coe_mul]; norm_num

theorem eps_eq : ∃ e : ℝ, 0 < e ∧ eps = (e : EReal) := by
  refine ⟨2748779 / 274877906944, by norm_num, ?_⟩
  simp [eps, Ideal.ofBits, Ideal.ieee]
  rw [← EReal.coe_mul]; norm_num

theorem mhalf_eq : mhalf = ((-(1 / 2) : ℝ) : EReal) := by
  simp [mhalf, Ideal.ofBits, Ideal.ieee]
  try (rw [← EReal.coe_mul]; norm_num)

theorem two_eq : two = ((2 : ℝ) : EReal) := by
  simp [two, Ideal.ofBits, Ideal.ieee]
  try (rw [← EReal.coe_mul]; norm_num)

/-- The mean of a row. -/
def mean (f : Fin 1024 → EReal) : EReal := Ideal.div (∑ k, f k) len

/-- A row less its mean, its variance with the small term, the reciprocal root of that, and the normalised row. -/
def cen (x : Fin 1024 → EReal) (k : Fin 1024) : EReal := x k - mean x
def dev (x : Fin 1024 → EReal) : EReal := mean (fun k => cen x k * cen x k) + eps
def rst (x : Fin 1024 → EReal) : EReal := Ideal.rsqrt (dev x)
def nrm (x : Fin 1024 → EReal) (k : Fin 1024) : EReal := cen x k * rst x

/-- The gradient as the calls compute it. -/
def lnb (x d : Fin 1024 → EReal) (k : Fin 1024) : EReal :=
  rst x * (d k - mean d - nrm x k * mean (fun j => d j * nrm x j))

/-- The factor of the centred row in the vector-Jacobian product. -/
def lnq (x d : Fin 1024 → EReal) : EReal := Ideal.div ((∑ j, cen x j * d j) * (mhalf * Ideal.div (rst x) (dev x))) len

/-- The gradient as a vector-Jacobian product gives it. -/
def lnv (x d : Fin 1024 → EReal) (k : Fin 1024) : EReal :=
  (d k * rst x + lnq x d * (two * cen x k))
    + Ideal.div ((∑ j, -(d j * rst x)) + ∑ j, -(lnq x d * (two * cen x j))) len

theorem div_len (x : EReal) : Ideal.div x len = x * ((1 / 1024 : ℝ) : EReal) := by
  rw [len_eq, Ideal.div_coe (by norm_num)]

theorem sum_bot {ι : Type} [DecidableEq ι] (t : Finset ι) (x : ι → EReal) (k : ι) (hk : k ∈ t) (h : x k = ⊥) : (∑ j ∈ t, x j) = ⊥ := by
  rw [← Finset.add_sum_erase t x hk, h, EReal.bot_add]

theorem sum_ne_bot {ι : Type} [DecidableEq ι] (t : Finset ι) (x : ι → EReal) (h : ∀ k ∈ t, x k ≠ ⊥) : (∑ j ∈ t, x j) ≠ ⊥ := by
  induction t using Finset.induction_on with
  | empty => simp
  | insert a s ha ih =>
    rw [Finset.sum_insert ha]
    intro e
    rcases EReal.add_eq_bot_iff.mp e with e | e
    · exact h a (Finset.mem_insert_self _ _) e
    · exact ih (fun k hk => h k (Finset.mem_insert_of_mem hk)) e

theorem sum_top {ι : Type} [DecidableEq ι] (t : Finset ι) (x : ι → EReal) (h : ∀ k ∈ t, x k ≠ ⊥) (k : ι) (hk : k ∈ t) (hx : x k = ⊤) :
    (∑ j ∈ t, x j) = ⊤ := by
  rw [← Finset.add_sum_erase t x hk, hx]
  exact EReal.top_add_of_ne_bot (sum_ne_bot _ _ fun j hj => h j (Finset.mem_of_mem_erase hj))

theorem sum_top_or_bot (x : Fin 1024 → EReal) (h : ∃ k, x k = ⊤ ∨ x k = ⊥) : (∑ k, x k) = ⊤ ∨ (∑ k, x k) = ⊥ := by
  by_cases hb : ∃ k, x k = ⊥
  · obtain ⟨k, hk⟩ := hb
    exact Or.inr (sum_bot _ x k (Finset.mem_univ _) hk)
  · obtain ⟨k, hk⟩ := h
    have hb' : ∀ k, x k ≠ ⊥ := fun k e => hb ⟨k, e⟩
    exact Or.inl (sum_top _ x (fun k _ => hb' k) k (Finset.mem_univ _) (hk.resolve_right (hb' k)))

/-- Of a row with an infinite entry the deviation is infinite. -/
theorem dev_top (x : Fin 1024 → EReal) (h : ∃ k, x k = ⊤ ∨ x k = ⊥) : dev x = ⊤ := by
  have hc : (0 : ℝ) < 1 / 1024 := by norm_num
  have hm : mean x = ⊤ ∨ mean x = ⊥ := by
    unfold mean
    rw [div_len]
    rcases sum_top_or_bot x h with e | e <;> rw [e]
    · exact Or.inl (EReal.top_mul_coe_of_pos hc)
    · exact Or.inr (EReal.bot_mul_coe_of_pos hc)
  have hs : ∀ k, cen x k * cen x k = ⊤ := by
    intro k
    unfold cen
    rcases hm with e | e <;> rw [e, sub_eq_add_neg]
    · rw [EReal.neg_top, EReal.add_bot, EReal.bot_mul_bot]
    · rw [EReal.neg_bot]
      by_cases hk : x k = ⊥
      · rw [hk, EReal.bot_add, EReal.bot_mul_bot]
      · rw [EReal.add_top_of_ne_bot hk, EReal.top_mul_top]
  obtain ⟨e, _, he⟩ := eps_eq
  unfold dev mean
  rw [div_len, sum_top _ _ (fun k _ => by rw [hs]; exact top_ne_bot) 0 (Finset.mem_univ _) (hs 0), EReal.top_mul_coe_of_pos hc, he]
  exact EReal.top_add_coe e

theorem lnv_of_top (x d : Fin 1024 → EReal) (h : dev x = ⊤) (k : Fin 1024) : lnb x d k = lnv x d k := by
  have hr : rst x = 0 := by unfold rst; rw [h, Ideal.rsqrt_top]
  have hd : Ideal.div (rst x) (dev x) = 0 := by
    rw [hr, h]; unfold Ideal.div; rw [if_neg EReal.top_ne_zero, zero_mul]
  have hq : lnq x d = 0 := by unfold lnq; rw [hd, mul_zero, mul_zero, div_len, zero_mul]
  unfold lnb lnv
  simp [hr, hq, div_len]

/-- A row of reals: its centred entries sum to zero, and the deviation is a positive real. -/
theorem reals (e : Fin 1024 → ℝ) : ∃ (f : Fin 1024 → ℝ) (s : ℝ), 0 < s ∧ (∑ k, f k) = 0 ∧
    (∀ k, cen (fun k => (e k : EReal)) k = (f k : EReal)) ∧ dev (fun k => (e k : EReal)) = (s : EReal) := by
  obtain ⟨p, hp, hpe⟩ := eps_eq
  have hc : ∀ k, cen (fun k => (e k : EReal)) k = ((e k - (∑ j, e j) * (1 / 1024) : ℝ) : EReal) := by
    intro k
    unfold cen mean
    rw [div_len, Soft.sum_coe e Finset.univ, ← EReal.coe_mul, ← EReal.coe_sub]
  refine ⟨fun k => e k - (∑ j, e j) * (1 / 1024), (∑ k, (e k - (∑ j, e j) * (1 / 1024)) * (e k - (∑ j, e j) * (1 / 1024))) * (1 / 1024) + p,
    ?_, ?_, hc, ?_⟩
  · exact add_pos_of_nonneg_of_pos (mul_nonneg (Finset.sum_nonneg fun k _ => mul_self_nonneg _) (by norm_num)) hp
  · rw [Finset.sum_sub_distrib, Finset.sum_const, Finset.card_univ, Fintype.card_fin]
    simp only [nsmul_eq_mul]
    push_cast
    ring
  · unfold dev mean
    rw [div_len, hpe]
    simp only [hc, ← EReal.coe_mul]
    rw [Soft.sum_coe _ Finset.univ, ← EReal.coe_mul, ← EReal.coe_add]

/-- The two forms on reals. -/
theorem lnb_real (e b : Fin 1024 → ℝ) (k : Fin 1024) :
    lnb (fun k => (e k : EReal)) (fun k => (b k : EReal)) k = lnv (fun k => (e k : EReal)) (fun k => (b k : EReal)) k := by
  obtain ⟨f, s, hs, hf, hc, hd⟩ := reals e
  have hr : rst (fun k => (e k : EReal)) = (((√s)⁻¹ : ℝ) : EReal) := by
    unfold rst
    rw [hd, Ideal.rsqrt_coe, if_neg (not_lt.mpr hs.le), if_neg hs.ne']
  have hq : (1 / s : ℝ) = (√s)⁻¹ * (√s)⁻¹ := by
    rw [← mul_inv, Real.mul_self_sqrt hs.le, one_div]
  unfold lnb lnv lnq nrm mean
  simp only [hr, hd, hc, div_len, Ideal.div_coe hs.ne', mhalf_eq, two_eq, ← EReal.coe_mul, ← EReal.coe_neg, Soft.sum_coe _ Finset.univ,
    ← EReal.coe_sub, ← EReal.coe_add]
  rw [hq]
  generalize (√s)⁻¹ = r
  congr 1
  have h1 : ∑ j, b j * (f j * r) = (∑ j, f j * b j) * r := by
    rw [Finset.sum_mul]; exact Finset.sum_congr rfl fun j _ => by ring
  have h2 : ∑ j, -(b j * r) = -((∑ j, b j) * r) := by rw [Finset.sum_neg_distrib, Finset.sum_mul]
  generalize hQ : (∑ j, f j * b j) * (-(1 / 2) * (r * (r * r))) * (1 / 1024) = Q
  have h3 : ∑ j, -(Q * (2 * f j)) = 0 := by
    rw [Finset.sum_neg_distrib, ← Finset.mul_sum, ← Finset.mul_sum, hf]; ring
  rw [h1, h2, h3, ← hQ]
  ring

/-- With a finite incoming gradient the two forms agree, whatever the row. -/
theorem lnb_eq_lnv (x d : Fin 1024 → EReal) (hd : ∀ k, d k ≠ ⊤ ∧ d k ≠ ⊥) (k : Fin 1024) : lnb x d k = lnv x d k := by
  by_cases h : ∃ k, x k = ⊤ ∨ x k = ⊥
  · exact lnv_of_top x d (dev_top x h) k
  · have hx : ∀ k, ((x k).toReal : EReal) = x k := fun k =>
      EReal.coe_toReal (fun e => h ⟨k, Or.inl e⟩) (fun e => h ⟨k, Or.inr e⟩)
    have hdr : ∀ k, ((d k).toReal : EReal) = d k := fun k => EReal.coe_toReal (hd k).1 (hd k).2
    rw [show x = fun k => (((x k).toReal : ℝ) : EReal) from funext fun k => (hx k).symm,
      show d = fun k => (((d k).toReal : ℝ) : EReal) from funext fun k => (hdr k).symm]
    exact lnb_real _ _ k

end Cert.Proof.Prod
-- ==== Proof.Prod.Dx1Run.lean ====
module

public import proofs.«01_k».proof.Proof.Gen.Kernel4Ideal.Value
public import proofs.«01_k».proof.Proof.Prod.Tile
public import proofs.«01_k».proof.Proof.Prod.Norm
public import Idealize.ShloMosaic.Lib.StableHlo.RunRead

/-! The gradient through the widening product and the layer normalisation before it: what the call leaves in its four
    arrays. -/

@[expose] public section

noncomputable section

open Idealize.ShloMosaic Idealize.ShloMosaic.TcCoe Idealize.SL.Sem
open Cert.Kernel4Ideal Cert.Kernel4Ideal.Gen

namespace Cert.Proof.Prod.Dx1Run

/-- The residual's factor. -/
abbrev alpha : EReal := FloatOps.ofBits (F := Ideal) .f32 0x3FB504F3#32

theorem zero_at (r k : Fin 1024) : (k0_pay1 (F := Ideal) (ix2 r k) : EReal) = 0 := by
  unfold k0_pay1
  pointwise
  try simp [Ideal.ofBits, Ideal.ieee]

theorem gzero_at (p : Fin 1) (k : Fin 1024) : (k0_pay2 (F := Ideal) (ix2 p k) : EReal) = 0 := by
  unfold k0_pay2
  pointwise
  try simp [Ideal.ofBits, Ideal.ieee]

theorem bzero_at (p : Fin 1) (k : Fin 1024) : (k0_pay3 (F := Ideal) (ix2 p k) : EReal) = 0 := by
  unfold k0_pay3
  pointwise
  try simp [Ideal.ofBits, Ideal.ieee]

theorem szero_at (p : Fin 1) (k : Fin 1024) : (k0_pay4 (F := Ideal) (ix2 p k) : EReal) = 0 := by
  unfold k0_pay4
  pointwise
  try simp [Ideal.ofBits, Ideal.ieee]

theorem step_at (s : Vec Ideal S1024x1024 .f32) (x y : Vec Ideal S1024x1408 .bf16) (r k : Fin 1024) :
    (k0_pay5 (F := Ideal) s x y (ix2 r k) : EReal) = s (ix2 r k) + ∑ t : Fin 1408, x (ix2 r t) * y (ix2 k t) := by
  unfold k0_pay5
  pointwise

theorem gstep_at (a b : Vec Ideal S1024x1024 .f32) (q : Vec Ideal S1x1024 .f32) (p : Fin 1) (k : Fin 1024) :
    (k0_pay6 (F := Ideal) a b q (ix2 p k) : EReal) = q (ix2 p k) + ∑ t : Fin 1024, a (ix2 t k) * b (ix2 t k) := by
  unfold k0_pay6
  pointwise

theorem bstep_at (a : Vec Ideal S1024x1024 .f32) (q : Vec Ideal S1x1024 .f32) (p : Fin 1) (k : Fin 1024) :
    (k0_pay7 (F := Ideal) a q (ix2 p k) : EReal) = q (ix2 p k) + ∑ t : Fin 1024, a (ix2 t k) := by
  unfold k0_pay7
  pointwise

theorem sstep_at (a : Vec Ideal S1024x1024 .f32) (q : Vec Ideal S1x1024 .f32) (p : Fin 1) (k : Fin 1024) :
    (k0_pay8 (F := Ideal) a q (ix2 p k) : EReal) = q (ix2 p k) + ∑ t : Fin 1024, a (ix2 t k) := by
  unfold k0_pay8
  pointwise

theorem ct_at (s z : Vec Ideal S1024x1024 .f32) (r k : Fin 1024) :
    (k0_pay9 (F := Ideal) s z (ix2 r k) : EReal) = s (ix2 r k) + alpha * z (ix2 r k) := by
  unfold k0_pay9
  pointwise

theorem cen_at (x : Vec Ideal S1024x1024 .f32) (r k : Fin 1024) :
    (k0_pay10 (F := Ideal) x (ix2 r k) : EReal) = cen (fun j => x (ix2 r j)) k := by
  unfold k0_pay10 cen mean
  pointwise

theorem rst_at (x : Vec Ideal S1024x1024 .f32) (r : Fin 1024) (p : Fin 1) :
    (k0_pay11 (F := Ideal) x (ix2 r p) : EReal) = rst (fun j => x (ix2 r j)) := by
  unfold k0_pay11 rst dev mean
  simp only [← cen_at]
  generalize k0_pay10 (F := Ideal) x = w
  pointwise

theorem nrm_at (x : Vec Ideal S1024x1024 .f32) (r k : Fin 1024) :
    (k0_pay12 (F := Ideal) x (ix2 r k) : EReal) = nrm (fun j => x (ix2 r j)) k := by
  unfold k0_pay12 nrm
  rw [← cen_at, ← rst_at x r 0]
  generalize k0_pay10 (F := Ideal) x = w
  generalize k0_pay11 (F := Ideal) x = u
  pointwise

theorem grad_at (s z x : Vec Ideal S1024x1024 .f32) (g : Vec Ideal S1x1024 .f32) (r k : Fin 1024) :
    (k0_pay13 (F := Ideal) s z x g (ix2 r k) : EReal)
      = lnb (fun j => x (ix2 r j)) (fun j => (s (ix2 r j) + alpha * z (ix2 r j)) * g (ix2 (0 : Fin 1) j)) k := by
  unfold k0_pay13 lnb mean
  simp only [← nrm_at, ← rst_at x r 0, ← ct_at s z]
  generalize k0_pay9 (F := Ideal) s z = w
  generalize k0_pay11 (F := Ideal) x = u
  generalize k0_pay12 (F := Ideal) x = v
  pointwise

section Cases

variable (c : Dev nD) (i : grid0.Coords)
  (a3 : Memref sig .tc .vmem S1024x1408 .bf16) (h3 : a3.IsWhole)
  (a4 : Memref sig .tc .vmem S1024x1408 .bf16) (h4 : a4.IsWhole)
  (a5 : Memref sig .tc .vmem S1024x1024 .f32) (h5 : a5.IsWhole)
  (a6 : Memref sig .tc .vmem S1024x1024 .f32) (h6 : a6.IsWhole)
  (a7 : Memref sig .tc .vmem S1x1024 .f32) (h7 : a7.IsWhole)
  (a8 : Memref sig .tc .vmem S1024x1024 .f32) (h8 : a8.IsWhole)
  (a9 : Memref sig .tc .vmem S1x1024 .f32) (h9 : a9.IsWhole)
  (a10 : Memref sig .tc .vmem S1x1024 .f32) (h10 : a10.IsWhole)
  (a11 : Memref sig .tc .vmem S1x1024 .f32) (h11 : a11.IsWhole)
  (a12 : Memref sig .tc .vmem S1024x1024 .f32) (h12 : a12.IsWhole)
  (x y : Vec Ideal S1024x1408 .bf16) (z w : Vec Ideal S1024x1024 .f32) (g : Vec Ideal S1x1024 .f32)

theorem startS (hc0 : cond0_0 i) (hc1 : cond0_1 i) (hc2 : ¬cond0_2 i) :
    sout0_A_0 c i a3 h3 a4 h4 a5 h5 a6 h6 a7 h7 a8 h8 a9 h9 a10 h10 a11 h11 a12 h12 hc0 hc1 hc2 x y z w g = k0_pay5 (k0_pay1 (F := Ideal)) x y := by
  unfold sout0_A_0
  rw [View.read_writes_eq_canon _ _ _ (scover0_A_0 c i a3 h3 a4 h4 a5 h5 a6 h6 a7 h7 a8 h8 a9 h9 a10 h10 a11 h11 a12 h12 hc0 hc1 hc2 x y z w g)]
  unfold kernelRun0_A
  dsimp only
  sl_unfold_words
  rw [View.canon_cons_unit_zero (S := S1024x1024) zero2]
  simp only [View.readCov_cons_toLoadRect, View.readCov_unit_zero (S := S1024x1024) _ zero2, View.readCov_unit_zero (S := S1x1024) _ zero2, View.readAt_eq_ld,
    h3.read_unread, h4.read_unread, h5.read_unread, h6.read_unread, h7.read_unread, h9.read_unread, h10.read_unread, h11.read_unread, h12.read_unread,
    View.ld_unit_zero (S := S1024x1408) zero2, View.ld_unit_zero (S := S1024x1024) zero2, View.ld_unit_zero (S := S1x1024) zero2]

theorem nextS (hc0 : ¬cond0_0 i) (hc1 : ¬cond0_1 i) (hc2 : ¬cond0_2 i) (s : Vec Ideal S1024x1024 .f32) :
    sout0_B_0 c i a3 h3 a4 h4 a5 h5 a6 h6 a7 h7 a8 h8 a9 h9 a10 h10 a11 h11 a12 h12 hc0 hc1 hc2 x y z w g s = k0_pay5 s x y := by
  unfold sout0_B_0
  rw [View.read_writes_eq_canon _ _ _ (scover0_B_0 c i a3 h3 a4 h4 a5 h5 a6 h6 a7 h7 a8 h8 a9 h9 a10 h10 a11 h11 a12 h12 hc0 hc1 hc2 x y z w g s)]
  unfold kernelRun0_B
  dsimp only
  sl_unfold_words
  rw [View.canon_unit_zero (S := S1024x1024) zero2]
  simp only [View.readCov_cons_toLoadRect, View.readCov_unit_zero (S := S1024x1024) _ zero2, View.readCov_unit_zero (S := S1x1024) _ zero2, View.readAt_eq_ld,
    h3.read_unread, h4.read_unread, h5.read_unread, h6.read_unread, h7.read_unread, h9.read_unread, h10.read_unread, h11.read_unread, h12.read_unread,
    View.ld_unit_zero (S := S1024x1408) zero2, View.ld_unit_zero (S := S1024x1024) zero2, View.ld_unit_zero (S := S1x1024) zero2]

theorem lastS (hc0 : ¬cond0_0 i) (hc1 : ¬cond0_1 i) (hc2 : cond0_2 i) (q6 q7 q8 : Vec Ideal S1x1024 .f32) (s : Vec Ideal S1024x1024 .f32) :
    sout0_C_0 c i a3 h3 a4 h4 a5 h5 a6 h6 a7 h7 a8 h8 a9 h9 a10 h10 a11 h11 a12 h12 hc0 hc1 hc2 x y z w g q6 q7 q8 s = k0_pay5 s x y := by
  unfold sout0_C_0
  rw [View.read_writes_eq_canon _ _ _ (scover0_C_0 c i a3 h3 a4 h4 a5 h5 a6 h6 a7 h7 a8 h8 a9 h9 a10 h10 a11 h11 a12 h12 hc0 hc1 hc2 x y z w g q6 q7 q8 s)]
  unfold kernelRun0_C
  dsimp only
  sl_unfold_words
  rw [View.canon_unit_zero (S := S1024x1024) zero2]
  simp only [View.readCov_cons_toLoadRect, View.readCov_unit_zero (S := S1024x1024) _ zero2, View.readCov_unit_zero (S := S1x1024) _ zero2, View.readAt_eq_ld,
    h3.read_unread, h4.read_unread, h5.read_unread, h6.read_unread, h7.read_unread, h9.read_unread, h10.read_unread, h11.read_unread, h12.read_unread,
    View.ld_unit_zero (S := S1024x1408) zero2, View.ld_unit_zero (S := S1024x1024) zero2, View.ld_unit_zero (S := S1x1024) zero2]

theorem freshS (hc0 : cond0_0 i) (hc1 : ¬cond0_1 i) (hc2 : ¬cond0_2 i) :
    sout0_D_0 c i a3 h3 a4 h4 a5 h5 a6 h6 a7 h7 a8 h8 a9 h9 a10 h10 a11 h11 a12 h12 hc0 hc1 hc2 x y z w g = k0_pay5 (k0_pay1 (F := Ideal)) x y := by
  unfold sout0_D_0
  rw [View.read_writes_eq_canon _ _ _ (scover0_D_0 c i a3 h3 a4 h4 a5 h5 a6 h6 a7 h7 a8 h8 a9 h9 a10 h10 a11 h11 a12 h12 hc0 hc1 hc2 x y z w g)]
  unfold kernelRun0_D
  dsimp only
  sl_unfold_words
  rw [View.canon_cons_unit_zero (S := S1024x1024) zero2]
  simp only [View.readCov_cons_toLoadRect, View.readCov_unit_zero (S := S1024x1024) _ zero2, View.readCov_unit_zero (S := S1x1024) _ zero2, View.readAt_eq_ld,
    h3.read_unread, h4.read_unread, h5.read_unread, h6.read_unread, h7.read_unread, h9.read_unread, h10.read_unread, h11.read_unread, h12.read_unread,
    View.ld_unit_zero (S := S1024x1408) zero2, View.ld_unit_zero (S := S1024x1024) zero2, View.ld_unit_zero (S := S1x1024) zero2]

theorem start6 (hc0 : cond0_0 i) (hc1 : cond0_1 i) (hc2 : ¬cond0_2 i) :
    out0_A_6 c i a3 h3 a4 h4 a5 h5 a6 h6 a7 h7 a8 h8 a9 h9 a10 h10 a11 h11 a12 h12 hc0 hc1 hc2 x y z w g = k0_pay2 (F := Ideal) := by
  unfold out0_A_6
  rw [View.read_writes_eq_canon _ _ _ (cover0_A_6 c i a3 h3 a4 h4 a5 h5 a6 h6 a7 h7 a8 h8 a9 h9 a10 h10 a11 h11 a12 h12 hc0 hc1 hc2 x y z w g)]
  unfold kernelRun0_A
  dsimp only
  sl_unfold_words
  rw [View.canon_unit_zero (S := S1x1024) zero2]

theorem start7 (hc0 : cond0_0 i) (hc1 : cond0_1 i) (hc2 : ¬cond0_2 i) :
    out0_A_7 c i a3 h3 a4 h4 a5 h5 a6 h6 a7 h7 a8 h8 a9 h9 a10 h10 a11 h11 a12 h12 hc0 hc1 hc2 x y z w g = k0_pay3 (F := Ideal) := by
  unfold out0_A_7
  rw [View.read_writes_eq_canon _ _ _ (cover0_A_7 c i a3 h3 a4 h4 a5 h5 a6 h6 a7 h7 a8 h8 a9 h9 a10 h10 a11 h11 a12 h12 hc0 hc1 hc2 x y z w g)]
  unfold kernelRun0_A
  dsimp only
  sl_unfold_words
  rw [View.canon_unit_zero (S := S1x1024) zero2]

theorem start8 (hc0 : cond0_0 i) (hc1 : cond0_1 i) (hc2 : ¬cond0_2 i) :
    out0_A_8 c i a3 h3 a4 h4 a5 h5 a6 h6 a7 h7 a8 h8 a9 h9 a10 h10 a11 h11 a12 h12 hc0 hc1 hc2 x y z w g = k0_pay4 (F := Ideal) := by
  unfold out0_A_8
  rw [View.read_writes_eq_canon _ _ _ (cover0_A_8 c i a3 h3 a4 h4 a5 h5 a6 h6 a7 h7 a8 h8 a9 h9 a10 h10 a11 h11 a12 h12 hc0 hc1 hc2 x y z w g)]
  unfold kernelRun0_A
  dsimp only
  sl_unfold_words
  rw [View.canon_unit_zero (S := S1x1024) zero2]

theorem last5 (hc0 : ¬cond0_0 i) (hc1 : ¬cond0_1 i) (hc2 : cond0_2 i) (q6 q7 q8 : Vec Ideal S1x1024 .f32) (s : Vec Ideal S1024x1024 .f32) :
    out0_C_5 c i a3 h3 a4 h4 a5 h5 a6 h6 a7 h7 a8 h8 a9 h9 a10 h10 a11 h11 a12 h12 hc0 hc1 hc2 x y z w g q6 q7 q8 s = k0_pay13 (k0_pay5 s x y) z w g := by
  unfold out0_C_5
  rw [View.read_writes_eq_canon _ _ _ (cover0_C_5 c i a3 h3 a4 h4 a5 h5 a6 h6 a7 h7 a8 h8 a9 h9 a10 h10 a11 h11 a12 h12 hc0 hc1 hc2 x y z w g q6 q7 q8 s)]
  unfold kernelRun0_C
  dsimp only
  sl_unfold_words
  rw [View.canon_unit_zero (S := S1024x1024) zero2]
  simp only [View.readCov_cons_toLoadRect, View.readCov_unit_zero (S := S1024x1024) _ zero2, View.readCov_unit_zero (S := S1x1024) _ zero2, View.readAt_eq_ld,
    h3.read_unread, h4.read_unread, h5.read_unread, h6.read_unread, h7.read_unread, h9.read_unread, h10.read_unread, h11.read_unread, h12.read_unread,
    View.ld_unit_zero (S := S1024x1408) zero2, View.ld_unit_zero (S := S1024x1024) zero2, View.ld_unit_zero (S := S1x1024) zero2]

theorem last6 (hc0 : ¬cond0_0 i) (hc1 : ¬cond0_1 i) (hc2 : cond0_2 i) (q6 q7 q8 : Vec Ideal S1x1024 .f32) (s : Vec Ideal S1024x1024 .f32) :
    out0_C_6 c i a3 h3 a4 h4 a5 h5 a6 h6 a7 h7 a8 h8 a9 h9 a10 h10 a11 h11 a12 h12 hc0 hc1 hc2 x y z w g q6 q7 q8 s = k0_pay6 (k0_pay9 (k0_pay5 s x y) z) (k0_pay12 w) q6 := by
  unfold out0_C_6
  rw [View.read_writes_eq_canon _ _ _ (cover0_C_6 c i a3 h3 a4 h4 a5 h5 a6 h6 a7 h7 a8 h8 a9 h9 a10 h10 a11 h11 a12 h12 hc0 hc1 hc2 x y z w g q6 q7 q8 s)]
  unfold kernelRun0_C
  dsimp only
  sl_unfold_words
  rw [View.canon_unit_zero (S := S1x1024) zero2]
  simp only [View.readCov_cons_toLoadRect, View.readCov_unit_zero (S := S1024x1024) _ zero2, View.readCov_unit_zero (S := S1x1024) _ zero2, View.readAt_eq_ld,
    h3.read_unread, h4.read_unread, h5.read_unread, h6.read_unread, h7.read_unread, h9.read_unread, h10.read_unread, h11.read_unread, h12.read_unread,
    View.ld_unit_zero (S := S1024x1408) zero2, View.ld_unit_zero (S := S1024x1024) zero2, View.ld_unit_zero (S := S1x1024) zero2]

theorem last7 (hc0 : ¬cond0_0 i) (hc1 : ¬cond0_1 i) (hc2 : cond0_2 i) (q6 q7 q8 : Vec Ideal S1x1024 .f32) (s : Vec Ideal S1024x1024 .f32) :
    out0_C_7 c i a3 h3 a4 h4 a5 h5 a6 h6 a7 h7 a8 h8 a9 h9 a10 h10 a11 h11 a12 h12 hc0 hc1 hc2 x y z w g q6 q7 q8 s = k0_pay7 (k0_pay9 (k0_pay5 s x y) z) q7 := by
  unfold out0_C_7
  rw [View.read_writes_eq_canon _ _ _ (cover0_C_7 c i a3 h3 a4 h4 a5 h5 a6 h6 a7 h7 a8 h8 a9 h9 a10 h10 a11 h11 a12 h12 hc0 hc1 hc2 x y z w g q6 q7 q8 s)]
  unfold kernelRun0_C
  dsimp only
  sl_unfold_words
  rw [View.canon_unit_zero (S := S1x1024) zero2]
  simp only [View.readCov_cons_toLoadRect, View.readCov_unit_zero (S := S1024x1024) _ zero2, View.readCov_unit_zero (S := S1x1024) _ zero2, View.readAt_eq_ld,
    h3.read_unread, h4.read_unread, h5.read_unread, h6.read_unread, h7.read_unread, h9.read_unread, h10.read_unread, h11.read_unread, h12.read_unread,
    View.ld_unit_zero (S := S1024x1408) zero2, View.ld_unit_zero (S := S1024x1024) zero2, View.ld_unit_zero (S := S1x1024) zero2]

theorem last8 (hc0 : ¬cond0_0 i) (hc1 : ¬cond0_1 i) (hc2 : cond0_2 i) (q6 q7 q8 : Vec Ideal S1x1024 .f32) (s : Vec Ideal S1024x1024 .f32) :
    out0_C_8 c i a3 h3 a4 h4 a5 h5 a6 h6 a7 h7 a8 h8 a9 h9 a10 h10 a11 h11 a12 h12 hc0 hc1 hc2 x y z w g q6 q7 q8 s = k0_pay8 (k0_pay13 (k0_pay5 s x y) z w g) q8 := by
  unfold out0_C_8
  rw [View.read_writes_eq_canon _ _ _ (cover0_C_8 c i a3 h3 a4 h4 a5 h5 a6 h6 a7 h7 a8 h8 a9 h9 a10 h10 a11 h11 a12 h12 hc0 hc1 hc2 x y z w g q6 q7 q8 s)]
  unfold kernelRun0_C
  dsimp only
  sl_unfold_words
  rw [View.canon_unit_zero (S := S1x1024) zero2]
  simp only [View.readCov_cons_toLoadRect, View.readCov_unit_zero (S := S1024x1024) _ zero2, View.readCov_unit_zero (S := S1x1024) _ zero2, View.readAt_eq_ld,
    h3.read_unread, h4.read_unread, h5.read_unread, h6.read_unread, h7.read_unread, h9.read_unread, h10.read_unread, h11.read_unread, h12.read_unread,
    View.ld_unit_zero (S := S1024x1408) zero2, View.ld_unit_zero (S := S1024x1024) zero2, View.ld_unit_zero (S := S1x1024) zero2]

end Cases

variable (m : (ℓ : Loc nD τ sig) → Buf (Elt Ideal) ℓ) (c : Dev nD)

/-- The operands as launched. -/
abbrev x0 : FVec Ideal S8192x5632 .f32 := m ((c : Thread nD τ).loc main_arg0)
abbrev y0 : FVec Ideal S1024x5632 .f32 := m ((c : Thread nD τ).loc main_arg1)
abbrev z0 : FVec Ideal S8192x1024 .f32 := m ((c : Thread nD τ).loc main_arg2)
abbrev w0 : FVec Ideal S8192x1024 .f32 := m ((c : Thread nD τ).loc main_arg3)
abbrev g0 : FVec Ideal S1024 .f32 := m ((c : Thread nD τ).loc main_arg4)

theorem V_v0 : (V m c main_v0 : FVec Ideal S8192x5632 .bf16) = truncf .bf16 (x0 m c) bitsLt_bf16_f32 := by
  after_reads_simp

theorem V_v1 : (V m c main_v1 : FVec Ideal S1024x5632 .bf16) = truncf .bf16 (y0 m c) bitsLt_bf16_f32 := by
  after_reads_simp

theorem V_v2 : (V m c main_v2 : FVec Ideal S1x1024 .f32) = shapeCast S1x1024 (g0 m c) shapeCasts_S1024_S1x1024 := by
  after_reads_simp
  rfl

theorem blk0 (t : Fin cfg0.N) (r : Fin 1024) (u : Fin 1408) :
    ((iblk m c 0 t : FVec Ideal S1024x1408 .bf16) (ix2 r u) : EReal) = at2 (x0 m c) (1024 * (t.val / 4) + r.val) (1408 * (t.val % 4) + u.val) := by
  have hi : win0_0.index t 0 = t.val / 4 ∧ win0_0.index t 1 = t.val % 4 := by revert t; decide +kernel
  have hr := r.isLt
  have hu := u.isLt
  have ht : t.val < 32 := lt_of_lt_of_eq t.isLt N_0
  rw [← at2_mk (x0 m c) (show 1024 * (t.val / 4) + r.val < 8192 by omega) (show 1408 * (t.val % 4) + u.val < 5632 by omega)]
  unfold iblk
  rw [View.read_apply]
  show V m c main_v0 _ = x0 m c _
  rw [V_v0]
  show x0 m c _ = x0 m c _
  congr 1
  funext a
  apply Fin.ext
  match a with
  | ⟨0, _⟩ => show win0_0.index t 0 * 1024 + 1 * r.val = 1024 * (t.val / 4) + r.val; rw [hi.1]; omega
  | ⟨1, _⟩ => show win0_0.index t 1 * 1408 + 1 * u.val = 1408 * (t.val % 4) + u.val; rw [hi.2]; omega

theorem blk1 (t : Fin cfg0.N) (k : Fin 1024) (u : Fin 1408) :
    ((iblk m c 1 t : FVec Ideal S1024x1408 .bf16) (ix2 k u) : EReal) = at2 (y0 m c) k.val (1408 * (t.val % 4) + u.val) := by
  have hi : win0_1.index t 0 = 0 ∧ win0_1.index t 1 = t.val % 4 := by revert t; decide +kernel
  have hu := u.isLt
  have ht : t.val < 32 := lt_of_lt_of_eq t.isLt N_0
  rw [← at2_mk (y0 m c) k.isLt (show 1408 * (t.val % 4) + u.val < 5632 by omega)]
  unfold iblk
  rw [View.read_apply]
  show V m c main_v1 _ = y0 m c _
  rw [V_v1]
  show y0 m c _ = y0 m c _
  congr 1
  funext a
  apply Fin.ext
  match a with
  | ⟨0, _⟩ => show win0_1.index t 0 * 1024 + 1 * k.val = k.val; rw [hi.1]; omega
  | ⟨1, _⟩ => show win0_1.index t 1 * 1408 + 1 * u.val = 1408 * (t.val % 4) + u.val; rw [hi.2]; omega

theorem blk2 (t : Fin cfg0.N) (r : Fin 1024) (k : Fin 1024) :
    ((iblk m c 2 t : FVec Ideal S1024x1024 .f32) (ix2 r k) : EReal) = at2 (z0 m c) (1024 * (t.val / 4) + r.val) k.val := by
  have hi : win0_2.index t 0 = t.val / 4 ∧ win0_2.index t 1 = 0 := by revert t; decide +kernel
  have hr := r.isLt
  have ht : t.val < 32 := lt_of_lt_of_eq t.isLt N_0
  rw [← at2_mk (z0 m c) (show 1024 * (t.val / 4) + r.val < 8192 by omega) k.isLt]
  unfold iblk
  rw [View.read_apply]
  show V m c main_arg2 _ = z0 m c _
  rw [V_main_arg2]
  congr 1
  funext a
  apply Fin.ext
  match a with
  | ⟨0, _⟩ => show win0_2.index t 0 * 1024 + 1 * r.val = 1024 * (t.val / 4) + r.val; rw [hi.1]; omega
  | ⟨1, _⟩ => show win0_2.index t 1 * 1024 + 1 * k.val = k.val; rw [hi.2]; omega

theorem blk3 (t : Fin cfg0.N) (r : Fin 1024) (k : Fin 1024) :
    ((iblk m c 3 t : FVec Ideal S1024x1024 .f32) (ix2 r k) : EReal) = at2 (w0 m c) (1024 * (t.val / 4) + r.val) k.val := by
  have hi : win0_3.index t 0 = t.val / 4 ∧ win0_3.index t 1 = 0 := by revert t; decide +kernel
  have hr := r.isLt
  have ht : t.val < 32 := lt_of_lt_of_eq t.isLt N_0
  rw [← at2_mk (w0 m c) (show 1024 * (t.val / 4) + r.val < 8192 by omega) k.isLt]
  unfold iblk
  rw [View.read_apply]
  show V m c main_arg3 _ = w0 m c _
  rw [V_main_arg3]
  congr 1
  funext a
  apply Fin.ext
  match a with
  | ⟨0, _⟩ => show win0_3.index t 0 * 1024 + 1 * r.val = 1024 * (t.val / 4) + r.val; rw [hi.1]; omega
  | ⟨1, _⟩ => show win0_3.index t 1 * 1024 + 1 * k.val = k.val; rw [hi.2]; omega

theorem blk4 (t : Fin cfg0.N) (p : Fin 1) (k : Fin 1024) :
    ((iblk m c 4 t : FVec Ideal S1x1024 .f32) (ix2 p k) : EReal) = at1 (g0 m c) k.val := by
  have hi : win0_4.index t 0 = 0 ∧ win0_4.index t 1 = 0 := by revert t; decide +kernel
  have hp := p.isLt
  rw [at1_val]
  unfold iblk
  rw [View.read_apply]
  show V m c main_v2 _ = g0 m c _
  rw [V_v2]
  refine Eq.trans (congrArg (shapeCast S1x1024 (g0 m c) shapeCasts_S1024_S1x1024) (?_ : _ = ix2 p k)) ?_
  · funext a
    apply Fin.ext
    match a with
    | ⟨0, _⟩ => show win0_4.index t 0 * 1 + 1 * p.val = p.val; rw [hi.1]; omega
    | ⟨1, _⟩ => show win0_4.index t 1 * 1024 + 1 * k.val = k.val; rw [hi.2]; omega
  · generalize g0 m c = v
    pointwise

/-- Row by row: the incoming gradient, the normalised rows' input, the gradient scaled by the gain, and the result. -/
def ctr (R : ℕ) (k : ℕ) : EReal := (∑ s ∈ Finset.range 5632, at2 (x0 m c) R s * at2 (y0 m c) k s) + alpha * at2 (z0 m c) R k
def xr (R : ℕ) (k : Fin 1024) : EReal := at2 (w0 m c) R k.val
def dr (R : ℕ) (k : Fin 1024) : EReal := ctr m c R k.val * at1 (g0 m c) k.val
def gx (R : ℕ) (k : Fin 1024) : EReal := lnb (xr m c R) (dr m c R) k

/-- What one point adds at an element of the scratch. -/
def part (r k n : ℕ) : EReal :=
  ∑ u ∈ Finset.range 1408, at2 (x0 m c) (1024 * (n / 4) + r) (1408 * (n % 4) + u) * at2 (y0 m c) k (1408 * (n % 4) + u)

theorem step_part (t : Fin cfg0.N) (s : Vec Ideal S1024x1024 .f32) (r k : Fin 1024) :
    (k0_pay5 (F := Ideal) s (iblk m c 0 t) (iblk m c 1 t) (ix2 r k) : EReal) = s (ix2 r k) + part m c r.val k.val t.val := by
  rw [step_at]
  unfold part
  rw [← sum_fin 1408 (fun u => at2 (x0 m c) (1024 * (t.val / 4) + r.val) (1408 * (t.val % 4) + u) * at2 (y0 m c) k.val (1408 * (t.val % 4) + u))]
  exact congrArg (s (ix2 r k) + ·) (Finset.sum_congr rfl fun u _ => congrArg₂ (· * ·) (blk0 m c t r u) (blk1 m c t k u))

/-- The scratch after every point. -/
theorem acc (r k : Fin 1024) (n : ℕ) (h : n < cfg0.N) :
    ((outsAt0 m c n h).2.2.2.2 (ix2 r k) : EReal) = ∑ j ∈ Finset.range (n % 4 + 1), part m c r.val k.val (4 * (n / 4) + j) := by
  refine since_start 4 (by decide) (fun n h => ((outsAt0 m c n h).2.2.2.2 (ix2 r k) : EReal)) (fun n => part m c r.val k.val n) ?_ ?_ n h
  · intro n h hz
    by_cases hs : n % 32 = 0
    · have e := outsAt0_A m c ⟨n, h⟩ hz hs (by dsimp only; omega)
      dsimp only at e ⊢
      rw [e]
      dsimp only
      rw [startS, step_part, zero_at, zero_add]
    · have e := outsAt0_D m c ⟨n, h⟩ hz hs (by dsimp only; omega)
      dsimp only at e ⊢
      rw [e]
      dsimp only
      rw [freshS, step_part, zero_at, zero_add]
  · intro n h hz
    by_cases hl : (n + 1) % 4 = 3
    · have e := outsAt0_C m c ⟨n + 1, h⟩ hz (by dsimp only; omega) hl
      dsimp only at e ⊢
      rw [e]
      dsimp only
      rw [lastS, step_part]
      rfl
    · have e := outsAt0_B m c ⟨n + 1, h⟩ hz (by dsimp only; omega) hl
      dsimp only at e ⊢
      rw [e]
      dsimp only
      rw [nextS, step_part]
      rfl

/-- The product's tile at a point that ends a reduction. -/
abbrev tile (t : Fin cfg0.N) : Vec Ideal S1024x1024 .f32 :=
  k0_pay5 (F := Ideal) (outsAt0 m c (t.val - 1) (Nat.lt_of_le_of_lt (Nat.sub_le _ _) t.isLt)).2.2.2.2 (iblk m c 0 t) (iblk m c 1 t)

theorem full_at (t : Fin cfg0.N) (hl : t.val % 4 = 3) (r k : Fin 1024) :
    (tile m c t (ix2 r k) : EReal) = ∑ s ∈ Finset.range 5632, at2 (x0 m c) (1024 * (t.val / 4) + r.val) s * at2 (y0 m c) k.val s := by
  have e := outsAt0_C m c t (by omega) (by omega) hl
  have ea := acc m c r k t.val t.isLt
  rw [e] at ea
  dsimp only at ea
  rw [lastS] at ea
  refine ea.trans ?_
  rw [hl]
  unfold part
  refine Eq.trans ?_ (range_tiles 1408 (fun s => at2 (x0 m c) (1024 * (t.val / 4) + r.val) s * at2 (y0 m c) k.val s) 4)
  refine Finset.sum_congr rfl fun j hj => ?_
  have hj' := Finset.mem_range.mp hj
  rw [show (4 * (t.val / 4) + j) % 4 = j by omega, show (4 * (t.val / 4) + j) / 4 = t.val / 4 by omega]

theorem ct_tile (t : Fin cfg0.N) (hl : t.val % 4 = 3) (r k : Fin 1024) :
    (k0_pay9 (F := Ideal) (tile m c t) (iblk m c 2 t) (ix2 r k) : EReal) = ctr m c (1024 * (t.val / 4) + r.val) k.val := by
  rw [ct_at, full_at m c t hl]
  exact congrArg (fun v => _ + alpha * v) (blk2 m c t r k)

theorem nrm_tile (t : Fin cfg0.N) (r k : Fin 1024) :
    (k0_pay12 (F := Ideal) (iblk m c 3 t) (ix2 r k) : EReal) = nrm (xr m c (1024 * (t.val / 4) + r.val)) k := by
  rw [nrm_at]
  exact congrArg (fun f => nrm f k) (funext fun j => blk3 m c t r j)

theorem grad_tile (t : Fin cfg0.N) (hl : t.val % 4 = 3) (r k : Fin 1024) :
    (k0_pay13 (F := Ideal) (tile m c t) (iblk m c 2 t) (iblk m c 3 t) (iblk m c 4 t) (ix2 r k) : EReal) = gx m c (1024 * (t.val / 4) + r.val) k := by
  rw [grad_at]
  refine congrArg₂ (fun f d => lnb f d k) (funext fun j => blk3 m c t r j) (funext fun j => ?_)
  refine congrArg₂ (· * ·) ?_ (blk4 m c t 0 j)
  rw [← ct_tile m c t hl r j, ct_at]

/-- The rows' gradients at a point that ends a reduction. -/
theorem out_at (t : Fin cfg0.N) (hl : t.val % 4 = 3) (r k : Fin 1024) :
    ((outsAt0 m c t.val t.isLt).1 (ix2 r k) : EReal) = gx m c (1024 * (t.val / 4) + r.val) k := by
  have e := outsAt0_C m c t (by omega) (by omega) hl
  rw [e]
  dsimp only
  rw [last5]
  exact grad_tile m c t hl r k

/-- What one point adds to a column's sum: only the ends of the reductions add. -/
def atEnd (f : ℕ → EReal) (n : ℕ) : EReal := if n % 4 = 3 then ∑ u ∈ Finset.range 1024, f (1024 * (n / 4) + u) else 0

theorem ends (f : ℕ → EReal) : (∑ j ∈ Finset.range 32, atEnd f j) = ∑ R ∈ Finset.range 8192, f R := by
  rw [show 8192 = 8 * 1024 from rfl, ← range_tiles 1024 f 8]
  have hz : ∀ q, (∑ i ∈ Finset.range 4, atEnd f (4 * q + i)) = ∑ u ∈ Finset.range 1024, f (1024 * q + u) := by
    intro q
    generalize hv : (∑ u ∈ Finset.range 1024, f (1024 * q + u)) = v
    rw [Finset.sum_range_succ, Finset.sum_range_succ, Finset.sum_range_succ, Finset.sum_range_succ, Finset.sum_range_zero]
    unfold atEnd
    rw [if_neg (by omega), if_neg (by omega), if_neg (by omega), if_pos (by omega), show (4 * q + 3) / 4 = q by omega, hv]
    simp only [zero_add, add_zero]
  rw [show 32 = 8 * 4 from rfl, ← range_tiles 4 (atEnd f) 8]
  exact Finset.sum_congr rfl fun q _ => hz q

/-- The columns' sums of output 6 after every point. -/
theorem gain_acc (p : Fin 1) (k : Fin 1024) (n : ℕ) (h : n < cfg0.N) :
    ((outsAt0 m c n h).2.1 (ix2 p k) : EReal)
      = ∑ j ∈ Finset.range (n % 32 + 1), atEnd (fun R => ctr m c R k.val * nrm (xr m c R) k) (32 * (n / 32) + j) := by
  refine since_start 32 (by decide) (fun n h => ((outsAt0 m c n h).2.1 (ix2 p k) : EReal)) (fun n => atEnd (fun R => ctr m c R k.val * nrm (xr m c R) k) n) ?_ ?_ n h
  · intro n h hz
    have e := outsAt0_A m c ⟨n, h⟩ (by dsimp only; omega) hz (by dsimp only; omega)
    dsimp only at e ⊢
    rw [e]
    dsimp only
    rw [start6, gzero_at]
    unfold atEnd
    rw [if_neg (by omega)]
  · intro n h hz
    by_cases hl : (n + 1) % 4 = 3
    · have e := outsAt0_C m c ⟨n + 1, h⟩ (by dsimp only; omega) hz hl
      dsimp only at e ⊢
      rw [e]
      dsimp only
      rw [last6, gstep_at]
      unfold atEnd
      rw [if_pos hl]
      refine congrArg₂ (· + ·) rfl ?_
      rw [← sum_fin 1024 (fun u => (fun R => ctr m c R k.val * nrm (xr m c R) k) (1024 * ((n + 1) / 4) + u))]
      exact Finset.sum_congr rfl fun u _ => congrArg₂ (· * ·) (ct_tile m c ⟨n + 1, h⟩ hl u k) (nrm_tile m c ⟨n + 1, h⟩ u k)
    · have ez : ∀ f, atEnd f (n + 1) = 0 := fun f => if_neg hl
      rw [ez]
      by_cases hz4 : (n + 1) % 4 = 0
      · have e := outsAt0_D m c ⟨n + 1, h⟩ hz4 hz hl
        dsimp only at e ⊢
        rw [e, add_zero]
        rfl
      · have e := outsAt0_B m c ⟨n + 1, h⟩ hz4 hz hl
        dsimp only at e ⊢
        rw [e, add_zero]
        rfl

theorem gain_arr (p : Fin 1) (k : Fin 1024) :
    ((dats m 0 c).arrAt 6 cfg0.N (ix2 p k) : EReal) = ∑ R ∈ Finset.range 8192, (fun R => ctr m c R k.val * nrm (xr m c R) k) R := by
  have hp := p.isLt
  have hk := k.isLt
  have hN : cfg0.N = 32 := N_0
  rw [Cert.Kernel4Ideal.Value.final6]
  have hb : Cert.Kernel4Ideal.Value.pt6Of (ix2 p k) = 31 := by
    show 32 * (1 * (p.val / 1 - 0) + 1 * (k.val / 1024 - 0)) + 31 = _
    omega
  unfold Cert.Kernel4Ideal.Value.G6
  rw [dif_pos (by rw [hb, hN]; omega), ← Cert.Kernel4Ideal.Value.outsAt0_sweep m c _ (by rw [hb, hN]; omega)]
  have e := gain_acc m c p k 31 (by rw [hN]; omega)
  have hl : Cert.Kernel4Ideal.Value.loc6Of (ix2 p k) = ix2 p k := by
    funext a
    apply Fin.ext
    match a with
    | ⟨0, _⟩ => show p.val % 1 = p.val; omega
    | ⟨1, _⟩ => show k.val % 1024 = k.val; omega
  have ec : ∀ (a b : ℕ) (ha : a < cfg0.N) (hb : b < cfg0.N), a = b → outsAt0 m c a ha = outsAt0 m c b hb := by
    intro a b ha hb h; subst h; rfl
  rw [hl, ec _ _ _ (by rw [hN]; omega) hb]
  refine e.trans ?_
  refine Eq.trans ?_ (ends (fun R => ctr m c R k.val * nrm (xr m c R) k))
  refine Finset.sum_congr rfl fun j hj => ?_
  rw [show 32 * (31 / 32) + j = j by omega]

/-- The columns' sums of output 7 after every point. -/
theorem bias_acc (p : Fin 1) (k : Fin 1024) (n : ℕ) (h : n < cfg0.N) :
    ((outsAt0 m c n h).2.2.1 (ix2 p k) : EReal)
      = ∑ j ∈ Finset.range (n % 32 + 1), atEnd (fun R => ctr m c R k.val) (32 * (n / 32) + j) := by
  refine since_start 32 (by decide) (fun n h => ((outsAt0 m c n h).2.2.1 (ix2 p k) : EReal)) (fun n => atEnd (fun R => ctr m c R k.val) n) ?_ ?_ n h
  · intro n h hz
    have e := outsAt0_A m c ⟨n, h⟩ (by dsimp only; omega) hz (by dsimp only; omega)
    dsimp only at e ⊢
    rw [e]
    dsimp only
    rw [start7, bzero_at]
    unfold atEnd
    rw [if_neg (by omega)]
  · intro n h hz
    by_cases hl : (n + 1) % 4 = 3
    · have e := outsAt0_C m c ⟨n + 1, h⟩ (by dsimp only; omega) hz hl
      dsimp only at e ⊢
      rw [e]
      dsimp only
      rw [last7, bstep_at]
      unfold atEnd
      rw [if_pos hl]
      refine congrArg₂ (· + ·) rfl ?_
      rw [← sum_fin 1024 (fun u => (fun R => ctr m c R k.val) (1024 * ((n + 1) / 4) + u))]
      exact Finset.sum_congr rfl fun u _ => ct_tile m c ⟨n + 1, h⟩ hl u k
    · have ez : ∀ f, atEnd f (n + 1) = 0 := fun f => if_neg hl
      rw [ez]
      by_cases hz4 : (n + 1) % 4 = 0
      · have e := outsAt0_D m c ⟨n + 1, h⟩ hz4 hz hl
        dsimp only at e ⊢
        rw [e, add_zero]
        rfl
      · have e := outsAt0_B m c ⟨n + 1, h⟩ hz4 hz hl
        dsimp only at e ⊢
        rw [e, add_zero]
        rfl

theorem bias_arr (p : Fin 1) (k : Fin 1024) :
    ((dats m 0 c).arrAt 7 cfg0.N (ix2 p k) : EReal) = ∑ R ∈ Finset.range 8192, (fun R => ctr m c R k.val) R := by
  have hp := p.isLt
  have hk := k.isLt
  have hN : cfg0.N = 32 := N_0
  rw [Cert.Kernel4Ideal.Value.final7]
  have hb : Cert.Kernel4Ideal.Value.pt7Of (ix2 p k) = 31 := by
    show 32 * (1 * (p.val / 1 - 0) + 1 * (k.val / 1024 - 0)) + 31 = _
    omega
  unfold Cert.Kernel4Ideal.Value.G7
  rw [dif_pos (by rw [hb, hN]; omega), ← Cert.Kernel4Ideal.Value.outsAt0_sweep m c _ (by rw [hb, hN]; omega)]
  have e := bias_acc m c p k 31 (by rw [hN]; omega)
  have hl : Cert.Kernel4Ideal.Value.loc7Of (ix2 p k) = ix2 p k := by
    funext a
    apply Fin.ext
    match a with
    | ⟨0, _⟩ => show p.val % 1 = p.val; omega
    | ⟨1, _⟩ => show k.val % 1024 = k.val; omega
  have ec : ∀ (a b : ℕ) (ha : a < cfg0.N) (hb : b < cfg0.N), a = b → outsAt0 m c a ha = outsAt0 m c b hb := by
    intro a b ha hb h; subst h; rfl
  rw [hl, ec _ _ _ (by rw [hN]; omega) hb]
  refine e.trans ?_
  refine Eq.trans ?_ (ends (fun R => ctr m c R k.val))
  refine Finset.sum_congr rfl fun j hj => ?_
  rw [show 32 * (31 / 32) + j = j by omega]

/-- The columns' sums of output 8 after every point. -/
theorem sum_acc (p : Fin 1) (k : Fin 1024) (n : ℕ) (h : n < cfg0.N) :
    ((outsAt0 m c n h).2.2.2.1 (ix2 p k) : EReal)
      = ∑ j ∈ Finset.range (n % 32 + 1), atEnd (fun R => gx m c R k) (32 * (n / 32) + j) := by
  refine since_start 32 (by decide) (fun n h => ((outsAt0 m c n h).2.2.2.1 (ix2 p k) : EReal)) (fun n => atEnd (fun R => gx m c R k) n) ?_ ?_ n h
  · intro n h hz
    have e := outsAt0_A m c ⟨n, h⟩ (by dsimp only; omega) hz (by dsimp only; omega)
    dsimp only at e ⊢
    rw [e]
    dsimp only
    rw [start8, szero_at]
    unfold atEnd
    rw [if_neg (by omega)]
  · intro n h hz
    by_cases hl : (n + 1) % 4 = 3
    · have e := outsAt0_C m c ⟨n + 1, h⟩ (by dsimp only; omega) hz hl
      dsimp only at e ⊢
      rw [e]
      dsimp only
      rw [last8, sstep_at]
      unfold atEnd
      rw [if_pos hl]
      refine congrArg₂ (· + ·) rfl ?_
      rw [← sum_fin 1024 (fun u => (fun R => gx m c R k) (1024 * ((n + 1) / 4) + u))]
      exact Finset.sum_congr rfl fun u _ => grad_tile m c ⟨n + 1, h⟩ hl u k
    · have ez : ∀ f, atEnd f (n + 1) = 0 := fun f => if_neg hl
      rw [ez]
      by_cases hz4 : (n + 1) % 4 = 0
      · have e := outsAt0_D m c ⟨n + 1, h⟩ hz4 hz hl
        dsimp only at e ⊢
        rw [e, add_zero]
        rfl
      · have e := outsAt0_B m c ⟨n + 1, h⟩ hz4 hz hl
        dsimp only at e ⊢
        rw [e, add_zero]
        rfl

theorem sum_arr (p : Fin 1) (k : Fin 1024) :
    ((dats m 0 c).arrAt 8 cfg0.N (ix2 p k) : EReal) = ∑ R ∈ Finset.range 8192, (fun R => gx m c R k) R := by
  have hp := p.isLt
  have hk := k.isLt
  have hN : cfg0.N = 32 := N_0
  rw [Cert.Kernel4Ideal.Value.final8]
  have hb : Cert.Kernel4Ideal.Value.pt8Of (ix2 p k) = 31 := by
    show 32 * (1 * (p.val / 1 - 0) + 1 * (k.val / 1024 - 0)) + 31 = _
    omega
  unfold Cert.Kernel4Ideal.Value.G8
  rw [dif_pos (by rw [hb, hN]; omega), ← Cert.Kernel4Ideal.Value.outsAt0_sweep m c _ (by rw [hb, hN]; omega)]
  have e := sum_acc m c p k 31 (by rw [hN]; omega)
  have hl : Cert.Kernel4Ideal.Value.loc8Of (ix2 p k) = ix2 p k := by
    funext a
    apply Fin.ext
    match a with
    | ⟨0, _⟩ => show p.val % 1 = p.val; omega
    | ⟨1, _⟩ => show k.val % 1024 = k.val; omega
  have ec : ∀ (a b : ℕ) (ha : a < cfg0.N) (hb : b < cfg0.N), a = b → outsAt0 m c a ha = outsAt0 m c b hb := by
    intro a b ha hb h; subst h; rfl
  rw [hl, ec _ _ _ (by rw [hN]; omega) hb]
  refine e.trans ?_
  refine Eq.trans ?_ (ends (fun R => gx m c R k))
  refine Finset.sum_congr rfl fun j hj => ?_
  rw [show 32 * (31 / 32) + j = j by omega]

/-- The rows' gradients. -/
theorem arr (r : Fin 8192) (k : Fin 1024) : ((dats m 0 c).arrAt 5 cfg0.N (ix2 r k) : EReal) = gx m c r.val k := by
  have hr := r.isLt
  have hk := k.isLt
  have hN : cfg0.N = 32 := N_0
  rw [Cert.Kernel4Ideal.Value.final5]
  have hb : Cert.Kernel4Ideal.Value.pt5Of (ix2 r k) = 4 * (r.val / 1024) + 3 := by
    show 4 * (1 * (r.val / 1024 - 0) + 1 * (k.val / 1024 - 0)) + 3 = _
    omega
  unfold Cert.Kernel4Ideal.Value.G5
  rw [dif_pos (by rw [hb, hN]; omega), ← Cert.Kernel4Ideal.Value.outsAt0_sweep m c _ (by rw [hb, hN]; omega)]
  have e := out_at m c ⟨4 * (r.val / 1024) + 3, by rw [hN]; omega⟩ (by dsimp only; omega) ⟨r.val % 1024, by omega⟩ k
  dsimp only at e
  have hl : Cert.Kernel4Ideal.Value.loc5Of (ix2 r k) = ix2 ⟨r.val % 1024, by omega⟩ k := by
    funext a
    apply Fin.ext
    match a with
    | ⟨0, _⟩ => rfl
    | ⟨1, _⟩ => show k.val % 1024 = k.val; omega
  have ec : ∀ (a b : ℕ) (ha : a < cfg0.N) (hb : b < cfg0.N), a = b → outsAt0 m c a ha = outsAt0 m c b hb := by
    intro a b ha hb h; subst h; rfl
  rw [hl, ec _ _ _ (by rw [hN]; omega) hb]
  refine e.trans (congrArg (fun R => gx m c R k) ?_)
  omega

end Cert.Proof.Prod.Dx1Run
-- ==== Proof.Prod.Dx1Ref.lean ====
module

public import proofs.«01_k».proof.Proof.Gen.Reference4Ideal.Read
public import proofs.«01_k».proof.Proof.Prod.Tile
public import proofs.«01_k».proof.Proof.Prod.Norm

/-! The reference's side of the gradient through a product and the layer normalisation before it. -/

@[expose] public section

noncomputable section

open Idealize.ShloMosaic Idealize.ShloMosaic.TcCoe
open Cert.Reference4Ideal Cert.Reference4Ideal.Gen Cert.Reference4Ideal.Read

namespace Cert.Proof.Prod.Dx1Ref

variable (x : FVec Ideal S8192x5632 .f32) (y : FVec Ideal S1024x5632 .f32) (z w : FVec Ideal S8192x1024 .f32) (g : FVec Ideal S1024 .f32)

/-- The incoming gradient of the normalised row. -/
theorem ct_at (r : Fin 8192) (k : Fin 1024) :
    (val_main_v39 (F := Ideal) x y z (ix2 r k) : EReal)
      = (∑ t : Fin 5632, x (ix2 r t) * y (ix2 k t)) + FloatOps.ofBits (F := Ideal) .f32 0x3FB504F3#32 * z (ix2 r k) := by
  unfold val_main_v39 val_main_v38 val_main_v37 val_main_v36 val_main_cst_8
  pointwise
  exact add_comm _ _

theorem in_at (r : Fin 8192) (k : Fin 1024) : (val_main_v3 (F := Ideal) w (ix2 r k) : EReal) = w (ix2 r k) := by
  unfold val_main_v3 val_main_v2 val_main_v1 val_main_v0 val_main_cst
  pointwise
  try simp [Ideal.ofBits, Ideal.ieee]

theorem mean_at (r : Fin 8192) (p : Fin 1) : (val_main_v7 (F := Ideal) w (ix2 r p) : EReal) = mean fun j => w (ix2 r j) := by
  unfold val_main_v7 val_main_v6 val_main_v5 val_main_v4 val_main_cst_0 val_main_cst_1 mean
  simp only [← in_at w]
  generalize val_main_v3 (F := Ideal) w = v
  pointwise
  try simp [Ideal.ofBits, Ideal.ieee]

theorem cen_at (r : Fin 8192) (k : Fin 1024) : (val_main_v9 (F := Ideal) w (ix2 r k) : EReal) = cen (fun j => w (ix2 r j)) k := by
  unfold val_main_v9 val_main_v8 cen
  rw [← mean_at w r 0]
  show _ = w (ix2 r k) - _
  rw [← in_at w r k]
  generalize val_main_v3 (F := Ideal) w = v
  generalize val_main_v7 (F := Ideal) w = u
  pointwise

theorem cen_at' (r : Fin 8192) (k : Fin 1024) : (val_main_v18 (F := Ideal) w (ix2 r k) : EReal) = cen (fun j => w (ix2 r j)) k := by
  unfold val_main_v18 val_main_v17 cen
  rw [← mean_at w r 0]
  show _ = w (ix2 r k) - _
  rw [← in_at w r k]
  generalize val_main_v3 (F := Ideal) w = v
  generalize val_main_v7 (F := Ideal) w = u
  pointwise

theorem dev_at (r : Fin 8192) (p : Fin 1) : (val_main_v20 (F := Ideal) w (ix2 r p) : EReal) = dev fun j => w (ix2 r j) := by
  unfold val_main_v20 val_main_v19 val_main_v16 val_main_v15 val_main_v14 val_main_v13 val_main_v10 val_main_cst_3 val_main_cst_4 val_main_cst_5 dev mean
  simp only [← cen_at w]
  generalize val_main_v9 (F := Ideal) w = v
  pointwise
  try simp [Ideal.ofBits, Ideal.ieee]

theorem rst_at (r : Fin 8192) (p : Fin 1) : (val_main_v21 (F := Ideal) w (ix2 r p) : EReal) = rst fun j => w (ix2 r j) := by
  unfold val_main_v21 rst
  rw [← dev_at w r p]
  generalize val_main_v20 (F := Ideal) w = v
  pointwise

theorem nrm_at (r : Fin 8192) (k : Fin 1024) : (val_main_v26 (F := Ideal) w (ix2 r k) : EReal) = nrm (fun j => w (ix2 r j)) k := by
  unfold val_main_v26 val_main_v25 nrm
  rw [← cen_at' w r k, ← rst_at w r 0]
  generalize val_main_v18 (F := Ideal) w = v
  generalize val_main_v21 (F := Ideal) w = u
  pointwise

theorem half_at (r : Fin 8192) (p : Fin 1) :
    (val_main_v24 (F := Ideal) w (ix2 r p) : EReal) = mhalf * Ideal.div (rst fun j => w (ix2 r j)) (dev fun j => w (ix2 r j)) := by
  unfold val_main_v24 val_main_v23 val_main_v22 val_main_cst_6
  rw [← rst_at w r p, ← dev_at w r p]
  generalize val_main_v20 (F := Ideal) w = v
  generalize val_main_v21 (F := Ideal) w = u
  pointwise

/-- The gradient of the row scaled by the gain. -/
theorem d_at (r : Fin 8192) (k : Fin 1024) :
    (val_main_v47 (F := Ideal) x y z g (ix2 r k) : EReal) = val_main_v39 (F := Ideal) x y z (ix2 r k) * g (ix1 k) := by
  unfold val_main_v47 val_main_v46 val_main_v27
  generalize val_main_v39 (F := Ideal) x y z = v
  pointwise

theorem first_at (r : Fin 8192) (k : Fin 1024) :
    (val_main_v53 (F := Ideal) x y z w g (ix2 r k) : EReal) = val_main_v47 (F := Ideal) x y z g (ix2 r k) * rst fun j => w (ix2 r j) := by
  unfold val_main_v53 val_main_v52
  rw [← rst_at w r 0]
  generalize val_main_v47 (F := Ideal) x y z g = v
  generalize val_main_v21 (F := Ideal) w = u
  pointwise

theorem q_at (r : Fin 8192) :
    (val_main_v60 (F := Ideal) x y z w g (ix1 r) : EReal) = lnq (fun j => w (ix2 r j)) fun j => val_main_v47 (F := Ideal) x y z g (ix2 r j) := by
  unfold val_main_v60 val_main_v59 val_main_v58 val_main_v54 val_main_v51 val_main_v50 val_main_v49 val_main_cst_13 val_main_cst_15 val_main_cst_16 lnq
  simp only [← cen_at' w, ← half_at w r 0]
  generalize val_main_v47 (F := Ideal) x y z g = v
  generalize val_main_v18 (F := Ideal) w = u
  generalize val_main_v24 (F := Ideal) w = o
  pointwise
  try simp [Ideal.ofBits, Ideal.ieee]

theorem second_at (r : Fin 8192) (k : Fin 1024) :
    (val_main_v62 (F := Ideal) x y z w g (ix2 r k) : EReal)
      = lnq (fun j => w (ix2 r j)) (fun j => val_main_v47 (F := Ideal) x y z g (ix2 r j)) * (two * cen (fun j => w (ix2 r j)) k) := by
  unfold val_main_v62 val_main_v61 val_main_v12 val_main_v11 val_main_cst_2
  rw [← q_at, ← cen_at w]
  generalize val_main_v60 (F := Ideal) x y z w g = v
  generalize val_main_v9 (F := Ideal) w = u
  pointwise

theorem x_at (r : Fin 8192) (k : Fin 1024) :
    (val_main_v72 (F := Ideal) x y z w g (ix2 r k) : EReal)
      = lnv (fun j => w (ix2 r j)) (fun j => val_main_v47 (F := Ideal) x y z g (ix2 r j)) k := by
  unfold val_main_v72 val_main_v71 val_main_v70 val_main_v69 val_main_v68 val_main_v67 val_main_v66 val_main_v65 val_main_v64 val_main_v63 val_main_v57 val_main_v56 val_main_v55
    val_main_cst_14 val_main_cst_17 val_main_cst_18 val_main_cst_19 lnv
  simp only [← first_at x y z w g, ← second_at x y z w g]
  generalize val_main_v53 (F := Ideal) x y z w g = v
  generalize val_main_v62 (F := Ideal) x y z w g = u
  pointwise
  try simp [Ideal.ofBits, Ideal.ieee]

theorem gain_at (p : Fin 1) (k : Fin 1024) :
    (val_main_v76 (F := Ideal) x y z w (ix2 p k) : EReal)
      = ∑ r : Fin 8192, nrm (fun j => w (ix2 r j)) k * val_main_v39 (F := Ideal) x y z (ix2 r k) := by
  unfold val_main_v76 val_main_v48 val_main_v45 val_main_v44 val_main_v43 val_main_cst_11 val_main_cst_12
  simp only [← nrm_at w]
  generalize val_main_v39 (F := Ideal) x y z = v
  generalize val_main_v26 (F := Ideal) w = u
  pointwise
  try simp [Ideal.ofBits, Ideal.ieee]

theorem bias_at (p : Fin 1) (k : Fin 1024) :
    (val_main_v77 (F := Ideal) x y z (ix2 p k) : EReal) = ∑ r : Fin 8192, val_main_v39 (F := Ideal) x y z (ix2 r k) := by
  unfold val_main_v77 val_main_v42 val_main_v41 val_main_v40 val_main_cst_9 val_main_cst_10
  generalize val_main_v39 (F := Ideal) x y z = v
  pointwise
  try simp [Ideal.ofBits, Ideal.ieee]

theorem sum_at (p : Fin 1) (k : Fin 1024) :
    (val_main_v78 (F := Ideal) x y z w g (ix2 p k) : EReal) = ∑ r : Fin 8192, val_main_v72 (F := Ideal) x y z w g (ix2 r k) := by
  unfold val_main_v78 val_main_v75 val_main_v74 val_main_v73 val_main_cst_20 val_main_cst_21
  generalize val_main_v72 (F := Ideal) x y z w g = v
  pointwise
  try simp [Ideal.ofBits, Ideal.ieee]

end Cert.Proof.Prod.Dx1Ref
-- ==== Proof.Attn.Out.lean ====
/- What one grid point of the attention's backward call leaves in its three output blocks, as the body's own
   expressions of the blocks it reads: the point that starts the sums, and the points that continue them. -/
module

public import proofs.«01_k».proof.Proof.Gen.KernelIdeal.Frame
public import Idealize.ShloMosaic.Lib.Pipeline.Value
public import Idealize.ShloMosaic.Lib.Pointwise

@[expose] public section

noncomputable section

open Idealize.ShloMosaic Idealize.ShloMosaic.TcCoe Idealize.SL.Sem

namespace Cert.Proof.Attn

open Cert.KernelIdeal Cert.KernelIdeal.Gen

variable {F : FTy → Type} [FloatOps F]

/-- The two zero offsets of a whole block, however they are spelt. -/
theorem zero2 : (![0, 0] : Fin 2 → Nat) = fun _ => 0 := funext fun a => by fin_cases a <;> rfl

/-- The scaled gradient of the scores of one tile, the four heads side by side. -/
def dsTile (q ct : Vec F S512x256 .f32) (kb : Vec F S256x1024 .bf16) (vb : Vec F S1024x256 .bf16) : FVec F S512x1024 .bf16 :=
  k0_pay12 ct (k0_pay7 q kb) (k0_pay8 q kb) (k0_pay9 q kb) (k0_pay10 q kb) vb

/-- The softmax of one tile, the four heads side by side. -/
def pTile (q : Vec F S512x256 .f32) (kb : Vec F S256x1024 .bf16) : FVec F S512x1024 .f32 :=
  k0_pay14 (k0_pay7 q kb) (k0_pay8 q kb) (k0_pay9 q kb) (k0_pay10 q kb)

/-- The block of `dh`: the given columns on the left, the queries' gradient on the right. -/
def dhTile (q ct : Vec F S512x256 .f32) (kb : Vec F S256x1024 .bf16) (vb : Vec F S1024x256 .bf16) (du : Vec F S512x256 .f32) :
    Vec F S512x512 .f32 := fun j =>
  if h : (j 1).val < 256 then du (ix2 (j 0) ⟨(j 1).val, h⟩)
  else k0_pay2 (dsTile q ct kb vb) kb (ix2 (j 0) ⟨(j 1).val - 256, by have : (j 1).val < 512 := (j 1).isLt; omega⟩)

section Cases

variable (c : Dev nD) (i : grid0.Coords) (a1 : Memref sig .tc .vmem S512x256 .f32) (h1 : a1.IsWhole)
  (a2 : Memref sig .tc .vmem S512x256 .f32) (h2 : a2.IsWhole) (a3 : Memref sig .tc .vmem S256x1024 .bf16) (h3 : a3.IsWhole)
  (a4 : Memref sig .tc .vmem S1024x256 .bf16) (h4 : a4.IsWhole) (a5 : Memref sig .tc .vmem S512x256 .f32) (h5 : a5.IsWhole)
  (a7 : Memref sig .tc .vmem S512x512 .f32) (h7 : a7.IsWhole) (a8 : Memref sig .tc .vmem S256x1024 .f32) (h8 : a8.IsWhole)
  (a9 : Memref sig .tc .vmem S1024x256 .f32) (h9 : a9.IsWhole)
  (q ct : Vec F S512x256 .f32) (kb : Vec F S256x1024 .bf16) (vb : Vec F S1024x256 .bf16) (du : Vec F S512x256 .f32)

/-- A continuing point adds its tile's keys' gradient to the running sum. -/
theorem outB6 (hc : ¬cond0_0 i) (xk : Vec F S256x1024 .f32) (xv : Vec F S1024x256 .f32) :
    out0_B_6 c i a1 h1 a2 h2 a3 h3 a4 h4 a5 h5 a7 h7 a8 h8 a9 h9 hc q ct kb vb du xk xv = k0_pay3 q (dsTile q ct kb vb) xk := by
  unfold out0_B_6
  rw [View.read_writes_eq_canon _ _ _ (cover0_B_6 c i a1 h1 a2 h2 a3 h3 a4 h4 a5 h5 a7 h7 a8 h8 a9 h9 hc q ct kb vb du xk xv)]
  unfold kernelRun0_B
  dsimp only
  sl_unfold_words
  rw [View.canon_unit_zero zero2]
  simp only [View.readAt_eq_ld, h1.read_unread, h2.read_unread, h3.read_unread, h4.read_unread, h8.read_unread,
    View.ld_unit_zero (S := S512x256) zero2, View.ld_unit_zero (S := S256x1024) zero2, View.ld_unit_zero (S := S1024x256) zero2]
  rfl

/-- A continuing point adds its tile's values' gradient to the running sum. -/
theorem outB7 (hc : ¬cond0_0 i) (xk : Vec F S256x1024 .f32) (xv : Vec F S1024x256 .f32) :
    out0_B_7 c i a1 h1 a2 h2 a3 h3 a4 h4 a5 h5 a7 h7 a8 h8 a9 h9 hc q ct kb vb du xk xv
      = k0_pay1 ct (k0_pay13 xv) (pTile q kb) := by
  unfold out0_B_7
  rw [View.read_writes_eq_canon _ _ _ (cover0_B_7 c i a1 h1 a2 h2 a3 h3 a4 h4 a5 h5 a7 h7 a8 h8 a9 h9 hc q ct kb vb du xk xv)]
  unfold kernelRun0_B
  dsimp only
  sl_unfold_words
  rw [View.canon_unit_zero zero2]
  simp only [View.readAt_eq_ld, h1.read_unread, h2.read_unread, h3.read_unread, h4.read_unread, h9.read_unread,
    View.ld_unit_zero (S := S512x256) zero2, View.ld_unit_zero (S := S256x1024) zero2, View.ld_unit_zero (S := S1024x256) zero2]
  rfl

/-- The starting point adds its tile's keys' gradient to zero. -/
theorem outA6 (hc : cond0_0 i) :
    out0_A_6 c i a1 h1 a2 h2 a3 h3 a4 h4 a5 h5 a7 h7 a8 h8 a9 h9 hc q ct kb vb du = k0_pay3 q (dsTile q ct kb vb) k0_pay4 := by
  unfold out0_A_6
  rw [View.read_writes_eq_canon _ _ _ (cover0_A_6 c i a1 h1 a2 h2 a3 h3 a4 h4 a5 h5 a7 h7 a8 h8 a9 h9 hc q ct kb vb du)]
  unfold kernelRun0_A
  dsimp only
  sl_unfold_words
  rw [View.canon_cons_unit_zero (S := S256x1024) zero2]
  simp only [View.readCov_unit_zero (S := S256x1024) _ zero2, View.readAt_eq_ld, h1.read_unread, h2.read_unread, h3.read_unread, h4.read_unread,
    View.ld_unit_zero (S := S512x256) zero2, View.ld_unit_zero (S := S256x1024) zero2, View.ld_unit_zero (S := S1024x256) zero2]
  rfl

/-- The starting point adds its tile's values' gradient to zero. -/
theorem outA7 (hc : cond0_0 i) :
    out0_A_7 c i a1 h1 a2 h2 a3 h3 a4 h4 a5 h5 a7 h7 a8 h8 a9 h9 hc q ct kb vb du
      = k0_pay1 ct (k0_pay13 k0_pay5) (pTile q kb) := by
  unfold out0_A_7
  rw [View.read_writes_eq_canon _ _ _ (cover0_A_7 c i a1 h1 a2 h2 a3 h3 a4 h4 a5 h5 a7 h7 a8 h8 a9 h9 hc q ct kb vb du)]
  unfold kernelRun0_A
  dsimp only
  sl_unfold_words
  rw [View.canon_cons_unit_zero (S := S1024x256) zero2]
  simp only [View.readCov_unit_zero (S := S1024x256) _ zero2, View.readAt_eq_ld, h1.read_unread, h2.read_unread, h3.read_unread, h4.read_unread,
    View.ld_unit_zero (S := S512x256) zero2, View.ld_unit_zero (S := S256x1024) zero2, View.ld_unit_zero (S := S1024x256) zero2]
  rfl

/-- Two half blocks stored side by side are the block of `dh`. -/
theorem halves (inb0 : ∀ a, (![0, 0] : Fin 2 → Nat) a + S512x256.size a ≤ S512x512.size a)
    (inb1 : ∀ a, (![0, 256] : Fin 2 → Nat) a + S512x256.size a ≤ S512x512.size a) :
    (View.canon [(⟨Rect.unit (s := S512x512) ![0, 256] S512x256.size inb1, k0_pay2 (dsTile q ct kb vb) kb⟩ : View.Piece (Elt F) S512x512 .f32),
      ⟨Rect.unit (s := S512x512) ![0, 0] S512x256.size inb0, du⟩]) = dhTile q ct kb vb du := by
  funext y
  refine View.canon_apply_of_pieces (dhTile q ct kb vb du) _ ?_ y ?_
  · intro p hp x
    simp only [List.mem_cons, List.not_mem_nil, or_false] at hp
    rcases hp with rfl | rfl
    · have e1 : ((Rect.unit (s := S512x512) ![0, 256] S512x256.size inb1).emb x 1).val = 256 + (x 1).val := by
        show 256 + 1 * (x 1).val = _; omega
      unfold dhTile
      rw [dif_neg (by rw [e1]; omega)]
      refine congrArg (k0_pay2 (dsTile q ct kb vb) kb) (?_ : x = _)
      refine Shape.idx_ext₂ ?_ ?_
      · show (x 0).val = 0 + 1 * (x 0).val; omega
      · show (x 1).val = (256 + 1 * (x 1).val) - 256; omega
    · have e1 : ((Rect.unit (s := S512x512) ![0, 0] S512x256.size inb0).emb x 1).val = (x 1).val := by
        show 0 + 1 * (x 1).val = _; omega
      have hx : (x 1).val < 256 := (x 1).isLt
      unfold dhTile
      rw [dif_pos (by rw [e1]; exact hx)]
      show du x = _
      congr 1
      refine Shape.idx_ext₂ ?_ ?_
      · show (x 0).val = 0 + 1 * (x 0).val; omega
      · show (x 1).val = 0 + 1 * (x 1).val; omega
  · have hy1 : (y 1).val < 512 := (y 1).isLt
    have hy0 : (y 0).val < 512 := (y 0).isLt
    by_cases h : (y 1).val < 256
    · refine ⟨_, List.mem_cons_of_mem _ (List.mem_singleton_self _), ?_⟩
      rw [Rect.mem_set_unit]
      intro a
      match a with
      | ⟨0, _⟩ => exact ⟨Nat.zero_le _, by show (y 0).val < 0 + 512; omega⟩
      | ⟨1, _⟩ => exact ⟨Nat.zero_le _, by show (y 1).val < 0 + 256; omega⟩
    · refine ⟨_, List.mem_cons_self, ?_⟩
      rw [Rect.mem_set_unit]
      intro a
      match a with
      | ⟨0, _⟩ => exact ⟨Nat.zero_le _, by show (y 0).val < 0 + 512; omega⟩
      | ⟨1, _⟩ => exact ⟨by show 256 ≤ (y 1).val; omega, by show (y 1).val < 256 + 256; omega⟩

/-- A continuing point's block of `dh`. -/
theorem outB5 (hc : ¬cond0_0 i) (xk : Vec F S256x1024 .f32) (xv : Vec F S1024x256 .f32) :
    out0_B_5 c i a1 h1 a2 h2 a3 h3 a4 h4 a5 h5 a7 h7 a8 h8 a9 h9 hc q ct kb vb du xk xv = dhTile q ct kb vb du := by
  unfold out0_B_5
  rw [View.read_writes_eq_canon _ _ _ (cover0_B_5 c i a1 h1 a2 h2 a3 h3 a4 h4 a5 h5 a7 h7 a8 h8 a9 h9 hc q ct kb vb du xk xv)]
  unfold kernelRun0_B
  dsimp only
  sl_unfold_words
  simp only [View.readAt_eq_ld, h1.read_unread, h2.read_unread, h3.read_unread, h4.read_unread, h5.read_unread,
    View.ld_unit_zero (S := S512x256) zero2, View.ld_unit_zero (S := S256x1024) zero2, View.ld_unit_zero (S := S1024x256) zero2]
  exact halves q ct kb vb du _ _

/-- The starting point's block of `dh`. -/
theorem outA5 (hc : cond0_0 i) :
    out0_A_5 c i a1 h1 a2 h2 a3 h3 a4 h4 a5 h5 a7 h7 a8 h8 a9 h9 hc q ct kb vb du = dhTile q ct kb vb du := by
  unfold out0_A_5
  rw [View.read_writes_eq_canon _ _ _ (cover0_A_5 c i a1 h1 a2 h2 a3 h3 a4 h4 a5 h5 a7 h7 a8 h8 a9 h9 hc q ct kb vb du)]
  unfold kernelRun0_A
  dsimp only
  sl_unfold_words
  simp only [View.readAt_eq_ld, h1.read_unread, h2.read_unread, h3.read_unread, h4.read_unread, h5.read_unread,
    View.ld_unit_zero (S := S512x256) zero2, View.ld_unit_zero (S := S256x1024) zero2, View.ld_unit_zero (S := S1024x256) zero2]
  exact halves q ct kb vb du _ _

end Cases

end Cert.Proof.Attn

end
-- ==== Proof.Attn.Host.lean ====
module

public import proofs.«01_k».proof.Proof.Attn.Out
public import Idealize.ShloMosaic.Lib.StableHlo.RunRead

/-! What the host code before the launch hands to it: the keys and the values spread over four heads,
each block zero outside its own head's columns. -/

@[expose] public section

noncomputable section

open Idealize.ShloMosaic Idealize.ShloMosaic.TcCoe Idealize.SL.Sem
open Cert.KernelIdeal Cert.KernelIdeal.Gen

namespace Cert.Proof.Attn

variable {F : FTy → Type} [FloatOps F]

/-- Division rounded down, as the host code writes it. -/
def fdiv {S : Shape} (hb : S_.BroadcastsInDim S (![] : Fin 0 → Fin S.rank)) (x : IVec S 32) (n : BitVec 32) : IVec S 32 :=
  select
    (andi (cmpi .ne (signi x) (broadcastInDim S ![] hb (signi (constantI S_ 32 n))))
      (cmpi .ne (Host.remsi x (broadcastInDim S ![] hb (constantI S_ 32 n))) (broadcastInDim S ![] hb (constantI S_ 32 0#32))))
    (subi (Host.divsi x (broadcastInDim S ![] hb (constantI S_ 32 n))) (broadcastInDim S ![] hb (constantI S_ 32 1#32)))
    (Host.divsi x (broadcastInDim S ![] hb (constantI S_ 32 n)))

/-- One where a row (a column of the keys) belongs to the head of the column. -/
def maskK : FVec F S256x1024 .f32 :=
  uitofp .f32 (cmpi .eq
    (broadcastInDim S256x1024 ![0, 1] bcast_S256x1_S256x1024_0_1
      (broadcastInDim S256x1 ![0] bcast_S256_S256x1_0 (fdiv bcast_S_S256 (iotaInDim S256 32 0) 64#32)))
    (broadcastInDim S256x1024 ![0, 1] bcast_S1x1024_S256x1024_0_1
      (broadcastInDim S1x1024 ![1] bcast_S1024_S1x1024_1 (fdiv bcast_S_S1024 (iotaInDim S1024 32 0) 256#32))))

/-- The same mask for the values, whose rows are the wide ones. -/
def maskV : FVec F S1024x256 .f32 :=
  uitofp .f32 (cmpi .eq
    (broadcastInDim S1024x256 ![0, 1] bcast_S1024x1_S1024x256_0_1
      (broadcastInDim S1024x1 ![0] bcast_S1024_S1024x1_0 (fdiv bcast_S_S1024 (iotaInDim S1024 32 0) 256#32)))
    (broadcastInDim S1024x256 ![0, 1] bcast_S1x256_S1024x256_0_1
      (broadcastInDim S1x256 ![1] bcast_S256_S1x256_1 (fdiv bcast_S_S256 (iotaInDim S256 32 0) 64#32))))

/-- The wide keys. -/
def kbig (kv : FVec F S256x512 .f32) : FVec F S256x1024 .bf16 :=
  truncf .bf16 (mulf
    (shapeCast S256x1024 (broadcastInDim S1x256x4x256 ![0, 1, 2, 3] bcast_S1x256x1x256_S1x256x4x256_0_1_2_3
      (shapeCast S1x256x1x256 (transpose S256x256 [1, 0] (extractStridedSlice S256x256 ![0, 0] kv slices_S256x512_S256x256_0_0)
        transposes_S256x256_S256x256_1_0) shapeCasts_S256x256_S1x256x1x256)) shapeCasts_S1x256x4x256_S256x1024)
    maskK) bitsLt_bf16_f32

/-- The wide values. -/
def vbig (kv : FVec F S256x512 .f32) : FVec F S1024x256 .bf16 :=
  truncf .bf16 (mulf
    (shapeCast S1024x256 (broadcastInDim S4x256x1x256 ![0, 1, 2, 3] bcast_S1x256x1x256_S4x256x1x256_0_1_2_3
      (shapeCast S1x256x1x256 (extractStridedSlice S256x256 ![0, 256] kv slices_S256x512_S256x256_0_256)
        shapeCasts_S256x256_S1x256x1x256)) shapeCasts_S4x256x1x256_S1024x256)
    maskV) bitsLt_bf16_f32

variable (m : (ℓ : Loc nD τ sig) → Buf (Elt F) ℓ)

theorem V0_eq (c : Dev nD) : V0 m c = StableHlo.after (hostOps0 ++ hostOps0_1 ++ hostOps0_2 ++ hostOps0_3 ++ hostOps0_4
    ++ hostOps0_5 ++ hostOps0_6 ++ hostOps0_7 ++ hostOps0_8) (fun b => m (c, b)) := by
  unfold V0
  simp only [List.flatten_cons, List.flatten_nil, List.append_nil, List.append_assoc]

theorem V_v14 (c : Dev nD) : V m c main_v14 = maskK := by
  unfold V; rw [V0_eq]
  after_reads_simp
  simp only [StableHlo.TRef.ofBuf_toBuf]
  rfl

theorem V_v29 (c : Dev nD) : V m c main_v29 = maskV := by
  unfold V; rw [V0_eq]
  after_reads_simp
  simp only [StableHlo.TRef.ofBuf_toBuf]
  rfl

set_option maxHeartbeats 2000000 in
theorem V_v31 (c : Dev nD) : V m c main_v31 = kbig (m ((c : Thread nD τ).loc main_arg2)) := by
  have e : V m c main_v31 = truncf .bf16 (mulf (V m c main_v4 : FVec F S256x1024 .f32) (V m c main_v14)) bitsLt_bf16_f32 := by
    unfold V; rw [V0_eq]
    generalize hW : StableHlo.after _ (fun b => m (c, b)) = W
    subst hW
    after_reads_simp
  rw [e, V_v14]
  unfold V; rw [V0_eq]
  after_reads_simp
  rfl

set_option maxHeartbeats 2000000 in
theorem V_v32 (c : Dev nD) : V m c main_v32 = vbig (m ((c : Thread nD τ).loc main_arg2)) := by
  have e : V m c main_v32 = truncf .bf16 (mulf (V m c main_v19 : FVec F S1024x256 .f32) (V m c main_v29)) bitsLt_bf16_f32 := by
    unfold V; rw [V0_eq]
    after_reads_simp
  rw [e, V_v29]
  unfold V; rw [V0_eq]
  after_reads_simp
  rfl

end Cert.Proof.Attn
-- ==== Proof.Attn.Block.lean ====
module

public import proofs.«01_k».proof.Proof.Attn.Soft
public import proofs.«01_k».proof.Proof.Attn.Out

/-! One tile of the attention's backward kernel, read at an index. -/

@[expose] public section

noncomputable section

open Idealize.ShloMosaic Idealize.ShloMosaic.TcCoe
open Cert.KernelIdeal Cert.KernelIdeal.Gen Cert.Proof.Soft

namespace Cert.Proof.Attn

/-- The scale `1/8` of the scores. -/
abbrev eighth : EReal := Ideal.ofBits .f32 0x3E000000#32

/-- Column `m` of head `h` in the wide arrays. -/
abbrev col (h : Fin 4) (m : Fin 256) : Fin 1024 := ⟨256 * h.val + m.val, by omega⟩

/-- The scores of row `r` against the keys of head `h`. -/
def scH (q : FVec Ideal S512x256 .f32) (kb : FVec Ideal S256x1024 .bf16) (r : Fin 512) (h : Fin 4) (m : Fin 256) : EReal :=
  (∑ k : Fin 256, (q (ix2 r k) : EReal) * kb (ix2 k (col h m))) * eighth

/-- The gradient of the probabilities of row `r`, head `h`. -/
def dpH (ct : FVec Ideal S512x256 .f32) (vb : FVec Ideal S1024x256 .bf16) (r : Fin 512) (h : Fin 4) (m : Fin 256) : EReal :=
  ∑ k : Fin 256, (ct (ix2 r k) : EReal) * vb (ix2 (col h m) k)

theorem negInf : Ideal.ofBits .f32 0xFF800000#32 = (⊥ : EReal) := by
  simp [Ideal.ofBits, Ideal.ieee]

theorem pay11_at (v : FVec Ideal S512x256 .f32) (r : Fin 512) (m : Fin 256) :
    k0_pay11 v (ix2 r m) = pr (fun k => v (ix2 r k)) m := by
  unfold pr tot ex mx
  rw [← negInf]
  pointwise [k0_pay11]

theorem pay6_at (q : FVec Ideal S512x256 .f32) (kb : FVec Ideal S256x1024 .bf16) (r : Fin 512) (h : Fin 4) (m : Fin 256) :
    k0_pay6 (F := Ideal) q kb (ix2 r (col h m)) = scH q kb r h m := by
  unfold scH
  pointwise [k0_pay6]

/-- The probabilities of one head, from its slab of scores. -/
theorem pay7_at (q : FVec Ideal S512x256 .f32) (kb : FVec Ideal S256x1024 .bf16) (r : Fin 512) (m : Fin 256) :
    k0_pay7 (F := Ideal) q kb (ix2 r m) = pr (scH q kb r 0) m := by
  have e : k0_pay7 (F := Ideal) q kb = k0_pay11 (extractStridedSlice S512x256 ![0, 0] (k0_pay6 q kb) slices_S512x1024_o0_0_S512x256) := by
    unfold k0_pay7 k0_pay11; rfl
  rw [e, pay11_at]
  congr 1; funext k
  rw [← pay6_at]
  pointwise
  exact congrArg (fun c => k0_pay6 (F := Ideal) q kb (ix2 r c)) (Fin.ext (Nat.zero_add k.val).symm : (⟨k.val, _⟩ : Fin 1024) = col 0 k)

theorem pay8_at (q : FVec Ideal S512x256 .f32) (kb : FVec Ideal S256x1024 .bf16) (r : Fin 512) (m : Fin 256) :
    k0_pay8 (F := Ideal) q kb (ix2 r m) = pr (scH q kb r 1) m := by
  have e : k0_pay8 (F := Ideal) q kb = k0_pay11 (extractStridedSlice S512x256 ![0, 256] (k0_pay6 q kb) slices_S512x1024_o0_256_S512x256) := by
    unfold k0_pay8 k0_pay11; rfl
  rw [e, pay11_at]
  congr 1; funext k
  rw [← pay6_at]
  pointwise
  rfl

theorem pay9_at (q : FVec Ideal S512x256 .f32) (kb : FVec Ideal S256x1024 .bf16) (r : Fin 512) (m : Fin 256) :
    k0_pay9 (F := Ideal) q kb (ix2 r m) = pr (scH q kb r 2) m := by
  have e : k0_pay9 (F := Ideal) q kb = k0_pay11 (extractStridedSlice S512x256 ![0, 512] (k0_pay6 q kb) slices_S512x1024_o0_512_S512x256) := by
    unfold k0_pay9 k0_pay11; rfl
  rw [e, pay11_at]
  congr 1; funext k
  rw [← pay6_at]
  pointwise
  rfl

theorem pay10_at (q : FVec Ideal S512x256 .f32) (kb : FVec Ideal S256x1024 .bf16) (r : Fin 512) (m : Fin 256) :
    k0_pay10 (F := Ideal) q kb (ix2 r m) = scH q kb r 3 m := by
  rw [← pay6_at]
  unfold k0_pay10
  pointwise
  rfl

theorem pay11_10_at (q : FVec Ideal S512x256 .f32) (kb : FVec Ideal S256x1024 .bf16) (r : Fin 512) (m : Fin 256) :
    k0_pay11 (F := Ideal) (k0_pay10 q kb) (ix2 r m) = pr (scH q kb r 3) m := by
  rw [pay11_at]; congr 1; funext k; exact pay10_at q kb r k

/-- The tile's probabilities. -/
theorem pTile_at (q : FVec Ideal S512x256 .f32) (kb : FVec Ideal S256x1024 .bf16) (r : Fin 512) (h : Fin 4) (m : Fin 256) :
    pTile (F := Ideal) q kb (ix2 r (col h m)) = pr (scH q kb r h) m := by
  unfold pTile
  match h with
  | 0 => rw [← pay7_at]; pointwise [k0_pay14]; try rfl
  | 1 => rw [← pay8_at]; pointwise [k0_pay14]; try rfl
  | 2 =>
    rw [← pay9_at]; pointwise [k0_pay14]
    rw [dif_neg (by omega), dif_neg (by omega), dif_pos (by omega)]; simp only [show 512 + m.val - 256 - 256 = m.val by omega]
  | 3 =>
    rw [← pay11_10_at]; pointwise [k0_pay14]
    rw [dif_neg (by omega), dif_neg (by omega), dif_neg (by omega)]; simp only [show 768 + m.val - 256 - 256 - 256 = m.val by omega]

/-- The tile's gradient of the scores. -/
theorem dsTile_at (q ct : FVec Ideal S512x256 .f32) (kb : FVec Ideal S256x1024 .bf16) (vb : FVec Ideal S1024x256 .bf16)
    (r : Fin 512) (h : Fin 4) (m : Fin 256) :
    dsTile (F := Ideal) q ct kb vb (ix2 r (col h m)) = dsK (scH q kb r h) (dpH ct vb r h) m * eighth := by
  unfold dsTile dsK dpH
  match h with
  | 0 =>
    have e0 : ∀ x : Fin 256, col 0 x = ⟨x.val, by omega⟩ := fun x => Fin.ext (Nat.zero_add _)
    simp only [← pay7_at, e0]; pointwise [k0_pay12]
  | 1 => simp only [← pay8_at]; pointwise [k0_pay12]; rfl
  | 2 =>
    simp only [← pay9_at]; pointwise [k0_pay12]
    rw [dif_neg (by omega), dif_neg (by omega), dif_pos (by omega)]; simp only [show 512 + m.val - 256 - 256 = m.val by omega]; rfl
  | 3 =>
    simp only [← pay11_10_at]; pointwise [k0_pay12]
    rw [dif_neg (by omega), dif_neg (by omega), dif_neg (by omega)]; simp only [show 768 + m.val - 256 - 256 - 256 = m.val by omega]; rfl

/-- The tile's contribution to the gradient of the wide values, added to `x`. -/
theorem pay1_at (ct : FVec Ideal S512x256 .f32) (x : FVec Ideal S1024x256 .f32) (p : FVec Ideal S512x1024 .f32)
    (c : Fin 1024) (j : Fin 256) :
    k0_pay1 (F := Ideal) ct (k0_pay13 x) p (ix2 c j)
      = (x (ix2 c j) : EReal) + ∑ r : Fin 512, (p (ix2 r c) : EReal) * ct (ix2 r j) := by
  pointwise [k0_pay1, k0_pay13]

/-- The tile's contribution to the gradient of the wide keys, added to `x`. -/
theorem pay3_at (q : FVec Ideal S512x256 .f32) (ds : FVec Ideal S512x1024 .bf16) (x : FVec Ideal S256x1024 .f32)
    (j : Fin 256) (c : Fin 1024) :
    k0_pay3 (F := Ideal) q ds x (ix2 j c)
      = (x (ix2 j c) : EReal) + ∑ r : Fin 512, (q (ix2 r j) : EReal) * ds (ix2 r c) := by
  pointwise [k0_pay3]

/-- The gradient of the queries. -/
theorem pay2_at (ds : FVec Ideal S512x1024 .bf16) (kb : FVec Ideal S256x1024 .bf16) (r : Fin 512) (j : Fin 256) :
    k0_pay2 (F := Ideal) ds kb (ix2 r j) = ∑ c : Fin 1024, (ds (ix2 r c) : EReal) * kb (ix2 j c) := by
  pointwise [k0_pay2]

end Cert.Proof.Attn
-- ==== Proof.Attn.Ref.lean ====
module

public import proofs.«01_k».proof.Proof.Gen.ReferenceIdeal.Read
public import Idealize.ShloMosaic.Lib.Pointwise
public import proofs.«01_k».proof.Proof.Attn.Soft

/-! The reference's gradient of the attention, read at an index. -/

@[expose] public section

noncomputable section

open Idealize.ShloMosaic Idealize.ShloMosaic.TcCoe
open Cert.ReferenceIdeal Cert.ReferenceIdeal.Gen Cert.ReferenceIdeal.Read Cert.Proof.Soft

namespace Cert.Proof.AttnRef

abbrev eighth : EReal := Ideal.ofBits .f32 0x3E000000#32

/-- Column `d` of head `h` in a narrow array. -/
abbrev cix (h : Fin 4) (d : Fin 64) : Fin 256 := ⟨64 * h.val + d.val, by omega⟩

variable (x0 : FVec Ideal S8192x1536 .f32) (x1 : FVec Ideal S8192x1024 .f32) (x2 : FVec Ideal S256x512 .f32)
  (x3 : FVec Ideal S8192x256 .f32) (x4 : FVec Ideal S8192x1536 .f32)

/-- The queries, the incoming gradient, the keys and the values, as matrices. -/
def qA (s : Fin 8192) (j : Fin 256) : EReal := x0 (ix2 s (⟨1280 + j.val, by omega⟩ : Fin 1536))
def cA (s : Fin 8192) (j : Fin 256) : EReal := x1 (ix2 s (⟨768 + j.val, by omega⟩ : Fin 1024))
def kA (m : Fin 256) (j : Fin 256) : EReal := x2 (ix2 m (⟨j.val, by omega⟩ : Fin 512))
def vA (m : Fin 256) (j : Fin 256) : EReal := x2 (ix2 m (⟨256 + j.val, by omega⟩ : Fin 512))

/-- The score of a token's query against a key, by head. -/
def sc (h : Fin 4) (s : Fin 8192) (m : Fin 256) : EReal :=
  (∑ d : Fin 64, qA x0 s (cix h d) * kA x2 m (cix h d)) * eighth

/-- The gradient of a probability. -/
def dp (h : Fin 4) (s : Fin 8192) (m : Fin 256) : EReal :=
  ∑ d : Fin 64, cA x1 s (cix h d) * vA x2 m (cix h d)

theorem cixf (h : Fin 4) (d : Fin 64) (n o : Nat) (e : n = o + (h.val * 64 + d.val)) : n = o + (cix h d).val := by
  rw [e, Nat.mul_comm]

theorem v2_at (s : Fin 8192) (h : Fin 4) (d : Fin 64) :
    val_main_v2 (F := Ideal) x0 (ix3 s h d) = qA x0 s (cix h d) := by
  unfold qA
  pointwise [val_main_v2, val_main_v0]
  simp only [cix, Nat.mul_comm 64]

theorem v5_at (m : Fin 256) (h : Fin 4) (d : Fin 64) :
    val_main_v5 (F := Ideal) x2 (ix3 m h d) = kA x2 m (cix h d) := by
  unfold kA
  pointwise [val_main_v5, val_main_v3]
  simp only [cix, Nat.mul_comm 64]

theorem v6_at (m : Fin 256) (h : Fin 4) (d : Fin 64) :
    val_main_v6 (F := Ideal) x2 (ix3 m h d) = vA x2 m (cix h d) := by
  unfold vA
  pointwise [val_main_v6, val_main_v4]
  simp only [cix, Nat.mul_comm 64]

theorem v41_at (s : Fin 8192) (h : Fin 4) (d : Fin 64) :
    val_main_v41 (F := Ideal) x1 (ix3 s h d) = cA x1 s (cix h d) := by
  unfold cA
  pointwise [val_main_v41, val_main_v1]
  simp only [cix, Nat.mul_comm 64]

theorem v9_at (h : Fin 4) (s : Fin 8192) (m : Fin 256) :
    val_main_v9 (F := Ideal) x0 x2 (ix3 h s m) = sc x0 x2 h s m := by
  unfold sc
  simp only [← v2_at, ← v5_at]
  pointwise [val_main_v9, val_main_v7, val_main_v8, val_main_cst]

theorem max_at (y : FVec Ideal S4x8192x256 .f32) (i : FVec Ideal S_ .f32) (h : Fin 4) (s : Fin 8192) :
    Host.reduce (FloatOps.maximumf (F := Ideal)) y i reducesTo_S4x8192x256_S4x8192_d2 h_S_ (ix2 h s)
      = Finset.univ.fold max (i (Shape.Idx.first h_S_)) (fun m : Fin 256 => (y (ix3 h s m) : EReal)) := by
  pointwise

theorem negInf : Ideal.ofBits .f32 0xFF800000#32 = (⊥ : EReal) := by
  simp [Ideal.ofBits, Ideal.ieee]

theorem zeroBits : Ideal.ofBits .f32 0x00000000#32 = (0 : EReal) := by
  simp [Ideal.ofBits, Ideal.ieee]

theorem sum_at (y : FVec Ideal S4x8192x256 .f32) (i : FVec Ideal S_ .f32) (hi : i (Shape.Idx.first h_S_) = (0 : EReal))
    (h : Fin 4) (s : Fin 8192) :
    Host.reduceAdd y i reducesTo_S4x8192x256_S4x8192_d2 h_S_ (ix2 h s) = ∑ m : Fin 256, (y (ix3 h s m) : EReal) := by
  rw [← zero_add (∑ m : Fin 256, (y (ix3 h s m) : EReal)), ← hi]
  pointwise

theorem sum1_at (y : FVec Ideal S4x8192x1 .f32) (i : FVec Ideal S_ .f32) (hi : i (Shape.Idx.first h_S_) = (0 : EReal))
    (h : Fin 4) (s : Fin 8192) :
    Host.reduceAdd y i reducesTo_S4x8192x1_S4x8192_d2 h_S_ (ix2 h s) = (y (ix3 h s 0) : EReal) := by
  rw [← zero_add (y (ix3 h s 0) : EReal), ← hi]
  pointwise
  rw [Fin.sum_univ_one]

theorem v10_at (h : Fin 4) (s : Fin 8192) :
    val_main_v10 (F := Ideal) x0 x2 (ix2 h s) = mx (sc x0 x2 h s) := by
  unfold val_main_v10
  refine (max_at _ _ h s).trans ?_
  unfold mx
  rw [show (val_main_cst_0 (F := Ideal)) (Shape.Idx.first h_S_) = (⊥ : EReal) from negInf]
  congr 1; funext m; exact v9_at x0 x2 h s m

theorem v17_at (h : Fin 4) (s : Fin 8192) :
    val_main_v17 (F := Ideal) x0 x2 (ix2 h s) = mx (sc x0 x2 h s) := by
  rw [val_main_v17_apply, v10_at, val_main_v16_apply,
    show (val_main_cst_2 (F := Ideal)) (idx_main_v16 (ix2 h s)) = (⊥ : EReal) from negInf]
  exact max_eq_right bot_le

theorem v30_at (h : Fin 4) (s : Fin 8192) (m : Fin 256) :
    val_main_v30 (F := Ideal) x0 x2 (ix3 h s m) = ex (sc x0 x2 h s) m := by
  unfold ex
  rw [← v17_at, ← v9_at]
  pointwise [val_main_v30, val_main_v29, val_main_v28, val_main_v27]

theorem v31_at (h : Fin 4) (s : Fin 8192) :
    val_main_v31 (F := Ideal) x0 x2 (ix2 h s) = tot (sc x0 x2 h s) := by
  unfold tot
  simp only [← v30_at]
  unfold val_main_v31
  exact sum_at _ _ zeroBits h s

theorem v34_at (h : Fin 4) (s : Fin 8192) (m : Fin 256) :
    val_main_v34 (F := Ideal) x0 x2 (ix3 h s m) = pr (sc x0 x2 h s) m := by
  unfold pr
  rw [← v31_at, ← v30_at]
  pointwise [val_main_v34, val_main_v33, val_main_v32]

theorem oneBits : Ideal.ofBits .f32 0x3F800000#32 = (1 : EReal) := by
  simp [Ideal.ofBits, Ideal.ieee]
  rw [← EReal.coe_mul]; norm_num

theorem v37_at (h : Fin 4) (s : Fin 8192) (u : Fin 1) :
    val_main_v37 (F := Ideal) x0 x2 (ix3 h s u)
      = Ideal.div 1 (tot (sc x0 x2 h s) * tot (sc x0 x2 h s)) := by
  rw [← v31_at, ← oneBits]
  pointwise [val_main_v37, val_main_v36, val_main_v35, val_main_v32, val_main_cst_9]

theorem v43_at (h : Fin 4) (s : Fin 8192) (m : Fin 256) :
    val_main_v43 (F := Ideal) x1 x2 (ix3 h s m) = dp x1 x2 h s m := by
  unfold dp
  simp only [← v41_at, ← v6_at]
  pointwise [val_main_v43, val_main_v42]

theorem v44_at (h : Fin 4) (d : Fin 64) (m : Fin 256) :
    val_main_v44 (F := Ideal) x0 x1 x2 (ix3 h d m)
      = ∑ s : Fin 8192, cA x1 s (cix h d) * pr (sc x0 x2 h s) m := by
  simp only [← v41_at, ← v34_at]
  pointwise [val_main_v44, val_main_v42]

theorem v49_at (h : Fin 4) (s : Fin 8192) :
    val_main_v49 (F := Ideal) x0 x1 x2 (ix2 h s)
      = ∑ m : Fin 256, dp x1 x2 h s m * Ideal.div 1 (tot (sc x0 x2 h s) * tot (sc x0 x2 h s)) * ex (sc x0 x2 h s) m := by
  unfold val_main_v49
  refine (sum_at _ _ zeroBits h s).trans (Finset.sum_congr rfl fun m _ => ?_)
  rw [← v43_at, ← v30_at, ← v37_at x0 x2 h s 0]
  pointwise [val_main_v48, val_main_v47, val_main_v46]

theorem v54_at (h : Fin 4) (s : Fin 8192) :
    val_main_v54 (F := Ideal) x0 x1 x2 (ix2 h s)
      = -(∑ m : Fin 256, dp x1 x2 h s m * Ideal.div 1 (tot (sc x0 x2 h s) * tot (sc x0 x2 h s)) * ex (sc x0 x2 h s) m) := by
  rw [← v49_at]
  unfold val_main_v54
  refine (sum1_at _ _ zeroBits h s).trans ?_
  pointwise [val_main_v51, val_main_v50]

/-- The reference's gradient of a score. -/
theorem v57_at (h : Fin 4) (s : Fin 8192) (m : Fin 256) :
    val_main_v57 (F := Ideal) x0 x1 x2 (ix3 h s m) = dsR (sc x0 x2 h s) (dp x1 x2 h s) m := by
  unfold dsR
  rw [← v54_at, ← v43_at, ← v30_at, ← v31_at]
  pointwise [val_main_v57, val_main_v56, val_main_v55, val_main_v53, val_main_v52, val_main_v32]

theorem v59_at (h : Fin 4) (s : Fin 8192) (m : Fin 256) :
    val_main_v59 (F := Ideal) x0 x1 x2 (ix3 h s m) = dsR (sc x0 x2 h s) (dp x1 x2 h s) m * eighth := by
  rw [← v57_at]
  pointwise [val_main_v59, val_main_v58, val_main_cst_12]

/-- The head and the column within it of a narrow column. -/
abbrev hd (j : Fin 256) : Fin 4 := ⟨j.val / 64, by omega⟩
abbrev dd (j : Fin 256) : Fin 64 := ⟨j.val % 64, by omega⟩

theorem cix_hd (j : Fin 256) : cix (hd j) (dd j) = j := Fin.ext (Nat.div_add_mod _ _)

/-- The gradient of the keys. -/
def dk (m j : Fin 256) : EReal :=
  ∑ s : Fin 8192, dsR (sc x0 x2 (hd j) s) (dp x1 x2 (hd j) s) m * eighth * qA x0 s j

/-- The gradient of the values. -/
def dv (m j : Fin 256) : EReal := ∑ s : Fin 8192, cA x1 s j * pr (sc x0 x2 (hd j) s) m

/-- The gradient of the queries. -/
def dq (s : Fin 8192) (j : Fin 256) : EReal :=
  ∑ m : Fin 256, dsR (sc x0 x2 (hd j) s) (dp x1 x2 (hd j) s) m * eighth * kA x2 m j

theorem v65_at (m j : Fin 256) : val_main_v65 (F := Ideal) x0 x1 x2 (ix2 m j) = dk x0 x1 x2 m j := by
  have e : val_main_v60 (F := Ideal) x0 x1 x2 (ix3 (hd j) m (dd j)) = dk x0 x1 x2 m j := by
    unfold dk
    conv_rhs => enter [2, s]; rw [← v59_at, ← cix_hd j, ← v2_at, cix_hd j]
    pointwise [val_main_v60]
  rw [← e]
  pointwise [val_main_v65, val_main_v61]

theorem v64_at (m j : Fin 256) : val_main_v64 (F := Ideal) x0 x1 x2 (ix2 m j) = dv x0 x1 x2 m j := by
  have e : val_main_v44 (F := Ideal) x0 x1 x2 (ix3 (hd j) (dd j) m) = dv x0 x1 x2 m j := by
    rw [v44_at, cix_hd]; rfl
  rw [← e]
  pointwise [val_main_v64, val_main_v45]

theorem v67_at (s : Fin 8192) (j : Fin 256) : val_main_v67 (F := Ideal) x0 x1 x2 (ix2 s j) = dq x0 x1 x2 s j := by
  have e : val_main_v62 (F := Ideal) x0 x1 x2 (ix3 (hd j) s (dd j)) = dq x0 x1 x2 s j := by
    unfold dq
    conv_rhs => enter [2, s]; rw [← v59_at, ← cix_hd j, ← v5_at, cix_hd j]
    pointwise [val_main_v62]
  rw [← e]
  pointwise [val_main_v67, val_main_v63]

/-- The reference's second result: the gradients of the keys and of the values, side by side. -/
theorem v66_at (m : Fin 256) (j : Fin 512) :
    val_main_v66 (F := Ideal) x0 x1 x2 (ix2 m j)
      = if h : j.val < 256 then dk x0 x1 x2 m ⟨j.val, h⟩ else dv x0 x1 x2 m ⟨j.val - 256, by omega⟩ := by
  simp only [← v65_at, ← v64_at]
  pointwise [val_main_v66]

/-- The reference's first result: the other columns as they came, and the gradient of the queries. -/
theorem v69_at (s : Fin 8192) (j : Fin 1536) :
    val_main_v69 (F := Ideal) x0 x1 x2 x3 x4 (ix2 s j)
      = if h : j.val < 1024 then x4 (ix2 s j)
        else if h' : j.val - 1024 < 256 then x3 (ix2 s (⟨j.val - 1024, h'⟩ : Fin 256))
        else dq x0 x1 x2 s ⟨j.val - 1024 - 256, by omega⟩ := by
  simp only [← v67_at]
  pointwise [val_main_v69, val_main_v68]

end Cert.Proof.AttnRef
-- ==== Proof.Attn.HostAt.lean ====
module

public import proofs.«01_k».proof.Proof.Attn.Host
public import proofs.«01_k».proof.Proof.Attn.Block
public import proofs.«01_k».proof.Proof.Attn.Ref

/-! The wide keys and values, read at an index. -/

@[expose] public section

noncomputable section

open Idealize.ShloMosaic Idealize.ShloMosaic.TcCoe Idealize.SL.Sem
open Cert.KernelIdeal Cert.KernelIdeal.Gen Cert.Proof.AttnRef

namespace Cert.Proof.Attn

theorem fdiv64_at (j : Fin 256) : fdiv bcast_S_S256 (iotaInDim S256 32 0) 64#32 (ix1 j) = BitVec.ofNat 32 (j.val / 64) := by
  pointwise [fdiv]
  revert j
  decide +kernel

theorem fdiv256_at (c : Fin 1024) : fdiv bcast_S_S1024 (iotaInDim S1024 32 0) 256#32 (ix1 c) = BitVec.ofNat 32 (c.val / 256) := by
  pointwise [fdiv]
  revert c
  decide +kernel

theorem bit_at (a b : Nat) (ha : a < 4) (hb : b < 4) :
    FloatOps.uitofp (F := Ideal) FTy.f32 (IntOp.cmpi CmpIPredicate.eq (BitVec.ofNat 32 a) (BitVec.ofNat 32 b))
      = if a = b then (1 : EReal) else 0 := by
  have e : ∀ a b : Fin 4, IntOp.cmpi CmpIPredicate.eq (BitVec.ofNat 32 a.val) (BitVec.ofNat 32 b.val)
      = if a.val = b.val then 1#1 else 0#1 := by decide +kernel
  rw [e ⟨a, ha⟩ ⟨b, hb⟩]
  show (((if a = b then 1#1 else 0#1 : BitVec 1).toNat : ℝ) : EReal) = _
  split <;> simp

theorem maskK_at (j : Fin 256) (c : Fin 1024) :
    maskK (F := Ideal) (ix2 j c) = if j.val / 64 = c.val / 256 then (1 : EReal) else 0 := by
  pointwise [maskK]
  rw [fdiv64_at, fdiv256_at, bit_at _ _ (by omega) (by omega)]

theorem maskV_at (j : Fin 256) (c : Fin 1024) :
    maskV (F := Ideal) (ix2 c j) = if c.val / 256 = j.val / 64 then (1 : EReal) else 0 := by
  pointwise [maskV]
  rw [fdiv64_at, fdiv256_at, bit_at _ _ (by omega) (by omega)]

theorem col_div (h : Fin 4) (m : Fin 256) : (col h m).val / 256 = h.val := by
  show (256 * h.val + m.val) / 256 = h.val
  omega

theorem kbig_at (kv : FVec Ideal S256x512 .f32) (j : Fin 256) (h : Fin 4) (m : Fin 256) :
    kbig (F := Ideal) kv (ix2 j (col h m)) = kA kv m j * if hd j = h then (1 : EReal) else 0 := by
  have e : (if hd j = h then (1 : EReal) else 0) = maskK (F := Ideal) (ix2 j (col h m)) := by
    rw [maskK_at, col_div]; simp only [hd, Fin.ext_iff]
  rw [e]
  unfold kA
  pointwise [kbig]
  simp only [Nat.mul_add_mod, Nat.mod_eq_of_lt m.isLt]

theorem vbig_at (kv : FVec Ideal S256x512 .f32) (j : Fin 256) (h : Fin 4) (m : Fin 256) :
    vbig (F := Ideal) kv (ix2 (col h m) j) = vA kv m j * if hd j = h then (1 : EReal) else 0 := by
  have e : (if hd j = h then (1 : EReal) else 0) = maskV (F := Ideal) (ix2 (col h m) j) := by
    rw [maskV_at, col_div]; simp only [hd, Fin.ext_iff, eq_comm]
  rw [e]
  unfold vA
  pointwise [vbig]
  simp only [Nat.mul_add_mod, Nat.mod_eq_of_lt m.isLt]

/-- A sum over all narrow columns of terms kept for one head only. -/
theorem sum_head (h : Fin 4) (f g : Fin 256 → EReal) :
    (∑ k : Fin 256, f k * (g k * if hd k = h then (1 : EReal) else 0)) = ∑ d : Fin 64, f (cix h d) * g (cix h d) := by
  rw [Fin.sum_univ_tiles 4 64 rfl]
  have e : ∀ (h' : Fin 4) (d : Fin 64), (⟨h'.val * 64 + d.val, by omega⟩ : Fin 256) = cix h' d := fun h' d =>
    Fin.ext (by show h'.val * 64 + d.val = 64 * h'.val + d.val; omega)
  have eh : ∀ (h' : Fin 4) (d : Fin 64), hd (cix h' d) = h' := fun h' d => Fin.ext (by
    show (64 * h'.val + d.val) / 64 = h'.val; omega)
  simp only [e, eh]
  rw [Finset.sum_eq_single h]
  · simp
  · intro b _ hb; simp [hb]
  · intro hh; exact absurd (Finset.mem_univ _) hh

/-- A sum over all wide columns of terms kept for one head only. -/
theorem sum_wide (h : Fin 4) (f : Fin 1024 → EReal) (g : Fin 256 → EReal) (G : Fin 1024 → EReal)
    (hG : ∀ h' m, G (col h' m) = g m * if h = h' then (1 : EReal) else 0) :
    (∑ c : Fin 1024, f c * G c) = ∑ m : Fin 256, f (col h m) * g m := by
  rw [Fin.sum_univ_tiles 4 256 rfl]
  have e : ∀ (h' : Fin 4) (d : Fin 256), (⟨h'.val * 256 + d.val, by omega⟩ : Fin 1024) = col h' d := fun h' d =>
    Fin.ext (by show h'.val * 256 + d.val = 256 * h'.val + d.val; omega)
  simp only [e, hG]
  rw [Finset.sum_eq_single h]
  · simp
  · intro b _ hb; simp [Ne.symm hb]
  · intro hh; exact absurd (Finset.mem_univ _) hh

variable (x0 : FVec Ideal S8192x1536 .f32) (x1 : FVec Ideal S8192x1024 .f32) (x2 : FVec Ideal S256x512 .f32)

/-- A tile whose queries are rows of the array has that array's scores. -/
theorem scH_eq (q : FVec Ideal S512x256 .f32) (r : Fin 512) (s : Fin 8192) (hq : ∀ k : Fin 256, q (ix2 r k) = qA x0 s k)
    (h : Fin 4) : scH q (kbig x2) r h = sc x0 x2 h s := by
  funext m
  unfold scH sc
  simp only [hq, kbig_at, sum_head h (qA x0 s) (kA x2 m)]

theorem dpH_eq (ct : FVec Ideal S512x256 .f32) (r : Fin 512) (s : Fin 8192) (hc : ∀ k : Fin 256, ct (ix2 r k) = cA x1 s k)
    (h : Fin 4) : dpH ct (vbig x2) r h = dp x1 x2 h s := by
  funext m
  unfold dpH dp
  simp only [hc, vbig_at, sum_head h (cA x1 s) (vA x2 m)]

end Cert.Proof.Attn
-- ==== Proof.Attn.Array.lean ====
module

public import proofs.«01_k».proof.Proof.Attn.HostAt

/-! What the launch leaves in its three result arrays. -/

@[expose] public section

noncomputable section

open Idealize.ShloMosaic Idealize.ShloMosaic.TcCoe Idealize.SL.Sem
open Cert.KernelIdeal Cert.KernelIdeal.Gen Cert.Proof.AttnRef Cert.Proof.Soft

namespace Cert.Proof.Attn

variable (m : (ℓ : Loc nD τ sig) → Buf (Elt Ideal) ℓ) (c : Dev nD)

/-- The arguments' arrays. -/
abbrev a0 : FVec Ideal S8192x1536 .f32 := m ((c : Thread nD τ).loc main_arg0)
abbrev a1 : FVec Ideal S8192x1024 .f32 := m ((c : Thread nD τ).loc main_arg1)
abbrev a2 : FVec Ideal S256x512 .f32 := m ((c : Thread nD τ).loc main_arg2)
abbrev a3 : FVec Ideal S8192x256 .f32 := m ((c : Thread nD τ).loc main_arg3)
abbrev a4 : FVec Ideal S8192x1536 .f32 := m ((c : Thread nD τ).loc main_arg4)

/-- The token of row `r` in tile `t`. -/
def tok (t : ℕ) (r : Fin 512) : Fin 8192 := ⟨(t * 512 + r.val) % 8192, Nat.mod_lt _ (by decide)⟩

theorem tok_val (t : ℕ) (ht : t < 16) (r : Fin 512) : (tok t r).val = t * 512 + r.val := Nat.mod_eq_of_lt (by omega)

theorem lt16 (t : Fin cfg0.N) : t.val < 16 := by have := t.isLt; have hN : cfg0.N = 16 := N_0; omega

theorem blk0 (t : Fin cfg0.N) (r : Fin 512) (k : Fin 256) :
    (iblk m c 0 t : FVec Ideal S512x256 .f32) (ix2 r k) = qA (a0 m c) (tok t.val r) k := by
  have hi : win0_0.index t 0 = t.val ∧ win0_0.index t 1 = 5 := by revert t; decide +kernel
  have hk := tok_val t.val (lt16 t) r
  unfold iblk
  rw [View.read_apply]
  show V m c main_arg0 _ = a0 m c _
  rw [V_main_arg0]
  congr 1
  funext a
  apply Fin.ext
  match a with
  | ⟨0, _⟩ => show win0_0.index t 0 * 512 + 1 * r.val = (tok t.val r).val; rw [hi.1, hk]; omega
  | ⟨1, _⟩ => show win0_0.index t 1 * 256 + 1 * k.val = 1280 + k.val; rw [hi.2]; omega

theorem blk1 (t : Fin cfg0.N) (r : Fin 512) (k : Fin 256) :
    (iblk m c 1 t : FVec Ideal S512x256 .f32) (ix2 r k) = cA (a1 m c) (tok t.val r) k := by
  have hi : win0_1.index t 0 = t.val ∧ win0_1.index t 1 = 3 := by revert t; decide +kernel
  have hk := tok_val t.val (lt16 t) r
  unfold iblk
  rw [View.read_apply]
  show V m c main_arg1 _ = a1 m c _
  rw [V_main_arg1]
  congr 1
  funext a
  apply Fin.ext
  match a with
  | ⟨0, _⟩ => show win0_1.index t 0 * 512 + 1 * r.val = (tok t.val r).val; rw [hi.1, hk]; omega
  | ⟨1, _⟩ => show win0_1.index t 1 * 256 + 1 * k.val = 768 + k.val; rw [hi.2]; omega

theorem blk2 (t : Fin cfg0.N) : (iblk m c 2 t : FVec Ideal S256x1024 .bf16) = kbig (a2 m c) := by
  have hi : win0_2.index t 0 = 0 ∧ win0_2.index t 1 = 0 := by revert t; decide +kernel
  rw [← V_v31]
  funext j
  unfold iblk
  rw [View.read_apply]
  show V m c main_v31 _ = V m c main_v31 _
  congr 1
  funext a
  apply Fin.ext
  match a with
  | ⟨0, _⟩ => show win0_2.index t 0 * 256 + 1 * (j 0).val = (j 0).val; rw [hi.1]; omega
  | ⟨1, _⟩ => show win0_2.index t 1 * 1024 + 1 * (j 1).val = (j 1).val; rw [hi.2]; omega

theorem blk3 (t : Fin cfg0.N) : (iblk m c 3 t : FVec Ideal S1024x256 .bf16) = vbig (a2 m c) := by
  have hi : win0_3.index t 0 = 0 ∧ win0_3.index t 1 = 0 := by revert t; decide +kernel
  rw [← V_v32]
  funext j
  unfold iblk
  rw [View.read_apply]
  show V m c main_v32 _ = V m c main_v32 _
  congr 1
  funext a
  apply Fin.ext
  match a with
  | ⟨0, _⟩ => show win0_3.index t 0 * 1024 + 1 * (j 0).val = (j 0).val; rw [hi.1]; omega
  | ⟨1, _⟩ => show win0_3.index t 1 * 256 + 1 * (j 1).val = (j 1).val; rw [hi.2]; omega

theorem blk4 (t : Fin cfg0.N) (r : Fin 512) (k : Fin 256) :
    (iblk m c 4 t : FVec Ideal S512x256 .f32) (ix2 r k) = a3 m c (ix2 (tok t.val r) k) := by
  have hi : win0_4.index t 0 = t.val ∧ win0_4.index t 1 = 0 := by revert t; decide +kernel
  have hk := tok_val t.val (lt16 t) r
  unfold iblk
  rw [View.read_apply]
  show V m c main_arg3 _ = a3 m c _
  rw [V_main_arg3]
  congr 1
  funext a
  apply Fin.ext
  match a with
  | ⟨0, _⟩ => show win0_4.index t 0 * 512 + 1 * r.val = (tok t.val r).val; rw [hi.1, hk]; omega
  | ⟨1, _⟩ => show win0_4.index t 1 * 256 + 1 * k.val = k.val; rw [hi.2]; omega

/-- The gradient of a score as the kernel forms it, scaled. -/
def dsG (h : Fin 4) (s : Fin 8192) (k : Fin 256) : EReal :=
  dsK (sc (a0 m c) (a2 m c) h s) (dp (a1 m c) (a2 m c) h s) k * eighth

theorem ds_tile (t : Fin cfg0.N) (r : Fin 512) (h : Fin 4) (k : Fin 256) :
    dsTile (F := Ideal) (iblk m c 0 t) (iblk m c 1 t) (iblk m c 2 t) (iblk m c 3 t) (ix2 r (col h k))
      = dsG m c h (tok t.val r) k := by
  rw [blk2, blk3, dsTile_at, scH_eq (a0 m c) (a2 m c) _ r (tok t.val r) (blk0 m c t r),
    dpH_eq (a1 m c) (a2 m c) _ r (tok t.val r) (blk1 m c t r)]
  rfl

theorem p_tile (t : Fin cfg0.N) (r : Fin 512) (h : Fin 4) (k : Fin 256) :
    pTile (F := Ideal) (iblk m c 0 t) (iblk m c 2 t) (ix2 r (col h k))
      = pr (sc (a0 m c) (a2 m c) h (tok t.val r)) k := by
  rw [blk2, pTile_at, scH_eq (a0 m c) (a2 m c) _ r (tok t.val r) (blk0 m c t r)]

theorem zeroBits : Ideal.ofBits .f32 0x00000000#32 = (0 : EReal) := AttnRef.zeroBits

theorem pay4_at (i : S256x1024.Idx) : (k0_pay4 (F := Ideal) i : EReal) = 0 := AttnRef.zeroBits
theorem pay5_at (i : S1024x256.Idx) : (k0_pay5 (F := Ideal) i : EReal) = 0 := AttnRef.zeroBits

/-- The accumulators after point `n`. -/
theorem acc : ∀ (n : ℕ) (h : n < cfg0.N),
    (∀ (j : Fin 256) (hh : Fin 4) (k : Fin 256), ((outsAt0 m c n h).2.1 : FVec Ideal S256x1024 .f32) (ix2 j (col hh k))
      = ∑ t ∈ Finset.range (n + 1), ∑ r : Fin 512, qA (a0 m c) (tok t r) j * dsG m c hh (tok t r) k)
    ∧ (∀ (j : Fin 256) (hh : Fin 4) (k : Fin 256), ((outsAt0 m c n h).2.2 : FVec Ideal S1024x256 .f32) (ix2 (col hh k) j)
      = ∑ t ∈ Finset.range (n + 1), ∑ r : Fin 512, pr (sc (a0 m c) (a2 m c) hh (tok t r)) k * cA (a1 m c) (tok t r) j)
  | 0, h => by
    have e := outsAt0_A m c ⟨0, h⟩ rfl
    dsimp only at e
    rw [e, outA6, outA7]
    refine ⟨fun j hh k => ?_, fun j hh k => ?_⟩
    · dsimp only; rw [pay3_at, pay4_at, zero_add, Finset.sum_range_one]
      exact Finset.sum_congr rfl fun r _ => congrArg₂ (· * ·) (blk0 m c ⟨0, h⟩ r j) (ds_tile m c ⟨0, h⟩ r hh k)
    · dsimp only; rw [pay1_at, pay5_at, zero_add, Finset.sum_range_one]
      exact Finset.sum_congr rfl fun r _ => congrArg₂ (· * ·) (p_tile m c ⟨0, h⟩ r hh k) (blk1 m c ⟨0, h⟩ r j)
  | n + 1, h => by
    have hN : cfg0.N = 16 := N_0
    have hB : ¬(⟨n + 1, h⟩ : Fin cfg0.N).val % 16 = 0 := by dsimp only; omega
    have e := outsAt0_B m c ⟨n + 1, h⟩ hB
    dsimp only at e
    rw [e, outB6, outB7]
    have ih := acc n (Nat.lt_of_succ_lt h)
    refine ⟨fun j hh k => ?_, fun j hh k => ?_⟩
    · dsimp only; rw [pay3_at, Finset.sum_range_succ _ (n + 1)]
      exact congrArg₂ (· + ·) (ih.1 j hh k) (Finset.sum_congr rfl fun r _ =>
        congrArg₂ (· * ·) (blk0 m c ⟨n + 1, h⟩ r j) (ds_tile m c ⟨n + 1, h⟩ r hh k))
    · dsimp only; rw [pay1_at, Finset.sum_range_succ _ (n + 1)]
      exact congrArg₂ (· + ·) (ih.2 j hh k) (Finset.sum_congr rfl fun r _ =>
        congrArg₂ (· * ·) (p_tile m c ⟨n + 1, h⟩ r hh k) (blk1 m c ⟨n + 1, h⟩ r j))

/-- All tiles' rows are all tokens. -/
theorem sum_tiles (f : Fin 8192 → EReal) : (∑ t ∈ Finset.range 16, ∑ r : Fin 512, f (tok t r)) = ∑ s : Fin 8192, f s := by
  rw [Fin.sum_univ_tiles 16 512 rfl, Finset.sum_range]
  exact Finset.sum_congr rfl fun t _ => Finset.sum_congr rfl fun r _ => congrArg f (Fin.ext (tok_val t.val t.isLt r))

end Cert.Proof.Attn
-- ==== Proof.Attn.Tail.lean ====
module

public import proofs.«01_k».proof.Proof.Attn.Array

/-! The host code after the launch: the wide gradients folded back onto the keys and the values. -/

@[expose] public section

noncomputable section

open Idealize.ShloMosaic Idealize.ShloMosaic.TcCoe Idealize.SL.Sem
open Cert.KernelIdeal Cert.KernelIdeal.Gen Cert.Proof.AttnRef Cert.Proof.Soft

namespace Cert.Proof.Attn

/-- The wide values' gradient, masked and summed over the heads. -/
def foldV (dv mv : FVec Ideal S1024x256 .f32) : FVec Ideal S256x256 .f32 :=
  Host.reduceAdd (shapeCast S4x256x1x256 (mulf dv mv) shapeCasts_S1024x256_S4x256x1x256) (constant S_ .f32 0x00000000#32)
    reducesTo_S4x256x1x256_S256x256_d0_2 h_S_

/-- The wide keys' gradient, masked, summed over the heads and turned. -/
def foldK (dk mk : FVec Ideal S256x1024 .f32) : FVec Ideal S256x256 .f32 :=
  transpose S256x256 [1, 0] (Host.reduceAdd (shapeCast S1x256x4x256 (mulf dk mk) shapeCasts_S256x1024_S1x256x4x256)
    (constant S_ .f32 0x00000000#32) reducesTo_S1x256x4x256_S256x256_d0_2 h_S_) transposes_S256x256_S256x256_1_0

/-- Both side by side. -/
def tailT (k v : FVec Ideal S256x256 .f32) : FVec Ideal S256x512 .f32 :=
  addf (pad S256x512 ![0, 256] ![0, 0] ![0, 0] v (constant S_ .f32 0x00000000#32) pads_S256x256_S256x512_000_25600 h_S_)
    (pad S256x512 ![0, 0] ![0, 256] ![0, 0] k (constant S_ .f32 0x00000000#32) pads_S256x256_S256x512_000_02560 h_S_)

theorem tailT_at (k v : FVec Ideal S256x256 .f32) (r : Fin 256) (j : Fin 512) :
    tailT k v (ix2 r j) = if h : j.val < 256 then (k (ix2 r ⟨j.val, h⟩) : EReal) else v (ix2 r ⟨j.val - 256, by omega⟩) := by
  pointwise [tailT]
  by_cases h : j.val < 256
  · rw [dif_pos h, dif_pos h, dif_neg (by omega), zero_add]
  · rw [dif_neg h, dif_neg h, dif_pos (by omega), add_zero]

/-- The indices of a `4 × 256 × 1 × 256` array that a sum over its first and third axes takes to `(k, j)`. -/
theorem fiberV (k j : Fin 256) (i : S4x256x1x256.Idx) :
    reducesTo_S4x256x1x256_S256x256_d0_2.drop i = ix2 k j ↔ ∃ h : Fin 4, (ix4 h k 0 j : S4x256x1x256.Idx) = i := by
  constructor
  · intro e
    have e0 := congrArg Fin.val (congrFun e 0)
    have e1 := congrArg Fin.val (congrFun e 1)
    rw [reducesTo_S4x256x1x256_S256x256_d0_2.drop_apply_val_of_eq i 0 1] at e0
    rw [reducesTo_S4x256x1x256_S256x256_d0_2.drop_apply_val_of_eq i 1 3] at e1
    refine ⟨i 0, ((eq_ix4 i).trans ?_).symm⟩
    rw [show i 1 = k from Fin.ext e0, show i 3 = j from Fin.ext e1, show i 2 = (0 : Fin 1) from Subsingleton.elim (α := Fin 1) _ _]
  · rintro ⟨h, rfl⟩
    funext b
    match b with
    | ⟨0, _⟩ => exact Fin.ext (reducesTo_S4x256x1x256_S256x256_d0_2.drop_apply_val_of_eq _ 0 1)
    | ⟨1, _⟩ => exact Fin.ext (reducesTo_S4x256x1x256_S256x256_d0_2.drop_apply_val_of_eq _ 1 3)

/-- The same for a `1 × 256 × 4 × 256` array. -/
theorem fiberK (k j : Fin 256) (i : S1x256x4x256.Idx) :
    reducesTo_S1x256x4x256_S256x256_d0_2.drop i = ix2 k j ↔ ∃ h : Fin 4, (ix4 0 k h j : S1x256x4x256.Idx) = i := by
  constructor
  · intro e
    have e0 := congrArg Fin.val (congrFun e 0)
    have e1 := congrArg Fin.val (congrFun e 1)
    rw [reducesTo_S1x256x4x256_S256x256_d0_2.drop_apply_val_of_eq i 0 1] at e0
    rw [reducesTo_S1x256x4x256_S256x256_d0_2.drop_apply_val_of_eq i 1 3] at e1
    refine ⟨i 2, ((eq_ix4 i).trans ?_).symm⟩
    rw [show i 1 = k from Fin.ext e0, show i 3 = j from Fin.ext e1, show i 0 = (0 : Fin 1) from Subsingleton.elim (α := Fin 1) _ _]
  · rintro ⟨h, rfl⟩
    funext b
    match b with
    | ⟨0, _⟩ => exact Fin.ext (reducesTo_S1x256x4x256_S256x256_d0_2.drop_apply_val_of_eq _ 0 1)
    | ⟨1, _⟩ => exact Fin.ext (reducesTo_S1x256x4x256_S256x256_d0_2.drop_apply_val_of_eq _ 1 3)

theorem sumV (y : S4x256x1x256.Idx → EReal) (b : EReal) (k j : Fin 256) :
    Ideal.hostReduceAdd reducesTo_S4x256x1x256_S256x256_d0_2 y b (ix2 k j) = b + ∑ h : Fin 4, y (ix4 h k 0 j) :=
  congrArg (b + ·) (Finset.sum_filter_eq_sum_of_fiber _ (fun h : Fin 4 => (ix4 h k 0 j : S4x256x1x256.Idx))
    (fun _ _ e => congrFun e 0) (fiberV k j) y)

theorem sumK (y : S1x256x4x256.Idx → EReal) (b : EReal) (k j : Fin 256) :
    Ideal.hostReduceAdd reducesTo_S1x256x4x256_S256x256_d0_2 y b (ix2 k j) = b + ∑ h : Fin 4, y (ix4 0 k h j) :=
  congrArg (b + ·) (Finset.sum_filter_eq_sum_of_fiber _ (fun h : Fin 4 => (ix4 0 k h j : S1x256x4x256.Idx))
    (fun _ _ e => congrFun e 2) (fiberK k j) y)

theorem foldV_at (dv mv : FVec Ideal S1024x256 .f32) (k j : Fin 256) :
    foldV dv mv (ix2 k j) = ∑ h : Fin 4, (dv (ix2 (col h k) j) : EReal) * mv (ix2 (col h k) j) := by
  pointwise [foldV]
  rw [sumV, zero_add]
  refine Finset.sum_congr rfl fun h _ => ?_
  pointwise
  have e : (⟨h.val * 256 + k.val, by omega⟩ : Fin 1024) = col h k := Fin.ext (by show h.val * 256 + k.val = 256 * h.val + k.val; omega)
  exact congrArg (fun a => (dv (ix2 a j) : EReal) * mv (ix2 a j)) e

theorem foldK_at (dk mk : FVec Ideal S256x1024 .f32) (k j : Fin 256) :
    foldK dk mk (ix2 k j) = ∑ h : Fin 4, (dk (ix2 j (col h k)) : EReal) * mk (ix2 j (col h k)) := by
  pointwise [foldK]
  rw [sumK, zero_add]
  refine Finset.sum_congr rfl fun h _ => ?_
  pointwise
  have e : (⟨h.val * 256 + k.val, by omega⟩ : Fin 1024) = col h k := Fin.ext (by show h.val * 256 + k.val = 256 * h.val + k.val; omega)
  exact congrArg (fun a => (dk (ix2 j a) : EReal) * mk (ix2 j a)) e

variable (m : (ℓ : Loc nD τ sig) → Buf (Elt Ideal) ℓ) (c : Dev nD)

theorem tail_eq : Pipeline.afterTail₀ cfgs (dats m) 0 (V0 m) [hostOps1] c main_v43
    = tailT (foldK ((dats m 0 c).arrAt 6 cfg0.N) (maskK (F := Ideal))) (foldV ((dats m 0 c).arrAt 7 cfg0.N) (maskV (F := Ideal))) := by
  have hinj : Function.Injective (Pipeline.arrRef spec0) := by decide
  have e6 : Pipeline.withArrays spec0 c (V0 m c) (fun w => (dats m 0 c).arrAt w cfg0.N) (Proc.devRef .tc main_v33_1) = (dats m 0 c).arrAt 6 cfg0.N :=
    Pipeline.withArrays_arr spec0 hinj _ _ _ 6
  have e7 : Pipeline.withArrays spec0 c (V0 m c) (fun w => (dats m 0 c).arrAt w cfg0.N) (Proc.devRef .tc main_v33_2) = (dats m 0 c).arrAt 7 cfg0.N :=
    Pipeline.withArrays_arr spec0 hinj _ _ _ 7
  have e29 : Pipeline.withArrays spec0 c (V0 m c) (fun w => (dats m 0 c).arrAt w cfg0.N) (Proc.devRef .tc main_v29) = maskV (F := Ideal) :=
    (Pipeline.withArrays_of_ne spec0 c _ _ main_v29 (by exact (by decide : ∀ w, Pipeline.arrRef spec0 w ≠ main_v29))).trans (V_v29 m c)
  have e14 : Pipeline.withArrays spec0 c (V0 m c) (fun w => (dats m 0 c).arrAt w cfg0.N) (Proc.devRef .tc main_v14) = maskK (F := Ideal) :=
    (Pipeline.withArrays_of_ne spec0 c _ _ main_v14 (by exact (by decide : ∀ w, Pipeline.arrRef spec0 w ≠ main_v14))).trans (V_v14 m c)
  unfold Pipeline.afterTail₀
  simp only [List.flatten_cons, List.flatten_nil, List.append_nil]
  after_reads_simp
  rw [← e6, ← e7, ← e29, ← e14]
  rfl

end Cert.Proof.Attn
-- ==== Proof.Attn.Flush.lean ====
module

public import proofs.«01_k».proof.Proof.Attn.Tail

/-! The three result arrays of the launch, whole. -/

@[expose] public section

noncomputable section

open Idealize.ShloMosaic Idealize.ShloMosaic.TcCoe Idealize.SL.Sem
open Cert.KernelIdeal Cert.KernelIdeal.Gen Cert.Proof.AttnRef Cert.Proof.Soft

namespace Cert.Proof.Attn

variable (m : (ℓ : Loc nD τ sig) → Buf (Elt Ideal) ℓ) (c : Dev nD)

/-- The queries' gradient as the kernel forms it. -/
def dqG (s : Fin 8192) (j : Fin 256) : EReal := ∑ k : Fin 256, dsG m c (hd j) s k * kA (a2 m c) k j

/-- The whole gradient of the block's input projection: four column groups kept, one copied, one computed. -/
def dhG : FVec Ideal S8192x1536 .f32 := fun i =>
  if (i 1).val < 1024 then a4 m c i
  else if h' : (i 1).val - 1024 < 256 then a3 m c (ix2 (i 0) ⟨(i 1).val - 1024, h'⟩)
  else dqG m c (i 0) ⟨(i 1).val - 1024 - 256, by have h := (i 1).isLt; have : S8192x1536.size 1 = 1536 := rfl; omega⟩

/-- One tile of it. -/
theorem dh_tile (t : Fin cfg0.N) (r : Fin 512) (j : Fin 512) :
    (dhTile (F := Ideal) (iblk m c 0 t) (iblk m c 1 t) (iblk m c 2 t) (iblk m c 3 t) (iblk m c 4 t) (ix2 r j) : EReal)
      = if h : j.val < 256 then a3 m c (ix2 (tok t.val r) ⟨j.val, h⟩) else dqG m c (tok t.val r) ⟨j.val - 256, by omega⟩ := by
  unfold dhTile
  by_cases h : j.val < 256
  · rw [dif_pos h]
    exact (dif_pos h).trans (blk4 m c t r ⟨j.val, h⟩)
  · rw [dif_neg h]
    refine (dif_neg h).trans ?_
    show (k0_pay2 (F := Ideal) (dsTile (iblk m c 0 t) (iblk m c 1 t) (iblk m c 2 t) (iblk m c 3 t)) (iblk m c 2 t)
      (ix2 r ⟨j.val - 256, by omega⟩) : EReal) = _
    rw [pay2_at]
    have e := sum_wide (hd ⟨j.val - 256, by omega⟩)
      (fun cc => dsTile (F := Ideal) (iblk m c 0 t) (iblk m c 1 t) (iblk m c 2 t) (iblk m c 3 t) (ix2 r cc))
      (fun k => kA (a2 m c) k ⟨j.val - 256, by omega⟩)
      (fun cc => (iblk m c 2 t : FVec Ideal S256x1024 .bf16) (ix2 ⟨j.val - 256, by omega⟩ cc))
      (fun h' k => by rw [blk2, kbig_at])
    refine e.trans ?_
    unfold dqG
    exact Finset.sum_congr rfl fun k _ => by rw [ds_tile]

theorem out5 (t : Fin cfg0.N) : (outsAt0 m c t.val t.isLt).1
    = dhTile (F := Ideal) (iblk m c 0 t) (iblk m c 1 t) (iblk m c 2 t) (iblk m c 3 t) (iblk m c 4 t) := by
  by_cases h : t.val % 16 = 0
  · rw [outsAt0_A m c t h, outA5]
  · rw [outsAt0_B m c t h, outB5]

theorem V_v33_0 : V m c main_v33_0 = a4 m c := by
  show V0 m c (Proc.devRef .tc main_v33_0) = _
  rw [V0_eq]
  after_reads_simp
  rfl

theorem flush5 (t : Fin cfg0.N) : (dats m 0 c).flushed 5 t = ((cfg0.win 5).blk t).view.read (Elt Ideal) (dhG m c) := by
  have hi : win0_5.index t 0 = t.val ∧ win0_5.index t 1 = 2 := by revert t; decide +kernel
  show (cfg0.win 5).cut (grid0.coords t) ((dats m 0 c).after 5 t) = _
  rw [after0_5, out5]
  funext y
  rw [View.read_apply]
  have h0 : (y 0).val < 512 := (y 0).isLt
  have h1 : (y 1).val < 512 := (y 1).isLt
  show (dhTile (F := Ideal) (iblk m c 0 t) (iblk m c 1 t) (iblk m c 2 t) (iblk m c 3 t) (iblk m c 4 t)
    (ix2 ⟨(y 0).val, h0⟩ ⟨(y 1).val, h1⟩) : EReal) = dhG m c (((cfg0.win 5).blk t).view.emb y)
  have hk := tok_val t.val (lt16 t) ⟨(y 0).val, h0⟩
  have e : ((cfg0.win 5).blk t).view.emb y = (ix2 (tok t.val ⟨(y 0).val, h0⟩) ⟨1024 + (y 1).val, by omega⟩ : S8192x1536.Idx) := by
    funext a
    apply Fin.ext
    match a with
    | ⟨0, _⟩ => show win0_5.index t 0 * 512 + 1 * (y 0).val = (tok t.val ⟨(y 0).val, h0⟩).val; rw [hi.1, hk]; dsimp only; omega
    | ⟨1, _⟩ => show win0_5.index t 1 * 512 + 1 * (y 1).val = 1024 + (y 1).val; rw [hi.2]; omega
  rw [e, dh_tile]
  unfold dhG
  have e1 : 1024 + (y 1).val - 1024 = (y 1).val := by omega
  refine Eq.trans ?_ (if_neg (show ¬ 1024 + (y 1).val < 1024 by omega)).symm
  by_cases h : (y 1).val < 256
  · rw [dif_pos h]
    refine Eq.trans ?_ (dif_pos (show 1024 + (y 1).val - 1024 < 256 by omega)).symm
    exact congrArg (fun a => a3 m c (ix2 (tok t.val ⟨(y 0).val, h0⟩) a)) (Fin.ext e1.symm)
  · rw [dif_neg h]
    refine Eq.trans ?_ (dif_neg (show ¬ 1024 + (y 1).val - 1024 < 256 by omega)).symm
    exact congrArg (dqG m c (tok t.val ⟨(y 0).val, h0⟩)) (Fin.ext (congrArg (· - 256) e1.symm))

theorem mem5 (t : Fin cfg0.N) (i : main_v33_0.ty.Idx) (h0 : t.val = (i 0).val / 512) (h1 : 1024 ≤ (i 1).val) :
    i ∈ ((cfg0.win 5).blk t).view.set := by
  have hi : win0_5.index t 0 = t.val ∧ win0_5.index t 1 = 2 := by clear h0; revert t; decide +kernel
  have hx : win0_5.xsize (grid0.coords t) 0 = 512 ∧ win0_5.xsize (grid0.coords t) 1 = 512 := by clear h0 hi; revert t; decide +kernel
  have hi0 : (i 0).val < 8192 := (i 0).isLt
  have hi1 : (i 1).val < 1536 := (i 1).isLt
  show i ∈ ((View.whole main_v33_0).slice (win0_5.rect t)).set
  rw [View.set_slice_whole, Rect.mem_set_unit]
  intro a
  match a with
  | ⟨0, _⟩ =>
    show win0_5.index t 0 * 512 ≤ (i 0 : Nat) ∧ (i 0 : Nat) < win0_5.index t 0 * 512 + win0_5.xsize (grid0.coords t) 0
    rw [hi.1, hx.1]; omega
  | ⟨1, _⟩ =>
    show win0_5.index t 1 * 512 ≤ (i 1 : Nat) ∧ (i 1 : Nat) < win0_5.index t 1 * 512 + win0_5.xsize (grid0.coords t) 1
    rw [hi.2, hx.2]; omega

/-- The first result of the launch. -/
theorem arr5 : (dats m 0 c).arrAt 5 cfg0.N = dhG m c := by
  funext i
  rw [Pipeline.Dat.arrAt_eq_piecewise (dats m 0 c) 5 (dhG m c) (fun t _ => flush5 m c t) i]
  split_ifs with hc
  · rfl
  · have hA : (dats m 0 c).A 5 = a4 m c := (A_eq m c 5).trans (V_v33_0 m c)
    rw [hA]
    have hlt : (i 1).val < 1024 := by
      by_contra hge
      apply hc
      have hi0 : (i 0).val < 8192 := (i 0).isLt
      have hi1 : (i 1).val < 1536 := (i 1).isLt
      have hN : cfg0.N = 16 := N_0
      exact ⟨⟨(i 0).val / 512, by omega⟩, flush0_5 _, mem5 _ i rfl (not_lt.mp hge)⟩
    exact (if_pos hlt).symm

/-- The wide keys' gradient. -/
def dkG : FVec Ideal S256x1024 .f32 := fun i =>
  ∑ s : Fin 8192, qA (a0 m c) s (i 0) * dsG m c ⟨(i 1).val / 256, by have h := (i 1).isLt; have : S256x1024.size 1 = 1024 := rfl; omega⟩ s
    ⟨(i 1).val % 256, Nat.mod_lt _ (by decide)⟩

/-- The wide values' gradient. -/
def dvG : FVec Ideal S1024x256 .f32 := fun i =>
  ∑ s : Fin 8192, pr (sc (a0 m c) (a2 m c) ⟨(i 0).val / 256, by have h := (i 0).isLt; have : S1024x256.size 0 = 1024 := rfl; omega⟩ s)
    ⟨(i 0).val % 256, Nat.mod_lt _ (by decide)⟩ * cA (a1 m c) s (i 1)

theorem split_col (a : Fin 1024) : a = col ⟨a.val / 256, by omega⟩ ⟨a.val % 256, Nat.mod_lt _ (by decide)⟩ :=
  Fin.ext (by show a.val = 256 * (a.val / 256) + a.val % 256; omega)

theorem last6 (h : 15 < cfg0.N) : (outsAt0 m c 15 h).2.1 = dkG m c := by
  funext i
  rw [eq_ix2 i]
  have e := (acc m c 15 h).1 (i 0) ⟨(i 1).val / 256, by have h := (i 1).isLt; have : S256x1024.size 1 = 1024 := rfl; omega⟩
    ⟨(i 1).val % 256, Nat.mod_lt _ (by decide)⟩
  refine (congrArg (fun a => (outsAt0 m c 15 h).2.1 (ix2 (i 0) a)) (split_col (i 1))).trans (e.trans ?_)
  exact sum_tiles (fun s => qA (a0 m c) s (i 0) * dsG m c _ s _)

theorem last7 (h : 15 < cfg0.N) : (outsAt0 m c 15 h).2.2 = dvG m c := by
  funext i
  rw [eq_ix2 i]
  have e := (acc m c 15 h).2 (i 1) ⟨(i 0).val / 256, by have h := (i 0).isLt; have : S1024x256.size 0 = 1024 := rfl; omega⟩
    ⟨(i 0).val % 256, Nat.mod_lt _ (by decide)⟩
  refine (congrArg (fun a => (outsAt0 m c 15 h).2.2 (ix2 a (i 1))) (split_col (i 0))).trans (e.trans ?_)
  exact sum_tiles (fun s => pr (sc (a0 m c) (a2 m c) _ s) _ * cA (a1 m c) s (i 1))

theorem lt15 : 15 < cfg0.N := by have hN : cfg0.N = 16 := N_0; omega

theorem at15 (t : Fin cfg0.N) (h : t.val % 16 = 15) : t = ⟨15, lt15⟩ :=
  Fin.ext (by have := lt16 t; show t.val = 15; omega)

theorem flush6 (t : Fin cfg0.N) (hf : (cfg0.win 6).flush t = true) :
    (dats m 0 c).flushed 6 t = ((cfg0.win 6).blk t).view.read (Elt Ideal) (dkG m c) := by
  have ht := at15 t ((flush0_6 t).mp hf)
  show (cfg0.win 6).cut (grid0.coords t) ((dats m 0 c).after 6 t) = _
  rw [after0_6]
  subst ht
  rw [last6]
  have hz' : (fun a => win0_6.index ⟨15, lt15⟩ a * main_v33_1.ty.shape.size a) = fun _ => 0 :=
    funext fun a => by fin_cases a <;> decide +kernel
  exact (Memref.read_access_unit_zero (Elt Ideal) main_v33_1 hz' (fun a => by rw [congrFun hz' a]; simp) (dkG m c)).symm

theorem flush7 (t : Fin cfg0.N) (hf : (cfg0.win 7).flush t = true) :
    (dats m 0 c).flushed 7 t = ((cfg0.win 7).blk t).view.read (Elt Ideal) (dvG m c) := by
  have ht := at15 t ((flush0_7 t).mp hf)
  show (cfg0.win 7).cut (grid0.coords t) ((dats m 0 c).after 7 t) = _
  rw [after0_7]
  subst ht
  rw [last7]
  have hz' : (fun a => win0_7.index ⟨15, lt15⟩ a * main_v33_2.ty.shape.size a) = fun _ => 0 :=
    funext fun a => by fin_cases a <;> decide +kernel
  exact (Memref.read_access_unit_zero (Elt Ideal) main_v33_2 hz' (fun a => by rw [congrFun hz' a]; simp) (dvG m c)).symm

theorem mem6 (t : Fin cfg0.N) (i : main_v33_1.ty.Idx) :
    i ∈ ((cfg0.win 6).blk t).view.set := by
  have hi : win0_6.index t 0 = 0 ∧ win0_6.index t 1 = 0 := by revert t; decide +kernel
  have hx : win0_6.xsize (grid0.coords t) 0 = 256 ∧ win0_6.xsize (grid0.coords t) 1 = 1024 := by revert t; decide +kernel
  have hi0 : (i 0).val < 256 := (i 0).isLt
  have hi1 : (i 1).val < 1024 := (i 1).isLt
  show i ∈ ((View.whole main_v33_1).slice (win0_6.rect t)).set
  rw [View.set_slice_whole, Rect.mem_set_unit]
  intro a
  match a with
  | ⟨0, _⟩ =>
    show win0_6.index t 0 * 256 ≤ (i 0 : Nat) ∧ (i 0 : Nat) < win0_6.index t 0 * 256 + win0_6.xsize (grid0.coords t) 0
    rw [hi.1, hx.1]; omega
  | ⟨1, _⟩ =>
    show win0_6.index t 1 * 1024 ≤ (i 1 : Nat) ∧ (i 1 : Nat) < win0_6.index t 1 * 1024 + win0_6.xsize (grid0.coords t) 1
    rw [hi.2, hx.2]; omega

theorem mem7 (t : Fin cfg0.N) (i : main_v33_2.ty.Idx) :
    i ∈ ((cfg0.win 7).blk t).view.set := by
  have hi : win0_7.index t 0 = 0 ∧ win0_7.index t 1 = 0 := by revert t; decide +kernel
  have hx : win0_7.xsize (grid0.coords t) 0 = 1024 ∧ win0_7.xsize (grid0.coords t) 1 = 256 := by revert t; decide +kernel
  have hi0 : (i 0).val < 1024 := (i 0).isLt
  have hi1 : (i 1).val < 256 := (i 1).isLt
  show i ∈ ((View.whole main_v33_2).slice (win0_7.rect t)).set
  rw [View.set_slice_whole, Rect.mem_set_unit]
  intro a
  match a with
  | ⟨0, _⟩ =>
    show win0_7.index t 0 * 1024 ≤ (i 0 : Nat) ∧ (i 0 : Nat) < win0_7.index t 0 * 1024 + win0_7.xsize (grid0.coords t) 0
    rw [hi.1, hx.1]; omega
  | ⟨1, _⟩ =>
    show win0_7.index t 1 * 256 ≤ (i 1 : Nat) ∧ (i 1 : Nat) < win0_7.index t 1 * 256 + win0_7.xsize (grid0.coords t) 1
    rw [hi.2, hx.2]; omega

theorem arr6 : (dats m 0 c).arrAt 6 cfg0.N = dkG m c :=
  Pipeline.Dat.arrAt_eq_of_cover (dats m 0 c) 6 (dkG m c) (fun t ht => flush6 m c t ht) fun i =>
    ⟨⟨15, lt15⟩, (flush0_6 _).mpr rfl, mem6 _ i⟩

theorem arr7 : (dats m 0 c).arrAt 7 cfg0.N = dvG m c :=
  Pipeline.Dat.arrAt_eq_of_cover (dats m 0 c) 7 (dvG m c) (fun t ht => flush7 m c t ht) fun i =>
    ⟨⟨15, lt15⟩, (flush0_7 _).mpr rfl, mem7 _ i⟩

end Cert.Proof.Attn
-- ==== Proof.Attn.Equal.lean ====
module

public import proofs.«01_k».proof.Proof.Attn.Flush
public import proofs.«01_k».proof.Pre_scores_finite

/-! The launch's results and the reference's are the same arrays, the scores being finite. -/

@[expose] public section

noncomputable section

open Idealize.ShloMosaic Idealize.ShloMosaic.TcCoe Idealize.SL.Sem
open Cert.KernelIdeal Cert.KernelIdeal.Gen Cert.Proof.AttnRef Cert.Proof.Soft

namespace Cert.Proof.Attn

/-! ### Finite scores -/

theorem fin_of_abs {x : EReal} (h : Ideal.cmp .olt (max x (-x)) (Ideal.ofBits .f32 0x7F800000#32) = 1#1) : Fin' x := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  exact ⟨hlt.1.ne, fun e => hlt.2.ne (by rw [e]; rfl)⟩

theorem fin_mul {x y : EReal} (hx : Fin' x) (hy : Fin' y) : Fin' (x * y) := by
  rw [← EReal.coe_toReal hx.1 hx.2, ← EReal.coe_toReal hy.1 hy.2, ← EReal.coe_mul]
  exact ⟨EReal.coe_ne_top _, EReal.coe_ne_bot _⟩

theorem fin_add {x y : EReal} (hx : Fin' x) (hy : Fin' y) : Fin' (x + y) := by
  rw [← EReal.coe_toReal hx.1 hx.2, ← EReal.coe_toReal hy.1 hy.2, ← EReal.coe_add]
  exact ⟨EReal.coe_ne_top _, EReal.coe_ne_bot _⟩

theorem fin_sum {ι : Type} (S : Finset ι) (f : ι → EReal) (h : ∀ i, Fin' (f i)) : Fin' (∑ i ∈ S, f i) := by
  classical
  induction S using Finset.induction_on with
  | empty => rw [Finset.sum_empty]; exact ⟨EReal.zero_ne_top, EReal.zero_ne_bot⟩
  | insert a T ha ih => rw [Finset.sum_insert ha]; exact fin_add (h a) ih

theorem fin_eighth : Fin' AttnRef.eighth := by
  have e : AttnRef.eighth = ((1 / 8 : ℝ) : EReal) := by
    simp [AttnRef.eighth, Ideal.ofBits, Ideal.ieee]
    first | rw [← EReal.coe_mul] | rw [← EReal.coe_natCast, ← EReal.coe_mul] | rw [← EReal.coe_intCast, ← EReal.coe_mul] | skip
    norm_num
  rw [e]
  exact ⟨EReal.coe_ne_top _, EReal.coe_ne_bot _⟩

theorem pre_facts : Cert.Pre_scores_finite.Facts := ⟨by decide, by decide, by decide, by decide⟩

theorem fin_q [Cert.Pre_scores_finite.Facts] (x0 : FVec Ideal S8192x1536 .f32) (x1 : FVec Ideal S8192x1024 .f32) (x2 : FVec Ideal S256x512 .f32)
    (x3 : FVec Ideal S8192x256 .f32) (x4 : FVec Ideal S8192x1536 .f32)
    (h : (Cert.Pre_scores_finite.fn (F := Ideal) x0 x1 x2 x3 x4).1 = fun _ => 1#1) (s : Fin 8192) (j : Fin 256) : Fin' (qA x0 s j) := by
  refine fin_of_abs ((Eq.trans ?_ (congrFun h (ix2 s j))))
  unfold Cert.Pre_scores_finite.fn qA
  pointwise
  rfl

theorem fin_k [Cert.Pre_scores_finite.Facts] (x0 : FVec Ideal S8192x1536 .f32) (x1 : FVec Ideal S8192x1024 .f32) (x2 : FVec Ideal S256x512 .f32)
    (x3 : FVec Ideal S8192x256 .f32) (x4 : FVec Ideal S8192x1536 .f32)
    (h : (Cert.Pre_scores_finite.fn (F := Ideal) x0 x1 x2 x3 x4).2 = fun _ => 1#1) (s : Fin 256) (j : Fin 256) : Fin' (kA x2 s j) := by
  refine fin_of_abs ((Eq.trans ?_ (congrFun h (ix2 s j))))
  unfold Cert.Pre_scores_finite.fn kA
  pointwise
  rfl

theorem fin_sc (x0 : FVec Ideal S8192x1536 .f32) (x2 : FVec Ideal S256x512 .f32)
    (hq : ∀ s j, Fin' (qA x0 s j)) (hk : ∀ k j, Fin' (kA x2 k j)) (h : Fin 4) (s : Fin 8192) (k : Fin 256) : Fin' (sc x0 x2 h s k) :=
  fin_mul (fin_sum _ _ fun d => fin_mul (hq s _) (hk k _)) fin_eighth

/-! ### The results -/

variable (m : (ℓ : Loc nD τ sig) → Buf (Elt Ideal) ℓ) (c : Dev nD)
variable (hq : ∀ s j, Fin' (qA (a0 m c) s j)) (hk : ∀ k j, Fin' (kA (a2 m c) k j))

include hq hk in
theorem dsG_eq (h : Fin 4) (s : Fin 8192) (k : Fin 256) :
    dsG m c h s k = dsR (sc (a0 m c) (a2 m c) h s) (dp (a1 m c) (a2 m c) h s) k * AttnRef.eighth :=
  congrArg (· * AttnRef.eighth) (dsK_eq_dsR (fin_sc _ _ hq hk h s) _ k)

include hq hk in
theorem dhG_eq : dhG m c = Cert.ReferenceIdeal.Read.val_main_v69 (F := Ideal) (a0 m c) (a1 m c) (a2 m c) (a3 m c) (a4 m c) := by
  funext i
  rw [eq_ix2 i]
  refine Eq.trans ?_ (v69_at (a0 m c) (a1 m c) (a2 m c) (a3 m c) (a4 m c) (i 0) (i 1)).symm
  unfold dhG
  by_cases h : (i 1).val < 1024
  · rw [dif_pos h]; exact if_pos h
  · rw [dif_neg h]
    refine (if_neg h).trans ?_
    by_cases h' : (i 1).val - 1024 < 256
    · rw [dif_pos h']; exact dif_pos h'
    · rw [dif_neg h']
      refine (dif_neg h').trans ?_
      exact Finset.sum_congr rfl fun k _ => congrArg (· * _) (dsG_eq m c hq hk _ _ k)

theorem sum_mask (f : Fin 4 → EReal) (a : Fin 4) (g : Fin 4 → EReal) (hg : ∀ h, g h = if a = h then 1 else 0) :
    ∑ h : Fin 4, f h * g h = f a := by
  simp only [hg, mul_ite, mul_one, mul_zero, Finset.sum_ite_eq, Finset.mem_univ, if_true]

theorem dkG_at (j : Fin 256) (h : Fin 4) (k : Fin 256) :
    dkG m c (ix2 j (col h k)) = ∑ s : Fin 8192, qA (a0 m c) s j * dsG m c h s k := by
  have e1 : (col h k).val / 256 = h.val := by show (256 * h.val + k.val) / 256 = h.val; omega
  have e2 : (col h k).val % 256 = k.val := by show (256 * h.val + k.val) % 256 = k.val; omega
  unfold dkG
  have e1' : (⟨(col h k).val / 256, by omega⟩ : Fin 4) = h := Fin.ext e1
  have e2' : (⟨(col h k).val % 256, by omega⟩ : Fin 256) = k := Fin.ext e2
  exact Finset.sum_congr rfl fun s _ => congrArg₂ (fun (a : Fin 4) (b : Fin 256) => qA (a0 m c) s j * dsG m c a s b) e1' e2'

theorem dvG_at (j : Fin 256) (h : Fin 4) (k : Fin 256) :
    dvG m c (ix2 (col h k) j) = ∑ s : Fin 8192, pr (sc (a0 m c) (a2 m c) h s) k * cA (a1 m c) s j := by
  have e1 : (col h k).val / 256 = h.val := by show (256 * h.val + k.val) / 256 = h.val; omega
  have e2 : (col h k).val % 256 = k.val := by show (256 * h.val + k.val) % 256 = k.val; omega
  unfold dvG
  have e1' : (⟨(col h k).val / 256, by omega⟩ : Fin 4) = h := Fin.ext e1
  have e2' : (⟨(col h k).val % 256, by omega⟩ : Fin 256) = k := Fin.ext e2
  exact Finset.sum_congr rfl fun s _ => congrArg₂ (fun (a : Fin 4) (b : Fin 256) => pr (sc (a0 m c) (a2 m c) a s) b * cA (a1 m c) s j) e1' e2'

include hq hk in
theorem foldK_eq (k j : Fin 256) : foldK (dkG m c) (maskK (F := Ideal)) (ix2 k j) = dk (a0 m c) (a1 m c) (a2 m c) k j := by
  rw [foldK_at, sum_mask _ (hd j) _ fun h' => by rw [maskK_at, col_div]; simp [hd, Fin.ext_iff], dkG_at]
  unfold AttnRef.dk
  refine Finset.sum_congr rfl fun s _ => ?_
  rw [dsG_eq m c hq hk, mul_comm]

theorem foldV_eq (k j : Fin 256) : foldV (dvG m c) (maskV (F := Ideal)) (ix2 k j) = dv (a0 m c) (a1 m c) (a2 m c) k j := by
  rw [foldV_at, sum_mask _ (hd j) _ fun h' => by rw [maskV_at, col_div]; simp [hd, Fin.ext_iff, eq_comm], dvG_at]
  unfold AttnRef.dv
  exact Finset.sum_congr rfl fun s _ => mul_comm _ _

include hq hk in
theorem dkv_eq : tailT (foldK (dkG m c) (maskK (F := Ideal))) (foldV (dvG m c) (maskV (F := Ideal)))
    = Cert.ReferenceIdeal.Read.val_main_v66 (F := Ideal) (a0 m c) (a1 m c) (a2 m c) := by
  funext i
  rw [eq_ix2 i]
  refine (tailT_at _ _ (i 0) (i 1)).trans (Eq.trans ?_ (v66_at (a0 m c) (a1 m c) (a2 m c) (i 0) (i 1)).symm)
  by_cases h : (i 1).val < 256
  · rw [dif_pos h, dif_pos h]; exact foldK_eq m c hq hk _ _
  · rw [dif_neg h, dif_neg h]; exact foldV_eq m c _ _

/-! ### The run -/

/-- Every run ends with the launch's first result and the folded gradients in the reference's arrays. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v33_0) = dhG m c
      ∧ r.2.mem ((c.tc : Thread nD τ).loc main_v43) = tailT (foldK (dkG m c) (maskK (F := Ideal))) (foldV (dvG m c) (maskV (F := Ideal)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨?_, ?_, h.2 c⟩) (θ_run_and (run_main m ρ) (unchanged m ρ))
  · exact ((h.1 c).1 5).trans (arr5 m c)
  · refine ((h.1 c).2 main_v43 (Pipeline.mem_restRefs_of main_v43 (by decide) (by decide))).trans ((tail_eq m c).trans ?_)
    rw [arr6, arr7]

end Cert.Proof.Attn
-- ==== Proof.Prod.Dx1.lean ====
module

public import proofs.«01_k».proof.Proof.Prod.Dx1Run
public import proofs.«01_k».proof.Proof.Prod.Dx1Ref
public import proofs.«01_k».proof.Proof.Attn.Equal
public import proofs.«01_k».proof.Defs

/-! The call's four arrays are the reference's, the arguments but the normalised rows being finite. -/

@[expose] public section

noncomputable section

open Idealize.ShloMosaic Idealize.ShloMosaic.TcCoe Idealize.SL.Sem
open Cert.Kernel4Ideal Cert.Kernel4Ideal.Gen Cert.Proof.Soft Cert.Proof.Attn Cert.Proof.Prod.Dx1Run

namespace Cert.Proof.Prod.Dx1

theorem pre_facts : Cert.Pre_finite_but_r1.Facts := ⟨by decide, by decide, by decide, by decide⟩

section Finite

variable [Cert.Pre_finite_but_r1.Facts] (x : FVec Ideal S8192x5632 .f32) (y : FVec Ideal S1024x5632 .f32) (z w : FVec Ideal S8192x1024 .f32) (g : FVec Ideal S1024 .f32)

theorem fin_x (h : (Cert.Pre_finite_but_r1.fn (F := Ideal) x y z w g).1 = fun _ => 1#1) (r : Fin 8192) (k : Fin 5632) : Fin' (x (ix2 r k)) := by
  refine fin_of_abs ((Eq.trans ?_ (congrFun h (ix2 r k))))
  unfold Cert.Pre_finite_but_r1.fn
  pointwise
  rfl

theorem fin_y (h : (Cert.Pre_finite_but_r1.fn (F := Ideal) x y z w g).2.1 = fun _ => 1#1) (r : Fin 1024) (k : Fin 5632) : Fin' (y (ix2 r k)) := by
  refine fin_of_abs ((Eq.trans ?_ (congrFun h (ix2 r k))))
  unfold Cert.Pre_finite_but_r1.fn
  pointwise
  rfl

theorem fin_z (h : (Cert.Pre_finite_but_r1.fn (F := Ideal) x y z w g).2.2.1 = fun _ => 1#1) (r : Fin 8192) (k : Fin 1024) : Fin' (z (ix2 r k)) := by
  refine fin_of_abs ((Eq.trans ?_ (congrFun h (ix2 r k))))
  unfold Cert.Pre_finite_but_r1.fn
  pointwise
  rfl

theorem fin_g (h : (Cert.Pre_finite_but_r1.fn (F := Ideal) x y z w g).2.2.2 = fun _ => 1#1) (k : Fin 1024) : Fin' (g (ix1 k)) := by
  refine fin_of_abs ((Eq.trans ?_ (congrFun h (ix1 k))))
  unfold Cert.Pre_finite_but_r1.fn
  pointwise
  rfl

end Finite

theorem fin_alpha : Fin' alpha := by
  have e : alpha = ((11863283 / 8388608 : ℝ) : EReal) := by
    show Ideal.ofBits .f32 0x3FB504F3#32 = _
    simp [Ideal.ofBits, Ideal.ieee]
    rw [← EReal.coe_mul]
    norm_num
  rw [e]
  exact ⟨EReal.coe_ne_top _, EReal.coe_ne_bot _⟩

variable (m : (ℓ : Loc nD τ sig) → Buf (Elt Ideal) ℓ) (c : Dev nD)

/-- The reference's rows are the call's. -/
theorem ct_eq (r : Fin 8192) (k : Fin 1024) :
    (Cert.Reference4Ideal.Read.val_main_v39 (F := Ideal) (x0 m c) (y0 m c) (z0 m c) (ix2 r k) : EReal) = ctr m c r.val k.val := by
  rw [Dx1Ref.ct_at]
  unfold ctr
  rw [← sum_fin 5632 (fun s => at2 (x0 m c) r.val s * at2 (y0 m c) k.val s)]
  simp only [at2_val]

theorem xr_eq (r : Fin 8192) : (fun j => w0 m c (ix2 r j)) = xr m c r.val :=
  funext fun j => (at2_val (w0 m c) r j).symm

theorem dr_eq (r : Fin 8192) :
    (fun j => (Cert.Reference4Ideal.Read.val_main_v47 (F := Ideal) (x0 m c) (y0 m c) (z0 m c) (g0 m c) (ix2 r j) : EReal)) = dr m c r.val := by
  funext j
  rw [Dx1Ref.d_at, ct_eq]
  unfold dr
  rw [at1_val]

theorem gequal : ((dats m 0 c).arrAt 6 cfg0.N : FVec Ideal S1x1024 .f32)
    = Cert.Reference4Ideal.Read.val_main_v76 (F := Ideal) (x0 m c) (y0 m c) (z0 m c) (w0 m c) := by
  funext i
  obtain ⟨p, k, rfl⟩ : ∃ p k, i = ix2 p k := ⟨i 0, i 1, eq_ix2 i⟩
  refine (gain_arr m c p k).trans (Eq.symm ((Dx1Ref.gain_at _ _ _ _ p k).trans ?_))
  rw [← sum_fin 8192 (fun R => ctr m c R k.val * nrm (xr m c R) k)]
  refine Finset.sum_congr rfl fun r _ => ?_
  rw [xr_eq, ct_eq, mul_comm]

theorem bequal : ((dats m 0 c).arrAt 7 cfg0.N : FVec Ideal S1x1024 .f32)
    = Cert.Reference4Ideal.Read.val_main_v77 (F := Ideal) (x0 m c) (y0 m c) (z0 m c) := by
  funext i
  obtain ⟨p, k, rfl⟩ : ∃ p k, i = ix2 p k := ⟨i 0, i 1, eq_ix2 i⟩
  refine (bias_arr m c p k).trans (Eq.symm ((Dx1Ref.bias_at _ _ _ p k).trans ?_))
  rw [← sum_fin 8192 (fun R => ctr m c R k.val)]
  exact Finset.sum_congr rfl fun r _ => ct_eq m c r k

theorem dr_fin (hpre : letI := pre_facts; Cert.Pre_Kernel4Ideal_finite_but_r1 m) (r : Fin 8192) (k : Fin 1024) : Fin' (dr m c r.val k) := by
  letI := pre_facts
  have h := hpre c
  rw [← dr_eq]
  show Fin' (Cert.Reference4Ideal.Read.val_main_v47 (F := Ideal) (x0 m c) (y0 m c) (z0 m c) (g0 m c) (ix2 r k))
  rw [Dx1Ref.d_at, Dx1Ref.ct_at]
  exact fin_mul (fin_add (fin_sum _ _ fun t => fin_mul (fin_x _ _ _ _ _ h.1 r t) (fin_y _ _ _ _ _ h.2.1 k t))
    (fin_mul fin_alpha (fin_z _ _ _ _ _ h.2.2.1 r k))) (fin_g _ _ _ _ _ h.2.2.2 k)

theorem row_eq (hpre : letI := pre_facts; Cert.Pre_Kernel4Ideal_finite_but_r1 m) (r : Fin 8192) (k : Fin 1024) :
    (Cert.Reference4Ideal.Read.val_main_v72 (F := Ideal) (x0 m c) (y0 m c) (z0 m c) (w0 m c) (g0 m c) (ix2 r k) : EReal) = gx m c r.val k := by
  rw [Dx1Ref.x_at, xr_eq, dr_eq]
  exact (lnb_eq_lnv _ _ (fun j => dr_fin m c hpre r j) k).symm

theorem equal (hpre : letI := pre_facts; Cert.Pre_Kernel4Ideal_finite_but_r1 m) : ((dats m 0 c).arrAt 5 cfg0.N : FVec Ideal S8192x1024 .f32)
    = Cert.Reference4Ideal.Read.val_main_v72 (F := Ideal) (x0 m c) (y0 m c) (z0 m c) (w0 m c) (g0 m c) := by
  funext i
  obtain ⟨r, k, rfl⟩ : ∃ r k, i = ix2 r k := ⟨i 0, i 1, eq_ix2 i⟩
  exact (arr m c r k).trans (row_eq m c hpre r k).symm

theorem sequal (hpre : letI := pre_facts; Cert.Pre_Kernel4Ideal_finite_but_r1 m) : ((dats m 0 c).arrAt 8 cfg0.N : FVec Ideal S1x1024 .f32)
    = Cert.Reference4Ideal.Read.val_main_v78 (F := Ideal) (x0 m c) (y0 m c) (z0 m c) (w0 m c) (g0 m c) := by
  funext i
  obtain ⟨p, k, rfl⟩ : ∃ p k, i = ix2 p k := ⟨i 0, i 1, eq_ix2 i⟩
  refine (sum_arr m c p k).trans (Eq.symm ((Dx1Ref.sum_at _ _ _ _ _ p k).trans ?_))
  rw [← sum_fin 8192 (fun R => gx m c R k)]
  exact Finset.sum_congr rfl fun r _ => row_eq m c hpre r k

end Cert.Proof.Prod.Dx1
-- ==== Proof.Prod.Dhff.lean ====
module

public import proofs.«01_k».proof.Proof.Gen.Kernel5Ideal.Value
public import proofs.«01_k».proof.Proof.Gen.Reference5Ideal.Read
public import proofs.«01_k».proof.Proof.Prod.Tile
public import Idealize.ShloMosaic.Lib.StableHlo.RunRead

/-! The gradient of the gated activations: a product with the down projection's weights, transposed. -/

@[expose] public section

noncomputable section

open Idealize.ShloMosaic Idealize.ShloMosaic.TcCoe Idealize.SL.Sem
open Cert.Kernel5Ideal Cert.Kernel5Ideal.Gen

namespace Cert.Proof.Prod.Dhff

theorem tile_at (x : Vec Ideal S1024x1024 .f32) (y : Vec Ideal S1408x1024 .bf16) (r : Fin 1024) (k : Fin 1408) :
    (k0_pay3 (F := Ideal) (k0_pay2 (F := Ideal) (k0_pay1 (F := Ideal)) x y) (ix2 r k) : EReal) = ∑ t : Fin 1024, x (ix2 r t) * y (ix2 k t) := by
  unfold k0_pay3 k0_pay2 k0_pay1
  pointwise
  try simp [Ideal.ofBits, Ideal.ieee]

section Cases

variable (c : Dev nD) (i : grid0.Coords) (a3 : Memref sig .tc .vmem S1024x1024 .f32) (h3 : a3.IsWhole)
  (a4 : Memref sig .tc .vmem S1408x1024 .bf16) (h4 : a4.IsWhole)
  (a5 : Memref sig .tc .vmem S1024x1408 .bf16) (h5 : a5.IsWhole) (a6 : Memref sig .tc .vmem S1024x1408 .f32) (h6 : a6.IsWhole)
  (x : Vec Ideal S1024x1024 .f32) (y : Vec Ideal S1408x1024 .bf16)

theorem tileO (hc0 : cond0_0 i) (hc1 : cond0_1 i) :
    out0_A_2 c i a3 h3 a4 h4 a5 h5 a6 h6 hc0 hc1 x y = k0_pay3 (F := Ideal) (k0_pay2 (F := Ideal) (k0_pay1 (F := Ideal)) x y) := by
  unfold out0_A_2
  rw [View.read_writes_eq_canon _ _ _ (cover0_A_2 c i a3 h3 a4 h4 a5 h5 a6 h6 hc0 hc1 x y)]
  unfold kernelRun0_A
  dsimp only
  sl_unfold_words
  rw [View.canon_unit_zero (S := S1024x1408) zero2]
  simp only [View.readCov_cons_toLoadRect, View.readCov_unit_zero (S := S1024x1408) _ zero2, View.readAt_eq_ld, h3.read_unread, h4.read_unread,
    View.ld_unit_zero (S := S1024x1024) zero2, View.ld_unit_zero (S := S1408x1024) zero2, View.ld_unit_zero (S := S1024x1408) zero2]

end Cases

variable (m : (ℓ : Loc nD τ sig) → Buf (Elt Ideal) ℓ) (c : Dev nD)

/-- The operands as launched. -/
abbrev x0 : FVec Ideal S8192x1024 .f32 := m ((c : Thread nD τ).loc main_arg0)
abbrev y0 : FVec Ideal S2816x1024 .f32 := m ((c : Thread nD τ).loc main_arg1)

theorem V_v0 : (V m c main_v0 : FVec Ideal S2816x1024 .bf16) = truncf .bf16 (y0 m c) bitsLt_bf16_f32 := by
  after_reads_simp

theorem blk0 (t : Fin cfg0.N) (r : Fin 1024) (k : Fin 1024) :
    ((iblk m c 0 t : FVec Ideal S1024x1024 .f32) (ix2 r k) : EReal) = at2 (x0 m c) (1024 * (t.val / 2) + r.val) k.val := by
  have hi : win0_0.index t 0 = t.val / 2 ∧ win0_0.index t 1 = 0 := by revert t; decide +kernel
  have hr := r.isLt
  have ht : t.val < 16 := lt_of_lt_of_eq t.isLt N_0
  rw [← at2_mk (x0 m c) (show 1024 * (t.val / 2) + r.val < 8192 by omega) k.isLt]
  unfold iblk
  rw [View.read_apply]
  show V m c main_arg0 _ = x0 m c _
  rw [V_main_arg0]
  congr 1
  funext a
  apply Fin.ext
  match a with
  | ⟨0, _⟩ => show win0_0.index t 0 * 1024 + 1 * r.val = 1024 * (t.val / 2) + r.val; rw [hi.1]; omega
  | ⟨1, _⟩ => show win0_0.index t 1 * 1024 + 1 * k.val = k.val; rw [hi.2]; omega

theorem blk1 (t : Fin cfg0.N) (k : Fin 1408) (r : Fin 1024) :
    ((iblk m c 1 t : FVec Ideal S1408x1024 .bf16) (ix2 k r) : EReal) = at2 (y0 m c) (1408 * (t.val % 2) + k.val) r.val := by
  have hi : win0_1.index t 0 = t.val % 2 ∧ win0_1.index t 1 = 0 := by revert t; decide +kernel
  have hk := k.isLt
  rw [← at2_mk (y0 m c) (show 1408 * (t.val % 2) + k.val < 2816 by omega) r.isLt]
  unfold iblk
  rw [View.read_apply]
  show V m c main_v0 _ = y0 m c _
  rw [V_v0]
  show y0 m c _ = y0 m c _
  congr 1
  funext a
  apply Fin.ext
  match a with
  | ⟨0, _⟩ => show win0_1.index t 0 * 1408 + 1 * k.val = 1408 * (t.val % 2) + k.val; rw [hi.1]; omega
  | ⟨1, _⟩ => show win0_1.index t 1 * 1024 + 1 * r.val = r.val; rw [hi.2]; omega

theorem out_at (t : Fin cfg0.N) (r : Fin 1024) (k : Fin 1408) :
    ((outsAt0 m c t : FVec Ideal S1024x1408 .bf16) (ix2 r k) : EReal)
      = (∑ s ∈ Finset.range 1024, at2 (x0 m c) (1024 * (t.val / 2) + r.val) s * at2 (y0 m c) (1408 * (t.val % 2) + k.val) s) := by
  unfold outsAt0
  rw [tileO, tile_at, ← sum_fin 1024 (fun s => at2 (x0 m c) (1024 * (t.val / 2) + r.val) s * at2 (y0 m c) (1408 * (t.val % 2) + k.val) s)]
  exact Finset.sum_congr rfl fun u _ => congrArg₂ (· * ·) (blk0 m c t r u) (blk1 m c t k u)

/-- The reference's array. -/
theorem ref_at (x : FVec Ideal S8192x1024 .f32) (y : FVec Ideal S2816x1024 .f32) (r : Fin 8192) (k : Fin 2816) :
    (Cert.Reference5Ideal.Read.val_main_v3 (F := Ideal) x y (ix2 r k) : EReal)
      = (∑ s ∈ Finset.range 1024, at2 x r.val s * at2 y k.val s) := by
  rw [Cert.Reference5Ideal.Read.val_main_v3_apply]
  show (Cert.Reference5Ideal.Read.val_main_v2 (F := Ideal) x y (ix2 r k) : EReal) = _
  rw [Cert.Reference5Ideal.Read.val_main_v2_apply]
  rw [← sum_fin 1024 (fun s => at2 x r.val s * at2 y k.val s)]
  refine Finset.sum_congr rfl fun s _ => ?_
  rw [at2_val, at2_val]
  congr 1
  · exact congrArg x (Shape.idx_ext₂ rfl rfl)
  · exact congrArg y (Shape.idx_ext₂ rfl rfl)

/-- The result array. -/
theorem arr (r : Fin 8192) (k : Fin 2816) :
    ((dats m 0 c).arrAt 2 cfg0.N (ix2 r k) : EReal) = (∑ s ∈ Finset.range 1024, at2 (x0 m c) r.val s * at2 (y0 m c) k.val s) := by
  have hr := r.isLt
  have hk := k.isLt
  have hN : cfg0.N = 16 := N_0
  have ht : 2 * (r.val / 1024) + k.val / 1408 < cfg0.N := by rw [hN]; omega
  have hi : ∀ t : Fin cfg0.N, win0_2.index t 0 = t.val / 2 ∧ win0_2.index t 1 = t.val % 2 := by decide +kernel
  have hi' := hi ⟨_, ht⟩
  have e := congrFun (Cert.Kernel5Ideal.Value.blocks2 m c ⟨_, ht⟩ (flush0_2 ⟨_, ht⟩))
    (ix2 (⟨r.val % 1024, by omega⟩ : Fin 1024) (⟨k.val % 1408, by omega⟩ : Fin 1408))
  rw [View.read_apply, Cert.Kernel5Ideal.Value.flushed2] at e
  have eo := out_at m c ⟨_, ht⟩ ⟨r.val % 1024, by omega⟩ ⟨k.val % 1408, by omega⟩
  dsimp only at eo
  rw [show 1024 * ((2 * (r.val / 1024) + k.val / 1408) / 2) + r.val % 1024 = r.val by omega,
    show 1408 * ((2 * (r.val / 1024) + k.val / 1408) % 2) + k.val % 1408 = k.val by omega] at eo
  refine Eq.trans ?_ (e.trans eo)
  refine congrArg ((dats m 0 c).arrAt 2 cfg0.N) ?_
  funext a
  apply Fin.ext
  match a with
  | ⟨0, _⟩ =>
    show r.val = win0_2.index ⟨_, ht⟩ 0 * 1024 + 1 * (r.val % 1024)
    rw [hi'.1]; dsimp only; omega
  | ⟨1, _⟩ =>
    show k.val = win0_2.index ⟨_, ht⟩ 1 * 1408 + 1 * (k.val % 1408)
    rw [hi'.2]; try dsimp only
    omega

theorem equal : ((dats m 0 c).arrAt 2 cfg0.N : FVec Ideal S8192x2816 .bf16) = Cert.Reference5Ideal.Read.val_main_v3 (F := Ideal) (x0 m c) (y0 m c) := by
  funext i
  rw [eq_ix2 i]
  exact (arr m c (i 0) (i 1)).trans (ref_at _ _ _ _).symm

end Cert.Proof.Prod.Dhff
-- ==== Proof.Prod.DwDown.lean ====
module

public import proofs.«01_k».proof.Proof.Gen.Kernel6Ideal.Value
public import proofs.«01_k».proof.Proof.Gen.Reference6Ideal.Read
public import proofs.«01_k».proof.Proof.Prod.Tile
public import Idealize.ShloMosaic.Lib.StableHlo.RunRead

/-! The gradient of the down projection's weights. -/

@[expose] public section

noncomputable section

open Idealize.ShloMosaic Idealize.ShloMosaic.TcCoe Idealize.SL.Sem
open Cert.Kernel6Ideal Cert.Kernel6Ideal.Gen

namespace Cert.Proof.Prod.DwDown

theorem zero_at (r : Fin 1408) (k : Fin 1024) : (k0_pay1 (F := Ideal) (ix2 r k) : EReal) = 0 := by
  unfold k0_pay1
  pointwise
  try simp [Ideal.ofBits, Ideal.ieee]

theorem step_at (y : Vec Ideal S512x1024 .f32) (s : Vec Ideal S1408x1024 .f32) (x : Vec Ideal S512x1408 .bf16) (r : Fin 1408) (k : Fin 1024) :
    (k0_pay2 (F := Ideal) y s x (ix2 r k) : EReal) = s (ix2 r k) + ∑ t : Fin 512, x (ix2 t r) * y (ix2 t k) := by
  unfold k0_pay2
  pointwise

theorem last_at (s : Vec Ideal S1408x1024 .f32) (r : Fin 1408) (k : Fin 1024) :
    (k0_pay3 (F := Ideal) s (ix2 r k) : EReal) = s (ix2 r k) := by
  unfold k0_pay3
  pointwise

section Cases

variable (c : Dev nD) (i : grid0.Coords) (a3 : Memref sig .tc .vmem S512x1408 .bf16) (h3 : a3.IsWhole)
  (a4 : Memref sig .tc .vmem S512x1024 .f32) (h4 : a4.IsWhole) (a5 : Memref sig .tc .vmem S1408x1024 .bf16) (h5 : a5.IsWhole) (a6 : Memref sig .tc .vmem S1408x1024 .f32) (h6 : a6.IsWhole)
  (x : Vec Ideal S512x1408 .bf16) (y : Vec Ideal S512x1024 .f32)

theorem startS (hc0 : cond0_0 i) (hc1 : ¬cond0_1 i) :
    sout0_A_0 c i a3 h3 a4 h4 a5 h5 a6 h6 hc0 hc1 x y = k0_pay2 y (k0_pay1 (F := Ideal)) x := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1408x1024) zero2]
  simp only [View.readCov_cons_toLoadRect, View.readCov_unit_zero (S := S1408x1024) _ zero2, View.readAt_eq_ld, h3.read_unread, h4.read_unread, h6.read_unread,
    View.ld_unit_zero (S := S512x1408) zero2, View.ld_unit_zero (S := S512x1024) zero2, View.ld_unit_zero (S := S1408x1024) zero2]

theorem nextS (hc0 : ¬cond0_0 i) (hc1 : ¬cond0_1 i) (s : Vec Ideal S1408x1024 .f32) :
    sout0_B_0 c i a3 h3 a4 h4 a5 h5 a6 h6 hc0 hc1 x y s = k0_pay2 y s x := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero (S := S1408x1024) zero2]
  simp only [View.readCov_cons_toLoadRect, View.readCov_unit_zero (S := S1408x1024) _ zero2, View.readAt_eq_ld, h3.read_unread, h4.read_unread, h6.read_unread,
    View.ld_unit_zero (S := S512x1408) zero2, View.ld_unit_zero (S := S512x1024) zero2, View.ld_unit_zero (S := S1408x1024) zero2]

theorem lastS (hc0 : ¬cond0_0 i) (hc1 : cond0_1 i) (s : Vec Ideal S1408x1024 .f32) :
    sout0_C_0 c i a3 h3 a4 h4 a5 h5 a6 h6 hc0 hc1 x y s = k0_pay2 y s x := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero (S := S1408x1024) zero2]
  simp only [View.readCov_cons_toLoadRect, View.readCov_unit_zero (S := S1408x1024) _ zero2, View.readAt_eq_ld, h3.read_unread, h4.read_unread, h6.read_unread,
    View.ld_unit_zero (S := S512x1408) zero2, View.ld_unit_zero (S := S512x1024) zero2, View.ld_unit_zero (S := S1408x1024) zero2]

theorem lastO (hc0 : ¬cond0_0 i) (hc1 : cond0_1 i) (s : Vec Ideal S1408x1024 .f32) :
    out0_C_2 c i a3 h3 a4 h4 a5 h5 a6 h6 hc0 hc1 x y s = k0_pay3 (F := Ideal) (k0_pay2 (F := Ideal) y s x) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero (S := S1408x1024) zero2]
  simp only [View.readCov_cons_toLoadRect, View.readCov_unit_zero (S := S1408x1024) _ zero2, View.readAt_eq_ld, h3.read_unread, h4.read_unread, h6.read_unread,
    View.ld_unit_zero (S := S512x1408) zero2, View.ld_unit_zero (S := S512x1024) zero2, View.ld_unit_zero (S := S1408x1024) zero2]

end Cases

variable (m : (ℓ : Loc nD τ sig) → Buf (Elt Ideal) ℓ) (c : Dev nD)

/-- The two operands as launched. -/
abbrev x0 : FVec Ideal S8192x2816 .f32 := m ((c : Thread nD τ).loc main_arg0)
abbrev y0 : FVec Ideal S8192x1024 .f32 := m ((c : Thread nD τ).loc main_arg1)

theorem V_v0 : (V m c main_v0 : FVec Ideal S8192x2816 .bf16) = truncf .bf16 (x0 m c) bitsLt_bf16_f32 := by
  after_reads_simp

theorem blk0 (t : Fin cfg0.N) (u : Fin 512) (r : Fin 1408) :
    ((iblk m c 0 t : FVec Ideal S512x1408 .bf16) (ix2 u r) : EReal) = at2 (x0 m c) (512 * (t.val % 16) + u.val) (1408 * (t.val / 16) + r.val) := by
  have hi : win0_0.index t 0 = t.val % 16 ∧ win0_0.index t 1 = t.val / 16 := by revert t; decide +kernel
  have hu := u.isLt
  have hr := r.isLt
  have ht : t.val < 32 := lt_of_lt_of_eq t.isLt N_0
  rw [← at2_mk (x0 m c) (show 512 * (t.val % 16) + u.val < 8192 by omega) (show 1408 * (t.val / 16) + r.val < 2816 by omega)]
  unfold iblk
  rw [View.read_apply]
  show V m c main_v0 _ = x0 m c _
  rw [V_v0]
  show x0 m c _ = x0 m c _
  congr 1
  funext a
  apply Fin.ext
  match a with
  | ⟨0, _⟩ => show win0_0.index t 0 * 512 + 1 * u.val = 512 * (t.val % 16) + u.val; rw [hi.1]; omega
  | ⟨1, _⟩ => show win0_0.index t 1 * 1408 + 1 * r.val = 1408 * (t.val / 16) + r.val; rw [hi.2]; omega

theorem blk1 (t : Fin cfg0.N) (u : Fin 512) (k : Fin 1024) :
    ((iblk m c 1 t : FVec Ideal S512x1024 .f32) (ix2 u k) : EReal) = at2 (y0 m c) (512 * (t.val % 16) + u.val) (k.val) := by
  have hi : win0_1.index t 0 = t.val % 16 ∧ win0_1.index t 1 = 0 := by revert t; decide +kernel
  have hu := u.isLt
  have hk := k.isLt
  have ht : t.val < 32 := lt_of_lt_of_eq t.isLt N_0
  rw [← at2_mk (y0 m c) (show 512 * (t.val % 16) + u.val < 8192 by omega) (show k.val < 1024 by omega)]
  unfold iblk
  rw [View.read_apply]
  show V m c main_arg1 _ = y0 m c _
  rw [V_main_arg1]
  congr 1
  funext a
  apply Fin.ext
  match a with
  | ⟨0, _⟩ => show win0_1.index t 0 * 512 + 1 * u.val = 512 * (t.val % 16) + u.val; rw [hi.1]; omega
  | ⟨1, _⟩ => show win0_1.index t 1 * 1024 + 1 * k.val = k.val; rw [hi.2]; omega

/-- What one point adds at an element of the scratch. -/
def part (r k n : ℕ) : EReal :=
  ∑ t ∈ Finset.range 512, at2 (x0 m c) (512 * (n % 16) + t) (1408 * (n / 16) + r) * at2 (y0 m c) (512 * (n % 16) + t) (k)

theorem step_part (t : Fin cfg0.N) (s : Vec Ideal S1408x1024 .f32) (r : Fin 1408) (k : Fin 1024) :
    (k0_pay2 (F := Ideal) (iblk m c 1 t) s (iblk m c 0 t) (ix2 r k) : EReal) = s (ix2 r k) + part m c r.val k.val t.val := by
  rw [step_at]
  unfold part
  rw [← sum_fin 512 (fun u => at2 (x0 m c) (512 * (t.val % 16) + u) (1408 * (t.val / 16) + r.val) * at2 (y0 m c) (512 * (t.val % 16) + u) (k.val))]
  exact congrArg (s (ix2 r k) + ·) (Finset.sum_congr rfl fun u _ => congrArg₂ (· * ·) (blk0 m c t u r) (blk1 m c t u k))

/-- The scratch after every point. -/
theorem acc (r : Fin 1408) (k : Fin 1024) (n : ℕ) (h : n < cfg0.N) :
    ((outsAt0 m c n h).2 (ix2 r k) : EReal) = ∑ j ∈ Finset.range (n % 16 + 1), part m c r.val k.val (16 * (n / 16) + j) := by
  refine since_start 16 (by decide) (fun n h => ((outsAt0 m c n h).2 (ix2 r k) : EReal)) (fun n => part m c r.val k.val n) ?_ ?_ n h
  · intro n h hz
    have e := outsAt0_A m c ⟨n, h⟩ hz (by dsimp only; omega)
    dsimp only at e ⊢
    rw [e]
    dsimp only
    rw [startS, step_part, zero_at, zero_add]
  · intro n h hz
    by_cases hl : (n + 1) % 16 = 15
    · have e := outsAt0_C m c ⟨n + 1, h⟩ hz hl
      dsimp only at e ⊢
      rw [e]
      dsimp only
      rw [lastS, step_part]
      rfl
    · have e := outsAt0_B m c ⟨n + 1, h⟩ hz hl
      dsimp only at e ⊢
      rw [e]
      dsimp only
      rw [nextS, step_part]
      rfl

/-- The output block at a point that ends a tile. -/
theorem out_at (t : Fin cfg0.N) (hl : t.val % 16 = 15) (r : Fin 1408) (k : Fin 1024) :
    ((outsAt0 m c t.val t.isLt).1 (ix2 r k) : EReal)
      = ∑ s ∈ Finset.range 8192, at2 (x0 m c) s (1408 * (t.val / 16) + r.val) * at2 (y0 m c) s (k.val) := by
  have e := outsAt0_C m c t (by omega) hl
  have ea := acc m c r k t.val t.isLt
  rw [e] at ea ⊢
  dsimp only at ea ⊢
  rw [lastS] at ea
  rw [lastO, last_at]
  refine ea.trans ?_
  rw [hl]
  unfold part
  refine Eq.trans ?_ (range_tiles 512 (fun s => at2 (x0 m c) s (1408 * (t.val / 16) + r.val) * at2 (y0 m c) s (k.val)) 16)
  refine Finset.sum_congr rfl fun j hj => ?_
  have hj' := Finset.mem_range.mp hj
  rw [show (16 * (t.val / 16) + j) % 16 = j by omega, show (16 * (t.val / 16) + j) / 16 = t.val / 16 by omega]

/-- The result array. -/
theorem arr (r : Fin 2816) (k : Fin 1024) :
    ((dats m 0 c).arrAt 2 cfg0.N (ix2 r k) : EReal) = ∑ s ∈ Finset.range 8192, at2 (x0 m c) s r.val * at2 (y0 m c) s k.val := by
  have hr := r.isLt
  have hk := k.isLt
  have hN : cfg0.N = 32 := N_0
  rw [Cert.Kernel6Ideal.Value.final2]
  have hb : Cert.Kernel6Ideal.Value.pt2Of (ix2 r k) = 16 * (r.val / 1408) + 15 := by
    show 16 * (1 * (r.val / 1408 - 0) + 1 * (k.val / 1024 - 0)) + 15 = _
    omega
  unfold Cert.Kernel6Ideal.Value.G2
  rw [dif_pos (by rw [hb, hN]; omega), ← Cert.Kernel6Ideal.Value.outsAt0_sweep m c _ (by rw [hb, hN]; omega)]
  have e := out_at m c ⟨16 * (r.val / 1408) + 15, by rw [hN]; omega⟩ (by dsimp only; omega) ⟨r.val % 1408, by omega⟩ k
  dsimp only at e
  have hl : Cert.Kernel6Ideal.Value.loc2Of (ix2 r k) = ix2 ⟨r.val % 1408, by omega⟩ k := by
    funext a
    apply Fin.ext
    match a with
    | ⟨0, _⟩ => rfl
    | ⟨1, _⟩ => show k.val % 1024 = k.val; omega
  have ec : ∀ (a b : ℕ) (ha : a < cfg0.N) (hb : b < cfg0.N), a = b → outsAt0 m c a ha = outsAt0 m c b hb := by
    intro a b ha hb h; subst h; rfl
  rw [hl, ec _ _ _ (by rw [hN]; omega) hb]
  refine e.trans (Finset.sum_congr rfl fun s _ => ?_)
  rw [show (1408 * ((16 * (r.val / 1408) + 15) / 16) + r.val % 1408) = r.val by omega]

/-- The reference's array. -/
theorem ref_at (x : FVec Ideal S8192x2816 .f32) (y : FVec Ideal S8192x1024 .f32) (r : Fin 2816) (k : Fin 1024) :
    (Cert.Reference6Ideal.Read.val_main_v4 (F := Ideal) x y (ix2 r k) : EReal)
      = ∑ s ∈ Finset.range 8192, at2 x s r.val * at2 y s k.val := by
  rw [Cert.Reference6Ideal.Read.val_main_v4_apply]
  show (Cert.Reference6Ideal.Read.val_main_v3 (F := Ideal) x y (ix2 r k) : EReal) = _
  rw [Cert.Reference6Ideal.Read.val_main_v3_apply, Cert.Reference6Ideal.Read.val_main_v2_apply,
    ← sum_fin 8192 (fun s => at2 x s r.val * at2 y s k.val)]
  refine Finset.sum_congr rfl fun s _ => ?_
  rw [mul_comm, at2_val, at2_val]
  congr 1
  · exact congrArg x (Shape.idx_ext₂ rfl rfl)
  · exact congrArg y (Shape.idx_ext₂ rfl rfl)

theorem equal : ((dats m 0 c).arrAt 2 cfg0.N : FVec Ideal S2816x1024 .bf16) = Cert.Reference6Ideal.Read.val_main_v4 (F := Ideal) (x0 m c) (y0 m c) := by
  funext i
  rw [eq_ix2 i]
  exact (arr m c (i 0) (i 1)).trans (ref_at _ _ _ _).symm

end Cert.Proof.Prod.DwDown
-- ==== Proof.Prod.DwOut.lean ====
module

public import proofs.«01_k».proof.Proof.Gen.Kernel7Ideal.Value
public import proofs.«01_k».proof.Proof.Gen.Reference7Ideal.Read
public import proofs.«01_k».proof.Proof.Prod.Tile
public import Idealize.ShloMosaic.Lib.StableHlo.RunRead

/-! The gradient of the output projection's weights. -/

@[expose] public section

noncomputable section

open Idealize.ShloMosaic Idealize.ShloMosaic.TcCoe Idealize.SL.Sem
open Cert.Kernel7Ideal Cert.Kernel7Ideal.Gen

namespace Cert.Proof.Prod.DwOut

theorem zero_at (r : Fin 1024) (k : Fin 1024) : (k0_pay1 (F := Ideal) (ix2 r k) : EReal) = 0 := by
  unfold k0_pay1
  pointwise
  try simp [Ideal.ofBits, Ideal.ieee]

theorem step_at (y : Vec Ideal S512x1024 .f32) (s : Vec Ideal S1024x1024 .f32) (x : Vec Ideal S512x1024 .bf16) (r : Fin 1024) (k : Fin 1024) :
    (k0_pay2 (F := Ideal) y s x (ix2 r k) : EReal) = s (ix2 r k) + ∑ t : Fin 512, x (ix2 t r) * y (ix2 t k) := by
  unfold k0_pay2
  pointwise

theorem last_at (s : Vec Ideal S1024x1024 .f32) (r : Fin 1024) (k : Fin 1024) :
    (k0_pay3 (F := Ideal) s (ix2 r k) : EReal) = s (ix2 r k) := by
  unfold k0_pay3
  pointwise

section Cases

variable (c : Dev nD) (i : grid0.Coords) (a3 : Memref sig .tc .vmem S512x1024 .bf16) (h3 : a3.IsWhole)
  (a4 : Memref sig .tc .vmem S512x1024 .f32) (h4 : a4.IsWhole) (a5 : Memref sig .tc .vmem S1024x1024 .bf16) (h5 : a5.IsWhole) (a6 : Memref sig .tc .vmem S1024x1024 .f32) (h6 : a6.IsWhole)
  (x : Vec Ideal S512x1024 .bf16) (y : Vec Ideal S512x1024 .f32)

theorem startS (hc0 : cond0_0 i) (hc1 : ¬cond0_1 i) :
    sout0_A_0 c i a3 h3 a4 h4 a5 h5 a6 h6 hc0 hc1 x y = k0_pay2 y (k0_pay1 (F := Ideal)) x := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) zero2]
  simp only [View.readCov_cons_toLoadRect, View.readCov_unit_zero (S := S1024x1024) _ zero2, View.readAt_eq_ld, h3.read_unread, h4.read_unread, h6.read_unread,
    View.ld_unit_zero (S := S512x1024) zero2, View.ld_unit_zero (S := S1024x1024) zero2]

theorem nextS (hc0 : ¬cond0_0 i) (hc1 : ¬cond0_1 i) (s : Vec Ideal S1024x1024 .f32) :
    sout0_B_0 c i a3 h3 a4 h4 a5 h5 a6 h6 hc0 hc1 x y s = k0_pay2 y s x := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero (S := S1024x1024) zero2]
  simp only [View.readCov_cons_toLoadRect, View.readCov_unit_zero (S := S1024x1024) _ zero2, View.readAt_eq_ld, h3.read_unread, h4.read_unread, h6.read_unread,
    View.ld_unit_zero (S := S512x1024) zero2, View.ld_unit_zero (S := S1024x1024) zero2]

theorem lastS (hc0 : ¬cond0_0 i) (hc1 : cond0_1 i) (s : Vec Ideal S1024x1024 .f32) :
    sout0_C_0 c i a3 h3 a4 h4 a5 h5 a6 h6 hc0 hc1 x y s = k0_pay2 y s x := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero (S := S1024x1024) zero2]
  simp only [View.readCov_cons_toLoadRect, View.readCov_unit_zero (S := S1024x1024) _ zero2, View.readAt_eq_ld, h3.read_unread, h4.read_unread, h6.read_unread,
    View.ld_unit_zero (S := S512x1024) zero2, View.ld_unit_zero (S := S1024x1024) zero2]

theorem lastO (hc0 : ¬cond0_0 i) (hc1 : cond0_1 i) (s : Vec Ideal S1024x1024 .f32) :
    out0_C_2 c i a3 h3 a4 h4 a5 h5 a6 h6 hc0 hc1 x y s = k0_pay3 (F := Ideal) (k0_pay2 (F := Ideal) y s x) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero (S := S1024x1024) zero2]
  simp only [View.readCov_cons_toLoadRect, View.readCov_unit_zero (S := S1024x1024) _ zero2, View.readAt_eq_ld, h3.read_unread, h4.read_unread, h6.read_unread,
    View.ld_unit_zero (S := S512x1024) zero2, View.ld_unit_zero (S := S1024x1024) zero2]

end Cases

variable (m : (ℓ : Loc nD τ sig) → Buf (Elt Ideal) ℓ) (c : Dev nD)

/-- The two operands as launched. -/
abbrev x0 : FVec Ideal S8192x1024 .f32 := m ((c : Thread nD τ).loc main_arg0)
abbrev y0 : FVec Ideal S8192x1024 .f32 := m ((c : Thread nD τ).loc main_arg1)

theorem V_v0 : (V m c main_v0 : FVec Ideal S8192x1024 .bf16) = truncf .bf16 (x0 m c) bitsLt_bf16_f32 := by
  after_reads_simp

theorem blk0 (t : Fin cfg0.N) (u : Fin 512) (r : Fin 1024) :
    ((iblk m c 0 t : FVec Ideal S512x1024 .bf16) (ix2 u r) : EReal) = at2 (x0 m c) (512 * (t.val % 16) + u.val) (r.val) := by
  have hi : win0_0.index t 0 = t.val % 16 ∧ win0_0.index t 1 = 0 := by revert t; decide +kernel
  have hu := u.isLt
  have hr := r.isLt
  have ht : t.val < 16 := lt_of_lt_of_eq t.isLt N_0
  rw [← at2_mk (x0 m c) (show 512 * (t.val % 16) + u.val < 8192 by omega) (show r.val < 1024 by omega)]
  unfold iblk
  rw [View.read_apply]
  show V m c main_v0 _ = x0 m c _
  rw [V_v0]
  show x0 m c _ = x0 m c _
  congr 1
  funext a
  apply Fin.ext
  match a with
  | ⟨0, _⟩ => show win0_0.index t 0 * 512 + 1 * u.val = 512 * (t.val % 16) + u.val; rw [hi.1]; omega
  | ⟨1, _⟩ => show win0_0.index t 1 * 1024 + 1 * r.val = r.val; rw [hi.2]; omega

theorem blk1 (t : Fin cfg0.N) (u : Fin 512) (k : Fin 1024) :
    ((iblk m c 1 t : FVec Ideal S512x1024 .f32) (ix2 u k) : EReal) = at2 (y0 m c) (512 * (t.val % 16) + u.val) (k.val) := by
  have hi : win0_1.index t 0 = t.val % 16 ∧ win0_1.index t 1 = 0 := by revert t; decide +kernel
  have hu := u.isLt
  have hk := k.isLt
  have ht : t.val < 16 := lt_of_lt_of_eq t.isLt N_0
  rw [← at2_mk (y0 m c) (show 512 * (t.val % 16) + u.val < 8192 by omega) (show k.val < 1024 by omega)]
  unfold iblk
  rw [View.read_apply]
  show V m c main_arg1 _ = y0 m c _
  rw [V_main_arg1]
  congr 1
  funext a
  apply Fin.ext
  match a with
  | ⟨0, _⟩ => show win0_1.index t 0 * 512 + 1 * u.val = 512 * (t.val % 16) + u.val; rw [hi.1]; omega
  | ⟨1, _⟩ => show win0_1.index t 1 * 1024 + 1 * k.val = k.val; rw [hi.2]; omega

/-- What one point adds at an element of the scratch. -/
def part (r k n : ℕ) : EReal :=
  ∑ t ∈ Finset.range 512, at2 (x0 m c) (512 * (n % 16) + t) (r) * at2 (y0 m c) (512 * (n % 16) + t) (k)

theorem step_part (t : Fin cfg0.N) (s : Vec Ideal S1024x1024 .f32) (r : Fin 1024) (k : Fin 1024) :
    (k0_pay2 (F := Ideal) (iblk m c 1 t) s (iblk m c 0 t) (ix2 r k) : EReal) = s (ix2 r k) + part m c r.val k.val t.val := by
  rw [step_at]
  unfold part
  rw [← sum_fin 512 (fun u => at2 (x0 m c) (512 * (t.val % 16) + u) (r.val) * at2 (y0 m c) (512 * (t.val % 16) + u) (k.val))]
  exact congrArg (s (ix2 r k) + ·) (Finset.sum_congr rfl fun u _ => congrArg₂ (· * ·) (blk0 m c t u r) (blk1 m c t u k))

/-- The scratch after every point. -/
theorem acc (r : Fin 1024) (k : Fin 1024) (n : ℕ) (h : n < cfg0.N) :
    ((outsAt0 m c n h).2 (ix2 r k) : EReal) = ∑ j ∈ Finset.range (n % 16 + 1), part m c r.val k.val (16 * (n / 16) + j) := by
  refine since_start 16 (by decide) (fun n h => ((outsAt0 m c n h).2 (ix2 r k) : EReal)) (fun n => part m c r.val k.val n) ?_ ?_ n h
  · intro n h hz
    have e := outsAt0_A m c ⟨n, h⟩ hz (by dsimp only; omega)
    dsimp only at e ⊢
    rw [e]
    dsimp only
    rw [startS, step_part, zero_at, zero_add]
  · intro n h hz
    by_cases hl : (n + 1) % 16 = 15
    · have e := outsAt0_C m c ⟨n + 1, h⟩ hz hl
      dsimp only at e ⊢
      rw [e]
      dsimp only
      rw [lastS, step_part]
      rfl
    · have e := outsAt0_B m c ⟨n + 1, h⟩ hz hl
      dsimp only at e ⊢
      rw [e]
      dsimp only
      rw [nextS, step_part]
      rfl

/-- The output block at a point that ends a tile. -/
theorem out_at (t : Fin cfg0.N) (hl : t.val % 16 = 15) (r : Fin 1024) (k : Fin 1024) :
    ((outsAt0 m c t.val t.isLt).1 (ix2 r k) : EReal)
      = ∑ s ∈ Finset.range 8192, at2 (x0 m c) s (r.val) * at2 (y0 m c) s (k.val) := by
  have e := outsAt0_C m c t (by omega) hl
  have ea := acc m c r k t.val t.isLt
  rw [e] at ea ⊢
  dsimp only at ea ⊢
  rw [lastS] at ea
  rw [lastO, last_at]
  refine ea.trans ?_
  rw [hl]
  unfold part
  refine Eq.trans ?_ (range_tiles 512 (fun s => at2 (x0 m c) s (r.val) * at2 (y0 m c) s (k.val)) 16)
  refine Finset.sum_congr rfl fun j hj => ?_
  have hj' := Finset.mem_range.mp hj
  rw [show (16 * (t.val / 16) + j) % 16 = j by omega]

/-- The result array. -/
theorem arr (r : Fin 1024) (k : Fin 1024) :
    ((dats m 0 c).arrAt 2 cfg0.N (ix2 r k) : EReal) = ∑ s ∈ Finset.range 8192, at2 (x0 m c) s r.val * at2 (y0 m c) s k.val := by
  have hr := r.isLt
  have hk := k.isLt
  have hN : cfg0.N = 16 := N_0
  rw [Cert.Kernel7Ideal.Value.final2]
  have hb : Cert.Kernel7Ideal.Value.pt2Of (ix2 r k) = 16 * 0 + 15 := by
    show 16 * (1 * (r.val / 1024 - 0) + 1 * (k.val / 1024 - 0)) + 15 = _
    omega
  unfold Cert.Kernel7Ideal.Value.G2
  rw [dif_pos (by rw [hb, hN]; omega), ← Cert.Kernel7Ideal.Value.outsAt0_sweep m c _ (by rw [hb, hN]; omega)]
  have e := out_at m c ⟨16 * 0 + 15, by rw [hN]; omega⟩ (by dsimp only) r k
  dsimp only at e
  have hl : Cert.Kernel7Ideal.Value.loc2Of (ix2 r k) = ix2 r k := by
    funext a
    apply Fin.ext
    match a with
    | ⟨0, _⟩ => show r.val % 1024 = r.val; omega
    | ⟨1, _⟩ => show k.val % 1024 = k.val; omega
  have ec : ∀ (a b : ℕ) (ha : a < cfg0.N) (hb : b < cfg0.N), a = b → outsAt0 m c a ha = outsAt0 m c b hb := by
    intro a b ha hb h; subst h; rfl
  rw [hl, ec _ _ _ (by rw [hN]; omega) hb]
  exact e

/-- The reference's array. -/
theorem ref_at (x : FVec Ideal S8192x1024 .f32) (y : FVec Ideal S8192x1024 .f32) (r : Fin 1024) (k : Fin 1024) :
    (Cert.Reference7Ideal.Read.val_main_v4 (F := Ideal) x y (ix2 r k) : EReal)
      = ∑ s ∈ Finset.range 8192, at2 x s r.val * at2 y s k.val := by
  rw [Cert.Reference7Ideal.Read.val_main_v4_apply]
  show (Cert.Reference7Ideal.Read.val_main_v3 (F := Ideal) x y (ix2 r k) : EReal) = _
  rw [Cert.Reference7Ideal.Read.val_main_v3_apply, Cert.Reference7Ideal.Read.val_main_v2_apply,
    ← sum_fin 8192 (fun s => at2 x s r.val * at2 y s k.val)]
  refine Finset.sum_congr rfl fun s _ => ?_
  rw [mul_comm, at2_val, at2_val]
  congr 1
  · exact congrArg x (Shape.idx_ext₂ rfl rfl)
  · exact congrArg y (Shape.idx_ext₂ rfl rfl)

theorem equal : ((dats m 0 c).arrAt 2 cfg0.N : FVec Ideal S1024x1024 .bf16) = Cert.Reference7Ideal.Read.val_main_v4 (F := Ideal) (x0 m c) (y0 m c) := by
  funext i
  rw [eq_ix2 i]
  exact (arr m c (i 0) (i 1)).trans (ref_at _ _ _ _).symm

end Cert.Proof.Prod.DwOut
-- ==== Proof.Prod.Dmix.lean ====
module

public import proofs.«01_k».proof.Proof.Gen.Kernel8Ideal.Value
public import proofs.«01_k».proof.Proof.Gen.Reference8Ideal.Read
public import proofs.«01_k».proof.Proof.Prod.Tile
public import Idealize.ShloMosaic.Lib.StableHlo.RunRead

/-! The gradient of the mixed branches: a product with the output projection's weights, transposed. -/

@[expose] public section

noncomputable section

open Idealize.ShloMosaic Idealize.ShloMosaic.TcCoe Idealize.SL.Sem
open Cert.Kernel8Ideal Cert.Kernel8Ideal.Gen

namespace Cert.Proof.Prod.Dmix

theorem tile_at (x : Vec Ideal S1024x1024 .f32) (y : Vec Ideal S1024x1024 .bf16) (r : Fin 1024) (k : Fin 1024) :
    (k0_pay2 (F := Ideal) (k0_pay1 (F := Ideal)) x y (ix2 r k) : EReal) = ∑ t : Fin 1024, x (ix2 r t) * y (ix2 k t) := by
  unfold k0_pay2 k0_pay1
  pointwise
  try simp [Ideal.ofBits, Ideal.ieee]

section Cases

variable (c : Dev nD) (i : grid0.Coords) (a3 : Memref sig .tc .vmem S1024x1024 .f32) (h3 : a3.IsWhole)
  (a4 : Memref sig .tc .vmem S1024x1024 .bf16) (h4 : a4.IsWhole)
  (a5 : Memref sig .tc .vmem S1024x1024 .f32) (h5 : a5.IsWhole) (a6 : Memref sig .tc .vmem S1024x1024 .f32) (h6 : a6.IsWhole)
  (x : Vec Ideal S1024x1024 .f32) (y : Vec Ideal S1024x1024 .bf16)

theorem tileO (hc0 : cond0_0 i) (hc1 : cond0_1 i) :
    out0_A_2 c i a3 h3 a4 h4 a5 h5 a6 h6 hc0 hc1 x y = k0_pay2 (F := Ideal) (k0_pay1 (F := Ideal)) x y := by
  unfold out0_A_2
  rw [View.read_writes_eq_canon _ _ _ (cover0_A_2 c i a3 h3 a4 h4 a5 h5 a6 h6 hc0 hc1 x y)]
  unfold kernelRun0_A
  dsimp only
  sl_unfold_words
  rw [View.canon_unit_zero (S := S1024x1024) zero2]
  simp only [View.readCov_cons_toLoadRect, View.readCov_unit_zero (S := S1024x1024) _ zero2, View.readAt_eq_ld, h3.read_unread, h4.read_unread,
    View.ld_unit_zero (S := S1024x1024) zero2]

end Cases

variable (m : (ℓ : Loc nD τ sig) → Buf (Elt Ideal) ℓ) (c : Dev nD)

/-- The operands as launched. -/
abbrev x0 : FVec Ideal S8192x1024 .f32 := m ((c : Thread nD τ).loc main_arg0)
abbrev y0 : FVec Ideal S1024x1024 .f32 := m ((c : Thread nD τ).loc main_arg1)

theorem V_v0 : (V m c main_v0 : FVec Ideal S1024x1024 .bf16) = truncf .bf16 (y0 m c) bitsLt_bf16_f32 := by
  after_reads_simp

theorem blk0 (t : Fin cfg0.N) (r : Fin 1024) (k : Fin 1024) :
    ((iblk m c 0 t : FVec Ideal S1024x1024 .f32) (ix2 r k) : EReal) = at2 (x0 m c) (1024 * t.val + r.val) k.val := by
  have hi : win0_0.index t 0 = t.val ∧ win0_0.index t 1 = 0 := by revert t; decide +kernel
  have hr := r.isLt
  have ht : t.val < 8 := lt_of_lt_of_eq t.isLt N_0
  rw [← at2_mk (x0 m c) (show 1024 * t.val + r.val < 8192 by omega) k.isLt]
  unfold iblk
  rw [View.read_apply]
  show V m c main_arg0 _ = x0 m c _
  rw [V_main_arg0]
  congr 1
  funext a
  apply Fin.ext
  match a with
  | ⟨0, _⟩ => show win0_0.index t 0 * 1024 + 1 * r.val = 1024 * t.val + r.val; rw [hi.1]; omega
  | ⟨1, _⟩ => show win0_0.index t 1 * 1024 + 1 * k.val = k.val; rw [hi.2]; omega

theorem blk1 (t : Fin cfg0.N) (k : Fin 1024) (r : Fin 1024) :
    ((iblk m c 1 t : FVec Ideal S1024x1024 .bf16) (ix2 k r) : EReal) = at2 (y0 m c) (k.val) r.val := by
  have hi : win0_1.index t 0 = 0 ∧ win0_1.index t 1 = 0 := by revert t; decide +kernel
  have hk := k.isLt
  rw [← at2_mk (y0 m c) (show k.val < 1024 by omega) r.isLt]
  unfold iblk
  rw [View.read_apply]
  show V m c main_v0 _ = y0 m c _
  rw [V_v0]
  show y0 m c _ = y0 m c _
  congr 1
  funext a
  apply Fin.ext
  match a with
  | ⟨0, _⟩ => show win0_1.index t 0 * 1024 + 1 * k.val = k.val; rw [hi.1]; omega
  | ⟨1, _⟩ => show win0_1.index t 1 * 1024 + 1 * r.val = r.val; rw [hi.2]; omega

theorem out_at (t : Fin cfg0.N) (r : Fin 1024) (k : Fin 1024) :
    ((outsAt0 m c t : FVec Ideal S1024x1024 .f32) (ix2 r k) : EReal)
      = (∑ s ∈ Finset.range 1024, at2 (x0 m c) (1024 * t.val + r.val) s * at2 (y0 m c) (k.val) s) := by
  unfold outsAt0
  rw [tileO, tile_at, ← sum_fin 1024 (fun s => at2 (x0 m c) (1024 * t.val + r.val) s * at2 (y0 m c) (k.val) s)]
  exact Finset.sum_congr rfl fun u _ => congrArg₂ (· * ·) (blk0 m c t r u) (blk1 m c t k u)

/-- The reference's array. -/
theorem ref_at (x : FVec Ideal S8192x1024 .f32) (y : FVec Ideal S1024x1024 .f32) (r : Fin 8192) (k : Fin 1024) :
    (Cert.Reference8Ideal.Read.val_main_v2 (F := Ideal) x y (ix2 r k) : EReal)
      = (∑ s ∈ Finset.range 1024, at2 x r.val s * at2 y k.val s) := by
  rw [Cert.Reference8Ideal.Read.val_main_v2_apply]
  rw [← sum_fin 1024 (fun s => at2 x r.val s * at2 y k.val s)]
  refine Finset.sum_congr rfl fun s _ => ?_
  rw [at2_val, at2_val]
  congr 1
  · exact congrArg x (Shape.idx_ext₂ rfl rfl)
  · exact congrArg y (Shape.idx_ext₂ rfl rfl)

/-- The result array. -/
theorem arr (r : Fin 8192) (k : Fin 1024) :
    ((dats m 0 c).arrAt 2 cfg0.N (ix2 r k) : EReal) = (∑ s ∈ Finset.range 1024, at2 (x0 m c) r.val s * at2 (y0 m c) k.val s) := by
  have hr := r.isLt
  have hk := k.isLt
  have hN : cfg0.N = 8 := N_0
  have ht : r.val / 1024 < cfg0.N := by rw [hN]; omega
  have hi : ∀ t : Fin cfg0.N, win0_2.index t 0 = t.val ∧ win0_2.index t 1 = 0 := by decide +kernel
  have hi' := hi ⟨_, ht⟩
  have e := congrFun (Cert.Kernel8Ideal.Value.blocks2 m c ⟨_, ht⟩ (flush0_2 ⟨_, ht⟩))
    (ix2 (⟨r.val % 1024, by omega⟩ : Fin 1024) (⟨k.val, by omega⟩ : Fin 1024))
  rw [View.read_apply, Cert.Kernel8Ideal.Value.flushed2] at e
  have eo := out_at m c ⟨_, ht⟩ ⟨r.val % 1024, by omega⟩ ⟨k.val, by omega⟩
  dsimp only at eo
  rw [show 1024 * (r.val / 1024) + r.val % 1024 = r.val by omega] at eo
  refine Eq.trans ?_ (e.trans eo)
  refine congrArg ((dats m 0 c).arrAt 2 cfg0.N) ?_
  funext a
  apply Fin.ext
  match a with
  | ⟨0, _⟩ =>
    show r.val = win0_2.index ⟨_, ht⟩ 0 * 1024 + 1 * (r.val % 1024)
    rw [hi'.1]; dsimp only; omega
  | ⟨1, _⟩ =>
    show k.val = win0_2.index ⟨_, ht⟩ 1 * 1024 + 1 * (k.val)
    rw [hi'.2]; try dsimp only
    omega

theorem equal : ((dats m 0 c).arrAt 2 cfg0.N : FVec Ideal S8192x1024 .f32) = Cert.Reference8Ideal.Read.val_main_v2 (F := Ideal) (x0 m c) (y0 m c) := by
  funext i
  rw [eq_ix2 i]
  exact (arr m c (i 0) (i 1)).trans (ref_at _ _ _ _).symm

end Cert.Proof.Prod.Dmix
-- ==== Proof.Prod.DwIn.lean ====
module

public import proofs.«01_k».proof.Proof.Gen.Kernel9Ideal.Value
public import proofs.«01_k».proof.Proof.Gen.Reference9Ideal.Read
public import proofs.«01_k».proof.Proof.Prod.Tile
public import Idealize.ShloMosaic.Lib.StableHlo.RunRead

/-! The gradient of the input projection's weights and, as the columns' sums, of its bias. -/

@[expose] public section

noncomputable section

open Idealize.ShloMosaic Idealize.ShloMosaic.TcCoe Idealize.SL.Sem
open Cert.Kernel9Ideal Cert.Kernel9Ideal.Gen

namespace Cert.Proof.Prod.DwIn

theorem zero_at (r : Fin 1024) (k : Fin 768) : (k0_pay1 (F := Ideal) (ix2 r k) : EReal) = 0 := by
  unfold k0_pay1
  pointwise
  try simp [Ideal.ofBits, Ideal.ieee]

theorem step_at (y : Vec Ideal S512x768 .f32) (s : Vec Ideal S1024x768 .f32) (x : Vec Ideal S512x1024 .f32) (r : Fin 1024) (k : Fin 768) :
    (k0_pay3 (F := Ideal) y s x (ix2 r k) : EReal) = s (ix2 r k) + ∑ t : Fin 512, x (ix2 t r) * y (ix2 t k) := by
  unfold k0_pay3
  pointwise

theorem last_at (s : Vec Ideal S1024x768 .f32) (r : Fin 1024) (k : Fin 768) :
    (k0_pay5 (F := Ideal) s (ix2 r k) : EReal) = s (ix2 r k) := by
  unfold k0_pay5
  pointwise

theorem czero_at (p : Fin 1) (k : Fin 768) : (k0_pay2 (F := Ideal) (ix2 p k) : EReal) = 0 := by
  unfold k0_pay2
  pointwise
  try simp [Ideal.ofBits, Ideal.ieee]

theorem cstep_at (y : Vec Ideal S512x768 .f32) (q : Vec Ideal S1x768 .f32) (p : Fin 1) (k : Fin 768) :
    (k0_pay4 (F := Ideal) y q (ix2 p k) : EReal) = q (ix2 p k) + ∑ t : Fin 512, y (ix2 t k) := by
  unfold k0_pay4
  pointwise

section Cases

variable (c : Dev nD) (i : grid0.Coords) (a3 : Memref sig .tc .vmem S512x1024 .f32) (h3 : a3.IsWhole)
  (a4 : Memref sig .tc .vmem S512x768 .f32) (h4 : a4.IsWhole) (a5 : Memref sig .tc .vmem S1024x768 .bf16) (h5 : a5.IsWhole) (a6 : Memref sig .tc .vmem S1x768 .f32) (h6 : a6.IsWhole) (a7 : Memref sig .tc .vmem S1024x768 .f32) (h7 : a7.IsWhole)
  (x : Vec Ideal S512x1024 .f32) (y : Vec Ideal S512x768 .f32)

theorem startS (hc0 : cond0_0 i) (hc1 : ¬cond0_1 i) :
    sout0_A_0 c i a3 h3 a4 h4 a5 h5 a6 h6 a7 h7 hc0 hc1 x y = k0_pay3 y (k0_pay1 (F := Ideal)) x := by
  unfold sout0_A_0
  rw [View.read_writes_eq_canon _ _ _ (scover0_A_0 c i a3 h3 a4 h4 a5 h5 a6 h6 a7 h7 hc0 hc1 x y)]
  unfold kernelRun0_A
  dsimp only
  sl_unfold_words
  rw [View.canon_cons_unit_zero (S := S1024x768) zero2]
  simp only [View.readCov_cons_toLoadRect, View.readCov_unit_zero (S := S1024x768) _ zero2, View.readCov_unit_zero (S := S1x768) _ zero2, View.readAt_eq_ld, h3.read_unread, h4.read_unread, h6.read_unread, h7.read_unread,
    View.ld_unit_zero (S := S512x1024) zero2, View.ld_unit_zero (S := S512x768) zero2, View.ld_unit_zero (S := S1024x768) zero2, View.ld_unit_zero (S := S1x768) zero2]

theorem nextS (hc0 : ¬cond0_0 i) (hc1 : ¬cond0_1 i) (q : Vec Ideal S1x768 .f32) (s : Vec Ideal S1024x768 .f32) :
    sout0_B_0 c i a3 h3 a4 h4 a5 h5 a6 h6 a7 h7 hc0 hc1 x y q s = k0_pay3 y s x := by
  unfold sout0_B_0
  rw [View.read_writes_eq_canon _ _ _ (scover0_B_0 c i a3 h3 a4 h4 a5 h5 a6 h6 a7 h7 hc0 hc1 x y q s)]
  unfold kernelRun0_B
  dsimp only
  sl_unfold_words
  rw [View.canon_unit_zero (S := S1024x768) zero2]
  simp only [View.readCov_cons_toLoadRect, View.readCov_unit_zero (S := S1024x768) _ zero2, View.readCov_unit_zero (S := S1x768) _ zero2, View.readAt_eq_ld, h3.read_unread, h4.read_unread, h6.read_unread, h7.read_unread,
    View.ld_unit_zero (S := S512x1024) zero2, View.ld_unit_zero (S := S512x768) zero2, View.ld_unit_zero (S := S1024x768) zero2, View.ld_unit_zero (S := S1x768) zero2]

theorem lastS (hc0 : ¬cond0_0 i) (hc1 : cond0_1 i) (q : Vec Ideal S1x768 .f32) (s : Vec Ideal S1024x768 .f32) :
    sout0_C_0 c i a3 h3 a4 h4 a5 h5 a6 h6 a7 h7 hc0 hc1 x y q s = k0_pay3 y s x := by
  unfold sout0_C_0
  rw [View.read_writes_eq_canon _ _ _ (scover0_C_0 c i a3 h3 a4 h4 a5 h5 a6 h6 a7 h7 hc0 hc1 x y q s)]
  unfold kernelRun0_C
  dsimp only
  sl_unfold_words
  rw [View.canon_unit_zero (S := S1024x768) zero2]
  simp only [View.readCov_cons_toLoadRect, View.readCov_unit_zero (S := S1024x768) _ zero2, View.readCov_unit_zero (S := S1x768) _ zero2, View.readAt_eq_ld, h3.read_unread, h4.read_unread, h6.read_unread, h7.read_unread,
    View.ld_unit_zero (S := S512x1024) zero2, View.ld_unit_zero (S := S512x768) zero2, View.ld_unit_zero (S := S1024x768) zero2, View.ld_unit_zero (S := S1x768) zero2]

theorem lastO (hc0 : ¬cond0_0 i) (hc1 : cond0_1 i) (q : Vec Ideal S1x768 .f32) (s : Vec Ideal S1024x768 .f32) :
    out0_C_2 c i a3 h3 a4 h4 a5 h5 a6 h6 a7 h7 hc0 hc1 x y q s = k0_pay5 (F := Ideal) (k0_pay3 (F := Ideal) y s x) := by
  unfold out0_C_2
  rw [View.read_writes_eq_canon _ _ _ (cover0_C_2 c i a3 h3 a4 h4 a5 h5 a6 h6 a7 h7 hc0 hc1 x y q s)]
  unfold kernelRun0_C
  dsimp only
  sl_unfold_words
  rw [View.canon_unit_zero (S := S1024x768) zero2]
  simp only [View.readCov_cons_toLoadRect, View.readCov_unit_zero (S := S1024x768) _ zero2, View.readCov_unit_zero (S := S1x768) _ zero2, View.readAt_eq_ld, h3.read_unread, h4.read_unread, h6.read_unread, h7.read_unread,
    View.ld_unit_zero (S := S512x1024) zero2, View.ld_unit_zero (S := S512x768) zero2, View.ld_unit_zero (S := S1024x768) zero2, View.ld_unit_zero (S := S1x768) zero2]

theorem startC (hc0 : cond0_0 i) (hc1 : ¬cond0_1 i) :
    out0_A_3 c i a3 h3 a4 h4 a5 h5 a6 h6 a7 h7 hc0 hc1 x y = k0_pay4 y (k0_pay2 (F := Ideal)) := by
  unfold out0_A_3
  rw [View.read_writes_eq_canon _ _ _ (cover0_A_3 c i a3 h3 a4 h4 a5 h5 a6 h6 a7 h7 hc0 hc1 x y)]
  unfold kernelRun0_A
  dsimp only
  sl_unfold_words
  rw [View.canon_cons_unit_zero (S := S1x768) zero2]
  simp only [View.readCov_cons_toLoadRect, View.readCov_unit_zero (S := S1024x768) _ zero2, View.readCov_unit_zero (S := S1x768) _ zero2, View.readAt_eq_ld, h3.read_unread, h4.read_unread, h6.read_unread, h7.read_unread,
    View.ld_unit_zero (S := S512x1024) zero2, View.ld_unit_zero (S := S512x768) zero2, View.ld_unit_zero (S := S1024x768) zero2, View.ld_unit_zero (S := S1x768) zero2]

theorem nextC (hc0 : ¬cond0_0 i) (hc1 : ¬cond0_1 i) (q : Vec Ideal S1x768 .f32) (s : Vec Ideal S1024x768 .f32) :
    out0_B_3 c i a3 h3 a4 h4 a5 h5 a6 h6 a7 h7 hc0 hc1 x y q s = k0_pay4 y q := by
  unfold out0_B_3
  rw [View.read_writes_eq_canon _ _ _ (cover0_B_3 c i a3 h3 a4 h4 a5 h5 a6 h6 a7 h7 hc0 hc1 x y q s)]
  unfold kernelRun0_B
  dsimp only
  sl_unfold_words
  rw [View.canon_unit_zero (S := S1x768) zero2]
  simp only [View.readCov_cons_toLoadRect, View.readCov_unit_zero (S := S1024x768) _ zero2, View.readCov_unit_zero (S := S1x768) _ zero2, View.readAt_eq_ld, h3.read_unread, h4.read_unread, h6.read_unread, h7.read_unread,
    View.ld_unit_zero (S := S512x1024) zero2, View.ld_unit_zero (S := S512x768) zero2, View.ld_unit_zero (S := S1024x768) zero2, View.ld_unit_zero (S := S1x768) zero2]

theorem lastC (hc0 : ¬cond0_0 i) (hc1 : cond0_1 i) (q : Vec Ideal S1x768 .f32) (s : Vec Ideal S1024x768 .f32) :
    out0_C_3 c i a3 h3 a4 h4 a5 h5 a6 h6 a7 h7 hc0 hc1 x y q s = k0_pay4 y q := by
  unfold out0_C_3
  rw [View.read_writes_eq_canon _ _ _ (cover0_C_3 c i a3 h3 a4 h4 a5 h5 a6 h6 a7 h7 hc0 hc1 x y q s)]
  unfold kernelRun0_C
  dsimp only
  sl_unfold_words
  rw [View.canon_unit_zero (S := S1x768) zero2]
  simp only [View.readCov_cons_toLoadRect, View.readCov_unit_zero (S := S1024x768) _ zero2, View.readCov_unit_zero (S := S1x768) _ zero2, View.readAt_eq_ld, h3.read_unread, h4.read_unread, h6.read_unread, h7.read_unread,
    View.ld_unit_zero (S := S512x1024) zero2, View.ld_unit_zero (S := S512x768) zero2, View.ld_unit_zero (S := S1024x768) zero2, View.ld_unit_zero (S := S1x768) zero2]

end Cases

variable (m : (ℓ : Loc nD τ sig) → Buf (Elt Ideal) ℓ) (c : Dev nD)

/-- The two operands as launched. -/
abbrev x0 : FVec Ideal S8192x1024 .f32 := m ((c : Thread nD τ).loc main_arg0)
abbrev y0 : FVec Ideal S8192x1536 .f32 := m ((c : Thread nD τ).loc main_arg1)

theorem blk0 (t : Fin cfg0.N) (u : Fin 512) (r : Fin 1024) :
    ((iblk m c 0 t : FVec Ideal S512x1024 .f32) (ix2 u r) : EReal) = at2 (x0 m c) (512 * (t.val % 16) + u.val) (r.val) := by
  have hi : win0_0.index t 0 = t.val % 16 ∧ win0_0.index t 1 = 0 := by revert t; decide +kernel
  have hu := u.isLt
  have hr := r.isLt
  have ht : t.val < 32 := lt_of_lt_of_eq t.isLt N_0
  rw [← at2_mk (x0 m c) (show 512 * (t.val % 16) + u.val < 8192 by omega) (show r.val < 1024 by omega)]
  unfold iblk
  rw [View.read_apply]
  show V m c main_arg0 _ = x0 m c _
  rw [V_main_arg0]
  congr 1
  funext a
  apply Fin.ext
  match a with
  | ⟨0, _⟩ => show win0_0.index t 0 * 512 + 1 * u.val = 512 * (t.val % 16) + u.val; rw [hi.1]; omega
  | ⟨1, _⟩ => show win0_0.index t 1 * 1024 + 1 * r.val = r.val; rw [hi.2]; omega

theorem blk1 (t : Fin cfg0.N) (u : Fin 512) (k : Fin 768) :
    ((iblk m c 1 t : FVec Ideal S512x768 .f32) (ix2 u k) : EReal) = at2 (y0 m c) (512 * (t.val % 16) + u.val) (768 * (t.val / 16) + k.val) := by
  have hi : win0_1.index t 0 = t.val % 16 ∧ win0_1.index t 1 = t.val / 16 := by revert t; decide +kernel
  have hu := u.isLt
  have hk := k.isLt
  have ht : t.val < 32 := lt_of_lt_of_eq t.isLt N_0
  rw [← at2_mk (y0 m c) (show 512 * (t.val % 16) + u.val < 8192 by omega) (show 768 * (t.val / 16) + k.val < 1536 by omega)]
  unfold iblk
  rw [View.read_apply]
  show V m c main_arg1 _ = y0 m c _
  rw [V_main_arg1]
  congr 1
  funext a
  apply Fin.ext
  match a with
  | ⟨0, _⟩ => show win0_1.index t 0 * 512 + 1 * u.val = 512 * (t.val % 16) + u.val; rw [hi.1]; omega
  | ⟨1, _⟩ => show win0_1.index t 1 * 768 + 1 * k.val = 768 * (t.val / 16) + k.val; rw [hi.2]; omega

/-- What one point adds at an element of the scratch. -/
def part (r k n : ℕ) : EReal :=
  ∑ t ∈ Finset.range 512, at2 (x0 m c) (512 * (n % 16) + t) (r) * at2 (y0 m c) (512 * (n % 16) + t) (768 * (n / 16) + k)

theorem step_part (t : Fin cfg0.N) (s : Vec Ideal S1024x768 .f32) (r : Fin 1024) (k : Fin 768) :
    (k0_pay3 (F := Ideal) (iblk m c 1 t) s (iblk m c 0 t) (ix2 r k) : EReal) = s (ix2 r k) + part m c r.val k.val t.val := by
  rw [step_at]
  unfold part
  rw [← sum_fin 512 (fun u => at2 (x0 m c) (512 * (t.val % 16) + u) (r.val) * at2 (y0 m c) (512 * (t.val % 16) + u) (768 * (t.val / 16) + k.val))]
  exact congrArg (s (ix2 r k) + ·) (Finset.sum_congr rfl fun u _ => congrArg₂ (· * ·) (blk0 m c t u r) (blk1 m c t u k))

/-- The scratch after every point. -/
theorem acc (r : Fin 1024) (k : Fin 768) (n : ℕ) (h : n < cfg0.N) :
    ((outsAt0 m c n h).2.2 (ix2 r k) : EReal) = ∑ j ∈ Finset.range (n % 16 + 1), part m c r.val k.val (16 * (n / 16) + j) := by
  refine since_start 16 (by decide) (fun n h => ((outsAt0 m c n h).2.2 (ix2 r k) : EReal)) (fun n => part m c r.val k.val n) ?_ ?_ n h
  · intro n h hz
    have e := outsAt0_A m c ⟨n, h⟩ hz (by dsimp only; omega)
    dsimp only at e ⊢
    rw [e]
    dsimp only
    rw [startS, step_part, zero_at, zero_add]
  · intro n h hz
    by_cases hl : (n + 1) % 16 = 15
    · have e := outsAt0_C m c ⟨n + 1, h⟩ hz hl
      dsimp only at e ⊢
      rw [e]
      dsimp only
      rw [lastS, step_part]
      rfl
    · have e := outsAt0_B m c ⟨n + 1, h⟩ hz hl
      dsimp only at e ⊢
      rw [e]
      dsimp only
      rw [nextS, step_part]
      rfl

/-- The output block at a point that ends a tile. -/
theorem out_at (t : Fin cfg0.N) (hl : t.val % 16 = 15) (r : Fin 1024) (k : Fin 768) :
    ((outsAt0 m c t.val t.isLt).1 (ix2 r k) : EReal)
      = ∑ s ∈ Finset.range 8192, at2 (x0 m c) s (r.val) * at2 (y0 m c) s (768 * (t.val / 16) + k.val) := by
  have e := outsAt0_C m c t (by omega) hl
  have ea := acc m c r k t.val t.isLt
  rw [e] at ea ⊢
  dsimp only at ea ⊢
  rw [lastS] at ea
  rw [lastO, last_at]
  refine ea.trans ?_
  rw [hl]
  unfold part
  refine Eq.trans ?_ (range_tiles 512 (fun s => at2 (x0 m c) s (r.val) * at2 (y0 m c) s (768 * (t.val / 16) + k.val)) 16)
  refine Finset.sum_congr rfl fun j hj => ?_
  have hj' := Finset.mem_range.mp hj
  rw [show (16 * (t.val / 16) + j) % 16 = j by omega, show (16 * (t.val / 16) + j) / 16 = t.val / 16 by omega]

/-- The result array. -/
theorem arr (r : Fin 1024) (k : Fin 1536) :
    ((dats m 0 c).arrAt 2 cfg0.N (ix2 r k) : EReal) = ∑ s ∈ Finset.range 8192, at2 (x0 m c) s r.val * at2 (y0 m c) s k.val := by
  have hr := r.isLt
  have hk := k.isLt
  have hN : cfg0.N = 32 := N_0
  rw [Cert.Kernel9Ideal.Value.final2]
  have hb : Cert.Kernel9Ideal.Value.pt2Of (ix2 r k) = 16 * (k.val / 768) + 15 := by
    show 16 * (2 * (r.val / 1024 - 0) + 1 * (k.val / 768 - 0)) + 15 = _
    omega
  unfold Cert.Kernel9Ideal.Value.G2
  rw [dif_pos (by rw [hb, hN]; omega), ← Cert.Kernel9Ideal.Value.outsAt0_sweep m c _ (by rw [hb, hN]; omega)]
  have e := out_at m c ⟨16 * (k.val / 768) + 15, by rw [hN]; omega⟩ (by dsimp only; omega) r ⟨k.val % 768, by omega⟩
  dsimp only at e
  have hl : Cert.Kernel9Ideal.Value.loc2Of (ix2 r k) = ix2 r ⟨k.val % 768, by omega⟩ := by
    funext a
    apply Fin.ext
    match a with
    | ⟨0, _⟩ => show r.val % 1024 = r.val; omega
    | ⟨1, _⟩ => rfl
  have ec : ∀ (a b : ℕ) (ha : a < cfg0.N) (hb : b < cfg0.N), a = b → outsAt0 m c a ha = outsAt0 m c b hb := by
    intro a b ha hb h; subst h; rfl
  rw [hl, ec _ _ _ (by rw [hN]; omega) hb]
  refine e.trans (Finset.sum_congr rfl fun s _ => ?_)
  rw [show (768 * ((16 * (k.val / 768) + 15) / 16) + k.val % 768) = k.val by omega]

/-- The reference's array. -/
theorem ref_at (x : FVec Ideal S8192x1024 .f32) (y : FVec Ideal S8192x1536 .f32) (r : Fin 1024) (k : Fin 1536) :
    (Cert.Reference9Ideal.Read.val_main_v12 (F := Ideal) x y (ix2 r k) : EReal)
      = ∑ s ∈ Finset.range 8192, at2 x s r.val * at2 y s k.val := by
  rw [Cert.Reference9Ideal.Read.val_main_v12_apply]
  show (Cert.Reference9Ideal.Read.val_main_v11 (F := Ideal) x y (ix2 r k) : EReal) = _
  rw [Cert.Reference9Ideal.Read.val_main_v11_apply, Cert.Reference9Ideal.Read.val_main_v10_apply,
    ← sum_fin 8192 (fun s => at2 x s r.val * at2 y s k.val)]
  refine Finset.sum_congr rfl fun s _ => ?_
  rw [mul_comm, at2_val, at2_val]
  congr 1
  · exact congrArg x (Shape.idx_ext₂ rfl rfl)
  · unfold Cert.Reference9Ideal.Read.val_main_v6
    rw [shapeCast_self]
    exact congrArg y (Shape.idx_ext₂ rfl rfl)

theorem equal : ((dats m 0 c).arrAt 2 cfg0.N : FVec Ideal S1024x1536 .bf16) = Cert.Reference9Ideal.Read.val_main_v12 (F := Ideal) (x0 m c) (y0 m c) := by
  funext i
  rw [eq_ix2 i]
  exact (arr m c (i 0) (i 1)).trans (ref_at _ _ _ _).symm

/-- What one point adds to the sum of a column. -/
def cpart (k n : ℕ) : EReal := ∑ t ∈ Finset.range 512, at2 (y0 m c) (512 * (n % 16) + t) (768 * (n / 16) + k)

theorem cstep_part (t : Fin cfg0.N) (q : Vec Ideal S1x768 .f32) (p : Fin 1) (k : Fin 768) :
    (k0_pay4 (F := Ideal) (iblk m c 1 t) q (ix2 p k) : EReal) = q (ix2 p k) + cpart m c k.val t.val := by
  rw [cstep_at]
  unfold cpart
  rw [← sum_fin 512 (fun u => at2 (y0 m c) (512 * (t.val % 16) + u) (768 * (t.val / 16) + k.val))]
  exact congrArg (q (ix2 p k) + ·) (Finset.sum_congr rfl fun u _ => blk1 m c t u k)

/-- The columns' sums after every point. -/
theorem cacc (p : Fin 1) (k : Fin 768) (n : ℕ) (h : n < cfg0.N) :
    ((outsAt0 m c n h).2.1 (ix2 p k) : EReal) = ∑ j ∈ Finset.range (n % 16 + 1), cpart m c k.val (16 * (n / 16) + j) := by
  refine since_start 16 (by decide) (fun n h => ((outsAt0 m c n h).2.1 (ix2 p k) : EReal)) (fun n => cpart m c k.val n) ?_ ?_ n h
  · intro n h hz
    have e := outsAt0_A m c ⟨n, h⟩ hz (by dsimp only; omega)
    dsimp only at e ⊢
    rw [e]
    dsimp only
    rw [startC, cstep_part, czero_at, zero_add]
  · intro n h hz
    by_cases hl : (n + 1) % 16 = 15
    · have e := outsAt0_C m c ⟨n + 1, h⟩ hz hl
      dsimp only at e ⊢
      rw [e]
      dsimp only
      rw [lastC, cstep_part]
      rfl
    · have e := outsAt0_B m c ⟨n + 1, h⟩ hz hl
      dsimp only at e ⊢
      rw [e]
      dsimp only
      rw [nextC, cstep_part]
      rfl

/-- The columns' sums. -/
theorem carr (p : Fin 1) (k : Fin 1536) :
    ((dats m 0 c).arrAt 3 cfg0.N (ix2 p k) : EReal) = ∑ s ∈ Finset.range 8192, at2 (y0 m c) s k.val := by
  have hp := p.isLt
  have hk := k.isLt
  have hN : cfg0.N = 32 := N_0
  rw [Cert.Kernel9Ideal.Value.final3]
  have hb : Cert.Kernel9Ideal.Value.pt3Of (ix2 p k) = 16 * (k.val / 768) + 15 := by
    show 16 * (2 * (p.val / 1 - 0) + 1 * (k.val / 768 - 0)) + 15 = _
    omega
  unfold Cert.Kernel9Ideal.Value.G3
  rw [dif_pos (by rw [hb, hN]; omega), ← Cert.Kernel9Ideal.Value.outsAt0_sweep m c _ (by rw [hb, hN]; omega)]
  have e := cacc m c p ⟨k.val % 768, by omega⟩ (16 * (k.val / 768) + 15) (by rw [hN]; omega)
  dsimp only at e
  have hl : Cert.Kernel9Ideal.Value.loc3Of (ix2 p k) = ix2 p ⟨k.val % 768, by omega⟩ := by
    funext a
    apply Fin.ext
    match a with
    | ⟨0, _⟩ => show p.val % 1 = p.val; omega
    | ⟨1, _⟩ => rfl
  have ec : ∀ (a b : ℕ) (ha : a < cfg0.N) (hb : b < cfg0.N), a = b → outsAt0 m c a ha = outsAt0 m c b hb := by
    intro a b ha hb h; subst h; rfl
  rw [hl, ec _ _ _ (by rw [hN]; omega) hb]
  refine e.trans ?_
  rw [show (16 * (k.val / 768) + 15) % 16 = 15 by omega]
  unfold cpart
  refine Eq.trans ?_ (range_tiles 512 (fun s => at2 (y0 m c) s k.val) 16)
  refine Finset.sum_congr rfl fun j hj => ?_
  have hj' := Finset.mem_range.mp hj
  rw [show (16 * ((16 * (k.val / 768) + 15) / 16) + j) % 16 = j by omega, show (16 * ((16 * (k.val / 768) + 15) / 16) + j) / 16 = (k.val / 768) by omega,
    show 768 * (k.val / 768) + k.val % 768 = k.val by omega]

theorem cref_at (y : FVec Ideal S8192x1536 .f32) (p : Fin 1) (k : Fin 1536) :
    (Cert.Reference9Ideal.Read.val_main_v13 (F := Ideal) y (ix2 p k) : EReal) = ∑ s ∈ Finset.range 8192, at2 y s k.val := by
  have hs : ∀ k : Fin 1536, (Cert.Reference9Ideal.Read.val_main_v7 (F := Ideal) y (ix1 k) : EReal) = ∑ s ∈ Finset.range 8192, at2 y s k.val := by
    intro k
    rw [← sum_fin 8192 (fun s => at2 y s k.val)]
    simp only [at2_val]
    unfold Cert.Reference9Ideal.Read.val_main_v7 Cert.Reference9Ideal.Read.val_main_cst_1
    pointwise
    try simp [Ideal.ofBits, Ideal.ieee]
  rw [← hs]
  unfold Cert.Reference9Ideal.Read.val_main_v13 Cert.Reference9Ideal.Read.val_main_v9 Cert.Reference9Ideal.Read.val_main_v8 Cert.Reference9Ideal.Read.val_main_cst_2
  generalize Cert.Reference9Ideal.Read.val_main_v7 (F := Ideal) y = w
  pointwise
  try simp [Ideal.ofBits, Ideal.ieee]

theorem cequal : ((dats m 0 c).arrAt 3 cfg0.N : FVec Ideal S1x1536 .f32) = Cert.Reference9Ideal.Read.val_main_v13 (F := Ideal) (y0 m c) := by
  funext i
  rw [eq_ix2 i]
  exact (carr m c (i 0) (i 1)).trans (cref_at _ _ _).symm

end Cert.Proof.Prod.DwIn
-- ==== Proof.Prod.InProj.lean ====
module

public import proofs.«01_k».proof.Proof.Gen.Kernel10Ideal.Value
public import proofs.«01_k».proof.Proof.Gen.Reference10Ideal.Read
public import proofs.«01_k».proof.Proof.Prod.Tile
public import Idealize.ShloMosaic.Lib.StableHlo.RunRead

/-! The input projection of the forward pass, with its bias. -/

@[expose] public section

noncomputable section

open Idealize.ShloMosaic Idealize.ShloMosaic.TcCoe Idealize.SL.Sem
open Cert.Kernel10Ideal Cert.Kernel10Ideal.Gen

namespace Cert.Proof.Prod.InProj

theorem tile_at (x : Vec Ideal S1024x1024 .f32) (y : Vec Ideal S1024x768 .bf16) (z : Vec Ideal S1x768 .f32) (r : Fin 1024) (k : Fin 768) :
    (k0_pay3 (F := Ideal) (k0_pay2 (F := Ideal) (k0_pay1 (F := Ideal)) x y) z (ix2 r k) : EReal) = ∑ t : Fin 1024, x (ix2 r t) * y (ix2 t k) + z (ix2 (0 : Fin 1) k) := by
  unfold k0_pay3 k0_pay2 k0_pay1
  pointwise
  try simp [Ideal.ofBits, Ideal.ieee]

section Cases

variable (c : Dev nD) (i : grid0.Coords) (a3 : Memref sig .tc .vmem S1024x1024 .f32) (h3 : a3.IsWhole)
  (a4 : Memref sig .tc .vmem S1024x768 .bf16) (h4 : a4.IsWhole)
  (a5 : Memref sig .tc .vmem S1x768 .f32) (h5 : a5.IsWhole)
  (a6 : Memref sig .tc .vmem S1024x768 .f32) (h6 : a6.IsWhole) (a7 : Memref sig .tc .vmem S1024x768 .f32) (h7 : a7.IsWhole)
  (x : Vec Ideal S1024x1024 .f32) (y : Vec Ideal S1024x768 .bf16) (z : Vec Ideal S1x768 .f32)

theorem tileO (hc0 : cond0_0 i) (hc1 : cond0_1 i) :
    out0_A_3 c i a3 h3 a4 h4 a5 h5 a6 h6 a7 h7 hc0 hc1 x y z = k0_pay3 (F := Ideal) (k0_pay2 (F := Ideal) (k0_pay1 (F := Ideal)) x y) z := by
  unfold out0_A_3
  rw [View.read_writes_eq_canon _ _ _ (cover0_A_3 c i a3 h3 a4 h4 a5 h5 a6 h6 a7 h7 hc0 hc1 x y z)]
  unfold kernelRun0_A
  dsimp only
  sl_unfold_words
  rw [View.canon_unit_zero (S := S1024x768) zero2]
  simp only [View.readCov_cons_toLoadRect, View.readCov_unit_zero (S := S1024x768) _ zero2, View.readAt_eq_ld, h3.read_unread, h4.read_unread, h5.read_unread,
    View.ld_unit_zero (S := S1024x1024) zero2, View.ld_unit_zero (S := S1024x768) zero2, View.ld_unit_zero (S := S1x768) zero2]

end Cases

variable (m : (ℓ : Loc nD τ sig) → Buf (Elt Ideal) ℓ) (c : Dev nD)

/-- The operands as launched. -/
abbrev x0 : FVec Ideal S8192x1024 .f32 := m ((c : Thread nD τ).loc main_arg0)
abbrev y0 : FVec Ideal S1024x1536 .f32 := m ((c : Thread nD τ).loc main_arg1)
abbrev z0 : FVec Ideal S1536 .f32 := m ((c : Thread nD τ).loc main_arg2)

theorem V_v0 : (V m c main_v0 : FVec Ideal S1024x1536 .bf16) = truncf .bf16 (y0 m c) bitsLt_bf16_f32 := by
  after_reads_simp

theorem V_v1 (p : Fin 1) (k : Fin 1536) : ((V m c main_v1 : FVec Ideal S1x1536 .f32) (ix2 p k) : EReal) = z0 m c (ix1 k) := by
  have e : (V m c main_v1 : FVec Ideal S1x1536 .f32) = shapeCast S1x1536 (z0 m c) shapeCasts_S1536_S1x1536 := by
    after_reads_simp
    rfl
  rw [e]
  pointwise

theorem blk0 (t : Fin cfg0.N) (r : Fin 1024) (k : Fin 1024) :
    ((iblk m c 0 t : FVec Ideal S1024x1024 .f32) (ix2 r k) : EReal) = at2 (x0 m c) (1024 * (t.val / 2) + r.val) k.val := by
  have hi : win0_0.index t 0 = t.val / 2 ∧ win0_0.index t 1 = 0 := by revert t; decide +kernel
  have hr := r.isLt
  have ht : t.val < 16 := lt_of_lt_of_eq t.isLt N_0
  rw [← at2_mk (x0 m c) (show 1024 * (t.val / 2) + r.val < 8192 by omega) k.isLt]
  unfold iblk
  rw [View.read_apply]
  show V m c main_arg0 _ = x0 m c _
  rw [V_main_arg0]
  congr 1
  funext a
  apply Fin.ext
  match a with
  | ⟨0, _⟩ => show win0_0.index t 0 * 1024 + 1 * r.val = 1024 * (t.val / 2) + r.val; rw [hi.1]; omega
  | ⟨1, _⟩ => show win0_0.index t 1 * 1024 + 1 * k.val = k.val; rw [hi.2]; omega

theorem blk1 (t : Fin cfg0.N) (r : Fin 1024) (k : Fin 768) :
    ((iblk m c 1 t : FVec Ideal S1024x768 .bf16) (ix2 r k) : EReal) = at2 (y0 m c) r.val (768 * (t.val % 2) + k.val) := by
  have hi : win0_1.index t 0 = 0 ∧ win0_1.index t 1 = t.val % 2 := by revert t; decide +kernel
  have hk := k.isLt
  rw [← at2_mk (y0 m c) r.isLt (show 768 * (t.val % 2) + k.val < 1536 by omega)]
  unfold iblk
  rw [View.read_apply]
  show V m c main_v0 _ = y0 m c _
  rw [V_v0]
  show y0 m c _ = y0 m c _
  congr 1
  funext a
  apply Fin.ext
  match a with
  | ⟨0, _⟩ => show win0_1.index t 0 * 1024 + 1 * r.val = r.val; rw [hi.1]; omega
  | ⟨1, _⟩ => show win0_1.index t 1 * 768 + 1 * k.val = 768 * (t.val % 2) + k.val; rw [hi.2]; omega

theorem blk2 (t : Fin cfg0.N) (p : Fin 1) (k : Fin 768) :
    ((iblk m c 2 t : FVec Ideal S1x768 .f32) (ix2 p k) : EReal) = at1 (z0 m c) (768 * (t.val % 2) + k.val) := by
  have hi : win0_2.index t 0 = 0 ∧ win0_2.index t 1 = t.val % 2 := by revert t; decide +kernel
  have hk := k.isLt
  have hp := p.isLt
  rw [← at1_mk (z0 m c) (show 768 * (t.val % 2) + k.val < 1536 by omega), ← V_v1 m c p]
  unfold iblk
  rw [View.read_apply]
  show V m c main_v1 _ = V m c main_v1 _
  congr 1
  funext a
  apply Fin.ext
  match a with
  | ⟨0, _⟩ => show win0_2.index t 0 * 1 + 1 * p.val = p.val; rw [hi.1]; omega
  | ⟨1, _⟩ => show win0_2.index t 1 * 768 + 1 * k.val = 768 * (t.val % 2) + k.val; rw [hi.2]; omega

theorem out_at (t : Fin cfg0.N) (r : Fin 1024) (k : Fin 768) :
    ((outsAt0 m c t : FVec Ideal S1024x768 .f32) (ix2 r k) : EReal)
      = (∑ s ∈ Finset.range 1024, at2 (x0 m c) (1024 * (t.val / 2) + r.val) s * at2 (y0 m c) s (768 * (t.val % 2) + k.val)) + at1 (z0 m c) (768 * (t.val % 2) + k.val) := by
  unfold outsAt0
  rw [tileO, tile_at, ← sum_fin 1024 (fun s => at2 (x0 m c) (1024 * (t.val / 2) + r.val) s * at2 (y0 m c) s (768 * (t.val % 2) + k.val))]
  exact congrArg₂ (· + ·) (Finset.sum_congr rfl fun u _ => congrArg₂ (· * ·) (blk0 m c t r u) (blk1 m c t u k)) (blk2 m c t 0 k)

/-- The reference's array. -/
theorem ref_at (x : FVec Ideal S8192x1024 .f32) (y : FVec Ideal S1024x1536 .f32) (z : FVec Ideal S1536 .f32) (r : Fin 8192) (k : Fin 1536) :
    (Cert.Reference10Ideal.Read.val_main_v3 (F := Ideal) x y z (ix2 r k) : EReal)
      = (∑ s ∈ Finset.range 1024, at2 x r.val s * at2 y s k.val) + at1 z k.val := by
  rw [Cert.Reference10Ideal.Read.val_main_v3_apply, Cert.Reference10Ideal.Read.val_main_v0_apply,
    Cert.Reference10Ideal.Read.val_main_v2_apply, Cert.Reference10Ideal.Read.val_main_v1_apply]
  refine congrArg₂ (· + ·) ?_ ((congrArg z (eq_ix1 _)).trans (at1_val z k).symm)
  rw [← sum_fin 1024 (fun s => at2 x r.val s * at2 y s k.val)]
  refine Finset.sum_congr rfl fun s _ => ?_
  rw [at2_val, at2_val]
  congr 1
  · exact congrArg x (Shape.idx_ext₂ rfl rfl)
  · exact congrArg y (Shape.idx_ext₂ rfl rfl)

/-- The result array. -/
theorem arr (r : Fin 8192) (k : Fin 1536) :
    ((dats m 0 c).arrAt 3 cfg0.N (ix2 r k) : EReal) = (∑ s ∈ Finset.range 1024, at2 (x0 m c) r.val s * at2 (y0 m c) s k.val) + at1 (z0 m c) k.val := by
  have hr := r.isLt
  have hk := k.isLt
  have hN : cfg0.N = 16 := N_0
  have ht : 2 * (r.val / 1024) + k.val / 768 < cfg0.N := by rw [hN]; omega
  have hi : ∀ t : Fin cfg0.N, win0_3.index t 0 = t.val / 2 ∧ win0_3.index t 1 = t.val % 2 := by decide +kernel
  have hi' := hi ⟨_, ht⟩
  have e := congrFun (Cert.Kernel10Ideal.Value.blocks3 m c ⟨_, ht⟩ (flush0_3 ⟨_, ht⟩))
    (ix2 (⟨r.val % 1024, by omega⟩ : Fin 1024) (⟨k.val % 768, by omega⟩ : Fin 768))
  rw [View.read_apply, Cert.Kernel10Ideal.Value.flushed3] at e
  have eo := out_at m c ⟨_, ht⟩ ⟨r.val % 1024, by omega⟩ ⟨k.val % 768, by omega⟩
  dsimp only at eo
  rw [show 1024 * ((2 * (r.val / 1024) + k.val / 768) / 2) + r.val % 1024 = r.val by omega,
    show 768 * ((2 * (r.val / 1024) + k.val / 768) % 2) + k.val % 768 = k.val by omega] at eo
  refine Eq.trans ?_ (e.trans eo)
  refine congrArg ((dats m 0 c).arrAt 3 cfg0.N) ?_
  funext a
  apply Fin.ext
  match a with
  | ⟨0, _⟩ =>
    show r.val = win0_3.index ⟨_, ht⟩ 0 * 1024 + 1 * (r.val % 1024)
    rw [hi'.1]; dsimp only; omega
  | ⟨1, _⟩ =>
    show k.val = win0_3.index ⟨_, ht⟩ 1 * 768 + 1 * (k.val % 768)
    rw [hi'.2]; try dsimp only
    omega

theorem equal : ((dats m 0 c).arrAt 3 cfg0.N : FVec Ideal S8192x1536 .f32) = Cert.Reference10Ideal.Read.val_main_v3 (F := Ideal) (x0 m c) (y0 m c) (z0 m c) := by
  funext i
  rw [eq_ix2 i]
  exact (arr m c (i 0) (i 1)).trans (ref_at _ _ _ _ _).symm

end Cert.Proof.Prod.InProj
-- ==== Proof.Prod.Dxs.lean ====
module

public import proofs.«01_k».proof.Proof.Gen.Kernel11Ideal.Value
public import proofs.«01_k».proof.Proof.Gen.Reference11Ideal.Read
public import proofs.«01_k».proof.Proof.Prod.Tile
public import Idealize.ShloMosaic.Lib.StableHlo.RunRead

/-! The gradient of a layer's input: a product with the input projection's weights, transposed, and the residual's part. -/

@[expose] public section

noncomputable section

open Idealize.ShloMosaic Idealize.ShloMosaic.TcCoe Idealize.SL.Sem
open Cert.Kernel11Ideal Cert.Kernel11Ideal.Gen

namespace Cert.Proof.Prod.Dxs

/-- The residual's factor. -/
abbrev alpha : EReal := FloatOps.ofBits (F := Ideal) .f32 0x3FB504F3#32

theorem tile_at (x : Vec Ideal S1024x1536 .f32) (y : Vec Ideal S1024x1536 .bf16) (z : Vec Ideal S1024x1024 .f32) (r : Fin 1024) (k : Fin 1024) :
    (k0_pay3 (F := Ideal) (k0_pay2 (F := Ideal) (k0_pay1 (F := Ideal)) x y) z (ix2 r k) : EReal) = ∑ t : Fin 1536, x (ix2 r t) * y (ix2 k t) + alpha * z (ix2 r k) := by
  unfold k0_pay3 k0_pay2 k0_pay1
  pointwise
  try simp [Ideal.ofBits, Ideal.ieee]

section Cases

variable (c : Dev nD) (i : grid0.Coords) (a3 : Memref sig .tc .vmem S1024x1536 .f32) (h3 : a3.IsWhole)
  (a4 : Memref sig .tc .vmem S1024x1536 .bf16) (h4 : a4.IsWhole)
  (a5 : Memref sig .tc .vmem S1024x1024 .f32) (h5 : a5.IsWhole)
  (a6 : Memref sig .tc .vmem S1024x1024 .f32) (h6 : a6.IsWhole) (a7 : Memref sig .tc .vmem S1024x1024 .f32) (h7 : a7.IsWhole)
  (x : Vec Ideal S1024x1536 .f32) (y : Vec Ideal S1024x1536 .bf16) (z : Vec Ideal S1024x1024 .f32)

theorem tileO (hc0 : cond0_0 i) (hc1 : cond0_1 i) :
    out0_A_3 c i a3 h3 a4 h4 a5 h5 a6 h6 a7 h7 hc0 hc1 x y z = k0_pay3 (F := Ideal) (k0_pay2 (F := Ideal) (k0_pay1 (F := Ideal)) x y) z := by
  unfold out0_A_3
  rw [View.read_writes_eq_canon _ _ _ (cover0_A_3 c i a3 h3 a4 h4 a5 h5 a6 h6 a7 h7 hc0 hc1 x y z)]
  unfold kernelRun0_A
  dsimp only
  sl_unfold_words
  rw [View.canon_unit_zero (S := S1024x1024) zero2]
  simp only [View.readCov_cons_toLoadRect, View.readCov_unit_zero (S := S1024x1024) _ zero2, View.readAt_eq_ld, h3.read_unread, h4.read_unread, h5.read_unread,
    View.ld_unit_zero (S := S1024x1536) zero2, View.ld_unit_zero (S := S1024x1024) zero2]

end Cases

variable (m : (ℓ : Loc nD τ sig) → Buf (Elt Ideal) ℓ) (c : Dev nD)

/-- The operands as launched. -/
abbrev x0 : FVec Ideal S8192x1536 .f32 := m ((c : Thread nD τ).loc main_arg0)
abbrev y0 : FVec Ideal S1024x1536 .f32 := m ((c : Thread nD τ).loc main_arg1)
abbrev z0 : FVec Ideal S8192x1024 .f32 := m ((c : Thread nD τ).loc main_arg2)

theorem V_v0 : (V m c main_v0 : FVec Ideal S1024x1536 .bf16) = truncf .bf16 (y0 m c) bitsLt_bf16_f32 := by
  after_reads_simp

theorem blk0 (t : Fin cfg0.N) (r : Fin 1024) (k : Fin 1536) :
    ((iblk m c 0 t : FVec Ideal S1024x1536 .f32) (ix2 r k) : EReal) = at2 (x0 m c) (1024 * t.val + r.val) k.val := by
  have hi : win0_0.index t 0 = t.val ∧ win0_0.index t 1 = 0 := by revert t; decide +kernel
  have hr := r.isLt
  have ht : t.val < 8 := lt_of_lt_of_eq t.isLt N_0
  rw [← at2_mk (x0 m c) (show 1024 * t.val + r.val < 8192 by omega) k.isLt]
  unfold iblk
  rw [View.read_apply]
  show V m c main_arg0 _ = x0 m c _
  rw [V_main_arg0]
  congr 1
  funext a
  apply Fin.ext
  match a with
  | ⟨0, _⟩ => show win0_0.index t 0 * 1024 + 1 * r.val = 1024 * t.val + r.val; rw [hi.1]; omega
  | ⟨1, _⟩ => show win0_0.index t 1 * 1536 + 1 * k.val = k.val; rw [hi.2]; omega

theorem blk1 (t : Fin cfg0.N) (k : Fin 1024) (r : Fin 1536) :
    ((iblk m c 1 t : FVec Ideal S1024x1536 .bf16) (ix2 k r) : EReal) = at2 (y0 m c) (k.val) r.val := by
  have hi : win0_1.index t 0 = 0 ∧ win0_1.index t 1 = 0 := by revert t; decide +kernel
  have hk := k.isLt
  rw [← at2_mk (y0 m c) (show k.val < 1024 by omega) r.isLt]
  unfold iblk
  rw [View.read_apply]
  show V m c main_v0 _ = y0 m c _
  rw [V_v0]
  show y0 m c _ = y0 m c _
  congr 1
  funext a
  apply Fin.ext
  match a with
  | ⟨0, _⟩ => show win0_1.index t 0 * 1024 + 1 * k.val = k.val; rw [hi.1]; omega
  | ⟨1, _⟩ => show win0_1.index t 1 * 1536 + 1 * r.val = r.val; rw [hi.2]; omega

theorem blk2 (t : Fin cfg0.N) (r : Fin 1024) (k : Fin 1024) :
    ((iblk m c 2 t : FVec Ideal S1024x1024 .f32) (ix2 r k) : EReal) = at2 (z0 m c) (1024 * t.val + r.val) (k.val) := by
  have hi : win0_2.index t 0 = t.val ∧ win0_2.index t 1 = 0 := by revert t; decide +kernel
  have hr := r.isLt
  have hk := k.isLt
  have ht : t.val < 8 := lt_of_lt_of_eq t.isLt N_0
  rw [← at2_mk (z0 m c) (show 1024 * t.val + r.val < 8192 by omega) (show k.val < 1024 by omega)]
  unfold iblk
  rw [View.read_apply]
  show V m c main_arg2 _ = z0 m c _
  rw [V_main_arg2]
  congr 1
  funext a
  apply Fin.ext
  match a with
  | ⟨0, _⟩ => show win0_2.index t 0 * 1024 + 1 * r.val = 1024 * t.val + r.val; rw [hi.1]; omega
  | ⟨1, _⟩ => show win0_2.index t 1 * 1024 + 1 * k.val = k.val; rw [hi.2]; omega

theorem out_at (t : Fin cfg0.N) (r : Fin 1024) (k : Fin 1024) :
    ((outsAt0 m c t : FVec Ideal S1024x1024 .f32) (ix2 r k) : EReal)
      = (∑ s ∈ Finset.range 1536, at2 (x0 m c) (1024 * t.val + r.val) s * at2 (y0 m c) (k.val) s) + alpha * at2 (z0 m c) (1024 * t.val + r.val) (k.val) := by
  unfold outsAt0
  rw [tileO, tile_at, ← sum_fin 1536 (fun s => at2 (x0 m c) (1024 * t.val + r.val) s * at2 (y0 m c) (k.val) s)]
  exact congrArg₂ (· + ·) (Finset.sum_congr rfl fun u _ => congrArg₂ (· * ·) (blk0 m c t r u) (blk1 m c t k u)) (congrArg (alpha * ·) (blk2 m c t r k))

/-- The reference's array. -/
theorem ref_at (x : FVec Ideal S8192x1536 .f32) (y : FVec Ideal S1024x1536 .f32) (z : FVec Ideal S8192x1024 .f32) (r : Fin 8192) (k : Fin 1024) :
    (Cert.Reference11Ideal.Read.val_main_v7 (F := Ideal) x y z (ix2 r k) : EReal)
      = (∑ s ∈ Finset.range 1536, at2 x r.val s * at2 y k.val s) + alpha * at2 z r.val k.val := by
  rw [Cert.Reference11Ideal.Read.val_main_v7_apply, Cert.Reference11Ideal.Read.val_main_v5_apply, Cert.Reference11Ideal.Read.val_main_v4_apply,
    Cert.Reference11Ideal.Read.val_main_cst_1_apply, Cert.Reference11Ideal.Read.val_main_v6_apply]
  refine (add_comm _ _).trans (congrArg₂ (· + ·) ?_ (congrArg (alpha * ·) (at2_val z r k).symm))
  rw [← sum_fin 1536 (fun s => at2 x r.val s * at2 y k.val s)]
  refine Finset.sum_congr rfl fun s _ => ?_
  rw [at2_val, at2_val]
  congr 1
  · exact congrArg x (Shape.idx_ext₂ rfl rfl)
  · exact congrArg y (Shape.idx_ext₂ rfl rfl)

/-- The result array. -/
theorem arr (r : Fin 8192) (k : Fin 1024) :
    ((dats m 0 c).arrAt 3 cfg0.N (ix2 r k) : EReal) = (∑ s ∈ Finset.range 1536, at2 (x0 m c) r.val s * at2 (y0 m c) k.val s) + alpha * at2 (z0 m c) r.val k.val := by
  have hr := r.isLt
  have hk := k.isLt
  have hN : cfg0.N = 8 := N_0
  have ht : r.val / 1024 < cfg0.N := by rw [hN]; omega
  have hi : ∀ t : Fin cfg0.N, win0_3.index t 0 = t.val ∧ win0_3.index t 1 = 0 := by decide +kernel
  have hi' := hi ⟨_, ht⟩
  have e := congrFun (Cert.Kernel11Ideal.Value.blocks3 m c ⟨_, ht⟩ (flush0_3 ⟨_, ht⟩))
    (ix2 (⟨r.val % 1024, by omega⟩ : Fin 1024) (⟨k.val, by omega⟩ : Fin 1024))
  rw [View.read_apply, Cert.Kernel11Ideal.Value.flushed3] at e
  have eo := out_at m c ⟨_, ht⟩ ⟨r.val % 1024, by omega⟩ ⟨k.val, by omega⟩
  dsimp only at eo
  rw [show 1024 * (r.val / 1024) + r.val % 1024 = r.val by omega] at eo
  refine Eq.trans ?_ (e.trans eo)
  refine congrArg ((dats m 0 c).arrAt 3 cfg0.N) ?_
  funext a
  apply Fin.ext
  match a with
  | ⟨0, _⟩ =>
    show r.val = win0_3.index ⟨_, ht⟩ 0 * 1024 + 1 * (r.val % 1024)
    rw [hi'.1]; dsimp only; omega
  | ⟨1, _⟩ =>
    show k.val = win0_3.index ⟨_, ht⟩ 1 * 1024 + 1 * (k.val)
    rw [hi'.2]; try dsimp only
    omega

theorem equal : ((dats m 0 c).arrAt 3 cfg0.N : FVec Ideal S8192x1024 .f32) = Cert.Reference11Ideal.Read.val_main_v7 (F := Ideal) (x0 m c) (y0 m c) (z0 m c) := by
  funext i
  rw [eq_ix2 i]
  exact (arr m c (i 0) (i 1)).trans (ref_at _ _ _ _ _).symm

end Cert.Proof.Prod.Dxs
-- ==== Proof.Prod.OutProj.lean ====
module

public import proofs.«01_k».proof.Proof.Gen.Kernel12Ideal.Value
public import proofs.«01_k».proof.Proof.Gen.Reference12Ideal.Read
public import proofs.«01_k».proof.Proof.Prod.Tile
public import proofs.«01_k».proof.Proof.Prod.Norm
public import Idealize.ShloMosaic.Lib.StableHlo.RunRead

/-! The output projection with its bias and the residual, and the normalisation of the rows: the two arrays of the call. -/

@[expose] public section

noncomputable section

open Idealize.ShloMosaic Idealize.ShloMosaic.TcCoe Idealize.SL.Sem

namespace Cert.Proof.Prod.OutProj

/-- The residual's factor. -/
abbrev alpha : EReal := FloatOps.ofBits (F := Ideal) .f32 0x3FB504F3#32

namespace Run

open Cert.Kernel12Ideal Cert.Kernel12Ideal.Gen

theorem row_at (x y : Vec Ideal S1024x1024 .bf16) (b : Vec Ideal S1x1024 .f32) (z : Vec Ideal S1024x1024 .f32) (r k : Fin 1024) :
    (k0_pay3 (F := Ideal) (k0_pay2 (F := Ideal) (k0_pay1 (F := Ideal)) x y) b z (ix2 r k) : EReal)
      = (∑ t : Fin 1024, x (ix2 r t) * y (ix2 t k)) + b (ix2 (0 : Fin 1) k) + alpha * z (ix2 r k) := by
  unfold k0_pay3 k0_pay2 k0_pay1
  pointwise
  try simp [Ideal.ofBits, Ideal.ieee]

theorem norm_at (s : Vec Ideal S1024x1024 .f32) (b : Vec Ideal S1x1024 .f32) (z : Vec Ideal S1024x1024 .f32) (g h : Vec Ideal S1x1024 .f32) (r k : Fin 1024) :
    (k0_pay4 (F := Ideal) s b z g h (ix2 r k) : EReal)
      = nrm (fun j => k0_pay3 (F := Ideal) s b z (ix2 r j)) k * g (ix2 (0 : Fin 1) k) + h (ix2 (0 : Fin 1) k) := by
  unfold k0_pay4 nrm rst dev cen mean
  generalize k0_pay3 (F := Ideal) s b z = w
  pointwise

section Cases

variable (c : Dev nD) (i : grid0.Coords)
  (a3 : Memref sig .tc .vmem S1024x1024 .bf16) (h3 : a3.IsWhole)
  (a4 : Memref sig .tc .vmem S1024x1024 .bf16) (h4 : a4.IsWhole)
  (a5 : Memref sig .tc .vmem S1x1024 .f32) (h5 : a5.IsWhole)
  (a6 : Memref sig .tc .vmem S1024x1024 .f32) (h6 : a6.IsWhole)
  (a7 : Memref sig .tc .vmem S1x1024 .f32) (h7 : a7.IsWhole)
  (a8 : Memref sig .tc .vmem S1x1024 .f32) (h8 : a8.IsWhole)
  (a9 : Memref sig .tc .vmem S1024x1024 .f32) (h9 : a9.IsWhole)
  (a10 : Memref sig .tc .vmem S1024x1024 .f32) (h10 : a10.IsWhole)
  (a11 : Memref sig .tc .vmem S1024x1024 .f32) (h11 : a11.IsWhole)
  (x y : Vec Ideal S1024x1024 .bf16) (b : Vec Ideal S1x1024 .f32) (z : Vec Ideal S1024x1024 .f32) (g h : Vec Ideal S1x1024 .f32)

theorem out6 (hc0 : cond0_0 i) (hc1 : cond0_1 i) :
    out0_A_6 c i a3 h3 a4 h4 a5 h5 a6 h6 a7 h7 a8 h8 a9 h9 a10 h10 a11 h11 hc0 hc1 x y b z g h = k0_pay3 (F := Ideal) (k0_pay2 (F := Ideal) (k0_pay1 (F := Ideal)) x y) b z := by
  unfold out0_A_6
  rw [View.read_writes_eq_canon _ _ _ (cover0_A_6 c i a3 h3 a4 h4 a5 h5 a6 h6 a7 h7 a8 h8 a9 h9 a10 h10 a11 h11 hc0 hc1 x y b z g h)]
  unfold kernelRun0_A
  dsimp only
  sl_unfold_words
  rw [View.canon_unit_zero (S := S1024x1024) zero2]
  simp only [View.readCov_cons_toLoadRect, View.readCov_unit_zero (S := S1024x1024) _ zero2, View.readAt_eq_ld,
    h3.read_unread, h4.read_unread, h5.read_unread, h6.read_unread, h7.read_unread, h8.read_unread,
    View.ld_unit_zero (S := S1024x1024) zero2, View.ld_unit_zero (S := S1x1024) zero2]

theorem out7 (hc0 : cond0_0 i) (hc1 : cond0_1 i) :
    out0_A_7 c i a3 h3 a4 h4 a5 h5 a6 h6 a7 h7 a8 h8 a9 h9 a10 h10 a11 h11 hc0 hc1 x y b z g h = k0_pay4 (F := Ideal) (k0_pay2 (F := Ideal) (k0_pay1 (F := Ideal)) x y) b z g h := by
  unfold out0_A_7
  rw [View.read_writes_eq_canon _ _ _ (cover0_A_7 c i a3 h3 a4 h4 a5 h5 a6 h6 a7 h7 a8 h8 a9 h9 a10 h10 a11 h11 hc0 hc1 x y b z g h)]
  unfold kernelRun0_A
  dsimp only
  sl_unfold_words
  rw [View.canon_unit_zero (S := S1024x1024) zero2]
  simp only [View.readCov_cons_toLoadRect, View.readCov_unit_zero (S := S1024x1024) _ zero2, View.readAt_eq_ld,
    h3.read_unread, h4.read_unread, h5.read_unread, h6.read_unread, h7.read_unread, h8.read_unread,
    View.ld_unit_zero (S := S1024x1024) zero2, View.ld_unit_zero (S := S1x1024) zero2]

end Cases

variable (m : (ℓ : Loc nD τ sig) → Buf (Elt Ideal) ℓ) (c : Dev nD)

/-- The operands as launched. -/
abbrev x0 : FVec Ideal S8192x1024 .f32 := m ((c : Thread nD τ).loc main_arg0)
abbrev y0 : FVec Ideal S1024x1024 .f32 := m ((c : Thread nD τ).loc main_arg1)
abbrev b0 : FVec Ideal S1024 .f32 := m ((c : Thread nD τ).loc main_arg2)
abbrev z0 : FVec Ideal S8192x1024 .f32 := m ((c : Thread nD τ).loc main_arg3)
abbrev g0 : FVec Ideal S1024 .f32 := m ((c : Thread nD τ).loc main_arg4)
abbrev h0 : FVec Ideal S1024 .f32 := m ((c : Thread nD τ).loc main_arg5)

theorem V_v0 : (V m c main_v0 : FVec Ideal S8192x1024 .bf16) = truncf .bf16 (x0 m c) bitsLt_bf16_f32 := by
  after_reads_simp

theorem V_v1 : (V m c main_v1 : FVec Ideal S1024x1024 .bf16) = truncf .bf16 (y0 m c) bitsLt_bf16_f32 := by
  after_reads_simp

theorem V_v2 : (V m c main_v2 : FVec Ideal S1x1024 .f32) = shapeCast S1x1024 (b0 m c) shapeCasts_S1024_S1x1024 := by
  after_reads_simp
  rfl

theorem V_v3 : (V m c main_v3 : FVec Ideal S1x1024 .f32) = shapeCast S1x1024 (g0 m c) shapeCasts_S1024_S1x1024 := by
  after_reads_simp
  rfl

theorem V_v4 : (V m c main_v4 : FVec Ideal S1x1024 .f32) = shapeCast S1x1024 (h0 m c) shapeCasts_S1024_S1x1024 := by
  after_reads_simp
  rfl

theorem blk0 (t : Fin cfg0.N) (r : Fin 1024) (k : Fin 1024) :
    ((iblk m c 0 t : FVec Ideal S1024x1024 .bf16) (ix2 r k) : EReal) = at2 (x0 m c) (1024 * (t.val) + r.val) k.val := by
  have hi : win0_0.index t 0 = t.val ∧ win0_0.index t 1 = 0 := by revert t; decide +kernel
  have hr := r.isLt
  have hk := k.isLt
  have ht : t.val < 8 := lt_of_lt_of_eq t.isLt N_0
  rw [← at2_mk (x0 m c) (show 1024 * (t.val) + r.val < 8192 by omega) k.isLt]
  unfold iblk
  rw [View.read_apply]
  show V m c main_v0 _ = x0 m c _
  rw [V_v0]
  show x0 m c _ = x0 m c _
  congr 1
  funext a
  apply Fin.ext
  match a with
  | ⟨0, _⟩ => show win0_0.index t 0 * 1024 + 1 * r.val = 1024 * (t.val) + r.val; rw [hi.1]; omega
  | ⟨1, _⟩ => show win0_0.index t 1 * 1024 + 1 * k.val = k.val; rw [hi.2]; omega

theorem blk1 (t : Fin cfg0.N) (r : Fin 1024) (k : Fin 1024) :
    ((iblk m c 1 t : FVec Ideal S1024x1024 .bf16) (ix2 r k) : EReal) = at2 (y0 m c) r.val k.val := by
  have hi : win0_1.index t 0 = 0 ∧ win0_1.index t 1 = 0 := by revert t; decide +kernel
  have hr := r.isLt
  have hk := k.isLt
  have ht : t.val < 8 := lt_of_lt_of_eq t.isLt N_0
  rw [← at2_mk (y0 m c) r.isLt k.isLt]
  unfold iblk
  rw [View.read_apply]
  show V m c main_v1 _ = y0 m c _
  rw [V_v1]
  show y0 m c _ = y0 m c _
  congr 1
  funext a
  apply Fin.ext
  match a with
  | ⟨0, _⟩ => show win0_1.index t 0 * 1024 + 1 * r.val = r.val; rw [hi.1]; omega
  | ⟨1, _⟩ => show win0_1.index t 1 * 1024 + 1 * k.val = k.val; rw [hi.2]; omega

theorem blk2 (t : Fin cfg0.N) (p : Fin 1) (k : Fin 1024) :
    ((iblk m c 2 t : FVec Ideal S1x1024 .f32) (ix2 p k) : EReal) = b0 m c (ix1 k) := by
  have hi : win0_2.index t 0 = 0 ∧ win0_2.index t 1 = 0 := by revert t; decide +kernel
  have hp := p.isLt
  unfold iblk
  rw [View.read_apply]
  show V m c main_v2 _ = b0 m c _
  rw [V_v2]
  refine Eq.trans (congrArg (shapeCast S1x1024 (b0 m c) shapeCasts_S1024_S1x1024) (?_ : _ = ix2 p k)) ?_
  · funext a
    apply Fin.ext
    match a with
    | ⟨0, _⟩ => show win0_2.index t 0 * 1 + 1 * p.val = p.val; rw [hi.1]; omega
    | ⟨1, _⟩ => show win0_2.index t 1 * 1024 + 1 * k.val = k.val; rw [hi.2]; omega
  · generalize b0 m c = v
    pointwise

theorem blk3 (t : Fin cfg0.N) (r : Fin 1024) (k : Fin 1024) :
    ((iblk m c 3 t : FVec Ideal S1024x1024 .f32) (ix2 r k) : EReal) = at2 (z0 m c) (1024 * (t.val) + r.val) k.val := by
  have hi : win0_3.index t 0 = t.val ∧ win0_3.index t 1 = 0 := by revert t; decide +kernel
  have hr := r.isLt
  have hk := k.isLt
  have ht : t.val < 8 := lt_of_lt_of_eq t.isLt N_0
  rw [← at2_mk (z0 m c) (show 1024 * (t.val) + r.val < 8192 by omega) k.isLt]
  unfold iblk
  rw [View.read_apply]
  show V m c main_arg3 _ = z0 m c _
  rw [V_main_arg3]
  congr 1
  funext a
  apply Fin.ext
  match a with
  | ⟨0, _⟩ => show win0_3.index t 0 * 1024 + 1 * r.val = 1024 * (t.val) + r.val; rw [hi.1]; omega
  | ⟨1, _⟩ => show win0_3.index t 1 * 1024 + 1 * k.val = k.val; rw [hi.2]; omega

theorem blk4 (t : Fin cfg0.N) (p : Fin 1) (k : Fin 1024) :
    ((iblk m c 4 t : FVec Ideal S1x1024 .f32) (ix2 p k) : EReal) = g0 m c (ix1 k) := by
  have hi : win0_4.index t 0 = 0 ∧ win0_4.index t 1 = 0 := by revert t; decide +kernel
  have hp := p.isLt
  unfold iblk
  rw [View.read_apply]
  show V m c main_v3 _ = g0 m c _
  rw [V_v3]
  refine Eq.trans (congrArg (shapeCast S1x1024 (g0 m c) shapeCasts_S1024_S1x1024) (?_ : _ = ix2 p k)) ?_
  · funext a
    apply Fin.ext
    match a with
    | ⟨0, _⟩ => show win0_4.index t 0 * 1 + 1 * p.val = p.val; rw [hi.1]; omega
    | ⟨1, _⟩ => show win0_4.index t 1 * 1024 + 1 * k.val = k.val; rw [hi.2]; omega
  · generalize g0 m c = v
    pointwise

theorem blk5 (t : Fin cfg0.N) (p : Fin 1) (k : Fin 1024) :
    ((iblk m c 5 t : FVec Ideal S1x1024 .f32) (ix2 p k) : EReal) = h0 m c (ix1 k) := by
  have hi : win0_5.index t 0 = 0 ∧ win0_5.index t 1 = 0 := by revert t; decide +kernel
  have hp := p.isLt
  unfold iblk
  rw [View.read_apply]
  show V m c main_v4 _ = h0 m c _
  rw [V_v4]
  refine Eq.trans (congrArg (shapeCast S1x1024 (h0 m c) shapeCasts_S1024_S1x1024) (?_ : _ = ix2 p k)) ?_
  · funext a
    apply Fin.ext
    match a with
    | ⟨0, _⟩ => show win0_5.index t 0 * 1 + 1 * p.val = p.val; rw [hi.1]; omega
    | ⟨1, _⟩ => show win0_5.index t 1 * 1024 + 1 * k.val = k.val; rw [hi.2]; omega
  · generalize h0 m c = v
    pointwise

/-- One element of the first array. -/
def row (R : ℕ) (k : Fin 1024) : EReal :=
  (∑ s ∈ Finset.range 1024, at2 (x0 m c) R s * at2 (y0 m c) s k.val) + b0 m c (ix1 k) + alpha * at2 (z0 m c) R k.val

theorem row_blk (t : Fin cfg0.N) (r k : Fin 1024) :
    (k0_pay3 (F := Ideal) (k0_pay2 (F := Ideal) (k0_pay1 (F := Ideal)) (iblk m c 0 t) (iblk m c 1 t)) (iblk m c 2 t) (iblk m c 3 t) (ix2 r k) : EReal)
      = row m c (1024 * (t.val) + r.val) k := by
  rw [row_at]
  unfold row
  rw [← sum_fin 1024 (fun s => at2 (x0 m c) (1024 * (t.val) + r.val) s * at2 (y0 m c) s k.val)]
  exact congrArg₂ (· + ·) (congrArg₂ (· + ·) (Finset.sum_congr rfl fun u _ => congrArg₂ (· * ·) (blk0 m c t r u) (blk1 m c t u k)) (blk2 m c t 0 k))
    (congrArg (alpha * ·) (blk3 m c t r k))

theorem row_out (t : Fin cfg0.N) (r k : Fin 1024) :
    ((outsAt0 m c t).1 (ix2 r k) : EReal) = row m c (1024 * (t.val) + r.val) k := by
  unfold outsAt0
  dsimp only
  rw [out6]
  exact row_blk m c t r k

theorem norm_out (t : Fin cfg0.N) (r k : Fin 1024) :
    ((outsAt0 m c t).2 (ix2 r k) : EReal) = nrm (row m c (1024 * (t.val) + r.val)) k * g0 m c (ix1 k) + h0 m c (ix1 k) := by
  unfold outsAt0
  dsimp only
  rw [out7, norm_at]
  exact congrArg₂ (· + ·) (congrArg₂ (· * ·) (congrArg (fun f => nrm f k) (funext fun j => row_blk m c t r j)) (blk4 m c t 0 k)) (blk5 m c t 0 k)

theorem row_arr (r : Fin 8192) (k : Fin 1024) : ((dats m 0 c).arrAt 6 cfg0.N (ix2 r k) : EReal) = row m c r.val k := by
  have hr := r.isLt
  have hk := k.isLt
  have hN : cfg0.N = 8 := N_0
  have ht : r.val / 1024 < cfg0.N := by rw [hN]; omega
  have hi : ∀ t : Fin cfg0.N, win0_6.index t 0 = t.val ∧ win0_6.index t 1 = 0 := by decide +kernel
  have hi' := hi ⟨_, ht⟩
  have e := congrFun (Cert.Kernel12Ideal.Value.blocks6 m c ⟨_, ht⟩ (flush0_6 ⟨_, ht⟩))
    (ix2 (⟨r.val % 1024, by omega⟩ : Fin 1024) (⟨k.val, by omega⟩ : Fin 1024))
  rw [View.read_apply, Cert.Kernel12Ideal.Value.flushed6] at e
  have eo := row_out m c ⟨_, ht⟩ ⟨r.val % 1024, by omega⟩ ⟨k.val, by omega⟩
  dsimp only at eo
  rw [show 1024 * (r.val / 1024) + r.val % 1024 = r.val by omega] at eo
  refine Eq.trans ?_ (e.trans eo)
  refine congrArg ((dats m 0 c).arrAt 6 cfg0.N) ?_
  funext a
  apply Fin.ext
  match a with
  | ⟨0, _⟩ =>
    show r.val = win0_6.index ⟨_, ht⟩ 0 * 1024 + 1 * (r.val % 1024)
    rw [hi'.1]; dsimp only; omega
  | ⟨1, _⟩ =>
    show k.val = win0_6.index ⟨_, ht⟩ 1 * 1024 + 1 * (k.val)
    rw [hi'.2]; try dsimp only
    omega

theorem norm_arr (r : Fin 8192) (k : Fin 1024) : ((dats m 0 c).arrAt 7 cfg0.N (ix2 r k) : EReal) = nrm (row m c r.val) k * g0 m c (ix1 k) + h0 m c (ix1 k) := by
  have hr := r.isLt
  have hk := k.isLt
  have hN : cfg0.N = 8 := N_0
  have ht : r.val / 1024 < cfg0.N := by rw [hN]; omega
  have hi : ∀ t : Fin cfg0.N, win0_7.index t 0 = t.val ∧ win0_7.index t 1 = 0 := by decide +kernel
  have hi' := hi ⟨_, ht⟩
  have e := congrFun (Cert.Kernel12Ideal.Value.blocks7 m c ⟨_, ht⟩ (flush0_7 ⟨_, ht⟩))
    (ix2 (⟨r.val % 1024, by omega⟩ : Fin 1024) (⟨k.val, by omega⟩ : Fin 1024))
  rw [View.read_apply, Cert.Kernel12Ideal.Value.flushed7] at e
  have eo := norm_out m c ⟨_, ht⟩ ⟨r.val % 1024, by omega⟩ ⟨k.val, by omega⟩
  dsimp only at eo
  rw [show 1024 * (r.val / 1024) + r.val % 1024 = r.val by omega] at eo
  refine Eq.trans ?_ (e.trans eo)
  refine congrArg ((dats m 0 c).arrAt 7 cfg0.N) ?_
  funext a
  apply Fin.ext
  match a with
  | ⟨0, _⟩ =>
    show r.val = win0_7.index ⟨_, ht⟩ 0 * 1024 + 1 * (r.val % 1024)
    rw [hi'.1]; dsimp only; omega
  | ⟨1, _⟩ =>
    show k.val = win0_7.index ⟨_, ht⟩ 1 * 1024 + 1 * (k.val)
    rw [hi'.2]; try dsimp only
    omega

end Run

namespace Ref

open Cert.Reference12Ideal Cert.Reference12Ideal.Gen Cert.Reference12Ideal.Read

variable (x : FVec Ideal S8192x1024 .f32) (y : FVec Ideal S1024x1024 .f32) (b : FVec Ideal S1024 .f32) (z : FVec Ideal S8192x1024 .f32) (g h : FVec Ideal S1024 .f32)

theorem row_at (r : Fin 8192) (k : Fin 1024) :
    (val_main_v6 (F := Ideal) x y b z (ix2 r k) : EReal) = (∑ t : Fin 1024, x (ix2 r t) * y (ix2 t k)) + b (ix1 k) + FloatOps.ofBits (F := Ideal) .f32 0x3FB504F3#32 * z (ix2 r k) := by
  unfold val_main_v6 val_main_v5 val_main_v4 val_main_v3 val_main_v2 val_main_v1 val_main_v0 val_main_cst
  pointwise
  exact add_comm _ _

theorem mean_at (r : Fin 8192) (p : Fin 1) : (val_main_v10 (F := Ideal) x y b z (ix2 r p) : EReal) = mean fun j => val_main_v6 (F := Ideal) x y b z (ix2 r j) := by
  unfold val_main_v10 val_main_v9 val_main_v8 val_main_v7 val_main_cst_0 val_main_cst_1 mean
  generalize val_main_v6 (F := Ideal) x y b z = v
  pointwise
  try simp [Ideal.ofBits, Ideal.ieee]

theorem cen_at (r : Fin 8192) (k : Fin 1024) :
    (val_main_v12 (F := Ideal) x y b z (ix2 r k) : EReal) = cen (fun j => val_main_v6 (F := Ideal) x y b z (ix2 r j)) k := by
  unfold val_main_v12 val_main_v11 cen
  rw [← mean_at x y b z r 0]
  show _ = val_main_v6 (F := Ideal) x y b z (ix2 r k) - _
  generalize val_main_v6 (F := Ideal) x y b z = v
  generalize val_main_v10 (F := Ideal) x y b z = u
  pointwise

theorem cen_at' (r : Fin 8192) (k : Fin 1024) :
    (val_main_v19 (F := Ideal) x y b z (ix2 r k) : EReal) = cen (fun j => val_main_v6 (F := Ideal) x y b z (ix2 r j)) k := by
  unfold val_main_v19 val_main_v18 cen
  rw [← mean_at x y b z r 0]
  show _ = val_main_v6 (F := Ideal) x y b z (ix2 r k) - _
  generalize val_main_v6 (F := Ideal) x y b z = v
  generalize val_main_v10 (F := Ideal) x y b z = u
  pointwise

theorem rst_at (r : Fin 8192) (p : Fin 1) :
    (val_main_v22 (F := Ideal) x y b z (ix2 r p) : EReal) = rst (fun j => val_main_v6 (F := Ideal) x y b z (ix2 r j)) := by
  unfold val_main_v22 val_main_v21 val_main_v20 val_main_v17 val_main_v16 val_main_v15 val_main_v14 val_main_v13 val_main_cst_2 val_main_cst_3 val_main_cst_4 rst dev mean
  simp only [← cen_at x y b z]
  generalize val_main_v12 (F := Ideal) x y b z = v
  pointwise
  try simp [Ideal.ofBits, Ideal.ieee]

theorem norm_at (r : Fin 8192) (k : Fin 1024) :
    (val_main_v30 (F := Ideal) x y b z g h (ix2 r k) : EReal)
      = nrm (fun j => val_main_v6 (F := Ideal) x y b z (ix2 r j)) k * g (ix1 k) + h (ix1 k) := by
  unfold val_main_v30 val_main_v29 val_main_v28 val_main_v27 val_main_v26 val_main_v25 val_main_v24 val_main_v23 nrm
  rw [← cen_at' x y b z, ← rst_at x y b z r 0]
  generalize val_main_v19 (F := Ideal) x y b z = v
  generalize val_main_v22 (F := Ideal) x y b z = u
  pointwise

end Ref

open Run Cert.Kernel12Ideal Cert.Kernel12Ideal.Gen

variable (m : (ℓ : Loc nD τ sig) → Buf (Elt Ideal) ℓ) (c : Dev nD)

theorem row_eq (r : Fin 8192) (k : Fin 1024) :
    (Cert.Reference12Ideal.Read.val_main_v6 (F := Ideal) (x0 m c) (y0 m c) (b0 m c) (z0 m c) (ix2 r k) : EReal) = row m c r.val k := by
  refine (Ref.row_at _ _ _ _ r k).trans ?_
  unfold row
  rw [← sum_fin 1024 (fun s => at2 (x0 m c) r.val s * at2 (y0 m c) s k.val)]
  refine congrArg₂ (· + ·) (congrArg₂ (· + ·) (Finset.sum_congr rfl fun u _ => ?_) rfl) (congrArg (alpha * ·) (at2_val _ r k).symm)
  rw [at2_val, at2_val]

/-- The rows before the normalisation. -/
theorem equal : ((dats m 0 c).arrAt 6 cfg0.N : FVec Ideal S8192x1024 .f32)
    = Cert.Reference12Ideal.Read.val_main_v6 (F := Ideal) (x0 m c) (y0 m c) (b0 m c) (z0 m c) := by
  funext i
  rw [eq_ix2 i]
  exact (row_arr m c (i 0) (i 1)).trans (row_eq m c (i 0) (i 1)).symm

/-- The normalised rows. -/
theorem xequal : ((dats m 0 c).arrAt 7 cfg0.N : FVec Ideal S8192x1024 .f32)
    = Cert.Reference12Ideal.Read.val_main_v30 (F := Ideal) (x0 m c) (y0 m c) (b0 m c) (z0 m c) (g0 m c) (h0 m c) := by
  funext i
  rw [eq_ix2 i]
  refine (norm_arr m c (i 0) (i 1)).trans (Eq.symm ((Ref.norm_at _ _ _ _ _ _ (i 0) (i 1)).trans ?_))
  exact congrArg (fun f => nrm f (i 1) * g0 m c (ix1 (i 1)) + h0 m c (ix1 (i 1))) (funext fun j => row_eq m c (i 0) j)

end Cert.Proof.Prod.OutProj
-- ==== Proof.Prod.FfnDown.lean ====
module

public import proofs.«01_k».proof.Proof.Gen.Kernel13Ideal.Value
public import proofs.«01_k».proof.Proof.Gen.Reference13Ideal.Read
public import proofs.«01_k».proof.Proof.Prod.Tile
public import proofs.«01_k».proof.Proof.Prod.Norm
public import Idealize.ShloMosaic.Lib.StableHlo.RunRead

/-! The down projection with the residual, and the normalisation of the rows: the two arrays of the call. -/

@[expose] public section

noncomputable section

open Idealize.ShloMosaic Idealize.ShloMosaic.TcCoe Idealize.SL.Sem

namespace Cert.Proof.Prod.FfnDown

/-- The residual's factor. -/
abbrev alpha : EReal := FloatOps.ofBits (F := Ideal) .f32 0x3FB504F3#32

namespace Run

open Cert.Kernel13Ideal Cert.Kernel13Ideal.Gen

theorem zero_at (r k : Fin 1024) : (k0_pay1 (F := Ideal) (ix2 r k) : EReal) = 0 := by
  unfold k0_pay1
  pointwise
  try simp [Ideal.ofBits, Ideal.ieee]

theorem step_at (s : Vec Ideal S1024x1024 .f32) (x : Vec Ideal S1024x1408 .bf16) (y : Vec Ideal S1408x1024 .bf16) (r k : Fin 1024) :
    (k0_pay2 (F := Ideal) s x y (ix2 r k) : EReal) = s (ix2 r k) + ∑ t : Fin 1408, x (ix2 r t) * y (ix2 t k) := by
  unfold k0_pay2
  pointwise

theorem row_at (s z : Vec Ideal S1024x1024 .f32) (r k : Fin 1024) :
    (k0_pay3 (F := Ideal) s z (ix2 r k) : EReal) = s (ix2 r k) + alpha * z (ix2 r k) := by
  unfold k0_pay3
  pointwise

theorem norm_at (s z : Vec Ideal S1024x1024 .f32) (g h : Vec Ideal S1x1024 .f32) (r k : Fin 1024) :
    (k0_pay4 (F := Ideal) s z g h (ix2 r k) : EReal)
      = nrm (fun j => k0_pay3 (F := Ideal) s z (ix2 r j)) k * g (ix2 (0 : Fin 1) k) + h (ix2 (0 : Fin 1) k) := by
  unfold k0_pay4 nrm rst dev cen mean
  generalize k0_pay3 (F := Ideal) s z = w
  pointwise

section Cases

variable (c : Dev nD) (i : grid0.Coords)
  (a3 : Memref sig .tc .vmem S1024x1408 .bf16) (h3 : a3.IsWhole)
  (a4 : Memref sig .tc .vmem S1408x1024 .bf16) (h4 : a4.IsWhole)
  (a5 : Memref sig .tc .vmem S1024x1024 .f32) (h5 : a5.IsWhole)
  (a6 : Memref sig .tc .vmem S1x1024 .f32) (h6 : a6.IsWhole)
  (a7 : Memref sig .tc .vmem S1x1024 .f32) (h7 : a7.IsWhole)
  (a8 : Memref sig .tc .vmem S1024x1024 .f32) (h8 : a8.IsWhole)
  (a9 : Memref sig .tc .vmem S1024x1024 .f32) (h9 : a9.IsWhole)
  (a10 : Memref sig .tc .vmem S1024x1024 .f32) (h10 : a10.IsWhole)
  (x : Vec Ideal S1024x1408 .bf16) (y : Vec Ideal S1408x1024 .bf16) (z : Vec Ideal S1024x1024 .f32) (g h : Vec Ideal S1x1024 .f32)

theorem startS (hc0 : cond0_0 i) (hc1 : ¬cond0_1 i) :
    sout0_A_0 c i a3 h3 a4 h4 a5 h5 a6 h6 a7 h7 a8 h8 a9 h9 a10 h10 hc0 hc1 x y z g h = k0_pay2 (k0_pay1 (F := Ideal)) x y := by
  unfold sout0_A_0
  rw [View.read_writes_eq_canon _ _ _ (scover0_A_0 c i a3 h3 a4 h4 a5 h5 a6 h6 a7 h7 a8 h8 a9 h9 a10 h10 hc0 hc1 x y z g h)]
  unfold kernelRun0_A
  dsimp only
  sl_unfold_words
  rw [View.canon_cons_unit_zero (S := S1024x1024) zero2]
  simp only [View.readCov_cons_toLoadRect, View.readCov_unit_zero (S := S1024x1024) _ zero2, View.readAt_eq_ld,
    h3.read_unread, h4.read_unread, h5.read_unread, h6.read_unread, h7.read_unread, h10.read_unread,
    View.ld_unit_zero (S := S1024x1408) zero2, View.ld_unit_zero (S := S1408x1024) zero2, View.ld_unit_zero (S := S1024x1024) zero2, View.ld_unit_zero (S := S1x1024) zero2]

theorem lastS (hc0 : ¬cond0_0 i) (hc1 : cond0_1 i) (s : Vec Ideal S1024x1024 .f32) :
    sout0_B_0 c i a3 h3 a4 h4 a5 h5 a6 h6 a7 h7 a8 h8 a9 h9 a10 h10 hc0 hc1 x y z g h s = k0_pay2 s x y := by
  unfold sout0_B_0
  rw [View.read_writes_eq_canon _ _ _ (scover0_B_0 c i a3 h3 a4 h4 a5 h5 a6 h6 a7 h7 a8 h8 a9 h9 a10 h10 hc0 hc1 x y z g h s)]
  unfold kernelRun0_B
  dsimp only
  sl_unfold_words
  rw [View.canon_unit_zero (S := S1024x1024) zero2]
  simp only [View.readCov_cons_toLoadRect, View.readCov_unit_zero (S := S1024x1024) _ zero2, View.readAt_eq_ld,
    h3.read_unread, h4.read_unread, h5.read_unread, h6.read_unread, h7.read_unread, h10.read_unread,
    View.ld_unit_zero (S := S1024x1408) zero2, View.ld_unit_zero (S := S1408x1024) zero2, View.ld_unit_zero (S := S1024x1024) zero2, View.ld_unit_zero (S := S1x1024) zero2]

theorem last5 (hc0 : ¬cond0_0 i) (hc1 : cond0_1 i) (s : Vec Ideal S1024x1024 .f32) :
    out0_B_5 c i a3 h3 a4 h4 a5 h5 a6 h6 a7 h7 a8 h8 a9 h9 a10 h10 hc0 hc1 x y z g h s = k0_pay3 (k0_pay2 s x y) z := by
  unfold out0_B_5
  rw [View.read_writes_eq_canon _ _ _ (cover0_B_5 c i a3 h3 a4 h4 a5 h5 a6 h6 a7 h7 a8 h8 a9 h9 a10 h10 hc0 hc1 x y z g h s)]
  unfold kernelRun0_B
  dsimp only
  sl_unfold_words
  rw [View.canon_unit_zero (S := S1024x1024) zero2]
  simp only [View.readCov_cons_toLoadRect, View.readCov_unit_zero (S := S1024x1024) _ zero2, View.readAt_eq_ld,
    h3.read_unread, h4.read_unread, h5.read_unread, h6.read_unread, h7.read_unread, h10.read_unread,
    View.ld_unit_zero (S := S1024x1408) zero2, View.ld_unit_zero (S := S1408x1024) zero2, View.ld_unit_zero (S := S1024x1024) zero2, View.ld_unit_zero (S := S1x1024) zero2]

theorem last6 (hc0 : ¬cond0_0 i) (hc1 : cond0_1 i) (s : Vec Ideal S1024x1024 .f32) :
    out0_B_6 c i a3 h3 a4 h4 a5 h5 a6 h6 a7 h7 a8 h8 a9 h9 a10 h10 hc0 hc1 x y z g h s = k0_pay4 (k0_pay2 s x y) z g h := by
  unfold out0_B_6
  rw [View.read_writes_eq_canon _ _ _ (cover0_B_6 c i a3 h3 a4 h4 a5 h5 a6 h6 a7 h7 a8 h8 a9 h9 a10 h10 hc0 hc1 x y z g h s)]
  unfold kernelRun0_B
  dsimp only
  sl_unfold_words
  rw [View.canon_unit_zero (S := S1024x1024) zero2]
  simp only [View.readCov_cons_toLoadRect, View.readCov_unit_zero (S := S1024x1024) _ zero2, View.readAt_eq_ld,
    h3.read_unread, h4.read_unread, h5.read_unread, h6.read_unread, h7.read_unread, h10.read_unread,
    View.ld_unit_zero (S := S1024x1408) zero2, View.ld_unit_zero (S := S1408x1024) zero2, View.ld_unit_zero (S := S1024x1024) zero2, View.ld_unit_zero (S := S1x1024) zero2]

end Cases

variable (m : (ℓ : Loc nD τ sig) → Buf (Elt Ideal) ℓ) (c : Dev nD)

/-- The operands as launched. -/
abbrev x0 : FVec Ideal S8192x2816 .f32 := m ((c : Thread nD τ).loc main_arg0)
abbrev y0 : FVec Ideal S2816x1024 .f32 := m ((c : Thread nD τ).loc main_arg1)
abbrev z0 : FVec Ideal S8192x1024 .f32 := m ((c : Thread nD τ).loc main_arg2)
abbrev g0 : FVec Ideal S1024 .f32 := m ((c : Thread nD τ).loc main_arg3)
abbrev h0 : FVec Ideal S1024 .f32 := m ((c : Thread nD τ).loc main_arg4)

theorem V_v0 : (V m c main_v0 : FVec Ideal S8192x2816 .bf16) = truncf .bf16 (x0 m c) bitsLt_bf16_f32 := by
  after_reads_simp

theorem V_v1 : (V m c main_v1 : FVec Ideal S2816x1024 .bf16) = truncf .bf16 (y0 m c) bitsLt_bf16_f32 := by
  after_reads_simp

theorem V_v2 : (V m c main_v2 : FVec Ideal S1x1024 .f32) = shapeCast S1x1024 (g0 m c) shapeCasts_S1024_S1x1024 := by
  after_reads_simp
  rfl

theorem V_v3 : (V m c main_v3 : FVec Ideal S1x1024 .f32) = shapeCast S1x1024 (h0 m c) shapeCasts_S1024_S1x1024 := by
  after_reads_simp
  rfl

theorem blk0 (t : Fin cfg0.N) (r : Fin 1024) (k : Fin 1408) :
    ((iblk m c 0 t : FVec Ideal S1024x1408 .bf16) (ix2 r k) : EReal) = at2 (x0 m c) (1024 * (t.val / 2) + r.val) (1408 * (t.val % 2) + k.val) := by
  have hi : win0_0.index t 0 = t.val / 2 ∧ win0_0.index t 1 = t.val % 2 := by revert t; decide +kernel
  have hr := r.isLt
  have hk := k.isLt
  have ht : t.val < 16 := lt_of_lt_of_eq t.isLt N_0
  rw [← at2_mk (x0 m c) (show 1024 * (t.val / 2) + r.val < 8192 by omega) (show 1408 * (t.val % 2) + k.val < 2816 by omega)]
  unfold iblk
  rw [View.read_apply]
  show V m c main_v0 _ = x0 m c _
  rw [V_v0]
  show x0 m c _ = x0 m c _
  congr 1
  funext a
  apply Fin.ext
  match a with
  | ⟨0, _⟩ => show win0_0.index t 0 * 1024 + 1 * r.val = 1024 * (t.val / 2) + r.val; rw [hi.1]; omega
  | ⟨1, _⟩ => show win0_0.index t 1 * 1408 + 1 * k.val = 1408 * (t.val % 2) + k.val; rw [hi.2]; omega

theorem blk1 (t : Fin cfg0.N) (r : Fin 1408) (k : Fin 1024) :
    ((iblk m c 1 t : FVec Ideal S1408x1024 .bf16) (ix2 r k) : EReal) = at2 (y0 m c) (1408 * (t.val % 2) + r.val) k.val := by
  have hi : win0_1.index t 0 = t.val % 2 ∧ win0_1.index t 1 = 0 := by revert t; decide +kernel
  have hr := r.isLt
  have hk := k.isLt
  have ht : t.val < 16 := lt_of_lt_of_eq t.isLt N_0
  rw [← at2_mk (y0 m c) (show 1408 * (t.val % 2) + r.val < 2816 by omega) k.isLt]
  unfold iblk
  rw [View.read_apply]
  show V m c main_v1 _ = y0 m c _
  rw [V_v1]
  show y0 m c _ = y0 m c _
  congr 1
  funext a
  apply Fin.ext
  match a with
  | ⟨0, _⟩ => show win0_1.index t 0 * 1408 + 1 * r.val = 1408 * (t.val % 2) + r.val; rw [hi.1]; omega
  | ⟨1, _⟩ => show win0_1.index t 1 * 1024 + 1 * k.val = k.val; rw [hi.2]; omega

theorem blk2 (t : Fin cfg0.N) (r : Fin 1024) (k : Fin 1024) :
    ((iblk m c 2 t : FVec Ideal S1024x1024 .f32) (ix2 r k) : EReal) = at2 (z0 m c) (1024 * (t.val / 2) + r.val) k.val := by
  have hi : win0_2.index t 0 = t.val / 2 ∧ win0_2.index t 1 = 0 := by revert t; decide +kernel
  have hr := r.isLt
  have hk := k.isLt
  have ht : t.val < 16 := lt_of_lt_of_eq t.isLt N_0
  rw [← at2_mk (z0 m c) (show 1024 * (t.val / 2) + r.val < 8192 by omega) k.isLt]
  unfold iblk
  rw [View.read_apply]
  show V m c main_arg2 _ = z0 m c _
  rw [V_main_arg2]
  congr 1
  funext a
  apply Fin.ext
  match a with
  | ⟨0, _⟩ => show win0_2.index t 0 * 1024 + 1 * r.val = 1024 * (t.val / 2) + r.val; rw [hi.1]; omega
  | ⟨1, _⟩ => show win0_2.index t 1 * 1024 + 1 * k.val = k.val; rw [hi.2]; omega

theorem blk3 (t : Fin cfg0.N) (p : Fin 1) (k : Fin 1024) :
    ((iblk m c 3 t : FVec Ideal S1x1024 .f32) (ix2 p k) : EReal) = g0 m c (ix1 k) := by
  have hi : win0_3.index t 0 = 0 ∧ win0_3.index t 1 = 0 := by revert t; decide +kernel
  have hp := p.isLt
  unfold iblk
  rw [View.read_apply]
  show V m c main_v2 _ = g0 m c _
  rw [V_v2]
  refine Eq.trans (congrArg (shapeCast S1x1024 (g0 m c) shapeCasts_S1024_S1x1024) (?_ : _ = ix2 p k)) ?_
  · funext a
    apply Fin.ext
    match a with
    | ⟨0, _⟩ => show win0_3.index t 0 * 1 + 1 * p.val = p.val; rw [hi.1]; omega
    | ⟨1, _⟩ => show win0_3.index t 1 * 1024 + 1 * k.val = k.val; rw [hi.2]; omega
  · generalize g0 m c = v
    pointwise

theorem blk4 (t : Fin cfg0.N) (p : Fin 1) (k : Fin 1024) :
    ((iblk m c 4 t : FVec Ideal S1x1024 .f32) (ix2 p k) : EReal) = h0 m c (ix1 k) := by
  have hi : win0_4.index t 0 = 0 ∧ win0_4.index t 1 = 0 := by revert t; decide +kernel
  have hp := p.isLt
  unfold iblk
  rw [View.read_apply]
  show V m c main_v3 _ = h0 m c _
  rw [V_v3]
  refine Eq.trans (congrArg (shapeCast S1x1024 (h0 m c) shapeCasts_S1024_S1x1024) (?_ : _ = ix2 p k)) ?_
  · funext a
    apply Fin.ext
    match a with
    | ⟨0, _⟩ => show win0_4.index t 0 * 1 + 1 * p.val = p.val; rw [hi.1]; omega
    | ⟨1, _⟩ => show win0_4.index t 1 * 1024 + 1 * k.val = k.val; rw [hi.2]; omega
  · generalize h0 m c = v
    pointwise

/-- One element of the first array. -/
def row (R : ℕ) (k : Fin 1024) : EReal :=
  (∑ s ∈ Finset.range 2816, at2 (x0 m c) R s * at2 (y0 m c) s k.val) + alpha * at2 (z0 m c) R k.val

/-- What one point adds at an element of the scratch. -/
def part (r k n : ℕ) : EReal :=
  ∑ u ∈ Finset.range 1408, at2 (x0 m c) (1024 * (n / 2) + r) (1408 * (n % 2) + u) * at2 (y0 m c) (1408 * (n % 2) + u) k

theorem step_part (t : Fin cfg0.N) (s : Vec Ideal S1024x1024 .f32) (r k : Fin 1024) :
    (k0_pay2 (F := Ideal) s (iblk m c 0 t) (iblk m c 1 t) (ix2 r k) : EReal) = s (ix2 r k) + part m c r.val k.val t.val := by
  rw [step_at]
  unfold part
  rw [← sum_fin 1408 (fun u => at2 (x0 m c) (1024 * (t.val / 2) + r.val) (1408 * (t.val % 2) + u) * at2 (y0 m c) (1408 * (t.val % 2) + u) k.val)]
  exact congrArg (s (ix2 r k) + ·) (Finset.sum_congr rfl fun u _ => congrArg₂ (· * ·) (blk0 m c t r u) (blk1 m c t u k))

/-- The scratch after every point. -/
theorem acc (r k : Fin 1024) (n : ℕ) (h : n < cfg0.N) :
    ((outsAt0 m c n h).2.2 (ix2 r k) : EReal) = ∑ j ∈ Finset.range (n % 2 + 1), part m c r.val k.val (2 * (n / 2) + j) := by
  refine since_start 2 (by decide) (fun n h => ((outsAt0 m c n h).2.2 (ix2 r k) : EReal)) (fun n => part m c r.val k.val n) ?_ ?_ n h
  · intro n h hz
    have e := outsAt0_A m c ⟨n, h⟩ hz (by dsimp only; omega)
    dsimp only at e ⊢
    rw [e]
    dsimp only
    rw [startS, step_part, zero_at, zero_add]
  · intro n h hz
    have e := outsAt0_B m c ⟨n + 1, h⟩ hz (by dsimp only; omega)
    dsimp only at e ⊢
    rw [e]
    dsimp only
    rw [lastS, step_part]
    rfl

/-- The product's tile at a point that ends a reduction. -/
abbrev tile (t : Fin cfg0.N) : Vec Ideal S1024x1024 .f32 :=
  k0_pay2 (F := Ideal) (outsAt0 m c (t.val - 1) (Nat.lt_of_le_of_lt (Nat.sub_le _ _) t.isLt)).2.2 (iblk m c 0 t) (iblk m c 1 t)

theorem full_at (t : Fin cfg0.N) (hl : t.val % 2 = 1) (r k : Fin 1024) :
    (tile m c t (ix2 r k) : EReal) = ∑ s ∈ Finset.range 2816, at2 (x0 m c) (1024 * (t.val / 2) + r.val) s * at2 (y0 m c) s k.val := by
  have e := outsAt0_B m c t (by omega) hl
  have ea := acc m c r k t.val t.isLt
  rw [e] at ea
  dsimp only at ea
  rw [lastS] at ea
  refine ea.trans ?_
  rw [hl]
  unfold part
  refine Eq.trans ?_ (range_tiles 1408 (fun s => at2 (x0 m c) (1024 * (t.val / 2) + r.val) s * at2 (y0 m c) s k.val) 2)
  refine Finset.sum_congr rfl fun j hj => ?_
  have hj' := Finset.mem_range.mp hj
  rw [show (2 * (t.val / 2) + j) % 2 = j by omega, show (2 * (t.val / 2) + j) / 2 = t.val / 2 by omega]

theorem row_blk (t : Fin cfg0.N) (hl : t.val % 2 = 1) (r k : Fin 1024) :
    (k0_pay3 (F := Ideal) (tile m c t) (iblk m c 2 t) (ix2 r k) : EReal) = row m c (1024 * (t.val / 2) + r.val) k := by
  rw [row_at, full_at m c t hl]
  exact congrArg (fun v => _ + alpha * v) (blk2 m c t r k)

theorem row_out (t : Fin cfg0.N) (hl : t.val % 2 = 1) (r k : Fin 1024) :
    ((outsAt0 m c t.val t.isLt).1 (ix2 r k) : EReal) = row m c (1024 * (t.val / 2) + r.val) k := by
  rw [outsAt0_B m c t (by omega) hl]
  dsimp only
  rw [last5]
  exact row_blk m c t hl r k

theorem norm_out (t : Fin cfg0.N) (hl : t.val % 2 = 1) (r k : Fin 1024) :
    ((outsAt0 m c t.val t.isLt).2.1 (ix2 r k) : EReal)
      = nrm (row m c (1024 * (t.val / 2) + r.val)) k * g0 m c (ix1 k) + h0 m c (ix1 k) := by
  rw [outsAt0_B m c t (by omega) hl]
  dsimp only
  rw [last6, norm_at]
  exact congrArg₂ (· + ·) (congrArg₂ (· * ·) (congrArg (fun f => nrm f k) (funext fun j => row_blk m c t hl r j)) (blk3 m c t 0 k)) (blk4 m c t 0 k)

theorem row_arr (r : Fin 8192) (k : Fin 1024) : ((dats m 0 c).arrAt 5 cfg0.N (ix2 r k) : EReal) = row m c r.val k := by
  have hr := r.isLt
  have hk := k.isLt
  have hN : cfg0.N = 16 := N_0
  rw [Cert.Kernel13Ideal.Value.final5]
  have hb : Cert.Kernel13Ideal.Value.pt5Of (ix2 r k) = 2 * (r.val / 1024) + 1 := by
    show 2 * (1 * (r.val / 1024 - 0) + 1 * (k.val / 1024 - 0)) + 1 = _
    omega
  unfold Cert.Kernel13Ideal.Value.G5
  rw [dif_pos (by rw [hb, hN]; omega), ← Cert.Kernel13Ideal.Value.outsAt0_sweep m c _ (by rw [hb, hN]; omega)]
  have e := row_out m c ⟨2 * (r.val / 1024) + 1, by rw [hN]; omega⟩ (by dsimp only; omega) ⟨r.val % 1024, by omega⟩ k
  dsimp only at e
  have hl : Cert.Kernel13Ideal.Value.loc5Of (ix2 r k) = ix2 ⟨r.val % 1024, by omega⟩ k := by
    funext a
    apply Fin.ext
    match a with
    | ⟨0, _⟩ => rfl
    | ⟨1, _⟩ => show k.val % 1024 = k.val; omega
  have ec : ∀ (a b : ℕ) (ha : a < cfg0.N) (hb : b < cfg0.N), a = b → outsAt0 m c a ha = outsAt0 m c b hb := by
    intro a b ha hb h; subst h; rfl
  rw [hl, ec _ _ _ (by rw [hN]; omega) hb]
  rw [show 1024 * ((2 * (r.val / 1024) + 1) / 2) + r.val % 1024 = r.val by omega] at e
  exact e

theorem norm_arr (r : Fin 8192) (k : Fin 1024) : ((dats m 0 c).arrAt 6 cfg0.N (ix2 r k) : EReal) = nrm (row m c r.val) k * g0 m c (ix1 k) + h0 m c (ix1 k) := by
  have hr := r.isLt
  have hk := k.isLt
  have hN : cfg0.N = 16 := N_0
  rw [Cert.Kernel13Ideal.Value.final6]
  have hb : Cert.Kernel13Ideal.Value.pt6Of (ix2 r k) = 2 * (r.val / 1024) + 1 := by
    show 2 * (1 * (r.val / 1024 - 0) + 1 * (k.val / 1024 - 0)) + 1 = _
    omega
  unfold Cert.Kernel13Ideal.Value.G6
  rw [dif_pos (by rw [hb, hN]; omega), ← Cert.Kernel13Ideal.Value.outsAt0_sweep m c _ (by rw [hb, hN]; omega)]
  have e := norm_out m c ⟨2 * (r.val / 1024) + 1, by rw [hN]; omega⟩ (by dsimp only; omega) ⟨r.val % 1024, by omega⟩ k
  dsimp only at e
  have hl : Cert.Kernel13Ideal.Value.loc6Of (ix2 r k) = ix2 ⟨r.val % 1024, by omega⟩ k := by
    funext a
    apply Fin.ext
    match a with
    | ⟨0, _⟩ => rfl
    | ⟨1, _⟩ => show k.val % 1024 = k.val; omega
  have ec : ∀ (a b : ℕ) (ha : a < cfg0.N) (hb : b < cfg0.N), a = b → outsAt0 m c a ha = outsAt0 m c b hb := by
    intro a b ha hb h; subst h; rfl
  rw [hl, ec _ _ _ (by rw [hN]; omega) hb]
  rw [show 1024 * ((2 * (r.val / 1024) + 1) / 2) + r.val % 1024 = r.val by omega] at e
  exact e

end Run

namespace Ref

open Cert.Reference13Ideal Cert.Reference13Ideal.Gen Cert.Reference13Ideal.Read

variable (x : FVec Ideal S8192x2816 .f32) (y : FVec Ideal S2816x1024 .f32) (z : FVec Ideal S8192x1024 .f32) (g h : FVec Ideal S1024 .f32)

theorem row_at (r : Fin 8192) (k : Fin 1024) :
    (val_main_v3 (F := Ideal) x y z (ix2 r k) : EReal) = (∑ t : Fin 2816, x (ix2 r t) * y (ix2 t k)) + FloatOps.ofBits (F := Ideal) .f32 0x3FB504F3#32 * z (ix2 r k) := by
  unfold val_main_v3 val_main_v2 val_main_v1 val_main_v0 val_main_cst
  pointwise
  exact add_comm _ _

theorem mean_at (r : Fin 8192) (p : Fin 1) : (val_main_v7 (F := Ideal) x y z (ix2 r p) : EReal) = mean fun j => val_main_v3 (F := Ideal) x y z (ix2 r j) := by
  unfold val_main_v7 val_main_v6 val_main_v5 val_main_v4 val_main_cst_0 val_main_cst_1 mean
  generalize val_main_v3 (F := Ideal) x y z = v
  pointwise
  try simp [Ideal.ofBits, Ideal.ieee]

theorem cen_at (r : Fin 8192) (k : Fin 1024) :
    (val_main_v9 (F := Ideal) x y z (ix2 r k) : EReal) = cen (fun j => val_main_v3 (F := Ideal) x y z (ix2 r j)) k := by
  unfold val_main_v9 val_main_v8 cen
  rw [← mean_at x y z r 0]
  show _ = val_main_v3 (F := Ideal) x y z (ix2 r k) - _
  generalize val_main_v3 (F := Ideal) x y z = v
  generalize val_main_v7 (F := Ideal) x y z = u
  pointwise

theorem cen_at' (r : Fin 8192) (k : Fin 1024) :
    (val_main_v16 (F := Ideal) x y z (ix2 r k) : EReal) = cen (fun j => val_main_v3 (F := Ideal) x y z (ix2 r j)) k := by
  unfold val_main_v16 val_main_v15 cen
  rw [← mean_at x y z r 0]
  show _ = val_main_v3 (F := Ideal) x y z (ix2 r k) - _
  generalize val_main_v3 (F := Ideal) x y z = v
  generalize val_main_v7 (F := Ideal) x y z = u
  pointwise

theorem rst_at (r : Fin 8192) (p : Fin 1) :
    (val_main_v19 (F := Ideal) x y z (ix2 r p) : EReal) = rst (fun j => val_main_v3 (F := Ideal) x y z (ix2 r j)) := by
  unfold val_main_v19 val_main_v18 val_main_v17 val_main_v14 val_main_v13 val_main_v12 val_main_v11 val_main_v10 val_main_cst_2 val_main_cst_3 val_main_cst_4 rst dev mean
  simp only [← cen_at x y z]
  generalize val_main_v9 (F := Ideal) x y z = v
  pointwise
  try simp [Ideal.ofBits, Ideal.ieee]

theorem norm_at (r : Fin 8192) (k : Fin 1024) :
    (val_main_v27 (F := Ideal) x y z g h (ix2 r k) : EReal)
      = nrm (fun j => val_main_v3 (F := Ideal) x y z (ix2 r j)) k * g (ix1 k) + h (ix1 k) := by
  unfold val_main_v27 val_main_v26 val_main_v25 val_main_v24 val_main_v23 val_main_v22 val_main_v21 val_main_v20 nrm
  rw [← cen_at' x y z, ← rst_at x y z r 0]
  generalize val_main_v16 (F := Ideal) x y z = v
  generalize val_main_v19 (F := Ideal) x y z = u
  pointwise

end Ref

open Run Cert.Kernel13Ideal Cert.Kernel13Ideal.Gen

variable (m : (ℓ : Loc nD τ sig) → Buf (Elt Ideal) ℓ) (c : Dev nD)

theorem row_eq (r : Fin 8192) (k : Fin 1024) :
    (Cert.Reference13Ideal.Read.val_main_v3 (F := Ideal) (x0 m c) (y0 m c) (z0 m c) (ix2 r k) : EReal) = row m c r.val k := by
  refine (Ref.row_at _ _ _ r k).trans ?_
  unfold row
  rw [← sum_fin 2816 (fun s => at2 (x0 m c) r.val s * at2 (y0 m c) s k.val)]
  refine congrArg₂ (· + ·) (Finset.sum_congr rfl fun u _ => ?_) (congrArg (alpha * ·) (at2_val _ r k).symm)
  rw [at2_val, at2_val]

/-- The rows before the normalisation. -/
theorem equal : ((dats m 0 c).arrAt 5 cfg0.N : FVec Ideal S8192x1024 .f32)
    = Cert.Reference13Ideal.Read.val_main_v3 (F := Ideal) (x0 m c) (y0 m c) (z0 m c) := by
  funext i
  rw [eq_ix2 i]
  exact (row_arr m c (i 0) (i 1)).trans (row_eq m c (i 0) (i 1)).symm

/-- The normalised rows. -/
theorem xequal : ((dats m 0 c).arrAt 6 cfg0.N : FVec Ideal S8192x1024 .f32)
    = Cert.Reference13Ideal.Read.val_main_v27 (F := Ideal) (x0 m c) (y0 m c) (z0 m c) (g0 m c) (h0 m c) := by
  funext i
  rw [eq_ix2 i]
  refine (norm_arr m c (i 0) (i 1)).trans (Eq.symm ((Ref.norm_at _ _ _ _ _ (i 0) (i 1)).trans ?_))
  exact congrArg (fun f => nrm f (i 1) * g0 m c (ix1 (i 1)) + h0 m c (ix1 (i 1))) (funext fun j => row_eq m c (i 0) j)

end Cert.Proof.Prod.FfnDown
-- ==== Proof.Prod.DxsLnRun.lean ====
module

public import proofs.«01_k».proof.Proof.Gen.Kernel14Ideal.Value
public import proofs.«01_k».proof.Proof.Prod.Tile
public import proofs.«01_k».proof.Proof.Prod.Norm
public import Idealize.ShloMosaic.Lib.StableHlo.RunRead

/-! The gradient through the input projection and the layer normalisation below it: what the call leaves in its four
    arrays. -/

@[expose] public section

noncomputable section

open Idealize.ShloMosaic Idealize.ShloMosaic.TcCoe Idealize.SL.Sem
open Cert.Kernel14Ideal Cert.Kernel14Ideal.Gen

namespace Cert.Proof.Prod.DxsLnRun

/-- The residual's factor. -/
abbrev alpha : EReal := FloatOps.ofBits (F := Ideal) .f32 0x3FB504F3#32

theorem zero_at (r k : Fin 1024) : (k0_pay1 (F := Ideal) (ix2 r k) : EReal) = 0 := by
  unfold k0_pay1
  pointwise
  try simp [Ideal.ofBits, Ideal.ieee]

theorem gzero_at (p : Fin 1) (k : Fin 1024) : (k0_pay2 (F := Ideal) (ix2 p k) : EReal) = 0 := by
  unfold k0_pay2
  pointwise
  try simp [Ideal.ofBits, Ideal.ieee]

theorem bzero_at (p : Fin 1) (k : Fin 1024) : (k0_pay3 (F := Ideal) (ix2 p k) : EReal) = 0 := by
  unfold k0_pay3
  pointwise
  try simp [Ideal.ofBits, Ideal.ieee]

theorem szero_at (p : Fin 1) (k : Fin 1024) : (k0_pay4 (F := Ideal) (ix2 p k) : EReal) = 0 := by
  unfold k0_pay4
  pointwise
  try simp [Ideal.ofBits, Ideal.ieee]

theorem step_at (s : Vec Ideal S1024x1024 .f32) (x : Vec Ideal S1024x1536 .f32) (y : Vec Ideal S1024x1536 .bf16) (r k : Fin 1024) :
    (k0_pay5 (F := Ideal) s x y (ix2 r k) : EReal) = s (ix2 r k) + ∑ t : Fin 1536, x (ix2 r t) * y (ix2 k t) := by
  unfold k0_pay5
  pointwise

theorem gstep_at (a b : Vec Ideal S1024x1024 .f32) (q : Vec Ideal S1x1024 .f32) (p : Fin 1) (k : Fin 1024) :
    (k0_pay6 (F := Ideal) a b q (ix2 p k) : EReal) = q (ix2 p k) + ∑ t : Fin 1024, a (ix2 t k) * b (ix2 t k) := by
  unfold k0_pay6
  pointwise

theorem bstep_at (a : Vec Ideal S1024x1024 .f32) (q : Vec Ideal S1x1024 .f32) (p : Fin 1) (k : Fin 1024) :
    (k0_pay7 (F := Ideal) a q (ix2 p k) : EReal) = q (ix2 p k) + ∑ t : Fin 1024, a (ix2 t k) := by
  unfold k0_pay7
  pointwise

theorem sstep_at (a : Vec Ideal S1024x1024 .f32) (q : Vec Ideal S1x1024 .f32) (p : Fin 1) (k : Fin 1024) :
    (k0_pay8 (F := Ideal) a q (ix2 p k) : EReal) = q (ix2 p k) + ∑ t : Fin 1024, a (ix2 t k) := by
  unfold k0_pay8
  pointwise

theorem ct_at (s z : Vec Ideal S1024x1024 .f32) (r k : Fin 1024) :
    (k0_pay9 (F := Ideal) s z (ix2 r k) : EReal) = s (ix2 r k) + alpha * z (ix2 r k) := by
  unfold k0_pay9
  pointwise

theorem cen_at (x : Vec Ideal S1024x1024 .f32) (r k : Fin 1024) :
    (k0_pay10 (F := Ideal) x (ix2 r k) : EReal) = cen (fun j => x (ix2 r j)) k := by
  unfold k0_pay10 cen mean
  pointwise

theorem rst_at (x : Vec Ideal S1024x1024 .f32) (r : Fin 1024) (p : Fin 1) :
    (k0_pay11 (F := Ideal) x (ix2 r p) : EReal) = rst (fun j => x (ix2 r j)) := by
  unfold k0_pay11 rst dev mean
  simp only [← cen_at]
  generalize k0_pay10 (F := Ideal) x = w
  pointwise

theorem nrm_at (x : Vec Ideal S1024x1024 .f32) (r k : Fin 1024) :
    (k0_pay12 (F := Ideal) x (ix2 r k) : EReal) = nrm (fun j => x (ix2 r j)) k := by
  unfold k0_pay12 nrm
  rw [← cen_at, ← rst_at x r 0]
  generalize k0_pay10 (F := Ideal) x = w
  generalize k0_pay11 (F := Ideal) x = u
  pointwise

theorem grad_at (s z x : Vec Ideal S1024x1024 .f32) (g : Vec Ideal S1x1024 .f32) (r k : Fin 1024) :
    (k0_pay13 (F := Ideal) s z x g (ix2 r k) : EReal)
      = lnb (fun j => x (ix2 r j)) (fun j => (s (ix2 r j) + alpha * z (ix2 r j)) * g (ix2 (0 : Fin 1) j)) k := by
  unfold k0_pay13 lnb mean
  simp only [← nrm_at, ← rst_at x r 0, ← ct_at s z]
  generalize k0_pay9 (F := Ideal) s z = w
  generalize k0_pay11 (F := Ideal) x = u
  generalize k0_pay12 (F := Ideal) x = v
  pointwise

section Cases

variable (c : Dev nD) (i : grid0.Coords)
  (a3 : Memref sig .tc .vmem S1024x1536 .f32) (h3 : a3.IsWhole)
  (a4 : Memref sig .tc .vmem S1024x1536 .bf16) (h4 : a4.IsWhole)
  (a5 : Memref sig .tc .vmem S1024x1024 .f32) (h5 : a5.IsWhole)
  (a6 : Memref sig .tc .vmem S1024x1024 .f32) (h6 : a6.IsWhole)
  (a7 : Memref sig .tc .vmem S1x1024 .f32) (h7 : a7.IsWhole)
  (a8 : Memref sig .tc .vmem S1024x1024 .f32) (h8 : a8.IsWhole)
  (a9 : Memref sig .tc .vmem S1x1024 .f32) (h9 : a9.IsWhole)
  (a10 : Memref sig .tc .vmem S1x1024 .f32) (h10 : a10.IsWhole)
  (a11 : Memref sig .tc .vmem S1x1024 .f32) (h11 : a11.IsWhole)
  (a12 : Memref sig .tc .vmem S1024x1024 .f32) (h12 : a12.IsWhole)
  (x : Vec Ideal S1024x1536 .f32) (y : Vec Ideal S1024x1536 .bf16) (z w : Vec Ideal S1024x1024 .f32) (g : Vec Ideal S1x1024 .f32)

theorem start5 (hc0 : cond0_0 i) (hc1 : cond0_1 i) (hc2 : cond0_2 i) :
    out0_A_5 c i a3 h3 a4 h4 a5 h5 a6 h6 a7 h7 a8 h8 a9 h9 a10 h10 a11 h11 a12 h12 hc0 hc1 hc2 x y z w g = k0_pay13 (k0_pay5 (k0_pay1 (F := Ideal)) x y) z w g := by
  unfold out0_A_5
  rw [View.read_writes_eq_canon _ _ _ (cover0_A_5 c i a3 h3 a4 h4 a5 h5 a6 h6 a7 h7 a8 h8 a9 h9 a10 h10 a11 h11 a12 h12 hc0 hc1 hc2 x y z w g)]
  unfold kernelRun0_A
  dsimp only
  sl_unfold_words
  rw [View.canon_unit_zero (S := S1024x1024) zero2]
  simp only [View.readCov_cons_toLoadRect, View.readCov_unit_zero (S := S1024x1024) _ zero2, View.readCov_unit_zero (S := S1x1024) _ zero2, View.readAt_eq_ld,
    h3.read_unread, h4.read_unread, h5.read_unread, h6.read_unread, h7.read_unread, h9.read_unread, h10.read_unread, h11.read_unread, h12.read_unread,
    View.ld_unit_zero (S := S1024x1536) zero2, View.ld_unit_zero (S := S1024x1024) zero2, View.ld_unit_zero (S := S1x1024) zero2]

theorem start6 (hc0 : cond0_0 i) (hc1 : cond0_1 i) (hc2 : cond0_2 i) :
    out0_A_6 c i a3 h3 a4 h4 a5 h5 a6 h6 a7 h7 a8 h8 a9 h9 a10 h10 a11 h11 a12 h12 hc0 hc1 hc2 x y z w g = k0_pay6 (k0_pay9 (k0_pay5 (k0_pay1 (F := Ideal)) x y) z) (k0_pay12 w) (k0_pay2 (F := Ideal)) := by
  unfold out0_A_6
  rw [View.read_writes_eq_canon _ _ _ (cover0_A_6 c i a3 h3 a4 h4 a5 h5 a6 h6 a7 h7 a8 h8 a9 h9 a10 h10 a11 h11 a12 h12 hc0 hc1 hc2 x y z w g)]
  unfold kernelRun0_A
  dsimp only
  sl_unfold_words
  rw [View.canon_cons_unit_zero (S := S1x1024) zero2]
  simp only [View.readCov_cons_toLoadRect, View.readCov_unit_zero (S := S1024x1024) _ zero2, View.readCov_unit_zero (S := S1x1024) _ zero2, View.readAt_eq_ld,
    h3.read_unread, h4.read_unread, h5.read_unread, h6.read_unread, h7.read_unread, h9.read_unread, h10.read_unread, h11.read_unread, h12.read_unread,
    View.ld_unit_zero (S := S1024x1536) zero2, View.ld_unit_zero (S := S1024x1024) zero2, View.ld_unit_zero (S := S1x1024) zero2]

theorem start7 (hc0 : cond0_0 i) (hc1 : cond0_1 i) (hc2 : cond0_2 i) :
    out0_A_7 c i a3 h3 a4 h4 a5 h5 a6 h6 a7 h7 a8 h8 a9 h9 a10 h10 a11 h11 a12 h12 hc0 hc1 hc2 x y z w g = k0_pay7 (k0_pay9 (k0_pay5 (k0_pay1 (F := Ideal)) x y) z) (k0_pay3 (F := Ideal)) := by
  unfold out0_A_7
  rw [View.read_writes_eq_canon _ _ _ (cover0_A_7 c i a3 h3 a4 h4 a5 h5 a6 h6 a7 h7 a8 h8 a9 h9 a10 h10 a11 h11 a12 h12 hc0 hc1 hc2 x y z w g)]
  unfold kernelRun0_A
  dsimp only
  sl_unfold_words
  rw [View.canon_cons_unit_zero (S := S1x1024) zero2]
  simp only [View.readCov_cons_toLoadRect, View.readCov_unit_zero (S := S1024x1024) _ zero2, View.readCov_unit_zero (S := S1x1024) _ zero2, View.readAt_eq_ld,
    h3.read_unread, h4.read_unread, h5.read_unread, h6.read_unread, h7.read_unread, h9.read_unread, h10.read_unread, h11.read_unread, h12.read_unread,
    View.ld_unit_zero (S := S1024x1536) zero2, View.ld_unit_zero (S := S1024x1024) zero2, View.ld_unit_zero (S := S1x1024) zero2]

theorem start8 (hc0 : cond0_0 i) (hc1 : cond0_1 i) (hc2 : cond0_2 i) :
    out0_A_8 c i a3 h3 a4 h4 a5 h5 a6 h6 a7 h7 a8 h8 a9 h9 a10 h10 a11 h11 a12 h12 hc0 hc1 hc2 x y z w g = k0_pay8 (k0_pay13 (k0_pay5 (k0_pay1 (F := Ideal)) x y) z w g) (k0_pay4 (F := Ideal)) := by
  unfold out0_A_8
  rw [View.read_writes_eq_canon _ _ _ (cover0_A_8 c i a3 h3 a4 h4 a5 h5 a6 h6 a7 h7 a8 h8 a9 h9 a10 h10 a11 h11 a12 h12 hc0 hc1 hc2 x y z w g)]
  unfold kernelRun0_A
  dsimp only
  sl_unfold_words
  rw [View.canon_cons_unit_zero (S := S1x1024) zero2]
  simp only [View.readCov_cons_toLoadRect, View.readCov_unit_zero (S := S1024x1024) _ zero2, View.readCov_unit_zero (S := S1x1024) _ zero2, View.readAt_eq_ld,
    h3.read_unread, h4.read_unread, h5.read_unread, h6.read_unread, h7.read_unread, h9.read_unread, h10.read_unread, h11.read_unread, h12.read_unread,
    View.ld_unit_zero (S := S1024x1536) zero2, View.ld_unit_zero (S := S1024x1024) zero2, View.ld_unit_zero (S := S1x1024) zero2]

theorem next5 (hc0 : cond0_0 i) (hc1 : ¬cond0_1 i) (hc2 : cond0_2 i) (q6 q7 q8 : Vec Ideal S1x1024 .f32) :
    out0_B_5 c i a3 h3 a4 h4 a5 h5 a6 h6 a7 h7 a8 h8 a9 h9 a10 h10 a11 h11 a12 h12 hc0 hc1 hc2 x y z w g q6 q7 q8 = k0_pay13 (k0_pay5 (k0_pay1 (F := Ideal)) x y) z w g := by
  unfold out0_B_5
  rw [View.read_writes_eq_canon _ _ _ (cover0_B_5 c i a3 h3 a4 h4 a5 h5 a6 h6 a7 h7 a8 h8 a9 h9 a10 h10 a11 h11 a12 h12 hc0 hc1 hc2 x y z w g q6 q7 q8)]
  unfold kernelRun0_B
  dsimp only
  sl_unfold_words
  rw [View.canon_unit_zero (S := S1024x1024) zero2]
  simp only [View.readCov_cons_toLoadRect, View.readCov_unit_zero (S := S1024x1024) _ zero2, View.readCov_unit_zero (S := S1x1024) _ zero2, View.readAt_eq_ld,
    h3.read_unread, h4.read_unread, h5.read_unread, h6.read_unread, h7.read_unread, h9.read_unread, h10.read_unread, h11.read_unread, h12.read_unread,
    View.ld_unit_zero (S := S1024x1536) zero2, View.ld_unit_zero (S := S1024x1024) zero2, View.ld_unit_zero (S := S1x1024) zero2]

theorem next6 (hc0 : cond0_0 i) (hc1 : ¬cond0_1 i) (hc2 : cond0_2 i) (q6 q7 q8 : Vec Ideal S1x1024 .f32) :
    out0_B_6 c i a3 h3 a4 h4 a5 h5 a6 h6 a7 h7 a8 h8 a9 h9 a10 h10 a11 h11 a12 h12 hc0 hc1 hc2 x y z w g q6 q7 q8 = k0_pay6 (k0_pay9 (k0_pay5 (k0_pay1 (F := Ideal)) x y) z) (k0_pay12 w) q6 := by
  unfold out0_B_6
  rw [View.read_writes_eq_canon _ _ _ (cover0_B_6 c i a3 h3 a4 h4 a5 h5 a6 h6 a7 h7 a8 h8 a9 h9 a10 h10 a11 h11 a12 h12 hc0 hc1 hc2 x y z w g q6 q7 q8)]
  unfold kernelRun0_B
  dsimp only
  sl_unfold_words
  rw [View.canon_unit_zero (S := S1x1024) zero2]
  simp only [View.readCov_cons_toLoadRect, View.readCov_unit_zero (S := S1024x1024) _ zero2, View.readCov_unit_zero (S := S1x1024) _ zero2, View.readAt_eq_ld,
    h3.read_unread, h4.read_unread, h5.read_unread, h6.read_unread, h7.read_unread, h9.read_unread, h10.read_unread, h11.read_unread, h12.read_unread,
    View.ld_unit_zero (S := S1024x1536) zero2, View.ld_unit_zero (S := S1024x1024) zero2, View.ld_unit_zero (S := S1x1024) zero2]

theorem next7 (hc0 : cond0_0 i) (hc1 : ¬cond0_1 i) (hc2 : cond0_2 i) (q6 q7 q8 : Vec Ideal S1x1024 .f32) :
    out0_B_7 c i a3 h3 a4 h4 a5 h5 a6 h6 a7 h7 a8 h8 a9 h9 a10 h10 a11 h11 a12 h12 hc0 hc1 hc2 x y z w g q6 q7 q8 = k0_pay7 (k0_pay9 (k0_pay5 (k0_pay1 (F := Ideal)) x y) z) q7 := by
  unfold out0_B_7
  rw [View.read_writes_eq_canon _ _ _ (cover0_B_7 c i a3 h3 a4 h4 a5 h5 a6 h6 a7 h7 a8 h8 a9 h9 a10 h10 a11 h11 a12 h12 hc0 hc1 hc2 x y z w g q6 q7 q8)]
  unfold kernelRun0_B
  dsimp only
  sl_unfold_words
  rw [View.canon_unit_zero (S := S1x1024) zero2]
  simp only [View.readCov_cons_toLoadRect, View.readCov_unit_zero (S := S1024x1024) _ zero2, View.readCov_unit_zero (S := S1x1024) _ zero2, View.readAt_eq_ld,
    h3.read_unread, h4.read_unread, h5.read_unread, h6.read_unread, h7.read_unread, h9.read_unread, h10.read_unread, h11.read_unread, h12.read_unread,
    View.ld_unit_zero (S := S1024x1536) zero2, View.ld_unit_zero (S := S1024x1024) zero2, View.ld_unit_zero (S := S1x1024) zero2]

theorem next8 (hc0 : cond0_0 i) (hc1 : ¬cond0_1 i) (hc2 : cond0_2 i) (q6 q7 q8 : Vec Ideal S1x1024 .f32) :
    out0_B_8 c i a3 h3 a4 h4 a5 h5 a6 h6 a7 h7 a8 h8 a9 h9 a10 h10 a11 h11 a12 h12 hc0 hc1 hc2 x y z w g q6 q7 q8 = k0_pay8 (k0_pay13 (k0_pay5 (k0_pay1 (F := Ideal)) x y) z w g) q8 := by
  unfold out0_B_8
  rw [View.read_writes_eq_canon _ _ _ (cover0_B_8 c i a3 h3 a4 h4 a5 h5 a6 h6 a7 h7 a8 h8 a9 h9 a10 h10 a11 h11 a12 h12 hc0 hc1 hc2 x y z w g q6 q7 q8)]
  unfold kernelRun0_B
  dsimp only
  sl_unfold_words
  rw [View.canon_unit_zero (S := S1x1024) zero2]
  simp only [View.readCov_cons_toLoadRect, View.readCov_unit_zero (S := S1024x1024) _ zero2, View.readCov_unit_zero (S := S1x1024) _ zero2, View.readAt_eq_ld,
    h3.read_unread, h4.read_unread, h5.read_unread, h6.read_unread, h7.read_unread, h9.read_unread, h10.read_unread, h11.read_unread, h12.read_unread,
    View.ld_unit_zero (S := S1024x1536) zero2, View.ld_unit_zero (S := S1024x1024) zero2, View.ld_unit_zero (S := S1x1024) zero2]

end Cases

variable (m : (ℓ : Loc nD τ sig) → Buf (Elt Ideal) ℓ) (c : Dev nD)

/-- The operands as launched. -/
abbrev x0 : FVec Ideal S8192x1536 .f32 := m ((c : Thread nD τ).loc main_arg0)
abbrev y0 : FVec Ideal S1024x1536 .f32 := m ((c : Thread nD τ).loc main_arg1)
abbrev z0 : FVec Ideal S8192x1024 .f32 := m ((c : Thread nD τ).loc main_arg2)
abbrev w0 : FVec Ideal S8192x1024 .f32 := m ((c : Thread nD τ).loc main_arg3)
abbrev g0 : FVec Ideal S1024 .f32 := m ((c : Thread nD τ).loc main_arg4)

theorem V_w : (V m c main_v0 : FVec Ideal S1024x1536 .bf16) = truncf .bf16 (y0 m c) bitsLt_bf16_f32 := by
  after_reads_simp

theorem V_g : (V m c main_v1 : FVec Ideal S1x1024 .f32) = shapeCast S1x1024 (g0 m c) shapeCasts_S1024_S1x1024 := by
  after_reads_simp
  rfl

theorem blk0 (t : Fin cfg0.N) (r : Fin 1024) (u : Fin 1536) :
    ((iblk m c 0 t : FVec Ideal S1024x1536 .f32) (ix2 r u) : EReal) = at2 (x0 m c) (1024 * t.val + r.val) (u.val) := by
  have hi : win0_0.index t 0 = t.val ∧ win0_0.index t 1 = 0 := by revert t; decide +kernel
  have hr := r.isLt
  have hu := u.isLt
  have ht : t.val < 8 := lt_of_lt_of_eq t.isLt N_0
  rw [← at2_mk (x0 m c) (show 1024 * t.val + r.val < 8192 by omega) u.isLt]
  unfold iblk
  rw [View.read_apply]
  show V m c main_arg0 _ = x0 m c _
  rw [V_main_arg0]
  congr 1
  funext a
  apply Fin.ext
  match a with
  | ⟨0, _⟩ => show win0_0.index t 0 * 1024 + 1 * r.val = 1024 * t.val + r.val; rw [hi.1]; omega
  | ⟨1, _⟩ => show win0_0.index t 1 * 1536 + 1 * u.val = u.val; rw [hi.2]; omega

theorem blk1 (t : Fin cfg0.N) (k : Fin 1024) (u : Fin 1536) :
    ((iblk m c 1 t : FVec Ideal S1024x1536 .bf16) (ix2 k u) : EReal) = at2 (y0 m c) k.val (u.val) := by
  have hi : win0_1.index t 0 = 0 ∧ win0_1.index t 1 = 0 := by revert t; decide +kernel
  have hu := u.isLt
  have ht : t.val < 8 := lt_of_lt_of_eq t.isLt N_0
  rw [← at2_mk (y0 m c) k.isLt u.isLt]
  unfold iblk
  rw [View.read_apply]
  show V m c main_v0 _ = y0 m c _
  rw [V_w]
  show y0 m c _ = y0 m c _
  congr 1
  funext a
  apply Fin.ext
  match a with
  | ⟨0, _⟩ => show win0_1.index t 0 * 1024 + 1 * k.val = k.val; rw [hi.1]; omega
  | ⟨1, _⟩ => show win0_1.index t 1 * 1536 + 1 * u.val = u.val; rw [hi.2]; omega

theorem blk2 (t : Fin cfg0.N) (r : Fin 1024) (k : Fin 1024) :
    ((iblk m c 2 t : FVec Ideal S1024x1024 .f32) (ix2 r k) : EReal) = at2 (z0 m c) (1024 * t.val + r.val) k.val := by
  have hi : win0_2.index t 0 = t.val ∧ win0_2.index t 1 = 0 := by revert t; decide +kernel
  have hr := r.isLt
  have ht : t.val < 8 := lt_of_lt_of_eq t.isLt N_0
  rw [← at2_mk (z0 m c) (show 1024 * t.val + r.val < 8192 by omega) k.isLt]
  unfold iblk
  rw [View.read_apply]
  show V m c main_arg2 _ = z0 m c _
  rw [V_main_arg2]
  congr 1
  funext a
  apply Fin.ext
  match a with
  | ⟨0, _⟩ => show win0_2.index t 0 * 1024 + 1 * r.val = 1024 * t.val + r.val; rw [hi.1]; omega
  | ⟨1, _⟩ => show win0_2.index t 1 * 1024 + 1 * k.val = k.val; rw [hi.2]; omega

theorem blk3 (t : Fin cfg0.N) (r : Fin 1024) (k : Fin 1024) :
    ((iblk m c 3 t : FVec Ideal S1024x1024 .f32) (ix2 r k) : EReal) = at2 (w0 m c) (1024 * t.val + r.val) k.val := by
  have hi : win0_3.index t 0 = t.val ∧ win0_3.index t 1 = 0 := by revert t; decide +kernel
  have hr := r.isLt
  have ht : t.val < 8 := lt_of_lt_of_eq t.isLt N_0
  rw [← at2_mk (w0 m c) (show 1024 * t.val + r.val < 8192 by omega) k.isLt]
  unfold iblk
  rw [View.read_apply]
  show V m c main_arg3 _ = w0 m c _
  rw [V_main_arg3]
  congr 1
  funext a
  apply Fin.ext
  match a with
  | ⟨0, _⟩ => show win0_3.index t 0 * 1024 + 1 * r.val = 1024 * t.val + r.val; rw [hi.1]; omega
  | ⟨1, _⟩ => show win0_3.index t 1 * 1024 + 1 * k.val = k.val; rw [hi.2]; omega

theorem blk4 (t : Fin cfg0.N) (p : Fin 1) (k : Fin 1024) :
    ((iblk m c 4 t : FVec Ideal S1x1024 .f32) (ix2 p k) : EReal) = at1 (g0 m c) k.val := by
  have hi : win0_4.index t 0 = 0 ∧ win0_4.index t 1 = 0 := by revert t; decide +kernel
  have hp := p.isLt
  rw [at1_val]
  unfold iblk
  rw [View.read_apply]
  show V m c main_v1 _ = g0 m c _
  rw [V_g]
  refine Eq.trans (congrArg (shapeCast S1x1024 (g0 m c) shapeCasts_S1024_S1x1024) (?_ : _ = ix2 p k)) ?_
  · funext a
    apply Fin.ext
    match a with
    | ⟨0, _⟩ => show win0_4.index t 0 * 1 + 1 * p.val = p.val; rw [hi.1]; omega
    | ⟨1, _⟩ => show win0_4.index t 1 * 1024 + 1 * k.val = k.val; rw [hi.2]; omega
  · generalize g0 m c = v
    pointwise

/-- Row by row: the incoming gradient, the normalised rows' input, the gradient scaled by the gain, and the result. -/
def ctr (R : ℕ) (k : ℕ) : EReal := (∑ s ∈ Finset.range 1536, at2 (x0 m c) R s * at2 (y0 m c) k s) + alpha * at2 (z0 m c) R k
def xr (R : ℕ) (k : Fin 1024) : EReal := at2 (w0 m c) R k.val
def dr (R : ℕ) (k : Fin 1024) : EReal := ctr m c R k.val * at1 (g0 m c) k.val
def gx (R : ℕ) (k : Fin 1024) : EReal := lnb (xr m c R) (dr m c R) k

/-- The product's tile at a point. -/
abbrev tile (t : Fin cfg0.N) : Vec Ideal S1024x1024 .f32 :=
  k0_pay5 (F := Ideal) (k0_pay1 (F := Ideal)) (iblk m c 0 t) (iblk m c 1 t)

theorem full_at (t : Fin cfg0.N) (r k : Fin 1024) :
    (tile m c t (ix2 r k) : EReal) = ∑ s ∈ Finset.range 1536, at2 (x0 m c) (1024 * t.val + r.val) s * at2 (y0 m c) k.val s := by
  unfold tile
  rw [step_at, zero_at, zero_add, ← sum_fin 1536 (fun s => at2 (x0 m c) (1024 * t.val + r.val) s * at2 (y0 m c) k.val s)]
  exact Finset.sum_congr rfl fun u _ => congrArg₂ (· * ·) (blk0 m c t r u) (blk1 m c t k u)

theorem ct_tile (t : Fin cfg0.N) (r k : Fin 1024) :
    (k0_pay9 (F := Ideal) (tile m c t) (iblk m c 2 t) (ix2 r k) : EReal) = ctr m c (1024 * t.val + r.val) k.val := by
  rw [ct_at, full_at m c t]
  exact congrArg (fun v => _ + alpha * v) (blk2 m c t r k)

theorem nrm_tile (t : Fin cfg0.N) (r k : Fin 1024) :
    (k0_pay12 (F := Ideal) (iblk m c 3 t) (ix2 r k) : EReal) = nrm (xr m c (1024 * t.val + r.val)) k := by
  rw [nrm_at]
  exact congrArg (fun f => nrm f k) (funext fun j => blk3 m c t r j)

theorem grad_tile (t : Fin cfg0.N) (r k : Fin 1024) :
    (k0_pay13 (F := Ideal) (tile m c t) (iblk m c 2 t) (iblk m c 3 t) (iblk m c 4 t) (ix2 r k) : EReal) = gx m c (1024 * t.val + r.val) k := by
  rw [grad_at]
  refine congrArg₂ (fun f d => lnb f d k) (funext fun j => blk3 m c t r j) (funext fun j => ?_)
  refine congrArg₂ (· * ·) ?_ (blk4 m c t 0 j)
  rw [← ct_tile m c t r j, ct_at]

/-- The rows' gradients at a point. -/
theorem out_at (t : Fin cfg0.N) (r k : Fin 1024) :
    ((outsAt0 m c t.val t.isLt).1 (ix2 r k) : EReal) = gx m c (1024 * t.val + r.val) k := by
  by_cases h : t.val % 8 = 0
  · rw [outsAt0_A m c t h]
    dsimp only
    rw [start5]
    exact grad_tile m c t r k
  · rw [outsAt0_B m c t h]
    dsimp only
    rw [next5]
    exact grad_tile m c t r k

/-- What one point adds to a column's sum. -/
def atTile (f : ℕ → EReal) (n : ℕ) : EReal := ∑ u ∈ Finset.range 1024, f (1024 * n + u)

theorem lt7 : 7 < cfg0.N := by have hN : cfg0.N = 8 := N_0; omega

theorem at7 (t : Fin cfg0.N) (h : t.val % 8 = 7) : t = ⟨7, lt7⟩ :=
  Fin.ext (by have hN : cfg0.N = 8 := N_0; have := t.isLt; show t.val = 7; omega)

/-- The columns' sums of output 6 after every point. -/
theorem gain_acc (p : Fin 1) (k : Fin 1024) (n : ℕ) (h : n < cfg0.N) :
    ((outsAt0 m c n h).2.1 (ix2 p k) : EReal)
      = ∑ j ∈ Finset.range (n % 8 + 1), atTile (fun R => ctr m c R k.val * nrm (xr m c R) k) (8 * (n / 8) + j) := by
  refine since_start 8 (by decide) (fun n h => ((outsAt0 m c n h).2.1 (ix2 p k) : EReal)) (fun n => atTile (fun R => ctr m c R k.val * nrm (xr m c R) k) n) ?_ ?_ n h
  · intro n h hz
    have e := outsAt0_A m c ⟨n, h⟩ hz
    dsimp only at e ⊢
    rw [e]
    dsimp only
    rw [start6, gstep_at, gzero_at, zero_add]
    unfold atTile
    rw [← sum_fin 1024 (fun u => (fun R => ctr m c R k.val * nrm (xr m c R) k) (1024 * n + u))]
    exact Finset.sum_congr rfl fun u _ => congrArg₂ (· * ·) (ct_tile m c ⟨n, h⟩ u k) (nrm_tile m c ⟨n, h⟩ u k)
  · intro n h hz
    have e := outsAt0_B m c ⟨n + 1, h⟩ hz
    dsimp only at e ⊢
    rw [e]
    dsimp only
    rw [next6, gstep_at]
    unfold atTile
    refine congrArg₂ (· + ·) rfl ?_
    rw [← sum_fin 1024 (fun u => (fun R => ctr m c R k.val * nrm (xr m c R) k) (1024 * (n + 1) + u))]
    exact Finset.sum_congr rfl fun u _ => congrArg₂ (· * ·) (ct_tile m c ⟨n + 1, h⟩ u k) (nrm_tile m c ⟨n + 1, h⟩ u k)

theorem flush6 (t : Fin cfg0.N) (hf : (cfg0.win 6).flush t = true) :
    (dats m 0 c).flushed 6 t = ((cfg0.win 6).blk t).view.read (Elt Ideal) ((outsAt0 m c 7 lt7).2.1) := by
  have ht := at7 t ((flush0_6 t).mp hf)
  show (cfg0.win 6).cut (grid0.coords t) ((dats m 0 c).after 6 t) = _
  rw [after0_6]
  subst ht
  have hz' : (fun a => win0_6.index ⟨7, lt7⟩ a * main_v2_1.ty.shape.size a) = fun _ => 0 :=
    funext fun a => by fin_cases a <;> decide +kernel
  exact (Memref.read_access_unit_zero (Elt Ideal) main_v2_1 hz' (fun a => by rw [congrFun hz' a]; simp) ((outsAt0 m c 7 lt7).2.1)).symm

theorem mem6 (t : Fin cfg0.N) (i : main_v2_1.ty.Idx) : i ∈ ((cfg0.win 6).blk t).view.set := by
  have hi : win0_6.index t 0 = 0 ∧ win0_6.index t 1 = 0 := by revert t; decide +kernel
  have hx : win0_6.xsize (grid0.coords t) 0 = 1 ∧ win0_6.xsize (grid0.coords t) 1 = 1024 := by revert t; decide +kernel
  have hi0 : (i 0).val < 1 := (i 0).isLt
  have hi1 : (i 1).val < 1024 := (i 1).isLt
  show i ∈ ((View.whole main_v2_1).slice (win0_6.rect t)).set
  rw [View.set_slice_whole, Rect.mem_set_unit]
  intro a
  match a with
  | ⟨0, _⟩ =>
    show win0_6.index t 0 * 1 ≤ (i 0 : Nat) ∧ (i 0 : Nat) < win0_6.index t 0 * 1 + win0_6.xsize (grid0.coords t) 0
    rw [hi.1, hx.1]; omega
  | ⟨1, _⟩ =>
    show win0_6.index t 1 * 1024 ≤ (i 1 : Nat) ∧ (i 1 : Nat) < win0_6.index t 1 * 1024 + win0_6.xsize (grid0.coords t) 1
    rw [hi.2, hx.2]; omega

theorem gain_arr (p : Fin 1) (k : Fin 1024) :
    ((dats m 0 c).arrAt 6 cfg0.N (ix2 p k) : EReal) = ∑ R ∈ Finset.range 8192, (fun R => ctr m c R k.val * nrm (xr m c R) k) R := by
  rw [Pipeline.Dat.arrAt_eq_of_cover (dats m 0 c) 6 ((outsAt0 m c 7 lt7).2.1) (fun t ht => flush6 m c t ht) fun i =>
    ⟨⟨7, lt7⟩, (flush0_6 _).mpr rfl, mem6 _ i⟩]
  refine (gain_acc m c p k 7 lt7).trans ?_
  refine Eq.trans ?_ (range_tiles 1024 (fun R => ctr m c R k.val * nrm (xr m c R) k) 8)
  refine Finset.sum_congr rfl fun j hj => ?_
  rw [show 8 * (7 / 8) + j = j by omega]
  rfl

/-- The columns' sums of output 7 after every point. -/
theorem bias_acc (p : Fin 1) (k : Fin 1024) (n : ℕ) (h : n < cfg0.N) :
    ((outsAt0 m c n h).2.2.1 (ix2 p k) : EReal)
      = ∑ j ∈ Finset.range (n % 8 + 1), atTile (fun R => ctr m c R k.val) (8 * (n / 8) + j) := by
  refine since_start 8 (by decide) (fun n h => ((outsAt0 m c n h).2.2.1 (ix2 p k) : EReal)) (fun n => atTile (fun R => ctr m c R k.val) n) ?_ ?_ n h
  · intro n h hz
    have e := outsAt0_A m c ⟨n, h⟩ hz
    dsimp only at e ⊢
    rw [e]
    dsimp only
    rw [start7, bstep_at, bzero_at, zero_add]
    unfold atTile
    rw [← sum_fin 1024 (fun u => (fun R => ctr m c R k.val) (1024 * n + u))]
    exact Finset.sum_congr rfl fun u _ => ct_tile m c ⟨n, h⟩ u k
  · intro n h hz
    have e := outsAt0_B m c ⟨n + 1, h⟩ hz
    dsimp only at e ⊢
    rw [e]
    dsimp only
    rw [next7, bstep_at]
    unfold atTile
    refine congrArg₂ (· + ·) rfl ?_
    rw [← sum_fin 1024 (fun u => (fun R => ctr m c R k.val) (1024 * (n + 1) + u))]
    exact Finset.sum_congr rfl fun u _ => ct_tile m c ⟨n + 1, h⟩ u k

theorem flush7 (t : Fin cfg0.N) (hf : (cfg0.win 7).flush t = true) :
    (dats m 0 c).flushed 7 t = ((cfg0.win 7).blk t).view.read (Elt Ideal) ((outsAt0 m c 7 lt7).2.2.1) := by
  have ht := at7 t ((flush0_7 t).mp hf)
  show (cfg0.win 7).cut (grid0.coords t) ((dats m 0 c).after 7 t) = _
  rw [after0_7]
  subst ht
  have hz' : (fun a => win0_7.index ⟨7, lt7⟩ a * main_v2_2.ty.shape.size a) = fun _ => 0 :=
    funext fun a => by fin_cases a <;> decide +kernel
  exact (Memref.read_access_unit_zero (Elt Ideal) main_v2_2 hz' (fun a => by rw [congrFun hz' a]; simp) ((outsAt0 m c 7 lt7).2.2.1)).symm

theorem mem7 (t : Fin cfg0.N) (i : main_v2_2.ty.Idx) : i ∈ ((cfg0.win 7).blk t).view.set := by
  have hi : win0_7.index t 0 = 0 ∧ win0_7.index t 1 = 0 := by revert t; decide +kernel
  have hx : win0_7.xsize (grid0.coords t) 0 = 1 ∧ win0_7.xsize (grid0.coords t) 1 = 1024 := by revert t; decide +kernel
  have hi0 : (i 0).val < 1 := (i 0).isLt
  have hi1 : (i 1).val < 1024 := (i 1).isLt
  show i ∈ ((View.whole main_v2_2).slice (win0_7.rect t)).set
  rw [View.set_slice_whole, Rect.mem_set_unit]
  intro a
  match a with
  | ⟨0, _⟩ =>
    show win0_7.index t 0 * 1 ≤ (i 0 : Nat) ∧ (i 0 : Nat) < win0_7.index t 0 * 1 + win0_7.xsize (grid0.coords t) 0
    rw [hi.1, hx.1]; omega
  | ⟨1, _⟩ =>
    show win0_7.index t 1 * 1024 ≤ (i 1 : Nat) ∧ (i 1 : Nat) < win0_7.index t 1 * 1024 + win0_7.xsize (grid0.coords t) 1
    rw [hi.2, hx.2]; omega

theorem bias_arr (p : Fin 1) (k : Fin 1024) :
    ((dats m 0 c).arrAt 7 cfg0.N (ix2 p k) : EReal) = ∑ R ∈ Finset.range 8192, (fun R => ctr m c R k.val) R := by
  rw [Pipeline.Dat.arrAt_eq_of_cover (dats m 0 c) 7 ((outsAt0 m c 7 lt7).2.2.1) (fun t ht => flush7 m c t ht) fun i =>
    ⟨⟨7, lt7⟩, (flush0_7 _).mpr rfl, mem7 _ i⟩]
  refine (bias_acc m c p k 7 lt7).trans ?_
  refine Eq.trans ?_ (range_tiles 1024 (fun R => ctr m c R k.val) 8)
  refine Finset.sum_congr rfl fun j hj => ?_
  rw [show 8 * (7 / 8) + j = j by omega]
  rfl

/-- The columns' sums of output 8 after every point. -/
theorem sum_acc (p : Fin 1) (k : Fin 1024) (n : ℕ) (h : n < cfg0.N) :
    ((outsAt0 m c n h).2.2.2 (ix2 p k) : EReal)
      = ∑ j ∈ Finset.range (n % 8 + 1), atTile (fun R => gx m c R k) (8 * (n / 8) + j) := by
  refine since_start 8 (by decide) (fun n h => ((outsAt0 m c n h).2.2.2 (ix2 p k) : EReal)) (fun n => atTile (fun R => gx m c R k) n) ?_ ?_ n h
  · intro n h hz
    have e := outsAt0_A m c ⟨n, h⟩ hz
    dsimp only at e ⊢
    rw [e]
    dsimp only
    rw [start8, sstep_at, szero_at, zero_add]
    unfold atTile
    rw [← sum_fin 1024 (fun u => (fun R => gx m c R k) (1024 * n + u))]
    exact Finset.sum_congr rfl fun u _ => grad_tile m c ⟨n, h⟩ u k
  · intro n h hz
    have e := outsAt0_B m c ⟨n + 1, h⟩ hz
    dsimp only at e ⊢
    rw [e]
    dsimp only
    rw [next8, sstep_at]
    unfold atTile
    refine congrArg₂ (· + ·) rfl ?_
    rw [← sum_fin 1024 (fun u => (fun R => gx m c R k) (1024 * (n + 1) + u))]
    exact Finset.sum_congr rfl fun u _ => grad_tile m c ⟨n + 1, h⟩ u k

theorem flush8 (t : Fin cfg0.N) (hf : (cfg0.win 8).flush t = true) :
    (dats m 0 c).flushed 8 t = ((cfg0.win 8).blk t).view.read (Elt Ideal) ((outsAt0 m c 7 lt7).2.2.2) := by
  have ht := at7 t ((flush0_8 t).mp hf)
  show (cfg0.win 8).cut (grid0.coords t) ((dats m 0 c).after 8 t) = _
  rw [after0_8]
  subst ht
  have hz' : (fun a => win0_8.index ⟨7, lt7⟩ a * main_v2_3.ty.shape.size a) = fun _ => 0 :=
    funext fun a => by fin_cases a <;> decide +kernel
  exact (Memref.read_access_unit_zero (Elt Ideal) main_v2_3 hz' (fun a => by rw [congrFun hz' a]; simp) ((outsAt0 m c 7 lt7).2.2.2)).symm

theorem mem8 (t : Fin cfg0.N) (i : main_v2_3.ty.Idx) : i ∈ ((cfg0.win 8).blk t).view.set := by
  have hi : win0_8.index t 0 = 0 ∧ win0_8.index t 1 = 0 := by revert t; decide +kernel
  have hx : win0_8.xsize (grid0.coords t) 0 = 1 ∧ win0_8.xsize (grid0.coords t) 1 = 1024 := by revert t; decide +kernel
  have hi0 : (i 0).val < 1 := (i 0).isLt
  have hi1 : (i 1).val < 1024 := (i 1).isLt
  show i ∈ ((View.whole main_v2_3).slice (win0_8.rect t)).set
  rw [View.set_slice_whole, Rect.mem_set_unit]
  intro a
  match a with
  | ⟨0, _⟩ =>
    show win0_8.index t 0 * 1 ≤ (i 0 : Nat) ∧ (i 0 : Nat) < win0_8.index t 0 * 1 + win0_8.xsize (grid0.coords t) 0
    rw [hi.1, hx.1]; omega
  | ⟨1, _⟩ =>
    show win0_8.index t 1 * 1024 ≤ (i 1 : Nat) ∧ (i 1 : Nat) < win0_8.index t 1 * 1024 + win0_8.xsize (grid0.coords t) 1
    rw [hi.2, hx.2]; omega

theorem sum_arr (p : Fin 1) (k : Fin 1024) :
    ((dats m 0 c).arrAt 8 cfg0.N (ix2 p k) : EReal) = ∑ R ∈ Finset.range 8192, (fun R => gx m c R k) R := by
  rw [Pipeline.Dat.arrAt_eq_of_cover (dats m 0 c) 8 ((outsAt0 m c 7 lt7).2.2.2) (fun t ht => flush8 m c t ht) fun i =>
    ⟨⟨7, lt7⟩, (flush0_8 _).mpr rfl, mem8 _ i⟩]
  refine (sum_acc m c p k 7 lt7).trans ?_
  refine Eq.trans ?_ (range_tiles 1024 (fun R => gx m c R k) 8)
  refine Finset.sum_congr rfl fun j hj => ?_
  rw [show 8 * (7 / 8) + j = j by omega]
  rfl

/-- The rows' gradients. -/
theorem arr (r : Fin 8192) (k : Fin 1024) : ((dats m 0 c).arrAt 5 cfg0.N (ix2 r k) : EReal) = gx m c r.val k := by
  have hr := r.isLt
  have hk := k.isLt
  have hN : cfg0.N = 8 := N_0
  have ht : r.val / 1024 < cfg0.N := by rw [hN]; omega
  have hi : ∀ t : Fin cfg0.N, win0_5.index t 0 = t.val ∧ win0_5.index t 1 = 0 := by decide +kernel
  have hi' := hi ⟨_, ht⟩
  have e := congrFun (Cert.Kernel14Ideal.Value.blocks5 m c ⟨_, ht⟩ (flush0_5 ⟨_, ht⟩))
    (ix2 (⟨r.val % 1024, by omega⟩ : Fin 1024) (⟨k.val, by omega⟩ : Fin 1024))
  rw [View.read_apply, Cert.Kernel14Ideal.Value.flushed5] at e
  have eo := out_at m c ⟨_, ht⟩ ⟨r.val % 1024, by omega⟩ ⟨k.val, by omega⟩
  dsimp only at eo
  rw [show 1024 * (r.val / 1024) + r.val % 1024 = r.val by omega] at eo
  refine Eq.trans ?_ (e.trans eo)
  refine congrArg ((dats m 0 c).arrAt 5 cfg0.N) ?_
  funext a
  apply Fin.ext
  match a with
  | ⟨0, _⟩ =>
    show r.val = win0_5.index ⟨_, ht⟩ 0 * 1024 + 1 * (r.val % 1024)
    rw [hi'.1]; dsimp only; omega
  | ⟨1, _⟩ =>
    show k.val = win0_5.index ⟨_, ht⟩ 1 * 1024 + 1 * (k.val)
    rw [hi'.2]; try dsimp only
    omega

end Cert.Proof.Prod.DxsLnRun
-- ==== Proof.Prod.DxsLnRef.lean ====
module

public import proofs.«01_k».proof.Proof.Gen.Reference14Ideal.Read
public import proofs.«01_k».proof.Proof.Prod.Tile
public import proofs.«01_k».proof.Proof.Prod.Norm

/-! The reference's side of the gradient through a product and the layer normalisation before it. -/

@[expose] public section

noncomputable section

open Idealize.ShloMosaic Idealize.ShloMosaic.TcCoe
open Cert.Reference14Ideal Cert.Reference14Ideal.Gen Cert.Reference14Ideal.Read

namespace Cert.Proof.Prod.DxsLnRef

variable (x : FVec Ideal S8192x1536 .f32) (y : FVec Ideal S1024x1536 .f32) (z w : FVec Ideal S8192x1024 .f32) (g : FVec Ideal S1024 .f32)

/-- The incoming gradient of the normalised row. -/
theorem ct_at (r : Fin 8192) (k : Fin 1024) :
    (val_main_v39 (F := Ideal) x y z (ix2 r k) : EReal)
      = (∑ t : Fin 1536, x (ix2 r t) * y (ix2 k t)) + FloatOps.ofBits (F := Ideal) .f32 0x3FB504F3#32 * z (ix2 r k) := by
  unfold val_main_v39 val_main_v38 val_main_v37 val_main_v36 val_main_cst_8
  pointwise
  exact add_comm _ _

theorem in_at (r : Fin 8192) (k : Fin 1024) : (val_main_v3 (F := Ideal) w (ix2 r k) : EReal) = w (ix2 r k) := by
  unfold val_main_v3 val_main_v2 val_main_v1 val_main_v0 val_main_cst
  pointwise
  try simp [Ideal.ofBits, Ideal.ieee]

theorem mean_at (r : Fin 8192) (p : Fin 1) : (val_main_v7 (F := Ideal) w (ix2 r p) : EReal) = mean fun j => w (ix2 r j) := by
  unfold val_main_v7 val_main_v6 val_main_v5 val_main_v4 val_main_cst_0 val_main_cst_1 mean
  simp only [← in_at w]
  generalize val_main_v3 (F := Ideal) w = v
  pointwise
  try simp [Ideal.ofBits, Ideal.ieee]

theorem cen_at (r : Fin 8192) (k : Fin 1024) : (val_main_v9 (F := Ideal) w (ix2 r k) : EReal) = cen (fun j => w (ix2 r j)) k := by
  unfold val_main_v9 val_main_v8 cen
  rw [← mean_at w r 0]
  show _ = w (ix2 r k) - _
  rw [← in_at w r k]
  generalize val_main_v3 (F := Ideal) w = v
  generalize val_main_v7 (F := Ideal) w = u
  pointwise

theorem cen_at' (r : Fin 8192) (k : Fin 1024) : (val_main_v18 (F := Ideal) w (ix2 r k) : EReal) = cen (fun j => w (ix2 r j)) k := by
  unfold val_main_v18 val_main_v17 cen
  rw [← mean_at w r 0]
  show _ = w (ix2 r k) - _
  rw [← in_at w r k]
  generalize val_main_v3 (F := Ideal) w = v
  generalize val_main_v7 (F := Ideal) w = u
  pointwise

theorem dev_at (r : Fin 8192) (p : Fin 1) : (val_main_v20 (F := Ideal) w (ix2 r p) : EReal) = dev fun j => w (ix2 r j) := by
  unfold val_main_v20 val_main_v19 val_main_v16 val_main_v15 val_main_v14 val_main_v13 val_main_v10 val_main_cst_3 val_main_cst_4 val_main_cst_5 dev mean
  simp only [← cen_at w]
  generalize val_main_v9 (F := Ideal) w = v
  pointwise
  try simp [Ideal.ofBits, Ideal.ieee]

theorem rst_at (r : Fin 8192) (p : Fin 1) : (val_main_v21 (F := Ideal) w (ix2 r p) : EReal) = rst fun j => w (ix2 r j) := by
  unfold val_main_v21 rst
  rw [← dev_at w r p]
  generalize val_main_v20 (F := Ideal) w = v
  pointwise

theorem nrm_at (r : Fin 8192) (k : Fin 1024) : (val_main_v26 (F := Ideal) w (ix2 r k) : EReal) = nrm (fun j => w (ix2 r j)) k := by
  unfold val_main_v26 val_main_v25 nrm
  rw [← cen_at' w r k, ← rst_at w r 0]
  generalize val_main_v18 (F := Ideal) w = v
  generalize val_main_v21 (F := Ideal) w = u
  pointwise

theorem half_at (r : Fin 8192) (p : Fin 1) :
    (val_main_v24 (F := Ideal) w (ix2 r p) : EReal) = mhalf * Ideal.div (rst fun j => w (ix2 r j)) (dev fun j => w (ix2 r j)) := by
  unfold val_main_v24 val_main_v23 val_main_v22 val_main_cst_6
  rw [← rst_at w r p, ← dev_at w r p]
  generalize val_main_v20 (F := Ideal) w = v
  generalize val_main_v21 (F := Ideal) w = u
  pointwise

/-- The gradient of the row scaled by the gain. -/
theorem d_at (r : Fin 8192) (k : Fin 1024) :
    (val_main_v47 (F := Ideal) x y z g (ix2 r k) : EReal) = val_main_v39 (F := Ideal) x y z (ix2 r k) * g (ix1 k) := by
  unfold val_main_v47 val_main_v46 val_main_v27
  generalize val_main_v39 (F := Ideal) x y z = v
  pointwise

theorem first_at (r : Fin 8192) (k : Fin 1024) :
    (val_main_v53 (F := Ideal) x y z w g (ix2 r k) : EReal) = val_main_v47 (F := Ideal) x y z g (ix2 r k) * rst fun j => w (ix2 r j) := by
  unfold val_main_v53 val_main_v52
  rw [← rst_at w r 0]
  generalize val_main_v47 (F := Ideal) x y z g = v
  generalize val_main_v21 (F := Ideal) w = u
  pointwise

theorem q_at (r : Fin 8192) :
    (val_main_v60 (F := Ideal) x y z w g (ix1 r) : EReal) = lnq (fun j => w (ix2 r j)) fun j => val_main_v47 (F := Ideal) x y z g (ix2 r j) := by
  unfold val_main_v60 val_main_v59 val_main_v58 val_main_v54 val_main_v51 val_main_v50 val_main_v49 val_main_cst_13 val_main_cst_15 val_main_cst_16 lnq
  simp only [← cen_at' w, ← half_at w r 0]
  generalize val_main_v47 (F := Ideal) x y z g = v
  generalize val_main_v18 (F := Ideal) w = u
  generalize val_main_v24 (F := Ideal) w = o
  pointwise
  try simp [Ideal.ofBits, Ideal.ieee]

theorem second_at (r : Fin 8192) (k : Fin 1024) :
    (val_main_v62 (F := Ideal) x y z w g (ix2 r k) : EReal)
      = lnq (fun j => w (ix2 r j)) (fun j => val_main_v47 (F := Ideal) x y z g (ix2 r j)) * (two * cen (fun j => w (ix2 r j)) k) := by
  unfold val_main_v62 val_main_v61 val_main_v12 val_main_v11 val_main_cst_2
  rw [← q_at, ← cen_at w]
  generalize val_main_v60 (F := Ideal) x y z w g = v
  generalize val_main_v9 (F := Ideal) w = u
  pointwise

theorem x_at (r : Fin 8192) (k : Fin 1024) :
    (val_main_v72 (F := Ideal) x y z w g (ix2 r k) : EReal)
      = lnv (fun j => w (ix2 r j)) (fun j => val_main_v47 (F := Ideal) x y z g (ix2 r j)) k := by
  unfold val_main_v72 val_main_v71 val_main_v70 val_main_v69 val_main_v68 val_main_v67 val_main_v66 val_main_v65 val_main_v64 val_main_v63 val_main_v57 val_main_v56 val_main_v55
    val_main_cst_14 val_main_cst_17 val_main_cst_18 val_main_cst_19 lnv
  simp only [← first_at x y z w g, ← second_at x y z w g]
  generalize val_main_v53 (F := Ideal) x y z w g = v
  generalize val_main_v62 (F := Ideal) x y z w g = u
  pointwise
  try simp [Ideal.ofBits, Ideal.ieee]

theorem gain_at (p : Fin 1) (k : Fin 1024) :
    (val_main_v76 (F := Ideal) x y z w (ix2 p k) : EReal)
      = ∑ r : Fin 8192, nrm (fun j => w (ix2 r j)) k * val_main_v39 (F := Ideal) x y z (ix2 r k) := by
  unfold val_main_v76 val_main_v48 val_main_v45 val_main_v44 val_main_v43 val_main_cst_11 val_main_cst_12
  simp only [← nrm_at w]
  generalize val_main_v39 (F := Ideal) x y z = v
  generalize val_main_v26 (F := Ideal) w = u
  pointwise
  try simp [Ideal.ofBits, Ideal.ieee]

theorem bias_at (p : Fin 1) (k : Fin 1024) :
    (val_main_v77 (F := Ideal) x y z (ix2 p k) : EReal) = ∑ r : Fin 8192, val_main_v39 (F := Ideal) x y z (ix2 r k) := by
  unfold val_main_v77 val_main_v42 val_main_v41 val_main_v40 val_main_cst_9 val_main_cst_10
  generalize val_main_v39 (F := Ideal) x y z = v
  pointwise
  try simp [Ideal.ofBits, Ideal.ieee]

theorem sum_at (p : Fin 1) (k : Fin 1024) :
    (val_main_v78 (F := Ideal) x y z w g (ix2 p k) : EReal) = ∑ r : Fin 8192, val_main_v72 (F := Ideal) x y z w g (ix2 r k) := by
  unfold val_main_v78 val_main_v75 val_main_v74 val_main_v73 val_main_cst_20 val_main_cst_21
  generalize val_main_v72 (F := Ideal) x y z w g = v
  pointwise
  try simp [Ideal.ofBits, Ideal.ieee]

end Cert.Proof.Prod.DxsLnRef
-- ==== Proof.Prod.DxsLn.lean ====
module

public import proofs.«01_k».proof.Proof.Prod.DxsLnRun
public import proofs.«01_k».proof.Proof.Prod.DxsLnRef
public import proofs.«01_k».proof.Proof.Attn.Equal
public import proofs.«01_k».proof.Defs

/-! The call's four arrays are the reference's, the arguments but the normalised rows being finite. -/

@[expose] public section

noncomputable section

open Idealize.ShloMosaic Idealize.ShloMosaic.TcCoe Idealize.SL.Sem
open Cert.Kernel14Ideal Cert.Kernel14Ideal.Gen Cert.Proof.Soft Cert.Proof.Attn Cert.Proof.Prod.DxsLnRun

namespace Cert.Proof.Prod.DxsLn

theorem pre_facts : Cert.Pre_finite_but_r2.Facts := ⟨by decide, by decide, by decide, by decide⟩

section Finite

variable [Cert.Pre_finite_but_r2.Facts] (x : FVec Ideal S8192x1536 .f32) (y : FVec Ideal S1024x1536 .f32) (z w : FVec Ideal S8192x1024 .f32) (g : FVec Ideal S1024 .f32)

theorem fin_x (h : (Cert.Pre_finite_but_r2.fn (F := Ideal) x y z w g).1 = fun _ => 1#1) (r : Fin 8192) (k : Fin 1536) : Fin' (x (ix2 r k)) := by
  refine fin_of_abs ((Eq.trans ?_ (congrFun h (ix2 r k))))
  unfold Cert.Pre_finite_but_r2.fn
  pointwise
  rfl

theorem fin_y (h : (Cert.Pre_finite_but_r2.fn (F := Ideal) x y z w g).2.1 = fun _ => 1#1) (r : Fin 1024) (k : Fin 1536) : Fin' (y (ix2 r k)) := by
  refine fin_of_abs ((Eq.trans ?_ (congrFun h (ix2 r k))))
  unfold Cert.Pre_finite_but_r2.fn
  pointwise
  rfl

theorem fin_z (h : (Cert.Pre_finite_but_r2.fn (F := Ideal) x y z w g).2.2.1 = fun _ => 1#1) (r : Fin 8192) (k : Fin 1024) : Fin' (z (ix2 r k)) := by
  refine fin_of_abs ((Eq.trans ?_ (congrFun h (ix2 r k))))
  unfold Cert.Pre_finite_but_r2.fn
  pointwise
  rfl

theorem fin_g (h : (Cert.Pre_finite_but_r2.fn (F := Ideal) x y z w g).2.2.2 = fun _ => 1#1) (k : Fin 1024) : Fin' (g (ix1 k)) := by
  refine fin_of_abs ((Eq.trans ?_ (congrFun h (ix1 k))))
  unfold Cert.Pre_finite_but_r2.fn
  pointwise
  rfl

end Finite

theorem fin_alpha : Fin' alpha := by
  have e : alpha = ((11863283 / 8388608 : ℝ) : EReal) := by
    show Ideal.ofBits .f32 0x3FB504F3#32 = _
    simp [Ideal.ofBits, Ideal.ieee]
    rw [← EReal.coe_mul]
    norm_num
  rw [e]
  exact ⟨EReal.coe_ne_top _, EReal.coe_ne_bot _⟩

variable (m : (ℓ : Loc nD τ sig) → Buf (Elt Ideal) ℓ) (c : Dev nD)

/-- The reference's rows are the call's. -/
theorem ct_eq (r : Fin 8192) (k : Fin 1024) :
    (Cert.Reference14Ideal.Read.val_main_v39 (F := Ideal) (x0 m c) (y0 m c) (z0 m c) (ix2 r k) : EReal) = ctr m c r.val k.val := by
  rw [DxsLnRef.ct_at]
  unfold ctr
  rw [← sum_fin 1536 (fun s => at2 (x0 m c) r.val s * at2 (y0 m c) k.val s)]
  simp only [at2_val]

theorem xr_eq (r : Fin 8192) : (fun j => w0 m c (ix2 r j)) = xr m c r.val :=
  funext fun j => (at2_val (w0 m c) r j).symm

theorem dr_eq (r : Fin 8192) :
    (fun j => (Cert.Reference14Ideal.Read.val_main_v47 (F := Ideal) (x0 m c) (y0 m c) (z0 m c) (g0 m c) (ix2 r j) : EReal)) = dr m c r.val := by
  funext j
  rw [DxsLnRef.d_at, ct_eq]
  unfold dr
  rw [at1_val]

theorem gequal : ((dats m 0 c).arrAt 6 cfg0.N : FVec Ideal S1x1024 .f32)
    = Cert.Reference14Ideal.Read.val_main_v76 (F := Ideal) (x0 m c) (y0 m c) (z0 m c) (w0 m c) := by
  funext i
  obtain ⟨p, k, rfl⟩ : ∃ p k, i = ix2 p k := ⟨i 0, i 1, eq_ix2 i⟩
  refine (gain_arr m c p k).trans (Eq.symm ((DxsLnRef.gain_at _ _ _ _ p k).trans ?_))
  rw [← sum_fin 8192 (fun R => ctr m c R k.val * nrm (xr m c R) k)]
  refine Finset.sum_congr rfl fun r _ => ?_
  rw [xr_eq, ct_eq, mul_comm]

theorem bequal : ((dats m 0 c).arrAt 7 cfg0.N : FVec Ideal S1x1024 .f32)
    = Cert.Reference14Ideal.Read.val_main_v77 (F := Ideal) (x0 m c) (y0 m c) (z0 m c) := by
  funext i
  obtain ⟨p, k, rfl⟩ : ∃ p k, i = ix2 p k := ⟨i 0, i 1, eq_ix2 i⟩
  refine (bias_arr m c p k).trans (Eq.symm ((DxsLnRef.bias_at _ _ _ p k).trans ?_))
  rw [← sum_fin 8192 (fun R => ctr m c R k.val)]
  exact Finset.sum_congr rfl fun r _ => ct_eq m c r k

theorem dr_fin (hpre : letI := pre_facts; Cert.Pre_Kernel14Ideal_finite_but_r2 m) (r : Fin 8192) (k : Fin 1024) : Fin' (dr m c r.val k) := by
  letI := pre_facts
  have h := hpre c
  rw [← dr_eq]
  show Fin' (Cert.Reference14Ideal.Read.val_main_v47 (F := Ideal) (x0 m c) (y0 m c) (z0 m c) (g0 m c) (ix2 r k))
  rw [DxsLnRef.d_at, DxsLnRef.ct_at]
  exact fin_mul (fin_add (fin_sum _ _ fun t => fin_mul (fin_x _ _ _ _ _ h.1 r t) (fin_y _ _ _ _ _ h.2.1 k t))
    (fin_mul fin_alpha (fin_z _ _ _ _ _ h.2.2.1 r k))) (fin_g _ _ _ _ _ h.2.2.2 k)

theorem row_eq (hpre : letI := pre_facts; Cert.Pre_Kernel14Ideal_finite_but_r2 m) (r : Fin 8192) (k : Fin 1024) :
    (Cert.Reference14Ideal.Read.val_main_v72 (F := Ideal) (x0 m c) (y0 m c) (z0 m c) (w0 m c) (g0 m c) (ix2 r k) : EReal) = gx m c r.val k := by
  rw [DxsLnRef.x_at, xr_eq, dr_eq]
  exact (lnb_eq_lnv _ _ (fun j => dr_fin m c hpre r j) k).symm

theorem equal (hpre : letI := pre_facts; Cert.Pre_Kernel14Ideal_finite_but_r2 m) : ((dats m 0 c).arrAt 5 cfg0.N : FVec Ideal S8192x1024 .f32)
    = Cert.Reference14Ideal.Read.val_main_v72 (F := Ideal) (x0 m c) (y0 m c) (z0 m c) (w0 m c) (g0 m c) := by
  funext i
  obtain ⟨r, k, rfl⟩ : ∃ r k, i = ix2 r k := ⟨i 0, i 1, eq_ix2 i⟩
  exact (arr m c r k).trans (row_eq m c hpre r k).symm

theorem sequal (hpre : letI := pre_facts; Cert.Pre_Kernel14Ideal_finite_but_r2 m) : ((dats m 0 c).arrAt 8 cfg0.N : FVec Ideal S1x1024 .f32)
    = Cert.Reference14Ideal.Read.val_main_v78 (F := Ideal) (x0 m c) (y0 m c) (z0 m c) (w0 m c) (g0 m c) := by
  funext i
  obtain ⟨p, k, rfl⟩ : ∃ p k, i = ix2 p k := ⟨i 0, i 1, eq_ix2 i⟩
  refine (sum_arr m c p k).trans (Eq.symm ((DxsLnRef.sum_at _ _ _ _ _ p k).trans ?_))
  rw [← sum_fin 8192 (fun R => gx m c R k)]
  exact Finset.sum_congr rfl fun r _ => row_eq m c hpre r k

end Cert.Proof.Prod.DxsLn
-- ==== Proof.Prod.LnInRun.lean ====
module

public import proofs.«01_k».proof.Proof.Gen.Kernel15Ideal.Value
public import proofs.«01_k».proof.Proof.Prod.Tile
public import proofs.«01_k».proof.Proof.Prod.Norm
public import Idealize.ShloMosaic.Lib.StableHlo.RunRead

/-! The gradient through the input's layer normalisation: what the call leaves in its first three arrays. -/

@[expose] public section

noncomputable section

open Idealize.ShloMosaic Idealize.ShloMosaic.TcCoe Idealize.SL.Sem
open Cert.Kernel15Ideal Cert.Kernel15Ideal.Gen

namespace Cert.Proof.Prod.LnInRun

theorem gzero_at (p : Fin 1) (k : Fin 1024) : (k0_pay4 (F := Ideal) (ix2 p k) : EReal) = 0 := by
  unfold k0_pay4
  pointwise
  try simp [Ideal.ofBits, Ideal.ieee]

theorem bzero_at (p : Fin 1) (k : Fin 1024) : (k0_pay5 (F := Ideal) (ix2 p k) : EReal) = 0 := by
  unfold k0_pay5
  pointwise
  try simp [Ideal.ofBits, Ideal.ieee]

theorem gstep_at (a b : Vec Ideal S512x1024 .f32) (q : Vec Ideal S1x1024 .f32) (p : Fin 1) (k : Fin 1024) :
    (k0_pay1 (F := Ideal) a b q (ix2 p k) : EReal) = q (ix2 p k) + ∑ t : Fin 512, a (ix2 t k) * b (ix2 t k) := by
  unfold k0_pay1
  pointwise

theorem bstep_at (a : Vec Ideal S512x1024 .f32) (q : Vec Ideal S1x1024 .f32) (p : Fin 1) (k : Fin 1024) :
    (k0_pay2 (F := Ideal) a q (ix2 p k) : EReal) = q (ix2 p k) + ∑ t : Fin 512, a (ix2 t k) := by
  unfold k0_pay2
  pointwise

theorem cen_at (x : Vec Ideal S512x1024 .f32) (r : Fin 512) (k : Fin 1024) :
    (k0_pay7 (F := Ideal) x (ix2 r k) : EReal) = cen (fun j => x (ix2 r j)) k := by
  unfold k0_pay7 cen mean
  pointwise

theorem rst_at (x : Vec Ideal S512x1024 .f32) (r : Fin 512) (p : Fin 1) :
    (k0_pay8 (F := Ideal) x (ix2 r p) : EReal) = rst (fun j => x (ix2 r j)) := by
  unfold k0_pay8 rst dev mean
  simp only [← cen_at]
  generalize k0_pay7 (F := Ideal) x = w
  pointwise

theorem nrm_at (x : Vec Ideal S512x1024 .f32) (r : Fin 512) (k : Fin 1024) :
    (k0_pay9 (F := Ideal) x (ix2 r k) : EReal) = nrm (fun j => x (ix2 r j)) k := by
  unfold k0_pay9 nrm
  rw [← cen_at, ← rst_at x r 0]
  generalize k0_pay7 (F := Ideal) x = w
  generalize k0_pay8 (F := Ideal) x = u
  pointwise

theorem grad_at (x d : Vec Ideal S512x1024 .f32) (g : Vec Ideal S1x1024 .f32) (r : Fin 512) (k : Fin 1024) :
    (k0_pay10 (F := Ideal) x d g (ix2 r k) : EReal)
      = lnb (fun j => x (ix2 r j)) (fun j => d (ix2 r j) * g (ix2 (0 : Fin 1) j)) k := by
  unfold k0_pay10 lnb mean
  simp only [← nrm_at, ← rst_at x r 0]
  generalize k0_pay8 (F := Ideal) x = u
  generalize k0_pay9 (F := Ideal) x = v
  pointwise

section Cases

variable (c : Dev nD) (i : grid0.Coords)
  (a1 : Memref sig .tc .vmem S512x1024 .f32) (h1 : a1.IsWhole)
  (a2 : Memref sig .tc .vmem S512x1024 .f32) (h2 : a2.IsWhole)
  (a3 : Memref sig .tc .vmem S1x1024 .f32) (h3 : a3.IsWhole)
  (a4 : Memref sig .tc .vmem S512x1024 .f32) (h4 : a4.IsWhole)
  (a5 : Memref sig .tc .vmem S1x1024 .f32) (h5 : a5.IsWhole)
  (a6 : Memref sig .tc .vmem S1x1024 .f32) (h6 : a6.IsWhole)
  (a7 : Memref sig .tc .vmem S1x1024 .f32) (h7 : a7.IsWhole)
  (x d : Vec Ideal S512x1024 .f32) (g : Vec Ideal S1x1024 .f32)

theorem start3 (hc0 : cond0_0 i) :
    out0_A_3 c i a1 h1 a2 h2 a3 h3 a4 h4 a5 h5 a6 h6 a7 h7 hc0 x d g = k0_pay10 (F := Ideal) x d g := by
  unfold out0_A_3
  rw [View.read_writes_eq_canon _ _ _ (cover0_A_3 c i a1 h1 a2 h2 a3 h3 a4 h4 a5 h5 a6 h6 a7 h7 hc0 x d g)]
  unfold kernelRun0_A
  dsimp only
  sl_unfold_words
  rw [View.canon_unit_zero (S := S512x1024) zero2]
  simp only [View.readCov_cons_toLoadRect, View.readCov_unit_zero (S := S512x1024) _ zero2, View.readCov_unit_zero (S := S1x1024) _ zero2, View.readAt_eq_ld,
    h1.read_unread, h2.read_unread, h3.read_unread, h5.read_unread, h6.read_unread, h7.read_unread,
    View.ld_unit_zero (S := S512x1024) zero2, View.ld_unit_zero (S := S1x1024) zero2]

theorem start4 (hc0 : cond0_0 i) :
    out0_A_4 c i a1 h1 a2 h2 a3 h3 a4 h4 a5 h5 a6 h6 a7 h7 hc0 x d g = k0_pay1 (F := Ideal) d (k0_pay9 x) (k0_pay4 (F := Ideal)) := by
  unfold out0_A_4
  rw [View.read_writes_eq_canon _ _ _ (cover0_A_4 c i a1 h1 a2 h2 a3 h3 a4 h4 a5 h5 a6 h6 a7 h7 hc0 x d g)]
  unfold kernelRun0_A
  dsimp only
  sl_unfold_words
  rw [View.canon_cons_unit_zero (S := S1x1024) zero2]
  simp only [View.readCov_cons_toLoadRect, View.readCov_unit_zero (S := S512x1024) _ zero2, View.readCov_unit_zero (S := S1x1024) _ zero2, View.readAt_eq_ld,
    h1.read_unread, h2.read_unread, h3.read_unread, h5.read_unread, h6.read_unread, h7.read_unread,
    View.ld_unit_zero (S := S512x1024) zero2, View.ld_unit_zero (S := S1x1024) zero2]

theorem start5 (hc0 : cond0_0 i) :
    out0_A_5 c i a1 h1 a2 h2 a3 h3 a4 h4 a5 h5 a6 h6 a7 h7 hc0 x d g = k0_pay2 (F := Ideal) d (k0_pay5 (F := Ideal)) := by
  unfold out0_A_5
  rw [View.read_writes_eq_canon _ _ _ (cover0_A_5 c i a1 h1 a2 h2 a3 h3 a4 h4 a5 h5 a6 h6 a7 h7 hc0 x d g)]
  unfold kernelRun0_A
  dsimp only
  sl_unfold_words
  rw [View.canon_cons_unit_zero (S := S1x1024) zero2]
  simp only [View.readCov_cons_toLoadRect, View.readCov_unit_zero (S := S512x1024) _ zero2, View.readCov_unit_zero (S := S1x1024) _ zero2, View.readAt_eq_ld,
    h1.read_unread, h2.read_unread, h3.read_unread, h5.read_unread, h6.read_unread, h7.read_unread,
    View.ld_unit_zero (S := S512x1024) zero2, View.ld_unit_zero (S := S1x1024) zero2]

theorem next3 (hc0 : ¬cond0_0 i) (q4 q5 q6 : Vec Ideal S1x1024 .f32) :
    out0_B_3 c i a1 h1 a2 h2 a3 h3 a4 h4 a5 h5 a6 h6 a7 h7 hc0 x d g q4 q5 q6 = k0_pay10 (F := Ideal) x d g := by
  unfold out0_B_3
  rw [View.read_writes_eq_canon _ _ _ (cover0_B_3 c i a1 h1 a2 h2 a3 h3 a4 h4 a5 h5 a6 h6 a7 h7 hc0 x d g q4 q5 q6)]
  unfold kernelRun0_B
  dsimp only
  sl_unfold_words
  rw [View.canon_unit_zero (S := S512x1024) zero2]
  simp only [View.readCov_cons_toLoadRect, View.readCov_unit_zero (S := S512x1024) _ zero2, View.readCov_unit_zero (S := S1x1024) _ zero2, View.readAt_eq_ld,
    h1.read_unread, h2.read_unread, h3.read_unread, h5.read_unread, h6.read_unread, h7.read_unread,
    View.ld_unit_zero (S := S512x1024) zero2, View.ld_unit_zero (S := S1x1024) zero2]

theorem next4 (hc0 : ¬cond0_0 i) (q4 q5 q6 : Vec Ideal S1x1024 .f32) :
    out0_B_4 c i a1 h1 a2 h2 a3 h3 a4 h4 a5 h5 a6 h6 a7 h7 hc0 x d g q4 q5 q6 = k0_pay1 (F := Ideal) d (k0_pay9 x) q4 := by
  unfold out0_B_4
  rw [View.read_writes_eq_canon _ _ _ (cover0_B_4 c i a1 h1 a2 h2 a3 h3 a4 h4 a5 h5 a6 h6 a7 h7 hc0 x d g q4 q5 q6)]
  unfold kernelRun0_B
  dsimp only
  sl_unfold_words
  rw [View.canon_unit_zero (S := S1x1024) zero2]
  simp only [View.readCov_cons_toLoadRect, View.readCov_unit_zero (S := S512x1024) _ zero2, View.readCov_unit_zero (S := S1x1024) _ zero2, View.readAt_eq_ld,
    h1.read_unread, h2.read_unread, h3.read_unread, h5.read_unread, h6.read_unread, h7.read_unread,
    View.ld_unit_zero (S := S512x1024) zero2, View.ld_unit_zero (S := S1x1024) zero2]

theorem next5 (hc0 : ¬cond0_0 i) (q4 q5 q6 : Vec Ideal S1x1024 .f32) :
    out0_B_5 c i a1 h1 a2 h2 a3 h3 a4 h4 a5 h5 a6 h6 a7 h7 hc0 x d g q4 q5 q6 = k0_pay2 (F := Ideal) d q5 := by
  unfold out0_B_5
  rw [View.read_writes_eq_canon _ _ _ (cover0_B_5 c i a1 h1 a2 h2 a3 h3 a4 h4 a5 h5 a6 h6 a7 h7 hc0 x d g q4 q5 q6)]
  unfold kernelRun0_B
  dsimp only
  sl_unfold_words
  rw [View.canon_unit_zero (S := S1x1024) zero2]
  simp only [View.readCov_cons_toLoadRect, View.readCov_unit_zero (S := S512x1024) _ zero2, View.readCov_unit_zero (S := S1x1024) _ zero2, View.readAt_eq_ld,
    h1.read_unread, h2.read_unread, h3.read_unread, h5.read_unread, h6.read_unread, h7.read_unread,
    View.ld_unit_zero (S := S512x1024) zero2, View.ld_unit_zero (S := S1x1024) zero2]

end Cases

variable (m : (ℓ : Loc nD τ sig) → Buf (Elt Ideal) ℓ) (c : Dev nD)

/-- The operands as launched. -/
abbrev x0 : FVec Ideal S8192x1024 .f32 := m ((c : Thread nD τ).loc main_arg0)
abbrev d0 : FVec Ideal S8192x1024 .f32 := m ((c : Thread nD τ).loc main_arg1)
abbrev g0 : FVec Ideal S1024 .f32 := m ((c : Thread nD τ).loc main_arg2)

theorem V_g : (V m c main_v0 : FVec Ideal S1x1024 .f32) = shapeCast S1x1024 (g0 m c) shapeCasts_S1024_S1x1024 := by
  after_reads_simp
  rfl

theorem blk0 (t : Fin cfg0.N) (r : Fin 512) (k : Fin 1024) :
    ((iblk m c 0 t : FVec Ideal S512x1024 .f32) (ix2 r k) : EReal) = at2 (x0 m c) (512 * t.val + r.val) k.val := by
  have hi : win0_0.index t 0 = t.val ∧ win0_0.index t 1 = 0 := by revert t; decide +kernel
  have hr := r.isLt
  have ht : t.val < 16 := lt_of_lt_of_eq t.isLt N_0
  rw [← at2_mk (x0 m c) (show 512 * t.val + r.val < 8192 by omega) k.isLt]
  unfold iblk
  rw [View.read_apply]
  show V m c main_arg0 _ = x0 m c _
  rw [V_main_arg0]
  congr 1
  funext a
  apply Fin.ext
  match a with
  | ⟨0, _⟩ => show win0_0.index t 0 * 512 + 1 * r.val = 512 * t.val + r.val; rw [hi.1]; omega
  | ⟨1, _⟩ => show win0_0.index t 1 * 1024 + 1 * k.val = k.val; rw [hi.2]; omega

theorem blk1 (t : Fin cfg0.N) (r : Fin 512) (k : Fin 1024) :
    ((iblk m c 1 t : FVec Ideal S512x1024 .f32) (ix2 r k) : EReal) = at2 (d0 m c) (512 * t.val + r.val) k.val := by
  have hi : win0_1.index t 0 = t.val ∧ win0_1.index t 1 = 0 := by revert t; decide +kernel
  have hr := r.isLt
  have ht : t.val < 16 := lt_of_lt_of_eq t.isLt N_0
  rw [← at2_mk (d0 m c) (show 512 * t.val + r.val < 8192 by omega) k.isLt]
  unfold iblk
  rw [View.read_apply]
  show V m c main_arg1 _ = d0 m c _
  rw [V_main_arg1]
  congr 1
  funext a
  apply Fin.ext
  match a with
  | ⟨0, _⟩ => show win0_1.index t 0 * 512 + 1 * r.val = 512 * t.val + r.val; rw [hi.1]; omega
  | ⟨1, _⟩ => show win0_1.index t 1 * 1024 + 1 * k.val = k.val; rw [hi.2]; omega

theorem blk2 (t : Fin cfg0.N) (p : Fin 1) (k : Fin 1024) :
    ((iblk m c 2 t : FVec Ideal S1x1024 .f32) (ix2 p k) : EReal) = at1 (g0 m c) k.val := by
  have hi : win0_2.index t 0 = 0 ∧ win0_2.index t 1 = 0 := by revert t; decide +kernel
  have hp := p.isLt
  rw [at1_val]
  unfold iblk
  rw [View.read_apply]
  show V m c main_v0 _ = g0 m c _
  rw [V_g]
  refine Eq.trans (congrArg (shapeCast S1x1024 (g0 m c) shapeCasts_S1024_S1x1024) (?_ : _ = ix2 p k)) ?_
  · funext a
    apply Fin.ext
    match a with
    | ⟨0, _⟩ => show win0_2.index t 0 * 1 + 1 * p.val = p.val; rw [hi.1]; omega
    | ⟨1, _⟩ => show win0_2.index t 1 * 1024 + 1 * k.val = k.val; rw [hi.2]; omega
  · generalize g0 m c = v
    pointwise

/-- Row by row: the input, the gradient scaled by the gain, and the result. -/
def xr (R : ℕ) (k : Fin 1024) : EReal := at2 (x0 m c) R k.val
def dr (R : ℕ) (k : Fin 1024) : EReal := at2 (d0 m c) R k.val * at1 (g0 m c) k.val
def gx (R : ℕ) (k : Fin 1024) : EReal := lnb (xr m c R) (dr m c R) k

theorem nrm_tile (t : Fin cfg0.N) (r : Fin 512) (k : Fin 1024) :
    (k0_pay9 (F := Ideal) (iblk m c 0 t) (ix2 r k) : EReal) = nrm (xr m c (512 * t.val + r.val)) k := by
  rw [nrm_at]
  exact congrArg (fun f => nrm f k) (funext fun j => blk0 m c t r j)

theorem grad_tile (t : Fin cfg0.N) (r : Fin 512) (k : Fin 1024) :
    (k0_pay10 (F := Ideal) (iblk m c 0 t) (iblk m c 1 t) (iblk m c 2 t) (ix2 r k) : EReal) = gx m c (512 * t.val + r.val) k := by
  rw [grad_at]
  exact congrArg₂ (fun f d => lnb f d k) (funext fun j => blk0 m c t r j)
    (funext fun j => congrArg₂ (· * ·) (blk1 m c t r j) (blk2 m c t 0 j))

/-- The rows' gradients at a point. -/
theorem out_at (t : Fin cfg0.N) (r : Fin 512) (k : Fin 1024) :
    ((outsAt0 m c t.val t.isLt).1 (ix2 r k) : EReal) = gx m c (512 * t.val + r.val) k := by
  by_cases h : t.val % 16 = 0
  · rw [outsAt0_A m c t h]
    dsimp only
    rw [start3]
    exact grad_tile m c t r k
  · rw [outsAt0_B m c t h]
    dsimp only
    rw [next3]
    exact grad_tile m c t r k

/-- What one point adds to a column's sum. -/
def atTile (f : ℕ → EReal) (n : ℕ) : EReal := ∑ u ∈ Finset.range 512, f (512 * n + u)

theorem lt15 : 15 < cfg0.N := by have hN : cfg0.N = 16 := N_0; omega

theorem at15 (t : Fin cfg0.N) (h : t.val % 16 = 15) : t = ⟨15, lt15⟩ :=
  Fin.ext (by have hN : cfg0.N = 16 := N_0; have := t.isLt; show t.val = 15; omega)

/-- The columns' sums of output 4 after every point. -/
theorem gain_acc (p : Fin 1) (k : Fin 1024) (n : ℕ) (h : n < cfg0.N) :
    ((outsAt0 m c n h).2.1 (ix2 p k) : EReal)
      = ∑ j ∈ Finset.range (n % 16 + 1), atTile (fun R => at2 (d0 m c) R k.val * nrm (xr m c R) k) (16 * (n / 16) + j) := by
  refine since_start 16 (by decide) (fun n h => ((outsAt0 m c n h).2.1 (ix2 p k) : EReal)) (fun n => atTile (fun R => at2 (d0 m c) R k.val * nrm (xr m c R) k) n) ?_ ?_ n h
  · intro n h hz
    have e := outsAt0_A m c ⟨n, h⟩ hz
    dsimp only at e ⊢
    rw [e]
    dsimp only
    rw [start4, gstep_at, gzero_at, zero_add]
    unfold atTile
    rw [← sum_fin 512 (fun u => (fun R => at2 (d0 m c) R k.val * nrm (xr m c R) k) (512 * n + u))]
    exact Finset.sum_congr rfl fun u _ => congrArg₂ (· * ·) (blk1 m c ⟨n, h⟩ u k) (nrm_tile m c ⟨n, h⟩ u k)
  · intro n h hz
    have e := outsAt0_B m c ⟨n + 1, h⟩ hz
    dsimp only at e ⊢
    rw [e]
    dsimp only
    rw [next4, gstep_at]
    unfold atTile
    refine congrArg₂ (· + ·) rfl ?_
    rw [← sum_fin 512 (fun u => (fun R => at2 (d0 m c) R k.val * nrm (xr m c R) k) (512 * (n + 1) + u))]
    exact Finset.sum_congr rfl fun u _ => congrArg₂ (· * ·) (blk1 m c ⟨n + 1, h⟩ u k) (nrm_tile m c ⟨n + 1, h⟩ u k)

theorem flush4 (t : Fin cfg0.N) (hf : (cfg0.win 4).flush t = true) :
    (dats m 0 c).flushed 4 t = ((cfg0.win 4).blk t).view.read (Elt Ideal) ((outsAt0 m c 15 lt15).2.1) := by
  have ht := at15 t ((flush0_4 t).mp hf)
  show (cfg0.win 4).cut (grid0.coords t) ((dats m 0 c).after 4 t) = _
  rw [after0_4]
  subst ht
  have hz' : (fun a => win0_4.index ⟨15, lt15⟩ a * main_v1_1.ty.shape.size a) = fun _ => 0 :=
    funext fun a => by fin_cases a <;> decide +kernel
  exact (Memref.read_access_unit_zero (Elt Ideal) main_v1_1 hz' (fun a => by rw [congrFun hz' a]; simp) ((outsAt0 m c 15 lt15).2.1)).symm

theorem mem4 (t : Fin cfg0.N) (i : main_v1_1.ty.Idx) : i ∈ ((cfg0.win 4).blk t).view.set := by
  have hi : win0_4.index t 0 = 0 ∧ win0_4.index t 1 = 0 := by revert t; decide +kernel
  have hx : win0_4.xsize (grid0.coords t) 0 = 1 ∧ win0_4.xsize (grid0.coords t) 1 = 1024 := by revert t; decide +kernel
  have hi0 : (i 0).val < 1 := (i 0).isLt
  have hi1 : (i 1).val < 1024 := (i 1).isLt
  show i ∈ ((View.whole main_v1_1).slice (win0_4.rect t)).set
  rw [View.set_slice_whole, Rect.mem_set_unit]
  intro a
  match a with
  | ⟨0, _⟩ =>
    show win0_4.index t 0 * 1 ≤ (i 0 : Nat) ∧ (i 0 : Nat) < win0_4.index t 0 * 1 + win0_4.xsize (grid0.coords t) 0
    rw [hi.1, hx.1]; omega
  | ⟨1, _⟩ =>
    show win0_4.index t 1 * 1024 ≤ (i 1 : Nat) ∧ (i 1 : Nat) < win0_4.index t 1 * 1024 + win0_4.xsize (grid0.coords t) 1
    rw [hi.2, hx.2]; omega

theorem gain_arr (p : Fin 1) (k : Fin 1024) :
    ((dats m 0 c).arrAt 4 cfg0.N (ix2 p k) : EReal) = ∑ R ∈ Finset.range 8192, (fun R => at2 (d0 m c) R k.val * nrm (xr m c R) k) R := by
  rw [Pipeline.Dat.arrAt_eq_of_cover (dats m 0 c) 4 ((outsAt0 m c 15 lt15).2.1) (fun t ht => flush4 m c t ht) fun i =>
    ⟨⟨15, lt15⟩, (flush0_4 _).mpr rfl, mem4 _ i⟩]
  refine (gain_acc m c p k 15 lt15).trans ?_
  refine Eq.trans ?_ (range_tiles 512 (fun R => at2 (d0 m c) R k.val * nrm (xr m c R) k) 16)
  refine Finset.sum_congr rfl fun j hj => ?_
  rw [show 16 * (15 / 16) + j = j by omega]
  rfl

/-- The columns' sums of output 5 after every point. -/
theorem bias_acc (p : Fin 1) (k : Fin 1024) (n : ℕ) (h : n < cfg0.N) :
    ((outsAt0 m c n h).2.2.1 (ix2 p k) : EReal)
      = ∑ j ∈ Finset.range (n % 16 + 1), atTile (fun R => at2 (d0 m c) R k.val) (16 * (n / 16) + j) := by
  refine since_start 16 (by decide) (fun n h => ((outsAt0 m c n h).2.2.1 (ix2 p k) : EReal)) (fun n => atTile (fun R => at2 (d0 m c) R k.val) n) ?_ ?_ n h
  · intro n h hz
    have e := outsAt0_A m c ⟨n, h⟩ hz
    dsimp only at e ⊢
    rw [e]
    dsimp only
    rw [start5, bstep_at, bzero_at, zero_add]
    unfold atTile
    rw [← sum_fin 512 (fun u => (fun R => at2 (d0 m c) R k.val) (512 * n + u))]
    exact Finset.sum_congr rfl fun u _ => blk1 m c ⟨n, h⟩ u k
  · intro n h hz
    have e := outsAt0_B m c ⟨n + 1, h⟩ hz
    dsimp only at e ⊢
    rw [e]
    dsimp only
    rw [next5, bstep_at]
    unfold atTile
    refine congrArg₂ (· + ·) rfl ?_
    rw [← sum_fin 512 (fun u => (fun R => at2 (d0 m c) R k.val) (512 * (n + 1) + u))]
    exact Finset.sum_congr rfl fun u _ => blk1 m c ⟨n + 1, h⟩ u k

theorem flush5 (t : Fin cfg0.N) (hf : (cfg0.win 5).flush t = true) :
    (dats m 0 c).flushed 5 t = ((cfg0.win 5).blk t).view.read (Elt Ideal) ((outsAt0 m c 15 lt15).2.2.1) := by
  have ht := at15 t ((flush0_5 t).mp hf)
  show (cfg0.win 5).cut (grid0.coords t) ((dats m 0 c).after 5 t) = _
  rw [after0_5]
  subst ht
  have hz' : (fun a => win0_5.index ⟨15, lt15⟩ a * main_v1_2.ty.shape.size a) = fun _ => 0 :=
    funext fun a => by fin_cases a <;> decide +kernel
  exact (Memref.read_access_unit_zero (Elt Ideal) main_v1_2 hz' (fun a => by rw [congrFun hz' a]; simp) ((outsAt0 m c 15 lt15).2.2.1)).symm

theorem mem5 (t : Fin cfg0.N) (i : main_v1_2.ty.Idx) : i ∈ ((cfg0.win 5).blk t).view.set := by
  have hi : win0_5.index t 0 = 0 ∧ win0_5.index t 1 = 0 := by revert t; decide +kernel
  have hx : win0_5.xsize (grid0.coords t) 0 = 1 ∧ win0_5.xsize (grid0.coords t) 1 = 1024 := by revert t; decide +kernel
  have hi0 : (i 0).val < 1 := (i 0).isLt
  have hi1 : (i 1).val < 1024 := (i 1).isLt
  show i ∈ ((View.whole main_v1_2).slice (win0_5.rect t)).set
  rw [View.set_slice_whole, Rect.mem_set_unit]
  intro a
  match a with
  | ⟨0, _⟩ =>
    show win0_5.index t 0 * 1 ≤ (i 0 : Nat) ∧ (i 0 : Nat) < win0_5.index t 0 * 1 + win0_5.xsize (grid0.coords t) 0
    rw [hi.1, hx.1]; omega
  | ⟨1, _⟩ =>
    show win0_5.index t 1 * 1024 ≤ (i 1 : Nat) ∧ (i 1 : Nat) < win0_5.index t 1 * 1024 + win0_5.xsize (grid0.coords t) 1
    rw [hi.2, hx.2]; omega

theorem bias_arr (p : Fin 1) (k : Fin 1024) :
    ((dats m 0 c).arrAt 5 cfg0.N (ix2 p k) : EReal) = ∑ R ∈ Finset.range 8192, (fun R => at2 (d0 m c) R k.val) R := by
  rw [Pipeline.Dat.arrAt_eq_of_cover (dats m 0 c) 5 ((outsAt0 m c 15 lt15).2.2.1) (fun t ht => flush5 m c t ht) fun i =>
    ⟨⟨15, lt15⟩, (flush0_5 _).mpr rfl, mem5 _ i⟩]
  refine (bias_acc m c p k 15 lt15).trans ?_
  refine Eq.trans ?_ (range_tiles 512 (fun R => at2 (d0 m c) R k.val) 16)
  refine Finset.sum_congr rfl fun j hj => ?_
  rw [show 16 * (15 / 16) + j = j by omega]
  rfl

/-- The rows' gradients. -/
theorem arr (r : Fin 8192) (k : Fin 1024) : ((dats m 0 c).arrAt 3 cfg0.N (ix2 r k) : EReal) = gx m c r.val k := by
  have hr := r.isLt
  have hk := k.isLt
  have hN : cfg0.N = 16 := N_0
  have ht : r.val / 512 < cfg0.N := by rw [hN]; omega
  have hi : ∀ t : Fin cfg0.N, win0_3.index t 0 = t.val ∧ win0_3.index t 1 = 0 := by decide +kernel
  have hi' := hi ⟨_, ht⟩
  have e := congrFun (Cert.Kernel15Ideal.Value.blocks3 m c ⟨_, ht⟩ (flush0_3 ⟨_, ht⟩))
    (ix2 (⟨r.val % 512, by omega⟩ : Fin 512) (⟨k.val, by omega⟩ : Fin 1024))
  rw [View.read_apply, Cert.Kernel15Ideal.Value.flushed3] at e
  have eo := out_at m c ⟨_, ht⟩ ⟨r.val % 512, by omega⟩ ⟨k.val, by omega⟩
  dsimp only at eo
  rw [show 512 * (r.val / 512) + r.val % 512 = r.val by omega] at eo
  refine Eq.trans ?_ (e.trans eo)
  refine congrArg ((dats m 0 c).arrAt 3 cfg0.N) ?_
  funext a
  apply Fin.ext
  match a with
  | ⟨0, _⟩ =>
    show r.val = win0_3.index ⟨_, ht⟩ 0 * 512 + 1 * (r.val % 512)
    rw [hi'.1]; dsimp only; omega
  | ⟨1, _⟩ =>
    show k.val = win0_3.index ⟨_, ht⟩ 1 * 1024 + 1 * (k.val)
    rw [hi'.2]; try dsimp only
    omega

end Cert.Proof.Prod.LnInRun
-- ==== Proof.Prod.LnInRef.lean ====
module

public import proofs.«01_k».proof.Proof.Gen.Reference15Ideal.Read
public import proofs.«01_k».proof.Proof.Prod.Tile
public import proofs.«01_k».proof.Proof.Prod.Norm

/-! The reference's side of the gradient through the layer normalisation of the input. -/

@[expose] public section

noncomputable section

open Idealize.ShloMosaic Idealize.ShloMosaic.TcCoe
open Cert.Reference15Ideal Cert.Reference15Ideal.Gen Cert.Reference15Ideal.Read

namespace Cert.Proof.Prod.LnInRef

variable (x d : FVec Ideal S8192x1024 .f32) (g : FVec Ideal S1024 .f32)

theorem mean_at (r : Fin 8192) (p : Fin 1) : (val_main_v4 (F := Ideal) x (ix2 r p) : EReal) = mean fun j => x (ix2 r j) := by
  unfold val_main_v4 val_main_v3 val_main_v2 val_main_v1 val_main_cst_0 val_main_cst_1
  try unfold val_main_v0
  try unfold val_main_cst
  unfold mean
  pointwise
  try simp [Ideal.ofBits, Ideal.ieee]

theorem cen_at (r : Fin 8192) (k : Fin 1024) : (val_main_v6 (F := Ideal) x (ix2 r k) : EReal) = cen (fun j => x (ix2 r j)) k := by
  unfold val_main_v6 val_main_v5 cen
  rw [← mean_at x r 0]
  show _ = x (ix2 r k) - _
  try unfold val_main_v0
  try unfold val_main_cst
  generalize val_main_v4 (F := Ideal) x = u
  pointwise
  try simp [Ideal.ofBits, Ideal.ieee]

theorem cen_at' (r : Fin 8192) (k : Fin 1024) : (val_main_v15 (F := Ideal) x (ix2 r k) : EReal) = cen (fun j => x (ix2 r j)) k := by
  unfold val_main_v15 val_main_v14 cen
  rw [← mean_at x r 0]
  show _ = x (ix2 r k) - _
  try unfold val_main_v0
  try unfold val_main_cst
  generalize val_main_v4 (F := Ideal) x = u
  pointwise
  try simp [Ideal.ofBits, Ideal.ieee]

theorem dev_at (r : Fin 8192) (p : Fin 1) : (val_main_v17 (F := Ideal) x (ix2 r p) : EReal) = dev fun j => x (ix2 r j) := by
  unfold val_main_v17 val_main_v16 val_main_v13 val_main_v12 val_main_v11 val_main_v10 val_main_v7 val_main_cst_3 val_main_cst_4 val_main_cst_5 dev mean
  simp only [← cen_at x]
  generalize val_main_v6 (F := Ideal) x = v
  pointwise
  try simp [Ideal.ofBits, Ideal.ieee]

theorem rst_at (r : Fin 8192) (p : Fin 1) : (val_main_v18 (F := Ideal) x (ix2 r p) : EReal) = rst fun j => x (ix2 r j) := by
  unfold val_main_v18 rst
  rw [← dev_at x r p]
  generalize val_main_v17 (F := Ideal) x = v
  pointwise

theorem nrm_at (r : Fin 8192) (k : Fin 1024) : (val_main_v23 (F := Ideal) x (ix2 r k) : EReal) = nrm (fun j => x (ix2 r j)) k := by
  unfold val_main_v23 val_main_v22 nrm
  rw [← cen_at' x r k, ← rst_at x r 0]
  generalize val_main_v15 (F := Ideal) x = v
  generalize val_main_v18 (F := Ideal) x = u
  pointwise

theorem half_at (r : Fin 8192) (p : Fin 1) :
    (val_main_v21 (F := Ideal) x (ix2 r p) : EReal) = mhalf * Ideal.div (rst fun j => x (ix2 r j)) (dev fun j => x (ix2 r j)) := by
  unfold val_main_v21 val_main_v20 val_main_v19 val_main_cst_6
  rw [← rst_at x r p, ← dev_at x r p]
  generalize val_main_v17 (F := Ideal) x = v
  generalize val_main_v18 (F := Ideal) x = u
  pointwise

/-- The gradient scaled by the gain. -/
theorem d_at (r : Fin 8192) (k : Fin 1024) : (val_main_v38 (F := Ideal) d g (ix2 r k) : EReal) = d (ix2 r k) * g (ix1 k) := by
  unfold val_main_v38 val_main_v37 val_main_v24 val_main_v30
  pointwise

theorem first_at (r : Fin 8192) (k : Fin 1024) :
    (val_main_v44 (F := Ideal) x d g (ix2 r k) : EReal) = val_main_v38 (F := Ideal) d g (ix2 r k) * rst fun j => x (ix2 r j) := by
  unfold val_main_v44 val_main_v43
  rw [← rst_at x r 0]
  generalize val_main_v38 (F := Ideal) d g = v
  generalize val_main_v18 (F := Ideal) x = u
  pointwise

theorem q_at (r : Fin 8192) :
    (val_main_v51 (F := Ideal) x d g (ix1 r) : EReal) = lnq (fun j => x (ix2 r j)) (fun j => val_main_v38 (F := Ideal) d g (ix2 r j)) := by
  unfold val_main_v51 val_main_v50 val_main_v49 val_main_v45 val_main_v42 val_main_v41 val_main_v40 val_main_cst_11 val_main_cst_13 val_main_cst_14 lnq
  simp only [← cen_at' x, ← half_at x r 0]
  generalize val_main_v38 (F := Ideal) d g = v
  generalize val_main_v15 (F := Ideal) x = u
  generalize val_main_v21 (F := Ideal) x = o
  pointwise
  try simp [Ideal.ofBits, Ideal.ieee]

theorem second_at (r : Fin 8192) (k : Fin 1024) :
    (val_main_v53 (F := Ideal) x d g (ix2 r k) : EReal) = lnq (fun j => x (ix2 r j)) (fun j => val_main_v38 (F := Ideal) d g (ix2 r j)) * (two * cen (fun j => x (ix2 r j)) k) := by
  unfold val_main_v53 val_main_v52 val_main_v9 val_main_v8 val_main_cst_2
  rw [← q_at, ← cen_at x]
  generalize val_main_v51 (F := Ideal) x d g = v
  generalize val_main_v6 (F := Ideal) x = u
  pointwise

theorem x_at (r : Fin 8192) (k : Fin 1024) :
    (val_main_v63 (F := Ideal) x d g (ix2 r k) : EReal) = lnv (fun j => x (ix2 r j)) (fun j => val_main_v38 (F := Ideal) d g (ix2 r j)) k := by
  unfold val_main_v63 val_main_v62 val_main_v61 val_main_v60 val_main_v59 val_main_v58 val_main_v57 val_main_v56 val_main_v55 val_main_v54 val_main_v48 val_main_v47 val_main_v46 val_main_cst_12 val_main_cst_15 val_main_cst_16 val_main_cst_17 lnv
  simp only [← first_at x d g, ← second_at x d g]
  generalize val_main_v44 (F := Ideal) x d g = v
  generalize val_main_v53 (F := Ideal) x d g = u
  pointwise
  try simp [Ideal.ofBits, Ideal.ieee]

theorem gain_at (p : Fin 1) (k : Fin 1024) :
    (val_main_v64 (F := Ideal) x d (ix2 p k) : EReal) = ∑ r : Fin 8192, nrm (fun j => x (ix2 r j)) k * d (ix2 r k) := by
  unfold val_main_v64 val_main_v39 val_main_v36 val_main_v35 val_main_v34 val_main_v30 val_main_cst_9 val_main_cst_10
  simp only [← nrm_at x]
  generalize val_main_v23 (F := Ideal) x = u
  pointwise
  try simp [Ideal.ofBits, Ideal.ieee]

theorem bias_at (p : Fin 1) (k : Fin 1024) :
    (val_main_v65 (F := Ideal) d (ix2 p k) : EReal) = ∑ r : Fin 8192, d (ix2 r k) := by
  unfold val_main_v65 val_main_v33 val_main_v32 val_main_v31 val_main_cst_7 val_main_cst_8
  pointwise
  try simp [Ideal.ofBits, Ideal.ieee]

end Cert.Proof.Prod.LnInRef
-- ==== Proof.Prod.LnIn.lean ====
module

public import proofs.«01_k».proof.Proof.Prod.LnInRun
public import proofs.«01_k».proof.Proof.Prod.LnInRef
public import proofs.«01_k».proof.Proof.Attn.Equal
public import proofs.«01_k».proof.Defs

/-! The call's arrays are the reference's, the incoming gradient and the gain being finite. -/

@[expose] public section

noncomputable section

open Idealize.ShloMosaic Idealize.ShloMosaic.TcCoe Idealize.SL.Sem
open Cert.Kernel15Ideal Cert.Kernel15Ideal.Gen Cert.Proof.Soft Cert.Proof.Attn Cert.Proof.Prod.LnInRun

namespace Cert.Proof.Prod.LnIn

theorem pre_facts : Cert.Pre_finite_but_x.Facts := ⟨by decide, by decide⟩

section Finite

variable [Cert.Pre_finite_but_x.Facts] (x d : FVec Ideal S8192x1024 .f32) (g : FVec Ideal S1024 .f32)

theorem fin_d (h : (Cert.Pre_finite_but_x.fn (F := Ideal) x d g).1 = fun _ => 1#1) (r : Fin 8192) (k : Fin 1024) : Fin' (d (ix2 r k)) := by
  refine fin_of_abs ((Eq.trans ?_ (congrFun h (ix2 r k))))
  unfold Cert.Pre_finite_but_x.fn
  pointwise
  rfl

theorem fin_g (h : (Cert.Pre_finite_but_x.fn (F := Ideal) x d g).2 = fun _ => 1#1) (k : Fin 1024) : Fin' (g (ix1 k)) := by
  refine fin_of_abs ((Eq.trans ?_ (congrFun h (ix1 k))))
  unfold Cert.Pre_finite_but_x.fn
  pointwise
  rfl

end Finite

variable (m : (ℓ : Loc nD τ sig) → Buf (Elt Ideal) ℓ) (c : Dev nD)

/-- The reference's rows are the call's. -/
theorem xr_eq (r : Fin 8192) : (fun j => x0 m c (ix2 r j)) = xr m c r.val :=
  funext fun j => (at2_val (x0 m c) r j).symm

theorem dr_eq (r : Fin 8192) :
    (fun j => (Cert.Reference15Ideal.Read.val_main_v38 (F := Ideal) (d0 m c) (g0 m c) (ix2 r j) : EReal)) = dr m c r.val := by
  funext j
  rw [LnInRef.d_at]
  unfold dr
  rw [at1_val, at2_val]

theorem gequal : ((dats m 0 c).arrAt 4 cfg0.N : FVec Ideal S1x1024 .f32)
    = Cert.Reference15Ideal.Read.val_main_v64 (F := Ideal) (x0 m c) (d0 m c) := by
  funext i
  obtain ⟨p, k, rfl⟩ : ∃ p k, i = ix2 p k := ⟨i 0, i 1, eq_ix2 i⟩
  refine (gain_arr m c p k).trans (Eq.symm ((LnInRef.gain_at _ _ p k).trans ?_))
  rw [← sum_fin 8192 (fun R => at2 (d0 m c) R k.val * nrm (xr m c R) k)]
  refine Finset.sum_congr rfl fun r _ => ?_
  rw [xr_eq, at2_val, mul_comm]

theorem bequal : ((dats m 0 c).arrAt 5 cfg0.N : FVec Ideal S1x1024 .f32)
    = Cert.Reference15Ideal.Read.val_main_v65 (F := Ideal) (d0 m c) := by
  funext i
  obtain ⟨p, k, rfl⟩ : ∃ p k, i = ix2 p k := ⟨i 0, i 1, eq_ix2 i⟩
  refine (bias_arr m c p k).trans (Eq.symm ((LnInRef.bias_at _ p k).trans ?_))
  rw [← sum_fin 8192 (fun R => at2 (d0 m c) R k.val)]
  exact Finset.sum_congr rfl fun r _ => (at2_val (d0 m c) r k).symm

theorem dr_fin (hpre : letI := pre_facts; Cert.Pre_Kernel15Ideal_finite_but_x m) (r : Fin 8192) (k : Fin 1024) : Fin' (dr m c r.val k) := by
  letI := pre_facts
  have h := hpre c
  rw [← dr_eq]
  show Fin' (Cert.Reference15Ideal.Read.val_main_v38 (F := Ideal) (d0 m c) (g0 m c) (ix2 r k))
  rw [LnInRef.d_at]
  exact fin_mul (fin_d _ _ _ h.1 r k) (fin_g _ _ _ h.2 k)

theorem equal (hpre : letI := pre_facts; Cert.Pre_Kernel15Ideal_finite_but_x m) : ((dats m 0 c).arrAt 3 cfg0.N : FVec Ideal S8192x1024 .f32)
    = Cert.Reference15Ideal.Read.val_main_v63 (F := Ideal) (x0 m c) (d0 m c) (g0 m c) := by
  funext i
  obtain ⟨r, k, rfl⟩ : ∃ r k, i = ix2 r k := ⟨i 0, i 1, eq_ix2 i⟩
  refine (arr m c r k).trans (Eq.symm ((LnInRef.x_at _ _ _ r k).trans ?_))
  rw [xr_eq, dr_eq]
  exact (lnb_eq_lnv _ _ (fun j => dr_fin m c hpre r j) k).symm

end Cert.Proof.Prod.LnIn
-- ==== Proof.Prod.FfnLossRun.lean ====
module

public import proofs.«01_k».proof.Proof.Gen.Kernel16Ideal.Value
public import proofs.«01_k».proof.Proof.Prod.Tile
public import proofs.«01_k».proof.Proof.Prod.Norm
public import Idealize.ShloMosaic.Lib.StableHlo.RunRead

/-! The last layer's down projection with the residual, the normalisation, the loss against the target, and the gradient
    back to the rows: what the call leaves in its four arrays. -/

@[expose] public section

noncomputable section

open Idealize.ShloMosaic Idealize.ShloMosaic.TcCoe Idealize.SL.Sem
open Cert.Kernel16Ideal Cert.Kernel16Ideal.Gen

namespace Cert.Proof.Prod.FfnLossRun

/-- The residual's factor, the reciprocal of a row's length, and half of that. -/
abbrev alpha : EReal := FloatOps.ofBits (F := Ideal) .f32 0x3FB504F3#32
abbrev inv : EReal := FloatOps.ofBits (F := Ideal) .f32 0x3A800000#32
abbrev hinv : EReal := FloatOps.ofBits (F := Ideal) .f32 0x3A000000#32

theorem zero_at (r k : Fin 1024) : (k0_pay1 (F := Ideal) (ix2 r k) : EReal) = 0 := by
  unfold k0_pay1
  pointwise
  try simp [Ideal.ofBits, Ideal.ieee]

theorem gzero_at (p : Fin 1) (k : Fin 1024) : (k0_pay2 (F := Ideal) (ix2 p k) : EReal) = 0 := by
  unfold k0_pay2
  pointwise
  try simp [Ideal.ofBits, Ideal.ieee]

theorem bzero_at (p : Fin 1) (k : Fin 1024) : (k0_pay3 (F := Ideal) (ix2 p k) : EReal) = 0 := by
  unfold k0_pay3
  pointwise
  try simp [Ideal.ofBits, Ideal.ieee]

theorem lzero_at (p : Fin 8) (k : Fin 128) : (k0_pay4 (F := Ideal) (ix2 p k) : EReal) = 0 := by
  unfold k0_pay4
  pointwise
  try simp [Ideal.ofBits, Ideal.ieee]

theorem step_at (s : Vec Ideal S1024x1024 .f32) (x : Vec Ideal S1024x1408 .bf16) (y : Vec Ideal S1408x1024 .bf16) (r k : Fin 1024) :
    (k0_pay5 (F := Ideal) s x y (ix2 r k) : EReal) = s (ix2 r k) + ∑ t : Fin 1408, x (ix2 r t) * y (ix2 t k) := by
  unfold k0_pay5
  pointwise

/-- The rows the call normalises. -/
abbrev rowOf (s z : Vec Ideal S1024x1024 .f32) (r : Fin 1024) (j : Fin 1024) : EReal := s (ix2 r j) + alpha * z (ix2 r j)

theorem cen_at (s z : Vec Ideal S1024x1024 .f32) (r k : Fin 1024) :
    (k0_pay7 (F := Ideal) s z (ix2 r k) : EReal) = cen (rowOf s z r) k := by
  unfold k0_pay7 cen mean rowOf
  pointwise

theorem rst_at (s z : Vec Ideal S1024x1024 .f32) (r : Fin 1024) (p : Fin 1) :
    (k0_pay8 (F := Ideal) s z (ix2 r p) : EReal) = rst (rowOf s z r) := by
  unfold k0_pay8 rst dev mean
  simp only [← cen_at]
  generalize k0_pay7 (F := Ideal) s z = w
  pointwise

theorem nrm_at (s z : Vec Ideal S1024x1024 .f32) (r k : Fin 1024) :
    (k0_pay9 (F := Ideal) s z (ix2 r k) : EReal) = nrm (rowOf s z r) k := by
  unfold k0_pay9 nrm
  rw [← cen_at, ← rst_at s z r 0]
  generalize k0_pay7 (F := Ideal) s z = w
  generalize k0_pay8 (F := Ideal) s z = u
  pointwise

theorem e_at (s z : Vec Ideal S1024x1024 .f32) (g h : Vec Ideal S1x1024 .f32) (t : Vec Ideal S1024x1024 .f32) (r k : Fin 1024) :
    (k0_pay10 (F := Ideal) s z g h t (ix2 r k) : EReal)
      = nrm (rowOf s z r) k * g (ix2 (0 : Fin 1) k) + h (ix2 (0 : Fin 1) k) - t (ix2 r k) := by
  unfold k0_pay10 k0_pay6
  rw [← nrm_at]
  generalize k0_pay9 (F := Ideal) s z = w
  pointwise

theorem sq_at (s z : Vec Ideal S1024x1024 .f32) (g h : Vec Ideal S1x1024 .f32) (t : Vec Ideal S1024x1024 .f32) (p q : Fin 1) :
    (k0_pay11 (F := Ideal) s z g h t (ix2 p q) : EReal)
      = (∑ r : Fin 1024, ∑ k : Fin 1024, k0_pay10 (F := Ideal) s z g h t (ix2 r k) * k0_pay10 (F := Ideal) s z g h t (ix2 r k)) * hinv := by
  unfold k0_pay11
  generalize k0_pay10 (F := Ideal) s z g h t = w
  pointwise

theorem lstep_at (a : Vec Ideal S1x1 .f32) (q : Vec Ideal S8x128 .f32) (p : Fin 8) (k : Fin 128) :
    (k0_pay12 (F := Ideal) a q (ix2 p k) : EReal) = q (ix2 p k) + a (ix2 (0 : Fin 1) (0 : Fin 1)) := by
  unfold k0_pay12
  pointwise

theorem dy_at (e : Vec Ideal S1024x1024 .f32) (r k : Fin 1024) :
    (k0_pay13 (F := Ideal) e (ix2 r k) : EReal) = e (ix2 r k) * inv := by
  unfold k0_pay13
  pointwise

theorem grad_at (s z e : Vec Ideal S1024x1024 .f32) (g : Vec Ideal S1x1024 .f32) (r k : Fin 1024) :
    (k0_pay14 (F := Ideal) (k0_pay6 (F := Ideal) g) (k0_pay8 (F := Ideal) s z) (k0_pay9 (F := Ideal) s z) e (ix2 r k) : EReal)
      = lnb (rowOf s z r) (fun j => e (ix2 r j) * inv * g (ix2 (0 : Fin 1) j)) k := by
  unfold k0_pay14 lnb mean k0_pay6
  simp only [← nrm_at, ← rst_at s z r 0, ← dy_at e]
  generalize k0_pay8 (F := Ideal) s z = u
  generalize k0_pay9 (F := Ideal) s z = v
  generalize k0_pay13 (F := Ideal) e = w
  pointwise

theorem gstep_at (v e : Vec Ideal S1024x1024 .f32) (q : Vec Ideal S1x1024 .f32) (p : Fin 1) (k : Fin 1024) :
    (k0_pay15 (F := Ideal) v e q (ix2 p k) : EReal) = q (ix2 p k) + ∑ t : Fin 1024, e (ix2 t k) * inv * v (ix2 t k) := by
  unfold k0_pay15
  simp only [← dy_at e]
  generalize k0_pay13 (F := Ideal) e = w
  pointwise

theorem bstep_at (e : Vec Ideal S1024x1024 .f32) (q : Vec Ideal S1x1024 .f32) (p : Fin 1) (k : Fin 1024) :
    (k0_pay16 (F := Ideal) e q (ix2 p k) : EReal) = q (ix2 p k) + ∑ t : Fin 1024, e (ix2 t k) * inv := by
  unfold k0_pay16
  simp only [← dy_at e]
  generalize k0_pay13 (F := Ideal) e = w
  pointwise

section Cases

variable (c : Dev nD) (i : grid0.Coords)
  (a3 : Memref sig .tc .vmem S1024x1408 .bf16) (h3 : a3.IsWhole)
  (a4 : Memref sig .tc .vmem S1408x1024 .bf16) (h4 : a4.IsWhole)
  (a5 : Memref sig .tc .vmem S1024x1024 .f32) (h5 : a5.IsWhole)
  (a6 : Memref sig .tc .vmem S1x1024 .f32) (h6 : a6.IsWhole)
  (a7 : Memref sig .tc .vmem S1x1024 .f32) (h7 : a7.IsWhole)
  (a8 : Memref sig .tc .vmem S1024x1024 .f32) (h8 : a8.IsWhole)
  (a9 : Memref sig .tc .vmem S1024x1024 .f32) (h9 : a9.IsWhole)
  (a10 : Memref sig .tc .vmem S1x1024 .f32) (h10 : a10.IsWhole)
  (a11 : Memref sig .tc .vmem S1x1024 .f32) (h11 : a11.IsWhole)
  (a12 : Memref sig .tc .vmem S8x128 .f32) (h12 : a12.IsWhole)
  (a13 : Memref sig .tc .vmem S1024x1024 .f32) (h13 : a13.IsWhole)
  (x : Vec Ideal S1024x1408 .bf16) (y : Vec Ideal S1408x1024 .bf16) (z : Vec Ideal S1024x1024 .f32) (g h : Vec Ideal S1x1024 .f32) (t : Vec Ideal S1024x1024 .f32)

theorem startS (hc0 : cond0_0 i) (hc1 : cond0_1 i) (hc2 : ¬cond0_2 i) :
    sout0_A_0 c i a3 h3 a4 h4 a5 h5 a6 h6 a7 h7 a8 h8 a9 h9 a10 h10 a11 h11 a12 h12 a13 h13 hc0 hc1 hc2 x y z g h t = k0_pay5 (k0_pay1 (F := Ideal)) x y := by
  unfold sout0_A_0
  rw [View.read_writes_eq_canon _ _ _ (scover0_A_0 c i a3 h3 a4 h4 a5 h5 a6 h6 a7 h7 a8 h8 a9 h9 a10 h10 a11 h11 a12 h12 a13 h13 hc0 hc1 hc2 x y z g h t)]
  unfold kernelRun0_A
  dsimp only
  sl_unfold_words
  rw [View.canon_cons_unit_zero (S := S1024x1024) zero2]
  simp only [View.readCov_cons_toLoadRect, View.readCov_unit_zero (S := S1024x1024) _ zero2, View.readCov_unit_zero (S := S1x1024) _ zero2, View.readCov_unit_zero (S := S8x128) _ zero2, View.readAt_eq_ld,
    h3.read_unread, h4.read_unread, h5.read_unread, h6.read_unread, h7.read_unread, h8.read_unread, h10.read_unread, h11.read_unread, h12.read_unread, h13.read_unread,
    View.ld_unit_zero (S := S1024x1408) zero2, View.ld_unit_zero (S := S1408x1024) zero2, View.ld_unit_zero (S := S1024x1024) zero2, View.ld_unit_zero (S := S1x1024) zero2, View.ld_unit_zero (S := S8x128) zero2]

theorem freshS (hc0 : cond0_0 i) (hc1 : ¬cond0_1 i) (hc2 : ¬cond0_2 i) :
    sout0_C_0 c i a3 h3 a4 h4 a5 h5 a6 h6 a7 h7 a8 h8 a9 h9 a10 h10 a11 h11 a12 h12 a13 h13 hc0 hc1 hc2 x y z g h t = k0_pay5 (k0_pay1 (F := Ideal)) x y := by
  unfold sout0_C_0
  rw [View.read_writes_eq_canon _ _ _ (scover0_C_0 c i a3 h3 a4 h4 a5 h5 a6 h6 a7 h7 a8 h8 a9 h9 a10 h10 a11 h11 a12 h12 a13 h13 hc0 hc1 hc2 x y z g h t)]
  unfold kernelRun0_C
  dsimp only
  sl_unfold_words
  rw [View.canon_cons_unit_zero (S := S1024x1024) zero2]
  simp only [View.readCov_cons_toLoadRect, View.readCov_unit_zero (S := S1024x1024) _ zero2, View.readCov_unit_zero (S := S1x1024) _ zero2, View.readCov_unit_zero (S := S8x128) _ zero2, View.readAt_eq_ld,
    h3.read_unread, h4.read_unread, h5.read_unread, h6.read_unread, h7.read_unread, h8.read_unread, h10.read_unread, h11.read_unread, h12.read_unread, h13.read_unread,
    View.ld_unit_zero (S := S1024x1408) zero2, View.ld_unit_zero (S := S1408x1024) zero2, View.ld_unit_zero (S := S1024x1024) zero2, View.ld_unit_zero (S := S1x1024) zero2, View.ld_unit_zero (S := S8x128) zero2]

theorem lastS (hc0 : ¬cond0_0 i) (hc1 : ¬cond0_1 i) (hc2 : cond0_2 i) (q7 q8 : Vec Ideal S1x1024 .f32) (q9 : Vec Ideal S8x128 .f32) (s : Vec Ideal S1024x1024 .f32) :
    sout0_B_0 c i a3 h3 a4 h4 a5 h5 a6 h6 a7 h7 a8 h8 a9 h9 a10 h10 a11 h11 a12 h12 a13 h13 hc0 hc1 hc2 x y z g h t q7 q8 q9 s = k0_pay5 s x y := by
  unfold sout0_B_0
  rw [View.read_writes_eq_canon _ _ _ (scover0_B_0 c i a3 h3 a4 h4 a5 h5 a6 h6 a7 h7 a8 h8 a9 h9 a10 h10 a11 h11 a12 h12 a13 h13 hc0 hc1 hc2 x y z g h t q7 q8 q9 s)]
  unfold kernelRun0_B
  dsimp only
  sl_unfold_words
  rw [View.canon_unit_zero (S := S1024x1024) zero2]
  simp only [View.readCov_cons_toLoadRect, View.readCov_unit_zero (S := S1024x1024) _ zero2, View.readCov_unit_zero (S := S1x1024) _ zero2, View.readCov_unit_zero (S := S8x128) _ zero2, View.readAt_eq_ld,
    h3.read_unread, h4.read_unread, h5.read_unread, h6.read_unread, h7.read_unread, h8.read_unread, h10.read_unread, h11.read_unread, h12.read_unread, h13.read_unread,
    View.ld_unit_zero (S := S1024x1408) zero2, View.ld_unit_zero (S := S1408x1024) zero2, View.ld_unit_zero (S := S1024x1024) zero2, View.ld_unit_zero (S := S1x1024) zero2, View.ld_unit_zero (S := S8x128) zero2]

theorem start7 (hc0 : cond0_0 i) (hc1 : cond0_1 i) (hc2 : ¬cond0_2 i) :
    out0_A_7 c i a3 h3 a4 h4 a5 h5 a6 h6 a7 h7 a8 h8 a9 h9 a10 h10 a11 h11 a12 h12 a13 h13 hc0 hc1 hc2 x y z g h t = k0_pay2 (F := Ideal) := by
  unfold out0_A_7
  rw [View.read_writes_eq_canon _ _ _ (cover0_A_7 c i a3 h3 a4 h4 a5 h5 a6 h6 a7 h7 a8 h8 a9 h9 a10 h10 a11 h11 a12 h12 a13 h13 hc0 hc1 hc2 x y z g h t)]
  unfold kernelRun0_A
  dsimp only
  sl_unfold_words
  rw [View.canon_unit_zero (S := S1x1024) zero2]

theorem start8 (hc0 : cond0_0 i) (hc1 : cond0_1 i) (hc2 : ¬cond0_2 i) :
    out0_A_8 c i a3 h3 a4 h4 a5 h5 a6 h6 a7 h7 a8 h8 a9 h9 a10 h10 a11 h11 a12 h12 a13 h13 hc0 hc1 hc2 x y z g h t = k0_pay3 (F := Ideal) := by
  unfold out0_A_8
  rw [View.read_writes_eq_canon _ _ _ (cover0_A_8 c i a3 h3 a4 h4 a5 h5 a6 h6 a7 h7 a8 h8 a9 h9 a10 h10 a11 h11 a12 h12 a13 h13 hc0 hc1 hc2 x y z g h t)]
  unfold kernelRun0_A
  dsimp only
  sl_unfold_words
  rw [View.canon_unit_zero (S := S1x1024) zero2]

theorem start9 (hc0 : cond0_0 i) (hc1 : cond0_1 i) (hc2 : ¬cond0_2 i) :
    out0_A_9 c i a3 h3 a4 h4 a5 h5 a6 h6 a7 h7 a8 h8 a9 h9 a10 h10 a11 h11 a12 h12 a13 h13 hc0 hc1 hc2 x y z g h t = k0_pay4 (F := Ideal) := by
  unfold out0_A_9
  rw [View.read_writes_eq_canon _ _ _ (cover0_A_9 c i a3 h3 a4 h4 a5 h5 a6 h6 a7 h7 a8 h8 a9 h9 a10 h10 a11 h11 a12 h12 a13 h13 hc0 hc1 hc2 x y z g h t)]
  unfold kernelRun0_A
  dsimp only
  sl_unfold_words
  rw [View.canon_unit_zero (S := S8x128) zero2]

theorem last6 (hc0 : ¬cond0_0 i) (hc1 : ¬cond0_1 i) (hc2 : cond0_2 i) (q7 q8 : Vec Ideal S1x1024 .f32) (q9 : Vec Ideal S8x128 .f32) (s : Vec Ideal S1024x1024 .f32) :
    out0_B_6 c i a3 h3 a4 h4 a5 h5 a6 h6 a7 h7 a8 h8 a9 h9 a10 h10 a11 h11 a12 h12 a13 h13 hc0 hc1 hc2 x y z g h t q7 q8 q9 s = k0_pay14 (k0_pay6 g) (k0_pay8 (k0_pay5 s x y) z) (k0_pay9 (k0_pay5 s x y) z) (k0_pay10 (k0_pay5 s x y) z g h t) := by
  unfold out0_B_6
  rw [View.read_writes_eq_canon _ _ _ (cover0_B_6 c i a3 h3 a4 h4 a5 h5 a6 h6 a7 h7 a8 h8 a9 h9 a10 h10 a11 h11 a12 h12 a13 h13 hc0 hc1 hc2 x y z g h t q7 q8 q9 s)]
  unfold kernelRun0_B
  dsimp only
  sl_unfold_words
  rw [View.canon_unit_zero (S := S1024x1024) zero2]
  simp only [View.readCov_cons_toLoadRect, View.readCov_unit_zero (S := S1024x1024) _ zero2, View.readCov_unit_zero (S := S1x1024) _ zero2, View.readCov_unit_zero (S := S8x128) _ zero2, View.readAt_eq_ld,
    h3.read_unread, h4.read_unread, h5.read_unread, h6.read_unread, h7.read_unread, h8.read_unread, h10.read_unread, h11.read_unread, h12.read_unread, h13.read_unread,
    View.ld_unit_zero (S := S1024x1408) zero2, View.ld_unit_zero (S := S1408x1024) zero2, View.ld_unit_zero (S := S1024x1024) zero2, View.ld_unit_zero (S := S1x1024) zero2, View.ld_unit_zero (S := S8x128) zero2]

theorem last7 (hc0 : ¬cond0_0 i) (hc1 : ¬cond0_1 i) (hc2 : cond0_2 i) (q7 q8 : Vec Ideal S1x1024 .f32) (q9 : Vec Ideal S8x128 .f32) (s : Vec Ideal S1024x1024 .f32) :
    out0_B_7 c i a3 h3 a4 h4 a5 h5 a6 h6 a7 h7 a8 h8 a9 h9 a10 h10 a11 h11 a12 h12 a13 h13 hc0 hc1 hc2 x y z g h t q7 q8 q9 s = k0_pay15 (k0_pay9 (k0_pay5 s x y) z) (k0_pay10 (k0_pay5 s x y) z g h t) q7 := by
  unfold out0_B_7
  rw [View.read_writes_eq_canon _ _ _ (cover0_B_7 c i a3 h3 a4 h4 a5 h5 a6 h6 a7 h7 a8 h8 a9 h9 a10 h10 a11 h11 a12 h12 a13 h13 hc0 hc1 hc2 x y z g h t q7 q8 q9 s)]
  unfold kernelRun0_B
  dsimp only
  sl_unfold_words
  rw [View.canon_unit_zero (S := S1x1024) zero2]
  simp only [View.readCov_cons_toLoadRect, View.readCov_unit_zero (S := S1024x1024) _ zero2, View.readCov_unit_zero (S := S1x1024) _ zero2, View.readCov_unit_zero (S := S8x128) _ zero2, View.readAt_eq_ld,
    h3.read_unread, h4.read_unread, h5.read_unread, h6.read_unread, h7.read_unread, h8.read_unread, h10.read_unread, h11.read_unread, h12.read_unread, h13.read_unread,
    View.ld_unit_zero (S := S1024x1408) zero2, View.ld_unit_zero (S := S1408x1024) zero2, View.ld_unit_zero (S := S1024x1024) zero2, View.ld_unit_zero (S := S1x1024) zero2, View.ld_unit_zero (S := S8x128) zero2]

theorem last8 (hc0 : ¬cond0_0 i) (hc1 : ¬cond0_1 i) (hc2 : cond0_2 i) (q7 q8 : Vec Ideal S1x1024 .f32) (q9 : Vec Ideal S8x128 .f32) (s : Vec Ideal S1024x1024 .f32) :
    out0_B_8 c i a3 h3 a4 h4 a5 h5 a6 h6 a7 h7 a8 h8 a9 h9 a10 h10 a11 h11 a12 h12 a13 h13 hc0 hc1 hc2 x y z g h t q7 q8 q9 s = k0_pay16 (k0_pay10 (k0_pay5 s x y) z g h t) q8 := by
  unfold out0_B_8
  rw [View.read_writes_eq_canon _ _ _ (cover0_B_8 c i a3 h3 a4 h4 a5 h5 a6 h6 a7 h7 a8 h8 a9 h9 a10 h10 a11 h11 a12 h12 a13 h13 hc0 hc1 hc2 x y z g h t q7 q8 q9 s)]
  unfold kernelRun0_B
  dsimp only
  sl_unfold_words
  rw [View.canon_unit_zero (S := S1x1024) zero2]
  simp only [View.readCov_cons_toLoadRect, View.readCov_unit_zero (S := S1024x1024) _ zero2, View.readCov_unit_zero (S := S1x1024) _ zero2, View.readCov_unit_zero (S := S8x128) _ zero2, View.readAt_eq_ld,
    h3.read_unread, h4.read_unread, h5.read_unread, h6.read_unread, h7.read_unread, h8.read_unread, h10.read_unread, h11.read_unread, h12.read_unread, h13.read_unread,
    View.ld_unit_zero (S := S1024x1408) zero2, View.ld_unit_zero (S := S1408x1024) zero2, View.ld_unit_zero (S := S1024x1024) zero2, View.ld_unit_zero (S := S1x1024) zero2, View.ld_unit_zero (S := S8x128) zero2]

theorem last9 (hc0 : ¬cond0_0 i) (hc1 : ¬cond0_1 i) (hc2 : cond0_2 i) (q7 q8 : Vec Ideal S1x1024 .f32) (q9 : Vec Ideal S8x128 .f32) (s : Vec Ideal S1024x1024 .f32) :
    out0_B_9 c i a3 h3 a4 h4 a5 h5 a6 h6 a7 h7 a8 h8 a9 h9 a10 h10 a11 h11 a12 h12 a13 h13 hc0 hc1 hc2 x y z g h t q7 q8 q9 s = k0_pay12 (k0_pay11 (k0_pay5 s x y) z g h t) q9 := by
  unfold out0_B_9
  rw [View.read_writes_eq_canon _ _ _ (cover0_B_9 c i a3 h3 a4 h4 a5 h5 a6 h6 a7 h7 a8 h8 a9 h9 a10 h10 a11 h11 a12 h12 a13 h13 hc0 hc1 hc2 x y z g h t q7 q8 q9 s)]
  unfold kernelRun0_B
  dsimp only
  sl_unfold_words
  rw [View.canon_unit_zero (S := S8x128) zero2]
  simp only [View.readCov_cons_toLoadRect, View.readCov_unit_zero (S := S1024x1024) _ zero2, View.readCov_unit_zero (S := S1x1024) _ zero2, View.readCov_unit_zero (S := S8x128) _ zero2, View.readAt_eq_ld,
    h3.read_unread, h4.read_unread, h5.read_unread, h6.read_unread, h7.read_unread, h8.read_unread, h10.read_unread, h11.read_unread, h12.read_unread, h13.read_unread,
    View.ld_unit_zero (S := S1024x1408) zero2, View.ld_unit_zero (S := S1408x1024) zero2, View.ld_unit_zero (S := S1024x1024) zero2, View.ld_unit_zero (S := S1x1024) zero2, View.ld_unit_zero (S := S8x128) zero2]

end Cases

variable (m : (ℓ : Loc nD τ sig) → Buf (Elt Ideal) ℓ) (c : Dev nD)

/-- The operands as launched. -/
abbrev x0 : FVec Ideal S8192x2816 .f32 := m ((c : Thread nD τ).loc main_arg0)
abbrev y0 : FVec Ideal S2816x1024 .f32 := m ((c : Thread nD τ).loc main_arg1)
abbrev z0 : FVec Ideal S8192x1024 .f32 := m ((c : Thread nD τ).loc main_arg2)
abbrev g0 : FVec Ideal S1024 .f32 := m ((c : Thread nD τ).loc main_arg3)
abbrev h0 : FVec Ideal S1024 .f32 := m ((c : Thread nD τ).loc main_arg4)
abbrev t0 : FVec Ideal S8192x1024 .f32 := m ((c : Thread nD τ).loc main_arg5)

theorem V_v0 : (V m c main_v0 : FVec Ideal S8192x2816 .bf16) = truncf .bf16 (x0 m c) bitsLt_bf16_f32 := by
  after_reads_simp

theorem V_v1 : (V m c main_v1 : FVec Ideal S2816x1024 .bf16) = truncf .bf16 (y0 m c) bitsLt_bf16_f32 := by
  after_reads_simp

theorem V_v2 : (V m c main_v2 : FVec Ideal S1x1024 .f32) = shapeCast S1x1024 (g0 m c) shapeCasts_S1024_S1x1024 := by
  after_reads_simp
  rfl

theorem V_v3 : (V m c main_v3 : FVec Ideal S1x1024 .f32) = shapeCast S1x1024 (h0 m c) shapeCasts_S1024_S1x1024 := by
  after_reads_simp
  rfl

theorem blk0 (t : Fin cfg0.N) (r : Fin 1024) (k : Fin 1408) :
    ((iblk m c 0 t : FVec Ideal S1024x1408 .bf16) (ix2 r k) : EReal) = at2 (x0 m c) (1024 * (t.val / 2) + r.val) (1408 * (t.val % 2) + k.val) := by
  have hi : win0_0.index t 0 = t.val / 2 ∧ win0_0.index t 1 = t.val % 2 := by revert t; decide +kernel
  have hr := r.isLt
  have hk := k.isLt
  have ht : t.val < 16 := lt_of_lt_of_eq t.isLt N_0
  rw [← at2_mk (x0 m c) (show 1024 * (t.val / 2) + r.val < 8192 by omega) (show 1408 * (t.val % 2) + k.val < 2816 by omega)]
  unfold iblk
  rw [View.read_apply]
  show V m c main_v0 _ = x0 m c _
  rw [V_v0]
  show x0 m c _ = x0 m c _
  congr 1
  funext a
  apply Fin.ext
  match a with
  | ⟨0, _⟩ => show win0_0.index t 0 * 1024 + 1 * r.val = 1024 * (t.val / 2) + r.val; rw [hi.1]; omega
  | ⟨1, _⟩ => show win0_0.index t 1 * 1408 + 1 * k.val = 1408 * (t.val % 2) + k.val; rw [hi.2]; omega

theorem blk1 (t : Fin cfg0.N) (r : Fin 1408) (k : Fin 1024) :
    ((iblk m c 1 t : FVec Ideal S1408x1024 .bf16) (ix2 r k) : EReal) = at2 (y0 m c) (1408 * (t.val % 2) + r.val) k.val := by
  have hi : win0_1.index t 0 = t.val % 2 ∧ win0_1.index t 1 = 0 := by revert t; decide +kernel
  have hr := r.isLt
  have hk := k.isLt
  have ht : t.val < 16 := lt_of_lt_of_eq t.isLt N_0
  rw [← at2_mk (y0 m c) (show 1408 * (t.val % 2) + r.val < 2816 by omega) k.isLt]
  unfold iblk
  rw [View.read_apply]
  show V m c main_v1 _ = y0 m c _
  rw [V_v1]
  show y0 m c _ = y0 m c _
  congr 1
  funext a
  apply Fin.ext
  match a with
  | ⟨0, _⟩ => show win0_1.index t 0 * 1408 + 1 * r.val = 1408 * (t.val % 2) + r.val; rw [hi.1]; omega
  | ⟨1, _⟩ => show win0_1.index t 1 * 1024 + 1 * k.val = k.val; rw [hi.2]; omega

theorem blk2 (t : Fin cfg0.N) (r : Fin 1024) (k : Fin 1024) :
    ((iblk m c 2 t : FVec Ideal S1024x1024 .f32) (ix2 r k) : EReal) = at2 (z0 m c) (1024 * (t.val / 2) + r.val) k.val := by
  have hi : win0_2.index t 0 = t.val / 2 ∧ win0_2.index t 1 = 0 := by revert t; decide +kernel
  have hr := r.isLt
  have hk := k.isLt
  have ht : t.val < 16 := lt_of_lt_of_eq t.isLt N_0
  rw [← at2_mk (z0 m c) (show 1024 * (t.val / 2) + r.val < 8192 by omega) k.isLt]
  unfold iblk
  rw [View.read_apply]
  show V m c main_arg2 _ = z0 m c _
  rw [V_main_arg2]
  congr 1
  funext a
  apply Fin.ext
  match a with
  | ⟨0, _⟩ => show win0_2.index t 0 * 1024 + 1 * r.val = 1024 * (t.val / 2) + r.val; rw [hi.1]; omega
  | ⟨1, _⟩ => show win0_2.index t 1 * 1024 + 1 * k.val = k.val; rw [hi.2]; omega

theorem blk3 (t : Fin cfg0.N) (p : Fin 1) (k : Fin 1024) :
    ((iblk m c 3 t : FVec Ideal S1x1024 .f32) (ix2 p k) : EReal) = at1 (g0 m c) k.val := by
  have hi : win0_3.index t 0 = 0 ∧ win0_3.index t 1 = 0 := by revert t; decide +kernel
  have hp := p.isLt
  rw [at1_val]
  unfold iblk
  rw [View.read_apply]
  show V m c main_v2 _ = g0 m c _
  rw [V_v2]
  refine Eq.trans (congrArg (shapeCast S1x1024 (g0 m c) shapeCasts_S1024_S1x1024) (?_ : _ = ix2 p k)) ?_
  · funext a
    apply Fin.ext
    match a with
    | ⟨0, _⟩ => show win0_3.index t 0 * 1 + 1 * p.val = p.val; rw [hi.1]; omega
    | ⟨1, _⟩ => show win0_3.index t 1 * 1024 + 1 * k.val = k.val; rw [hi.2]; omega
  · generalize g0 m c = v
    pointwise

theorem blk4 (t : Fin cfg0.N) (p : Fin 1) (k : Fin 1024) :
    ((iblk m c 4 t : FVec Ideal S1x1024 .f32) (ix2 p k) : EReal) = at1 (h0 m c) k.val := by
  have hi : win0_4.index t 0 = 0 ∧ win0_4.index t 1 = 0 := by revert t; decide +kernel
  have hp := p.isLt
  rw [at1_val]
  unfold iblk
  rw [View.read_apply]
  show V m c main_v3 _ = h0 m c _
  rw [V_v3]
  refine Eq.trans (congrArg (shapeCast S1x1024 (h0 m c) shapeCasts_S1024_S1x1024) (?_ : _ = ix2 p k)) ?_
  · funext a
    apply Fin.ext
    match a with
    | ⟨0, _⟩ => show win0_4.index t 0 * 1 + 1 * p.val = p.val; rw [hi.1]; omega
    | ⟨1, _⟩ => show win0_4.index t 1 * 1024 + 1 * k.val = k.val; rw [hi.2]; omega
  · generalize h0 m c = v
    pointwise

theorem blk5 (t : Fin cfg0.N) (r : Fin 1024) (k : Fin 1024) :
    ((iblk m c 5 t : FVec Ideal S1024x1024 .f32) (ix2 r k) : EReal) = at2 (t0 m c) (1024 * (t.val / 2) + r.val) k.val := by
  have hi : win0_5.index t 0 = t.val / 2 ∧ win0_5.index t 1 = 0 := by revert t; decide +kernel
  have hr := r.isLt
  have hk := k.isLt
  have ht : t.val < 16 := lt_of_lt_of_eq t.isLt N_0
  rw [← at2_mk (t0 m c) (show 1024 * (t.val / 2) + r.val < 8192 by omega) k.isLt]
  unfold iblk
  rw [View.read_apply]
  show V m c main_arg5 _ = t0 m c _
  rw [V_main_arg5]
  congr 1
  funext a
  apply Fin.ext
  match a with
  | ⟨0, _⟩ => show win0_5.index t 0 * 1024 + 1 * r.val = 1024 * (t.val / 2) + r.val; rw [hi.1]; omega
  | ⟨1, _⟩ => show win0_5.index t 1 * 1024 + 1 * k.val = k.val; rw [hi.2]; omega

/-- Row by row: the row, its normalised form's error against the target, the error's gradient, the sum of the squared
    errors, and the gradient of the row. -/
def row (R : ℕ) (k : Fin 1024) : EReal :=
  (∑ s ∈ Finset.range 2816, at2 (x0 m c) R s * at2 (y0 m c) s k.val) + alpha * at2 (z0 m c) R k.val
def er (R : ℕ) (k : Fin 1024) : EReal := nrm (row m c R) k * at1 (g0 m c) k.val + at1 (h0 m c) k.val - at2 (t0 m c) R k.val
def dy (R : ℕ) (k : Fin 1024) : EReal := er m c R k * inv
def sq (R : ℕ) : EReal := ∑ k : Fin 1024, er m c R k * er m c R k
def gx (R : ℕ) (k : Fin 1024) : EReal := lnb (row m c R) (fun j => dy m c R j * at1 (g0 m c) j.val) k

/-- What one point adds at an element of the scratch. -/
def part (r k n : ℕ) : EReal :=
  ∑ u ∈ Finset.range 1408, at2 (x0 m c) (1024 * (n / 2) + r) (1408 * (n % 2) + u) * at2 (y0 m c) (1408 * (n % 2) + u) k

theorem step_part (t : Fin cfg0.N) (s : Vec Ideal S1024x1024 .f32) (r k : Fin 1024) :
    (k0_pay5 (F := Ideal) s (iblk m c 0 t) (iblk m c 1 t) (ix2 r k) : EReal) = s (ix2 r k) + part m c r.val k.val t.val := by
  rw [step_at]
  unfold part
  rw [← sum_fin 1408 (fun u => at2 (x0 m c) (1024 * (t.val / 2) + r.val) (1408 * (t.val % 2) + u) * at2 (y0 m c) (1408 * (t.val % 2) + u) k.val)]
  exact congrArg (s (ix2 r k) + ·) (Finset.sum_congr rfl fun u _ => congrArg₂ (· * ·) (blk0 m c t r u) (blk1 m c t u k))

/-- The scratch after every point. -/
theorem acc (r k : Fin 1024) (n : ℕ) (h : n < cfg0.N) :
    ((outsAt0 m c n h).2.2.2.2 (ix2 r k) : EReal) = ∑ j ∈ Finset.range (n % 2 + 1), part m c r.val k.val (2 * (n / 2) + j) := by
  refine since_start 2 (by decide) (fun n h => ((outsAt0 m c n h).2.2.2.2 (ix2 r k) : EReal)) (fun n => part m c r.val k.val n) ?_ ?_ n h
  · intro n h hz
    by_cases hs : n % 16 = 0
    · have e := outsAt0_A m c ⟨n, h⟩ hz hs (by dsimp only; omega)
      dsimp only at e ⊢
      rw [e]
      dsimp only
      rw [startS, step_part, zero_at, zero_add]
    · have e := outsAt0_C m c ⟨n, h⟩ hz hs (by dsimp only; omega)
      dsimp only at e ⊢
      rw [e]
      dsimp only
      rw [freshS, step_part, zero_at, zero_add]
  · intro n h hz
    have e := outsAt0_B m c ⟨n + 1, h⟩ hz (by dsimp only; omega) (by dsimp only; omega)
    dsimp only at e ⊢
    rw [e]
    dsimp only
    rw [lastS, step_part]
    rfl

/-- The product's tile at a point that ends a reduction. -/
abbrev tile (t : Fin cfg0.N) : Vec Ideal S1024x1024 .f32 :=
  k0_pay5 (F := Ideal) (outsAt0 m c (t.val - 1) (Nat.lt_of_le_of_lt (Nat.sub_le _ _) t.isLt)).2.2.2.2 (iblk m c 0 t) (iblk m c 1 t)

theorem full_at (t : Fin cfg0.N) (hl : t.val % 2 = 1) (r k : Fin 1024) :
    (tile m c t (ix2 r k) : EReal) = ∑ s ∈ Finset.range 2816, at2 (x0 m c) (1024 * (t.val / 2) + r.val) s * at2 (y0 m c) s k.val := by
  have e := outsAt0_B m c t (by omega) (by omega) hl
  have ea := acc m c r k t.val t.isLt
  rw [e] at ea
  dsimp only at ea
  rw [lastS] at ea
  refine ea.trans ?_
  rw [hl]
  unfold part
  refine Eq.trans ?_ (range_tiles 1408 (fun s => at2 (x0 m c) (1024 * (t.val / 2) + r.val) s * at2 (y0 m c) s k.val) 2)
  refine Finset.sum_congr rfl fun j hj => ?_
  have hj' := Finset.mem_range.mp hj
  rw [show (2 * (t.val / 2) + j) % 2 = j by omega, show (2 * (t.val / 2) + j) / 2 = t.val / 2 by omega]

theorem row_blk (t : Fin cfg0.N) (hl : t.val % 2 = 1) (r : Fin 1024) :
    rowOf (tile m c t) (iblk m c 2 t) r = row m c (1024 * (t.val / 2) + r.val) := by
  funext j
  unfold rowOf
  rw [full_at m c t hl]
  exact congrArg (fun v => _ + alpha * v) (blk2 m c t r j)

theorem nrm_tile (t : Fin cfg0.N) (hl : t.val % 2 = 1) (r k : Fin 1024) :
    (k0_pay9 (F := Ideal) (tile m c t) (iblk m c 2 t) (ix2 r k) : EReal) = nrm (row m c (1024 * (t.val / 2) + r.val)) k := by
  rw [nrm_at, row_blk m c t hl]

theorem e_tile (t : Fin cfg0.N) (hl : t.val % 2 = 1) (r k : Fin 1024) :
    (k0_pay10 (F := Ideal) (tile m c t) (iblk m c 2 t) (iblk m c 3 t) (iblk m c 4 t) (iblk m c 5 t) (ix2 r k) : EReal) = er m c (1024 * (t.val / 2) + r.val) k := by
  rw [e_at, row_blk m c t hl]
  exact congrArg₂ (· - ·) (congrArg₂ (· + ·) (congrArg (nrm (row m c (1024 * (t.val / 2) + r.val)) k * ·) (blk3 m c t 0 k)) (blk4 m c t 0 k)) (blk5 m c t r k)

/-- The rows' gradients at a point that ends a reduction. -/
theorem out_at (t : Fin cfg0.N) (hl : t.val % 2 = 1) (r k : Fin 1024) :
    ((outsAt0 m c t.val t.isLt).1 (ix2 r k) : EReal) = gx m c (1024 * (t.val / 2) + r.val) k := by
  rw [outsAt0_B m c t (by omega) (by omega) hl]
  dsimp only
  rw [last6, grad_at, row_blk m c t hl]
  unfold gx
  refine congrArg (fun d => lnb _ d k) (funext fun j => ?_)
  exact congrArg₂ (· * ·) (congrArg (· * inv) (e_tile m c t hl r j)) (blk3 m c t 0 j)

theorem arr (r : Fin 8192) (k : Fin 1024) : ((dats m 0 c).arrAt 6 cfg0.N (ix2 r k) : EReal) = gx m c r.val k := by
  have hr := r.isLt
  have hk := k.isLt
  have hN : cfg0.N = 16 := N_0
  rw [Cert.Kernel16Ideal.Value.final6]
  have hb : Cert.Kernel16Ideal.Value.pt6Of (ix2 r k) = 2 * (r.val / 1024) + 1 := by
    show 2 * (1 * (r.val / 1024 - 0) + 1 * (k.val / 1024 - 0)) + 1 = _
    omega
  unfold Cert.Kernel16Ideal.Value.G6
  rw [dif_pos (by rw [hb, hN]; omega), ← Cert.Kernel16Ideal.Value.outsAt0_sweep m c _ (by rw [hb, hN]; omega)]
  have e := out_at m c ⟨2 * (r.val / 1024) + 1, by rw [hN]; omega⟩ (by dsimp only; omega) ⟨r.val % 1024, by omega⟩ k
  dsimp only at e
  have hl : Cert.Kernel16Ideal.Value.loc6Of (ix2 r k) = ix2 ⟨r.val % 1024, by omega⟩ k := by
    funext a
    apply Fin.ext
    match a with
    | ⟨0, _⟩ => rfl
    | ⟨1, _⟩ => show k.val % 1024 = k.val; omega
  have ec : ∀ (a b : ℕ) (ha : a < cfg0.N) (hb : b < cfg0.N), a = b → outsAt0 m c a ha = outsAt0 m c b hb := by
    intro a b ha hb h; subst h; rfl
  rw [hl, ec _ _ _ (by rw [hN]; omega) hb]
  rw [show 1024 * ((2 * (r.val / 1024) + 1) / 2) + r.val % 1024 = r.val by omega] at e
  exact e

/-- What one point adds to a sum: only the ends of the reductions add. -/
def atEnd (p : ℕ → EReal) (n : ℕ) : EReal := if n % 2 = 1 then p (n / 2) else 0

theorem ends (p : ℕ → EReal) : (∑ j ∈ Finset.range 16, atEnd p j) = ∑ q ∈ Finset.range 8, p q := by
  have hz : ∀ q, (∑ i ∈ Finset.range 2, atEnd p (2 * q + i)) = p q := by
    intro q
    rw [Finset.sum_range_succ, Finset.sum_range_succ, Finset.sum_range_zero]
    unfold atEnd
    rw [if_neg (by omega), if_pos (by omega), show (2 * q + 1) / 2 = q by omega]
    simp only [zero_add]
  rw [show 16 = 8 * 2 from rfl, ← range_tiles 2 (atEnd p) 8]
  exact Finset.sum_congr rfl fun q _ => hz q

/-- The columns' sums of output 7 after every point. -/
theorem gain_acc (p : Fin 1) (k : Fin 1024) (n : ℕ) (h : n < cfg0.N) :
    ((outsAt0 m c n h).2.1 (ix2 p k) : EReal) = ∑ j ∈ Finset.range (n % 16 + 1), atEnd (fun q => ∑ u ∈ Finset.range 1024, dy m c (1024 * q + u) k * nrm (row m c (1024 * q + u)) k) (16 * (n / 16) + j) := by
  refine since_start 16 (by decide) (fun n h => ((outsAt0 m c n h).2.1 (ix2 p k) : EReal)) (fun n => atEnd (fun q => ∑ u ∈ Finset.range 1024, dy m c (1024 * q + u) k * nrm (row m c (1024 * q + u)) k) n) ?_ ?_ n h
  · intro n h hz
    have e := outsAt0_A m c ⟨n, h⟩ (by dsimp only; omega) hz (by dsimp only; omega)
    dsimp only at e ⊢
    rw [e]
    dsimp only
    rw [start7, gzero_at]
    unfold atEnd
    rw [if_neg (by omega)]
  · intro n h hz
    by_cases hl : (n + 1) % 2 = 1
    · have e := outsAt0_B m c ⟨n + 1, h⟩ (by dsimp only; omega) hz hl
      dsimp only at e ⊢
      rw [e]
      dsimp only
      rw [last7, gstep_at]
      unfold atEnd
      rw [if_pos hl]
      refine congrArg₂ (· + ·) rfl ?_
      show _ = ∑ u ∈ Finset.range 1024, (fun u => dy m c (1024 * ((n + 1) / 2) + u) k * nrm (row m c (1024 * ((n + 1) / 2) + u)) k) u
      rw [← sum_fin 1024]
      exact Finset.sum_congr rfl fun u _ => congrArg₂ (· * ·) (congrArg (· * inv) (e_tile m c ⟨n + 1, h⟩ hl u k)) (nrm_tile m c ⟨n + 1, h⟩ hl u k)
    · have ez : ∀ f, atEnd f (n + 1) = 0 := fun f => if_neg hl
      rw [ez]
      have e := outsAt0_C m c ⟨n + 1, h⟩ (by dsimp only; omega) hz hl
      dsimp only at e ⊢
      rw [e, add_zero]
      rfl

theorem gain_arr (p : Fin 1) (k : Fin 1024) :
    ((dats m 0 c).arrAt 7 cfg0.N (ix2 p k) : EReal) = ∑ q ∈ Finset.range 8, (fun q => ∑ u ∈ Finset.range 1024, dy m c (1024 * q + u) k * nrm (row m c (1024 * q + u)) k) q := by
  have hp := p.isLt
  have hk := k.isLt
  have hN : cfg0.N = 16 := N_0
  rw [Cert.Kernel16Ideal.Value.final7]
  have hb : Cert.Kernel16Ideal.Value.pt7Of (ix2 p k) = 15 := by
    show 16 * (1 * (p.val / 1 - 0) + 1 * (k.val / 1024 - 0)) + 15 = _
    omega
  unfold Cert.Kernel16Ideal.Value.G7
  rw [dif_pos (by rw [hb, hN]; omega), ← Cert.Kernel16Ideal.Value.outsAt0_sweep m c _ (by rw [hb, hN]; omega)]
  have e := gain_acc m c p k 15 (by rw [hN]; omega)
  have hl : Cert.Kernel16Ideal.Value.loc7Of (ix2 p k) = ix2 p k := by
    funext a
    apply Fin.ext
    match a with
    | ⟨0, _⟩ => show p.val % 1 = p.val; omega
    | ⟨1, _⟩ => show k.val % 1024 = k.val; omega
  have ec : ∀ (a b : ℕ) (ha : a < cfg0.N) (hb : b < cfg0.N), a = b → outsAt0 m c a ha = outsAt0 m c b hb := by
    intro a b ha hb h; subst h; rfl
  rw [hl, ec _ _ _ (by rw [hN]; omega) hb]
  refine e.trans ?_
  refine Eq.trans ?_ (ends (fun q => ∑ u ∈ Finset.range 1024, dy m c (1024 * q + u) k * nrm (row m c (1024 * q + u)) k))
  refine Finset.sum_congr rfl fun j hj => ?_
  rw [show 16 * (15 / 16) + j = j by omega]

/-- The columns' sums of output 8 after every point. -/
theorem bias_acc (p : Fin 1) (k : Fin 1024) (n : ℕ) (h : n < cfg0.N) :
    ((outsAt0 m c n h).2.2.1 (ix2 p k) : EReal) = ∑ j ∈ Finset.range (n % 16 + 1), atEnd (fun q => ∑ u ∈ Finset.range 1024, dy m c (1024 * q + u) k) (16 * (n / 16) + j) := by
  refine since_start 16 (by decide) (fun n h => ((outsAt0 m c n h).2.2.1 (ix2 p k) : EReal)) (fun n => atEnd (fun q => ∑ u ∈ Finset.range 1024, dy m c (1024 * q + u) k) n) ?_ ?_ n h
  · intro n h hz
    have e := outsAt0_A m c ⟨n, h⟩ (by dsimp only; omega) hz (by dsimp only; omega)
    dsimp only at e ⊢
    rw [e]
    dsimp only
    rw [start8, bzero_at]
    unfold atEnd
    rw [if_neg (by omega)]
  · intro n h hz
    by_cases hl : (n + 1) % 2 = 1
    · have e := outsAt0_B m c ⟨n + 1, h⟩ (by dsimp only; omega) hz hl
      dsimp only at e ⊢
      rw [e]
      dsimp only
      rw [last8, bstep_at]
      unfold atEnd
      rw [if_pos hl]
      refine congrArg₂ (· + ·) rfl ?_
      show _ = ∑ u ∈ Finset.range 1024, (fun u => dy m c (1024 * ((n + 1) / 2) + u) k) u
      rw [← sum_fin 1024]
      exact Finset.sum_congr rfl fun u _ => congrArg (· * inv) (e_tile m c ⟨n + 1, h⟩ hl u k)
    · have ez : ∀ f, atEnd f (n + 1) = 0 := fun f => if_neg hl
      rw [ez]
      have e := outsAt0_C m c ⟨n + 1, h⟩ (by dsimp only; omega) hz hl
      dsimp only at e ⊢
      rw [e, add_zero]
      rfl

theorem bias_arr (p : Fin 1) (k : Fin 1024) :
    ((dats m 0 c).arrAt 8 cfg0.N (ix2 p k) : EReal) = ∑ q ∈ Finset.range 8, (fun q => ∑ u ∈ Finset.range 1024, dy m c (1024 * q + u) k) q := by
  have hp := p.isLt
  have hk := k.isLt
  have hN : cfg0.N = 16 := N_0
  rw [Cert.Kernel16Ideal.Value.final8]
  have hb : Cert.Kernel16Ideal.Value.pt8Of (ix2 p k) = 15 := by
    show 16 * (1 * (p.val / 1 - 0) + 1 * (k.val / 1024 - 0)) + 15 = _
    omega
  unfold Cert.Kernel16Ideal.Value.G8
  rw [dif_pos (by rw [hb, hN]; omega), ← Cert.Kernel16Ideal.Value.outsAt0_sweep m c _ (by rw [hb, hN]; omega)]
  have e := bias_acc m c p k 15 (by rw [hN]; omega)
  have hl : Cert.Kernel16Ideal.Value.loc8Of (ix2 p k) = ix2 p k := by
    funext a
    apply Fin.ext
    match a with
    | ⟨0, _⟩ => show p.val % 1 = p.val; omega
    | ⟨1, _⟩ => show k.val % 1024 = k.val; omega
  have ec : ∀ (a b : ℕ) (ha : a < cfg0.N) (hb : b < cfg0.N), a = b → outsAt0 m c a ha = outsAt0 m c b hb := by
    intro a b ha hb h; subst h; rfl
  rw [hl, ec _ _ _ (by rw [hN]; omega) hb]
  refine e.trans ?_
  refine Eq.trans ?_ (ends (fun q => ∑ u ∈ Finset.range 1024, dy m c (1024 * q + u) k))
  refine Finset.sum_congr rfl fun j hj => ?_
  rw [show 16 * (15 / 16) + j = j by omega]

/-- The loss so far after every point. -/
theorem loss_acc (p : Fin 8) (k : Fin 128) (n : ℕ) (h : n < cfg0.N) :
    ((outsAt0 m c n h).2.2.2.1 (ix2 p k) : EReal) = ∑ j ∈ Finset.range (n % 16 + 1), atEnd (fun q => (∑ u ∈ Finset.range 1024, sq m c (1024 * q + u)) * hinv) (16 * (n / 16) + j) := by
  refine since_start 16 (by decide) (fun n h => ((outsAt0 m c n h).2.2.2.1 (ix2 p k) : EReal)) (fun n => atEnd (fun q => (∑ u ∈ Finset.range 1024, sq m c (1024 * q + u)) * hinv) n) ?_ ?_ n h
  · intro n h hz
    have e := outsAt0_A m c ⟨n, h⟩ (by dsimp only; omega) hz (by dsimp only; omega)
    dsimp only at e ⊢
    rw [e]
    dsimp only
    rw [start9, lzero_at]
    unfold atEnd
    rw [if_neg (by omega)]
  · intro n h hz
    by_cases hl : (n + 1) % 2 = 1
    · have e := outsAt0_B m c ⟨n + 1, h⟩ (by dsimp only; omega) hz hl
      dsimp only at e ⊢
      rw [e]
      dsimp only
      rw [last9, lstep_at]
      unfold atEnd
      rw [if_pos hl]
      refine congrArg₂ (· + ·) rfl ?_
      rw [sq_at]
      show _ = (∑ u ∈ Finset.range 1024, (fun u => sq m c (1024 * ((n + 1) / 2) + u)) u) * hinv
      rw [← sum_fin 1024]
      refine congrArg (· * hinv) (Finset.sum_congr rfl fun u _ => Finset.sum_congr rfl fun j _ => ?_)
      exact congrArg₂ (· * ·) (e_tile m c ⟨n + 1, h⟩ hl u j) (e_tile m c ⟨n + 1, h⟩ hl u j)
    · have ez : ∀ f, atEnd f (n + 1) = 0 := fun f => if_neg hl
      rw [ez]
      have e := outsAt0_C m c ⟨n + 1, h⟩ (by dsimp only; omega) hz hl
      dsimp only at e ⊢
      rw [e, add_zero]
      rfl

theorem loss_arr (p : Fin 8) (k : Fin 128) :
    ((dats m 0 c).arrAt 9 cfg0.N (ix2 p k) : EReal) = ∑ q ∈ Finset.range 8, (fun q => (∑ u ∈ Finset.range 1024, sq m c (1024 * q + u)) * hinv) q := by
  have hp := p.isLt
  have hk := k.isLt
  have hN : cfg0.N = 16 := N_0
  rw [Cert.Kernel16Ideal.Value.final9]
  have hb : Cert.Kernel16Ideal.Value.pt9Of (ix2 p k) = 15 := by
    show 16 * (1 * (p.val / 8 - 0) + 1 * (k.val / 128 - 0)) + 15 = _
    omega
  unfold Cert.Kernel16Ideal.Value.G9
  rw [dif_pos (by rw [hb, hN]; omega), ← Cert.Kernel16Ideal.Value.outsAt0_sweep m c _ (by rw [hb, hN]; omega)]
  have e := loss_acc m c p k 15 (by rw [hN]; omega)
  have hl : Cert.Kernel16Ideal.Value.loc9Of (ix2 p k) = ix2 p k := by
    funext a
    apply Fin.ext
    match a with
    | ⟨0, _⟩ => show p.val % 8 = p.val; omega
    | ⟨1, _⟩ => show k.val % 128 = k.val; omega
  have ec : ∀ (a b : ℕ) (ha : a < cfg0.N) (hb : b < cfg0.N), a = b → outsAt0 m c a ha = outsAt0 m c b hb := by
    intro a b ha hb h; subst h; rfl
  rw [hl, ec _ _ _ (by rw [hN]; omega) hb]
  refine e.trans ?_
  refine Eq.trans ?_ (ends (fun q => (∑ u ∈ Finset.range 1024, sq m c (1024 * q + u)) * hinv))
  refine Finset.sum_congr rfl fun j hj => ?_
  rw [show 16 * (15 / 16) + j = j by omega]

end Cert.Proof.Prod.FfnLossRun
-- ==== Proof.Prod.FfnLossRef.lean ====
module

public import proofs.«01_k».proof.Proof.Gen.Reference16Ideal.Read
public import proofs.«01_k».proof.Proof.Prod.Tile
public import proofs.«01_k».proof.Proof.Prod.Norm

/-! The reference's side of the loss and of its gradient. -/

@[expose] public section

noncomputable section

open Idealize.ShloMosaic Idealize.ShloMosaic.TcCoe
open Cert.Reference16Ideal Cert.Reference16Ideal.Gen Cert.Reference16Ideal.Read

namespace Cert.Proof.Prod.FfnLossRef

/-- A half and one. -/
abbrev half : EReal := FloatOps.ofBits (F := Ideal) .f32 0x3F000000#32
abbrev one : EReal := FloatOps.ofBits (F := Ideal) .f32 0x3F800000#32

variable (x : FVec Ideal S8192x2816 .f32) (y : FVec Ideal S2816x1024 .f32) (z : FVec Ideal S8192x1024 .f32) (g h : FVec Ideal S1024 .f32) (t : FVec Ideal S8192x1024 .f32)

theorem row_at (r : Fin 8192) (k : Fin 1024) :
    (val_main_v3 (F := Ideal) x y z (ix2 r k) : EReal) = (∑ t : Fin 2816, x (ix2 r t) * y (ix2 t k)) + FloatOps.ofBits (F := Ideal) .f32 0x3FB504F3#32 * z (ix2 r k) := by
  unfold val_main_v3 val_main_v2 val_main_v1 val_main_v0 val_main_cst
  pointwise
  exact add_comm _ _

/-- A row. -/
abbrev rowOf (r : Fin 8192) (j : Fin 1024) : EReal := val_main_v3 (F := Ideal) x y z (ix2 r j)

theorem mean_at (r : Fin 8192) (p : Fin 1) : (val_main_v7 (F := Ideal) x y z (ix2 r p) : EReal) = mean (rowOf x y z r) := by
  unfold val_main_v7 val_main_v6 val_main_v5 val_main_v4 val_main_cst_0 val_main_cst_1 mean rowOf
  generalize val_main_v3 (F := Ideal) x y z = v
  pointwise
  try simp [Ideal.ofBits, Ideal.ieee]

theorem cen_at (r : Fin 8192) (k : Fin 1024) : (val_main_v9 (F := Ideal) x y z (ix2 r k) : EReal) = cen (rowOf x y z r) k := by
  unfold val_main_v9 val_main_v8 cen
  rw [← mean_at x y z r 0]
  show _ = val_main_v3 (F := Ideal) x y z (ix2 r k) - _
  generalize val_main_v3 (F := Ideal) x y z = v
  generalize val_main_v7 (F := Ideal) x y z = u
  pointwise

theorem cen_at' (r : Fin 8192) (k : Fin 1024) : (val_main_v18 (F := Ideal) x y z (ix2 r k) : EReal) = cen (rowOf x y z r) k := by
  unfold val_main_v18 val_main_v17 cen
  rw [← mean_at x y z r 0]
  show _ = val_main_v3 (F := Ideal) x y z (ix2 r k) - _
  generalize val_main_v3 (F := Ideal) x y z = v
  generalize val_main_v7 (F := Ideal) x y z = u
  pointwise

theorem dev_at (r : Fin 8192) (p : Fin 1) : (val_main_v20 (F := Ideal) x y z (ix2 r p) : EReal) = dev (rowOf x y z r) := by
  unfold val_main_v20 val_main_v19 val_main_v16 val_main_v15 val_main_v14 val_main_v13 val_main_v10 val_main_cst_3 val_main_cst_4 val_main_cst_5 dev mean
  simp only [← cen_at x y z]
  generalize val_main_v9 (F := Ideal) x y z = v
  pointwise
  try simp [Ideal.ofBits, Ideal.ieee]

theorem rst_at (r : Fin 8192) (p : Fin 1) : (val_main_v21 (F := Ideal) x y z (ix2 r p) : EReal) = rst (rowOf x y z r) := by
  unfold val_main_v21 rst
  rw [← dev_at x y z r p]
  generalize val_main_v20 (F := Ideal) x y z = v
  pointwise

theorem nrm_at (r : Fin 8192) (k : Fin 1024) : (val_main_v26 (F := Ideal) x y z (ix2 r k) : EReal) = nrm (rowOf x y z r) k := by
  unfold val_main_v26 val_main_v25 nrm
  rw [← cen_at' x y z r k, ← rst_at x y z r 0]
  generalize val_main_v18 (F := Ideal) x y z = v
  generalize val_main_v21 (F := Ideal) x y z = u
  pointwise

theorem half_at (r : Fin 8192) (p : Fin 1) :
    (val_main_v24 (F := Ideal) x y z (ix2 r p) : EReal) = mhalf * Ideal.div (rst (rowOf x y z r)) (dev (rowOf x y z r)) := by
  unfold val_main_v24 val_main_v23 val_main_v22 val_main_cst_6
  rw [← rst_at x y z r p, ← dev_at x y z r p]
  generalize val_main_v20 (F := Ideal) x y z = v
  generalize val_main_v21 (F := Ideal) x y z = u
  pointwise

/-- The error against the target. -/
theorem e_at (r : Fin 8192) (k : Fin 1024) :
    (val_main_v33 (F := Ideal) x y z g h t (ix2 r k) : EReal) = nrm (rowOf x y z r) k * g (ix1 k) + h (ix1 k) - t (ix2 r k) := by
  unfold val_main_v33 val_main_v32 val_main_v31 val_main_v30 val_main_v29 val_main_v28 val_main_v27
  rw [← nrm_at x y z]
  generalize val_main_v26 (F := Ideal) x y z = v
  pointwise

/-- The gradient of the normalised row. -/
theorem dy_at (r : Fin 8192) (k : Fin 1024) :
    (val_main_v47 (F := Ideal) x y z g h t (ix2 r k) : EReal)
      = Ideal.div (half * one) len * (two * val_main_v33 (F := Ideal) x y z g h t (ix2 r k)) := by
  unfold val_main_v47 val_main_v46 val_main_v45 val_main_v44 val_main_v43 val_main_v42 val_main_v36 val_main_v35 val_main_cst_7 val_main_cst_12 val_main_cst_13 val_main_cst_14
  generalize val_main_v33 (F := Ideal) x y z g h t = v
  pointwise

theorem loss_at (p : Fin 8) (k : Fin 128) :
    (val_main_v83 (F := Ideal) x y z g h t (ix2 p k) : EReal)
      = half * ∑ r : Fin 8192, Ideal.div (∑ j : Fin 1024, val_main_v33 (F := Ideal) x y z g h t (ix2 r j) * val_main_v33 (F := Ideal) x y z g h t (ix2 r j)) len := by
  unfold val_main_v83 val_main_v41 val_main_v40 val_main_v39 val_main_v38 val_main_v37 val_main_v34 val_main_cst_8 val_main_cst_9 val_main_cst_10 val_main_cst_11
  generalize val_main_v33 (F := Ideal) x y z g h t = v
  pointwise
  try simp [Ideal.ofBits, Ideal.ieee]

/-- The gradient of the row scaled by the gain. -/
theorem d_at (r : Fin 8192) (k : Fin 1024) :
    (val_main_v55 (F := Ideal) x y z g h t (ix2 r k) : EReal) = val_main_v47 (F := Ideal) x y z g h t (ix2 r k) * g (ix1 k) := by
  unfold val_main_v55 val_main_v54 val_main_v27
  generalize val_main_v47 (F := Ideal) x y z g h t = v
  pointwise

theorem first_at (r : Fin 8192) (k : Fin 1024) :
    (val_main_v61 (F := Ideal) x y z g h t (ix2 r k) : EReal) = val_main_v55 (F := Ideal) x y z g h t (ix2 r k) * rst (rowOf x y z r) := by
  unfold val_main_v61 val_main_v60
  rw [← rst_at x y z r 0]
  generalize val_main_v55 (F := Ideal) x y z g h t = v
  generalize val_main_v21 (F := Ideal) x y z = u
  pointwise

theorem q_at (r : Fin 8192) :
    (val_main_v68 (F := Ideal) x y z g h t (ix1 r) : EReal) = lnq (rowOf x y z r) fun j => val_main_v55 (F := Ideal) x y z g h t (ix2 r j) := by
  unfold val_main_v68 val_main_v67 val_main_v66 val_main_v62 val_main_v59 val_main_v58 val_main_v57 val_main_cst_19 val_main_cst_21 val_main_cst_22 lnq
  simp only [← cen_at' x y z, ← half_at x y z r 0]
  generalize val_main_v55 (F := Ideal) x y z g h t = v
  generalize val_main_v18 (F := Ideal) x y z = u
  generalize val_main_v24 (F := Ideal) x y z = o
  pointwise
  try simp [Ideal.ofBits, Ideal.ieee]

theorem second_at (r : Fin 8192) (k : Fin 1024) :
    (val_main_v70 (F := Ideal) x y z g h t (ix2 r k) : EReal)
      = lnq (rowOf x y z r) (fun j => val_main_v55 (F := Ideal) x y z g h t (ix2 r j)) * (two * cen (rowOf x y z r) k) := by
  unfold val_main_v70 val_main_v69 val_main_v12 val_main_v11 val_main_cst_2
  rw [← q_at, ← cen_at x y z]
  generalize val_main_v68 (F := Ideal) x y z g h t = v
  generalize val_main_v9 (F := Ideal) x y z = u
  pointwise

theorem x_at (r : Fin 8192) (k : Fin 1024) :
    (val_main_v80 (F := Ideal) x y z g h t (ix2 r k) : EReal)
      = lnv (rowOf x y z r) (fun j => val_main_v55 (F := Ideal) x y z g h t (ix2 r j)) k := by
  unfold val_main_v80 val_main_v79 val_main_v78 val_main_v77 val_main_v76 val_main_v75 val_main_v74 val_main_v73 val_main_v72 val_main_v71 val_main_v65 val_main_v64 val_main_v63
    val_main_cst_20 val_main_cst_23 val_main_cst_24 val_main_cst_25 lnv
  simp only [← first_at x y z g h t, ← second_at x y z g h t]
  generalize val_main_v61 (F := Ideal) x y z g h t = v
  generalize val_main_v70 (F := Ideal) x y z g h t = u
  pointwise
  try simp [Ideal.ofBits, Ideal.ieee]

theorem gain_at (p : Fin 1) (k : Fin 1024) :
    (val_main_v81 (F := Ideal) x y z g h t (ix2 p k) : EReal)
      = ∑ r : Fin 8192, nrm (rowOf x y z r) k * val_main_v47 (F := Ideal) x y z g h t (ix2 r k) := by
  unfold val_main_v81 val_main_v56 val_main_v53 val_main_v52 val_main_v51 val_main_cst_17 val_main_cst_18
  simp only [← nrm_at x y z]
  generalize val_main_v47 (F := Ideal) x y z g h t = v
  generalize val_main_v26 (F := Ideal) x y z = u
  pointwise
  try simp [Ideal.ofBits, Ideal.ieee]

theorem bias_at (p : Fin 1) (k : Fin 1024) :
    (val_main_v82 (F := Ideal) x y z g h t (ix2 p k) : EReal) = ∑ r : Fin 8192, val_main_v47 (F := Ideal) x y z g h t (ix2 r k) := by
  unfold val_main_v82 val_main_v50 val_main_v49 val_main_v48 val_main_cst_15 val_main_cst_16
  generalize val_main_v47 (F := Ideal) x y z g h t = v
  pointwise
  try simp [Ideal.ofBits, Ideal.ieee]

end Cert.Proof.Prod.FfnLossRef
-- ==== Proof.Prod.FfnLoss.lean ====
module

public import proofs.«01_k».proof.Proof.Prod.FfnLossRun
public import proofs.«01_k».proof.Proof.Prod.FfnLossRef
public import proofs.«01_k».proof.Proof.Attn.Equal
public import proofs.«01_k».proof.Defs

/-! The call's four arrays are the reference's, the gain, the bias and the target being finite. -/

@[expose] public section

noncomputable section

open Idealize.ShloMosaic Idealize.ShloMosaic.TcCoe Idealize.SL.Sem
open Cert.Kernel16Ideal Cert.Kernel16Ideal.Gen Cert.Proof.Soft Cert.Proof.Attn Cert.Proof.Prod.FfnLossRun

namespace Cert.Proof.Prod.FfnLoss

theorem pre_facts : Cert.Pre_finite_target.Facts := ⟨by decide, by decide⟩

section Finite

variable [Cert.Pre_finite_target.Facts] (x : FVec Ideal S8192x2816 .f32) (y : FVec Ideal S2816x1024 .f32) (z : FVec Ideal S8192x1024 .f32) (g h : FVec Ideal S1024 .f32) (t : FVec Ideal S8192x1024 .f32)

theorem fin_g (e : (Cert.Pre_finite_target.fn (F := Ideal) x y z g h t).1 = fun _ => 1#1) (k : Fin 1024) : Fin' (g (ix1 k)) := by
  refine fin_of_abs ((Eq.trans ?_ (congrFun e (ix1 k))))
  unfold Cert.Pre_finite_target.fn
  pointwise
  rfl

theorem fin_h (e : (Cert.Pre_finite_target.fn (F := Ideal) x y z g h t).2.1 = fun _ => 1#1) (k : Fin 1024) : Fin' (h (ix1 k)) := by
  refine fin_of_abs ((Eq.trans ?_ (congrFun e (ix1 k))))
  unfold Cert.Pre_finite_target.fn
  pointwise
  rfl

theorem fin_t (e : (Cert.Pre_finite_target.fn (F := Ideal) x y z g h t).2.2 = fun _ => 1#1) (r : Fin 8192) (k : Fin 1024) : Fin' (t (ix2 r k)) := by
  refine fin_of_abs ((Eq.trans ?_ (congrFun e (ix2 r k))))
  unfold Cert.Pre_finite_target.fn
  pointwise
  rfl

end Finite

theorem fin_coe (v : ℝ) : Fin' ((v : ℝ) : EReal) := ⟨EReal.coe_ne_top _, EReal.coe_ne_bot _⟩

/-- A normalised row is finite, whatever the row. -/
theorem nrm_fin (x : Fin 1024 → EReal) (k : Fin 1024) : Fin' (nrm x k) := by
  by_cases h : ∃ k, x k = ⊤ ∨ x k = ⊥
  · unfold nrm rst
    rw [dev_top x h, Ideal.rsqrt_top, mul_zero]
    exact fin_coe 0
  · have hx : ∀ k, ((x k).toReal : EReal) = x k := fun k =>
      EReal.coe_toReal (fun e => h ⟨k, Or.inl e⟩) (fun e => h ⟨k, Or.inr e⟩)
    rw [show x = fun k => (((x k).toReal : ℝ) : EReal) from funext fun k => (hx k).symm]
    obtain ⟨f, s, hs, -, hc, hd⟩ := reals fun k => (x k).toReal
    unfold nrm rst
    rw [hc, hd, Ideal.rsqrt_coe, if_neg (not_lt.mpr hs.le), if_neg hs.ne', ← EReal.coe_mul]
    exact fin_coe _

theorem fin_sub {a b : EReal} (ha : Fin' a) (hb : Fin' b) : Fin' (a - b) := by
  rw [← EReal.coe_toReal ha.1 ha.2, ← EReal.coe_toReal hb.1 hb.2, ← EReal.coe_sub]
  exact fin_coe _

theorem inv_eq : inv = ((1 / 1024 : ℝ) : EReal) := by
  show Ideal.ofBits .f32 0x3A800000#32 = _
  simp [Ideal.ofBits, Ideal.ieee]
  rw [← EReal.coe_mul]; norm_num

theorem hinv_eq : hinv = ((1 / 2048 : ℝ) : EReal) := by
  show Ideal.ofBits .f32 0x3A000000#32 = _
  simp [Ideal.ofBits, Ideal.ieee]
  rw [← EReal.coe_mul]; norm_num

theorem half_eq : FfnLossRef.half = ((1 / 2 : ℝ) : EReal) := by
  show Ideal.ofBits .f32 0x3F000000#32 = _
  simp [Ideal.ofBits, Ideal.ieee]
  try (rw [← EReal.coe_mul]; norm_num)

theorem one_eq : FfnLossRef.one = ((1 : ℝ) : EReal) := by
  show Ideal.ofBits .f32 0x3F800000#32 = _
  simp [Ideal.ofBits, Ideal.ieee]
  try (rw [← EReal.coe_mul]; norm_num)

/-- The factor of the squared error's gradient, spelt the two ways. -/
theorem factor (v : EReal) : Ideal.div (FfnLossRef.half * FfnLossRef.one) len * (two * v) = v * inv := by
  rw [div_len, half_eq, one_eq, two_eq, inv_eq, ← mul_assoc, mul_comm v, ← EReal.coe_mul, ← EReal.coe_mul, ← EReal.coe_mul]
  norm_num

variable (m : (ℓ : Loc nD τ sig) → Buf (Elt Ideal) ℓ) (c : Dev nD)

/-- The reference's rows are the call's. -/
theorem row_eq (r : Fin 8192) : FfnLossRef.rowOf (x0 m c) (y0 m c) (z0 m c) r = row m c r.val := by
  funext k
  refine (FfnLossRef.row_at _ _ _ r k).trans ?_
  unfold row
  rw [← sum_fin 2816 (fun s => at2 (x0 m c) r.val s * at2 (y0 m c) s k.val)]
  refine congrArg₂ (· + ·) (Finset.sum_congr rfl fun u _ => ?_) (congrArg (alpha * ·) (at2_val _ r k).symm)
  rw [at2_val, at2_val]

theorem er_eq (r : Fin 8192) (k : Fin 1024) :
    (Cert.Reference16Ideal.Read.val_main_v33 (F := Ideal) (x0 m c) (y0 m c) (z0 m c) (g0 m c) (h0 m c) (t0 m c) (ix2 r k) : EReal) = er m c r.val k := by
  refine (FfnLossRef.e_at _ _ _ _ _ _ r k).trans ?_
  unfold er
  rw [row_eq, at1_val, at1_val, at2_val]

theorem dy_eq (r : Fin 8192) (k : Fin 1024) :
    (Cert.Reference16Ideal.Read.val_main_v47 (F := Ideal) (x0 m c) (y0 m c) (z0 m c) (g0 m c) (h0 m c) (t0 m c) (ix2 r k) : EReal) = dy m c r.val k := by
  refine (FfnLossRef.dy_at _ _ _ _ _ _ r k).trans ((factor _).trans ?_)
  unfold dy
  rw [er_eq]

theorem d_eq (r : Fin 8192) :
    (fun j => (Cert.Reference16Ideal.Read.val_main_v55 (F := Ideal) (x0 m c) (y0 m c) (z0 m c) (g0 m c) (h0 m c) (t0 m c) (ix2 r j) : EReal))
      = fun j => dy m c r.val j * at1 (g0 m c) j.val := by
  funext j
  refine (FfnLossRef.d_at _ _ _ _ _ _ r j).trans ?_
  rw [dy_eq, at1_val]

/-- The gain's gradient. -/
theorem gequal : ((dats m 0 c).arrAt 7 cfg0.N : FVec Ideal S1x1024 .f32)
    = Cert.Reference16Ideal.Read.val_main_v81 (F := Ideal) (x0 m c) (y0 m c) (z0 m c) (g0 m c) (h0 m c) (t0 m c) := by
  funext i
  obtain ⟨p, k, rfl⟩ : ∃ p k, i = ix2 p k := ⟨i 0, i 1, eq_ix2 i⟩
  refine (gain_arr m c p k).trans (Eq.symm ((FfnLossRef.gain_at _ _ _ _ _ _ p k).trans ?_))
  refine Eq.trans ?_ (range_tiles 1024 (fun R => dy m c R k * nrm (row m c R) k) 8).symm
  rw [← sum_fin 8192 (fun R => dy m c R k * nrm (row m c R) k)]
  refine Finset.sum_congr rfl fun r _ => ?_
  rw [row_eq, dy_eq, mul_comm]

/-- The bias's gradient. -/
theorem bequal : ((dats m 0 c).arrAt 8 cfg0.N : FVec Ideal S1x1024 .f32)
    = Cert.Reference16Ideal.Read.val_main_v82 (F := Ideal) (x0 m c) (y0 m c) (z0 m c) (g0 m c) (h0 m c) (t0 m c) := by
  funext i
  obtain ⟨p, k, rfl⟩ : ∃ p k, i = ix2 p k := ⟨i 0, i 1, eq_ix2 i⟩
  refine (bias_arr m c p k).trans (Eq.symm ((FfnLossRef.bias_at _ _ _ _ _ _ p k).trans ?_))
  refine Eq.trans ?_ (range_tiles 1024 (fun R => dy m c R k) 8).symm
  rw [← sum_fin 8192 (fun R => dy m c R k)]
  exact Finset.sum_congr rfl fun r _ => dy_eq m c r k

theorem er_fin (hpre : letI := pre_facts; Cert.Pre_Kernel16Ideal_finite_target m) (r : Fin 8192) (k : Fin 1024) : Fin' (er m c r.val k) := by
  letI := pre_facts
  have h := hpre c
  unfold er
  rw [at1_val, at1_val, at2_val]
  exact fin_sub (fin_add (fin_mul (nrm_fin _ k) (fin_g _ _ _ _ _ _ h.1 k)) (fin_h _ _ _ _ _ _ h.2.1 k)) (fin_t _ _ _ _ _ _ h.2.2 r k)

theorem d_fin (hpre : letI := pre_facts; Cert.Pre_Kernel16Ideal_finite_target m) (r : Fin 8192) (k : Fin 1024) : Fin' (dy m c r.val k * at1 (g0 m c) k.val) := by
  letI := pre_facts
  have h := hpre c
  rw [at1_val]
  unfold dy
  rw [inv_eq]
  exact fin_mul (fin_mul (er_fin m c hpre r k) (fin_coe _)) (fin_g _ _ _ _ _ _ h.1 k)

/-- The rows' gradient. -/
theorem equal (hpre : letI := pre_facts; Cert.Pre_Kernel16Ideal_finite_target m) : ((dats m 0 c).arrAt 6 cfg0.N : FVec Ideal S8192x1024 .f32)
    = Cert.Reference16Ideal.Read.val_main_v80 (F := Ideal) (x0 m c) (y0 m c) (z0 m c) (g0 m c) (h0 m c) (t0 m c) := by
  funext i
  obtain ⟨r, k, rfl⟩ : ∃ r k, i = ix2 r k := ⟨i 0, i 1, eq_ix2 i⟩
  refine (arr m c r k).trans (Eq.symm ((FfnLossRef.x_at _ _ _ _ _ _ r k).trans ?_))
  rw [row_eq, d_eq]
  exact (lnb_eq_lnv _ _ (fun j => d_fin m c hpre r j) k).symm

/-- Tile by tile or row by row, the halved mean squares add to the same. -/
theorem halves (s : ℕ → EReal) (hs : ∀ r : Fin 8192, Fin' (s r.val)) :
    (∑ q ∈ Finset.range 8, (∑ u ∈ Finset.range 1024, s (1024 * q + u)) * hinv) = FfnLossRef.half * ∑ r : Fin 8192, Ideal.div (s r.val) len := by
  have hc : ∀ n, n < 8192 → s n = (((s n).toReal : ℝ) : EReal) := fun n hn => (EReal.coe_toReal (hs ⟨n, hn⟩).1 (hs ⟨n, hn⟩).2).symm
  have hl : ∀ q ∈ Finset.range 8, (∑ u ∈ Finset.range 1024, s (1024 * q + u)) * hinv
      = ∑ u ∈ Finset.range 1024, ((((s (1024 * q + u)).toReal * (1 / 2048) : ℝ)) : EReal) := by
    intro q hq
    have hq' := Finset.mem_range.mp hq
    rw [← sum_fin 1024 (fun u => s (1024 * q + u)), ← sum_fin 1024 (fun u => ((((s (1024 * q + u)).toReal * (1 / 2048) : ℝ)) : EReal)),
      Finset.sum_congr rfl fun (u : Fin 1024) _ => hc (1024 * q + u.val) (by have := u.isLt; omega), hinv_eq,
      sum_coe (fun u : Fin 1024 => (s (1024 * q + u.val)).toReal) Finset.univ, ← EReal.coe_mul, Finset.sum_mul,
      ← sum_coe (fun u : Fin 1024 => (s (1024 * q + u.val)).toReal * (1 / 2048)) Finset.univ]
  rw [Finset.sum_congr rfl hl, range_tiles 1024 (fun n => ((((s n).toReal * (1 / 2048) : ℝ)) : EReal)) 8,
    ← sum_fin (8 * 1024) (fun n => ((((s n).toReal * (1 / 2048) : ℝ)) : EReal))]
  show (∑ r : Fin 8192, ((((s r.val).toReal * (1 / 2048) : ℝ)) : EReal)) = _
  have hr : ∀ r : Fin 8192, Ideal.div (s r.val) len = ((((s r.val).toReal * (1 / 1024) : ℝ)) : EReal) := by
    intro r
    rw [div_len, EReal.coe_mul, ← hc r.val r.isLt]
  rw [Finset.sum_congr rfl fun r _ => hr r, half_eq, sum_coe (fun r : Fin 8192 => (s r.val).toReal * (1 / 1024)) Finset.univ,
    sum_coe (fun r : Fin 8192 => (s r.val).toReal * (1 / 2048)) Finset.univ, ← EReal.coe_mul, Finset.mul_sum]
  exact congrArg _ (Finset.sum_congr rfl fun r _ => by ring)

/-- The loss, in every entry of its block. -/
theorem lequal (hpre : letI := pre_facts; Cert.Pre_Kernel16Ideal_finite_target m) : ((dats m 0 c).arrAt 9 cfg0.N : FVec Ideal S8x128 .f32)
    = Cert.Reference16Ideal.Read.val_main_v83 (F := Ideal) (x0 m c) (y0 m c) (z0 m c) (g0 m c) (h0 m c) (t0 m c) := by
  funext i
  obtain ⟨p, k, rfl⟩ : ∃ p k, i = ix2 p k := ⟨i 0, i 1, eq_ix2 i⟩
  refine (loss_arr m c p k).trans ((halves (FfnLossRun.sq m c) ?_).trans (Eq.symm ((FfnLossRef.loss_at _ _ _ _ _ _ p k).trans ?_)))
  · exact fun r => fin_sum _ _ fun j => fin_mul (er_fin m c hpre r j) (er_fin m c hpre r j)
  · refine congrArg (FfnLossRef.half * ·) (Finset.sum_congr rfl fun r _ => congrArg (Ideal.div · len) ?_)
    unfold FfnLossRun.sq
    exact Finset.sum_congr rfl fun j _ => congrArg₂ (· * ·) (er_eq m c r j) (er_eq m c r j)

end Cert.Proof.Prod.FfnLoss
-- ==== Proof.Prod.Adam.lean ====
module

public import proofs.«01_k».proof.Proof.Prod.Tile

/-! One step of AdamW at an element, over the extended reals: the new moments and the change of the weight, from the
gradient summed over the devices. -/

@[expose] public section

noncomputable section

open Idealize.ShloMosaic

namespace Cert.Proof.Prod.Adam

/-- The constants of the step, at the precision the programs hold them in. -/
abbrev lit (b : BitVec 32) : EReal := (FloatOps.ofBits (F := Ideal) .f32 b : Ideal .f32)

/-- The new first moment. -/
def mnew (g m : EReal) : EReal := lit 0x3F666666#32 * m + lit 0x3DCCCCCD#32 * g

/-- The new second moment. -/
def vnew (g v : EReal) : EReal := lit 0x3F7FBE77#32 * v + lit 0x3A83126F#32 * (g * g)

/-- The change of the weight. -/
def step (g w m v : EReal) : EReal :=
  lit 0xBA83126F#32 * (Ideal.div (Ideal.div (mnew g m) (lit 0x3F26BD02#32))
    (Ideal.sqrt (Ideal.div (vnew g v) (lit 0x3C231ACC#32)) + lit 0x322BCC77#32) + lit 0x3C23D70A#32 * w)

/-- An index of three axes, from its coordinates. -/
theorem ixeq3 {n0 n1 n2 : ℕ} (i : Shape.Idx ⟨3, ![n0, n1, n2]⟩) (a : Fin n0) (b : Fin n1) (d : Fin n2)
    (h0 : (i 0).val = a.val) (h1 : (i 1).val = b.val) (h2 : (i 2).val = d.val) : i = ix3 a b d := by
  funext x
  apply Fin.ext
  match x with
  | ⟨0, _⟩ => exact h0
  | ⟨1, _⟩ => exact h1
  | ⟨2, _⟩ => exact h2

end Cert.Proof.Prod.Adam
-- ==== Proof.Prod.OptIn.lean ====
module

public import proofs.«01_k».proof.Proof.Gen.Kernel17Ideal.Value
public import proofs.«01_k».proof.Proof.Gen.Reference17Ideal.Read
public import proofs.«01_k».proof.Proof.Prod.Adam
public import Idealize.ShloMosaic.Lib.StableHlo.RunRead

/-! The optimiser on the upper layer's weights of the input projection. -/

@[expose] public section

noncomputable section

open Idealize.ShloMosaic Idealize.ShloMosaic.TcCoe Idealize.SL.Sem
open Cert.Kernel17Ideal Cert.Kernel17Ideal.Gen Cert.Reference17Ideal.Read Cert.Kernel17Ideal.Value Cert.Proof.Prod.Adam

namespace Cert.Proof.Prod.OptIn

theorem zero3 : (![0, 0, 0] : Fin 3 → Nat) = fun _ => 0 := funext fun a => by fin_cases a <;> rfl

section Pay

variable (g : FVec Ideal S256x192 .f32) (w m v : Vec Ideal S1x256x192 .f32) (p : Fin 1) (r : Fin 256) (k : Fin 192)

/-- The sum over the devices of a block's parts. -/
theorem gpay (v0 v3 v7 v11 v15 v19 v23 v27 : Vec Ideal S1x256x192 .bf16) :
    (k0_pay2 (F := Ideal) v0 v3 v7 v11 v15 v19 v23 v27 (ix2 r k) : EReal)
      = v0 (ix3 0 r k) + v3 (ix3 0 r k) + v7 (ix3 0 r k) + v11 (ix3 0 r k) + v15 (ix3 0 r k) + v19 (ix3 0 r k) + v23 (ix3 0 r k) + v27 (ix3 0 r k) := by
  unfold k0_pay2
  pointwise

theorem gout : (k0_pay3 (F := Ideal) g (ix3 p r k) : EReal) = g (ix2 r k) := by
  unfold k0_pay3
  pointwise

theorem mpay :
    (k0_pay4 (F := Ideal) g m (ix2 r k) : EReal) = mnew (g (ix2 r k)) (m (ix3 0 r k)) := by
  unfold k0_pay4 mnew
  pointwise

theorem vpay :
    (k0_pay5 (F := Ideal) g v (ix2 r k) : EReal) = vnew (g (ix2 r k)) (v (ix3 0 r k)) := by
  unfold k0_pay5 vnew
  pointwise

theorem mout :
    (k0_pay6 (F := Ideal) g m (ix3 p r k) : EReal) = mnew (g (ix2 r k)) (m (ix3 0 r k)) := by
  unfold k0_pay6
  rw [← mpay]
  generalize k0_pay4 (F := Ideal) g m = a
  pointwise

theorem vout :
    (k0_pay7 (F := Ideal) g v (ix3 p r k) : EReal) = vnew (g (ix2 r k)) (v (ix3 0 r k)) := by
  unfold k0_pay7
  rw [← vpay]
  generalize k0_pay5 (F := Ideal) g v = a
  pointwise

theorem dout :
    (k0_pay1 (F := Ideal) (k0_pay8 (F := Ideal) g m v) (k0_pay9 (F := Ideal) w) (k0_pay10 (F := Ideal)) (ix3 p r k) : EReal)
      = step (g (ix2 r k)) (w (ix3 0 r k)) (m (ix3 0 r k)) (v (ix3 0 r k)) := by
  unfold step
  rw [← mpay, ← vpay]
  unfold k0_pay1 k0_pay8 k0_pay9 k0_pay10
  generalize k0_pay4 (F := Ideal) g m = a
  generalize k0_pay5 (F := Ideal) g v = b
  pointwise

end Pay

/-- The load of one device's part. -/
theorem part (x : Vec Ideal S8x256x192 .bf16) (d : ℕ) (hd : d < 8) (inb) (r : Fin 256) (k : Fin 192) :
    (View.ld x (Rect.unit (s := S8x256x192) ![d, 0, 0] S1x256x192.size inb) (ix3 0 r k) : EReal) = x (ix3 (⟨d, hd⟩ : Fin 8) r k) :=
  congrArg x (funext fun a => Fin.ext (by
    match a with
    | ⟨0, _⟩ => rfl
    | ⟨1, _⟩ => show 0 + 1 * r.val = r.val; omega
    | ⟨2, _⟩ => show 0 + 1 * k.val = k.val; omega))

/-- The sum of a block's eight parts. -/
def gsum (x : Vec Ideal S8x256x192 .bf16) : FVec Ideal S256x192 .f32 :=
  k0_pay2 (F := Ideal)
    (View.ld x (Rect.unit (s := S8x256x192) ![0, 0, 0] S1x256x192.size inb_S8x256x192_S1x256x192_0_0_0))
    (View.ld x (Rect.unit (s := S8x256x192) ![1, 0, 0] S1x256x192.size inb_S8x256x192_S1x256x192_1_0_0))
    (View.ld x (Rect.unit (s := S8x256x192) ![2, 0, 0] S1x256x192.size inb_S8x256x192_S1x256x192_2_0_0))
    (View.ld x (Rect.unit (s := S8x256x192) ![3, 0, 0] S1x256x192.size inb_S8x256x192_S1x256x192_3_0_0))
    (View.ld x (Rect.unit (s := S8x256x192) ![4, 0, 0] S1x256x192.size inb_S8x256x192_S1x256x192_4_0_0))
    (View.ld x (Rect.unit (s := S8x256x192) ![5, 0, 0] S1x256x192.size inb_S8x256x192_S1x256x192_5_0_0))
    (View.ld x (Rect.unit (s := S8x256x192) ![6, 0, 0] S1x256x192.size inb_S8x256x192_S1x256x192_6_0_0))
    (View.ld x (Rect.unit (s := S8x256x192) ![7, 0, 0] S1x256x192.size inb_S8x256x192_S1x256x192_7_0_0))

theorem gsum_at (x : Vec Ideal S8x256x192 .bf16) (r : Fin 256) (k : Fin 192) : (gsum x (ix2 r k) : EReal) = ∑ d : Fin 8, (x (ix3 d r k) : EReal) := by
  unfold gsum
  rw [gpay, part x 0 (by omega), part x 1 (by omega), part x 2 (by omega), part x 3 (by omega), part x 4 (by omega), part x 5 (by omega),
    part x 6 (by omega), part x 7 (by omega), Fin.sum_univ_eight]
  rfl

section Cases

variable (c : Dev nD) (i : grid0.Coords)
  (a1 : Memref sig .tc .vmem S8x256x192 .bf16) (h1 : a1.IsWhole)
  (a2 : Memref sig .tc .vmem S1x256x192 .f32) (h2 : a2.IsWhole)
  (a3 : Memref sig .tc .vmem S1x256x192 .f32) (h3 : a3.IsWhole)
  (a4 : Memref sig .tc .vmem S1x256x192 .f32) (h4 : a4.IsWhole)
  (a9 : Memref sig .tc .vmem S1x256x192 .f32) (h9 : a9.IsWhole)
  (a10 : Memref sig .tc .vmem S1x256x192 .f32) (h10 : a10.IsWhole)
  (a11 : Memref sig .tc .vmem S1x256x192 .f32) (h11 : a11.IsWhole)
  (a12 : Memref sig .tc .vmem S1x256x192 .f32) (h12 : a12.IsWhole)
  (x : Vec Ideal S8x256x192 .bf16) (w m v : Vec Ideal S1x256x192 .f32)

theorem tile4 : out0_A_4 c i a1 h1 a2 h2 a3 h3 a4 h4 a9 h9 a10 h10 a11 h11 a12 h12 x w m v = k0_pay3 (F := Ideal) (gsum x) := by
  unfold out0_A_4 gsum
  rw [View.read_writes_eq_canon _ _ _ (cover0_A_4 c i a1 h1 a2 h2 a3 h3 a4 h4 a9 h9 a10 h10 a11 h11 a12 h12 x w m v)]
  unfold kernelRun0_A
  dsimp only
  sl_unfold_words
  rw [View.canon_unit_zero (S := S1x256x192) zero3]
  try simp only [View.readAt_eq_ld, h1.read_unread, h2.read_unread, h3.read_unread, h4.read_unread, View.ld_unit_zero (S := S1x256x192) zero3]

theorem tile5 : out0_A_5 c i a1 h1 a2 h2 a3 h3 a4 h4 a9 h9 a10 h10 a11 h11 a12 h12 x w m v = k0_pay1 (F := Ideal) (k0_pay8 (F := Ideal) (gsum x) m v) (k0_pay9 (F := Ideal) w) (k0_pay10 (F := Ideal)) := by
  unfold out0_A_5 gsum
  rw [View.read_writes_eq_canon _ _ _ (cover0_A_5 c i a1 h1 a2 h2 a3 h3 a4 h4 a9 h9 a10 h10 a11 h11 a12 h12 x w m v)]
  unfold kernelRun0_A
  dsimp only
  sl_unfold_words
  rw [View.canon_unit_zero (S := S1x256x192) zero3]
  try simp only [View.readAt_eq_ld, h1.read_unread, h2.read_unread, h3.read_unread, h4.read_unread, View.ld_unit_zero (S := S1x256x192) zero3]

theorem tile6 : out0_A_6 c i a1 h1 a2 h2 a3 h3 a4 h4 a9 h9 a10 h10 a11 h11 a12 h12 x w m v = k0_pay6 (F := Ideal) (gsum x) m := by
  unfold out0_A_6 gsum
  rw [View.read_writes_eq_canon _ _ _ (cover0_A_6 c i a1 h1 a2 h2 a3 h3 a4 h4 a9 h9 a10 h10 a11 h11 a12 h12 x w m v)]
  unfold kernelRun0_A
  dsimp only
  sl_unfold_words
  rw [View.canon_unit_zero (S := S1x256x192) zero3]
  try simp only [View.readAt_eq_ld, h1.read_unread, h2.read_unread, h3.read_unread, h4.read_unread, View.ld_unit_zero (S := S1x256x192) zero3]

theorem tile7 : out0_A_7 c i a1 h1 a2 h2 a3 h3 a4 h4 a9 h9 a10 h10 a11 h11 a12 h12 x w m v = k0_pay7 (F := Ideal) (gsum x) v := by
  unfold out0_A_7 gsum
  rw [View.read_writes_eq_canon _ _ _ (cover0_A_7 c i a1 h1 a2 h2 a3 h3 a4 h4 a9 h9 a10 h10 a11 h11 a12 h12 x w m v)]
  unfold kernelRun0_A
  dsimp only
  sl_unfold_words
  rw [View.canon_unit_zero (S := S1x256x192) zero3]
  try simp only [View.readAt_eq_ld, h1.read_unread, h2.read_unread, h3.read_unread, h4.read_unread, View.ld_unit_zero (S := S1x256x192) zero3]

end Cases

variable (m : (ℓ : Loc nD τ sig) → Buf (Elt Ideal) ℓ) (c : Dev nD)

/-- The arrays as launched. -/
abbrev x0 : FVec Ideal S8x1024x192 .f32 := m ((c : Thread nD τ).loc main_arg0)
abbrev w0 : FVec Ideal S2x1024x192 .f32 := m ((c : Thread nD τ).loc main_arg1)
abbrev m0 : FVec Ideal S2x1024x192 .f32 := m ((c : Thread nD τ).loc main_arg2)
abbrev v0 : FVec Ideal S2x1024x192 .f32 := m ((c : Thread nD τ).loc main_arg3)
abbrev ga : FVec Ideal S2x1024x192 .f32 := m ((c : Thread nD τ).loc main_arg4)
abbrev da : FVec Ideal S2x1024x192 .f32 := m ((c : Thread nD τ).loc main_arg5)
abbrev ma : FVec Ideal S2x1024x192 .f32 := m ((c : Thread nD τ).loc main_arg6)
abbrev va : FVec Ideal S2x1024x192 .f32 := m ((c : Thread nD τ).loc main_arg7)

theorem V_v0 : (V m c main_v0 : FVec Ideal S8x1024x192 .bf16) = truncf .bf16 (x0 m c) bitsLt_bf16_f32 := by
  after_reads_simp

/-- A row of the array is a row of one block. -/
theorem cell (R : Fin 1024) : ∃ (t : Fin cfg0.N) (r : Fin 256), 256 * t.val + r.val = R.val := by
  have hRl := R.isLt
  have hN : cfg0.N = 4 := N_0
  refine ⟨⟨R.val / 256, by rw [hN]; omega⟩, ⟨R.val % 256, Nat.mod_lt _ (by decide)⟩, ?_⟩
  dsimp only
  omega

section Blk

variable (t : Fin cfg0.N) (r : Fin 256) (R : Fin 1024) (hR : 256 * t.val + r.val = R.val) (k : Fin 192)
include hR

theorem blk0 (d : Fin 8) :
    ((iblk m c 0 t : FVec Ideal S8x256x192 .bf16) (ix3 d r k) : EReal) = x0 m c (ix3 d R k) := by
  have hi : win0_0.index t 0 = 0 ∧ win0_0.index t 1 = t.val ∧ win0_0.index t 2 = 0 := by clear hR; revert t; decide +kernel
  unfold iblk
  rw [View.read_apply]
  show V m c main_v0 _ = x0 m c _
  rw [V_v0]
  show x0 m c _ = x0 m c _
  refine congrArg _ (ixeq3 _ _ _ _ ?_ ?_ ?_)
  · show win0_0.index t 0 * 8 + 1 * d.val = d.val; rw [hi.1]; omega
  · show win0_0.index t 1 * 256 + 1 * r.val = R.val; rw [hi.2.1]; omega
  · show win0_0.index t 2 * 192 + 1 * k.val = k.val; rw [hi.2.2]; omega

theorem blk1 :
    ((iblk m c 1 t : FVec Ideal S1x256x192 .f32) (ix3 0 r k) : EReal) = w0 m c (ix3 1 R k) := by
  have hi : win0_1.index t 0 = 1 ∧ win0_1.index t 1 = t.val ∧ win0_1.index t 2 = 0 := by clear hR; revert t; decide +kernel
  unfold iblk
  rw [View.read_apply]
  show V m c main_arg1 _ = w0 m c _
  rw [V_main_arg1]
  refine congrArg _ (ixeq3 _ _ _ _ ?_ ?_ ?_)
  · show win0_1.index t 0 * 1 + 1 * 0 = 1; rw [hi.1]
  · show win0_1.index t 1 * 256 + 1 * r.val = R.val; rw [hi.2.1]; omega
  · show win0_1.index t 2 * 192 + 1 * k.val = k.val; rw [hi.2.2]; omega

theorem blk2 :
    ((iblk m c 2 t : FVec Ideal S1x256x192 .f32) (ix3 0 r k) : EReal) = m0 m c (ix3 1 R k) := by
  have hi : win0_2.index t 0 = 1 ∧ win0_2.index t 1 = t.val ∧ win0_2.index t 2 = 0 := by clear hR; revert t; decide +kernel
  unfold iblk
  rw [View.read_apply]
  show V m c main_arg2 _ = m0 m c _
  rw [V_main_arg2]
  refine congrArg _ (ixeq3 _ _ _ _ ?_ ?_ ?_)
  · show win0_2.index t 0 * 1 + 1 * 0 = 1; rw [hi.1]
  · show win0_2.index t 1 * 256 + 1 * r.val = R.val; rw [hi.2.1]; omega
  · show win0_2.index t 2 * 192 + 1 * k.val = k.val; rw [hi.2.2]; omega

theorem blk3 :
    ((iblk m c 3 t : FVec Ideal S1x256x192 .f32) (ix3 0 r k) : EReal) = v0 m c (ix3 1 R k) := by
  have hi : win0_3.index t 0 = 1 ∧ win0_3.index t 1 = t.val ∧ win0_3.index t 2 = 0 := by clear hR; revert t; decide +kernel
  unfold iblk
  rw [View.read_apply]
  show V m c main_arg3 _ = v0 m c _
  rw [V_main_arg3]
  refine congrArg _ (ixeq3 _ _ _ _ ?_ ?_ ?_)
  · show win0_3.index t 0 * 1 + 1 * 0 = 1; rw [hi.1]
  · show win0_3.index t 1 * 256 + 1 * r.val = R.val; rw [hi.2.1]; omega
  · show win0_3.index t 2 * 192 + 1 * k.val = k.val; rw [hi.2.2]; omega

end Blk

/-- The gradient summed over the devices. -/
def gr (x : FVec Ideal S8x1024x192 .f32) (R : Fin 1024) (k : Fin 192) : EReal := ∑ d : Fin 8, (x (ix3 d R k) : EReal)

theorem gblk (t : Fin cfg0.N) (r : Fin 256) (R : Fin 1024) (hR : 256 * t.val + r.val = R.val) (k : Fin 192) :
    (gsum (iblk m c 0 t) (ix2 r k) : EReal) = gr (x0 m c) R k := by
  rw [gsum_at]
  exact Finset.sum_congr rfl fun d _ => blk0 m c t r R hR k d

theorem V_v1_0 : (V m c main_v1_0 : FVec Ideal S2x1024x192 .f32) = ga m c := by
  after_reads_simp
  try rfl

/-- The upper half of result 0: what the call writes. -/
theorem hi4 (R : Fin 1024) (k : Fin 192) : ((dats m 0 c).arrAt 4 cfg0.N (ix3 1 R k) : EReal) = gr (x0 m c) R k := by
  obtain ⟨t, r, hR⟩ := cell R
  have hi : ∀ t : Fin cfg0.N, win0_4.index t 0 = 1 ∧ win0_4.index t 1 = t.val ∧ win0_4.index t 2 = 0 := by decide +kernel
  have e := congrFun (blocks4 m c t (flush0_4 t)) (ix3 (0 : Fin 1) r k)
  rw [View.read_apply, flushed4_A, tile4] at e
  have eo := gout (gsum (iblk m c 0 t)) (0 : Fin 1) r k
  rw [gblk m c t r R hR k] at eo
  refine Eq.trans ?_ (e.trans eo)
  refine congrArg ((dats m 0 c).arrAt 4 cfg0.N) (ixeq3 _ _ _ _ ?_ ?_ ?_).symm
  · show win0_4.index t 0 * 1 + 1 * 0 = 1; rw [(hi t).1]
  · show win0_4.index t 1 * 256 + 1 * r.val = R.val; rw [(hi t).2.1]; omega
  · show win0_4.index t 2 * 192 + 1 * k.val = k.val; rw [(hi t).2.2]; omega

/-- The lower half of result 0: what the array held before. -/
theorem lo4 (R : Fin 1024) (k : Fin 192) : ((dats m 0 c).arrAt 4 cfg0.N (ix3 0 R k) : EReal) = ga m c (ix3 0 R k) := by
  rw [entry4 m c (ix3 0 R k) ?_]
  · show (V m c main_v1_0 : FVec Ideal S2x1024x192 .f32) _ = _
    rw [V_v1_0]
  · intro t _ hm
    have hi : win0_4.index t 0 = 1 := by clear hm; revert t; decide +kernel
    have hm' : (ix3 0 R k : main_v1_0.ty.Idx) ∈ ((View.whole main_v1_0).slice (win0_4.rect t)).set := hm
    rw [View.set_slice_whole, Rect.mem_set_unit] at hm'
    have h0 := (hm' 0).1
    have h1 : win0_4.index t 0 * 1 ≤ 0 := h0
    rw [hi] at h1
    omega

theorem V_v1_1 : (V m c main_v1_1 : FVec Ideal S2x1024x192 .f32) = da m c := by
  after_reads_simp
  try rfl

/-- The upper half of result 1: what the call writes. -/
theorem hi5 (R : Fin 1024) (k : Fin 192) : ((dats m 0 c).arrAt 5 cfg0.N (ix3 1 R k) : EReal) = step (gr (x0 m c) R k) (w0 m c (ix3 1 R k)) (m0 m c (ix3 1 R k)) (v0 m c (ix3 1 R k)) := by
  obtain ⟨t, r, hR⟩ := cell R
  have hi : ∀ t : Fin cfg0.N, win0_5.index t 0 = 1 ∧ win0_5.index t 1 = t.val ∧ win0_5.index t 2 = 0 := by decide +kernel
  have e := congrFun (blocks5 m c t (flush0_5 t)) (ix3 (0 : Fin 1) r k)
  rw [View.read_apply, flushed5_A, tile5] at e
  have eo := dout (gsum (iblk m c 0 t)) (iblk m c 1 t) (iblk m c 2 t) (iblk m c 3 t) (0 : Fin 1) r k
  rw [gblk m c t r R hR k, blk1 m c t r R hR k, blk2 m c t r R hR k, blk3 m c t r R hR k] at eo
  refine Eq.trans ?_ (e.trans eo)
  refine congrArg ((dats m 0 c).arrAt 5 cfg0.N) (ixeq3 _ _ _ _ ?_ ?_ ?_).symm
  · show win0_5.index t 0 * 1 + 1 * 0 = 1; rw [(hi t).1]
  · show win0_5.index t 1 * 256 + 1 * r.val = R.val; rw [(hi t).2.1]; omega
  · show win0_5.index t 2 * 192 + 1 * k.val = k.val; rw [(hi t).2.2]; omega

/-- The lower half of result 1: what the array held before. -/
theorem lo5 (R : Fin 1024) (k : Fin 192) : ((dats m 0 c).arrAt 5 cfg0.N (ix3 0 R k) : EReal) = da m c (ix3 0 R k) := by
  rw [entry5 m c (ix3 0 R k) ?_]
  · show (V m c main_v1_1 : FVec Ideal S2x1024x192 .f32) _ = _
    rw [V_v1_1]
  · intro t _ hm
    have hi : win0_5.index t 0 = 1 := by clear hm; revert t; decide +kernel
    have hm' : (ix3 0 R k : main_v1_1.ty.Idx) ∈ ((View.whole main_v1_1).slice (win0_5.rect t)).set := hm
    rw [View.set_slice_whole, Rect.mem_set_unit] at hm'
    have h0 := (hm' 0).1
    have h1 : win0_5.index t 0 * 1 ≤ 0 := h0
    rw [hi] at h1
    omega

theorem V_v1_2 : (V m c main_v1_2 : FVec Ideal S2x1024x192 .f32) = ma m c := by
  after_reads_simp
  try rfl

/-- The upper half of result 2: what the call writes. -/
theorem hi6 (R : Fin 1024) (k : Fin 192) : ((dats m 0 c).arrAt 6 cfg0.N (ix3 1 R k) : EReal) = mnew (gr (x0 m c) R k) (m0 m c (ix3 1 R k)) := by
  obtain ⟨t, r, hR⟩ := cell R
  have hi : ∀ t : Fin cfg0.N, win0_6.index t 0 = 1 ∧ win0_6.index t 1 = t.val ∧ win0_6.index t 2 = 0 := by decide +kernel
  have e := congrFun (blocks6 m c t (flush0_6 t)) (ix3 (0 : Fin 1) r k)
  rw [View.read_apply, flushed6_A, tile6] at e
  have eo := mout (gsum (iblk m c 0 t)) (iblk m c 2 t) (0 : Fin 1) r k
  rw [gblk m c t r R hR k, blk2 m c t r R hR k] at eo
  refine Eq.trans ?_ (e.trans eo)
  refine congrArg ((dats m 0 c).arrAt 6 cfg0.N) (ixeq3 _ _ _ _ ?_ ?_ ?_).symm
  · show win0_6.index t 0 * 1 + 1 * 0 = 1; rw [(hi t).1]
  · show win0_6.index t 1 * 256 + 1 * r.val = R.val; rw [(hi t).2.1]; omega
  · show win0_6.index t 2 * 192 + 1 * k.val = k.val; rw [(hi t).2.2]; omega

/-- The lower half of result 2: what the array held before. -/
theorem lo6 (R : Fin 1024) (k : Fin 192) : ((dats m 0 c).arrAt 6 cfg0.N (ix3 0 R k) : EReal) = ma m c (ix3 0 R k) := by
  rw [entry6 m c (ix3 0 R k) ?_]
  · show (V m c main_v1_2 : FVec Ideal S2x1024x192 .f32) _ = _
    rw [V_v1_2]
  · intro t _ hm
    have hi : win0_6.index t 0 = 1 := by clear hm; revert t; decide +kernel
    have hm' : (ix3 0 R k : main_v1_2.ty.Idx) ∈ ((View.whole main_v1_2).slice (win0_6.rect t)).set := hm
    rw [View.set_slice_whole, Rect.mem_set_unit] at hm'
    have h0 := (hm' 0).1
    have h1 : win0_6.index t 0 * 1 ≤ 0 := h0
    rw [hi] at h1
    omega

theorem V_v1_3 : (V m c main_v1_3 : FVec Ideal S2x1024x192 .f32) = va m c := by
  after_reads_simp
  try rfl

/-- The upper half of result 3: what the call writes. -/
theorem hi7 (R : Fin 1024) (k : Fin 192) : ((dats m 0 c).arrAt 7 cfg0.N (ix3 1 R k) : EReal) = vnew (gr (x0 m c) R k) (v0 m c (ix3 1 R k)) := by
  obtain ⟨t, r, hR⟩ := cell R
  have hi : ∀ t : Fin cfg0.N, win0_7.index t 0 = 1 ∧ win0_7.index t 1 = t.val ∧ win0_7.index t 2 = 0 := by decide +kernel
  have e := congrFun (blocks7 m c t (flush0_7 t)) (ix3 (0 : Fin 1) r k)
  rw [View.read_apply, flushed7_A, tile7] at e
  have eo := vout (gsum (iblk m c 0 t)) (iblk m c 3 t) (0 : Fin 1) r k
  rw [gblk m c t r R hR k, blk3 m c t r R hR k] at eo
  refine Eq.trans ?_ (e.trans eo)
  refine congrArg ((dats m 0 c).arrAt 7 cfg0.N) (ixeq3 _ _ _ _ ?_ ?_ ?_).symm
  · show win0_7.index t 0 * 1 + 1 * 0 = 1; rw [(hi t).1]
  · show win0_7.index t 1 * 256 + 1 * r.val = R.val; rw [(hi t).2.1]; omega
  · show win0_7.index t 2 * 192 + 1 * k.val = k.val; rw [(hi t).2.2]; omega

/-- The lower half of result 3: what the array held before. -/
theorem lo7 (R : Fin 1024) (k : Fin 192) : ((dats m 0 c).arrAt 7 cfg0.N (ix3 0 R k) : EReal) = va m c (ix3 0 R k) := by
  rw [entry7 m c (ix3 0 R k) ?_]
  · show (V m c main_v1_3 : FVec Ideal S2x1024x192 .f32) _ = _
    rw [V_v1_3]
  · intro t _ hm
    have hi : win0_7.index t 0 = 1 := by clear hm; revert t; decide +kernel
    have hm' : (ix3 0 R k : main_v1_3.ty.Idx) ∈ ((View.whole main_v1_3).slice (win0_7.rect t)).set := hm
    rw [View.set_slice_whole, Rect.mem_set_unit] at hm'
    have h0 := (hm' 0).1
    have h1 : win0_7.index t 0 * 1 ≤ 0 := h0
    rw [hi] at h1
    omega

section Ref

variable (x : FVec Ideal S8x1024x192 .f32) (w y z u : FVec Ideal S2x1024x192 .f32) (R : Fin 1024) (k : Fin 192)

theorem rg : (val_main_v0 (F := Ideal) x (ix2 R k) : EReal) = gr x R k := by
  unfold val_main_v0 val_main_cst gr
  pointwise
  try simp [Ideal.ofBits, Ideal.ieee]

theorem pw : (val_main_v2 (F := Ideal) w (ix2 R k) : EReal) = w (ix3 1 R k) := by
  unfold val_main_v2 val_main_v1
  pointwise

theorem pm : (val_main_v4 (F := Ideal) y (ix2 R k) : EReal) = y (ix3 1 R k) := by
  unfold val_main_v4 val_main_v3
  pointwise

theorem pv : (val_main_v6 (F := Ideal) z (ix2 R k) : EReal) = z (ix3 1 R k) := by
  unfold val_main_v6 val_main_v5
  pointwise

theorem rm : (val_main_v11 (F := Ideal) x y (ix2 R k) : EReal) = mnew (gr x R k) (y (ix3 1 R k)) := by
  rw [← rg x R k, ← pm y R k]
  unfold val_main_v11 val_main_v10 val_main_v9 val_main_v8 val_main_v7 val_main_cst_0 val_main_cst_1 mnew
  generalize val_main_v0 (F := Ideal) x = g
  generalize val_main_v4 (F := Ideal) y = a
  pointwise

theorem rv : (val_main_v17 (F := Ideal) x z (ix2 R k) : EReal) = vnew (gr x R k) (z (ix3 1 R k)) := by
  rw [← rg x R k, ← pv z R k]
  unfold val_main_v17 val_main_v16 val_main_v15 val_main_v14 val_main_v13 val_main_v12 val_main_cst_2 val_main_cst_3 vnew
  generalize val_main_v0 (F := Ideal) x = g
  generalize val_main_v6 (F := Ideal) z = a
  pointwise

theorem rd : (val_main_v30 (F := Ideal) x w y z (ix2 R k) : EReal)
    = step (gr x R k) (w (ix3 1 R k)) (y (ix3 1 R k)) (z (ix3 1 R k)) := by
  unfold step
  rw [← rm, ← rv, ← pw w R k]
  unfold val_main_v30 val_main_v29 val_main_v28 val_main_v27 val_main_v26 val_main_v25 val_main_v24 val_main_v23 val_main_v22 val_main_v21 val_main_v20 val_main_v19 val_main_v18 val_main_cst_4 val_main_cst_5 val_main_cst_6 val_main_cst_7 val_main_cst_8
  generalize val_main_v11 (F := Ideal) x y = a
  generalize val_main_v17 (F := Ideal) x z = b
  generalize val_main_v2 (F := Ideal) w = e
  pointwise

/-- Two halves put together. -/
theorem halves (p q : FVec Ideal Cert.Reference17Ideal.S1x1024x192 .f32) (l : Fin 2) (hc) :
    (concatenate S2x1024x192 0 [⟨Cert.Reference17Ideal.S1x1024x192, p⟩, ⟨Cert.Reference17Ideal.S1x1024x192, q⟩] hc (ix3 l R k) : EReal)
      = if l = 0 then p (ix3 0 R k) else q (ix3 0 R k) := by
  fin_cases l <;> pointwise

theorem rlo4 : (val_main_v35 (F := Ideal) x u (ix3 0 R k) : EReal) = u (ix3 0 R k) := by
  unfold val_main_v35
  rw [halves, if_pos rfl]
  unfold val_main_v33 val_main_v32 val_main_v31
  pointwise

theorem rhi4 : (val_main_v35 (F := Ideal) x u (ix3 1 R k) : EReal) = gr x R k := by
  unfold val_main_v35
  rw [halves, if_neg (by decide), ← rg]
  unfold val_main_v34
  generalize val_main_v0 (F := Ideal) x = a
  pointwise

theorem rlo5 : (val_main_v40 (F := Ideal) x w y z u (ix3 0 R k) : EReal) = u (ix3 0 R k) := by
  unfold val_main_v40
  rw [halves, if_pos rfl]
  unfold val_main_v38 val_main_v37 val_main_v36
  pointwise

theorem rhi5 : (val_main_v40 (F := Ideal) x w y z u (ix3 1 R k) : EReal) = step (gr x R k) (w (ix3 1 R k)) (y (ix3 1 R k)) (z (ix3 1 R k)) := by
  unfold val_main_v40
  rw [halves, if_neg (by decide), ← rd]
  unfold val_main_v39
  generalize val_main_v30 (F := Ideal) x w y z = a
  pointwise

theorem rlo6 : (val_main_v45 (F := Ideal) x y u (ix3 0 R k) : EReal) = u (ix3 0 R k) := by
  unfold val_main_v45
  rw [halves, if_pos rfl]
  unfold val_main_v43 val_main_v42 val_main_v41
  pointwise

theorem rhi6 : (val_main_v45 (F := Ideal) x y u (ix3 1 R k) : EReal) = mnew (gr x R k) (y (ix3 1 R k)) := by
  unfold val_main_v45
  rw [halves, if_neg (by decide), ← rm]
  unfold val_main_v44
  generalize val_main_v11 (F := Ideal) x y = a
  pointwise

theorem rlo7 : (val_main_v50 (F := Ideal) x z u (ix3 0 R k) : EReal) = u (ix3 0 R k) := by
  unfold val_main_v50
  rw [halves, if_pos rfl]
  unfold val_main_v48 val_main_v47 val_main_v46
  pointwise

theorem rhi7 : (val_main_v50 (F := Ideal) x z u (ix3 1 R k) : EReal) = vnew (gr x R k) (z (ix3 1 R k)) := by
  unfold val_main_v50
  rw [halves, if_neg (by decide), ← rv]
  unfold val_main_v49
  generalize val_main_v17 (F := Ideal) x z = a
  pointwise

end Ref

theorem gequal : ((dats m 0 c).arrAt 4 cfg0.N : FVec Ideal S2x1024x192 .f32) = val_main_v35 (F := Ideal) (x0 m c) (ga m c) := by
  funext i
  obtain ⟨l, R, k, rfl⟩ : ∃ l R k, i = ix3 l R k := ⟨i 0, i 1, i 2, eq_ix3 i⟩
  match l with
  | ⟨0, _⟩ => exact (lo4 m c R k).trans (rlo4 _ _ R k).symm
  | ⟨1, _⟩ => exact (hi4 m c R k).trans (rhi4 _ _ R k).symm

theorem dequal : ((dats m 0 c).arrAt 5 cfg0.N : FVec Ideal S2x1024x192 .f32) = val_main_v40 (F := Ideal) (x0 m c) (w0 m c) (m0 m c) (v0 m c) (da m c) := by
  funext i
  obtain ⟨l, R, k, rfl⟩ : ∃ l R k, i = ix3 l R k := ⟨i 0, i 1, i 2, eq_ix3 i⟩
  match l with
  | ⟨0, _⟩ => exact (lo5 m c R k).trans (rlo5 _ _ _ _ _ R k).symm
  | ⟨1, _⟩ => exact (hi5 m c R k).trans (rhi5 _ _ _ _ _ R k).symm

theorem mequal : ((dats m 0 c).arrAt 6 cfg0.N : FVec Ideal S2x1024x192 .f32) = val_main_v45 (F := Ideal) (x0 m c) (m0 m c) (ma m c) := by
  funext i
  obtain ⟨l, R, k, rfl⟩ : ∃ l R k, i = ix3 l R k := ⟨i 0, i 1, i 2, eq_ix3 i⟩
  match l with
  | ⟨0, _⟩ => exact (lo6 m c R k).trans (rlo6 _ _ _ R k).symm
  | ⟨1, _⟩ => exact (hi6 m c R k).trans (rhi6 _ _ _ R k).symm

theorem vequal : ((dats m 0 c).arrAt 7 cfg0.N : FVec Ideal S2x1024x192 .f32) = val_main_v50 (F := Ideal) (x0 m c) (v0 m c) (va m c) := by
  funext i
  obtain ⟨l, R, k, rfl⟩ : ∃ l R k, i = ix3 l R k := ⟨i 0, i 1, i 2, eq_ix3 i⟩
  match l with
  | ⟨0, _⟩ => exact (lo7 m c R k).trans (rlo7 _ _ _ R k).symm
  | ⟨1, _⟩ => exact (hi7 m c R k).trans (rhi7 _ _ _ R k).symm

end Cert.Proof.Prod.OptIn
-- ==== Proof.Prod.OptKv.lean ====
module

public import proofs.«01_k».proof.Proof.Gen.Kernel18Ideal.Value
public import proofs.«01_k».proof.Proof.Gen.Reference18Ideal.Read
public import proofs.«01_k».proof.Proof.Prod.Adam
public import Idealize.ShloMosaic.Lib.StableHlo.RunRead

/-! The optimiser on the upper layer's weights of the memory's projection. -/

@[expose] public section

noncomputable section

open Idealize.ShloMosaic Idealize.ShloMosaic.TcCoe Idealize.SL.Sem
open Cert.Kernel18Ideal Cert.Kernel18Ideal.Gen Cert.Reference18Ideal.Read Cert.Kernel18Ideal.Value Cert.Proof.Prod.Adam

namespace Cert.Proof.Prod.OptKv

theorem zero3 : (![0, 0, 0] : Fin 3 → Nat) = fun _ => 0 := funext fun a => by fin_cases a <;> rfl

section Pay

variable (g : FVec Ideal S128x512 .f32) (w m v : Vec Ideal S1x128x512 .f32) (p : Fin 1) (r : Fin 128) (k : Fin 512)

/-- The sum over the devices of a block's parts. -/
theorem gpay (v0 v3 v7 v11 v15 v19 v23 v27 : Vec Ideal S1x128x512 .bf16) :
    (k0_pay2 (F := Ideal) v0 v3 v7 v11 v15 v19 v23 v27 (ix2 r k) : EReal)
      = v0 (ix3 0 r k) + v3 (ix3 0 r k) + v7 (ix3 0 r k) + v11 (ix3 0 r k) + v15 (ix3 0 r k) + v19 (ix3 0 r k) + v23 (ix3 0 r k) + v27 (ix3 0 r k) := by
  unfold k0_pay2
  pointwise

theorem gout : (k0_pay3 (F := Ideal) g (ix3 p r k) : EReal) = g (ix2 r k) := by
  unfold k0_pay3
  pointwise

theorem mpay :
    (k0_pay4 (F := Ideal) g m (ix2 r k) : EReal) = mnew (g (ix2 r k)) (m (ix3 0 r k)) := by
  unfold k0_pay4 mnew
  pointwise

theorem vpay :
    (k0_pay5 (F := Ideal) g v (ix2 r k) : EReal) = vnew (g (ix2 r k)) (v (ix3 0 r k)) := by
  unfold k0_pay5 vnew
  pointwise

theorem mout :
    (k0_pay6 (F := Ideal) g m (ix3 p r k) : EReal) = mnew (g (ix2 r k)) (m (ix3 0 r k)) := by
  unfold k0_pay6
  rw [← mpay]
  generalize k0_pay4 (F := Ideal) g m = a
  pointwise

theorem vout :
    (k0_pay7 (F := Ideal) g v (ix3 p r k) : EReal) = vnew (g (ix2 r k)) (v (ix3 0 r k)) := by
  unfold k0_pay7
  rw [← vpay]
  generalize k0_pay5 (F := Ideal) g v = a
  pointwise

theorem dout :
    (k0_pay1 (F := Ideal) (k0_pay8 (F := Ideal) g m v) (k0_pay9 (F := Ideal) w) (k0_pay10 (F := Ideal)) (ix3 p r k) : EReal)
      = step (g (ix2 r k)) (w (ix3 0 r k)) (m (ix3 0 r k)) (v (ix3 0 r k)) := by
  unfold step
  rw [← mpay, ← vpay]
  unfold k0_pay1 k0_pay8 k0_pay9 k0_pay10
  generalize k0_pay4 (F := Ideal) g m = a
  generalize k0_pay5 (F := Ideal) g v = b
  pointwise

end Pay

/-- The load of one device's part. -/
theorem part (x : Vec Ideal S8x128x512 .bf16) (d : ℕ) (hd : d < 8) (inb) (r : Fin 128) (k : Fin 512) :
    (View.ld x (Rect.unit (s := S8x128x512) ![d, 0, 0] S1x128x512.size inb) (ix3 0 r k) : EReal) = x (ix3 (⟨d, hd⟩ : Fin 8) r k) :=
  congrArg x (funext fun a => Fin.ext (by
    match a with
    | ⟨0, _⟩ => rfl
    | ⟨1, _⟩ => show 0 + 1 * r.val = r.val; omega
    | ⟨2, _⟩ => show 0 + 1 * k.val = k.val; omega))

/-- The sum of a block's eight parts. -/
def gsum (x : Vec Ideal S8x128x512 .bf16) : FVec Ideal S128x512 .f32 :=
  k0_pay2 (F := Ideal)
    (View.ld x (Rect.unit (s := S8x128x512) ![0, 0, 0] S1x128x512.size inb_S8x128x512_S1x128x512_0_0_0))
    (View.ld x (Rect.unit (s := S8x128x512) ![1, 0, 0] S1x128x512.size inb_S8x128x512_S1x128x512_1_0_0))
    (View.ld x (Rect.unit (s := S8x128x512) ![2, 0, 0] S1x128x512.size inb_S8x128x512_S1x128x512_2_0_0))
    (View.ld x (Rect.unit (s := S8x128x512) ![3, 0, 0] S1x128x512.size inb_S8x128x512_S1x128x512_3_0_0))
    (View.ld x (Rect.unit (s := S8x128x512) ![4, 0, 0] S1x128x512.size inb_S8x128x512_S1x128x512_4_0_0))
    (View.ld x (Rect.unit (s := S8x128x512) ![5, 0, 0] S1x128x512.size inb_S8x128x512_S1x128x512_5_0_0))
    (View.ld x (Rect.unit (s := S8x128x512) ![6, 0, 0] S1x128x512.size inb_S8x128x512_S1x128x512_6_0_0))
    (View.ld x (Rect.unit (s := S8x128x512) ![7, 0, 0] S1x128x512.size inb_S8x128x512_S1x128x512_7_0_0))

theorem gsum_at (x : Vec Ideal S8x128x512 .bf16) (r : Fin 128) (k : Fin 512) : (gsum x (ix2 r k) : EReal) = ∑ d : Fin 8, (x (ix3 d r k) : EReal) := by
  unfold gsum
  rw [gpay, part x 0 (by omega), part x 1 (by omega), part x 2 (by omega), part x 3 (by omega), part x 4 (by omega), part x 5 (by omega),
    part x 6 (by omega), part x 7 (by omega), Fin.sum_univ_eight]
  rfl

section Cases

variable (c : Dev nD) (i : grid0.Coords)
  (a1 : Memref sig .tc .vmem S8x128x512 .bf16) (h1 : a1.IsWhole)
  (a2 : Memref sig .tc .vmem S1x128x512 .f32) (h2 : a2.IsWhole)
  (a3 : Memref sig .tc .vmem S1x128x512 .f32) (h3 : a3.IsWhole)
  (a4 : Memref sig .tc .vmem S1x128x512 .f32) (h4 : a4.IsWhole)
  (a9 : Memref sig .tc .vmem S1x128x512 .f32) (h9 : a9.IsWhole)
  (a10 : Memref sig .tc .vmem S1x128x512 .f32) (h10 : a10.IsWhole)
  (a11 : Memref sig .tc .vmem S1x128x512 .f32) (h11 : a11.IsWhole)
  (a12 : Memref sig .tc .vmem S1x128x512 .f32) (h12 : a12.IsWhole)
  (x : Vec Ideal S8x128x512 .bf16) (w m v : Vec Ideal S1x128x512 .f32)

theorem tile4 : out0_A_4 c i a1 h1 a2 h2 a3 h3 a4 h4 a9 h9 a10 h10 a11 h11 a12 h12 x w m v = k0_pay3 (F := Ideal) (gsum x) := by
  unfold out0_A_4 gsum
  rw [View.read_writes_eq_canon _ _ _ (cover0_A_4 c i a1 h1 a2 h2 a3 h3 a4 h4 a9 h9 a10 h10 a11 h11 a12 h12 x w m v)]
  unfold kernelRun0_A
  dsimp only
  sl_unfold_words
  rw [View.canon_unit_zero (S := S1x128x512) zero3]
  try simp only [View.readAt_eq_ld, h1.read_unread, h2.read_unread, h3.read_unread, h4.read_unread, View.ld_unit_zero (S := S1x128x512) zero3]

theorem tile5 : out0_A_5 c i a1 h1 a2 h2 a3 h3 a4 h4 a9 h9 a10 h10 a11 h11 a12 h12 x w m v = k0_pay1 (F := Ideal) (k0_pay8 (F := Ideal) (gsum x) m v) (k0_pay9 (F := Ideal) w) (k0_pay10 (F := Ideal)) := by
  unfold out0_A_5 gsum
  rw [View.read_writes_eq_canon _ _ _ (cover0_A_5 c i a1 h1 a2 h2 a3 h3 a4 h4 a9 h9 a10 h10 a11 h11 a12 h12 x w m v)]
  unfold kernelRun0_A
  dsimp only
  sl_unfold_words
  rw [View.canon_unit_zero (S := S1x128x512) zero3]
  try simp only [View.readAt_eq_ld, h1.read_unread, h2.read_unread, h3.read_unread, h4.read_unread, View.ld_unit_zero (S := S1x128x512) zero3]

theorem tile6 : out0_A_6 c i a1 h1 a2 h2 a3 h3 a4 h4 a9 h9 a10 h10 a11 h11 a12 h12 x w m v = k0_pay6 (F := Ideal) (gsum x) m := by
  unfold out0_A_6 gsum
  rw [View.read_writes_eq_canon _ _ _ (cover0_A_6 c i a1 h1 a2 h2 a3 h3 a4 h4 a9 h9 a10 h10 a11 h11 a12 h12 x w m v)]
  unfold kernelRun0_A
  dsimp only
  sl_unfold_words
  rw [View.canon_unit_zero (S := S1x128x512) zero3]
  try simp only [View.readAt_eq_ld, h1.read_unread, h2.read_unread, h3.read_unread, h4.read_unread, View.ld_unit_zero (S := S1x128x512) zero3]

theorem tile7 : out0_A_7 c i a1 h1 a2 h2 a3 h3 a4 h4 a9 h9 a10 h10 a11 h11 a12 h12 x w m v = k0_pay7 (F := Ideal) (gsum x) v := by
  unfold out0_A_7 gsum
  rw [View.read_writes_eq_canon _ _ _ (cover0_A_7 c i a1 h1 a2 h2 a3 h3 a4 h4 a9 h9 a10 h10 a11 h11 a12 h12 x w m v)]
  unfold kernelRun0_A
  dsimp only
  sl_unfold_words
  rw [View.canon_unit_zero (S := S1x128x512) zero3]
  try simp only [View.readAt_eq_ld, h1.read_unread, h2.read_unread, h3.read_unread, h4.read_unread, View.ld_unit_zero (S := S1x128x512) zero3]

end Cases

variable (m : (ℓ : Loc nD τ sig) → Buf (Elt Ideal) ℓ) (c : Dev nD)

/-- The arrays as launched. -/
abbrev x0 : FVec Ideal S8x128x512 .f32 := m ((c : Thread nD τ).loc main_arg0)
abbrev w0 : FVec Ideal S2x128x512 .f32 := m ((c : Thread nD τ).loc main_arg1)
abbrev m0 : FVec Ideal S2x128x512 .f32 := m ((c : Thread nD τ).loc main_arg2)
abbrev v0 : FVec Ideal S2x128x512 .f32 := m ((c : Thread nD τ).loc main_arg3)
abbrev ga : FVec Ideal S2x128x512 .f32 := m ((c : Thread nD τ).loc main_arg4)
abbrev da : FVec Ideal S2x128x512 .f32 := m ((c : Thread nD τ).loc main_arg5)
abbrev ma : FVec Ideal S2x128x512 .f32 := m ((c : Thread nD τ).loc main_arg6)
abbrev va : FVec Ideal S2x128x512 .f32 := m ((c : Thread nD τ).loc main_arg7)

theorem V_v0 : (V m c main_v0 : FVec Ideal S8x128x512 .bf16) = truncf .bf16 (x0 m c) bitsLt_bf16_f32 := by
  after_reads_simp

/-- A row of the array is a row of one block. -/
theorem cell (R : Fin 128) : ∃ (t : Fin cfg0.N) (r : Fin 128), 128 * t.val + r.val = R.val := by
  have hRl := R.isLt
  have hN : cfg0.N = 1 := N_0
  refine ⟨⟨R.val / 128, by rw [hN]; omega⟩, ⟨R.val % 128, Nat.mod_lt _ (by decide)⟩, ?_⟩
  dsimp only
  omega

section Blk

variable (t : Fin cfg0.N) (r : Fin 128) (R : Fin 128) (hR : 128 * t.val + r.val = R.val) (k : Fin 512)
include hR

theorem blk0 (d : Fin 8) :
    ((iblk m c 0 t : FVec Ideal S8x128x512 .bf16) (ix3 d r k) : EReal) = x0 m c (ix3 d R k) := by
  have hi : win0_0.index t 0 = 0 ∧ win0_0.index t 1 = t.val ∧ win0_0.index t 2 = 0 := by clear hR; revert t; decide +kernel
  unfold iblk
  rw [View.read_apply]
  show V m c main_v0 _ = x0 m c _
  rw [V_v0]
  show x0 m c _ = x0 m c _
  refine congrArg _ (ixeq3 _ _ _ _ ?_ ?_ ?_)
  · show win0_0.index t 0 * 8 + 1 * d.val = d.val; rw [hi.1]; omega
  · show win0_0.index t 1 * 128 + 1 * r.val = R.val; rw [hi.2.1]; omega
  · show win0_0.index t 2 * 512 + 1 * k.val = k.val; rw [hi.2.2]; omega

theorem blk1 :
    ((iblk m c 1 t : FVec Ideal S1x128x512 .f32) (ix3 0 r k) : EReal) = w0 m c (ix3 1 R k) := by
  have hi : win0_1.index t 0 = 1 ∧ win0_1.index t 1 = t.val ∧ win0_1.index t 2 = 0 := by clear hR; revert t; decide +kernel
  unfold iblk
  rw [View.read_apply]
  show V m c main_arg1 _ = w0 m c _
  rw [V_main_arg1]
  refine congrArg _ (ixeq3 _ _ _ _ ?_ ?_ ?_)
  · show win0_1.index t 0 * 1 + 1 * 0 = 1; rw [hi.1]
  · show win0_1.index t 1 * 128 + 1 * r.val = R.val; rw [hi.2.1]; omega
  · show win0_1.index t 2 * 512 + 1 * k.val = k.val; rw [hi.2.2]; omega

theorem blk2 :
    ((iblk m c 2 t : FVec Ideal S1x128x512 .f32) (ix3 0 r k) : EReal) = m0 m c (ix3 1 R k) := by
  have hi : win0_2.index t 0 = 1 ∧ win0_2.index t 1 = t.val ∧ win0_2.index t 2 = 0 := by clear hR; revert t; decide +kernel
  unfold iblk
  rw [View.read_apply]
  show V m c main_arg2 _ = m0 m c _
  rw [V_main_arg2]
  refine congrArg _ (ixeq3 _ _ _ _ ?_ ?_ ?_)
  · show win0_2.index t 0 * 1 + 1 * 0 = 1; rw [hi.1]
  · show win0_2.index t 1 * 128 + 1 * r.val = R.val; rw [hi.2.1]; omega
  · show win0_2.index t 2 * 512 + 1 * k.val = k.val; rw [hi.2.2]; omega

theorem blk3 :
    ((iblk m c 3 t : FVec Ideal S1x128x512 .f32) (ix3 0 r k) : EReal) = v0 m c (ix3 1 R k) := by
  have hi : win0_3.index t 0 = 1 ∧ win0_3.index t 1 = t.val ∧ win0_3.index t 2 = 0 := by clear hR; revert t; decide +kernel
  unfold iblk
  rw [View.read_apply]
  show V m c main_arg3 _ = v0 m c _
  rw [V_main_arg3]
  refine congrArg _ (ixeq3 _ _ _ _ ?_ ?_ ?_)
  · show win0_3.index t 0 * 1 + 1 * 0 = 1; rw [hi.1]
  · show win0_3.index t 1 * 128 + 1 * r.val = R.val; rw [hi.2.1]; omega
  · show win0_3.index t 2 * 512 + 1 * k.val = k.val; rw [hi.2.2]; omega

end Blk

/-- The gradient summed over the devices. -/
def gr (x : FVec Ideal S8x128x512 .f32) (R : Fin 128) (k : Fin 512) : EReal := ∑ d : Fin 8, (x (ix3 d R k) : EReal)

theorem gblk (t : Fin cfg0.N) (r : Fin 128) (R : Fin 128) (hR : 128 * t.val + r.val = R.val) (k : Fin 512) :
    (gsum (iblk m c 0 t) (ix2 r k) : EReal) = gr (x0 m c) R k := by
  rw [gsum_at]
  exact Finset.sum_congr rfl fun d _ => blk0 m c t r R hR k d

theorem V_v1_0 : (V m c main_v1_0 : FVec Ideal S2x128x512 .f32) = ga m c := by
  after_reads_simp
  try rfl

/-- The upper half of result 0: what the call writes. -/
theorem hi4 (R : Fin 128) (k : Fin 512) : ((dats m 0 c).arrAt 4 cfg0.N (ix3 1 R k) : EReal) = gr (x0 m c) R k := by
  obtain ⟨t, r, hR⟩ := cell R
  have hi : ∀ t : Fin cfg0.N, win0_4.index t 0 = 1 ∧ win0_4.index t 1 = t.val ∧ win0_4.index t 2 = 0 := by decide +kernel
  have e := congrFun (blocks4 m c t (flush0_4 t)) (ix3 (0 : Fin 1) r k)
  rw [View.read_apply, flushed4_A, tile4] at e
  have eo := gout (gsum (iblk m c 0 t)) (0 : Fin 1) r k
  rw [gblk m c t r R hR k] at eo
  refine Eq.trans ?_ (e.trans eo)
  refine congrArg ((dats m 0 c).arrAt 4 cfg0.N) (ixeq3 _ _ _ _ ?_ ?_ ?_).symm
  · show win0_4.index t 0 * 1 + 1 * 0 = 1; rw [(hi t).1]
  · show win0_4.index t 1 * 128 + 1 * r.val = R.val; rw [(hi t).2.1]; omega
  · show win0_4.index t 2 * 512 + 1 * k.val = k.val; rw [(hi t).2.2]; omega

/-- The lower half of result 0: what the array held before. -/
theorem lo4 (R : Fin 128) (k : Fin 512) : ((dats m 0 c).arrAt 4 cfg0.N (ix3 0 R k) : EReal) = ga m c (ix3 0 R k) := by
  rw [entry4 m c (ix3 0 R k) ?_]
  · show (V m c main_v1_0 : FVec Ideal S2x128x512 .f32) _ = _
    rw [V_v1_0]
  · intro t _ hm
    have hi : win0_4.index t 0 = 1 := by clear hm; revert t; decide +kernel
    have hm' : (ix3 0 R k : main_v1_0.ty.Idx) ∈ ((View.whole main_v1_0).slice (win0_4.rect t)).set := hm
    rw [View.set_slice_whole, Rect.mem_set_unit] at hm'
    have h0 := (hm' 0).1
    have h1 : win0_4.index t 0 * 1 ≤ 0 := h0
    rw [hi] at h1
    omega

theorem V_v1_1 : (V m c main_v1_1 : FVec Ideal S2x128x512 .f32) = da m c := by
  after_reads_simp
  try rfl

/-- The upper half of result 1: what the call writes. -/
theorem hi5 (R : Fin 128) (k : Fin 512) : ((dats m 0 c).arrAt 5 cfg0.N (ix3 1 R k) : EReal) = step (gr (x0 m c) R k) (w0 m c (ix3 1 R k)) (m0 m c (ix3 1 R k)) (v0 m c (ix3 1 R k)) := by
  obtain ⟨t, r, hR⟩ := cell R
  have hi : ∀ t : Fin cfg0.N, win0_5.index t 0 = 1 ∧ win0_5.index t 1 = t.val ∧ win0_5.index t 2 = 0 := by decide +kernel
  have e := congrFun (blocks5 m c t (flush0_5 t)) (ix3 (0 : Fin 1) r k)
  rw [View.read_apply, flushed5_A, tile5] at e
  have eo := dout (gsum (iblk m c 0 t)) (iblk m c 1 t) (iblk m c 2 t) (iblk m c 3 t) (0 : Fin 1) r k
  rw [gblk m c t r R hR k, blk1 m c t r R hR k, blk2 m c t r R hR k, blk3 m c t r R hR k] at eo
  refine Eq.trans ?_ (e.trans eo)
  refine congrArg ((dats m 0 c).arrAt 5 cfg0.N) (ixeq3 _ _ _ _ ?_ ?_ ?_).symm
  · show win0_5.index t 0 * 1 + 1 * 0 = 1; rw [(hi t).1]
  · show win0_5.index t 1 * 128 + 1 * r.val = R.val; rw [(hi t).2.1]; omega
  · show win0_5.index t 2 * 512 + 1 * k.val = k.val; rw [(hi t).2.2]; omega

/-- The lower half of result 1: what the array held before. -/
theorem lo5 (R : Fin 128) (k : Fin 512) : ((dats m 0 c).arrAt 5 cfg0.N (ix3 0 R k) : EReal) = da m c (ix3 0 R k) := by
  rw [entry5 m c (ix3 0 R k) ?_]
  · show (V m c main_v1_1 : FVec Ideal S2x128x512 .f32) _ = _
    rw [V_v1_1]
  · intro t _ hm
    have hi : win0_5.index t 0 = 1 := by clear hm; revert t; decide +kernel
    have hm' : (ix3 0 R k : main_v1_1.ty.Idx) ∈ ((View.whole main_v1_1).slice (win0_5.rect t)).set := hm
    rw [View.set_slice_whole, Rect.mem_set_unit] at hm'
    have h0 := (hm' 0).1
    have h1 : win0_5.index t 0 * 1 ≤ 0 := h0
    rw [hi] at h1
    omega

theorem V_v1_2 : (V m c main_v1_2 : FVec Ideal S2x128x512 .f32) = ma m c := by
  after_reads_simp
  try rfl

/-- The upper half of result 2: what the call writes. -/
theorem hi6 (R : Fin 128) (k : Fin 512) : ((dats m 0 c).arrAt 6 cfg0.N (ix3 1 R k) : EReal) = mnew (gr (x0 m c) R k) (m0 m c (ix3 1 R k)) := by
  obtain ⟨t, r, hR⟩ := cell R
  have hi : ∀ t : Fin cfg0.N, win0_6.index t 0 = 1 ∧ win0_6.index t 1 = t.val ∧ win0_6.index t 2 = 0 := by decide +kernel
  have e := congrFun (blocks6 m c t (flush0_6 t)) (ix3 (0 : Fin 1) r k)
  rw [View.read_apply, flushed6_A, tile6] at e
  have eo := mout (gsum (iblk m c 0 t)) (iblk m c 2 t) (0 : Fin 1) r k
  rw [gblk m c t r R hR k, blk2 m c t r R hR k] at eo
  refine Eq.trans ?_ (e.trans eo)
  refine congrArg ((dats m 0 c).arrAt 6 cfg0.N) (ixeq3 _ _ _ _ ?_ ?_ ?_).symm
  · show win0_6.index t 0 * 1 + 1 * 0 = 1; rw [(hi t).1]
  · show win0_6.index t 1 * 128 + 1 * r.val = R.val; rw [(hi t).2.1]; omega
  · show win0_6.index t 2 * 512 + 1 * k.val = k.val; rw [(hi t).2.2]; omega

/-- The lower half of result 2: what the array held before. -/
theorem lo6 (R : Fin 128) (k : Fin 512) : ((dats m 0 c).arrAt 6 cfg0.N (ix3 0 R k) : EReal) = ma m c (ix3 0 R k) := by
  rw [entry6 m c (ix3 0 R k) ?_]
  · show (V m c main_v1_2 : FVec Ideal S2x128x512 .f32) _ = _
    rw [V_v1_2]
  · intro t _ hm
    have hi : win0_6.index t 0 = 1 := by clear hm; revert t; decide +kernel
    have hm' : (ix3 0 R k : main_v1_2.ty.Idx) ∈ ((View.whole main_v1_2).slice (win0_6.rect t)).set := hm
    rw [View.set_slice_whole, Rect.mem_set_unit] at hm'
    have h0 := (hm' 0).1
    have h1 : win0_6.index t 0 * 1 ≤ 0 := h0
    rw [hi] at h1
    omega

theorem V_v1_3 : (V m c main_v1_3 : FVec Ideal S2x128x512 .f32) = va m c := by
  after_reads_simp
  try rfl

/-- The upper half of result 3: what the call writes. -/
theorem hi7 (R : Fin 128) (k : Fin 512) : ((dats m 0 c).arrAt 7 cfg0.N (ix3 1 R k) : EReal) = vnew (gr (x0 m c) R k) (v0 m c (ix3 1 R k)) := by
  obtain ⟨t, r, hR⟩ := cell R
  have hi : ∀ t : Fin cfg0.N, win0_7.index t 0 = 1 ∧ win0_7.index t 1 = t.val ∧ win0_7.index t 2 = 0 := by decide +kernel
  have e := congrFun (blocks7 m c t (flush0_7 t)) (ix3 (0 : Fin 1) r k)
  rw [View.read_apply, flushed7_A, tile7] at e
  have eo := vout (gsum (iblk m c 0 t)) (iblk m c 3 t) (0 : Fin 1) r k
  rw [gblk m c t r R hR k, blk3 m c t r R hR k] at eo
  refine Eq.trans ?_ (e.trans eo)
  refine congrArg ((dats m 0 c).arrAt 7 cfg0.N) (ixeq3 _ _ _ _ ?_ ?_ ?_).symm
  · show win0_7.index t 0 * 1 + 1 * 0 = 1; rw [(hi t).1]
  · show win0_7.index t 1 * 128 + 1 * r.val = R.val; rw [(hi t).2.1]; omega
  · show win0_7.index t 2 * 512 + 1 * k.val = k.val; rw [(hi t).2.2]; omega

/-- The lower half of result 3: what the array held before. -/
theorem lo7 (R : Fin 128) (k : Fin 512) : ((dats m 0 c).arrAt 7 cfg0.N (ix3 0 R k) : EReal) = va m c (ix3 0 R k) := by
  rw [entry7 m c (ix3 0 R k) ?_]
  · show (V m c main_v1_3 : FVec Ideal S2x128x512 .f32) _ = _
    rw [V_v1_3]
  · intro t _ hm
    have hi : win0_7.index t 0 = 1 := by clear hm; revert t; decide +kernel
    have hm' : (ix3 0 R k : main_v1_3.ty.Idx) ∈ ((View.whole main_v1_3).slice (win0_7.rect t)).set := hm
    rw [View.set_slice_whole, Rect.mem_set_unit] at hm'
    have h0 := (hm' 0).1
    have h1 : win0_7.index t 0 * 1 ≤ 0 := h0
    rw [hi] at h1
    omega

section Ref

variable (x : FVec Ideal S8x128x512 .f32) (w y z u : FVec Ideal S2x128x512 .f32) (R : Fin 128) (k : Fin 512)

theorem rg : (val_main_v0 (F := Ideal) x (ix2 R k) : EReal) = gr x R k := by
  unfold val_main_v0 val_main_cst gr
  pointwise
  try simp [Ideal.ofBits, Ideal.ieee]

theorem pw : (val_main_v2 (F := Ideal) w (ix2 R k) : EReal) = w (ix3 1 R k) := by
  unfold val_main_v2 val_main_v1
  pointwise

theorem pm : (val_main_v4 (F := Ideal) y (ix2 R k) : EReal) = y (ix3 1 R k) := by
  unfold val_main_v4 val_main_v3
  pointwise

theorem pv : (val_main_v6 (F := Ideal) z (ix2 R k) : EReal) = z (ix3 1 R k) := by
  unfold val_main_v6 val_main_v5
  pointwise

theorem rm : (val_main_v11 (F := Ideal) x y (ix2 R k) : EReal) = mnew (gr x R k) (y (ix3 1 R k)) := by
  rw [← rg x R k, ← pm y R k]
  unfold val_main_v11 val_main_v10 val_main_v9 val_main_v8 val_main_v7 val_main_cst_0 val_main_cst_1 mnew
  generalize val_main_v0 (F := Ideal) x = g
  generalize val_main_v4 (F := Ideal) y = a
  pointwise

theorem rv : (val_main_v17 (F := Ideal) x z (ix2 R k) : EReal) = vnew (gr x R k) (z (ix3 1 R k)) := by
  rw [← rg x R k, ← pv z R k]
  unfold val_main_v17 val_main_v16 val_main_v15 val_main_v14 val_main_v13 val_main_v12 val_main_cst_2 val_main_cst_3 vnew
  generalize val_main_v0 (F := Ideal) x = g
  generalize val_main_v6 (F := Ideal) z = a
  pointwise

theorem rd : (val_main_v30 (F := Ideal) x w y z (ix2 R k) : EReal)
    = step (gr x R k) (w (ix3 1 R k)) (y (ix3 1 R k)) (z (ix3 1 R k)) := by
  unfold step
  rw [← rm, ← rv, ← pw w R k]
  unfold val_main_v30 val_main_v29 val_main_v28 val_main_v27 val_main_v26 val_main_v25 val_main_v24 val_main_v23 val_main_v22 val_main_v21 val_main_v20 val_main_v19 val_main_v18 val_main_cst_4 val_main_cst_5 val_main_cst_6 val_main_cst_7 val_main_cst_8
  generalize val_main_v11 (F := Ideal) x y = a
  generalize val_main_v17 (F := Ideal) x z = b
  generalize val_main_v2 (F := Ideal) w = e
  pointwise

/-- Two halves put together. -/
theorem halves (p q : FVec Ideal Cert.Reference18Ideal.S1x128x512 .f32) (l : Fin 2) (hc) :
    (concatenate S2x128x512 0 [⟨Cert.Reference18Ideal.S1x128x512, p⟩, ⟨Cert.Reference18Ideal.S1x128x512, q⟩] hc (ix3 l R k) : EReal)
      = if l = 0 then p (ix3 0 R k) else q (ix3 0 R k) := by
  fin_cases l <;> pointwise

theorem rlo4 : (val_main_v35 (F := Ideal) x u (ix3 0 R k) : EReal) = u (ix3 0 R k) := by
  unfold val_main_v35
  rw [halves, if_pos rfl]
  unfold val_main_v33 val_main_v32 val_main_v31
  pointwise

theorem rhi4 : (val_main_v35 (F := Ideal) x u (ix3 1 R k) : EReal) = gr x R k := by
  unfold val_main_v35
  rw [halves, if_neg (by decide), ← rg]
  unfold val_main_v34
  generalize val_main_v0 (F := Ideal) x = a
  pointwise

theorem rlo5 : (val_main_v40 (F := Ideal) x w y z u (ix3 0 R k) : EReal) = u (ix3 0 R k) := by
  unfold val_main_v40
  rw [halves, if_pos rfl]
  unfold val_main_v38 val_main_v37 val_main_v36
  pointwise

theorem rhi5 : (val_main_v40 (F := Ideal) x w y z u (ix3 1 R k) : EReal) = step (gr x R k) (w (ix3 1 R k)) (y (ix3 1 R k)) (z (ix3 1 R k)) := by
  unfold val_main_v40
  rw [halves, if_neg (by decide), ← rd]
  unfold val_main_v39
  generalize val_main_v30 (F := Ideal) x w y z = a
  pointwise

theorem rlo6 : (val_main_v45 (F := Ideal) x y u (ix3 0 R k) : EReal) = u (ix3 0 R k) := by
  unfold val_main_v45
  rw [halves, if_pos rfl]
  unfold val_main_v43 val_main_v42 val_main_v41
  pointwise

theorem rhi6 : (val_main_v45 (F := Ideal) x y u (ix3 1 R k) : EReal) = mnew (gr x R k) (y (ix3 1 R k)) := by
  unfold val_main_v45
  rw [halves, if_neg (by decide), ← rm]
  unfold val_main_v44
  generalize val_main_v11 (F := Ideal) x y = a
  pointwise

theorem rlo7 : (val_main_v50 (F := Ideal) x z u (ix3 0 R k) : EReal) = u (ix3 0 R k) := by
  unfold val_main_v50
  rw [halves, if_pos rfl]
  unfold val_main_v48 val_main_v47 val_main_v46
  pointwise

theorem rhi7 : (val_main_v50 (F := Ideal) x z u (ix3 1 R k) : EReal) = vnew (gr x R k) (z (ix3 1 R k)) := by
  unfold val_main_v50
  rw [halves, if_neg (by decide), ← rv]
  unfold val_main_v49
  generalize val_main_v17 (F := Ideal) x z = a
  pointwise

end Ref

theorem gequal : ((dats m 0 c).arrAt 4 cfg0.N : FVec Ideal S2x128x512 .f32) = val_main_v35 (F := Ideal) (x0 m c) (ga m c) := by
  funext i
  obtain ⟨l, R, k, rfl⟩ : ∃ l R k, i = ix3 l R k := ⟨i 0, i 1, i 2, eq_ix3 i⟩
  match l with
  | ⟨0, _⟩ => exact (lo4 m c R k).trans (rlo4 _ _ R k).symm
  | ⟨1, _⟩ => exact (hi4 m c R k).trans (rhi4 _ _ R k).symm

theorem dequal : ((dats m 0 c).arrAt 5 cfg0.N : FVec Ideal S2x128x512 .f32) = val_main_v40 (F := Ideal) (x0 m c) (w0 m c) (m0 m c) (v0 m c) (da m c) := by
  funext i
  obtain ⟨l, R, k, rfl⟩ : ∃ l R k, i = ix3 l R k := ⟨i 0, i 1, i 2, eq_ix3 i⟩
  match l with
  | ⟨0, _⟩ => exact (lo5 m c R k).trans (rlo5 _ _ _ _ _ R k).symm
  | ⟨1, _⟩ => exact (hi5 m c R k).trans (rhi5 _ _ _ _ _ R k).symm

theorem mequal : ((dats m 0 c).arrAt 6 cfg0.N : FVec Ideal S2x128x512 .f32) = val_main_v45 (F := Ideal) (x0 m c) (m0 m c) (ma m c) := by
  funext i
  obtain ⟨l, R, k, rfl⟩ : ∃ l R k, i = ix3 l R k := ⟨i 0, i 1, i 2, eq_ix3 i⟩
  match l with
  | ⟨0, _⟩ => exact (lo6 m c R k).trans (rlo6 _ _ _ R k).symm
  | ⟨1, _⟩ => exact (hi6 m c R k).trans (rhi6 _ _ _ R k).symm

theorem vequal : ((dats m 0 c).arrAt 7 cfg0.N : FVec Ideal S2x128x512 .f32) = val_main_v50 (F := Ideal) (x0 m c) (v0 m c) (va m c) := by
  funext i
  obtain ⟨l, R, k, rfl⟩ : ∃ l R k, i = ix3 l R k := ⟨i 0, i 1, i 2, eq_ix3 i⟩
  match l with
  | ⟨0, _⟩ => exact (lo7 m c R k).trans (rlo7 _ _ _ R k).symm
  | ⟨1, _⟩ => exact (hi7 m c R k).trans (rhi7 _ _ _ R k).symm

end Cert.Proof.Prod.OptKv
-- ==== Proof.Prod.OptOut.lean ====
module

public import proofs.«01_k».proof.Proof.Gen.Kernel19Ideal.Value
public import proofs.«01_k».proof.Proof.Gen.Reference19Ideal.Read
public import proofs.«01_k».proof.Proof.Prod.Adam
public import Idealize.ShloMosaic.Lib.StableHlo.RunRead

/-! The optimiser on the upper layer's weights of the output projection. -/

@[expose] public section

noncomputable section

open Idealize.ShloMosaic Idealize.ShloMosaic.TcCoe Idealize.SL.Sem
open Cert.Kernel19Ideal Cert.Kernel19Ideal.Gen Cert.Reference19Ideal.Read Cert.Kernel19Ideal.Value Cert.Proof.Prod.Adam

namespace Cert.Proof.Prod.OptOut

theorem zero3 : (![0, 0, 0] : Fin 3 → Nat) = fun _ => 0 := funext fun a => by fin_cases a <;> rfl

section Pay

variable (g : FVec Ideal S128x1024 .f32) (w m v : Vec Ideal S1x128x1024 .f32) (p : Fin 1) (r : Fin 128) (k : Fin 1024)

/-- The sum over the devices of a block's parts. -/
theorem gpay (v0 v3 v7 v11 v15 v19 v23 v27 : Vec Ideal S1x128x1024 .bf16) :
    (k0_pay2 (F := Ideal) v0 v3 v7 v11 v15 v19 v23 v27 (ix2 r k) : EReal)
      = v0 (ix3 0 r k) + v3 (ix3 0 r k) + v7 (ix3 0 r k) + v11 (ix3 0 r k) + v15 (ix3 0 r k) + v19 (ix3 0 r k) + v23 (ix3 0 r k) + v27 (ix3 0 r k) := by
  unfold k0_pay2
  pointwise

theorem gout : (k0_pay3 (F := Ideal) g (ix3 p r k) : EReal) = g (ix2 r k) := by
  unfold k0_pay3
  pointwise

theorem mpay :
    (k0_pay4 (F := Ideal) g m (ix2 r k) : EReal) = mnew (g (ix2 r k)) (m (ix3 0 r k)) := by
  unfold k0_pay4 mnew
  pointwise

theorem vpay :
    (k0_pay5 (F := Ideal) g v (ix2 r k) : EReal) = vnew (g (ix2 r k)) (v (ix3 0 r k)) := by
  unfold k0_pay5 vnew
  pointwise

theorem mout :
    (k0_pay6 (F := Ideal) g m (ix3 p r k) : EReal) = mnew (g (ix2 r k)) (m (ix3 0 r k)) := by
  unfold k0_pay6
  rw [← mpay]
  generalize k0_pay4 (F := Ideal) g m = a
  pointwise

theorem vout :
    (k0_pay7 (F := Ideal) g v (ix3 p r k) : EReal) = vnew (g (ix2 r k)) (v (ix3 0 r k)) := by
  unfold k0_pay7
  rw [← vpay]
  generalize k0_pay5 (F := Ideal) g v = a
  pointwise

theorem dout :
    (k0_pay1 (F := Ideal) (k0_pay8 (F := Ideal) g m v) (k0_pay9 (F := Ideal) w) (k0_pay10 (F := Ideal)) (ix3 p r k) : EReal)
      = step (g (ix2 r k)) (w (ix3 0 r k)) (m (ix3 0 r k)) (v (ix3 0 r k)) := by
  unfold step
  rw [← mpay, ← vpay]
  unfold k0_pay1 k0_pay8 k0_pay9 k0_pay10
  generalize k0_pay4 (F := Ideal) g m = a
  generalize k0_pay5 (F := Ideal) g v = b
  pointwise

end Pay

/-- The load of one device's part. -/
theorem part (x : Vec Ideal S8x128x1024 .bf16) (d : ℕ) (hd : d < 8) (inb) (r : Fin 128) (k : Fin 1024) :
    (View.ld x (Rect.unit (s := S8x128x1024) ![d, 0, 0] S1x128x1024.size inb) (ix3 0 r k) : EReal) = x (ix3 (⟨d, hd⟩ : Fin 8) r k) :=
  congrArg x (funext fun a => Fin.ext (by
    match a with
    | ⟨0, _⟩ => rfl
    | ⟨1, _⟩ => show 0 + 1 * r.val = r.val; omega
    | ⟨2, _⟩ => show 0 + 1 * k.val = k.val; omega))

/-- The sum of a block's eight parts. -/
def gsum (x : Vec Ideal S8x128x1024 .bf16) : FVec Ideal S128x1024 .f32 :=
  k0_pay2 (F := Ideal)
    (View.ld x (Rect.unit (s := S8x128x1024) ![0, 0, 0] S1x128x1024.size inb_S8x128x1024_S1x128x1024_0_0_0))
    (View.ld x (Rect.unit (s := S8x128x1024) ![1, 0, 0] S1x128x1024.size inb_S8x128x1024_S1x128x1024_1_0_0))
    (View.ld x (Rect.unit (s := S8x128x1024) ![2, 0, 0] S1x128x1024.size inb_S8x128x1024_S1x128x1024_2_0_0))
    (View.ld x (Rect.unit (s := S8x128x1024) ![3, 0, 0] S1x128x1024.size inb_S8x128x1024_S1x128x1024_3_0_0))
    (View.ld x (Rect.unit (s := S8x128x1024) ![4, 0, 0] S1x128x1024.size inb_S8x128x1024_S1x128x1024_4_0_0))
    (View.ld x (Rect.unit (s := S8x128x1024) ![5, 0, 0] S1x128x1024.size inb_S8x128x1024_S1x128x1024_5_0_0))
    (View.ld x (Rect.unit (s := S8x128x1024) ![6, 0, 0] S1x128x1024.size inb_S8x128x1024_S1x128x1024_6_0_0))
    (View.ld x (Rect.unit (s := S8x128x1024) ![7, 0, 0] S1x128x1024.size inb_S8x128x1024_S1x128x1024_7_0_0))

theorem gsum_at (x : Vec Ideal S8x128x1024 .bf16) (r : Fin 128) (k : Fin 1024) : (gsum x (ix2 r k) : EReal) = ∑ d : Fin 8, (x (ix3 d r k) : EReal) := by
  unfold gsum
  rw [gpay, part x 0 (by omega), part x 1 (by omega), part x 2 (by omega), part x 3 (by omega), part x 4 (by omega), part x 5 (by omega),
    part x 6 (by omega), part x 7 (by omega), Fin.sum_univ_eight]
  rfl

section Cases

variable (c : Dev nD) (i : grid0.Coords)
  (a1 : Memref sig .tc .vmem S8x128x1024 .bf16) (h1 : a1.IsWhole)
  (a2 : Memref sig .tc .vmem S1x128x1024 .f32) (h2 : a2.IsWhole)
  (a3 : Memref sig .tc .vmem S1x128x1024 .f32) (h3 : a3.IsWhole)
  (a4 : Memref sig .tc .vmem S1x128x1024 .f32) (h4 : a4.IsWhole)
  (a9 : Memref sig .tc .vmem S1x128x1024 .f32) (h9 : a9.IsWhole)
  (a10 : Memref sig .tc .vmem S1x128x1024 .f32) (h10 : a10.IsWhole)
  (a11 : Memref sig .tc .vmem S1x128x1024 .f32) (h11 : a11.IsWhole)
  (a12 : Memref sig .tc .vmem S1x128x1024 .f32) (h12 : a12.IsWhole)
  (x : Vec Ideal S8x128x1024 .bf16) (w m v : Vec Ideal S1x128x1024 .f32)

theorem tile4 : out0_A_4 c i a1 h1 a2 h2 a3 h3 a4 h4 a9 h9 a10 h10 a11 h11 a12 h12 x w m v = k0_pay3 (F := Ideal) (gsum x) := by
  unfold out0_A_4 gsum
  rw [View.read_writes_eq_canon _ _ _ (cover0_A_4 c i a1 h1 a2 h2 a3 h3 a4 h4 a9 h9 a10 h10 a11 h11 a12 h12 x w m v)]
  unfold kernelRun0_A
  dsimp only
  sl_unfold_words
  rw [View.canon_unit_zero (S := S1x128x1024) zero3]
  try simp only [View.readAt_eq_ld, h1.read_unread, h2.read_unread, h3.read_unread, h4.read_unread, View.ld_unit_zero (S := S1x128x1024) zero3]

theorem tile5 : out0_A_5 c i a1 h1 a2 h2 a3 h3 a4 h4 a9 h9 a10 h10 a11 h11 a12 h12 x w m v = k0_pay1 (F := Ideal) (k0_pay8 (F := Ideal) (gsum x) m v) (k0_pay9 (F := Ideal) w) (k0_pay10 (F := Ideal)) := by
  unfold out0_A_5 gsum
  rw [View.read_writes_eq_canon _ _ _ (cover0_A_5 c i a1 h1 a2 h2 a3 h3 a4 h4 a9 h9 a10 h10 a11 h11 a12 h12 x w m v)]
  unfold kernelRun0_A
  dsimp only
  sl_unfold_words
  rw [View.canon_unit_zero (S := S1x128x1024) zero3]
  try simp only [View.readAt_eq_ld, h1.read_unread, h2.read_unread, h3.read_unread, h4.read_unread, View.ld_unit_zero (S := S1x128x1024) zero3]

theorem tile6 : out0_A_6 c i a1 h1 a2 h2 a3 h3 a4 h4 a9 h9 a10 h10 a11 h11 a12 h12 x w m v = k0_pay6 (F := Ideal) (gsum x) m := by
  unfold out0_A_6 gsum
  rw [View.read_writes_eq_canon _ _ _ (cover0_A_6 c i a1 h1 a2 h2 a3 h3 a4 h4 a9 h9 a10 h10 a11 h11 a12 h12 x w m v)]
  unfold kernelRun0_A
  dsimp only
  sl_unfold_words
  rw [View.canon_unit_zero (S := S1x128x1024) zero3]
  try simp only [View.readAt_eq_ld, h1.read_unread, h2.read_unread, h3.read_unread, h4.read_unread, View.ld_unit_zero (S := S1x128x1024) zero3]

theorem tile7 : out0_A_7 c i a1 h1 a2 h2 a3 h3 a4 h4 a9 h9 a10 h10 a11 h11 a12 h12 x w m v = k0_pay7 (F := Ideal) (gsum x) v := by
  unfold out0_A_7 gsum
  rw [View.read_writes_eq_canon _ _ _ (cover0_A_7 c i a1 h1 a2 h2 a3 h3 a4 h4 a9 h9 a10 h10 a11 h11 a12 h12 x w m v)]
  unfold kernelRun0_A
  dsimp only
  sl_unfold_words
  rw [View.canon_unit_zero (S := S1x128x1024) zero3]
  try simp only [View.readAt_eq_ld, h1.read_unread, h2.read_unread, h3.read_unread, h4.read_unread, View.ld_unit_zero (S := S1x128x1024) zero3]

end Cases

variable (m : (ℓ : Loc nD τ sig) → Buf (Elt Ideal) ℓ) (c : Dev nD)

/-- The arrays as launched. -/
abbrev x0 : FVec Ideal S8x128x1024 .f32 := m ((c : Thread nD τ).loc main_arg0)
abbrev w0 : FVec Ideal S2x128x1024 .f32 := m ((c : Thread nD τ).loc main_arg1)
abbrev m0 : FVec Ideal S2x128x1024 .f32 := m ((c : Thread nD τ).loc main_arg2)
abbrev v0 : FVec Ideal S2x128x1024 .f32 := m ((c : Thread nD τ).loc main_arg3)
abbrev ga : FVec Ideal S2x128x1024 .f32 := m ((c : Thread nD τ).loc main_arg4)
abbrev da : FVec Ideal S2x128x1024 .f32 := m ((c : Thread nD τ).loc main_arg5)
abbrev ma : FVec Ideal S2x128x1024 .f32 := m ((c : Thread nD τ).loc main_arg6)
abbrev va : FVec Ideal S2x128x1024 .f32 := m ((c : Thread nD τ).loc main_arg7)

theorem V_v0 : (V m c main_v0 : FVec Ideal S8x128x1024 .bf16) = truncf .bf16 (x0 m c) bitsLt_bf16_f32 := by
  after_reads_simp

/-- A row of the array is a row of one block. -/
theorem cell (R : Fin 128) : ∃ (t : Fin cfg0.N) (r : Fin 128), 128 * t.val + r.val = R.val := by
  have hRl := R.isLt
  have hN : cfg0.N = 1 := N_0
  refine ⟨⟨R.val / 128, by rw [hN]; omega⟩, ⟨R.val % 128, Nat.mod_lt _ (by decide)⟩, ?_⟩
  dsimp only
  omega

section Blk

variable (t : Fin cfg0.N) (r : Fin 128) (R : Fin 128) (hR : 128 * t.val + r.val = R.val) (k : Fin 1024)
include hR

theorem blk0 (d : Fin 8) :
    ((iblk m c 0 t : FVec Ideal S8x128x1024 .bf16) (ix3 d r k) : EReal) = x0 m c (ix3 d R k) := by
  have hi : win0_0.index t 0 = 0 ∧ win0_0.index t 1 = t.val ∧ win0_0.index t 2 = 0 := by clear hR; revert t; decide +kernel
  unfold iblk
  rw [View.read_apply]
  show V m c main_v0 _ = x0 m c _
  rw [V_v0]
  show x0 m c _ = x0 m c _
  refine congrArg _ (ixeq3 _ _ _ _ ?_ ?_ ?_)
  · show win0_0.index t 0 * 8 + 1 * d.val = d.val; rw [hi.1]; omega
  · show win0_0.index t 1 * 128 + 1 * r.val = R.val; rw [hi.2.1]; omega
  · show win0_0.index t 2 * 1024 + 1 * k.val = k.val; rw [hi.2.2]; omega

theorem blk1 :
    ((iblk m c 1 t : FVec Ideal S1x128x1024 .f32) (ix3 0 r k) : EReal) = w0 m c (ix3 1 R k) := by
  have hi : win0_1.index t 0 = 1 ∧ win0_1.index t 1 = t.val ∧ win0_1.index t 2 = 0 := by clear hR; revert t; decide +kernel
  unfold iblk
  rw [View.read_apply]
  show V m c main_arg1 _ = w0 m c _
  rw [V_main_arg1]
  refine congrArg _ (ixeq3 _ _ _ _ ?_ ?_ ?_)
  · show win0_1.index t 0 * 1 + 1 * 0 = 1; rw [hi.1]
  · show win0_1.index t 1 * 128 + 1 * r.val = R.val; rw [hi.2.1]; omega
  · show win0_1.index t 2 * 1024 + 1 * k.val = k.val; rw [hi.2.2]; omega

theorem blk2 :
    ((iblk m c 2 t : FVec Ideal S1x128x1024 .f32) (ix3 0 r k) : EReal) = m0 m c (ix3 1 R k) := by
  have hi : win0_2.index t 0 = 1 ∧ win0_2.index t 1 = t.val ∧ win0_2.index t 2 = 0 := by clear hR; revert t; decide +kernel
  unfold iblk
  rw [View.read_apply]
  show V m c main_arg2 _ = m0 m c _
  rw [V_main_arg2]
  refine congrArg _ (ixeq3 _ _ _ _ ?_ ?_ ?_)
  · show win0_2.index t 0 * 1 + 1 * 0 = 1; rw [hi.1]
  · show win0_2.index t 1 * 128 + 1 * r.val = R.val; rw [hi.2.1]; omega
  · show win0_2.index t 2 * 1024 + 1 * k.val = k.val; rw [hi.2.2]; omega

theorem blk3 :
    ((iblk m c 3 t : FVec Ideal S1x128x1024 .f32) (ix3 0 r k) : EReal) = v0 m c (ix3 1 R k) := by
  have hi : win0_3.index t 0 = 1 ∧ win0_3.index t 1 = t.val ∧ win0_3.index t 2 = 0 := by clear hR; revert t; decide +kernel
  unfold iblk
  rw [View.read_apply]
  show V m c main_arg3 _ = v0 m c _
  rw [V_main_arg3]
  refine congrArg _ (ixeq3 _ _ _ _ ?_ ?_ ?_)
  · show win0_3.index t 0 * 1 + 1 * 0 = 1; rw [hi.1]
  · show win0_3.index t 1 * 128 + 1 * r.val = R.val; rw [hi.2.1]; omega
  · show win0_3.index t 2 * 1024 + 1 * k.val = k.val; rw [hi.2.2]; omega

end Blk

/-- The gradient summed over the devices. -/
def gr (x : FVec Ideal S8x128x1024 .f32) (R : Fin 128) (k : Fin 1024) : EReal := ∑ d : Fin 8, (x (ix3 d R k) : EReal)

theorem gblk (t : Fin cfg0.N) (r : Fin 128) (R : Fin 128) (hR : 128 * t.val + r.val = R.val) (k : Fin 1024) :
    (gsum (iblk m c 0 t) (ix2 r k) : EReal) = gr (x0 m c) R k := by
  rw [gsum_at]
  exact Finset.sum_congr rfl fun d _ => blk0 m c t r R hR k d

theorem V_v1_0 : (V m c main_v1_0 : FVec Ideal S2x128x1024 .f32) = ga m c := by
  after_reads_simp
  try rfl

/-- The upper half of result 0: what the call writes. -/
theorem hi4 (R : Fin 128) (k : Fin 1024) : ((dats m 0 c).arrAt 4 cfg0.N (ix3 1 R k) : EReal) = gr (x0 m c) R k := by
  obtain ⟨t, r, hR⟩ := cell R
  have hi : ∀ t : Fin cfg0.N, win0_4.index t 0 = 1 ∧ win0_4.index t 1 = t.val ∧ win0_4.index t 2 = 0 := by decide +kernel
  have e := congrFun (blocks4 m c t (flush0_4 t)) (ix3 (0 : Fin 1) r k)
  rw [View.read_apply, flushed4_A, tile4] at e
  have eo := gout (gsum (iblk m c 0 t)) (0 : Fin 1) r k
  rw [gblk m c t r R hR k] at eo
  refine Eq.trans ?_ (e.trans eo)
  refine congrArg ((dats m 0 c).arrAt 4 cfg0.N) (ixeq3 _ _ _ _ ?_ ?_ ?_).symm
  · show win0_4.index t 0 * 1 + 1 * 0 = 1; rw [(hi t).1]
  · show win0_4.index t 1 * 128 + 1 * r.val = R.val; rw [(hi t).2.1]; omega
  · show win0_4.index t 2 * 1024 + 1 * k.val = k.val; rw [(hi t).2.2]; omega

/-- The lower half of result 0: what the array held before. -/
theorem lo4 (R : Fin 128) (k : Fin 1024) : ((dats m 0 c).arrAt 4 cfg0.N (ix3 0 R k) : EReal) = ga m c (ix3 0 R k) := by
  rw [entry4 m c (ix3 0 R k) ?_]
  · show (V m c main_v1_0 : FVec Ideal S2x128x1024 .f32) _ = _
    rw [V_v1_0]
  · intro t _ hm
    have hi : win0_4.index t 0 = 1 := by clear hm; revert t; decide +kernel
    have hm' : (ix3 0 R k : main_v1_0.ty.Idx) ∈ ((View.whole main_v1_0).slice (win0_4.rect t)).set := hm
    rw [View.set_slice_whole, Rect.mem_set_unit] at hm'
    have h0 := (hm' 0).1
    have h1 : win0_4.index t 0 * 1 ≤ 0 := h0
    rw [hi] at h1
    omega

theorem V_v1_1 : (V m c main_v1_1 : FVec Ideal S2x128x1024 .f32) = da m c := by
  after_reads_simp
  try rfl

/-- The upper half of result 1: what the call writes. -/
theorem hi5 (R : Fin 128) (k : Fin 1024) : ((dats m 0 c).arrAt 5 cfg0.N (ix3 1 R k) : EReal) = step (gr (x0 m c) R k) (w0 m c (ix3 1 R k)) (m0 m c (ix3 1 R k)) (v0 m c (ix3 1 R k)) := by
  obtain ⟨t, r, hR⟩ := cell R
  have hi : ∀ t : Fin cfg0.N, win0_5.index t 0 = 1 ∧ win0_5.index t 1 = t.val ∧ win0_5.index t 2 = 0 := by decide +kernel
  have e := congrFun (blocks5 m c t (flush0_5 t)) (ix3 (0 : Fin 1) r k)
  rw [View.read_apply, flushed5_A, tile5] at e
  have eo := dout (gsum (iblk m c 0 t)) (iblk m c 1 t) (iblk m c 2 t) (iblk m c 3 t) (0 : Fin 1) r k
  rw [gblk m c t r R hR k, blk1 m c t r R hR k, blk2 m c t r R hR k, blk3 m c t r R hR k] at eo
  refine Eq.trans ?_ (e.trans eo)
  refine congrArg ((dats m 0 c).arrAt 5 cfg0.N) (ixeq3 _ _ _ _ ?_ ?_ ?_).symm
  · show win0_5.index t 0 * 1 + 1 * 0 = 1; rw [(hi t).1]
  · show win0_5.index t 1 * 128 + 1 * r.val = R.val; rw [(hi t).2.1]; omega
  · show win0_5.index t 2 * 1024 + 1 * k.val = k.val; rw [(hi t).2.2]; omega

/-- The lower half of result 1: what the array held before. -/
theorem lo5 (R : Fin 128) (k : Fin 1024) : ((dats m 0 c).arrAt 5 cfg0.N (ix3 0 R k) : EReal) = da m c (ix3 0 R k) := by
  rw [entry5 m c (ix3 0 R k) ?_]
  · show (V m c main_v1_1 : FVec Ideal S2x128x1024 .f32) _ = _
    rw [V_v1_1]
  · intro t _ hm
    have hi : win0_5.index t 0 = 1 := by clear hm; revert t; decide +kernel
    have hm' : (ix3 0 R k : main_v1_1.ty.Idx) ∈ ((View.whole main_v1_1).slice (win0_5.rect t)).set := hm
    rw [View.set_slice_whole, Rect.mem_set_unit] at hm'
    have h0 := (hm' 0).1
    have h1 : win0_5.index t 0 * 1 ≤ 0 := h0
    rw [hi] at h1
    omega

theorem V_v1_2 : (V m c main_v1_2 : FVec Ideal S2x128x1024 .f32) = ma m c := by
  after_reads_simp
  try rfl

/-- The upper half of result 2: what the call writes. -/
theorem hi6 (R : Fin 128) (k : Fin 1024) : ((dats m 0 c).arrAt 6 cfg0.N (ix3 1 R k) : EReal) = mnew (gr (x0 m c) R k) (m0 m c (ix3 1 R k)) := by
  obtain ⟨t, r, hR⟩ := cell R
  have hi : ∀ t : Fin cfg0.N, win0_6.index t 0 = 1 ∧ win0_6.index t 1 = t.val ∧ win0_6.index t 2 = 0 := by decide +kernel
  have e := congrFun (blocks6 m c t (flush0_6 t)) (ix3 (0 : Fin 1) r k)
  rw [View.read_apply, flushed6_A, tile6] at e
  have eo := mout (gsum (iblk m c 0 t)) (iblk m c 2 t) (0 : Fin 1) r k
  rw [gblk m c t r R hR k, blk2 m c t r R hR k] at eo
  refine Eq.trans ?_ (e.trans eo)
  refine congrArg ((dats m 0 c).arrAt 6 cfg0.N) (ixeq3 _ _ _ _ ?_ ?_ ?_).symm
  · show win0_6.index t 0 * 1 + 1 * 0 = 1; rw [(hi t).1]
  · show win0_6.index t 1 * 128 + 1 * r.val = R.val; rw [(hi t).2.1]; omega
  · show win0_6.index t 2 * 1024 + 1 * k.val = k.val; rw [(hi t).2.2]; omega

/-- The lower half of result 2: what the array held before. -/
theorem lo6 (R : Fin 128) (k : Fin 1024) : ((dats m 0 c).arrAt 6 cfg0.N (ix3 0 R k) : EReal) = ma m c (ix3 0 R k) := by
  rw [entry6 m c (ix3 0 R k) ?_]
  · show (V m c main_v1_2 : FVec Ideal S2x128x1024 .f32) _ = _
    rw [V_v1_2]
  · intro t _ hm
    have hi : win0_6.index t 0 = 1 := by clear hm; revert t; decide +kernel
    have hm' : (ix3 0 R k : main_v1_2.ty.Idx) ∈ ((View.whole main_v1_2).slice (win0_6.rect t)).set := hm
    rw [View.set_slice_whole, Rect.mem_set_unit] at hm'
    have h0 := (hm' 0).1
    have h1 : win0_6.index t 0 * 1 ≤ 0 := h0
    rw [hi] at h1
    omega

theorem V_v1_3 : (V m c main_v1_3 : FVec Ideal S2x128x1024 .f32) = va m c := by
  after_reads_simp
  try rfl

/-- The upper half of result 3: what the call writes. -/
theorem hi7 (R : Fin 128) (k : Fin 1024) : ((dats m 0 c).arrAt 7 cfg0.N (ix3 1 R k) : EReal) = vnew (gr (x0 m c) R k) (v0 m c (ix3 1 R k)) := by
  obtain ⟨t, r, hR⟩ := cell R
  have hi : ∀ t : Fin cfg0.N, win0_7.index t 0 = 1 ∧ win0_7.index t 1 = t.val ∧ win0_7.index t 2 = 0 := by decide +kernel
  have e := congrFun (blocks7 m c t (flush0_7 t)) (ix3 (0 : Fin 1) r k)
  rw [View.read_apply, flushed7_A, tile7] at e
  have eo := vout (gsum (iblk m c 0 t)) (iblk m c 3 t) (0 : Fin 1) r k
  rw [gblk m c t r R hR k, blk3 m c t r R hR k] at eo
  refine Eq.trans ?_ (e.trans eo)
  refine congrArg ((dats m 0 c).arrAt 7 cfg0.N) (ixeq3 _ _ _ _ ?_ ?_ ?_).symm
  · show win0_7.index t 0 * 1 + 1 * 0 = 1; rw [(hi t).1]
  · show win0_7.index t 1 * 128 + 1 * r.val = R.val; rw [(hi t).2.1]; omega
  · show win0_7.index t 2 * 1024 + 1 * k.val = k.val; rw [(hi t).2.2]; omega

/-- The lower half of result 3: what the array held before. -/
theorem lo7 (R : Fin 128) (k : Fin 1024) : ((dats m 0 c).arrAt 7 cfg0.N (ix3 0 R k) : EReal) = va m c (ix3 0 R k) := by
  rw [entry7 m c (ix3 0 R k) ?_]
  · show (V m c main_v1_3 : FVec Ideal S2x128x1024 .f32) _ = _
    rw [V_v1_3]
  · intro t _ hm
    have hi : win0_7.index t 0 = 1 := by clear hm; revert t; decide +kernel
    have hm' : (ix3 0 R k : main_v1_3.ty.Idx) ∈ ((View.whole main_v1_3).slice (win0_7.rect t)).set := hm
    rw [View.set_slice_whole, Rect.mem_set_unit] at hm'
    have h0 := (hm' 0).1
    have h1 : win0_7.index t 0 * 1 ≤ 0 := h0
    rw [hi] at h1
    omega

section Ref

variable (x : FVec Ideal S8x128x1024 .f32) (w y z u : FVec Ideal S2x128x1024 .f32) (R : Fin 128) (k : Fin 1024)

theorem rg : (val_main_v0 (F := Ideal) x (ix2 R k) : EReal) = gr x R k := by
  unfold val_main_v0 val_main_cst gr
  pointwise
  try simp [Ideal.ofBits, Ideal.ieee]

theorem pw : (val_main_v2 (F := Ideal) w (ix2 R k) : EReal) = w (ix3 1 R k) := by
  unfold val_main_v2 val_main_v1
  pointwise

theorem pm : (val_main_v4 (F := Ideal) y (ix2 R k) : EReal) = y (ix3 1 R k) := by
  unfold val_main_v4 val_main_v3
  pointwise

theorem pv : (val_main_v6 (F := Ideal) z (ix2 R k) : EReal) = z (ix3 1 R k) := by
  unfold val_main_v6 val_main_v5
  pointwise

theorem rm : (val_main_v11 (F := Ideal) x y (ix2 R k) : EReal) = mnew (gr x R k) (y (ix3 1 R k)) := by
  rw [← rg x R k, ← pm y R k]
  unfold val_main_v11 val_main_v10 val_main_v9 val_main_v8 val_main_v7 val_main_cst_0 val_main_cst_1 mnew
  generalize val_main_v0 (F := Ideal) x = g
  generalize val_main_v4 (F := Ideal) y = a
  pointwise

theorem rv : (val_main_v17 (F := Ideal) x z (ix2 R k) : EReal) = vnew (gr x R k) (z (ix3 1 R k)) := by
  rw [← rg x R k, ← pv z R k]
  unfold val_main_v17 val_main_v16 val_main_v15 val_main_v14 val_main_v13 val_main_v12 val_main_cst_2 val_main_cst_3 vnew
  generalize val_main_v0 (F := Ideal) x = g
  generalize val_main_v6 (F := Ideal) z = a
  pointwise

theorem rd : (val_main_v30 (F := Ideal) x w y z (ix2 R k) : EReal)
    = step (gr x R k) (w (ix3 1 R k)) (y (ix3 1 R k)) (z (ix3 1 R k)) := by
  unfold step
  rw [← rm, ← rv, ← pw w R k]
  unfold val_main_v30 val_main_v29 val_main_v28 val_main_v27 val_main_v26 val_main_v25 val_main_v24 val_main_v23 val_main_v22 val_main_v21 val_main_v20 val_main_v19 val_main_v18 val_main_cst_4 val_main_cst_5 val_main_cst_6 val_main_cst_7 val_main_cst_8
  generalize val_main_v11 (F := Ideal) x y = a
  generalize val_main_v17 (F := Ideal) x z = b
  generalize val_main_v2 (F := Ideal) w = e
  pointwise

/-- Two halves put together. -/
theorem halves (p q : FVec Ideal Cert.Reference19Ideal.S1x128x1024 .f32) (l : Fin 2) (hc) :
    (concatenate S2x128x1024 0 [⟨Cert.Reference19Ideal.S1x128x1024, p⟩, ⟨Cert.Reference19Ideal.S1x128x1024, q⟩] hc (ix3 l R k) : EReal)
      = if l = 0 then p (ix3 0 R k) else q (ix3 0 R k) := by
  fin_cases l <;> pointwise

theorem rlo4 : (val_main_v35 (F := Ideal) x u (ix3 0 R k) : EReal) = u (ix3 0 R k) := by
  unfold val_main_v35
  rw [halves, if_pos rfl]
  unfold val_main_v33 val_main_v32 val_main_v31
  pointwise

theorem rhi4 : (val_main_v35 (F := Ideal) x u (ix3 1 R k) : EReal) = gr x R k := by
  unfold val_main_v35
  rw [halves, if_neg (by decide), ← rg]
  unfold val_main_v34
  generalize val_main_v0 (F := Ideal) x = a
  pointwise

theorem rlo5 : (val_main_v40 (F := Ideal) x w y z u (ix3 0 R k) : EReal) = u (ix3 0 R k) := by
  unfold val_main_v40
  rw [halves, if_pos rfl]
  unfold val_main_v38 val_main_v37 val_main_v36
  pointwise

theorem rhi5 : (val_main_v40 (F := Ideal) x w y z u (ix3 1 R k) : EReal) = step (gr x R k) (w (ix3 1 R k)) (y (ix3 1 R k)) (z (ix3 1 R k)) := by
  unfold val_main_v40
  rw [halves, if_neg (by decide), ← rd]
  unfold val_main_v39
  generalize val_main_v30 (F := Ideal) x w y z = a
  pointwise

theorem rlo6 : (val_main_v45 (F := Ideal) x y u (ix3 0 R k) : EReal) = u (ix3 0 R k) := by
  unfold val_main_v45
  rw [halves, if_pos rfl]
  unfold val_main_v43 val_main_v42 val_main_v41
  pointwise

theorem rhi6 : (val_main_v45 (F := Ideal) x y u (ix3 1 R k) : EReal) = mnew (gr x R k) (y (ix3 1 R k)) := by
  unfold val_main_v45
  rw [halves, if_neg (by decide), ← rm]
  unfold val_main_v44
  generalize val_main_v11 (F := Ideal) x y = a
  pointwise

theorem rlo7 : (val_main_v50 (F := Ideal) x z u (ix3 0 R k) : EReal) = u (ix3 0 R k) := by
  unfold val_main_v50
  rw [halves, if_pos rfl]
  unfold val_main_v48 val_main_v47 val_main_v46
  pointwise

theorem rhi7 : (val_main_v50 (F := Ideal) x z u (ix3 1 R k) : EReal) = vnew (gr x R k) (z (ix3 1 R k)) := by
  unfold val_main_v50
  rw [halves, if_neg (by decide), ← rv]
  unfold val_main_v49
  generalize val_main_v17 (F := Ideal) x z = a
  pointwise

end Ref

theorem gequal : ((dats m 0 c).arrAt 4 cfg0.N : FVec Ideal S2x128x1024 .f32) = val_main_v35 (F := Ideal) (x0 m c) (ga m c) := by
  funext i
  obtain ⟨l, R, k, rfl⟩ : ∃ l R k, i = ix3 l R k := ⟨i 0, i 1, i 2, eq_ix3 i⟩
  match l with
  | ⟨0, _⟩ => exact (lo4 m c R k).trans (rlo4 _ _ R k).symm
  | ⟨1, _⟩ => exact (hi4 m c R k).trans (rhi4 _ _ R k).symm

theorem dequal : ((dats m 0 c).arrAt 5 cfg0.N : FVec Ideal S2x128x1024 .f32) = val_main_v40 (F := Ideal) (x0 m c) (w0 m c) (m0 m c) (v0 m c) (da m c) := by
  funext i
  obtain ⟨l, R, k, rfl⟩ : ∃ l R k, i = ix3 l R k := ⟨i 0, i 1, i 2, eq_ix3 i⟩
  match l with
  | ⟨0, _⟩ => exact (lo5 m c R k).trans (rlo5 _ _ _ _ _ R k).symm
  | ⟨1, _⟩ => exact (hi5 m c R k).trans (rhi5 _ _ _ _ _ R k).symm

theorem mequal : ((dats m 0 c).arrAt 6 cfg0.N : FVec Ideal S2x128x1024 .f32) = val_main_v45 (F := Ideal) (x0 m c) (m0 m c) (ma m c) := by
  funext i
  obtain ⟨l, R, k, rfl⟩ : ∃ l R k, i = ix3 l R k := ⟨i 0, i 1, i 2, eq_ix3 i⟩
  match l with
  | ⟨0, _⟩ => exact (lo6 m c R k).trans (rlo6 _ _ _ R k).symm
  | ⟨1, _⟩ => exact (hi6 m c R k).trans (rhi6 _ _ _ R k).symm

theorem vequal : ((dats m 0 c).arrAt 7 cfg0.N : FVec Ideal S2x128x1024 .f32) = val_main_v50 (F := Ideal) (x0 m c) (v0 m c) (va m c) := by
  funext i
  obtain ⟨l, R, k, rfl⟩ : ∃ l R k, i = ix3 l R k := ⟨i 0, i 1, i 2, eq_ix3 i⟩
  match l with
  | ⟨0, _⟩ => exact (lo7 m c R k).trans (rlo7 _ _ _ R k).symm
  | ⟨1, _⟩ => exact (hi7 m c R k).trans (rhi7 _ _ _ R k).symm

end Cert.Proof.Prod.OptOut
-- ==== Proof.Prod.OptUp.lean ====
module

public import proofs.«01_k».proof.Proof.Gen.Kernel20Ideal.Value
public import proofs.«01_k».proof.Proof.Gen.Reference20Ideal.Read
public import proofs.«01_k».proof.Proof.Prod.Adam
public import Idealize.ShloMosaic.Lib.StableHlo.RunRead

/-! The optimiser on the upper layer's weights of the up projection. -/

@[expose] public section

noncomputable section

open Idealize.ShloMosaic Idealize.ShloMosaic.TcCoe Idealize.SL.Sem
open Cert.Kernel20Ideal Cert.Kernel20Ideal.Gen Cert.Reference20Ideal.Read Cert.Kernel20Ideal.Value Cert.Proof.Prod.Adam

namespace Cert.Proof.Prod.OptUp

theorem zero3 : (![0, 0, 0] : Fin 3 → Nat) = fun _ => 0 := funext fun a => by fin_cases a <;> rfl

section Pay

variable (g : FVec Ideal S256x704 .f32) (w m v : Vec Ideal S1x256x704 .f32) (p : Fin 1) (r : Fin 256) (k : Fin 704)

/-- The sum over the devices of a block's parts. -/
theorem gpay (v0 v3 v7 v11 v15 v19 v23 v27 : Vec Ideal S1x256x704 .bf16) :
    (k0_pay2 (F := Ideal) v0 v3 v7 v11 v15 v19 v23 v27 (ix2 r k) : EReal)
      = v0 (ix3 0 r k) + v3 (ix3 0 r k) + v7 (ix3 0 r k) + v11 (ix3 0 r k) + v15 (ix3 0 r k) + v19 (ix3 0 r k) + v23 (ix3 0 r k) + v27 (ix3 0 r k) := by
  unfold k0_pay2
  pointwise

theorem gout : (k0_pay3 (F := Ideal) g (ix3 p r k) : EReal) = g (ix2 r k) := by
  unfold k0_pay3
  pointwise

theorem mpay :
    (k0_pay4 (F := Ideal) g m (ix2 r k) : EReal) = mnew (g (ix2 r k)) (m (ix3 0 r k)) := by
  unfold k0_pay4 mnew
  pointwise

theorem vpay :
    (k0_pay5 (F := Ideal) g v (ix2 r k) : EReal) = vnew (g (ix2 r k)) (v (ix3 0 r k)) := by
  unfold k0_pay5 vnew
  pointwise

theorem mout :
    (k0_pay6 (F := Ideal) g m (ix3 p r k) : EReal) = mnew (g (ix2 r k)) (m (ix3 0 r k)) := by
  unfold k0_pay6
  rw [← mpay]
  generalize k0_pay4 (F := Ideal) g m = a
  pointwise

theorem vout :
    (k0_pay7 (F := Ideal) g v (ix3 p r k) : EReal) = vnew (g (ix2 r k)) (v (ix3 0 r k)) := by
  unfold k0_pay7
  rw [← vpay]
  generalize k0_pay5 (F := Ideal) g v = a
  pointwise

theorem dout :
    (k0_pay1 (F := Ideal) (k0_pay8 (F := Ideal) g m v) (k0_pay9 (F := Ideal) w) (k0_pay10 (F := Ideal)) (ix3 p r k) : EReal)
      = step (g (ix2 r k)) (w (ix3 0 r k)) (m (ix3 0 r k)) (v (ix3 0 r k)) := by
  unfold step
  rw [← mpay, ← vpay]
  unfold k0_pay1 k0_pay8 k0_pay9 k0_pay10
  generalize k0_pay4 (F := Ideal) g m = a
  generalize k0_pay5 (F := Ideal) g v = b
  pointwise

end Pay

/-- The load of one device's part. -/
theorem part (x : Vec Ideal S8x256x704 .bf16) (d : ℕ) (hd : d < 8) (inb) (r : Fin 256) (k : Fin 704) :
    (View.ld x (Rect.unit (s := S8x256x704) ![d, 0, 0] S1x256x704.size inb) (ix3 0 r k) : EReal) = x (ix3 (⟨d, hd⟩ : Fin 8) r k) :=
  congrArg x (funext fun a => Fin.ext (by
    match a with
    | ⟨0, _⟩ => rfl
    | ⟨1, _⟩ => show 0 + 1 * r.val = r.val; omega
    | ⟨2, _⟩ => show 0 + 1 * k.val = k.val; omega))

/-- The sum of a block's eight parts. -/
def gsum (x : Vec Ideal S8x256x704 .bf16) : FVec Ideal S256x704 .f32 :=
  k0_pay2 (F := Ideal)
    (View.ld x (Rect.unit (s := S8x256x704) ![0, 0, 0] S1x256x704.size inb_S8x256x704_S1x256x704_0_0_0))
    (View.ld x (Rect.unit (s := S8x256x704) ![1, 0, 0] S1x256x704.size inb_S8x256x704_S1x256x704_1_0_0))
    (View.ld x (Rect.unit (s := S8x256x704) ![2, 0, 0] S1x256x704.size inb_S8x256x704_S1x256x704_2_0_0))
    (View.ld x (Rect.unit (s := S8x256x704) ![3, 0, 0] S1x256x704.size inb_S8x256x704_S1x256x704_3_0_0))
    (View.ld x (Rect.unit (s := S8x256x704) ![4, 0, 0] S1x256x704.size inb_S8x256x704_S1x256x704_4_0_0))
    (View.ld x (Rect.unit (s := S8x256x704) ![5, 0, 0] S1x256x704.size inb_S8x256x704_S1x256x704_5_0_0))
    (View.ld x (Rect.unit (s := S8x256x704) ![6, 0, 0] S1x256x704.size inb_S8x256x704_S1x256x704_6_0_0))
    (View.ld x (Rect.unit (s := S8x256x704) ![7, 0, 0] S1x256x704.size inb_S8x256x704_S1x256x704_7_0_0))

theorem gsum_at (x : Vec Ideal S8x256x704 .bf16) (r : Fin 256) (k : Fin 704) : (gsum x (ix2 r k) : EReal) = ∑ d : Fin 8, (x (ix3 d r k) : EReal) := by
  unfold gsum
  rw [gpay, part x 0 (by omega), part x 1 (by omega), part x 2 (by omega), part x 3 (by omega), part x 4 (by omega), part x 5 (by omega),
    part x 6 (by omega), part x 7 (by omega), Fin.sum_univ_eight]
  rfl

section Cases

variable (c : Dev nD) (i : grid0.Coords)
  (a1 : Memref sig .tc .vmem S8x256x704 .bf16) (h1 : a1.IsWhole)
  (a2 : Memref sig .tc .vmem S1x256x704 .f32) (h2 : a2.IsWhole)
  (a3 : Memref sig .tc .vmem S1x256x704 .f32) (h3 : a3.IsWhole)
  (a4 : Memref sig .tc .vmem S1x256x704 .f32) (h4 : a4.IsWhole)
  (a9 : Memref sig .tc .vmem S1x256x704 .f32) (h9 : a9.IsWhole)
  (a10 : Memref sig .tc .vmem S1x256x704 .f32) (h10 : a10.IsWhole)
  (a11 : Memref sig .tc .vmem S1x256x704 .f32) (h11 : a11.IsWhole)
  (a12 : Memref sig .tc .vmem S1x256x704 .f32) (h12 : a12.IsWhole)
  (x : Vec Ideal S8x256x704 .bf16) (w m v : Vec Ideal S1x256x704 .f32)

theorem tile4 : out0_A_4 c i a1 h1 a2 h2 a3 h3 a4 h4 a9 h9 a10 h10 a11 h11 a12 h12 x w m v = k0_pay3 (F := Ideal) (gsum x) := by
  unfold out0_A_4 gsum
  rw [View.read_writes_eq_canon _ _ _ (cover0_A_4 c i a1 h1 a2 h2 a3 h3 a4 h4 a9 h9 a10 h10 a11 h11 a12 h12 x w m v)]
  unfold kernelRun0_A
  dsimp only
  sl_unfold_words
  rw [View.canon_unit_zero (S := S1x256x704) zero3]
  try simp only [View.readAt_eq_ld, h1.read_unread, h2.read_unread, h3.read_unread, h4.read_unread, View.ld_unit_zero (S := S1x256x704) zero3]

theorem tile5 : out0_A_5 c i a1 h1 a2 h2 a3 h3 a4 h4 a9 h9 a10 h10 a11 h11 a12 h12 x w m v = k0_pay1 (F := Ideal) (k0_pay8 (F := Ideal) (gsum x) m v) (k0_pay9 (F := Ideal) w) (k0_pay10 (F := Ideal)) := by
  unfold out0_A_5 gsum
  rw [View.read_writes_eq_canon _ _ _ (cover0_A_5 c i a1 h1 a2 h2 a3 h3 a4 h4 a9 h9 a10 h10 a11 h11 a12 h12 x w m v)]
  unfold kernelRun0_A
  dsimp only
  sl_unfold_words
  rw [View.canon_unit_zero (S := S1x256x704) zero3]
  try simp only [View.readAt_eq_ld, h1.read_unread, h2.read_unread, h3.read_unread, h4.read_unread, View.ld_unit_zero (S := S1x256x704) zero3]

theorem tile6 : out0_A_6 c i a1 h1 a2 h2 a3 h3 a4 h4 a9 h9 a10 h10 a11 h11 a12 h12 x w m v = k0_pay6 (F := Ideal) (gsum x) m := by
  unfold out0_A_6 gsum
  rw [View.read_writes_eq_canon _ _ _ (cover0_A_6 c i a1 h1 a2 h2 a3 h3 a4 h4 a9 h9 a10 h10 a11 h11 a12 h12 x w m v)]
  unfold kernelRun0_A
  dsimp only
  sl_unfold_words
  rw [View.canon_unit_zero (S := S1x256x704) zero3]
  try simp only [View.readAt_eq_ld, h1.read_unread, h2.read_unread, h3.read_unread, h4.read_unread, View.ld_unit_zero (S := S1x256x704) zero3]

theorem tile7 : out0_A_7 c i a1 h1 a2 h2 a3 h3 a4 h4 a9 h9 a10 h10 a11 h11 a12 h12 x w m v = k0_pay7 (F := Ideal) (gsum x) v := by
  unfold out0_A_7 gsum
  rw [View.read_writes_eq_canon _ _ _ (cover0_A_7 c i a1 h1 a2 h2 a3 h3 a4 h4 a9 h9 a10 h10 a11 h11 a12 h12 x w m v)]
  unfold kernelRun0_A
  dsimp only
  sl_unfold_words
  rw [View.canon_unit_zero (S := S1x256x704) zero3]
  try simp only [View.readAt_eq_ld, h1.read_unread, h2.read_unread, h3.read_unread, h4.read_unread, View.ld_unit_zero (S := S1x256x704) zero3]

end Cases

variable (m : (ℓ : Loc nD τ sig) → Buf (Elt Ideal) ℓ) (c : Dev nD)

/-- The arrays as launched. -/
abbrev x0 : FVec Ideal S8x1024x704 .f32 := m ((c : Thread nD τ).loc main_arg0)
abbrev w0 : FVec Ideal S2x1024x704 .f32 := m ((c : Thread nD τ).loc main_arg1)
abbrev m0 : FVec Ideal S2x1024x704 .f32 := m ((c : Thread nD τ).loc main_arg2)
abbrev v0 : FVec Ideal S2x1024x704 .f32 := m ((c : Thread nD τ).loc main_arg3)
abbrev ga : FVec Ideal S2x1024x704 .f32 := m ((c : Thread nD τ).loc main_arg4)
abbrev da : FVec Ideal S2x1024x704 .f32 := m ((c : Thread nD τ).loc main_arg5)
abbrev ma : FVec Ideal S2x1024x704 .f32 := m ((c : Thread nD τ).loc main_arg6)
abbrev va : FVec Ideal S2x1024x704 .f32 := m ((c : Thread nD τ).loc main_arg7)

theorem V_v0 : (V m c main_v0 : FVec Ideal S8x1024x704 .bf16) = truncf .bf16 (x0 m c) bitsLt_bf16_f32 := by
  after_reads_simp

/-- A row of the array is a row of one block. -/
theorem cell (R : Fin 1024) : ∃ (t : Fin cfg0.N) (r : Fin 256), 256 * t.val + r.val = R.val := by
  have hRl := R.isLt
  have hN : cfg0.N = 4 := N_0
  refine ⟨⟨R.val / 256, by rw [hN]; omega⟩, ⟨R.val % 256, Nat.mod_lt _ (by decide)⟩, ?_⟩
  dsimp only
  omega

section Blk

variable (t : Fin cfg0.N) (r : Fin 256) (R : Fin 1024) (hR : 256 * t.val + r.val = R.val) (k : Fin 704)
include hR

theorem blk0 (d : Fin 8) :
    ((iblk m c 0 t : FVec Ideal S8x256x704 .bf16) (ix3 d r k) : EReal) = x0 m c (ix3 d R k) := by
  have hi : win0_0.index t 0 = 0 ∧ win0_0.index t 1 = t.val ∧ win0_0.index t 2 = 0 := by clear hR; revert t; decide +kernel
  unfold iblk
  rw [View.read_apply]
  show V m c main_v0 _ = x0 m c _
  rw [V_v0]
  show x0 m c _ = x0 m c _
  refine congrArg _ (ixeq3 _ _ _ _ ?_ ?_ ?_)
  · show win0_0.index t 0 * 8 + 1 * d.val = d.val; rw [hi.1]; omega
  · show win0_0.index t 1 * 256 + 1 * r.val = R.val; rw [hi.2.1]; omega
  · show win0_0.index t 2 * 704 + 1 * k.val = k.val; rw [hi.2.2]; omega

theorem blk1 :
    ((iblk m c 1 t : FVec Ideal S1x256x704 .f32) (ix3 0 r k) : EReal) = w0 m c (ix3 1 R k) := by
  have hi : win0_1.index t 0 = 1 ∧ win0_1.index t 1 = t.val ∧ win0_1.index t 2 = 0 := by clear hR; revert t; decide +kernel
  unfold iblk
  rw [View.read_apply]
  show V m c main_arg1 _ = w0 m c _
  rw [V_main_arg1]
  refine congrArg _ (ixeq3 _ _ _ _ ?_ ?_ ?_)
  · show win0_1.index t 0 * 1 + 1 * 0 = 1; rw [hi.1]
  · show win0_1.index t 1 * 256 + 1 * r.val = R.val; rw [hi.2.1]; omega
  · show win0_1.index t 2 * 704 + 1 * k.val = k.val; rw [hi.2.2]; omega

theorem blk2 :
    ((iblk m c 2 t : FVec Ideal S1x256x704 .f32) (ix3 0 r k) : EReal) = m0 m c (ix3 1 R k) := by
  have hi : win0_2.index t 0 = 1 ∧ win0_2.index t 1 = t.val ∧ win0_2.index t 2 = 0 := by clear hR; revert t; decide +kernel
  unfold iblk
  rw [View.read_apply]
  show V m c main_arg2 _ = m0 m c _
  rw [V_main_arg2]
  refine congrArg _ (ixeq3 _ _ _ _ ?_ ?_ ?_)
  · show win0_2.index t 0 * 1 + 1 * 0 = 1; rw [hi.1]
  · show win0_2.index t 1 * 256 + 1 * r.val = R.val; rw [hi.2.1]; omega
  · show win0_2.index t 2 * 704 + 1 * k.val = k.val; rw [hi.2.2]; omega

theorem blk3 :
    ((iblk m c 3 t : FVec Ideal S1x256x704 .f32) (ix3 0 r k) : EReal) = v0 m c (ix3 1 R k) := by
  have hi : win0_3.index t 0 = 1 ∧ win0_3.index t 1 = t.val ∧ win0_3.index t 2 = 0 := by clear hR; revert t; decide +kernel
  unfold iblk
  rw [View.read_apply]
  show V m c main_arg3 _ = v0 m c _
  rw [V_main_arg3]
  refine congrArg _ (ixeq3 _ _ _ _ ?_ ?_ ?_)
  · show win0_3.index t 0 * 1 + 1 * 0 = 1; rw [hi.1]
  · show win0_3.index t 1 * 256 + 1 * r.val = R.val; rw [hi.2.1]; omega
  · show win0_3.index t 2 * 704 + 1 * k.val = k.val; rw [hi.2.2]; omega

end Blk

/-- The gradient summed over the devices. -/
def gr (x : FVec Ideal S8x1024x704 .f32) (R : Fin 1024) (k : Fin 704) : EReal := ∑ d : Fin 8, (x (ix3 d R k) : EReal)

theorem gblk (t : Fin cfg0.N) (r : Fin 256) (R : Fin 1024) (hR : 256 * t.val + r.val = R.val) (k : Fin 704) :
    (gsum (iblk m c 0 t) (ix2 r k) : EReal) = gr (x0 m c) R k := by
  rw [gsum_at]
  exact Finset.sum_congr rfl fun d _ => blk0 m c t r R hR k d

theorem V_v1_0 : (V m c main_v1_0 : FVec Ideal S2x1024x704 .f32) = ga m c := by
  after_reads_simp
  try rfl

/-- The upper half of result 0: what the call writes. -/
theorem hi4 (R : Fin 1024) (k : Fin 704) : ((dats m 0 c).arrAt 4 cfg0.N (ix3 1 R k) : EReal) = gr (x0 m c) R k := by
  obtain ⟨t, r, hR⟩ := cell R
  have hi : ∀ t : Fin cfg0.N, win0_4.index t 0 = 1 ∧ win0_4.index t 1 = t.val ∧ win0_4.index t 2 = 0 := by decide +kernel
  have e := congrFun (blocks4 m c t (flush0_4 t)) (ix3 (0 : Fin 1) r k)
  rw [View.read_apply, flushed4_A, tile4] at e
  have eo := gout (gsum (iblk m c 0 t)) (0 : Fin 1) r k
  rw [gblk m c t r R hR k] at eo
  refine Eq.trans ?_ (e.trans eo)
  refine congrArg ((dats m 0 c).arrAt 4 cfg0.N) (ixeq3 _ _ _ _ ?_ ?_ ?_).symm
  · show win0_4.index t 0 * 1 + 1 * 0 = 1; rw [(hi t).1]
  · show win0_4.index t 1 * 256 + 1 * r.val = R.val; rw [(hi t).2.1]; omega
  · show win0_4.index t 2 * 704 + 1 * k.val = k.val; rw [(hi t).2.2]; omega

/-- The lower half of result 0: what the array held before. -/
theorem lo4 (R : Fin 1024) (k : Fin 704) : ((dats m 0 c).arrAt 4 cfg0.N (ix3 0 R k) : EReal) = ga m c (ix3 0 R k) := by
  rw [entry4 m c (ix3 0 R k) ?_]
  · show (V m c main_v1_0 : FVec Ideal S2x1024x704 .f32) _ = _
    rw [V_v1_0]
  · intro t _ hm
    have hi : win0_4.index t 0 = 1 := by clear hm; revert t; decide +kernel
    have hm' : (ix3 0 R k : main_v1_0.ty.Idx) ∈ ((View.whole main_v1_0).slice (win0_4.rect t)).set := hm
    rw [View.set_slice_whole, Rect.mem_set_unit] at hm'
    have h0 := (hm' 0).1
    have h1 : win0_4.index t 0 * 1 ≤ 0 := h0
    rw [hi] at h1
    omega

theorem V_v1_1 : (V m c main_v1_1 : FVec Ideal S2x1024x704 .f32) = da m c := by
  after_reads_simp
  try rfl

/-- The upper half of result 1: what the call writes. -/
theorem hi5 (R : Fin 1024) (k : Fin 704) : ((dats m 0 c).arrAt 5 cfg0.N (ix3 1 R k) : EReal) = step (gr (x0 m c) R k) (w0 m c (ix3 1 R k)) (m0 m c (ix3 1 R k)) (v0 m c (ix3 1 R k)) := by
  obtain ⟨t, r, hR⟩ := cell R
  have hi : ∀ t : Fin cfg0.N, win0_5.index t 0 = 1 ∧ win0_5.index t 1 = t.val ∧ win0_5.index t 2 = 0 := by decide +kernel
  have e := congrFun (blocks5 m c t (flush0_5 t)) (ix3 (0 : Fin 1) r k)
  rw [View.read_apply, flushed5_A, tile5] at e
  have eo := dout (gsum (iblk m c 0 t)) (iblk m c 1 t) (iblk m c 2 t) (iblk m c 3 t) (0 : Fin 1) r k
  rw [gblk m c t r R hR k, blk1 m c t r R hR k, blk2 m c t r R hR k, blk3 m c t r R hR k] at eo
  refine Eq.trans ?_ (e.trans eo)
  refine congrArg ((dats m 0 c).arrAt 5 cfg0.N) (ixeq3 _ _ _ _ ?_ ?_ ?_).symm
  · show win0_5.index t 0 * 1 + 1 * 0 = 1; rw [(hi t).1]
  · show win0_5.index t 1 * 256 + 1 * r.val = R.val; rw [(hi t).2.1]; omega
  · show win0_5.index t 2 * 704 + 1 * k.val = k.val; rw [(hi t).2.2]; omega

/-- The lower half of result 1: what the array held before. -/
theorem lo5 (R : Fin 1024) (k : Fin 704) : ((dats m 0 c).arrAt 5 cfg0.N (ix3 0 R k) : EReal) = da m c (ix3 0 R k) := by
  rw [entry5 m c (ix3 0 R k) ?_]
  · show (V m c main_v1_1 : FVec Ideal S2x1024x704 .f32) _ = _
    rw [V_v1_1]
  · intro t _ hm
    have hi : win0_5.index t 0 = 1 := by clear hm; revert t; decide +kernel
    have hm' : (ix3 0 R k : main_v1_1.ty.Idx) ∈ ((View.whole main_v1_1).slice (win0_5.rect t)).set := hm
    rw [View.set_slice_whole, Rect.mem_set_unit] at hm'
    have h0 := (hm' 0).1
    have h1 : win0_5.index t 0 * 1 ≤ 0 := h0
    rw [hi] at h1
    omega

theorem V_v1_2 : (V m c main_v1_2 : FVec Ideal S2x1024x704 .f32) = ma m c := by
  after_reads_simp
  try rfl

/-- The upper half of result 2: what the call writes. -/
theorem hi6 (R : Fin 1024) (k : Fin 704) : ((dats m 0 c).arrAt 6 cfg0.N (ix3 1 R k) : EReal) = mnew (gr (x0 m c) R k) (m0 m c (ix3 1 R k)) := by
  obtain ⟨t, r, hR⟩ := cell R
  have hi : ∀ t : Fin cfg0.N, win0_6.index t 0 = 1 ∧ win0_6.index t 1 = t.val ∧ win0_6.index t 2 = 0 := by decide +kernel
  have e := congrFun (blocks6 m c t (flush0_6 t)) (ix3 (0 : Fin 1) r k)
  rw [View.read_apply, flushed6_A, tile6] at e
  have eo := mout (gsum (iblk m c 0 t)) (iblk m c 2 t) (0 : Fin 1) r k
  rw [gblk m c t r R hR k, blk2 m c t r R hR k] at eo
  refine Eq.trans ?_ (e.trans eo)
  refine congrArg ((dats m 0 c).arrAt 6 cfg0.N) (ixeq3 _ _ _ _ ?_ ?_ ?_).symm
  · show win0_6.index t 0 * 1 + 1 * 0 = 1; rw [(hi t).1]
  · show win0_6.index t 1 * 256 + 1 * r.val = R.val; rw [(hi t).2.1]; omega
  · show win0_6.index t 2 * 704 + 1 * k.val = k.val; rw [(hi t).2.2]; omega

/-- The lower half of result 2: what the array held before. -/
theorem lo6 (R : Fin 1024) (k : Fin 704) : ((dats m 0 c).arrAt 6 cfg0.N (ix3 0 R k) : EReal) = ma m c (ix3 0 R k) := by
  rw [entry6 m c (ix3 0 R k) ?_]
  · show (V m c main_v1_2 : FVec Ideal S2x1024x704 .f32) _ = _
    rw [V_v1_2]
  · intro t _ hm
    have hi : win0_6.index t 0 = 1 := by clear hm; revert t; decide +kernel
    have hm' : (ix3 0 R k : main_v1_2.ty.Idx) ∈ ((View.whole main_v1_2).slice (win0_6.rect t)).set := hm
    rw [View.set_slice_whole, Rect.mem_set_unit] at hm'
    have h0 := (hm' 0).1
    have h1 : win0_6.index t 0 * 1 ≤ 0 := h0
    rw [hi] at h1
    omega

theorem V_v1_3 : (V m c main_v1_3 : FVec Ideal S2x1024x704 .f32) = va m c := by
  after_reads_simp
  try rfl

/-- The upper half of result 3: what the call writes. -/
theorem hi7 (R : Fin 1024) (k : Fin 704) : ((dats m 0 c).arrAt 7 cfg0.N (ix3 1 R k) : EReal) = vnew (gr (x0 m c) R k) (v0 m c (ix3 1 R k)) := by
  obtain ⟨t, r, hR⟩ := cell R
  have hi : ∀ t : Fin cfg0.N, win0_7.index t 0 = 1 ∧ win0_7.index t 1 = t.val ∧ win0_7.index t 2 = 0 := by decide +kernel
  have e := congrFun (blocks7 m c t (flush0_7 t)) (ix3 (0 : Fin 1) r k)
  rw [View.read_apply, flushed7_A, tile7] at e
  have eo := vout (gsum (iblk m c 0 t)) (iblk m c 3 t) (0 : Fin 1) r k
  rw [gblk m c t r R hR k, blk3 m c t r R hR k] at eo
  refine Eq.trans ?_ (e.trans eo)
  refine congrArg ((dats m 0 c).arrAt 7 cfg0.N) (ixeq3 _ _ _ _ ?_ ?_ ?_).symm
  · show win0_7.index t 0 * 1 + 1 * 0 = 1; rw [(hi t).1]
  · show win0_7.index t 1 * 256 + 1 * r.val = R.val; rw [(hi t).2.1]; omega
  · show win0_7.index t 2 * 704 + 1 * k.val = k.val; rw [(hi t).2.2]; omega

/-- The lower half of result 3: what the array held before. -/
theorem lo7 (R : Fin 1024) (k : Fin 704) : ((dats m 0 c).arrAt 7 cfg0.N (ix3 0 R k) : EReal) = va m c (ix3 0 R k) := by
  rw [entry7 m c (ix3 0 R k) ?_]
  · show (V m c main_v1_3 : FVec Ideal S2x1024x704 .f32) _ = _
    rw [V_v1_3]
  · intro t _ hm
    have hi : win0_7.index t 0 = 1 := by clear hm; revert t; decide +kernel
    have hm' : (ix3 0 R k : main_v1_3.ty.Idx) ∈ ((View.whole main_v1_3).slice (win0_7.rect t)).set := hm
    rw [View.set_slice_whole, Rect.mem_set_unit] at hm'
    have h0 := (hm' 0).1
    have h1 : win0_7.index t 0 * 1 ≤ 0 := h0
    rw [hi] at h1
    omega

section Ref

variable (x : FVec Ideal S8x1024x704 .f32) (w y z u : FVec Ideal S2x1024x704 .f32) (R : Fin 1024) (k : Fin 704)

theorem rg : (val_main_v0 (F := Ideal) x (ix2 R k) : EReal) = gr x R k := by
  unfold val_main_v0 val_main_cst gr
  pointwise
  try simp [Ideal.ofBits, Ideal.ieee]

theorem pw : (val_main_v2 (F := Ideal) w (ix2 R k) : EReal) = w (ix3 1 R k) := by
  unfold val_main_v2 val_main_v1
  pointwise

theorem pm : (val_main_v4 (F := Ideal) y (ix2 R k) : EReal) = y (ix3 1 R k) := by
  unfold val_main_v4 val_main_v3
  pointwise

theorem pv : (val_main_v6 (F := Ideal) z (ix2 R k) : EReal) = z (ix3 1 R k) := by
  unfold val_main_v6 val_main_v5
  pointwise

theorem rm : (val_main_v11 (F := Ideal) x y (ix2 R k) : EReal) = mnew (gr x R k) (y (ix3 1 R k)) := by
  rw [← rg x R k, ← pm y R k]
  unfold val_main_v11 val_main_v10 val_main_v9 val_main_v8 val_main_v7 val_main_cst_0 val_main_cst_1 mnew
  generalize val_main_v0 (F := Ideal) x = g
  generalize val_main_v4 (F := Ideal) y = a
  pointwise

theorem rv : (val_main_v17 (F := Ideal) x z (ix2 R k) : EReal) = vnew (gr x R k) (z (ix3 1 R k)) := by
  rw [← rg x R k, ← pv z R k]
  unfold val_main_v17 val_main_v16 val_main_v15 val_main_v14 val_main_v13 val_main_v12 val_main_cst_2 val_main_cst_3 vnew
  generalize val_main_v0 (F := Ideal) x = g
  generalize val_main_v6 (F := Ideal) z = a
  pointwise

theorem rd : (val_main_v30 (F := Ideal) x w y z (ix2 R k) : EReal)
    = step (gr x R k) (w (ix3 1 R k)) (y (ix3 1 R k)) (z (ix3 1 R k)) := by
  unfold step
  rw [← rm, ← rv, ← pw w R k]
  unfold val_main_v30 val_main_v29 val_main_v28 val_main_v27 val_main_v26 val_main_v25 val_main_v24 val_main_v23 val_main_v22 val_main_v21 val_main_v20 val_main_v19 val_main_v18 val_main_cst_4 val_main_cst_5 val_main_cst_6 val_main_cst_7 val_main_cst_8
  generalize val_main_v11 (F := Ideal) x y = a
  generalize val_main_v17 (F := Ideal) x z = b
  generalize val_main_v2 (F := Ideal) w = e
  pointwise

/-- Two halves put together. -/
theorem halves (p q : FVec Ideal Cert.Reference20Ideal.S1x1024x704 .f32) (l : Fin 2) (hc) :
    (concatenate S2x1024x704 0 [⟨Cert.Reference20Ideal.S1x1024x704, p⟩, ⟨Cert.Reference20Ideal.S1x1024x704, q⟩] hc (ix3 l R k) : EReal)
      = if l = 0 then p (ix3 0 R k) else q (ix3 0 R k) := by
  fin_cases l <;> pointwise

theorem rlo4 : (val_main_v35 (F := Ideal) x u (ix3 0 R k) : EReal) = u (ix3 0 R k) := by
  unfold val_main_v35
  rw [halves, if_pos rfl]
  unfold val_main_v33 val_main_v32 val_main_v31
  pointwise

theorem rhi4 : (val_main_v35 (F := Ideal) x u (ix3 1 R k) : EReal) = gr x R k := by
  unfold val_main_v35
  rw [halves, if_neg (by decide), ← rg]
  unfold val_main_v34
  generalize val_main_v0 (F := Ideal) x = a
  pointwise

theorem rlo5 : (val_main_v40 (F := Ideal) x w y z u (ix3 0 R k) : EReal) = u (ix3 0 R k) := by
  unfold val_main_v40
  rw [halves, if_pos rfl]
  unfold val_main_v38 val_main_v37 val_main_v36
  pointwise

theorem rhi5 : (val_main_v40 (F := Ideal) x w y z u (ix3 1 R k) : EReal) = step (gr x R k) (w (ix3 1 R k)) (y (ix3 1 R k)) (z (ix3 1 R k)) := by
  unfold val_main_v40
  rw [halves, if_neg (by decide), ← rd]
  unfold val_main_v39
  generalize val_main_v30 (F := Ideal) x w y z = a
  pointwise

theorem rlo6 : (val_main_v45 (F := Ideal) x y u (ix3 0 R k) : EReal) = u (ix3 0 R k) := by
  unfold val_main_v45
  rw [halves, if_pos rfl]
  unfold val_main_v43 val_main_v42 val_main_v41
  pointwise

theorem rhi6 : (val_main_v45 (F := Ideal) x y u (ix3 1 R k) : EReal) = mnew (gr x R k) (y (ix3 1 R k)) := by
  unfold val_main_v45
  rw [halves, if_neg (by decide), ← rm]
  unfold val_main_v44
  generalize val_main_v11 (F := Ideal) x y = a
  pointwise

theorem rlo7 : (val_main_v50 (F := Ideal) x z u (ix3 0 R k) : EReal) = u (ix3 0 R k) := by
  unfold val_main_v50
  rw [halves, if_pos rfl]
  unfold val_main_v48 val_main_v47 val_main_v46
  pointwise

theorem rhi7 : (val_main_v50 (F := Ideal) x z u (ix3 1 R k) : EReal) = vnew (gr x R k) (z (ix3 1 R k)) := by
  unfold val_main_v50
  rw [halves, if_neg (by decide), ← rv]
  unfold val_main_v49
  generalize val_main_v17 (F := Ideal) x z = a
  pointwise

end Ref

theorem gequal : ((dats m 0 c).arrAt 4 cfg0.N : FVec Ideal S2x1024x704 .f32) = val_main_v35 (F := Ideal) (x0 m c) (ga m c) := by
  funext i
  obtain ⟨l, R, k, rfl⟩ : ∃ l R k, i = ix3 l R k := ⟨i 0, i 1, i 2, eq_ix3 i⟩
  match l with
  | ⟨0, _⟩ => exact (lo4 m c R k).trans (rlo4 _ _ R k).symm
  | ⟨1, _⟩ => exact (hi4 m c R k).trans (rhi4 _ _ R k).symm

theorem dequal : ((dats m 0 c).arrAt 5 cfg0.N : FVec Ideal S2x1024x704 .f32) = val_main_v40 (F := Ideal) (x0 m c) (w0 m c) (m0 m c) (v0 m c) (da m c) := by
  funext i
  obtain ⟨l, R, k, rfl⟩ : ∃ l R k, i = ix3 l R k := ⟨i 0, i 1, i 2, eq_ix3 i⟩
  match l with
  | ⟨0, _⟩ => exact (lo5 m c R k).trans (rlo5 _ _ _ _ _ R k).symm
  | ⟨1, _⟩ => exact (hi5 m c R k).trans (rhi5 _ _ _ _ _ R k).symm

theorem mequal : ((dats m 0 c).arrAt 6 cfg0.N : FVec Ideal S2x1024x704 .f32) = val_main_v45 (F := Ideal) (x0 m c) (m0 m c) (ma m c) := by
  funext i
  obtain ⟨l, R, k, rfl⟩ : ∃ l R k, i = ix3 l R k := ⟨i 0, i 1, i 2, eq_ix3 i⟩
  match l with
  | ⟨0, _⟩ => exact (lo6 m c R k).trans (rlo6 _ _ _ R k).symm
  | ⟨1, _⟩ => exact (hi6 m c R k).trans (rhi6 _ _ _ R k).symm

theorem vequal : ((dats m 0 c).arrAt 7 cfg0.N : FVec Ideal S2x1024x704 .f32) = val_main_v50 (F := Ideal) (x0 m c) (v0 m c) (va m c) := by
  funext i
  obtain ⟨l, R, k, rfl⟩ : ∃ l R k, i = ix3 l R k := ⟨i 0, i 1, i 2, eq_ix3 i⟩
  match l with
  | ⟨0, _⟩ => exact (lo7 m c R k).trans (rlo7 _ _ _ R k).symm
  | ⟨1, _⟩ => exact (hi7 m c R k).trans (rhi7 _ _ _ R k).symm

end Cert.Proof.Prod.OptUp
-- ==== Proof.Prod.OptDown.lean ====
module

public import proofs.«01_k».proof.Proof.Gen.Kernel21Ideal.Value
public import proofs.«01_k».proof.Proof.Gen.Reference21Ideal.Read
public import proofs.«01_k».proof.Proof.Prod.Adam
public import Idealize.ShloMosaic.Lib.StableHlo.RunRead

/-! The optimiser on the upper layer's weights of the down projection. -/

@[expose] public section

noncomputable section

open Idealize.ShloMosaic Idealize.ShloMosaic.TcCoe Idealize.SL.Sem
open Cert.Kernel21Ideal Cert.Kernel21Ideal.Gen Cert.Reference21Ideal.Read Cert.Kernel21Ideal.Value Cert.Proof.Prod.Adam

namespace Cert.Proof.Prod.OptDown

theorem zero3 : (![0, 0, 0] : Fin 3 → Nat) = fun _ => 0 := funext fun a => by fin_cases a <;> rfl

section Pay

variable (g : FVec Ideal S176x1024 .f32) (w m v : Vec Ideal S1x176x1024 .f32) (p : Fin 1) (r : Fin 176) (k : Fin 1024)

/-- The sum over the devices of a block's parts. -/
theorem gpay (v0 v3 v7 v11 v15 v19 v23 v27 : Vec Ideal S1x176x1024 .bf16) :
    (k0_pay2 (F := Ideal) v0 v3 v7 v11 v15 v19 v23 v27 (ix2 r k) : EReal)
      = v0 (ix3 0 r k) + v3 (ix3 0 r k) + v7 (ix3 0 r k) + v11 (ix3 0 r k) + v15 (ix3 0 r k) + v19 (ix3 0 r k) + v23 (ix3 0 r k) + v27 (ix3 0 r k) := by
  unfold k0_pay2
  pointwise

theorem gout : (k0_pay3 (F := Ideal) g (ix3 p r k) : EReal) = g (ix2 r k) := by
  unfold k0_pay3
  pointwise

theorem mpay :
    (k0_pay4 (F := Ideal) g m (ix2 r k) : EReal) = mnew (g (ix2 r k)) (m (ix3 0 r k)) := by
  unfold k0_pay4 mnew
  pointwise

theorem vpay :
    (k0_pay5 (F := Ideal) g v (ix2 r k) : EReal) = vnew (g (ix2 r k)) (v (ix3 0 r k)) := by
  unfold k0_pay5 vnew
  pointwise

theorem mout :
    (k0_pay6 (F := Ideal) g m (ix3 p r k) : EReal) = mnew (g (ix2 r k)) (m (ix3 0 r k)) := by
  unfold k0_pay6
  rw [← mpay]
  generalize k0_pay4 (F := Ideal) g m = a
  pointwise

theorem vout :
    (k0_pay7 (F := Ideal) g v (ix3 p r k) : EReal) = vnew (g (ix2 r k)) (v (ix3 0 r k)) := by
  unfold k0_pay7
  rw [← vpay]
  generalize k0_pay5 (F := Ideal) g v = a
  pointwise

theorem dout :
    (k0_pay1 (F := Ideal) (k0_pay8 (F := Ideal) g m v) (k0_pay9 (F := Ideal) w) (k0_pay10 (F := Ideal)) (ix3 p r k) : EReal)
      = step (g (ix2 r k)) (w (ix3 0 r k)) (m (ix3 0 r k)) (v (ix3 0 r k)) := by
  unfold step
  rw [← mpay, ← vpay]
  unfold k0_pay1 k0_pay8 k0_pay9 k0_pay10
  generalize k0_pay4 (F := Ideal) g m = a
  generalize k0_pay5 (F := Ideal) g v = b
  pointwise

end Pay

/-- The load of one device's part. -/
theorem part (x : Vec Ideal S8x176x1024 .bf16) (d : ℕ) (hd : d < 8) (inb) (r : Fin 176) (k : Fin 1024) :
    (View.ld x (Rect.unit (s := S8x176x1024) ![d, 0, 0] S1x176x1024.size inb) (ix3 0 r k) : EReal) = x (ix3 (⟨d, hd⟩ : Fin 8) r k) :=
  congrArg x (funext fun a => Fin.ext (by
    match a with
    | ⟨0, _⟩ => rfl
    | ⟨1, _⟩ => show 0 + 1 * r.val = r.val; omega
    | ⟨2, _⟩ => show 0 + 1 * k.val = k.val; omega))

/-- The sum of a block's eight parts. -/
def gsum (x : Vec Ideal S8x176x1024 .bf16) : FVec Ideal S176x1024 .f32 :=
  k0_pay2 (F := Ideal)
    (View.ld x (Rect.unit (s := S8x176x1024) ![0, 0, 0] S1x176x1024.size inb_S8x176x1024_S1x176x1024_0_0_0))
    (View.ld x (Rect.unit (s := S8x176x1024) ![1, 0, 0] S1x176x1024.size inb_S8x176x1024_S1x176x1024_1_0_0))
    (View.ld x (Rect.unit (s := S8x176x1024) ![2, 0, 0] S1x176x1024.size inb_S8x176x1024_S1x176x1024_2_0_0))
    (View.ld x (Rect.unit (s := S8x176x1024) ![3, 0, 0] S1x176x1024.size inb_S8x176x1024_S1x176x1024_3_0_0))
    (View.ld x (Rect.unit (s := S8x176x1024) ![4, 0, 0] S1x176x1024.size inb_S8x176x1024_S1x176x1024_4_0_0))
    (View.ld x (Rect.unit (s := S8x176x1024) ![5, 0, 0] S1x176x1024.size inb_S8x176x1024_S1x176x1024_5_0_0))
    (View.ld x (Rect.unit (s := S8x176x1024) ![6, 0, 0] S1x176x1024.size inb_S8x176x1024_S1x176x1024_6_0_0))
    (View.ld x (Rect.unit (s := S8x176x1024) ![7, 0, 0] S1x176x1024.size inb_S8x176x1024_S1x176x1024_7_0_0))

theorem gsum_at (x : Vec Ideal S8x176x1024 .bf16) (r : Fin 176) (k : Fin 1024) : (gsum x (ix2 r k) : EReal) = ∑ d : Fin 8, (x (ix3 d r k) : EReal) := by
  unfold gsum
  rw [gpay, part x 0 (by omega), part x 1 (by omega), part x 2 (by omega), part x 3 (by omega), part x 4 (by omega), part x 5 (by omega),
    part x 6 (by omega), part x 7 (by omega), Fin.sum_univ_eight]
  rfl

section Cases

variable (c : Dev nD) (i : grid0.Coords)
  (a1 : Memref sig .tc .vmem S8x176x1024 .bf16) (h1 : a1.IsWhole)
  (a2 : Memref sig .tc .vmem S1x176x1024 .f32) (h2 : a2.IsWhole)
  (a3 : Memref sig .tc .vmem S1x176x1024 .f32) (h3 : a3.IsWhole)
  (a4 : Memref sig .tc .vmem S1x176x1024 .f32) (h4 : a4.IsWhole)
  (a9 : Memref sig .tc .vmem S1x176x1024 .f32) (h9 : a9.IsWhole)
  (a10 : Memref sig .tc .vmem S1x176x1024 .f32) (h10 : a10.IsWhole)
  (a11 : Memref sig .tc .vmem S1x176x1024 .f32) (h11 : a11.IsWhole)
  (a12 : Memref sig .tc .vmem S1x176x1024 .f32) (h12 : a12.IsWhole)
  (x : Vec Ideal S8x176x1024 .bf16) (w m v : Vec Ideal S1x176x1024 .f32)

theorem tile4 : out0_A_4 c i a1 h1 a2 h2 a3 h3 a4 h4 a9 h9 a10 h10 a11 h11 a12 h12 x w m v = k0_pay3 (F := Ideal) (gsum x) := by
  unfold out0_A_4 gsum
  rw [View.read_writes_eq_canon _ _ _ (cover0_A_4 c i a1 h1 a2 h2 a3 h3 a4 h4 a9 h9 a10 h10 a11 h11 a12 h12 x w m v)]
  unfold kernelRun0_A
  dsimp only
  sl_unfold_words
  rw [View.canon_unit_zero (S := S1x176x1024) zero3]
  try simp only [View.readAt_eq_ld, h1.read_unread, h2.read_unread, h3.read_unread, h4.read_unread, View.ld_unit_zero (S := S1x176x1024) zero3]

theorem tile5 : out0_A_5 c i a1 h1 a2 h2 a3 h3 a4 h4 a9 h9 a10 h10 a11 h11 a12 h12 x w m v = k0_pay1 (F := Ideal) (k0_pay8 (F := Ideal) (gsum x) m v) (k0_pay9 (F := Ideal) w) (k0_pay10 (F := Ideal)) := by
  unfold out0_A_5 gsum
  rw [View.read_writes_eq_canon _ _ _ (cover0_A_5 c i a1 h1 a2 h2 a3 h3 a4 h4 a9 h9 a10 h10 a11 h11 a12 h12 x w m v)]
  unfold kernelRun0_A
  dsimp only
  sl_unfold_words
  rw [View.canon_unit_zero (S := S1x176x1024) zero3]
  try simp only [View.readAt_eq_ld, h1.read_unread, h2.read_unread, h3.read_unread, h4.read_unread, View.ld_unit_zero (S := S1x176x1024) zero3]

theorem tile6 : out0_A_6 c i a1 h1 a2 h2 a3 h3 a4 h4 a9 h9 a10 h10 a11 h11 a12 h12 x w m v = k0_pay6 (F := Ideal) (gsum x) m := by
  unfold out0_A_6 gsum
  rw [View.read_writes_eq_canon _ _ _ (cover0_A_6 c i a1 h1 a2 h2 a3 h3 a4 h4 a9 h9 a10 h10 a11 h11 a12 h12 x w m v)]
  unfold kernelRun0_A
  dsimp only
  sl_unfold_words
  rw [View.canon_unit_zero (S := S1x176x1024) zero3]
  try simp only [View.readAt_eq_ld, h1.read_unread, h2.read_unread, h3.read_unread, h4.read_unread, View.ld_unit_zero (S := S1x176x1024) zero3]

theorem tile7 : out0_A_7 c i a1 h1 a2 h2 a3 h3 a4 h4 a9 h9 a10 h10 a11 h11 a12 h12 x w m v = k0_pay7 (F := Ideal) (gsum x) v := by
  unfold out0_A_7 gsum
  rw [View.read_writes_eq_canon _ _ _ (cover0_A_7 c i a1 h1 a2 h2 a3 h3 a4 h4 a9 h9 a10 h10 a11 h11 a12 h12 x w m v)]
  unfold kernelRun0_A
  dsimp only
  sl_unfold_words
  rw [View.canon_unit_zero (S := S1x176x1024) zero3]
  try simp only [View.readAt_eq_ld, h1.read_unread, h2.read_unread, h3.read_unread, h4.read_unread, View.ld_unit_zero (S := S1x176x1024) zero3]

end Cases

variable (m : (ℓ : Loc nD τ sig) → Buf (Elt Ideal) ℓ) (c : Dev nD)

/-- The arrays as launched. -/
abbrev x0 : FVec Ideal S8x352x1024 .f32 := m ((c : Thread nD τ).loc main_arg0)
abbrev w0 : FVec Ideal S2x352x1024 .f32 := m ((c : Thread nD τ).loc main_arg1)
abbrev m0 : FVec Ideal S2x352x1024 .f32 := m ((c : Thread nD τ).loc main_arg2)
abbrev v0 : FVec Ideal S2x352x1024 .f32 := m ((c : Thread nD τ).loc main_arg3)
abbrev ga : FVec Ideal S2x352x1024 .f32 := m ((c : Thread nD τ).loc main_arg4)
abbrev da : FVec Ideal S2x352x1024 .f32 := m ((c : Thread nD τ).loc main_arg5)
abbrev ma : FVec Ideal S2x352x1024 .f32 := m ((c : Thread nD τ).loc main_arg6)
abbrev va : FVec Ideal S2x352x1024 .f32 := m ((c : Thread nD τ).loc main_arg7)

theorem V_v0 : (V m c main_v0 : FVec Ideal S8x352x1024 .bf16) = truncf .bf16 (x0 m c) bitsLt_bf16_f32 := by
  after_reads_simp

/-- A row of the array is a row of one block. -/
theorem cell (R : Fin 352) : ∃ (t : Fin cfg0.N) (r : Fin 176), 176 * t.val + r.val = R.val := by
  have hRl := R.isLt
  have hN : cfg0.N = 2 := N_0
  refine ⟨⟨R.val / 176, by rw [hN]; omega⟩, ⟨R.val % 176, Nat.mod_lt _ (by decide)⟩, ?_⟩
  dsimp only
  omega

section Blk

variable (t : Fin cfg0.N) (r : Fin 176) (R : Fin 352) (hR : 176 * t.val + r.val = R.val) (k : Fin 1024)
include hR

theorem blk0 (d : Fin 8) :
    ((iblk m c 0 t : FVec Ideal S8x176x1024 .bf16) (ix3 d r k) : EReal) = x0 m c (ix3 d R k) := by
  have hi : win0_0.index t 0 = 0 ∧ win0_0.index t 1 = t.val ∧ win0_0.index t 2 = 0 := by clear hR; revert t; decide +kernel
  unfold iblk
  rw [View.read_apply]
  show V m c main_v0 _ = x0 m c _
  rw [V_v0]
  show x0 m c _ = x0 m c _
  refine congrArg _ (ixeq3 _ _ _ _ ?_ ?_ ?_)
  · show win0_0.index t 0 * 8 + 1 * d.val = d.val; rw [hi.1]; omega
  · show win0_0.index t 1 * 176 + 1 * r.val = R.val; rw [hi.2.1]; omega
  · show win0_0.index t 2 * 1024 + 1 * k.val = k.val; rw [hi.2.2]; omega

theorem blk1 :
    ((iblk m c 1 t : FVec Ideal S1x176x1024 .f32) (ix3 0 r k) : EReal) = w0 m c (ix3 1 R k) := by
  have hi : win0_1.index t 0 = 1 ∧ win0_1.index t 1 = t.val ∧ win0_1.index t 2 = 0 := by clear hR; revert t; decide +kernel
  unfold iblk
  rw [View.read_apply]
  show V m c main_arg1 _ = w0 m c _
  rw [V_main_arg1]
  refine congrArg _ (ixeq3 _ _ _ _ ?_ ?_ ?_)
  · show win0_1.index t 0 * 1 + 1 * 0 = 1; rw [hi.1]
  · show win0_1.index t 1 * 176 + 1 * r.val = R.val; rw [hi.2.1]; omega
  · show win0_1.index t 2 * 1024 + 1 * k.val = k.val; rw [hi.2.2]; omega

theorem blk2 :
    ((iblk m c 2 t : FVec Ideal S1x176x1024 .f32) (ix3 0 r k) : EReal) = m0 m c (ix3 1 R k) := by
  have hi : win0_2.index t 0 = 1 ∧ win0_2.index t 1 = t.val ∧ win0_2.index t 2 = 0 := by clear hR; revert t; decide +kernel
  unfold iblk
  rw [View.read_apply]
  show V m c main_arg2 _ = m0 m c _
  rw [V_main_arg2]
  refine congrArg _ (ixeq3 _ _ _ _ ?_ ?_ ?_)
  · show win0_2.index t 0 * 1 + 1 * 0 = 1; rw [hi.1]
  · show win0_2.index t 1 * 176 + 1 * r.val = R.val; rw [hi.2.1]; omega
  · show win0_2.index t 2 * 1024 + 1 * k.val = k.val; rw [hi.2.2]; omega

theorem blk3 :
    ((iblk m c 3 t : FVec Ideal S1x176x1024 .f32) (ix3 0 r k) : EReal) = v0 m c (ix3 1 R k) := by
  have hi : win0_3.index t 0 = 1 ∧ win0_3.index t 1 = t.val ∧ win0_3.index t 2 = 0 := by clear hR; revert t; decide +kernel
  unfold iblk
  rw [View.read_apply]
  show V m c main_arg3 _ = v0 m c _
  rw [V_main_arg3]
  refine congrArg _ (ixeq3 _ _ _ _ ?_ ?_ ?_)
  · show win0_3.index t 0 * 1 + 1 * 0 = 1; rw [hi.1]
  · show win0_3.index t 1 * 176 + 1 * r.val = R.val; rw [hi.2.1]; omega
  · show win0_3.index t 2 * 1024 + 1 * k.val = k.val; rw [hi.2.2]; omega

end Blk

/-- The gradient summed over the devices. -/
def gr (x : FVec Ideal S8x352x1024 .f32) (R : Fin 352) (k : Fin 1024) : EReal := ∑ d : Fin 8, (x (ix3 d R k) : EReal)

theorem gblk (t : Fin cfg0.N) (r : Fin 176) (R : Fin 352) (hR : 176 * t.val + r.val = R.val) (k : Fin 1024) :
    (gsum (iblk m c 0 t) (ix2 r k) : EReal) = gr (x0 m c) R k := by
  rw [gsum_at]
  exact Finset.sum_congr rfl fun d _ => blk0 m c t r R hR k d

theorem V_v1_0 : (V m c main_v1_0 : FVec Ideal S2x352x1024 .f32) = ga m c := by
  after_reads_simp
  try rfl

/-- The upper half of result 0: what the call writes. -/
theorem hi4 (R : Fin 352) (k : Fin 1024) : ((dats m 0 c).arrAt 4 cfg0.N (ix3 1 R k) : EReal) = gr (x0 m c) R k := by
  obtain ⟨t, r, hR⟩ := cell R
  have hi : ∀ t : Fin cfg0.N, win0_4.index t 0 = 1 ∧ win0_4.index t 1 = t.val ∧ win0_4.index t 2 = 0 := by decide +kernel
  have e := congrFun (blocks4 m c t (flush0_4 t)) (ix3 (0 : Fin 1) r k)
  rw [View.read_apply, flushed4_A, tile4] at e
  have eo := gout (gsum (iblk m c 0 t)) (0 : Fin 1) r k
  rw [gblk m c t r R hR k] at eo
  refine Eq.trans ?_ (e.trans eo)
  refine congrArg ((dats m 0 c).arrAt 4 cfg0.N) (ixeq3 _ _ _ _ ?_ ?_ ?_).symm
  · show win0_4.index t 0 * 1 + 1 * 0 = 1; rw [(hi t).1]
  · show win0_4.index t 1 * 176 + 1 * r.val = R.val; rw [(hi t).2.1]; omega
  · show win0_4.index t 2 * 1024 + 1 * k.val = k.val; rw [(hi t).2.2]; omega

/-- The lower half of result 0: what the array held before. -/
theorem lo4 (R : Fin 352) (k : Fin 1024) : ((dats m 0 c).arrAt 4 cfg0.N (ix3 0 R k) : EReal) = ga m c (ix3 0 R k) := by
  rw [entry4 m c (ix3 0 R k) ?_]
  · show (V m c main_v1_0 : FVec Ideal S2x352x1024 .f32) _ = _
    rw [V_v1_0]
  · intro t _ hm
    have hi : win0_4.index t 0 = 1 := by clear hm; revert t; decide +kernel
    have hm' : (ix3 0 R k : main_v1_0.ty.Idx) ∈ ((View.whole main_v1_0).slice (win0_4.rect t)).set := hm
    rw [View.set_slice_whole, Rect.mem_set_unit] at hm'
    have h0 := (hm' 0).1
    have h1 : win0_4.index t 0 * 1 ≤ 0 := h0
    rw [hi] at h1
    omega

theorem V_v1_1 : (V m c main_v1_1 : FVec Ideal S2x352x1024 .f32) = da m c := by
  after_reads_simp
  try rfl

/-- The upper half of result 1: what the call writes. -/
theorem hi5 (R : Fin 352) (k : Fin 1024) : ((dats m 0 c).arrAt 5 cfg0.N (ix3 1 R k) : EReal) = step (gr (x0 m c) R k) (w0 m c (ix3 1 R k)) (m0 m c (ix3 1 R k)) (v0 m c (ix3 1 R k)) := by
  obtain ⟨t, r, hR⟩ := cell R
  have hi : ∀ t : Fin cfg0.N, win0_5.index t 0 = 1 ∧ win0_5.index t 1 = t.val ∧ win0_5.index t 2 = 0 := by decide +kernel
  have e := congrFun (blocks5 m c t (flush0_5 t)) (ix3 (0 : Fin 1) r k)
  rw [View.read_apply, flushed5_A, tile5] at e
  have eo := dout (gsum (iblk m c 0 t)) (iblk m c 1 t) (iblk m c 2 t) (iblk m c 3 t) (0 : Fin 1) r k
  rw [gblk m c t r R hR k, blk1 m c t r R hR k, blk2 m c t r R hR k, blk3 m c t r R hR k] at eo
  refine Eq.trans ?_ (e.trans eo)
  refine congrArg ((dats m 0 c).arrAt 5 cfg0.N) (ixeq3 _ _ _ _ ?_ ?_ ?_).symm
  · show win0_5.index t 0 * 1 + 1 * 0 = 1; rw [(hi t).1]
  · show win0_5.index t 1 * 176 + 1 * r.val = R.val; rw [(hi t).2.1]; omega
  · show win0_5.index t 2 * 1024 + 1 * k.val = k.val; rw [(hi t).2.2]; omega

/-- The lower half of result 1: what the array held before. -/
theorem lo5 (R : Fin 352) (k : Fin 1024) : ((dats m 0 c).arrAt 5 cfg0.N (ix3 0 R k) : EReal) = da m c (ix3 0 R k) := by
  rw [entry5 m c (ix3 0 R k) ?_]
  · show (V m c main_v1_1 : FVec Ideal S2x352x1024 .f32) _ = _
    rw [V_v1_1]
  · intro t _ hm
    have hi : win0_5.index t 0 = 1 := by clear hm; revert t; decide +kernel
    have hm' : (ix3 0 R k : main_v1_1.ty.Idx) ∈ ((View.whole main_v1_1).slice (win0_5.rect t)).set := hm
    rw [View.set_slice_whole, Rect.mem_set_unit] at hm'
    have h0 := (hm' 0).1
    have h1 : win0_5.index t 0 * 1 ≤ 0 := h0
    rw [hi] at h1
    omega

theorem V_v1_2 : (V m c main_v1_2 : FVec Ideal S2x352x1024 .f32) = ma m c := by
  after_reads_simp
  try rfl

/-- The upper half of result 2: what the call writes. -/
theorem hi6 (R : Fin 352) (k : Fin 1024) : ((dats m 0 c).arrAt 6 cfg0.N (ix3 1 R k) : EReal) = mnew (gr (x0 m c) R k) (m0 m c (ix3 1 R k)) := by
  obtain ⟨t, r, hR⟩ := cell R
  have hi : ∀ t : Fin cfg0.N, win0_6.index t 0 = 1 ∧ win0_6.index t 1 = t.val ∧ win0_6.index t 2 = 0 := by decide +kernel
  have e := congrFun (blocks6 m c t (flush0_6 t)) (ix3 (0 : Fin 1) r k)
  rw [View.read_apply, flushed6_A, tile6] at e
  have eo := mout (gsum (iblk m c 0 t)) (iblk m c 2 t) (0 : Fin 1) r k
  rw [gblk m c t r R hR k, blk2 m c t r R hR k] at eo
  refine Eq.trans ?_ (e.trans eo)
  refine congrArg ((dats m 0 c).arrAt 6 cfg0.N) (ixeq3 _ _ _ _ ?_ ?_ ?_).symm
  · show win0_6.index t 0 * 1 + 1 * 0 = 1; rw [(hi t).1]
  · show win0_6.index t 1 * 176 + 1 * r.val = R.val; rw [(hi t).2.1]; omega
  · show win0_6.index t 2 * 1024 + 1 * k.val = k.val; rw [(hi t).2.2]; omega

/-- The lower half of result 2: what the array held before. -/
theorem lo6 (R : Fin 352) (k : Fin 1024) : ((dats m 0 c).arrAt 6 cfg0.N (ix3 0 R k) : EReal) = ma m c (ix3 0 R k) := by
  rw [entry6 m c (ix3 0 R k) ?_]
  · show (V m c main_v1_2 : FVec Ideal S2x352x1024 .f32) _ = _
    rw [V_v1_2]
  · intro t _ hm
    have hi : win0_6.index t 0 = 1 := by clear hm; revert t; decide +kernel
    have hm' : (ix3 0 R k : main_v1_2.ty.Idx) ∈ ((View.whole main_v1_2).slice (win0_6.rect t)).set := hm
    rw [View.set_slice_whole, Rect.mem_set_unit] at hm'
    have h0 := (hm' 0).1
    have h1 : win0_6.index t 0 * 1 ≤ 0 := h0
    rw [hi] at h1
    omega

theorem V_v1_3 : (V m c main_v1_3 : FVec Ideal S2x352x1024 .f32) = va m c := by
  after_reads_simp
  try rfl

/-- The upper half of result 3: what the call writes. -/
theorem hi7 (R : Fin 352) (k : Fin 1024) : ((dats m 0 c).arrAt 7 cfg0.N (ix3 1 R k) : EReal) = vnew (gr (x0 m c) R k) (v0 m c (ix3 1 R k)) := by
  obtain ⟨t, r, hR⟩ := cell R
  have hi : ∀ t : Fin cfg0.N, win0_7.index t 0 = 1 ∧ win0_7.index t 1 = t.val ∧ win0_7.index t 2 = 0 := by decide +kernel
  have e := congrFun (blocks7 m c t (flush0_7 t)) (ix3 (0 : Fin 1) r k)
  rw [View.read_apply, flushed7_A, tile7] at e
  have eo := vout (gsum (iblk m c 0 t)) (iblk m c 3 t) (0 : Fin 1) r k
  rw [gblk m c t r R hR k, blk3 m c t r R hR k] at eo
  refine Eq.trans ?_ (e.trans eo)
  refine congrArg ((dats m 0 c).arrAt 7 cfg0.N) (ixeq3 _ _ _ _ ?_ ?_ ?_).symm
  · show win0_7.index t 0 * 1 + 1 * 0 = 1; rw [(hi t).1]
  · show win0_7.index t 1 * 176 + 1 * r.val = R.val; rw [(hi t).2.1]; omega
  · show win0_7.index t 2 * 1024 + 1 * k.val = k.val; rw [(hi t).2.2]; omega

/-- The lower half of result 3: what the array held before. -/
theorem lo7 (R : Fin 352) (k : Fin 1024) : ((dats m 0 c).arrAt 7 cfg0.N (ix3 0 R k) : EReal) = va m c (ix3 0 R k) := by
  rw [entry7 m c (ix3 0 R k) ?_]
  · show (V m c main_v1_3 : FVec Ideal S2x352x1024 .f32) _ = _
    rw [V_v1_3]
  · intro t _ hm
    have hi : win0_7.index t 0 = 1 := by clear hm; revert t; decide +kernel
    have hm' : (ix3 0 R k : main_v1_3.ty.Idx) ∈ ((View.whole main_v1_3).slice (win0_7.rect t)).set := hm
    rw [View.set_slice_whole, Rect.mem_set_unit] at hm'
    have h0 := (hm' 0).1
    have h1 : win0_7.index t 0 * 1 ≤ 0 := h0
    rw [hi] at h1
    omega

section Ref

variable (x : FVec Ideal S8x352x1024 .f32) (w y z u : FVec Ideal S2x352x1024 .f32) (R : Fin 352) (k : Fin 1024)

theorem rg : (val_main_v0 (F := Ideal) x (ix2 R k) : EReal) = gr x R k := by
  unfold val_main_v0 val_main_cst gr
  pointwise
  try simp [Ideal.ofBits, Ideal.ieee]

theorem pw : (val_main_v2 (F := Ideal) w (ix2 R k) : EReal) = w (ix3 1 R k) := by
  unfold val_main_v2 val_main_v1
  pointwise

theorem pm : (val_main_v4 (F := Ideal) y (ix2 R k) : EReal) = y (ix3 1 R k) := by
  unfold val_main_v4 val_main_v3
  pointwise

theorem pv : (val_main_v6 (F := Ideal) z (ix2 R k) : EReal) = z (ix3 1 R k) := by
  unfold val_main_v6 val_main_v5
  pointwise

theorem rm : (val_main_v11 (F := Ideal) x y (ix2 R k) : EReal) = mnew (gr x R k) (y (ix3 1 R k)) := by
  rw [← rg x R k, ← pm y R k]
  unfold val_main_v11 val_main_v10 val_main_v9 val_main_v8 val_main_v7 val_main_cst_0 val_main_cst_1 mnew
  generalize val_main_v0 (F := Ideal) x = g
  generalize val_main_v4 (F := Ideal) y = a
  pointwise

theorem rv : (val_main_v17 (F := Ideal) x z (ix2 R k) : EReal) = vnew (gr x R k) (z (ix3 1 R k)) := by
  rw [← rg x R k, ← pv z R k]
  unfold val_main_v17 val_main_v16 val_main_v15 val_main_v14 val_main_v13 val_main_v12 val_main_cst_2 val_main_cst_3 vnew
  generalize val_main_v0 (F := Ideal) x = g
  generalize val_main_v6 (F := Ideal) z = a
  pointwise

theorem rd : (val_main_v30 (F := Ideal) x w y z (ix2 R k) : EReal)
    = step (gr x R k) (w (ix3 1 R k)) (y (ix3 1 R k)) (z (ix3 1 R k)) := by
  unfold step
  rw [← rm, ← rv, ← pw w R k]
  unfold val_main_v30 val_main_v29 val_main_v28 val_main_v27 val_main_v26 val_main_v25 val_main_v24 val_main_v23 val_main_v22 val_main_v21 val_main_v20 val_main_v19 val_main_v18 val_main_cst_4 val_main_cst_5 val_main_cst_6 val_main_cst_7 val_main_cst_8
  generalize val_main_v11 (F := Ideal) x y = a
  generalize val_main_v17 (F := Ideal) x z = b
  generalize val_main_v2 (F := Ideal) w = e
  pointwise

/-- Two halves put together. -/
theorem halves (p q : FVec Ideal Cert.Reference21Ideal.S1x352x1024 .f32) (l : Fin 2) (hc) :
    (concatenate S2x352x1024 0 [⟨Cert.Reference21Ideal.S1x352x1024, p⟩, ⟨Cert.Reference21Ideal.S1x352x1024, q⟩] hc (ix3 l R k) : EReal)
      = if l = 0 then p (ix3 0 R k) else q (ix3 0 R k) := by
  fin_cases l <;> pointwise

theorem rlo4 : (val_main_v35 (F := Ideal) x u (ix3 0 R k) : EReal) = u (ix3 0 R k) := by
  unfold val_main_v35
  rw [halves, if_pos rfl]
  unfold val_main_v33 val_main_v32 val_main_v31
  pointwise

theorem rhi4 : (val_main_v35 (F := Ideal) x u (ix3 1 R k) : EReal) = gr x R k := by
  unfold val_main_v35
  rw [halves, if_neg (by decide), ← rg]
  unfold val_main_v34
  generalize val_main_v0 (F := Ideal) x = a
  pointwise

theorem rlo5 : (val_main_v40 (F := Ideal) x w y z u (ix3 0 R k) : EReal) = u (ix3 0 R k) := by
  unfold val_main_v40
  rw [halves, if_pos rfl]
  unfold val_main_v38 val_main_v37 val_main_v36
  pointwise

theorem rhi5 : (val_main_v40 (F := Ideal) x w y z u (ix3 1 R k) : EReal) = step (gr x R k) (w (ix3 1 R k)) (y (ix3 1 R k)) (z (ix3 1 R k)) := by
  unfold val_main_v40
  rw [halves, if_neg (by decide), ← rd]
  unfold val_main_v39
  generalize val_main_v30 (F := Ideal) x w y z = a
  pointwise

theorem rlo6 : (val_main_v45 (F := Ideal) x y u (ix3 0 R k) : EReal) = u (ix3 0 R k) := by
  unfold val_main_v45
  rw [halves, if_pos rfl]
  unfold val_main_v43 val_main_v42 val_main_v41
  pointwise

theorem rhi6 : (val_main_v45 (F := Ideal) x y u (ix3 1 R k) : EReal) = mnew (gr x R k) (y (ix3 1 R k)) := by
  unfold val_main_v45
  rw [halves, if_neg (by decide), ← rm]
  unfold val_main_v44
  generalize val_main_v11 (F := Ideal) x y = a
  pointwise

theorem rlo7 : (val_main_v50 (F := Ideal) x z u (ix3 0 R k) : EReal) = u (ix3 0 R k) := by
  unfold val_main_v50
  rw [halves, if_pos rfl]
  unfold val_main_v48 val_main_v47 val_main_v46
  pointwise

theorem rhi7 : (val_main_v50 (F := Ideal) x z u (ix3 1 R k) : EReal) = vnew (gr x R k) (z (ix3 1 R k)) := by
  unfold val_main_v50
  rw [halves, if_neg (by decide), ← rv]
  unfold val_main_v49
  generalize val_main_v17 (F := Ideal) x z = a
  pointwise

end Ref

theorem gequal : ((dats m 0 c).arrAt 4 cfg0.N : FVec Ideal S2x352x1024 .f32) = val_main_v35 (F := Ideal) (x0 m c) (ga m c) := by
  funext i
  obtain ⟨l, R, k, rfl⟩ : ∃ l R k, i = ix3 l R k := ⟨i 0, i 1, i 2, eq_ix3 i⟩
  match l with
  | ⟨0, _⟩ => exact (lo4 m c R k).trans (rlo4 _ _ R k).symm
  | ⟨1, _⟩ => exact (hi4 m c R k).trans (rhi4 _ _ R k).symm

theorem dequal : ((dats m 0 c).arrAt 5 cfg0.N : FVec Ideal S2x352x1024 .f32) = val_main_v40 (F := Ideal) (x0 m c) (w0 m c) (m0 m c) (v0 m c) (da m c) := by
  funext i
  obtain ⟨l, R, k, rfl⟩ : ∃ l R k, i = ix3 l R k := ⟨i 0, i 1, i 2, eq_ix3 i⟩
  match l with
  | ⟨0, _⟩ => exact (lo5 m c R k).trans (rlo5 _ _ _ _ _ R k).symm
  | ⟨1, _⟩ => exact (hi5 m c R k).trans (rhi5 _ _ _ _ _ R k).symm

theorem mequal : ((dats m 0 c).arrAt 6 cfg0.N : FVec Ideal S2x352x1024 .f32) = val_main_v45 (F := Ideal) (x0 m c) (m0 m c) (ma m c) := by
  funext i
  obtain ⟨l, R, k, rfl⟩ : ∃ l R k, i = ix3 l R k := ⟨i 0, i 1, i 2, eq_ix3 i⟩
  match l with
  | ⟨0, _⟩ => exact (lo6 m c R k).trans (rlo6 _ _ _ R k).symm
  | ⟨1, _⟩ => exact (hi6 m c R k).trans (rhi6 _ _ _ R k).symm

theorem vequal : ((dats m 0 c).arrAt 7 cfg0.N : FVec Ideal S2x352x1024 .f32) = val_main_v50 (F := Ideal) (x0 m c) (v0 m c) (va m c) := by
  funext i
  obtain ⟨l, R, k, rfl⟩ : ∃ l R k, i = ix3 l R k := ⟨i 0, i 1, i 2, eq_ix3 i⟩
  match l with
  | ⟨0, _⟩ => exact (lo7 m c R k).trans (rlo7 _ _ _ R k).symm
  | ⟨1, _⟩ => exact (hi7 m c R k).trans (rhi7 _ _ _ R k).symm

end Cert.Proof.Prod.OptDown
-- ==== Proof.Prod.OptSmall.lean ====
module

public import proofs.«01_k».proof.Proof.Gen.Kernel22Ideal.Value
public import proofs.«01_k».proof.Proof.Gen.Reference22Ideal.Read
public import proofs.«01_k».proof.Proof.Prod.Adam
public import Idealize.ShloMosaic.Lib.StableHlo.RunRead

/-! The optimiser on the packed small weights that are sharded. -/

@[expose] public section

noncomputable section

open Idealize.ShloMosaic Idealize.ShloMosaic.TcCoe Idealize.SL.Sem
open Cert.Kernel22Ideal Cert.Kernel22Ideal.Gen Cert.Reference22Ideal.Read Cert.Proof.Prod.Adam

namespace Cert.Proof.Prod.OptSmall

theorem gpay (v0 v2 v5 v8 v11 v14 v17 v20 : Vec Ideal S1x48x1024 .f32) (r : Fin 48) (k : Fin 1024) :
    (k0_pay4 (F := Ideal) v0 v2 v5 v8 v11 v14 v17 v20 (ix2 r k) : EReal)
      = v0 (ix3 0 r k) + v2 (ix3 0 r k) + v5 (ix3 0 r k) + v8 (ix3 0 r k) + v11 (ix3 0 r k) + v14 (ix3 0 r k) + v17 (ix3 0 r k) + v20 (ix3 0 r k) := by
  unfold k0_pay4
  pointwise

theorem mpay (g m : Vec Ideal S48x1024 .f32) (r : Fin 48) (k : Fin 1024) :
    (k0_pay1 (F := Ideal) g (k0_pay5 (F := Ideal) m) (k0_pay6 (F := Ideal)) (ix2 r k) : EReal) = mnew (g (ix2 r k)) (m (ix2 r k)) := by
  unfold k0_pay1 k0_pay5 k0_pay6 mnew
  pointwise

theorem vpay (g v : Vec Ideal S48x1024 .f32) (r : Fin 48) (k : Fin 1024) :
    (k0_pay2 (F := Ideal) g v (ix2 r k) : EReal) = vnew (g (ix2 r k)) (v (ix2 r k)) := by
  unfold k0_pay2 vnew
  pointwise

theorem dpay (g m v w : Vec Ideal S48x1024 .f32) (r : Fin 48) (k : Fin 1024) :
    (k0_pay3 (F := Ideal) g (k0_pay5 (F := Ideal) m) (k0_pay6 (F := Ideal)) v w (ix2 r k) : EReal)
      = step (g (ix2 r k)) (w (ix2 r k)) (m (ix2 r k)) (v (ix2 r k)) := by
  unfold k0_pay3 step
  rw [← mpay, ← vpay]
  generalize k0_pay1 (F := Ideal) g (k0_pay5 (F := Ideal) m) (k0_pay6 (F := Ideal)) = a
  generalize k0_pay2 (F := Ideal) g v = b
  pointwise

theorem rg (x : FVec Ideal S8x48x1024 .f32) (r : Fin 48) (k : Fin 1024) :
    (val_main_v0 (F := Ideal) x (ix2 r k) : EReal) = ∑ d : Fin 8, x (ix3 d r k) := by
  unfold val_main_v0 val_main_cst
  pointwise
  try simp [Ideal.ofBits, Ideal.ieee]

theorem rm (x : FVec Ideal S8x48x1024 .f32) (y : FVec Ideal S48x1024 .f32) (r : Fin 48) (k : Fin 1024) :
    (val_main_v5 (F := Ideal) x y (ix2 r k) : EReal)
      = mnew (val_main_v0 (F := Ideal) x (ix2 r k)) (y (ix2 r k)) := by
  unfold val_main_v5 val_main_v4 val_main_v3
    val_main_v2 val_main_v1 val_main_cst_0 val_main_cst_1 mnew
  generalize val_main_v0 (F := Ideal) x = g
  pointwise

theorem rv (x : FVec Ideal S8x48x1024 .f32) (y : FVec Ideal S48x1024 .f32) (r : Fin 48) (k : Fin 1024) :
    (val_main_v11 (F := Ideal) x y (ix2 r k) : EReal)
      = vnew (val_main_v0 (F := Ideal) x (ix2 r k)) (y (ix2 r k)) := by
  unfold val_main_v11 val_main_v10 val_main_v9 val_main_v8
    val_main_v7 val_main_v6 val_main_cst_2 val_main_cst_3 vnew
  generalize val_main_v0 (F := Ideal) x = g
  pointwise

theorem rd (x : FVec Ideal S8x48x1024 .f32) (w y z : FVec Ideal S48x1024 .f32) (r : Fin 48) (k : Fin 1024) :
    (val_main_v24 (F := Ideal) x w y z (ix2 r k) : EReal)
      = step (val_main_v0 (F := Ideal) x (ix2 r k)) (w (ix2 r k)) (y (ix2 r k)) (z (ix2 r k)) := by
  unfold step
  rw [← rm, ← rv]
  unfold val_main_v24 val_main_v23 val_main_v22 val_main_v21 val_main_v20 val_main_v19 val_main_v18 val_main_v17 val_main_v16 val_main_v15 val_main_v14 val_main_v13 val_main_v12 val_main_cst_4 val_main_cst_5 val_main_cst_6 val_main_cst_7 val_main_cst_8
  generalize val_main_v5 (F := Ideal) x y = a
  generalize val_main_v11 (F := Ideal) x z = b
  pointwise

/-- The load of one device's part. -/
theorem part (x : Vec Ideal S8x48x1024 .f32) (d : ℕ) (hd : d < 8) (inb) (r : Fin 48) (k : Fin 1024) :
    (View.ld x (Rect.unit (s := S8x48x1024) ![d, 0, 0] S1x48x1024.size inb) (ix3 0 r k) : EReal) = x (ix3 (⟨d, hd⟩ : Fin 8) r k) :=
  congrArg x (funext fun a => Fin.ext (by
    match a with
    | ⟨0, _⟩ => rfl
    | ⟨1, _⟩ => show 0 + 1 * r.val = r.val; omega
    | ⟨2, _⟩ => show 0 + 1 * k.val = k.val; omega))

theorem gat (x : Vec Ideal S8x48x1024 .f32) (a1 a2 a3 : Vec Ideal S48x1024 .f32) (r : Fin 48) (k : Fin 1024) :
    (k0_pay7 (F := Ideal) x a1 a2 a3 (ix2 r k) : EReal) = ∑ d : Fin 8, x (ix3 d r k) := by
  unfold k0_pay7
  rw [gpay, part x 0 (by omega), part x 1 (by omega), part x 2 (by omega), part x 3 (by omega), part x 4 (by omega), part x 5 (by omega),
    part x 6 (by omega), part x 7 (by omega), Fin.sum_univ_eight]
  rfl

variable (m : (ℓ : Loc nD τ sig) → Buf (Elt Ideal) ℓ) (c : Dev nD)

/-- The arrays as launched. -/
abbrev x0 : FVec Ideal S8x48x1024 .f32 := m ((c : Thread nD τ).loc main_arg0)
abbrev w0 : FVec Ideal S48x1024 .f32 := m ((c : Thread nD τ).loc main_arg1)
abbrev m0 : FVec Ideal S48x1024 .f32 := m ((c : Thread nD τ).loc main_arg2)
abbrev v0 : FVec Ideal S48x1024 .f32 := m ((c : Thread nD τ).loc main_arg3)

theorem grad : k0_pay7 (F := Ideal) (x0 m c) (w0 m c) (m0 m c) (v0 m c) = val_main_v0 (F := Ideal) (x0 m c) := by
  funext i
  rw [eq_ix2 i]
  exact (gat _ _ _ _ (i 0) (i 1)).trans (rg _ (i 0) (i 1)).symm

theorem gequal : Value.G4 (F := Ideal) (x0 m c) (w0 m c) (m0 m c) (v0 m c) = val_main_v0 (F := Ideal) (x0 m c) :=
  grad m c

theorem dequal : Value.G5 (F := Ideal) (x0 m c) (w0 m c) (m0 m c) (v0 m c)
    = val_main_v24 (F := Ideal) (x0 m c) (w0 m c) (m0 m c) (v0 m c) := by
  funext i
  rw [eq_ix2 i]
  unfold Value.G5
  rw [grad]
  unfold k0_pay8 k0_pay9
  rw [View.ld_unit_zero (S := S48x1024) zero2]
  exact (dpay _ _ _ _ (i 0) (i 1)).trans (rd _ _ _ _ (i 0) (i 1)).symm

theorem mequal : Value.G6 (F := Ideal) (x0 m c) (w0 m c) (m0 m c) (v0 m c)
    = val_main_v5 (F := Ideal) (x0 m c) (m0 m c) := by
  funext i
  rw [eq_ix2 i]
  unfold Value.G6
  rw [grad]
  unfold k0_pay8 k0_pay9
  rw [View.ld_unit_zero (S := S48x1024) zero2]
  exact (mpay _ _ (i 0) (i 1)).trans (rm _ _ (i 0) (i 1)).symm

theorem vequal : Value.G7 (F := Ideal) (x0 m c) (w0 m c) (m0 m c) (v0 m c)
    = val_main_v11 (F := Ideal) (x0 m c) (v0 m c) := by
  funext i
  rw [eq_ix2 i]
  unfold Value.G7
  rw [grad]
  exact (vpay _ _ (i 0) (i 1)).trans (rv _ _ (i 0) (i 1)).symm

end Cert.Proof.Prod.OptSmall
-- ==== Proof.Prod.OptRep.lean ====
module

public import proofs.«01_k».proof.Proof.Gen.Kernel23Ideal.Value
public import proofs.«01_k».proof.Proof.Gen.Reference23Ideal.Read
public import proofs.«01_k».proof.Proof.Prod.Adam
public import Idealize.ShloMosaic.Lib.StableHlo.RunRead

/-! The optimiser on the packed weights that every device holds whole. -/

@[expose] public section

noncomputable section

open Idealize.ShloMosaic Idealize.ShloMosaic.TcCoe Idealize.SL.Sem
open Cert.Kernel23Ideal Cert.Kernel23Ideal.Gen Cert.Reference23Ideal.Read Cert.Proof.Prod.Adam

namespace Cert.Proof.Prod.OptRep

theorem gpay (v0 v2 v5 v8 v11 v14 v17 v20 : Vec Ideal S1x224x1024 .f32) (r : Fin 224) (k : Fin 1024) :
    (k0_pay4 (F := Ideal) v0 v2 v5 v8 v11 v14 v17 v20 (ix2 r k) : EReal)
      = v0 (ix3 0 r k) + v2 (ix3 0 r k) + v5 (ix3 0 r k) + v8 (ix3 0 r k) + v11 (ix3 0 r k) + v14 (ix3 0 r k) + v17 (ix3 0 r k) + v20 (ix3 0 r k) := by
  unfold k0_pay4
  pointwise

theorem mpay (g m : Vec Ideal S224x1024 .f32) (r : Fin 224) (k : Fin 1024) :
    (k0_pay1 (F := Ideal) g (k0_pay5 (F := Ideal) m) (k0_pay6 (F := Ideal)) (ix2 r k) : EReal) = mnew (g (ix2 r k)) (m (ix2 r k)) := by
  unfold k0_pay1 k0_pay5 k0_pay6 mnew
  pointwise

theorem vpay (g v : Vec Ideal S224x1024 .f32) (r : Fin 224) (k : Fin 1024) :
    (k0_pay2 (F := Ideal) g v (ix2 r k) : EReal) = vnew (g (ix2 r k)) (v (ix2 r k)) := by
  unfold k0_pay2 vnew
  pointwise

theorem dpay (g m v w : Vec Ideal S224x1024 .f32) (r : Fin 224) (k : Fin 1024) :
    (k0_pay3 (F := Ideal) g (k0_pay5 (F := Ideal) m) (k0_pay6 (F := Ideal)) v w (ix2 r k) : EReal)
      = step (g (ix2 r k)) (w (ix2 r k)) (m (ix2 r k)) (v (ix2 r k)) := by
  unfold k0_pay3 step
  rw [← mpay, ← vpay]
  generalize k0_pay1 (F := Ideal) g (k0_pay5 (F := Ideal) m) (k0_pay6 (F := Ideal)) = a
  generalize k0_pay2 (F := Ideal) g v = b
  pointwise

theorem rg (x : FVec Ideal S8x224x1024 .f32) (r : Fin 224) (k : Fin 1024) :
    (val_main_v0 (F := Ideal) x (ix2 r k) : EReal) = ∑ d : Fin 8, x (ix3 d r k) := by
  unfold val_main_v0 val_main_cst
  pointwise
  try simp [Ideal.ofBits, Ideal.ieee]

theorem rm (x : FVec Ideal S8x224x1024 .f32) (y : FVec Ideal S224x1024 .f32) (r : Fin 224) (k : Fin 1024) :
    (val_main_v5 (F := Ideal) x y (ix2 r k) : EReal)
      = mnew (val_main_v0 (F := Ideal) x (ix2 r k)) (y (ix2 r k)) := by
  unfold val_main_v5 val_main_v4 val_main_v3
    val_main_v2 val_main_v1 val_main_cst_0 val_main_cst_1 mnew
  generalize val_main_v0 (F := Ideal) x = g
  pointwise

theorem rv (x : FVec Ideal S8x224x1024 .f32) (y : FVec Ideal S224x1024 .f32) (r : Fin 224) (k : Fin 1024) :
    (val_main_v11 (F := Ideal) x y (ix2 r k) : EReal)
      = vnew (val_main_v0 (F := Ideal) x (ix2 r k)) (y (ix2 r k)) := by
  unfold val_main_v11 val_main_v10 val_main_v9 val_main_v8
    val_main_v7 val_main_v6 val_main_cst_2 val_main_cst_3 vnew
  generalize val_main_v0 (F := Ideal) x = g
  pointwise

theorem rd (x : FVec Ideal S8x224x1024 .f32) (w y z : FVec Ideal S224x1024 .f32) (r : Fin 224) (k : Fin 1024) :
    (val_main_v24 (F := Ideal) x w y z (ix2 r k) : EReal)
      = step (val_main_v0 (F := Ideal) x (ix2 r k)) (w (ix2 r k)) (y (ix2 r k)) (z (ix2 r k)) := by
  unfold step
  rw [← rm, ← rv]
  unfold val_main_v24 val_main_v23 val_main_v22 val_main_v21 val_main_v20 val_main_v19 val_main_v18 val_main_v17 val_main_v16 val_main_v15 val_main_v14 val_main_v13 val_main_v12 val_main_cst_4 val_main_cst_5 val_main_cst_6 val_main_cst_7 val_main_cst_8
  generalize val_main_v5 (F := Ideal) x y = a
  generalize val_main_v11 (F := Ideal) x z = b
  pointwise

/-- The load of one device's part. -/
theorem part (x : Vec Ideal S8x224x1024 .f32) (d : ℕ) (hd : d < 8) (inb) (r : Fin 224) (k : Fin 1024) :
    (View.ld x (Rect.unit (s := S8x224x1024) ![d, 0, 0] S1x224x1024.size inb) (ix3 0 r k) : EReal) = x (ix3 (⟨d, hd⟩ : Fin 8) r k) :=
  congrArg x (funext fun a => Fin.ext (by
    match a with
    | ⟨0, _⟩ => rfl
    | ⟨1, _⟩ => show 0 + 1 * r.val = r.val; omega
    | ⟨2, _⟩ => show 0 + 1 * k.val = k.val; omega))

theorem gat (x : Vec Ideal S8x224x1024 .f32) (a1 a2 a3 : Vec Ideal S224x1024 .f32) (r : Fin 224) (k : Fin 1024) :
    (k0_pay7 (F := Ideal) x a1 a2 a3 (ix2 r k) : EReal) = ∑ d : Fin 8, x (ix3 d r k) := by
  unfold k0_pay7
  rw [gpay, part x 0 (by omega), part x 1 (by omega), part x 2 (by omega), part x 3 (by omega), part x 4 (by omega), part x 5 (by omega),
    part x 6 (by omega), part x 7 (by omega), Fin.sum_univ_eight]
  rfl

variable (m : (ℓ : Loc nD τ sig) → Buf (Elt Ideal) ℓ) (c : Dev nD)

/-- The arrays as launched. -/
abbrev x0 : FVec Ideal S8x224x1024 .f32 := m ((c : Thread nD τ).loc main_arg0)
abbrev w0 : FVec Ideal S224x1024 .f32 := m ((c : Thread nD τ).loc main_arg1)
abbrev m0 : FVec Ideal S224x1024 .f32 := m ((c : Thread nD τ).loc main_arg2)
abbrev v0 : FVec Ideal S224x1024 .f32 := m ((c : Thread nD τ).loc main_arg3)

theorem grad : k0_pay7 (F := Ideal) (x0 m c) (w0 m c) (m0 m c) (v0 m c) = val_main_v0 (F := Ideal) (x0 m c) := by
  funext i
  rw [eq_ix2 i]
  exact (gat _ _ _ _ (i 0) (i 1)).trans (rg _ (i 0) (i 1)).symm

theorem gequal : Value.G4 (F := Ideal) (x0 m c) (w0 m c) (m0 m c) (v0 m c) = val_main_v0 (F := Ideal) (x0 m c) :=
  grad m c

theorem dequal : Value.G5 (F := Ideal) (x0 m c) (w0 m c) (m0 m c) (v0 m c)
    = val_main_v24 (F := Ideal) (x0 m c) (w0 m c) (m0 m c) (v0 m c) := by
  funext i
  rw [eq_ix2 i]
  unfold Value.G5
  rw [grad]
  unfold k0_pay8 k0_pay9
  rw [View.ld_unit_zero (S := S224x1024) zero2]
  exact (dpay _ _ _ _ (i 0) (i 1)).trans (rd _ _ _ _ (i 0) (i 1)).symm

theorem mequal : Value.G6 (F := Ideal) (x0 m c) (w0 m c) (m0 m c) (v0 m c)
    = val_main_v5 (F := Ideal) (x0 m c) (m0 m c) := by
  funext i
  rw [eq_ix2 i]
  unfold Value.G6
  rw [grad]
  unfold k0_pay8 k0_pay9
  rw [View.ld_unit_zero (S := S224x1024) zero2]
  exact (mpay _ _ (i 0) (i 1)).trans (rm _ _ (i 0) (i 1)).symm

theorem vequal : Value.G7 (F := Ideal) (x0 m c) (w0 m c) (m0 m c) (v0 m c)
    = val_main_v11 (F := Ideal) (x0 m c) (v0 m c) := by
  funext i
  rw [eq_ix2 i]
  unfold Value.G7
  rw [grad]
  exact (vpay _ _ (i 0) (i 1)).trans (rv _ _ (i 0) (i 1)).symm

end Cert.Proof.Prod.OptRep
-- ==== Proof.Prod.OptLast.lean ====
module

public import proofs.«01_k».proof.Proof.Gen.Kernel24Ideal.Value
public import proofs.«01_k».proof.Proof.Gen.Reference24Ideal.Read
public import proofs.«01_k».proof.Proof.Prod.Adam
public import Idealize.ShloMosaic.Lib.StableHlo.RunRead

/-! The optimiser on the packed weights of the input's normalisation and of the input projection's bias. -/

@[expose] public section

noncomputable section

open Idealize.ShloMosaic Idealize.ShloMosaic.TcCoe Idealize.SL.Sem
open Cert.Kernel24Ideal Cert.Kernel24Ideal.Gen Cert.Reference24Ideal.Read Cert.Proof.Prod.Adam

namespace Cert.Proof.Prod.OptLast

theorem gpay (v0 v2 v5 v8 v11 v14 v17 v20 : Vec Ideal S1x8x1024 .f32) (r : Fin 8) (k : Fin 1024) :
    (k0_pay4 (F := Ideal) v0 v2 v5 v8 v11 v14 v17 v20 (ix2 r k) : EReal)
      = v0 (ix3 0 r k) + v2 (ix3 0 r k) + v5 (ix3 0 r k) + v8 (ix3 0 r k) + v11 (ix3 0 r k) + v14 (ix3 0 r k) + v17 (ix3 0 r k) + v20 (ix3 0 r k) := by
  unfold k0_pay4
  pointwise

theorem mpay (g m : Vec Ideal S8x1024 .f32) (r : Fin 8) (k : Fin 1024) :
    (k0_pay1 (F := Ideal) g (k0_pay5 (F := Ideal) m) (k0_pay6 (F := Ideal)) (ix2 r k) : EReal) = mnew (g (ix2 r k)) (m (ix2 r k)) := by
  unfold k0_pay1 k0_pay5 k0_pay6 mnew
  pointwise

theorem vpay (g v : Vec Ideal S8x1024 .f32) (r : Fin 8) (k : Fin 1024) :
    (k0_pay2 (F := Ideal) g v (ix2 r k) : EReal) = vnew (g (ix2 r k)) (v (ix2 r k)) := by
  unfold k0_pay2 vnew
  pointwise

theorem dpay (g m v w : Vec Ideal S8x1024 .f32) (r : Fin 8) (k : Fin 1024) :
    (k0_pay3 (F := Ideal) g (k0_pay5 (F := Ideal) m) (k0_pay6 (F := Ideal)) v w (ix2 r k) : EReal)
      = step (g (ix2 r k)) (w (ix2 r k)) (m (ix2 r k)) (v (ix2 r k)) := by
  unfold k0_pay3 step
  rw [← mpay, ← vpay]
  generalize k0_pay1 (F := Ideal) g (k0_pay5 (F := Ideal) m) (k0_pay6 (F := Ideal)) = a
  generalize k0_pay2 (F := Ideal) g v = b
  pointwise

theorem rg (x : FVec Ideal S8x8x1024 .f32) (r : Fin 8) (k : Fin 1024) :
    (val_main_v0 (F := Ideal) x (ix2 r k) : EReal) = ∑ d : Fin 8, x (ix3 d r k) := by
  unfold val_main_v0 val_main_cst
  pointwise
  try simp [Ideal.ofBits, Ideal.ieee]

theorem rm (x : FVec Ideal S8x8x1024 .f32) (y : FVec Ideal S8x1024 .f32) (r : Fin 8) (k : Fin 1024) :
    (val_main_v5 (F := Ideal) x y (ix2 r k) : EReal)
      = mnew (val_main_v0 (F := Ideal) x (ix2 r k)) (y (ix2 r k)) := by
  unfold val_main_v5 val_main_v4 val_main_v3
    val_main_v2 val_main_v1 val_main_cst_0 val_main_cst_1 mnew
  generalize val_main_v0 (F := Ideal) x = g
  pointwise

theorem rv (x : FVec Ideal S8x8x1024 .f32) (y : FVec Ideal S8x1024 .f32) (r : Fin 8) (k : Fin 1024) :
    (val_main_v11 (F := Ideal) x y (ix2 r k) : EReal)
      = vnew (val_main_v0 (F := Ideal) x (ix2 r k)) (y (ix2 r k)) := by
  unfold val_main_v11 val_main_v10 val_main_v9 val_main_v8
    val_main_v7 val_main_v6 val_main_cst_2 val_main_cst_3 vnew
  generalize val_main_v0 (F := Ideal) x = g
  pointwise

theorem rd (x : FVec Ideal S8x8x1024 .f32) (w y z : FVec Ideal S8x1024 .f32) (r : Fin 8) (k : Fin 1024) :
    (val_main_v24 (F := Ideal) x w y z (ix2 r k) : EReal)
      = step (val_main_v0 (F := Ideal) x (ix2 r k)) (w (ix2 r k)) (y (ix2 r k)) (z (ix2 r k)) := by
  unfold step
  rw [← rm, ← rv]
  unfold val_main_v24 val_main_v23 val_main_v22 val_main_v21 val_main_v20 val_main_v19 val_main_v18 val_main_v17 val_main_v16 val_main_v15 val_main_v14 val_main_v13 val_main_v12 val_main_cst_4 val_main_cst_5 val_main_cst_6 val_main_cst_7 val_main_cst_8
  generalize val_main_v5 (F := Ideal) x y = a
  generalize val_main_v11 (F := Ideal) x z = b
  pointwise

/-- The load of one device's part. -/
theorem part (x : Vec Ideal S8x8x1024 .f32) (d : ℕ) (hd : d < 8) (inb) (r : Fin 8) (k : Fin 1024) :
    (View.ld x (Rect.unit (s := S8x8x1024) ![d, 0, 0] S1x8x1024.size inb) (ix3 0 r k) : EReal) = x (ix3 (⟨d, hd⟩ : Fin 8) r k) :=
  congrArg x (funext fun a => Fin.ext (by
    match a with
    | ⟨0, _⟩ => rfl
    | ⟨1, _⟩ => show 0 + 1 * r.val = r.val; omega
    | ⟨2, _⟩ => show 0 + 1 * k.val = k.val; omega))

theorem gat (x : Vec Ideal S8x8x1024 .f32) (a1 a2 a3 : Vec Ideal S8x1024 .f32) (r : Fin 8) (k : Fin 1024) :
    (k0_pay7 (F := Ideal) x a1 a2 a3 (ix2 r k) : EReal) = ∑ d : Fin 8, x (ix3 d r k) := by
  unfold k0_pay7
  rw [gpay, part x 0 (by omega), part x 1 (by omega), part x 2 (by omega), part x 3 (by omega), part x 4 (by omega), part x 5 (by omega),
    part x 6 (by omega), part x 7 (by omega), Fin.sum_univ_eight]
  rfl

variable (m : (ℓ : Loc nD τ sig) → Buf (Elt Ideal) ℓ) (c : Dev nD)

/-- The arrays as launched. -/
abbrev x0 : FVec Ideal S8x8x1024 .f32 := m ((c : Thread nD τ).loc main_arg0)
abbrev w0 : FVec Ideal S8x1024 .f32 := m ((c : Thread nD τ).loc main_arg1)
abbrev m0 : FVec Ideal S8x1024 .f32 := m ((c : Thread nD τ).loc main_arg2)
abbrev v0 : FVec Ideal S8x1024 .f32 := m ((c : Thread nD τ).loc main_arg3)

theorem grad : k0_pay7 (F := Ideal) (x0 m c) (w0 m c) (m0 m c) (v0 m c) = val_main_v0 (F := Ideal) (x0 m c) := by
  funext i
  rw [eq_ix2 i]
  exact (gat _ _ _ _ (i 0) (i 1)).trans (rg _ (i 0) (i 1)).symm

theorem gequal : Value.G4 (F := Ideal) (x0 m c) (w0 m c) (m0 m c) (v0 m c) = val_main_v0 (F := Ideal) (x0 m c) :=
  grad m c

theorem dequal : Value.G5 (F := Ideal) (x0 m c) (w0 m c) (m0 m c) (v0 m c)
    = val_main_v24 (F := Ideal) (x0 m c) (w0 m c) (m0 m c) (v0 m c) := by
  funext i
  rw [eq_ix2 i]
  unfold Value.G5
  rw [grad]
  unfold k0_pay8 k0_pay9
  rw [View.ld_unit_zero (S := S8x1024) zero2]
  exact (dpay _ _ _ _ (i 0) (i 1)).trans (rd _ _ _ _ (i 0) (i 1)).symm

theorem mequal : Value.G6 (F := Ideal) (x0 m c) (w0 m c) (m0 m c) (v0 m c)
    = val_main_v5 (F := Ideal) (x0 m c) (m0 m c) := by
  funext i
  rw [eq_ix2 i]
  unfold Value.G6
  rw [grad]
  unfold k0_pay8 k0_pay9
  rw [View.ld_unit_zero (S := S8x1024) zero2]
  exact (mpay _ _ (i 0) (i 1)).trans (rm _ _ (i 0) (i 1)).symm

theorem vequal : Value.G7 (F := Ideal) (x0 m c) (w0 m c) (m0 m c) (v0 m c)
    = val_main_v11 (F := Ideal) (x0 m c) (v0 m c) := by
  funext i
  rw [eq_ix2 i]
  unfold Value.G7
  rw [grad]
  exact (vpay _ _ (i 0) (i 1)).trans (rv _ _ (i 0) (i 1)).symm

end Cert.Proof.Prod.OptLast
-- ==== Proof.lean ====
/- The certificate: for every call taken, the frames, the preserved meaning and the values against its reference. -/
module

public import proofs.«01_k».proof.Defs

public import proofs.«01_k».proof.Proof.Gen.ReferenceIdeal.Run
public import proofs.«01_k».proof.Proof.Gen.ReferenceIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Prod.DwUp
public import proofs.«01_k».proof.Proof.Prod.FfnUp
public import proofs.«01_k».proof.Proof.Prod.Dx1
public import proofs.«01_k».proof.Proof.Prod.Dhff
public import proofs.«01_k».proof.Proof.Prod.DwDown
public import proofs.«01_k».proof.Proof.Prod.DwOut
public import proofs.«01_k».proof.Proof.Prod.Dmix
public import proofs.«01_k».proof.Proof.Prod.DwIn
public import proofs.«01_k».proof.Proof.Prod.InProj
public import proofs.«01_k».proof.Proof.Prod.Dxs
public import proofs.«01_k».proof.Proof.Prod.OutProj
public import proofs.«01_k».proof.Proof.Prod.FfnDown
public import proofs.«01_k».proof.Proof.Prod.DxsLn
public import proofs.«01_k».proof.Proof.Prod.LnIn
public import proofs.«01_k».proof.Proof.Prod.FfnLoss
public import proofs.«01_k».proof.Proof.Prod.OptIn
public import proofs.«01_k».proof.Proof.Prod.OptKv
public import proofs.«01_k».proof.Proof.Prod.OptOut
public import proofs.«01_k».proof.Proof.Prod.OptUp
public import proofs.«01_k».proof.Proof.Prod.OptDown
public import proofs.«01_k».proof.Proof.Prod.OptSmall
public import proofs.«01_k».proof.Proof.Prod.OptRep
public import proofs.«01_k».proof.Proof.Prod.OptLast
public import proofs.«01_k».proof.Proof.Attn.Equal
public import Idealize.ShloMosaic.Adequacy
public import Idealize.ShloMosaic.Init

@[expose] public section

noncomputable section

namespace Cert.Proof

open Idealize.ShloMosaic Idealize.SL.Sem

/-- The reference leaves its arguments and its semaphores. -/
theorem frame_r : Cert.quiescent_ReferenceIdeal (hReferenceIdeal := ReferenceIdeal.Gen.facts) := fun m ρ _ =>
  (θ_run ReferenceIdeal.defs _ _).mono
    (fun r h => ⟨fun c => (h c).2.2, Idealize.ShloMosaic.sem_eq_zero_of_no_sems (by decide) r.2⟩)
    (ReferenceIdeal.Value.run (F := Ideal) m ρ)

/-- The launch with its host code leaves what the reference computes. -/
theorem value : Cert.algebraic_KernelIdeal_ReferenceIdeal_pre_scores_finite (hKernelIdeal := KernelIdeal.Gen.facts)
    (hReferenceIdeal := ReferenceIdeal.Gen.facts) (hPre_scores_finite := Attn.pre_facts) := by
  intro m g m' g' hpre hargs
  have hq : ∀ c s j, Soft.Fin' (AttnRef.qA (Attn.a0 m c) s j) := fun c s j =>
    letI := Attn.pre_facts; Attn.fin_q _ _ _ _ _ (hpre c).1 s j
  have hk : ∀ c k j, Soft.Fin' (AttnRef.kA (Attn.a2 m c) k j) := fun c k j =>
    letI := Attn.pre_facts; Attn.fin_k _ _ _ _ _ (hpre c).2 k j
  refine ⟨_, _, Attn.run m g, ?_⟩
  refine (θ_run ReferenceIdeal.defs _ _).mono (fun r h c => ⟨(h c).1.trans ?_, (h c).2.1.trans ?_, (h c).2.2⟩)
    (ReferenceIdeal.Value.run (F := Ideal) m' g')
  · rw [ReferenceIdeal.Read.val_main_v69_eq, (hargs c).1, (hargs c).2.1, (hargs c).2.2.1, (hargs c).2.2.2.1, (hargs c).2.2.2.2]
    exact (Attn.dhG_eq m c (hq c) (hk c)).symm
  · rw [ReferenceIdeal.Read.val_main_v66_eq, (hargs c).1, (hargs c).2.1, (hargs c).2.2.1]
    exact (Attn.dkv_eq m c (hq c) (hk c)).symm

theorem frame_r2 : Cert.quiescent_Reference2Ideal (hReference2Ideal := Reference2Ideal.Gen.facts) := fun m ρ _ =>
  (θ_run Reference2Ideal.defs _ _).mono
    (fun r h => ⟨fun c => (h c).2, Idealize.ShloMosaic.sem_eq_zero_of_no_sems (by decide) r.2⟩)
    (Reference2Ideal.Value.run (F := Ideal) m ρ)

/-- Of the gradient of the up projection's weights: the call leaves what its reference computes. -/
theorem value2 : Cert.algebraic_Kernel2Ideal_Reference2Ideal (hKernel2Ideal := Kernel2Ideal.Gen.facts)
    (hReference2Ideal := Reference2Ideal.Gen.facts) := by
  intro m g m' g' _ hargs
  refine ⟨_, Kernel2Ideal.Value.run_blocks m g, ?_⟩
  refine (θ_run Reference2Ideal.defs _ _).mono (fun r h c => ⟨(h c).1.trans ?_, (h c).2⟩)
    (Reference2Ideal.Value.run (F := Ideal) m' g')
  rw [Reference2Ideal.Read.val_main_v21_eq, (hargs c).1, (hargs c).2]
  exact (Prod.DwUp.equal m c).symm

theorem frame_r3 : Cert.quiescent_Reference3Ideal (hReference3Ideal := Reference3Ideal.Gen.facts) := fun m ρ _ =>
  (θ_run Reference3Ideal.defs _ _).mono
    (fun r h => ⟨fun c => (h c).2, Idealize.ShloMosaic.sem_eq_zero_of_no_sems (by decide) r.2⟩)
    (Reference3Ideal.Value.run (F := Ideal) m ρ)

/-- Of the up projection: the call leaves what its reference computes. -/
theorem value3 : Cert.algebraic_Kernel3Ideal_Reference3Ideal (hKernel3Ideal := Kernel3Ideal.Gen.facts)
    (hReference3Ideal := Reference3Ideal.Gen.facts) := by
  intro m g m' g' _ hargs
  refine ⟨_, Kernel3Ideal.Value.run_blocks m g, ?_⟩
  refine (θ_run Reference3Ideal.defs _ _).mono (fun r h c => ⟨(h c).1.trans ?_, (h c).2⟩)
    (Reference3Ideal.Value.run (F := Ideal) m' g')
  rw [Reference3Ideal.Read.val_main_v1_eq, (hargs c).1, (hargs c).2]
  exact (Prod.FfnUp.equal m c).symm

theorem frame_r4 : Cert.quiescent_Reference4Ideal (hReference4Ideal := Reference4Ideal.Gen.facts) := fun m ρ _ =>
  (θ_run Reference4Ideal.defs _ _).mono
    (fun r h => ⟨fun c => (h c).2.2.2.2, Idealize.ShloMosaic.sem_eq_zero_of_no_sems (by decide) r.2⟩)
    (Reference4Ideal.Value.run (F := Ideal) m ρ)

/-- Of the gradient through the up projection and the first normalisation: the call leaves what its reference computes. -/
theorem value4 : Cert.algebraic_Kernel4Ideal_Reference4Ideal_pre_finite_but_r1 (hKernel4Ideal := Kernel4Ideal.Gen.facts)
    (hReference4Ideal := Reference4Ideal.Gen.facts) (hPre_finite_but_r1 := Prod.Dx1.pre_facts) := by
  intro m g m' g' hpre hargs
  refine ⟨_, _, _, _, Kernel4Ideal.Value.run_blocks m g, ?_⟩
  refine (θ_run Reference4Ideal.defs _ _).mono (fun r h c => ⟨(h c).1.trans ?_, (h c).2.1.trans ?_, (h c).2.2.1.trans ?_, (h c).2.2.2.1.trans ?_, (h c).2.2.2.2⟩)
    (Reference4Ideal.Value.run (F := Ideal) m' g')
  · rw [Reference4Ideal.Read.val_main_v72_eq, (hargs c).1, (hargs c).2.1, (hargs c).2.2.1, (hargs c).2.2.2.1, (hargs c).2.2.2.2]
    exact (Prod.Dx1.equal m c hpre).symm
  · rw [Reference4Ideal.Read.val_main_v76_eq, (hargs c).1, (hargs c).2.1, (hargs c).2.2.1, (hargs c).2.2.2.1]
    exact (Prod.Dx1.gequal m c).symm
  · rw [Reference4Ideal.Read.val_main_v77_eq, (hargs c).1, (hargs c).2.1, (hargs c).2.2.1]
    exact (Prod.Dx1.bequal m c).symm
  · rw [Reference4Ideal.Read.val_main_v78_eq, (hargs c).1, (hargs c).2.1, (hargs c).2.2.1, (hargs c).2.2.2.1, (hargs c).2.2.2.2]
    exact (Prod.Dx1.sequal m c hpre).symm

theorem frame_r5 : Cert.quiescent_Reference5Ideal (hReference5Ideal := Reference5Ideal.Gen.facts) := fun m ρ _ =>
  (θ_run Reference5Ideal.defs _ _).mono
    (fun r h => ⟨fun c => (h c).2, Idealize.ShloMosaic.sem_eq_zero_of_no_sems (by decide) r.2⟩)
    (Reference5Ideal.Value.run (F := Ideal) m ρ)

/-- Of the gradient of the gated activations: the call leaves what its reference computes. -/
theorem value5 : Cert.algebraic_Kernel5Ideal_Reference5Ideal (hKernel5Ideal := Kernel5Ideal.Gen.facts)
    (hReference5Ideal := Reference5Ideal.Gen.facts) := by
  intro m g m' g' _ hargs
  refine ⟨_, Kernel5Ideal.Value.run_blocks m g, ?_⟩
  refine (θ_run Reference5Ideal.defs _ _).mono (fun r h c => ⟨(h c).1.trans ?_, (h c).2⟩)
    (Reference5Ideal.Value.run (F := Ideal) m' g')
  rw [Reference5Ideal.Read.val_main_v3_eq, (hargs c).1, (hargs c).2]
  exact (Prod.Dhff.equal m c).symm

theorem frame_r6 : Cert.quiescent_Reference6Ideal (hReference6Ideal := Reference6Ideal.Gen.facts) := fun m ρ _ =>
  (θ_run Reference6Ideal.defs _ _).mono
    (fun r h => ⟨fun c => (h c).2, Idealize.ShloMosaic.sem_eq_zero_of_no_sems (by decide) r.2⟩)
    (Reference6Ideal.Value.run (F := Ideal) m ρ)

/-- Of the gradient of the down projection's weights: the call leaves what its reference computes. -/
theorem value6 : Cert.algebraic_Kernel6Ideal_Reference6Ideal (hKernel6Ideal := Kernel6Ideal.Gen.facts)
    (hReference6Ideal := Reference6Ideal.Gen.facts) := by
  intro m g m' g' _ hargs
  refine ⟨_, Kernel6Ideal.Value.run_blocks m g, ?_⟩
  refine (θ_run Reference6Ideal.defs _ _).mono (fun r h c => ⟨(h c).1.trans ?_, (h c).2⟩)
    (Reference6Ideal.Value.run (F := Ideal) m' g')
  rw [Reference6Ideal.Read.val_main_v4_eq, (hargs c).1, (hargs c).2]
  exact (Prod.DwDown.equal m c).symm

theorem frame_r7 : Cert.quiescent_Reference7Ideal (hReference7Ideal := Reference7Ideal.Gen.facts) := fun m ρ _ =>
  (θ_run Reference7Ideal.defs _ _).mono
    (fun r h => ⟨fun c => (h c).2, Idealize.ShloMosaic.sem_eq_zero_of_no_sems (by decide) r.2⟩)
    (Reference7Ideal.Value.run (F := Ideal) m ρ)

/-- Of the gradient of the output projection's weights: the call leaves what its reference computes. -/
theorem value7 : Cert.algebraic_Kernel7Ideal_Reference7Ideal (hKernel7Ideal := Kernel7Ideal.Gen.facts)
    (hReference7Ideal := Reference7Ideal.Gen.facts) := by
  intro m g m' g' _ hargs
  refine ⟨_, Kernel7Ideal.Value.run_blocks m g, ?_⟩
  refine (θ_run Reference7Ideal.defs _ _).mono (fun r h c => ⟨(h c).1.trans ?_, (h c).2⟩)
    (Reference7Ideal.Value.run (F := Ideal) m' g')
  rw [Reference7Ideal.Read.val_main_v4_eq, (hargs c).1, (hargs c).2]
  exact (Prod.DwOut.equal m c).symm

theorem frame_r8 : Cert.quiescent_Reference8Ideal (hReference8Ideal := Reference8Ideal.Gen.facts) := fun m ρ _ =>
  (θ_run Reference8Ideal.defs _ _).mono
    (fun r h => ⟨fun c => (h c).2, Idealize.ShloMosaic.sem_eq_zero_of_no_sems (by decide) r.2⟩)
    (Reference8Ideal.Value.run (F := Ideal) m ρ)

/-- Of the gradient of the mixed branches: the call leaves what its reference computes. -/
theorem value8 : Cert.algebraic_Kernel8Ideal_Reference8Ideal (hKernel8Ideal := Kernel8Ideal.Gen.facts)
    (hReference8Ideal := Reference8Ideal.Gen.facts) := by
  intro m g m' g' _ hargs
  refine ⟨_, Kernel8Ideal.Value.run_blocks m g, ?_⟩
  refine (θ_run Reference8Ideal.defs _ _).mono (fun r h c => ⟨(h c).1.trans ?_, (h c).2⟩)
    (Reference8Ideal.Value.run (F := Ideal) m' g')
  rw [Reference8Ideal.Read.val_main_v2_eq, (hargs c).1, (hargs c).2]
  exact (Prod.Dmix.equal m c).symm

theorem frame_r9 : Cert.quiescent_Reference9Ideal (hReference9Ideal := Reference9Ideal.Gen.facts) := fun m ρ _ =>
  (θ_run Reference9Ideal.defs _ _).mono
    (fun r h => ⟨fun c => (h c).2.2, Idealize.ShloMosaic.sem_eq_zero_of_no_sems (by decide) r.2⟩)
    (Reference9Ideal.Value.run (F := Ideal) m ρ)

/-- Of the gradients of the input projection's weights and bias: the call leaves what its reference computes. -/
theorem value9 : Cert.algebraic_Kernel9Ideal_Reference9Ideal (hKernel9Ideal := Kernel9Ideal.Gen.facts)
    (hReference9Ideal := Reference9Ideal.Gen.facts) := by
  intro m g m' g' _ hargs
  refine ⟨_, _, Kernel9Ideal.Value.run_blocks m g, ?_⟩
  refine (θ_run Reference9Ideal.defs _ _).mono (fun r h c => ⟨(h c).1.trans ?_, (h c).2.1.trans ?_, (h c).2.2⟩)
    (Reference9Ideal.Value.run (F := Ideal) m' g')
  · rw [Reference9Ideal.Read.val_main_v12_eq, (hargs c).1, (hargs c).2]
    exact (Prod.DwIn.equal m c).symm
  · rw [Reference9Ideal.Read.val_main_v13_eq, (hargs c).2]
    exact (Prod.DwIn.cequal m c).symm

theorem frame_r10 : Cert.quiescent_Reference10Ideal (hReference10Ideal := Reference10Ideal.Gen.facts) := fun m ρ _ =>
  (θ_run Reference10Ideal.defs _ _).mono
    (fun r h => ⟨fun c => (h c).2, Idealize.ShloMosaic.sem_eq_zero_of_no_sems (by decide) r.2⟩)
    (Reference10Ideal.Value.run (F := Ideal) m ρ)

/-- Of the input projection: the call leaves what its reference computes. -/
theorem value10 : Cert.algebraic_Kernel10Ideal_Reference10Ideal (hKernel10Ideal := Kernel10Ideal.Gen.facts)
    (hReference10Ideal := Reference10Ideal.Gen.facts) := by
  intro m g m' g' _ hargs
  refine ⟨_, Kernel10Ideal.Value.run_blocks m g, ?_⟩
  refine (θ_run Reference10Ideal.defs _ _).mono (fun r h c => ⟨(h c).1.trans ?_, (h c).2⟩)
    (Reference10Ideal.Value.run (F := Ideal) m' g')
  rw [Reference10Ideal.Read.val_main_v3_eq, (hargs c).1, (hargs c).2.1, (hargs c).2.2]
  exact (Prod.InProj.equal m c).symm

theorem frame_r11 : Cert.quiescent_Reference11Ideal (hReference11Ideal := Reference11Ideal.Gen.facts) := fun m ρ _ =>
  (θ_run Reference11Ideal.defs _ _).mono
    (fun r h => ⟨fun c => (h c).2, Idealize.ShloMosaic.sem_eq_zero_of_no_sems (by decide) r.2⟩)
    (Reference11Ideal.Value.run (F := Ideal) m ρ)

/-- Of the gradient of a layer's input: the call leaves what its reference computes. -/
theorem value11 : Cert.algebraic_Kernel11Ideal_Reference11Ideal (hKernel11Ideal := Kernel11Ideal.Gen.facts)
    (hReference11Ideal := Reference11Ideal.Gen.facts) := by
  intro m g m' g' _ hargs
  refine ⟨_, Kernel11Ideal.Value.run_blocks m g, ?_⟩
  refine (θ_run Reference11Ideal.defs _ _).mono (fun r h c => ⟨(h c).1.trans ?_, (h c).2⟩)
    (Reference11Ideal.Value.run (F := Ideal) m' g')
  rw [Reference11Ideal.Read.val_main_v7_eq, (hargs c).1, (hargs c).2.1, (hargs c).2.2]
  exact (Prod.Dxs.equal m c).symm

theorem frame_r12 : Cert.quiescent_Reference12Ideal (hReference12Ideal := Reference12Ideal.Gen.facts) := fun m ρ _ =>
  (θ_run Reference12Ideal.defs _ _).mono
    (fun r h => ⟨fun c => (h c).2.2, Idealize.ShloMosaic.sem_eq_zero_of_no_sems (by decide) r.2⟩)
    (Reference12Ideal.Value.run (F := Ideal) m ρ)

/-- Of the output projection and the first normalisation: the call leaves what its reference computes. -/
theorem value12 : Cert.algebraic_Kernel12Ideal_Reference12Ideal (hKernel12Ideal := Kernel12Ideal.Gen.facts)
    (hReference12Ideal := Reference12Ideal.Gen.facts) := by
  intro m g m' g' _ hargs
  refine ⟨_, _, Kernel12Ideal.Value.run_blocks m g, ?_⟩
  refine (θ_run Reference12Ideal.defs _ _).mono (fun r h c => ⟨(h c).1.trans ?_, (h c).2.1.trans ?_, (h c).2.2⟩)
    (Reference12Ideal.Value.run (F := Ideal) m' g')
  · rw [Reference12Ideal.Read.val_main_v6_eq, (hargs c).1, (hargs c).2.1, (hargs c).2.2.1, (hargs c).2.2.2.1]
    exact (Prod.OutProj.equal m c).symm
  · rw [Reference12Ideal.Read.val_main_v30_eq, (hargs c).1, (hargs c).2.1, (hargs c).2.2.1, (hargs c).2.2.2.1, (hargs c).2.2.2.2.1, (hargs c).2.2.2.2.2]
    exact (Prod.OutProj.xequal m c).symm

theorem frame_r13 : Cert.quiescent_Reference13Ideal (hReference13Ideal := Reference13Ideal.Gen.facts) := fun m ρ _ =>
  (θ_run Reference13Ideal.defs _ _).mono
    (fun r h => ⟨fun c => (h c).2.2, Idealize.ShloMosaic.sem_eq_zero_of_no_sems (by decide) r.2⟩)
    (Reference13Ideal.Value.run (F := Ideal) m ρ)

/-- Of the down projection and the second normalisation: the call leaves what its reference computes. -/
theorem value13 : Cert.algebraic_Kernel13Ideal_Reference13Ideal (hKernel13Ideal := Kernel13Ideal.Gen.facts)
    (hReference13Ideal := Reference13Ideal.Gen.facts) := by
  intro m g m' g' _ hargs
  refine ⟨_, _, Kernel13Ideal.Value.run_blocks m g, ?_⟩
  refine (θ_run Reference13Ideal.defs _ _).mono (fun r h c => ⟨(h c).1.trans ?_, (h c).2.1.trans ?_, (h c).2.2⟩)
    (Reference13Ideal.Value.run (F := Ideal) m' g')
  · rw [Reference13Ideal.Read.val_main_v3_eq, (hargs c).1, (hargs c).2.1, (hargs c).2.2.1]
    exact (Prod.FfnDown.equal m c).symm
  · rw [Reference13Ideal.Read.val_main_v27_eq, (hargs c).1, (hargs c).2.1, (hargs c).2.2.1, (hargs c).2.2.2.1, (hargs c).2.2.2.2]
    exact (Prod.FfnDown.xequal m c).symm

theorem frame_r14 : Cert.quiescent_Reference14Ideal (hReference14Ideal := Reference14Ideal.Gen.facts) := fun m ρ _ =>
  (θ_run Reference14Ideal.defs _ _).mono
    (fun r h => ⟨fun c => (h c).2.2.2.2, Idealize.ShloMosaic.sem_eq_zero_of_no_sems (by decide) r.2⟩)
    (Reference14Ideal.Value.run (F := Ideal) m ρ)

/-- Of the gradient through the input projection and the normalisation below it: the call leaves what its reference computes. -/
theorem value14 : Cert.algebraic_Kernel14Ideal_Reference14Ideal_pre_finite_but_r2 (hKernel14Ideal := Kernel14Ideal.Gen.facts)
    (hReference14Ideal := Reference14Ideal.Gen.facts) (hPre_finite_but_r2 := Prod.DxsLn.pre_facts) := by
  intro m g m' g' hpre hargs
  refine ⟨_, _, _, _, Kernel14Ideal.Value.run_blocks m g, ?_⟩
  refine (θ_run Reference14Ideal.defs _ _).mono (fun r h c => ⟨(h c).1.trans ?_, (h c).2.1.trans ?_, (h c).2.2.1.trans ?_, (h c).2.2.2.1.trans ?_, (h c).2.2.2.2⟩)
    (Reference14Ideal.Value.run (F := Ideal) m' g')
  · rw [Reference14Ideal.Read.val_main_v72_eq, (hargs c).1, (hargs c).2.1, (hargs c).2.2.1, (hargs c).2.2.2.1, (hargs c).2.2.2.2]
    exact (Prod.DxsLn.equal m c hpre).symm
  · rw [Reference14Ideal.Read.val_main_v76_eq, (hargs c).1, (hargs c).2.1, (hargs c).2.2.1, (hargs c).2.2.2.1]
    exact (Prod.DxsLn.gequal m c).symm
  · rw [Reference14Ideal.Read.val_main_v77_eq, (hargs c).1, (hargs c).2.1, (hargs c).2.2.1]
    exact (Prod.DxsLn.bequal m c).symm
  · rw [Reference14Ideal.Read.val_main_v78_eq, (hargs c).1, (hargs c).2.1, (hargs c).2.2.1, (hargs c).2.2.2.1, (hargs c).2.2.2.2]
    exact (Prod.DxsLn.sequal m c hpre).symm

theorem frame_r15 : Cert.quiescent_Reference15Ideal (hReference15Ideal := Reference15Ideal.Gen.facts) := fun m ρ _ =>
  (θ_run Reference15Ideal.defs _ _).mono
    (fun r h => ⟨fun c => (h c).2.2.2, Idealize.ShloMosaic.sem_eq_zero_of_no_sems (by decide) r.2⟩)
    (Reference15Ideal.Value.run (F := Ideal) m ρ)

/-- Of the gradient of the input's normalisation: the call leaves what its reference computes. -/
theorem value15 : Cert.algebraic_Kernel15Ideal_Reference15Ideal_pre_finite_but_x (hKernel15Ideal := Kernel15Ideal.Gen.facts)
    (hReference15Ideal := Reference15Ideal.Gen.facts) (hPre_finite_but_x := Prod.LnIn.pre_facts) := by
  intro m g m' g' hpre hargs
  refine ⟨_, _, _, (θ_run Kernel15Ideal.defs _ _).mono (fun r h c => ⟨(h c).1, (h c).2.1, (h c).2.2.1, (h c).2.2.2.2⟩)
    (Kernel15Ideal.Value.run_blocks m g), ?_⟩
  refine (θ_run Reference15Ideal.defs _ _).mono (fun r h c => ⟨(h c).1.trans ?_, (h c).2.1.trans ?_, (h c).2.2.1.trans ?_, (h c).2.2.2⟩)
    (Reference15Ideal.Value.run (F := Ideal) m' g')
  · rw [Reference15Ideal.Read.val_main_v63_eq, (hargs c).1, (hargs c).2.1, (hargs c).2.2]
    exact (Prod.LnIn.equal m c hpre).symm
  · refine (Reference15Ideal.Read.val_main_v64_eq (F := Ideal) (m' ((c.tc : Idealize.ShloMosaic.Thread _ _).loc Reference15Ideal.main_arg0)) (m' ((c.tc : Idealize.ShloMosaic.Thread _ _).loc Reference15Ideal.main_arg1))).trans ?_
    rw [(hargs c).1, (hargs c).2.1]
    exact (Prod.LnIn.gequal m c).symm
  · refine (Reference15Ideal.Read.val_main_v65_eq (F := Ideal) (m' ((c.tc : Idealize.ShloMosaic.Thread _ _).loc Reference15Ideal.main_arg1))).trans ?_
    rw [(hargs c).2.1]
    exact (Prod.LnIn.bequal m c).symm

theorem frame_r16 : Cert.quiescent_Reference16Ideal (hReference16Ideal := Reference16Ideal.Gen.facts) := fun m ρ _ =>
  (θ_run Reference16Ideal.defs _ _).mono
    (fun r h => ⟨fun c => (h c).2.2.2.2, Idealize.ShloMosaic.sem_eq_zero_of_no_sems (by decide) r.2⟩)
    (Reference16Ideal.Value.run (F := Ideal) m ρ)

/-- Of the down projection, the loss and its gradient through the normalisation: the call leaves what its reference computes. -/
theorem value16 : Cert.algebraic_Kernel16Ideal_Reference16Ideal_pre_finite_target (hKernel16Ideal := Kernel16Ideal.Gen.facts)
    (hReference16Ideal := Reference16Ideal.Gen.facts) (hPre_finite_target := Prod.FfnLoss.pre_facts) := by
  intro m g m' g' hpre hargs
  refine ⟨_, _, _, _, Kernel16Ideal.Value.run_blocks m g, ?_⟩
  refine (θ_run Reference16Ideal.defs _ _).mono (fun r h c => ⟨(h c).1.trans ?_, (h c).2.1.trans ?_, (h c).2.2.1.trans ?_, (h c).2.2.2.1.trans ?_, (h c).2.2.2.2⟩)
    (Reference16Ideal.Value.run (F := Ideal) m' g')
  · rw [Reference16Ideal.Read.val_main_v80_eq, (hargs c).1, (hargs c).2.1, (hargs c).2.2.1, (hargs c).2.2.2.1, (hargs c).2.2.2.2.1, (hargs c).2.2.2.2.2]
    exact (Prod.FfnLoss.equal m c hpre).symm
  · rw [Reference16Ideal.Read.val_main_v81_eq, (hargs c).1, (hargs c).2.1, (hargs c).2.2.1, (hargs c).2.2.2.1, (hargs c).2.2.2.2.1, (hargs c).2.2.2.2.2]
    exact (Prod.FfnLoss.gequal m c).symm
  · rw [Reference16Ideal.Read.val_main_v82_eq, (hargs c).1, (hargs c).2.1, (hargs c).2.2.1, (hargs c).2.2.2.1, (hargs c).2.2.2.2.1, (hargs c).2.2.2.2.2]
    exact (Prod.FfnLoss.bequal m c).symm
  · rw [Reference16Ideal.Read.val_main_v83_eq, (hargs c).1, (hargs c).2.1, (hargs c).2.2.1, (hargs c).2.2.2.1, (hargs c).2.2.2.2.1, (hargs c).2.2.2.2.2]
    exact (Prod.FfnLoss.lequal m c hpre).symm

theorem frame_r17 : Cert.quiescent_Reference17Ideal (hReference17Ideal := Reference17Ideal.Gen.facts) := fun m ρ _ =>
  (θ_run Reference17Ideal.defs _ _).mono
    (fun r h => ⟨fun c => (h c).2.2.2.2, Idealize.ShloMosaic.sem_eq_zero_of_no_sems (by decide) r.2⟩)
    (Reference17Ideal.Value.run (F := Ideal) m ρ)

/-- Of the optimiser on the input projection's weights: the call leaves what its reference computes. -/
theorem value17 : Cert.algebraic_Kernel17Ideal_Reference17Ideal (hKernel17Ideal := Kernel17Ideal.Gen.facts)
    (hReference17Ideal := Reference17Ideal.Gen.facts) := by
  intro m g m' g' _ hargs
  refine ⟨_, _, _, _, Kernel17Ideal.Value.run_blocks m g, ?_⟩
  refine (θ_run Reference17Ideal.defs _ _).mono (fun r h c => ⟨(h c).1.trans ?_, (h c).2.1.trans ?_, (h c).2.2.1.trans ?_, (h c).2.2.2.1.trans ?_, (h c).2.2.2.2⟩)
    (Reference17Ideal.Value.run (F := Ideal) m' g')
  · rw [Reference17Ideal.Read.val_main_v35_eq, (hargs c).1, (hargs c).2.2.2.2.1]
    exact (Prod.OptIn.gequal m c).symm
  · rw [Reference17Ideal.Read.val_main_v40_eq, (hargs c).1, (hargs c).2.1, (hargs c).2.2.1, (hargs c).2.2.2.1, (hargs c).2.2.2.2.2.1]
    exact (Prod.OptIn.dequal m c).symm
  · rw [Reference17Ideal.Read.val_main_v45_eq, (hargs c).1, (hargs c).2.2.1, (hargs c).2.2.2.2.2.2.1]
    exact (Prod.OptIn.mequal m c).symm
  · rw [Reference17Ideal.Read.val_main_v50_eq, (hargs c).1, (hargs c).2.2.2.1, (hargs c).2.2.2.2.2.2.2]
    exact (Prod.OptIn.vequal m c).symm

theorem frame_r18 : Cert.quiescent_Reference18Ideal (hReference18Ideal := Reference18Ideal.Gen.facts) := fun m ρ _ =>
  (θ_run Reference18Ideal.defs _ _).mono
    (fun r h => ⟨fun c => (h c).2.2.2.2, Idealize.ShloMosaic.sem_eq_zero_of_no_sems (by decide) r.2⟩)
    (Reference18Ideal.Value.run (F := Ideal) m ρ)

/-- Of the optimiser on the memory projection's weights: the call leaves what its reference computes. -/
theorem value18 : Cert.algebraic_Kernel18Ideal_Reference18Ideal (hKernel18Ideal := Kernel18Ideal.Gen.facts)
    (hReference18Ideal := Reference18Ideal.Gen.facts) := by
  intro m g m' g' _ hargs
  refine ⟨_, _, _, _, Kernel18Ideal.Value.run_blocks m g, ?_⟩
  refine (θ_run Reference18Ideal.defs _ _).mono (fun r h c => ⟨(h c).1.trans ?_, (h c).2.1.trans ?_, (h c).2.2.1.trans ?_, (h c).2.2.2.1.trans ?_, (h c).2.2.2.2⟩)
    (Reference18Ideal.Value.run (F := Ideal) m' g')
  · rw [Reference18Ideal.Read.val_main_v35_eq, (hargs c).1, (hargs c).2.2.2.2.1]
    exact (Prod.OptKv.gequal m c).symm
  · rw [Reference18Ideal.Read.val_main_v40_eq, (hargs c).1, (hargs c).2.1, (hargs c).2.2.1, (hargs c).2.2.2.1, (hargs c).2.2.2.2.2.1]
    exact (Prod.OptKv.dequal m c).symm
  · rw [Reference18Ideal.Read.val_main_v45_eq, (hargs c).1, (hargs c).2.2.1, (hargs c).2.2.2.2.2.2.1]
    exact (Prod.OptKv.mequal m c).symm
  · rw [Reference18Ideal.Read.val_main_v50_eq, (hargs c).1, (hargs c).2.2.2.1, (hargs c).2.2.2.2.2.2.2]
    exact (Prod.OptKv.vequal m c).symm

theorem frame_r19 : Cert.quiescent_Reference19Ideal (hReference19Ideal := Reference19Ideal.Gen.facts) := fun m ρ _ =>
  (θ_run Reference19Ideal.defs _ _).mono
    (fun r h => ⟨fun c => (h c).2.2.2.2, Idealize.ShloMosaic.sem_eq_zero_of_no_sems (by decide) r.2⟩)
    (Reference19Ideal.Value.run (F := Ideal) m ρ)

/-- Of the optimiser on the output projection's weights: the call leaves what its reference computes. -/
theorem value19 : Cert.algebraic_Kernel19Ideal_Reference19Ideal (hKernel19Ideal := Kernel19Ideal.Gen.facts)
    (hReference19Ideal := Reference19Ideal.Gen.facts) := by
  intro m g m' g' _ hargs
  refine ⟨_, _, _, _, Kernel19Ideal.Value.run_blocks m g, ?_⟩
  refine (θ_run Reference19Ideal.defs _ _).mono (fun r h c => ⟨(h c).1.trans ?_, (h c).2.1.trans ?_, (h c).2.2.1.trans ?_, (h c).2.2.2.1.trans ?_, (h c).2.2.2.2⟩)
    (Reference19Ideal.Value.run (F := Ideal) m' g')
  · rw [Reference19Ideal.Read.val_main_v35_eq, (hargs c).1, (hargs c).2.2.2.2.1]
    exact (Prod.OptOut.gequal m c).symm
  · rw [Reference19Ideal.Read.val_main_v40_eq, (hargs c).1, (hargs c).2.1, (hargs c).2.2.1, (hargs c).2.2.2.1, (hargs c).2.2.2.2.2.1]
    exact (Prod.OptOut.dequal m c).symm
  · rw [Reference19Ideal.Read.val_main_v45_eq, (hargs c).1, (hargs c).2.2.1, (hargs c).2.2.2.2.2.2.1]
    exact (Prod.OptOut.mequal m c).symm
  · rw [Reference19Ideal.Read.val_main_v50_eq, (hargs c).1, (hargs c).2.2.2.1, (hargs c).2.2.2.2.2.2.2]
    exact (Prod.OptOut.vequal m c).symm

theorem frame_r20 : Cert.quiescent_Reference20Ideal (hReference20Ideal := Reference20Ideal.Gen.facts) := fun m ρ _ =>
  (θ_run Reference20Ideal.defs _ _).mono
    (fun r h => ⟨fun c => (h c).2.2.2.2, Idealize.ShloMosaic.sem_eq_zero_of_no_sems (by decide) r.2⟩)
    (Reference20Ideal.Value.run (F := Ideal) m ρ)

/-- Of the optimiser on the up projection's weights: the call leaves what its reference computes. -/
theorem value20 : Cert.algebraic_Kernel20Ideal_Reference20Ideal (hKernel20Ideal := Kernel20Ideal.Gen.facts)
    (hReference20Ideal := Reference20Ideal.Gen.facts) := by
  intro m g m' g' _ hargs
  refine ⟨_, _, _, _, Kernel20Ideal.Value.run_blocks m g, ?_⟩
  refine (θ_run Reference20Ideal.defs _ _).mono (fun r h c => ⟨(h c).1.trans ?_, (h c).2.1.trans ?_, (h c).2.2.1.trans ?_, (h c).2.2.2.1.trans ?_, (h c).2.2.2.2⟩)
    (Reference20Ideal.Value.run (F := Ideal) m' g')
  · rw [Reference20Ideal.Read.val_main_v35_eq, (hargs c).1, (hargs c).2.2.2.2.1]
    exact (Prod.OptUp.gequal m c).symm
  · rw [Reference20Ideal.Read.val_main_v40_eq, (hargs c).1, (hargs c).2.1, (hargs c).2.2.1, (hargs c).2.2.2.1, (hargs c).2.2.2.2.2.1]
    exact (Prod.OptUp.dequal m c).symm
  · rw [Reference20Ideal.Read.val_main_v45_eq, (hargs c).1, (hargs c).2.2.1, (hargs c).2.2.2.2.2.2.1]
    exact (Prod.OptUp.mequal m c).symm
  · rw [Reference20Ideal.Read.val_main_v50_eq, (hargs c).1, (hargs c).2.2.2.1, (hargs c).2.2.2.2.2.2.2]
    exact (Prod.OptUp.vequal m c).symm

theorem frame_r21 : Cert.quiescent_Reference21Ideal (hReference21Ideal := Reference21Ideal.Gen.facts) := fun m ρ _ =>
  (θ_run Reference21Ideal.defs _ _).mono
    (fun r h => ⟨fun c => (h c).2.2.2.2, Idealize.ShloMosaic.sem_eq_zero_of_no_sems (by decide) r.2⟩)
    (Reference21Ideal.Value.run (F := Ideal) m ρ)

/-- Of the optimiser on the down projection's weights: the call leaves what its reference computes. -/
theorem value21 : Cert.algebraic_Kernel21Ideal_Reference21Ideal (hKernel21Ideal := Kernel21Ideal.Gen.facts)
    (hReference21Ideal := Reference21Ideal.Gen.facts) := by
  intro m g m' g' _ hargs
  refine ⟨_, _, _, _, Kernel21Ideal.Value.run_blocks m g, ?_⟩
  refine (θ_run Reference21Ideal.defs _ _).mono (fun r h c => ⟨(h c).1.trans ?_, (h c).2.1.trans ?_, (h c).2.2.1.trans ?_, (h c).2.2.2.1.trans ?_, (h c).2.2.2.2⟩)
    (Reference21Ideal.Value.run (F := Ideal) m' g')
  · rw [Reference21Ideal.Read.val_main_v35_eq, (hargs c).1, (hargs c).2.2.2.2.1]
    exact (Prod.OptDown.gequal m c).symm
  · rw [Reference21Ideal.Read.val_main_v40_eq, (hargs c).1, (hargs c).2.1, (hargs c).2.2.1, (hargs c).2.2.2.1, (hargs c).2.2.2.2.2.1]
    exact (Prod.OptDown.dequal m c).symm
  · rw [Reference21Ideal.Read.val_main_v45_eq, (hargs c).1, (hargs c).2.2.1, (hargs c).2.2.2.2.2.2.1]
    exact (Prod.OptDown.mequal m c).symm
  · rw [Reference21Ideal.Read.val_main_v50_eq, (hargs c).1, (hargs c).2.2.2.1, (hargs c).2.2.2.2.2.2.2]
    exact (Prod.OptDown.vequal m c).symm

theorem frame_r22 : Cert.quiescent_Reference22Ideal (hReference22Ideal := Reference22Ideal.Gen.facts) := fun m ρ _ =>
  (θ_run Reference22Ideal.defs _ _).mono
    (fun r h => ⟨fun c => (h c).2.2.2.2, Idealize.ShloMosaic.sem_eq_zero_of_no_sems (by decide) r.2⟩)
    (Reference22Ideal.Value.run (F := Ideal) m ρ)

/-- Of the optimiser on the packed sharded weights: the call leaves what its reference computes. -/
theorem value22 : Cert.algebraic_Kernel22Ideal_Reference22Ideal (hKernel22Ideal := Kernel22Ideal.Gen.facts)
    (hReference22Ideal := Reference22Ideal.Gen.facts) := by
  intro m g m' g' _ hargs
  refine ⟨_, _, _, _, Kernel22Ideal.Value.run m g, ?_⟩
  refine (θ_run Reference22Ideal.defs _ _).mono (fun r h c => ⟨(h c).1.trans ?_, (h c).2.1.trans ?_, (h c).2.2.1.trans ?_, (h c).2.2.2.1.trans ?_, (h c).2.2.2.2⟩)
    (Reference22Ideal.Value.run (F := Ideal) m' g')
  · rw [Reference22Ideal.Read.val_main_v0_eq, (hargs c).1]
    exact (Prod.OptSmall.gequal m c).symm
  · rw [Reference22Ideal.Read.val_main_v24_eq, (hargs c).1, (hargs c).2.1, (hargs c).2.2.1, (hargs c).2.2.2]
    exact (Prod.OptSmall.dequal m c).symm
  · rw [Reference22Ideal.Read.val_main_v5_eq, (hargs c).1, (hargs c).2.2.1]
    exact (Prod.OptSmall.mequal m c).symm
  · rw [Reference22Ideal.Read.val_main_v11_eq, (hargs c).1, (hargs c).2.2.2]
    exact (Prod.OptSmall.vequal m c).symm

theorem frame_r23 : Cert.quiescent_Reference23Ideal (hReference23Ideal := Reference23Ideal.Gen.facts) := fun m ρ _ =>
  (θ_run Reference23Ideal.defs _ _).mono
    (fun r h => ⟨fun c => (h c).2.2.2.2, Idealize.ShloMosaic.sem_eq_zero_of_no_sems (by decide) r.2⟩)
    (Reference23Ideal.Value.run (F := Ideal) m ρ)

/-- Of the optimiser on the packed replicated weights: the call leaves what its reference computes. -/
theorem value23 : Cert.algebraic_Kernel23Ideal_Reference23Ideal (hKernel23Ideal := Kernel23Ideal.Gen.facts)
    (hReference23Ideal := Reference23Ideal.Gen.facts) := by
  intro m g m' g' _ hargs
  refine ⟨_, _, _, _, Kernel23Ideal.Value.run m g, ?_⟩
  refine (θ_run Reference23Ideal.defs _ _).mono (fun r h c => ⟨(h c).1.trans ?_, (h c).2.1.trans ?_, (h c).2.2.1.trans ?_, (h c).2.2.2.1.trans ?_, (h c).2.2.2.2⟩)
    (Reference23Ideal.Value.run (F := Ideal) m' g')
  · rw [Reference23Ideal.Read.val_main_v0_eq, (hargs c).1]
    exact (Prod.OptRep.gequal m c).symm
  · rw [Reference23Ideal.Read.val_main_v24_eq, (hargs c).1, (hargs c).2.1, (hargs c).2.2.1, (hargs c).2.2.2]
    exact (Prod.OptRep.dequal m c).symm
  · rw [Reference23Ideal.Read.val_main_v5_eq, (hargs c).1, (hargs c).2.2.1]
    exact (Prod.OptRep.mequal m c).symm
  · rw [Reference23Ideal.Read.val_main_v11_eq, (hargs c).1, (hargs c).2.2.2]
    exact (Prod.OptRep.vequal m c).symm

theorem frame_r24 : Cert.quiescent_Reference24Ideal (hReference24Ideal := Reference24Ideal.Gen.facts) := fun m ρ _ =>
  (θ_run Reference24Ideal.defs _ _).mono
    (fun r h => ⟨fun c => (h c).2.2.2.2, Idealize.ShloMosaic.sem_eq_zero_of_no_sems (by decide) r.2⟩)
    (Reference24Ideal.Value.run (F := Ideal) m ρ)

/-- Of the optimiser on the packed weights of the input: the call leaves what its reference computes. -/
theorem value24 : Cert.algebraic_Kernel24Ideal_Reference24Ideal (hKernel24Ideal := Kernel24Ideal.Gen.facts)
    (hReference24Ideal := Reference24Ideal.Gen.facts) := by
  intro m g m' g' _ hargs
  refine ⟨_, _, _, _, Kernel24Ideal.Value.run m g, ?_⟩
  refine (θ_run Reference24Ideal.defs _ _).mono (fun r h c => ⟨(h c).1.trans ?_, (h c).2.1.trans ?_, (h c).2.2.1.trans ?_, (h c).2.2.2.1.trans ?_, (h c).2.2.2.2⟩)
    (Reference24Ideal.Value.run (F := Ideal) m' g')
  · rw [Reference24Ideal.Read.val_main_v0_eq, (hargs c).1]
    exact (Prod.OptLast.gequal m c).symm
  · rw [Reference24Ideal.Read.val_main_v24_eq, (hargs c).1, (hargs c).2.1, (hargs c).2.2.1, (hargs c).2.2.2]
    exact (Prod.OptLast.dequal m c).symm
  · rw [Reference24Ideal.Read.val_main_v5_eq, (hargs c).1, (hargs c).2.2.1]
    exact (Prod.OptLast.mequal m c).symm
  · rw [Reference24Ideal.Read.val_main_v11_eq, (hargs c).1, (hargs c).2.2.2]
    exact (Prod.OptLast.vequal m c).symm

theorem claim : Cert.Claim :=
  ⟨Kernel.Gen.facts, KernelIdeal.Gen.facts, ReferenceIdeal.Gen.facts, Kernel2.Gen.facts, Kernel2Ideal.Gen.facts, Reference2Ideal.Gen.facts, Kernel3.Gen.facts, Kernel3Ideal.Gen.facts, Reference3Ideal.Gen.facts, Kernel4.Gen.facts, Kernel4Ideal.Gen.facts, Reference4Ideal.Gen.facts, Kernel5.Gen.facts, Kernel5Ideal.Gen.facts, Reference5Ideal.Gen.facts, Kernel6.Gen.facts, Kernel6Ideal.Gen.facts, Reference6Ideal.Gen.facts, Kernel7.Gen.facts, Kernel7Ideal.Gen.facts, Reference7Ideal.Gen.facts, Kernel8.Gen.facts, Kernel8Ideal.Gen.facts, Reference8Ideal.Gen.facts, Kernel9.Gen.facts, Kernel9Ideal.Gen.facts, Reference9Ideal.Gen.facts, Kernel10.Gen.facts, Kernel10Ideal.Gen.facts, Reference10Ideal.Gen.facts, Kernel11.Gen.facts, Kernel11Ideal.Gen.facts, Reference11Ideal.Gen.facts, Kernel12.Gen.facts, Kernel12Ideal.Gen.facts, Reference12Ideal.Gen.facts, Kernel13.Gen.facts, Kernel13Ideal.Gen.facts, Reference13Ideal.Gen.facts, Kernel14.Gen.facts, Kernel14Ideal.Gen.facts, Reference14Ideal.Gen.facts, Kernel15.Gen.facts, Kernel15Ideal.Gen.facts, Reference15Ideal.Gen.facts, Kernel16.Gen.facts, Kernel16Ideal.Gen.facts, Reference16Ideal.Gen.facts, Kernel17.Gen.facts, Kernel17Ideal.Gen.facts, Reference17Ideal.Gen.facts, Kernel18.Gen.facts, Kernel18Ideal.Gen.facts, Reference18Ideal.Gen.facts, Kernel19.Gen.facts, Kernel19Ideal.Gen.facts, Reference19Ideal.Gen.facts, Kernel20.Gen.facts, Kernel20Ideal.Gen.facts, Reference20Ideal.Gen.facts, Kernel21.Gen.facts, Kernel21Ideal.Gen.facts, Reference21Ideal.Gen.facts, Kernel22.Gen.facts, Kernel22Ideal.Gen.facts, Reference22Ideal.Gen.facts, Kernel23.Gen.facts, Kernel23Ideal.Gen.facts, Reference23Ideal.Gen.facts, Kernel24.Gen.facts, Kernel24Ideal.Gen.facts, Reference24Ideal.Gen.facts, Attn.pre_facts, Prod.Dx1.pre_facts, Prod.DxsLn.pre_facts, Prod.LnIn.pre_facts, Prod.FfnLoss.pre_facts,
    fun m ρ _ => Kernel.Gen.frame m ρ, fun m ρ _ => KernelIdeal.Gen.frame m ρ,
    fun m ρ _ => KernelIdeal.Gen.frame m ρ, frame_r, fun m ρ _ => frame_r m ρ trivial,
    fun m ρ _ => Kernel2.Gen.frame m ρ, fun m ρ _ => Kernel2Ideal.Gen.frame m ρ, frame_r2,
    fun m ρ _ => Kernel3.Gen.frame m ρ, fun m ρ _ => Kernel3Ideal.Gen.frame m ρ, frame_r3,
    fun m ρ _ => Kernel4.Gen.frame m ρ, fun m ρ _ => Kernel4Ideal.Gen.frame m ρ, fun m ρ _ => Kernel4Ideal.Gen.frame m ρ, frame_r4, fun m ρ _ => frame_r4 m ρ trivial,
    fun m ρ _ => Kernel5.Gen.frame m ρ, fun m ρ _ => Kernel5Ideal.Gen.frame m ρ, frame_r5,
    fun m ρ _ => Kernel6.Gen.frame m ρ, fun m ρ _ => Kernel6Ideal.Gen.frame m ρ, frame_r6,
    fun m ρ _ => Kernel7.Gen.frame m ρ, fun m ρ _ => Kernel7Ideal.Gen.frame m ρ, frame_r7,
    fun m ρ _ => Kernel8.Gen.frame m ρ, fun m ρ _ => Kernel8Ideal.Gen.frame m ρ, frame_r8,
    fun m ρ _ => Kernel9.Gen.frame m ρ, fun m ρ _ => Kernel9Ideal.Gen.frame m ρ, frame_r9,
    fun m ρ _ => Kernel10.Gen.frame m ρ, fun m ρ _ => Kernel10Ideal.Gen.frame m ρ, frame_r10,
    fun m ρ _ => Kernel11.Gen.frame m ρ, fun m ρ _ => Kernel11Ideal.Gen.frame m ρ, frame_r11,
    fun m ρ _ => Kernel12.Gen.frame m ρ, fun m ρ _ => Kernel12Ideal.Gen.frame m ρ, frame_r12,
    fun m ρ _ => Kernel13.Gen.frame m ρ, fun m ρ _ => Kernel13Ideal.Gen.frame m ρ, frame_r13,
    fun m ρ _ => Kernel14.Gen.frame m ρ, fun m ρ _ => Kernel14Ideal.Gen.frame m ρ, fun m ρ _ => Kernel14Ideal.Gen.frame m ρ, frame_r14, fun m ρ _ => frame_r14 m ρ trivial,
    fun m ρ _ => Kernel15.Gen.frame m ρ, fun m ρ _ => Kernel15Ideal.Gen.frame m ρ, fun m ρ _ => Kernel15Ideal.Gen.frame m ρ, frame_r15, fun m ρ _ => frame_r15 m ρ trivial,
    fun m ρ _ => Kernel16.Gen.frame m ρ, fun m ρ _ => Kernel16Ideal.Gen.frame m ρ, fun m ρ _ => Kernel16Ideal.Gen.frame m ρ, frame_r16, fun m ρ _ => frame_r16 m ρ trivial,
    fun m ρ _ => Kernel17.Gen.frame m ρ, fun m ρ _ => Kernel17Ideal.Gen.frame m ρ, frame_r17,
    fun m ρ _ => Kernel18.Gen.frame m ρ, fun m ρ _ => Kernel18Ideal.Gen.frame m ρ, frame_r18,
    fun m ρ _ => Kernel19.Gen.frame m ρ, fun m ρ _ => Kernel19Ideal.Gen.frame m ρ, frame_r19,
    fun m ρ _ => Kernel20.Gen.frame m ρ, fun m ρ _ => Kernel20Ideal.Gen.frame m ρ, frame_r20,
    fun m ρ _ => Kernel21.Gen.frame m ρ, fun m ρ _ => Kernel21Ideal.Gen.frame m ρ, frame_r21,
    fun m ρ _ => Kernel22.Gen.frame m ρ, fun m ρ _ => Kernel22Ideal.Gen.frame m ρ, frame_r22,
    fun m ρ _ => Kernel23.Gen.frame m ρ, fun m ρ _ => Kernel23Ideal.Gen.frame m ρ, frame_r23,
    fun m ρ _ => Kernel24.Gen.frame m ρ, fun m ρ _ => Kernel24Ideal.Gen.frame m ρ, frame_r24,
    trivial, value, trivial, value2, trivial, value3, trivial, value4, trivial, value5, trivial, value6, trivial, value7, trivial, value8, trivial, value9, trivial, value10, trivial, value11, trivial, value12, trivial, value13, trivial, value14, trivial, value15, trivial, value16, trivial, value17, trivial, value18, trivial, value19, trivial, value20, trivial, value21, trivial, value22, trivial, value23, trivial, value24⟩

end Cert.Proof

end
